-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def Pre_OutLeft (m : (ℓ : Loc Cert.OutLeft.nD Cert.OutLeft.τ Cert.OutLeft.sig) → Buf (Elt Bits) ℓ) : Prop :=
  True

def Pre_OutLeftIdeal (m : (ℓ : Loc Cert.OutLeftIdeal.nD Cert.OutLeftIdeal.τ Cert.OutLeftIdeal.sig) → Buf (Elt Ideal) ℓ) : Prop :=
  True

def Pre_OutLeftRefIdeal (m : (ℓ : Loc Cert.OutLeftRefIdeal.nD Cert.OutLeftRefIdeal.τ Cert.OutLeftRefIdeal.sig) → Buf (Elt Ideal) ℓ) : Prop :=
  True

def Pre_OutRight (m : (ℓ : Loc Cert.OutRight.nD Cert.OutRight.τ Cert.OutRight.sig) → Buf (Elt Bits) ℓ) : Prop :=
  True

def Pre_OutRightIdeal (m : (ℓ : Loc Cert.OutRightIdeal.nD Cert.OutRightIdeal.τ Cert.OutRightIdeal.sig) → Buf (Elt Ideal) ℓ) : Prop :=
  True

def Pre_OutRightRefIdeal (m : (ℓ : Loc Cert.OutRightRefIdeal.nD Cert.OutRightRefIdeal.τ Cert.OutRightRefIdeal.sig) → Buf (Elt Ideal) ℓ) : Prop :=
  True

def Pre_OddLeft (m : (ℓ : Loc Cert.OddLeft.nD Cert.OddLeft.τ Cert.OddLeft.sig) → Buf (Elt Bits) ℓ) : Prop :=
  True

def Pre_OddLeftIdeal (m : (ℓ : Loc Cert.OddLeftIdeal.nD Cert.OddLeftIdeal.τ Cert.OddLeftIdeal.sig) → Buf (Elt Ideal) ℓ) : Prop :=
  True

def Pre_OddLeftRefIdeal (m : (ℓ : Loc Cert.OddLeftRefIdeal.nD Cert.OddLeftRefIdeal.τ Cert.OddLeftRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddRight (m : (ℓ : Loc Cert.OddRight.nD Cert.OddRight.τ Cert.OddRight.sig) → Buf (Elt Bits) ℓ) : Prop :=
  True

def Pre_OddRightIdeal (m : (ℓ : Loc Cert.OddRightIdeal.nD Cert.OddRightIdeal.τ Cert.OddRightIdeal.sig) → Buf (Elt Ideal) ℓ) : Prop :=
  True

def Pre_OddRightRefIdeal (m : (ℓ : Loc Cert.OddRightRefIdeal.nD Cert.OddRightRefIdeal.τ Cert.OddRightRefIdeal.sig) → Buf (Elt Ideal) ℓ) : Prop :=
  True

def Pre_EvenLeft (m : (ℓ : Loc Cert.EvenLeft.nD Cert.EvenLeft.τ Cert.EvenLeft.sig) → Buf (Elt Bits) ℓ) : Prop :=
  True

def Pre_EvenLeftIdeal (m : (ℓ : Loc Cert.EvenLeftIdeal.nD Cert.EvenLeftIdeal.τ Cert.EvenLeftIdeal.sig) → Buf (Elt Ideal) ℓ) : Prop :=
  True

def Pre_EvenLeftRefIdeal (m : (ℓ : Loc Cert.EvenLeftRefIdeal.nD Cert.EvenLeftRefIdeal.τ Cert.EvenLeftRefIdeal.sig) → Buf (Elt Ideal) ℓ) : Prop :=
  True

def Pre_EvenRight (m : (ℓ : Loc Cert.EvenRight.nD Cert.EvenRight.τ Cert.EvenRight.sig) → Buf (Elt Bits) ℓ) : Prop :=
  True

def Pre_EvenRightIdeal (m : (ℓ : Loc Cert.EvenRightIdeal.nD Cert.EvenRightIdeal.τ Cert.EvenRightIdeal.sig) → Buf (Elt Ideal) ℓ) : Prop :=
  True

def Pre_EvenRightRefIdeal (m : (ℓ : Loc Cert.EvenRightRefIdeal.nD Cert.EvenRightRefIdeal.τ Cert.EvenRightRefIdeal.sig) → Buf (Elt Ideal) ℓ) : Prop :=
  True

def Pre_OutProduct (m : (ℓ : Loc Cert.OutProduct.nD Cert.OutProduct.τ Cert.OutProduct.sig) → Buf (Elt Bits) ℓ) : Prop :=
  True

def Pre_OutProductIdeal (m : (ℓ : Loc Cert.OutProductIdeal.nD Cert.OutProductIdeal.τ Cert.OutProductIdeal.sig) → Buf (Elt Ideal) ℓ) : Prop :=
  True

def Pre_OutProductRefIdeal (m : (ℓ : Loc Cert.OutProductRefIdeal.nD Cert.OutProductRefIdeal.τ Cert.OutProductRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite11 [hPre_finite11 : Cert.Pre_finite11.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite11.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))) = (fun _ => 1#1)

def Pre_ForwardRefIdeal (m : (ℓ : Loc Cert.ForwardRefIdeal.nD Cert.ForwardRefIdeal.τ Cert.ForwardRefIdeal.sig) → Buf (Elt Ideal) ℓ) : Prop :=
  True

def Pre_ForwardRefIdeal_finite11 [hPre_finite11 : Cert.Pre_finite11.Facts] (m : (ℓ : Loc Cert.ForwardRefIdeal.nD Cert.ForwardRefIdeal.τ Cert.ForwardRefIdeal.sig) → Buf (Elt Ideal) ℓ) : Prop :=
  ∀ c : Dev Cert.ForwardRefIdeal.nD,
    (Cert.Pre_finite11.fn (F := Ideal) (m ((c.tc : Thread Cert.ForwardRefIdeal.nD Cert.ForwardRefIdeal.τ).loc Cert.ForwardRefIdeal.main_arg0)) (m ((c.tc : Thread Cert.ForwardRefIdeal.nD Cert.ForwardRefIdeal.τ).loc Cert.ForwardRefIdeal.main_arg1)) (m ((c.tc : Thread Cert.ForwardRefIdeal.nD Cert.ForwardRefIdeal.τ).loc Cert.ForwardRefIdeal.main_arg2))) = (fun _ => 1#1)

def Pre_StepShared (m : (ℓ : Loc Cert.StepShared.nD Cert.StepShared.τ Cert.StepShared.sig) → Buf (Elt Bits) ℓ) : Prop :=
  True

def Pre_StepSharedIdeal (m : (ℓ : Loc Cert.StepSharedIdeal.nD Cert.StepSharedIdeal.τ Cert.StepSharedIdeal.sig) → Buf (Elt Ideal) ℓ) : Prop :=
  True

def Pre_StepSharedRefIdeal (m : (ℓ : Loc Cert.StepSharedRefIdeal.nD Cert.StepSharedRefIdeal.τ Cert.StepSharedRefIdeal.sig) → Buf (Elt Ideal) ℓ) : Prop :=
  True

def Pre_StepAda (m : (ℓ : Loc Cert.StepAda.nD Cert.StepAda.τ Cert.StepAda.sig) → Buf (Elt Bits) ℓ) : Prop :=
  True

def Pre_StepAdaIdeal (m : (ℓ : Loc Cert.StepAdaIdeal.nD Cert.StepAdaIdeal.τ Cert.StepAdaIdeal.sig) → Buf (Elt Ideal) ℓ) : Prop :=
  True

def Pre_StepAdaRefIdeal (m : (ℓ : Loc Cert.StepAdaRefIdeal.nD Cert.StepAdaRefIdeal.τ Cert.StepAdaRefIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallRefIdeal (m : (ℓ : Loc Cert.StepSmallRefIdeal.nD Cert.StepSmallRefIdeal.τ Cert.StepSmallRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepEvenIn (m : (ℓ : Loc Cert.StepEvenIn.nD Cert.StepEvenIn.τ Cert.StepEvenIn.sig) → Buf (Elt Bits) ℓ) : Prop :=
  True

def Pre_StepEvenInIdeal (m : (ℓ : Loc Cert.StepEvenInIdeal.nD Cert.StepEvenInIdeal.τ Cert.StepEvenInIdeal.sig) → Buf (Elt Ideal) ℓ) : Prop :=
  True

def Pre_StepEvenInRefIdeal (m : (ℓ : Loc Cert.StepEvenInRefIdeal.nD Cert.StepEvenInRefIdeal.τ Cert.StepEvenInRefIdeal.sig) → Buf (Elt Ideal) ℓ) : Prop :=
  True

def Pre_StepOddIn (m : (ℓ : Loc Cert.StepOddIn.nD Cert.StepOddIn.τ Cert.StepOddIn.sig) → Buf (Elt Bits) ℓ) : Prop :=
  True

def Pre_StepOddInIdeal (m : (ℓ : Loc Cert.StepOddInIdeal.nD Cert.StepOddInIdeal.τ Cert.StepOddInIdeal.sig) → Buf (Elt Ideal) ℓ) : Prop :=
  True

def Pre_StepOddInRefIdeal (m : (ℓ : Loc Cert.StepOddInRefIdeal.nD Cert.StepOddInRefIdeal.τ Cert.StepOddInRefIdeal.sig) → Buf (Elt Ideal) ℓ) : Prop :=
  True

def Pre_StepQueries (m : (ℓ : Loc Cert.StepQueries.nD Cert.StepQueries.τ Cert.StepQueries.sig) → Buf (Elt Bits) ℓ) : Prop :=
  True

def Pre_StepQueriesIdeal (m : (ℓ : Loc Cert.StepQueriesIdeal.nD Cert.StepQueriesIdeal.τ Cert.StepQueriesIdeal.sig) → Buf (Elt Ideal) ℓ) : Prop :=
  True

def Pre_StepQueriesRefIdeal (m : (ℓ : Loc Cert.StepQueriesRefIdeal.nD Cert.StepQueriesRefIdeal.τ Cert.StepQueriesRefIdeal.sig) → Buf (Elt Ideal) ℓ) : Prop :=
  True

def Pre_StepKeys (m : (ℓ : Loc Cert.StepKeys.nD Cert.StepKeys.τ Cert.StepKeys.sig) → Buf (Elt Bits) ℓ) : Prop :=
  True

def Pre_StepKeysIdeal (m : (ℓ : Loc Cert.StepKeysIdeal.nD Cert.StepKeysIdeal.τ Cert.StepKeysIdeal.sig) → Buf (Elt Ideal) ℓ) : Prop :=
  True

def Pre_StepKeysRefIdeal (m : (ℓ : Loc Cert.StepKeysRefIdeal.nD Cert.StepKeysRefIdeal.τ Cert.StepKeysRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_OutLeft [hOutLeft : Cert.OutLeft.Facts] : Prop :=
  ∀ (m : (ℓ : Loc Cert.OutLeft.nD Cert.OutLeft.τ Cert.OutLeft.sig) → Buf (Elt Bits) ℓ) (g : Dev Cert.OutLeft.nD → PrngReg), Pre_OutLeft m →
    θ_run (Cert.OutLeft.defs (F := Bits)) (onTc (τ := Cert.OutLeft.τ) (Cert.OutLeft.main (F := Bits))) ⟨m, fun _ => 0, g⟩ (fun r => (∀ c : Dev Cert.OutLeft.nD,
      r.2.mem ((c.tc : Thread Cert.OutLeft.nD Cert.OutLeft.τ).loc Cert.OutLeft.main_arg0) = m ((c.tc : Thread Cert.OutLeft.nD Cert.OutLeft.τ).loc Cert.OutLeft.main_arg0)
      ∧ r.2.mem ((c.tc : Thread Cert.OutLeft.nD Cert.OutLeft.τ).loc Cert.OutLeft.main_arg1) = m ((c.tc : Thread Cert.OutLeft.nD Cert.OutLeft.τ).loc Cert.OutLeft.main_arg1))
      ∧ r.2.sem = fun _ => 0)

def quiescent_OutLeftIdeal [hOutLeftIdeal : Cert.OutLeftIdeal.Facts] : Prop :=
  ∀ (m : (ℓ : Loc Cert.OutLeftIdeal.nD Cert.OutLeftIdeal.τ Cert.OutLeftIdeal.sig) → Buf (Elt Ideal) ℓ) (g : Dev Cert.OutLeftIdeal.nD → PrngReg), Pre_OutLeftIdeal m →
    θ_run (Cert.OutLeftIdeal.defs (F := Ideal)) (onTc (τ := Cert.OutLeftIdeal.τ) (Cert.OutLeftIdeal.main (F := Ideal))) ⟨m, fun _ => 0, g⟩ (fun r => (∀ c : Dev Cert.OutLeftIdeal.nD,
      r.2.mem ((c.tc : Thread Cert.OutLeftIdeal.nD Cert.OutLeftIdeal.τ).loc Cert.OutLeftIdeal.main_arg0) = m ((c.tc : Thread Cert.OutLeftIdeal.nD Cert.OutLeftIdeal.τ).loc Cert.OutLeftIdeal.main_arg0)
      ∧ r.2.mem ((c.tc : Thread Cert.OutLeftIdeal.nD Cert.OutLeftIdeal.τ).loc Cert.OutLeftIdeal.main_arg1) = m ((c.tc : Thread Cert.OutLeftIdeal.nD Cert.OutLeftIdeal.τ).loc Cert.OutLeftIdeal.main_arg1))
      ∧ r.2.sem = fun _ => 0)

def quiescent_OutLeftRefIdeal [hOutLeftRefIdeal : Cert.OutLeftRefIdeal.Facts] : Prop :=
  ∀ (m : (ℓ : Loc Cert.OutLeftRefIdeal.nD Cert.OutLeftRefIdeal.τ Cert.OutLeftRefIdeal.sig) → Buf (Elt Ideal) ℓ) (g : Dev Cert.OutLeftRefIdeal.nD → PrngReg), Pre_OutLeftRefIdeal m →
    θ_run (Cert.OutLeftRefIdeal.defs (F := Ideal)) (onTc (τ := Cert.OutLeftRefIdeal.τ) (Cert.OutLeftRefIdeal.main (F := Ideal))) ⟨m, fun _ => 0, g⟩ (fun r => (∀ c : Dev Cert.OutLeftRefIdeal.nD,
      r.2.mem ((c.tc : Thread Cert.OutLeftRefIdeal.nD Cert.OutLeftRefIdeal.τ).loc Cert.OutLeftRefIdeal.main_arg0) = m ((c.tc : Thread Cert.OutLeftRefIdeal.nD Cert.OutLeftRefIdeal.τ).loc Cert.OutLeftRefIdeal.main_arg0)
      ∧ r.2.mem ((c.tc : Thread Cert.OutLeftRefIdeal.nD Cert.OutLeftRefIdeal.τ).loc Cert.OutLeftRefIdeal.main_arg1) = m ((c.tc : Thread Cert.OutLeftRefIdeal.nD Cert.OutLeftRefIdeal.τ).loc Cert.OutLeftRefIdeal.main_arg1))
      ∧ r.2.sem = fun _ => 0)

def quiescent_OutRight [hOutRight : Cert.OutRight.Facts] : Prop :=
  ∀ (m : (ℓ : Loc Cert.OutRight.nD Cert.OutRight.τ Cert.OutRight.sig) → Buf (Elt Bits) ℓ) (g : Dev Cert.OutRight.nD → PrngReg), Pre_OutRight m →
    θ_run (Cert.OutRight.defs (F := Bits)) (onTc (τ := Cert.OutRight.τ) (Cert.OutRight.main (F := Bits))) ⟨m, fun _ => 0, g⟩ (fun r => (∀ c : Dev Cert.OutRight.nD,
      r.2.mem ((c.tc : Thread Cert.OutRight.nD Cert.OutRight.τ).loc Cert.OutRight.main_arg0) = m ((c.tc : Thread Cert.OutRight.nD Cert.OutRight.τ).loc Cert.OutRight.main_arg0)
      ∧ r.2.mem ((c.tc : Thread Cert.OutRight.nD Cert.OutRight.τ).loc Cert.OutRight.main_arg1) = m ((c.tc : Thread Cert.OutRight.nD Cert.OutRight.τ).loc Cert.OutRight.main_arg1))
      ∧ r.2.sem = fun _ => 0)

def quiescent_OutRightIdeal [hOutRightIdeal : Cert.OutRightIdeal.Facts] : Prop :=
  ∀ (m : (ℓ : Loc Cert.OutRightIdeal.nD Cert.OutRightIdeal.τ Cert.OutRightIdeal.sig) → Buf (Elt Ideal) ℓ) (g : Dev Cert.OutRightIdeal.nD → PrngReg), Pre_OutRightIdeal m →
    θ_run (Cert.OutRightIdeal.defs (F := Ideal)) (onTc (τ := Cert.OutRightIdeal.τ) (Cert.OutRightIdeal.main (F := Ideal))) ⟨m, fun _ => 0, g⟩ (fun r => (∀ c : Dev Cert.OutRightIdeal.nD,
      r.2.mem ((c.tc : Thread Cert.OutRightIdeal.nD Cert.OutRightIdeal.τ).loc Cert.OutRightIdeal.main_arg0) = m ((c.tc : Thread Cert.OutRightIdeal.nD Cert.OutRightIdeal.τ).loc Cert.OutRightIdeal.main_arg0)
      ∧ r.2.mem ((c.tc : Thread Cert.OutRightIdeal.nD Cert.OutRightIdeal.τ).loc Cert.OutRightIdeal.main_arg1) = m ((c.tc : Thread Cert.OutRightIdeal.nD Cert.OutRightIdeal.τ).loc Cert.OutRightIdeal.main_arg1))
      ∧ r.2.sem = fun _ => 0)

def quiescent_OutRightRefIdeal [hOutRightRefIdeal : Cert.OutRightRefIdeal.Facts] : Prop :=
  ∀ (m : (ℓ : Loc Cert.OutRightRefIdeal.nD Cert.OutRightRefIdeal.τ Cert.OutRightRefIdeal.sig) → Buf (Elt Ideal) ℓ) (g : Dev Cert.OutRightRefIdeal.nD → PrngReg), Pre_OutRightRefIdeal m →
    θ_run (Cert.OutRightRefIdeal.defs (F := Ideal)) (onTc (τ := Cert.OutRightRefIdeal.τ) (Cert.OutRightRefIdeal.main (F := Ideal))) ⟨m, fun _ => 0, g⟩ (fun r => (∀ c : Dev Cert.OutRightRefIdeal.nD,
      r.2.mem ((c.tc : Thread Cert.OutRightRefIdeal.nD Cert.OutRightRefIdeal.τ).loc Cert.OutRightRefIdeal.main_arg0) = m ((c.tc : Thread Cert.OutRightRefIdeal.nD Cert.OutRightRefIdeal.τ).loc Cert.OutRightRefIdeal.main_arg0)
      ∧ r.2.mem ((c.tc : Thread Cert.OutRightRefIdeal.nD Cert.OutRightRefIdeal.τ).loc Cert.OutRightRefIdeal.main_arg1) = m ((c.tc : Thread Cert.OutRightRefIdeal.nD Cert.OutRightRefIdeal.τ).loc Cert.OutRightRefIdeal.main_arg1))
      ∧ r.2.sem = fun _ => 0)

def quiescent_OddLeft [hOddLeft : Cert.OddLeft.Facts] : Prop :=
  ∀ (m : (ℓ : Loc Cert.OddLeft.nD Cert.OddLeft.τ Cert.OddLeft.sig) → Buf (Elt Bits) ℓ) (g : Dev Cert.OddLeft.nD → PrngReg), Pre_OddLeft m →
    θ_run (Cert.OddLeft.defs (F := Bits)) (onTc (τ := Cert.OddLeft.τ) (Cert.OddLeft.main (F := Bits))) ⟨m, fun _ => 0, g⟩ (fun r => (∀ c : Dev Cert.OddLeft.nD,
      r.2.mem ((c.tc : Thread Cert.OddLeft.nD Cert.OddLeft.τ).loc Cert.OddLeft.main_arg0) = m ((c.tc : Thread Cert.OddLeft.nD Cert.OddLeft.τ).loc Cert.OddLeft.main_arg0)
      ∧ r.2.mem ((c.tc : Thread Cert.OddLeft.nD Cert.OddLeft.τ).loc Cert.OddLeft.main_arg1) = m ((c.tc : Thread Cert.OddLeft.nD Cert.OddLeft.τ).loc Cert.OddLeft.main_arg1))
      ∧ r.2.sem = fun _ => 0)

def quiescent_OddLeftIdeal [hOddLeftIdeal : Cert.OddLeftIdeal.Facts] : Prop :=
  ∀ (m : (ℓ : Loc Cert.OddLeftIdeal.nD Cert.OddLeftIdeal.τ Cert.OddLeftIdeal.sig) → Buf (Elt Ideal) ℓ) (g : Dev Cert.OddLeftIdeal.nD → PrngReg), Pre_OddLeftIdeal m →
    θ_run (Cert.OddLeftIdeal.defs (F := Ideal)) (onTc (τ := Cert.OddLeftIdeal.τ) (Cert.OddLeftIdeal.main (F := Ideal))) ⟨m, fun _ => 0, g⟩ (fun r => (∀ c : Dev Cert.OddLeftIdeal.nD,
      r.2.mem ((c.tc : Thread Cert.OddLeftIdeal.nD Cert.OddLeftIdeal.τ).loc Cert.OddLeftIdeal.main_arg0) = m ((c.tc : Thread Cert.OddLeftIdeal.nD Cert.OddLeftIdeal.τ).loc Cert.OddLeftIdeal.main_arg0)
      ∧ r.2.mem ((c.tc : Thread Cert.OddLeftIdeal.nD Cert.OddLeftIdeal.τ).loc Cert.OddLeftIdeal.main_arg1) = m ((c.tc : Thread Cert.OddLeftIdeal.nD Cert.OddLeftIdeal.τ).loc Cert.OddLeftIdeal.main_arg1))
      ∧ r.2.sem = fun _ => 0)

def quiescent_OddLeftRefIdeal [hOddLeftRefIdeal : Cert.OddLeftRefIdeal.Facts] : Prop :=
  ∀ (m : (ℓ : Loc Cert.OddLeftRefIdeal.nD Cert.OddLeftRefIdeal.τ Cert.OddLeftRefIdeal.sig) → Buf (Elt Ideal) ℓ) (g : Dev Cert.OddLeftRefIdeal.nD → PrngReg), Pre_OddLeftRefIdeal m →
    θ_run (Cert.OddLeftRefIdeal.defs (F := Ideal)) (onTc (τ := Cert.OddLeftRefIdeal.τ) (Cert.OddLeftRefIdeal.main (F := Ideal))) ⟨m, fun _ => 0, g⟩ (fun r => (∀ c : Dev Cert.OddLeftRefIdeal.nD,
      r.2.mem ((c.tc : Thread Cert.OddLeftRefIdeal.nD Cert.OddLeftRefIdeal.τ).loc Cert.OddLeftRefIdeal.main_arg0) = m ((c.tc : Thread Cert.OddLeftRefIdeal.nD Cert.OddLeftRefIdeal.τ).loc Cert.OddLeftRefIdeal.main_arg0)
      ∧ r.2.mem ((c.tc : Thread Cert.OddLeftRefIdeal.nD Cert.OddLeftRefIdeal.τ).loc Cert.OddLeftRefIdeal.main_arg1) = m ((c.tc : Thread Cert.OddLeftRefIdeal.nD Cert.OddLeftRefIdeal.τ).loc Cert.OddLeftRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OddRight [hOddRight : Cert.OddRight.Facts] : Prop :=
  ∀ (m : (ℓ : Loc Cert.OddRight.nD Cert.OddRight.τ Cert.OddRight.sig) → Buf (Elt Bits) ℓ) (g : Dev Cert.OddRight.nD → PrngReg), Pre_OddRight m →
    θ_run (Cert.OddRight.defs (F := Bits)) (onTc (τ := Cert.OddRight.τ) (Cert.OddRight.main (F := Bits))) ⟨m, fun _ => 0, g⟩ (fun r => (∀ c : Dev Cert.OddRight.nD,
      r.2.mem ((c.tc : Thread Cert.OddRight.nD Cert.OddRight.τ).loc Cert.OddRight.main_arg0) = m ((c.tc : Thread Cert.OddRight.nD Cert.OddRight.τ).loc Cert.OddRight.main_arg0)
      ∧ r.2.mem ((c.tc : Thread Cert.OddRight.nD Cert.OddRight.τ).loc Cert.OddRight.main_arg1) = m ((c.tc : Thread Cert.OddRight.nD Cert.OddRight.τ).loc Cert.OddRight.main_arg1))
      ∧ r.2.sem = fun _ => 0)

def quiescent_OddRightIdeal [hOddRightIdeal : Cert.OddRightIdeal.Facts] : Prop :=
  ∀ (m : (ℓ : Loc Cert.OddRightIdeal.nD Cert.OddRightIdeal.τ Cert.OddRightIdeal.sig) → Buf (Elt Ideal) ℓ) (g : Dev Cert.OddRightIdeal.nD → PrngReg), Pre_OddRightIdeal m →
    θ_run (Cert.OddRightIdeal.defs (F := Ideal)) (onTc (τ := Cert.OddRightIdeal.τ) (Cert.OddRightIdeal.main (F := Ideal))) ⟨m, fun _ => 0, g⟩ (fun r => (∀ c : Dev Cert.OddRightIdeal.nD,
      r.2.mem ((c.tc : Thread Cert.OddRightIdeal.nD Cert.OddRightIdeal.τ).loc Cert.OddRightIdeal.main_arg0) = m ((c.tc : Thread Cert.OddRightIdeal.nD Cert.OddRightIdeal.τ).loc Cert.OddRightIdeal.main_arg0)
      ∧ r.2.mem ((c.tc : Thread Cert.OddRightIdeal.nD Cert.OddRightIdeal.τ).loc Cert.OddRightIdeal.main_arg1) = m ((c.tc : Thread Cert.OddRightIdeal.nD Cert.OddRightIdeal.τ).loc Cert.OddRightIdeal.main_arg1))
      ∧ r.2.sem = fun _ => 0)

def quiescent_OddRightRefIdeal [hOddRightRefIdeal : Cert.OddRightRefIdeal.Facts] : Prop :=
  ∀ (m : (ℓ : Loc Cert.OddRightRefIdeal.nD Cert.OddRightRefIdeal.τ Cert.OddRightRefIdeal.sig) → Buf (Elt Ideal) ℓ) (g : Dev Cert.OddRightRefIdeal.nD → PrngReg), Pre_OddRightRefIdeal m →
    θ_run (Cert.OddRightRefIdeal.defs (F := Ideal)) (onTc (τ := Cert.OddRightRefIdeal.τ) (Cert.OddRightRefIdeal.main (F := Ideal))) ⟨m, fun _ => 0, g⟩ (fun r => (∀ c : Dev Cert.OddRightRefIdeal.nD,
      r.2.mem ((c.tc : Thread Cert.OddRightRefIdeal.nD Cert.OddRightRefIdeal.τ).loc Cert.OddRightRefIdeal.main_arg0) = m ((c.tc : Thread Cert.OddRightRefIdeal.nD Cert.OddRightRefIdeal.τ).loc Cert.OddRightRefIdeal.main_arg0)
      ∧ r.2.mem ((c.tc : Thread Cert.OddRightRefIdeal.nD Cert.OddRightRefIdeal.τ).loc Cert.OddRightRefIdeal.main_arg1) = m ((c.tc : Thread Cert.OddRightRefIdeal.nD Cert.OddRightRefIdeal.τ).loc Cert.OddRightRefIdeal.main_arg1))
      ∧ r.2.sem = fun _ => 0)

def quiescent_EvenLeft [hEvenLeft : Cert.EvenLeft.Facts] : Prop :=
  ∀ (m : (ℓ : Loc Cert.EvenLeft.nD Cert.EvenLeft.τ Cert.EvenLeft.sig) → Buf (Elt Bits) ℓ) (g : Dev Cert.EvenLeft.nD → PrngReg), Pre_EvenLeft m →
    θ_run (Cert.EvenLeft.defs (F := Bits)) (onTc (τ := Cert.EvenLeft.τ) (Cert.EvenLeft.main (F := Bits))) ⟨m, fun _ => 0, g⟩ (fun r => (∀ c : Dev Cert.EvenLeft.nD,
      r.2.mem ((c.tc : Thread Cert.EvenLeft.nD Cert.EvenLeft.τ).loc Cert.EvenLeft.main_arg0) = m ((c.tc : Thread Cert.EvenLeft.nD Cert.EvenLeft.τ).loc Cert.EvenLeft.main_arg0)
      ∧ r.2.mem ((c.tc : Thread Cert.EvenLeft.nD Cert.EvenLeft.τ).loc Cert.EvenLeft.main_arg1) = m ((c.tc : Thread Cert.EvenLeft.nD Cert.EvenLeft.τ).loc Cert.EvenLeft.main_arg1))
      ∧ r.2.sem = fun _ => 0)

def quiescent_EvenLeftIdeal [hEvenLeftIdeal : Cert.EvenLeftIdeal.Facts] : Prop :=
  ∀ (m : (ℓ : Loc Cert.EvenLeftIdeal.nD Cert.EvenLeftIdeal.τ Cert.EvenLeftIdeal.sig) → Buf (Elt Ideal) ℓ) (g : Dev Cert.EvenLeftIdeal.nD → PrngReg), Pre_EvenLeftIdeal m →
    θ_run (Cert.EvenLeftIdeal.defs (F := Ideal)) (onTc (τ := Cert.EvenLeftIdeal.τ) (Cert.EvenLeftIdeal.main (F := Ideal))) ⟨m, fun _ => 0, g⟩ (fun r => (∀ c : Dev Cert.EvenLeftIdeal.nD,
      r.2.mem ((c.tc : Thread Cert.EvenLeftIdeal.nD Cert.EvenLeftIdeal.τ).loc Cert.EvenLeftIdeal.main_arg0) = m ((c.tc : Thread Cert.EvenLeftIdeal.nD Cert.EvenLeftIdeal.τ).loc Cert.EvenLeftIdeal.main_arg0)
      ∧ r.2.mem ((c.tc : Thread Cert.EvenLeftIdeal.nD Cert.EvenLeftIdeal.τ).loc Cert.EvenLeftIdeal.main_arg1) = m ((c.tc : Thread Cert.EvenLeftIdeal.nD Cert.EvenLeftIdeal.τ).loc Cert.EvenLeftIdeal.main_arg1))
      ∧ r.2.sem = fun _ => 0)

def quiescent_EvenLeftRefIdeal [hEvenLeftRefIdeal : Cert.EvenLeftRefIdeal.Facts] : Prop :=
  ∀ (m : (ℓ : Loc Cert.EvenLeftRefIdeal.nD Cert.EvenLeftRefIdeal.τ Cert.EvenLeftRefIdeal.sig) → Buf (Elt Ideal) ℓ) (g : Dev Cert.EvenLeftRefIdeal.nD → PrngReg), Pre_EvenLeftRefIdeal m →
    θ_run (Cert.EvenLeftRefIdeal.defs (F := Ideal)) (onTc (τ := Cert.EvenLeftRefIdeal.τ) (Cert.EvenLeftRefIdeal.main (F := Ideal))) ⟨m, fun _ => 0, g⟩ (fun r => (∀ c : Dev Cert.EvenLeftRefIdeal.nD,
      r.2.mem ((c.tc : Thread Cert.EvenLeftRefIdeal.nD Cert.EvenLeftRefIdeal.τ).loc Cert.EvenLeftRefIdeal.main_arg0) = m ((c.tc : Thread Cert.EvenLeftRefIdeal.nD Cert.EvenLeftRefIdeal.τ).loc Cert.EvenLeftRefIdeal.main_arg0)
      ∧ r.2.mem ((c.tc : Thread Cert.EvenLeftRefIdeal.nD Cert.EvenLeftRefIdeal.τ).loc Cert.EvenLeftRefIdeal.main_arg1) = m ((c.tc : Thread Cert.EvenLeftRefIdeal.nD Cert.EvenLeftRefIdeal.τ).loc Cert.EvenLeftRefIdeal.main_arg1))
      ∧ r.2.sem = fun _ => 0)

def quiescent_EvenRight [hEvenRight : Cert.EvenRight.Facts] : Prop :=
  ∀ (m : (ℓ : Loc Cert.EvenRight.nD Cert.EvenRight.τ Cert.EvenRight.sig) → Buf (Elt Bits) ℓ) (g : Dev Cert.EvenRight.nD → PrngReg), Pre_EvenRight m →
    θ_run (Cert.EvenRight.defs (F := Bits)) (onTc (τ := Cert.EvenRight.τ) (Cert.EvenRight.main (F := Bits))) ⟨m, fun _ => 0, g⟩ (fun r => (∀ c : Dev Cert.EvenRight.nD,
      r.2.mem ((c.tc : Thread Cert.EvenRight.nD Cert.EvenRight.τ).loc Cert.EvenRight.main_arg0) = m ((c.tc : Thread Cert.EvenRight.nD Cert.EvenRight.τ).loc Cert.EvenRight.main_arg0)
      ∧ r.2.mem ((c.tc : Thread Cert.EvenRight.nD Cert.EvenRight.τ).loc Cert.EvenRight.main_arg1) = m ((c.tc : Thread Cert.EvenRight.nD Cert.EvenRight.τ).loc Cert.EvenRight.main_arg1))
      ∧ r.2.sem = fun _ => 0)

def quiescent_EvenRightIdeal [hEvenRightIdeal : Cert.EvenRightIdeal.Facts] : Prop :=
  ∀ (m : (ℓ : Loc Cert.EvenRightIdeal.nD Cert.EvenRightIdeal.τ Cert.EvenRightIdeal.sig) → Buf (Elt Ideal) ℓ) (g : Dev Cert.EvenRightIdeal.nD → PrngReg), Pre_EvenRightIdeal m →
    θ_run (Cert.EvenRightIdeal.defs (F := Ideal)) (onTc (τ := Cert.EvenRightIdeal.τ) (Cert.EvenRightIdeal.main (F := Ideal))) ⟨m, fun _ => 0, g⟩ (fun r => (∀ c : Dev Cert.EvenRightIdeal.nD,
      r.2.mem ((c.tc : Thread Cert.EvenRightIdeal.nD Cert.EvenRightIdeal.τ).loc Cert.EvenRightIdeal.main_arg0) = m ((c.tc : Thread Cert.EvenRightIdeal.nD Cert.EvenRightIdeal.τ).loc Cert.EvenRightIdeal.main_arg0)
      ∧ r.2.mem ((c.tc : Thread Cert.EvenRightIdeal.nD Cert.EvenRightIdeal.τ).loc Cert.EvenRightIdeal.main_arg1) = m ((c.tc : Thread Cert.EvenRightIdeal.nD Cert.EvenRightIdeal.τ).loc Cert.EvenRightIdeal.main_arg1))
      ∧ r.2.sem = fun _ => 0)

def quiescent_EvenRightRefIdeal [hEvenRightRefIdeal : Cert.EvenRightRefIdeal.Facts] : Prop :=
  ∀ (m : (ℓ : Loc Cert.EvenRightRefIdeal.nD Cert.EvenRightRefIdeal.τ Cert.EvenRightRefIdeal.sig) → Buf (Elt Ideal) ℓ) (g : Dev Cert.EvenRightRefIdeal.nD → PrngReg), Pre_EvenRightRefIdeal m →
    θ_run (Cert.EvenRightRefIdeal.defs (F := Ideal)) (onTc (τ := Cert.EvenRightRefIdeal.τ) (Cert.EvenRightRefIdeal.main (F := Ideal))) ⟨m, fun _ => 0, g⟩ (fun r => (∀ c : Dev Cert.EvenRightRefIdeal.nD,
      r.2.mem ((c.tc : Thread Cert.EvenRightRefIdeal.nD Cert.EvenRightRefIdeal.τ).loc Cert.EvenRightRefIdeal.main_arg0) = m ((c.tc : Thread Cert.EvenRightRefIdeal.nD Cert.EvenRightRefIdeal.τ).loc Cert.EvenRightRefIdeal.main_arg0)
      ∧ r.2.mem ((c.tc : Thread Cert.EvenRightRefIdeal.nD Cert.EvenRightRefIdeal.τ).loc Cert.EvenRightRefIdeal.main_arg1) = m ((c.tc : Thread Cert.EvenRightRefIdeal.nD Cert.EvenRightRefIdeal.τ).loc Cert.EvenRightRefIdeal.main_arg1))
      ∧ r.2.sem = fun _ => 0)

def quiescent_OutProduct [hOutProduct : Cert.OutProduct.Facts] : Prop :=
  ∀ (m : (ℓ : Loc Cert.OutProduct.nD Cert.OutProduct.τ Cert.OutProduct.sig) → Buf (Elt Bits) ℓ) (g : Dev Cert.OutProduct.nD → PrngReg), Pre_OutProduct m →
    θ_run (Cert.OutProduct.defs (F := Bits)) (onTc (τ := Cert.OutProduct.τ) (Cert.OutProduct.main (F := Bits))) ⟨m, fun _ => 0, g⟩ (fun r => (∀ c : Dev Cert.OutProduct.nD,
      r.2.mem ((c.tc : Thread Cert.OutProduct.nD Cert.OutProduct.τ).loc Cert.OutProduct.main_arg0) = m ((c.tc : Thread Cert.OutProduct.nD Cert.OutProduct.τ).loc Cert.OutProduct.main_arg0)
      ∧ r.2.mem ((c.tc : Thread Cert.OutProduct.nD Cert.OutProduct.τ).loc Cert.OutProduct.main_arg1) = m ((c.tc : Thread Cert.OutProduct.nD Cert.OutProduct.τ).loc Cert.OutProduct.main_arg1))
      ∧ r.2.sem = fun _ => 0)

def quiescent_OutProductIdeal [hOutProductIdeal : Cert.OutProductIdeal.Facts] : Prop :=
  ∀ (m : (ℓ : Loc Cert.OutProductIdeal.nD Cert.OutProductIdeal.τ Cert.OutProductIdeal.sig) → Buf (Elt Ideal) ℓ) (g : Dev Cert.OutProductIdeal.nD → PrngReg), Pre_OutProductIdeal m →
    θ_run (Cert.OutProductIdeal.defs (F := Ideal)) (onTc (τ := Cert.OutProductIdeal.τ) (Cert.OutProductIdeal.main (F := Ideal))) ⟨m, fun _ => 0, g⟩ (fun r => (∀ c : Dev Cert.OutProductIdeal.nD,
      r.2.mem ((c.tc : Thread Cert.OutProductIdeal.nD Cert.OutProductIdeal.τ).loc Cert.OutProductIdeal.main_arg0) = m ((c.tc : Thread Cert.OutProductIdeal.nD Cert.OutProductIdeal.τ).loc Cert.OutProductIdeal.main_arg0)
      ∧ r.2.mem ((c.tc : Thread Cert.OutProductIdeal.nD Cert.OutProductIdeal.τ).loc Cert.OutProductIdeal.main_arg1) = m ((c.tc : Thread Cert.OutProductIdeal.nD Cert.OutProductIdeal.τ).loc Cert.OutProductIdeal.main_arg1))
      ∧ r.2.sem = fun _ => 0)

def quiescent_OutProductRefIdeal [hOutProductRefIdeal : Cert.OutProductRefIdeal.Facts] : Prop :=
  ∀ (m : (ℓ : Loc Cert.OutProductRefIdeal.nD Cert.OutProductRefIdeal.τ Cert.OutProductRefIdeal.sig) → Buf (Elt Ideal) ℓ) (g : Dev Cert.OutProductRefIdeal.nD → PrngReg), Pre_OutProductRefIdeal m →
    θ_run (Cert.OutProductRefIdeal.defs (F := Ideal)) (onTc (τ := Cert.OutProductRefIdeal.τ) (Cert.OutProductRefIdeal.main (F := Ideal))) ⟨m, fun _ => 0, g⟩ (fun r => (∀ c : Dev Cert.OutProductRefIdeal.nD,
      r.2.mem ((c.tc : Thread Cert.OutProductRefIdeal.nD Cert.OutProductRefIdeal.τ).loc Cert.OutProductRefIdeal.main_arg0) = m ((c.tc : Thread Cert.OutProductRefIdeal.nD Cert.OutProductRefIdeal.τ).loc Cert.OutProductRefIdeal.main_arg0)
      ∧ r.2.mem ((c.tc : Thread Cert.OutProductRefIdeal.nD Cert.OutProductRefIdeal.τ).loc Cert.OutProductRefIdeal.main_arg1) = m ((c.tc : Thread Cert.OutProductRefIdeal.nD Cert.OutProductRefIdeal.τ).loc Cert.OutProductRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardIdeal_pre_finite11 [hForwardIdeal : Cert.ForwardIdeal.Facts] [hPre_finite11 : Cert.Pre_finite11.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite11 m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2))
      ∧ r.2.sem = fun _ => 0)

def quiescent_ForwardRefIdeal_pre_finite11 [hForwardRefIdeal : Cert.ForwardRefIdeal.Facts] [hPre_finite11 : Cert.Pre_finite11.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal_finite11 m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2))
      ∧ r.2.sem = fun _ => 0)

def quiescent_StepShared [hStepShared : Cert.StepShared.Facts] : Prop :=
  ∀ (m : (ℓ : Loc Cert.StepShared.nD Cert.StepShared.τ Cert.StepShared.sig) → Buf (Elt Bits) ℓ) (g : Dev Cert.StepShared.nD → PrngReg), Pre_StepShared m →
    θ_run (Cert.StepShared.defs (F := Bits)) (onTc (τ := Cert.StepShared.τ) (Cert.StepShared.main (F := Bits))) ⟨m, fun _ => 0, g⟩ (fun r => (∀ c : Dev Cert.StepShared.nD,
      r.2.mem ((c.tc : Thread Cert.StepShared.nD Cert.StepShared.τ).loc Cert.StepShared.main_arg0) = m ((c.tc : Thread Cert.StepShared.nD Cert.StepShared.τ).loc Cert.StepShared.main_arg0)
      ∧ r.2.mem ((c.tc : Thread Cert.StepShared.nD Cert.StepShared.τ).loc Cert.StepShared.main_arg1) = m ((c.tc : Thread Cert.StepShared.nD Cert.StepShared.τ).loc Cert.StepShared.main_arg1)
      ∧ r.2.mem ((c.tc : Thread Cert.StepShared.nD Cert.StepShared.τ).loc Cert.StepShared.main_arg2) = m ((c.tc : Thread Cert.StepShared.nD Cert.StepShared.τ).loc Cert.StepShared.main_arg2)
      ∧ r.2.mem ((c.tc : Thread Cert.StepShared.nD Cert.StepShared.τ).loc Cert.StepShared.main_arg3) = m ((c.tc : Thread Cert.StepShared.nD Cert.StepShared.τ).loc Cert.StepShared.main_arg3))
      ∧ r.2.sem = fun _ => 0)

def quiescent_StepSharedIdeal [hStepSharedIdeal : Cert.StepSharedIdeal.Facts] : Prop :=
  ∀ (m : (ℓ : Loc Cert.StepSharedIdeal.nD Cert.StepSharedIdeal.τ Cert.StepSharedIdeal.sig) → Buf (Elt Ideal) ℓ) (g : Dev Cert.StepSharedIdeal.nD → PrngReg), Pre_StepSharedIdeal m →
    θ_run (Cert.StepSharedIdeal.defs (F := Ideal)) (onTc (τ := Cert.StepSharedIdeal.τ) (Cert.StepSharedIdeal.main (F := Ideal))) ⟨m, fun _ => 0, g⟩ (fun r => (∀ c : Dev Cert.StepSharedIdeal.nD,
      r.2.mem ((c.tc : Thread Cert.StepSharedIdeal.nD Cert.StepSharedIdeal.τ).loc Cert.StepSharedIdeal.main_arg0) = m ((c.tc : Thread Cert.StepSharedIdeal.nD Cert.StepSharedIdeal.τ).loc Cert.StepSharedIdeal.main_arg0)
      ∧ r.2.mem ((c.tc : Thread Cert.StepSharedIdeal.nD Cert.StepSharedIdeal.τ).loc Cert.StepSharedIdeal.main_arg1) = m ((c.tc : Thread Cert.StepSharedIdeal.nD Cert.StepSharedIdeal.τ).loc Cert.StepSharedIdeal.main_arg1)
      ∧ r.2.mem ((c.tc : Thread Cert.StepSharedIdeal.nD Cert.StepSharedIdeal.τ).loc Cert.StepSharedIdeal.main_arg2) = m ((c.tc : Thread Cert.StepSharedIdeal.nD Cert.StepSharedIdeal.τ).loc Cert.StepSharedIdeal.main_arg2)
      ∧ r.2.mem ((c.tc : Thread Cert.StepSharedIdeal.nD Cert.StepSharedIdeal.τ).loc Cert.StepSharedIdeal.main_arg3) = m ((c.tc : Thread Cert.StepSharedIdeal.nD Cert.StepSharedIdeal.τ).loc Cert.StepSharedIdeal.main_arg3))
      ∧ r.2.sem = fun _ => 0)

def quiescent_StepSharedRefIdeal [hStepSharedRefIdeal : Cert.StepSharedRefIdeal.Facts] : Prop :=
  ∀ (m : (ℓ : Loc Cert.StepSharedRefIdeal.nD Cert.StepSharedRefIdeal.τ Cert.StepSharedRefIdeal.sig) → Buf (Elt Ideal) ℓ) (g : Dev Cert.StepSharedRefIdeal.nD → PrngReg), Pre_StepSharedRefIdeal m →
    θ_run (Cert.StepSharedRefIdeal.defs (F := Ideal)) (onTc (τ := Cert.StepSharedRefIdeal.τ) (Cert.StepSharedRefIdeal.main (F := Ideal))) ⟨m, fun _ => 0, g⟩ (fun r => (∀ c : Dev Cert.StepSharedRefIdeal.nD,
      r.2.mem ((c.tc : Thread Cert.StepSharedRefIdeal.nD Cert.StepSharedRefIdeal.τ).loc Cert.StepSharedRefIdeal.main_arg0) = m ((c.tc : Thread Cert.StepSharedRefIdeal.nD Cert.StepSharedRefIdeal.τ).loc Cert.StepSharedRefIdeal.main_arg0)
      ∧ r.2.mem ((c.tc : Thread Cert.StepSharedRefIdeal.nD Cert.StepSharedRefIdeal.τ).loc Cert.StepSharedRefIdeal.main_arg1) = m ((c.tc : Thread Cert.StepSharedRefIdeal.nD Cert.StepSharedRefIdeal.τ).loc Cert.StepSharedRefIdeal.main_arg1)
      ∧ r.2.mem ((c.tc : Thread Cert.StepSharedRefIdeal.nD Cert.StepSharedRefIdeal.τ).loc Cert.StepSharedRefIdeal.main_arg2) = m ((c.tc : Thread Cert.StepSharedRefIdeal.nD Cert.StepSharedRefIdeal.τ).loc Cert.StepSharedRefIdeal.main_arg2)
      ∧ r.2.mem ((c.tc : Thread Cert.StepSharedRefIdeal.nD Cert.StepSharedRefIdeal.τ).loc Cert.StepSharedRefIdeal.main_arg3) = m ((c.tc : Thread Cert.StepSharedRefIdeal.nD Cert.StepSharedRefIdeal.τ).loc Cert.StepSharedRefIdeal.main_arg3))
      ∧ r.2.sem = fun _ => 0)

def quiescent_StepAda [hStepAda : Cert.StepAda.Facts] : Prop :=
  ∀ (m : (ℓ : Loc Cert.StepAda.nD Cert.StepAda.τ Cert.StepAda.sig) → Buf (Elt Bits) ℓ) (g : Dev Cert.StepAda.nD → PrngReg), Pre_StepAda m →
    θ_run (Cert.StepAda.defs (F := Bits)) (onTc (τ := Cert.StepAda.τ) (Cert.StepAda.main (F := Bits))) ⟨m, fun _ => 0, g⟩ (fun r => (∀ c : Dev Cert.StepAda.nD,
      r.2.mem ((c.tc : Thread Cert.StepAda.nD Cert.StepAda.τ).loc Cert.StepAda.main_arg0) = m ((c.tc : Thread Cert.StepAda.nD Cert.StepAda.τ).loc Cert.StepAda.main_arg0)
      ∧ r.2.mem ((c.tc : Thread Cert.StepAda.nD Cert.StepAda.τ).loc Cert.StepAda.main_arg1) = m ((c.tc : Thread Cert.StepAda.nD Cert.StepAda.τ).loc Cert.StepAda.main_arg1)
      ∧ r.2.mem ((c.tc : Thread Cert.StepAda.nD Cert.StepAda.τ).loc Cert.StepAda.main_arg2) = m ((c.tc : Thread Cert.StepAda.nD Cert.StepAda.τ).loc Cert.StepAda.main_arg2)
      ∧ r.2.mem ((c.tc : Thread Cert.StepAda.nD Cert.StepAda.τ).loc Cert.StepAda.main_arg3) = m ((c.tc : Thread Cert.StepAda.nD Cert.StepAda.τ).loc Cert.StepAda.main_arg3))
      ∧ r.2.sem = fun _ => 0)

def quiescent_StepAdaIdeal [hStepAdaIdeal : Cert.StepAdaIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg), Pre_StepAdaIdeal m →
    θ_run (Cert.StepAdaIdeal.defs (F := Ideal)) (onTc (τ := Cert.StepAdaIdeal.τ) (Cert.StepAdaIdeal.main (F := Ideal))) ⟨m, fun _ => 0, g⟩ (fun r => (∀ c : Dev Cert.StepAdaIdeal.nD,
      r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
      ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
      ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
      ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ r.2.sem = fun _ => 0)

def quiescent_StepAdaRefIdeal [hStepAdaRefIdeal : Cert.StepAdaRefIdeal.Facts] : Prop :=
  ∀ (m : (ℓ : Loc Cert.StepAdaRefIdeal.nD Cert.StepAdaRefIdeal.τ Cert.StepAdaRefIdeal.sig) → Buf (Elt Ideal) ℓ) (g : Dev Cert.StepAdaRefIdeal.nD → PrngReg), Pre_StepAdaRefIdeal m →
    θ_run (Cert.StepAdaRefIdeal.defs (F := Ideal)) (onTc (τ := Cert.StepAdaRefIdeal.τ) (Cert.StepAdaRefIdeal.main (F := Ideal))) ⟨m, fun _ => 0, g⟩ (fun r => (∀ c : Dev Cert.StepAdaRefIdeal.nD,
      r.2.mem ((c.tc : Thread Cert.StepAdaRefIdeal.nD Cert.StepAdaRefIdeal.τ).loc Cert.StepAdaRefIdeal.main_arg0) = m ((c.tc : Thread Cert.StepAdaRefIdeal.nD Cert.StepAdaRefIdeal.τ).loc Cert.StepAdaRefIdeal.main_arg0)
      ∧ r.2.mem ((c.tc : Thread Cert.StepAdaRefIdeal.nD Cert.StepAdaRefIdeal.τ).loc Cert.StepAdaRefIdeal.main_arg1) = m ((c.tc : Thread Cert.StepAdaRefIdeal.nD Cert.StepAdaRefIdeal.τ).loc Cert.StepAdaRefIdeal.main_arg1)
      ∧ r.2.mem ((c.tc : Thread Cert.StepAdaRefIdeal.nD Cert.StepAdaRefIdeal.τ).loc Cert.StepAdaRefIdeal.main_arg2) = m ((c.tc : Thread Cert.StepAdaRefIdeal.nD Cert.StepAdaRefIdeal.τ).loc Cert.StepAdaRefIdeal.main_arg2)
      ∧ r.2.mem ((c.tc : Thread Cert.StepAdaRefIdeal.nD Cert.StepAdaRefIdeal.τ).loc Cert.StepAdaRefIdeal.main_arg3) = m ((c.tc : Thread Cert.StepAdaRefIdeal.nD Cert.StepAdaRefIdeal.τ).loc Cert.StepAdaRefIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3)
      ∧ r.2.mem ((c.tc : Thread Cert.StepSmall.nD Cert.StepSmall.τ).loc Cert.StepSmall.main_arg4) = m ((c.tc : Thread Cert.StepSmall.nD Cert.StepSmall.τ).loc Cert.StepSmall.main_arg4))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
      ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4))
      ∧ r.2.sem = fun _ => 0)

def quiescent_StepSmallRefIdeal [hStepSmallRefIdeal : Cert.StepSmallRefIdeal.Facts] : Prop :=
  ∀ (m : (ℓ : Loc Cert.StepSmallRefIdeal.nD Cert.StepSmallRefIdeal.τ Cert.StepSmallRefIdeal.sig) → Buf (Elt Ideal) ℓ) (g : Dev Cert.StepSmallRefIdeal.nD → PrngReg), Pre_StepSmallRefIdeal m →
    θ_run (Cert.StepSmallRefIdeal.defs (F := Ideal)) (onTc (τ := Cert.StepSmallRefIdeal.τ) (Cert.StepSmallRefIdeal.main (F := Ideal))) ⟨m, fun _ => 0, g⟩ (fun r => (∀ c : Dev Cert.StepSmallRefIdeal.nD,
      r.2.mem ((c.tc : Thread Cert.StepSmallRefIdeal.nD Cert.StepSmallRefIdeal.τ).loc Cert.StepSmallRefIdeal.main_arg0) = m ((c.tc : Thread Cert.StepSmallRefIdeal.nD Cert.StepSmallRefIdeal.τ).loc Cert.StepSmallRefIdeal.main_arg0)
      ∧ r.2.mem ((c.tc : Thread Cert.StepSmallRefIdeal.nD Cert.StepSmallRefIdeal.τ).loc Cert.StepSmallRefIdeal.main_arg1) = m ((c.tc : Thread Cert.StepSmallRefIdeal.nD Cert.StepSmallRefIdeal.τ).loc Cert.StepSmallRefIdeal.main_arg1)
      ∧ r.2.mem ((c.tc : Thread Cert.StepSmallRefIdeal.nD Cert.StepSmallRefIdeal.τ).loc Cert.StepSmallRefIdeal.main_arg2) = m ((c.tc : Thread Cert.StepSmallRefIdeal.nD Cert.StepSmallRefIdeal.τ).loc Cert.StepSmallRefIdeal.main_arg2)
      ∧ r.2.mem ((c.tc : Thread Cert.StepSmallRefIdeal.nD Cert.StepSmallRefIdeal.τ).loc Cert.StepSmallRefIdeal.main_arg3) = m ((c.tc : Thread Cert.StepSmallRefIdeal.nD Cert.StepSmallRefIdeal.τ).loc Cert.StepSmallRefIdeal.main_arg3)
      ∧ r.2.mem ((c.tc : Thread Cert.StepSmallRefIdeal.nD Cert.StepSmallRefIdeal.τ).loc Cert.StepSmallRefIdeal.main_arg4) = m ((c.tc : Thread Cert.StepSmallRefIdeal.nD Cert.StepSmallRefIdeal.τ).loc Cert.StepSmallRefIdeal.main_arg4))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3)
      ∧ r.2.mem ((c.tc : Thread Cert.StepOut.nD Cert.StepOut.τ).loc Cert.StepOut.main_arg4) = m ((c.tc : Thread Cert.StepOut.nD Cert.StepOut.τ).loc Cert.StepOut.main_arg4)
      ∧ r.2.mem ((c.tc : Thread Cert.StepOut.nD Cert.StepOut.τ).loc Cert.StepOut.main_arg5) = m ((c.tc : Thread Cert.StepOut.nD Cert.StepOut.τ).loc Cert.StepOut.main_arg5)
      ∧ r.2.mem ((c.tc : Thread Cert.StepOut.nD Cert.StepOut.τ).loc Cert.StepOut.main_arg6) = m ((c.tc : Thread Cert.StepOut.nD Cert.StepOut.τ).loc Cert.StepOut.main_arg6))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
      ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
      ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5)
      ∧ r.2.mem ((c.tc : Thread Cert.StepOutIdeal.nD Cert.StepOutIdeal.τ).loc Cert.StepOutIdeal.main_arg6) = m ((c.tc : Thread Cert.StepOutIdeal.nD Cert.StepOutIdeal.τ).loc Cert.StepOutIdeal.main_arg6))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3)
      ∧ r.2.mem ((c.tc : Thread Cert.StepOutRefIdeal.nD Cert.StepOutRefIdeal.τ).loc Cert.StepOutRefIdeal.main_arg4) = m ((c.tc : Thread Cert.StepOutRefIdeal.nD Cert.StepOutRefIdeal.τ).loc Cert.StepOutRefIdeal.main_arg4)
      ∧ r.2.mem ((c.tc : Thread Cert.StepOutRefIdeal.nD Cert.StepOutRefIdeal.τ).loc Cert.StepOutRefIdeal.main_arg5) = m ((c.tc : Thread Cert.StepOutRefIdeal.nD Cert.StepOutRefIdeal.τ).loc Cert.StepOutRefIdeal.main_arg5)
      ∧ r.2.mem ((c.tc : Thread Cert.StepOutRefIdeal.nD Cert.StepOutRefIdeal.τ).loc Cert.StepOutRefIdeal.main_arg6) = m ((c.tc : Thread Cert.StepOutRefIdeal.nD Cert.StepOutRefIdeal.τ).loc Cert.StepOutRefIdeal.main_arg6))
      ∧ r.2.sem = fun _ => 0)

def quiescent_StepEvenIn [hStepEvenIn : Cert.StepEvenIn.Facts] : Prop :=
  ∀ (m : (ℓ : Loc Cert.StepEvenIn.nD Cert.StepEvenIn.τ Cert.StepEvenIn.sig) → Buf (Elt Bits) ℓ) (g : Dev Cert.StepEvenIn.nD → PrngReg), Pre_StepEvenIn m →
    θ_run (Cert.StepEvenIn.defs (F := Bits)) (onTc (τ := Cert.StepEvenIn.τ) (Cert.StepEvenIn.main (F := Bits))) ⟨m, fun _ => 0, g⟩ (fun r => (∀ c : Dev Cert.StepEvenIn.nD,
      r.2.mem ((c.tc : Thread Cert.StepEvenIn.nD Cert.StepEvenIn.τ).loc Cert.StepEvenIn.main_arg0) = m ((c.tc : Thread Cert.StepEvenIn.nD Cert.StepEvenIn.τ).loc Cert.StepEvenIn.main_arg0)
      ∧ r.2.mem ((c.tc : Thread Cert.StepEvenIn.nD Cert.StepEvenIn.τ).loc Cert.StepEvenIn.main_arg1) = m ((c.tc : Thread Cert.StepEvenIn.nD Cert.StepEvenIn.τ).loc Cert.StepEvenIn.main_arg1)
      ∧ r.2.mem ((c.tc : Thread Cert.StepEvenIn.nD Cert.StepEvenIn.τ).loc Cert.StepEvenIn.main_arg2) = m ((c.tc : Thread Cert.StepEvenIn.nD Cert.StepEvenIn.τ).loc Cert.StepEvenIn.main_arg2)
      ∧ r.2.mem ((c.tc : Thread Cert.StepEvenIn.nD Cert.StepEvenIn.τ).loc Cert.StepEvenIn.main_arg3) = m ((c.tc : Thread Cert.StepEvenIn.nD Cert.StepEvenIn.τ).loc Cert.StepEvenIn.main_arg3)
      ∧ r.2.mem ((c.tc : Thread Cert.StepEvenIn.nD Cert.StepEvenIn.τ).loc Cert.StepEvenIn.main_arg4) = m ((c.tc : Thread Cert.StepEvenIn.nD Cert.StepEvenIn.τ).loc Cert.StepEvenIn.main_arg4)
      ∧ r.2.mem ((c.tc : Thread Cert.StepEvenIn.nD Cert.StepEvenIn.τ).loc Cert.StepEvenIn.main_arg5) = m ((c.tc : Thread Cert.StepEvenIn.nD Cert.StepEvenIn.τ).loc Cert.StepEvenIn.main_arg5)
      ∧ r.2.mem ((c.tc : Thread Cert.StepEvenIn.nD Cert.StepEvenIn.τ).loc Cert.StepEvenIn.main_arg6) = m ((c.tc : Thread Cert.StepEvenIn.nD Cert.StepEvenIn.τ).loc Cert.StepEvenIn.main_arg6))
      ∧ r.2.sem = fun _ => 0)

def quiescent_StepEvenInIdeal [hStepEvenInIdeal : Cert.StepEvenInIdeal.Facts] : Prop :=
  ∀ (m : (ℓ : Loc Cert.StepEvenInIdeal.nD Cert.StepEvenInIdeal.τ Cert.StepEvenInIdeal.sig) → Buf (Elt Ideal) ℓ) (g : Dev Cert.StepEvenInIdeal.nD → PrngReg), Pre_StepEvenInIdeal m →
    θ_run (Cert.StepEvenInIdeal.defs (F := Ideal)) (onTc (τ := Cert.StepEvenInIdeal.τ) (Cert.StepEvenInIdeal.main (F := Ideal))) ⟨m, fun _ => 0, g⟩ (fun r => (∀ c : Dev Cert.StepEvenInIdeal.nD,
      r.2.mem ((c.tc : Thread Cert.StepEvenInIdeal.nD Cert.StepEvenInIdeal.τ).loc Cert.StepEvenInIdeal.main_arg0) = m ((c.tc : Thread Cert.StepEvenInIdeal.nD Cert.StepEvenInIdeal.τ).loc Cert.StepEvenInIdeal.main_arg0)
      ∧ r.2.mem ((c.tc : Thread Cert.StepEvenInIdeal.nD Cert.StepEvenInIdeal.τ).loc Cert.StepEvenInIdeal.main_arg1) = m ((c.tc : Thread Cert.StepEvenInIdeal.nD Cert.StepEvenInIdeal.τ).loc Cert.StepEvenInIdeal.main_arg1)
      ∧ r.2.mem ((c.tc : Thread Cert.StepEvenInIdeal.nD Cert.StepEvenInIdeal.τ).loc Cert.StepEvenInIdeal.main_arg2) = m ((c.tc : Thread Cert.StepEvenInIdeal.nD Cert.StepEvenInIdeal.τ).loc Cert.StepEvenInIdeal.main_arg2)
      ∧ r.2.mem ((c.tc : Thread Cert.StepEvenInIdeal.nD Cert.StepEvenInIdeal.τ).loc Cert.StepEvenInIdeal.main_arg3) = m ((c.tc : Thread Cert.StepEvenInIdeal.nD Cert.StepEvenInIdeal.τ).loc Cert.StepEvenInIdeal.main_arg3)
      ∧ r.2.mem ((c.tc : Thread Cert.StepEvenInIdeal.nD Cert.StepEvenInIdeal.τ).loc Cert.StepEvenInIdeal.main_arg4) = m ((c.tc : Thread Cert.StepEvenInIdeal.nD Cert.StepEvenInIdeal.τ).loc Cert.StepEvenInIdeal.main_arg4)
      ∧ r.2.mem ((c.tc : Thread Cert.StepEvenInIdeal.nD Cert.StepEvenInIdeal.τ).loc Cert.StepEvenInIdeal.main_arg5) = m ((c.tc : Thread Cert.StepEvenInIdeal.nD Cert.StepEvenInIdeal.τ).loc Cert.StepEvenInIdeal.main_arg5)
      ∧ r.2.mem ((c.tc : Thread Cert.StepEvenInIdeal.nD Cert.StepEvenInIdeal.τ).loc Cert.StepEvenInIdeal.main_arg6) = m ((c.tc : Thread Cert.StepEvenInIdeal.nD Cert.StepEvenInIdeal.τ).loc Cert.StepEvenInIdeal.main_arg6))
      ∧ r.2.sem = fun _ => 0)

def quiescent_StepEvenInRefIdeal [hStepEvenInRefIdeal : Cert.StepEvenInRefIdeal.Facts] : Prop :=
  ∀ (m : (ℓ : Loc Cert.StepEvenInRefIdeal.nD Cert.StepEvenInRefIdeal.τ Cert.StepEvenInRefIdeal.sig) → Buf (Elt Ideal) ℓ) (g : Dev Cert.StepEvenInRefIdeal.nD → PrngReg), Pre_StepEvenInRefIdeal m →
    θ_run (Cert.StepEvenInRefIdeal.defs (F := Ideal)) (onTc (τ := Cert.StepEvenInRefIdeal.τ) (Cert.StepEvenInRefIdeal.main (F := Ideal))) ⟨m, fun _ => 0, g⟩ (fun r => (∀ c : Dev Cert.StepEvenInRefIdeal.nD,
      r.2.mem ((c.tc : Thread Cert.StepEvenInRefIdeal.nD Cert.StepEvenInRefIdeal.τ).loc Cert.StepEvenInRefIdeal.main_arg0) = m ((c.tc : Thread Cert.StepEvenInRefIdeal.nD Cert.StepEvenInRefIdeal.τ).loc Cert.StepEvenInRefIdeal.main_arg0)
      ∧ r.2.mem ((c.tc : Thread Cert.StepEvenInRefIdeal.nD Cert.StepEvenInRefIdeal.τ).loc Cert.StepEvenInRefIdeal.main_arg1) = m ((c.tc : Thread Cert.StepEvenInRefIdeal.nD Cert.StepEvenInRefIdeal.τ).loc Cert.StepEvenInRefIdeal.main_arg1)
      ∧ r.2.mem ((c.tc : Thread Cert.StepEvenInRefIdeal.nD Cert.StepEvenInRefIdeal.τ).loc Cert.StepEvenInRefIdeal.main_arg2) = m ((c.tc : Thread Cert.StepEvenInRefIdeal.nD Cert.StepEvenInRefIdeal.τ).loc Cert.StepEvenInRefIdeal.main_arg2)
      ∧ r.2.mem ((c.tc : Thread Cert.StepEvenInRefIdeal.nD Cert.StepEvenInRefIdeal.τ).loc Cert.StepEvenInRefIdeal.main_arg3) = m ((c.tc : Thread Cert.StepEvenInRefIdeal.nD Cert.StepEvenInRefIdeal.τ).loc Cert.StepEvenInRefIdeal.main_arg3)
      ∧ r.2.mem ((c.tc : Thread Cert.StepEvenInRefIdeal.nD Cert.StepEvenInRefIdeal.τ).loc Cert.StepEvenInRefIdeal.main_arg4) = m ((c.tc : Thread Cert.StepEvenInRefIdeal.nD Cert.StepEvenInRefIdeal.τ).loc Cert.StepEvenInRefIdeal.main_arg4)
      ∧ r.2.mem ((c.tc : Thread Cert.StepEvenInRefIdeal.nD Cert.StepEvenInRefIdeal.τ).loc Cert.StepEvenInRefIdeal.main_arg5) = m ((c.tc : Thread Cert.StepEvenInRefIdeal.nD Cert.StepEvenInRefIdeal.τ).loc Cert.StepEvenInRefIdeal.main_arg5)
      ∧ r.2.mem ((c.tc : Thread Cert.StepEvenInRefIdeal.nD Cert.StepEvenInRefIdeal.τ).loc Cert.StepEvenInRefIdeal.main_arg6) = m ((c.tc : Thread Cert.StepEvenInRefIdeal.nD Cert.StepEvenInRefIdeal.τ).loc Cert.StepEvenInRefIdeal.main_arg6))
      ∧ r.2.sem = fun _ => 0)

def quiescent_StepOddIn [hStepOddIn : Cert.StepOddIn.Facts] : Prop :=
  ∀ (m : (ℓ : Loc Cert.StepOddIn.nD Cert.StepOddIn.τ Cert.StepOddIn.sig) → Buf (Elt Bits) ℓ) (g : Dev Cert.StepOddIn.nD → PrngReg), Pre_StepOddIn m →
    θ_run (Cert.StepOddIn.defs (F := Bits)) (onTc (τ := Cert.StepOddIn.τ) (Cert.StepOddIn.main (F := Bits))) ⟨m, fun _ => 0, g⟩ (fun r => (∀ c : Dev Cert.StepOddIn.nD,
      r.2.mem ((c.tc : Thread Cert.StepOddIn.nD Cert.StepOddIn.τ).loc Cert.StepOddIn.main_arg0) = m ((c.tc : Thread Cert.StepOddIn.nD Cert.StepOddIn.τ).loc Cert.StepOddIn.main_arg0)
      ∧ r.2.mem ((c.tc : Thread Cert.StepOddIn.nD Cert.StepOddIn.τ).loc Cert.StepOddIn.main_arg1) = m ((c.tc : Thread Cert.StepOddIn.nD Cert.StepOddIn.τ).loc Cert.StepOddIn.main_arg1)
      ∧ r.2.mem ((c.tc : Thread Cert.StepOddIn.nD Cert.StepOddIn.τ).loc Cert.StepOddIn.main_arg2) = m ((c.tc : Thread Cert.StepOddIn.nD Cert.StepOddIn.τ).loc Cert.StepOddIn.main_arg2)
      ∧ r.2.mem ((c.tc : Thread Cert.StepOddIn.nD Cert.StepOddIn.τ).loc Cert.StepOddIn.main_arg3) = m ((c.tc : Thread Cert.StepOddIn.nD Cert.StepOddIn.τ).loc Cert.StepOddIn.main_arg3)
      ∧ r.2.mem ((c.tc : Thread Cert.StepOddIn.nD Cert.StepOddIn.τ).loc Cert.StepOddIn.main_arg4) = m ((c.tc : Thread Cert.StepOddIn.nD Cert.StepOddIn.τ).loc Cert.StepOddIn.main_arg4)
      ∧ r.2.mem ((c.tc : Thread Cert.StepOddIn.nD Cert.StepOddIn.τ).loc Cert.StepOddIn.main_arg5) = m ((c.tc : Thread Cert.StepOddIn.nD Cert.StepOddIn.τ).loc Cert.StepOddIn.main_arg5)
      ∧ r.2.mem ((c.tc : Thread Cert.StepOddIn.nD Cert.StepOddIn.τ).loc Cert.StepOddIn.main_arg6) = m ((c.tc : Thread Cert.StepOddIn.nD Cert.StepOddIn.τ).loc Cert.StepOddIn.main_arg6))
      ∧ r.2.sem = fun _ => 0)

def quiescent_StepOddInIdeal [hStepOddInIdeal : Cert.StepOddInIdeal.Facts] : Prop :=
  ∀ (m : (ℓ : Loc Cert.StepOddInIdeal.nD Cert.StepOddInIdeal.τ Cert.StepOddInIdeal.sig) → Buf (Elt Ideal) ℓ) (g : Dev Cert.StepOddInIdeal.nD → PrngReg), Pre_StepOddInIdeal m →
    θ_run (Cert.StepOddInIdeal.defs (F := Ideal)) (onTc (τ := Cert.StepOddInIdeal.τ) (Cert.StepOddInIdeal.main (F := Ideal))) ⟨m, fun _ => 0, g⟩ (fun r => (∀ c : Dev Cert.StepOddInIdeal.nD,
      r.2.mem ((c.tc : Thread Cert.StepOddInIdeal.nD Cert.StepOddInIdeal.τ).loc Cert.StepOddInIdeal.main_arg0) = m ((c.tc : Thread Cert.StepOddInIdeal.nD Cert.StepOddInIdeal.τ).loc Cert.StepOddInIdeal.main_arg0)
      ∧ r.2.mem ((c.tc : Thread Cert.StepOddInIdeal.nD Cert.StepOddInIdeal.τ).loc Cert.StepOddInIdeal.main_arg1) = m ((c.tc : Thread Cert.StepOddInIdeal.nD Cert.StepOddInIdeal.τ).loc Cert.StepOddInIdeal.main_arg1)
      ∧ r.2.mem ((c.tc : Thread Cert.StepOddInIdeal.nD Cert.StepOddInIdeal.τ).loc Cert.StepOddInIdeal.main_arg2) = m ((c.tc : Thread Cert.StepOddInIdeal.nD Cert.StepOddInIdeal.τ).loc Cert.StepOddInIdeal.main_arg2)
      ∧ r.2.mem ((c.tc : Thread Cert.StepOddInIdeal.nD Cert.StepOddInIdeal.τ).loc Cert.StepOddInIdeal.main_arg3) = m ((c.tc : Thread Cert.StepOddInIdeal.nD Cert.StepOddInIdeal.τ).loc Cert.StepOddInIdeal.main_arg3)
      ∧ r.2.mem ((c.tc : Thread Cert.StepOddInIdeal.nD Cert.StepOddInIdeal.τ).loc Cert.StepOddInIdeal.main_arg4) = m ((c.tc : Thread Cert.StepOddInIdeal.nD Cert.StepOddInIdeal.τ).loc Cert.StepOddInIdeal.main_arg4)
      ∧ r.2.mem ((c.tc : Thread Cert.StepOddInIdeal.nD Cert.StepOddInIdeal.τ).loc Cert.StepOddInIdeal.main_arg5) = m ((c.tc : Thread Cert.StepOddInIdeal.nD Cert.StepOddInIdeal.τ).loc Cert.StepOddInIdeal.main_arg5)
      ∧ r.2.mem ((c.tc : Thread Cert.StepOddInIdeal.nD Cert.StepOddInIdeal.τ).loc Cert.StepOddInIdeal.main_arg6) = m ((c.tc : Thread Cert.StepOddInIdeal.nD Cert.StepOddInIdeal.τ).loc Cert.StepOddInIdeal.main_arg6))
      ∧ r.2.sem = fun _ => 0)

def quiescent_StepOddInRefIdeal [hStepOddInRefIdeal : Cert.StepOddInRefIdeal.Facts] : Prop :=
  ∀ (m : (ℓ : Loc Cert.StepOddInRefIdeal.nD Cert.StepOddInRefIdeal.τ Cert.StepOddInRefIdeal.sig) → Buf (Elt Ideal) ℓ) (g : Dev Cert.StepOddInRefIdeal.nD → PrngReg), Pre_StepOddInRefIdeal m →
    θ_run (Cert.StepOddInRefIdeal.defs (F := Ideal)) (onTc (τ := Cert.StepOddInRefIdeal.τ) (Cert.StepOddInRefIdeal.main (F := Ideal))) ⟨m, fun _ => 0, g⟩ (fun r => (∀ c : Dev Cert.StepOddInRefIdeal.nD,
      r.2.mem ((c.tc : Thread Cert.StepOddInRefIdeal.nD Cert.StepOddInRefIdeal.τ).loc Cert.StepOddInRefIdeal.main_arg0) = m ((c.tc : Thread Cert.StepOddInRefIdeal.nD Cert.StepOddInRefIdeal.τ).loc Cert.StepOddInRefIdeal.main_arg0)
      ∧ r.2.mem ((c.tc : Thread Cert.StepOddInRefIdeal.nD Cert.StepOddInRefIdeal.τ).loc Cert.StepOddInRefIdeal.main_arg1) = m ((c.tc : Thread Cert.StepOddInRefIdeal.nD Cert.StepOddInRefIdeal.τ).loc Cert.StepOddInRefIdeal.main_arg1)
      ∧ r.2.mem ((c.tc : Thread Cert.StepOddInRefIdeal.nD Cert.StepOddInRefIdeal.τ).loc Cert.StepOddInRefIdeal.main_arg2) = m ((c.tc : Thread Cert.StepOddInRefIdeal.nD Cert.StepOddInRefIdeal.τ).loc Cert.StepOddInRefIdeal.main_arg2)
      ∧ r.2.mem ((c.tc : Thread Cert.StepOddInRefIdeal.nD Cert.StepOddInRefIdeal.τ).loc Cert.StepOddInRefIdeal.main_arg3) = m ((c.tc : Thread Cert.StepOddInRefIdeal.nD Cert.StepOddInRefIdeal.τ).loc Cert.StepOddInRefIdeal.main_arg3)
      ∧ r.2.mem ((c.tc : Thread Cert.StepOddInRefIdeal.nD Cert.StepOddInRefIdeal.τ).loc Cert.StepOddInRefIdeal.main_arg4) = m ((c.tc : Thread Cert.StepOddInRefIdeal.nD Cert.StepOddInRefIdeal.τ).loc Cert.StepOddInRefIdeal.main_arg4)
      ∧ r.2.mem ((c.tc : Thread Cert.StepOddInRefIdeal.nD Cert.StepOddInRefIdeal.τ).loc Cert.StepOddInRefIdeal.main_arg5) = m ((c.tc : Thread Cert.StepOddInRefIdeal.nD Cert.StepOddInRefIdeal.τ).loc Cert.StepOddInRefIdeal.main_arg5)
      ∧ r.2.mem ((c.tc : Thread Cert.StepOddInRefIdeal.nD Cert.StepOddInRefIdeal.τ).loc Cert.StepOddInRefIdeal.main_arg6) = m ((c.tc : Thread Cert.StepOddInRefIdeal.nD Cert.StepOddInRefIdeal.τ).loc Cert.StepOddInRefIdeal.main_arg6))
      ∧ r.2.sem = fun _ => 0)

def quiescent_StepQueries [hStepQueries : Cert.StepQueries.Facts] : Prop :=
  ∀ (m : (ℓ : Loc Cert.StepQueries.nD Cert.StepQueries.τ Cert.StepQueries.sig) → Buf (Elt Bits) ℓ) (g : Dev Cert.StepQueries.nD → PrngReg), Pre_StepQueries m →
    θ_run (Cert.StepQueries.defs (F := Bits)) (onTc (τ := Cert.StepQueries.τ) (Cert.StepQueries.main (F := Bits))) ⟨m, fun _ => 0, g⟩ (fun r => (∀ c : Dev Cert.StepQueries.nD,
      r.2.mem ((c.tc : Thread Cert.StepQueries.nD Cert.StepQueries.τ).loc Cert.StepQueries.main_arg0) = m ((c.tc : Thread Cert.StepQueries.nD Cert.StepQueries.τ).loc Cert.StepQueries.main_arg0)
      ∧ r.2.mem ((c.tc : Thread Cert.StepQueries.nD Cert.StepQueries.τ).loc Cert.StepQueries.main_arg1) = m ((c.tc : Thread Cert.StepQueries.nD Cert.StepQueries.τ).loc Cert.StepQueries.main_arg1)
      ∧ r.2.mem ((c.tc : Thread Cert.StepQueries.nD Cert.StepQueries.τ).loc Cert.StepQueries.main_arg2) = m ((c.tc : Thread Cert.StepQueries.nD Cert.StepQueries.τ).loc Cert.StepQueries.main_arg2)
      ∧ r.2.mem ((c.tc : Thread Cert.StepQueries.nD Cert.StepQueries.τ).loc Cert.StepQueries.main_arg3) = m ((c.tc : Thread Cert.StepQueries.nD Cert.StepQueries.τ).loc Cert.StepQueries.main_arg3)
      ∧ r.2.mem ((c.tc : Thread Cert.StepQueries.nD Cert.StepQueries.τ).loc Cert.StepQueries.main_arg4) = m ((c.tc : Thread Cert.StepQueries.nD Cert.StepQueries.τ).loc Cert.StepQueries.main_arg4)
      ∧ r.2.mem ((c.tc : Thread Cert.StepQueries.nD Cert.StepQueries.τ).loc Cert.StepQueries.main_arg5) = m ((c.tc : Thread Cert.StepQueries.nD Cert.StepQueries.τ).loc Cert.StepQueries.main_arg5)
      ∧ r.2.mem ((c.tc : Thread Cert.StepQueries.nD Cert.StepQueries.τ).loc Cert.StepQueries.main_arg6) = m ((c.tc : Thread Cert.StepQueries.nD Cert.StepQueries.τ).loc Cert.StepQueries.main_arg6))
      ∧ r.2.sem = fun _ => 0)

def quiescent_StepQueriesIdeal [hStepQueriesIdeal : Cert.StepQueriesIdeal.Facts] : Prop :=
  ∀ (m : (ℓ : Loc Cert.StepQueriesIdeal.nD Cert.StepQueriesIdeal.τ Cert.StepQueriesIdeal.sig) → Buf (Elt Ideal) ℓ) (g : Dev Cert.StepQueriesIdeal.nD → PrngReg), Pre_StepQueriesIdeal m →
    θ_run (Cert.StepQueriesIdeal.defs (F := Ideal)) (onTc (τ := Cert.StepQueriesIdeal.τ) (Cert.StepQueriesIdeal.main (F := Ideal))) ⟨m, fun _ => 0, g⟩ (fun r => (∀ c : Dev Cert.StepQueriesIdeal.nD,
      r.2.mem ((c.tc : Thread Cert.StepQueriesIdeal.nD Cert.StepQueriesIdeal.τ).loc Cert.StepQueriesIdeal.main_arg0) = m ((c.tc : Thread Cert.StepQueriesIdeal.nD Cert.StepQueriesIdeal.τ).loc Cert.StepQueriesIdeal.main_arg0)
      ∧ r.2.mem ((c.tc : Thread Cert.StepQueriesIdeal.nD Cert.StepQueriesIdeal.τ).loc Cert.StepQueriesIdeal.main_arg1) = m ((c.tc : Thread Cert.StepQueriesIdeal.nD Cert.StepQueriesIdeal.τ).loc Cert.StepQueriesIdeal.main_arg1)
      ∧ r.2.mem ((c.tc : Thread Cert.StepQueriesIdeal.nD Cert.StepQueriesIdeal.τ).loc Cert.StepQueriesIdeal.main_arg2) = m ((c.tc : Thread Cert.StepQueriesIdeal.nD Cert.StepQueriesIdeal.τ).loc Cert.StepQueriesIdeal.main_arg2)
      ∧ r.2.mem ((c.tc : Thread Cert.StepQueriesIdeal.nD Cert.StepQueriesIdeal.τ).loc Cert.StepQueriesIdeal.main_arg3) = m ((c.tc : Thread Cert.StepQueriesIdeal.nD Cert.StepQueriesIdeal.τ).loc Cert.StepQueriesIdeal.main_arg3)
      ∧ r.2.mem ((c.tc : Thread Cert.StepQueriesIdeal.nD Cert.StepQueriesIdeal.τ).loc Cert.StepQueriesIdeal.main_arg4) = m ((c.tc : Thread Cert.StepQueriesIdeal.nD Cert.StepQueriesIdeal.τ).loc Cert.StepQueriesIdeal.main_arg4)
      ∧ r.2.mem ((c.tc : Thread Cert.StepQueriesIdeal.nD Cert.StepQueriesIdeal.τ).loc Cert.StepQueriesIdeal.main_arg5) = m ((c.tc : Thread Cert.StepQueriesIdeal.nD Cert.StepQueriesIdeal.τ).loc Cert.StepQueriesIdeal.main_arg5)
      ∧ r.2.mem ((c.tc : Thread Cert.StepQueriesIdeal.nD Cert.StepQueriesIdeal.τ).loc Cert.StepQueriesIdeal.main_arg6) = m ((c.tc : Thread Cert.StepQueriesIdeal.nD Cert.StepQueriesIdeal.τ).loc Cert.StepQueriesIdeal.main_arg6))
      ∧ r.2.sem = fun _ => 0)

def quiescent_StepQueriesRefIdeal [hStepQueriesRefIdeal : Cert.StepQueriesRefIdeal.Facts] : Prop :=
  ∀ (m : (ℓ : Loc Cert.StepQueriesRefIdeal.nD Cert.StepQueriesRefIdeal.τ Cert.StepQueriesRefIdeal.sig) → Buf (Elt Ideal) ℓ) (g : Dev Cert.StepQueriesRefIdeal.nD → PrngReg), Pre_StepQueriesRefIdeal m →
    θ_run (Cert.StepQueriesRefIdeal.defs (F := Ideal)) (onTc (τ := Cert.StepQueriesRefIdeal.τ) (Cert.StepQueriesRefIdeal.main (F := Ideal))) ⟨m, fun _ => 0, g⟩ (fun r => (∀ c : Dev Cert.StepQueriesRefIdeal.nD,
      r.2.mem ((c.tc : Thread Cert.StepQueriesRefIdeal.nD Cert.StepQueriesRefIdeal.τ).loc Cert.StepQueriesRefIdeal.main_arg0) = m ((c.tc : Thread Cert.StepQueriesRefIdeal.nD Cert.StepQueriesRefIdeal.τ).loc Cert.StepQueriesRefIdeal.main_arg0)
      ∧ r.2.mem ((c.tc : Thread Cert.StepQueriesRefIdeal.nD Cert.StepQueriesRefIdeal.τ).loc Cert.StepQueriesRefIdeal.main_arg1) = m ((c.tc : Thread Cert.StepQueriesRefIdeal.nD Cert.StepQueriesRefIdeal.τ).loc Cert.StepQueriesRefIdeal.main_arg1)
      ∧ r.2.mem ((c.tc : Thread Cert.StepQueriesRefIdeal.nD Cert.StepQueriesRefIdeal.τ).loc Cert.StepQueriesRefIdeal.main_arg2) = m ((c.tc : Thread Cert.StepQueriesRefIdeal.nD Cert.StepQueriesRefIdeal.τ).loc Cert.StepQueriesRefIdeal.main_arg2)
      ∧ r.2.mem ((c.tc : Thread Cert.StepQueriesRefIdeal.nD Cert.StepQueriesRefIdeal.τ).loc Cert.StepQueriesRefIdeal.main_arg3) = m ((c.tc : Thread Cert.StepQueriesRefIdeal.nD Cert.StepQueriesRefIdeal.τ).loc Cert.StepQueriesRefIdeal.main_arg3)
      ∧ r.2.mem ((c.tc : Thread Cert.StepQueriesRefIdeal.nD Cert.StepQueriesRefIdeal.τ).loc Cert.StepQueriesRefIdeal.main_arg4) = m ((c.tc : Thread Cert.StepQueriesRefIdeal.nD Cert.StepQueriesRefIdeal.τ).loc Cert.StepQueriesRefIdeal.main_arg4)
      ∧ r.2.mem ((c.tc : Thread Cert.StepQueriesRefIdeal.nD Cert.StepQueriesRefIdeal.τ).loc Cert.StepQueriesRefIdeal.main_arg5) = m ((c.tc : Thread Cert.StepQueriesRefIdeal.nD Cert.StepQueriesRefIdeal.τ).loc Cert.StepQueriesRefIdeal.main_arg5)
      ∧ r.2.mem ((c.tc : Thread Cert.StepQueriesRefIdeal.nD Cert.StepQueriesRefIdeal.τ).loc Cert.StepQueriesRefIdeal.main_arg6) = m ((c.tc : Thread Cert.StepQueriesRefIdeal.nD Cert.StepQueriesRefIdeal.τ).loc Cert.StepQueriesRefIdeal.main_arg6))
      ∧ r.2.sem = fun _ => 0)

def quiescent_StepKeys [hStepKeys : Cert.StepKeys.Facts] : Prop :=
  ∀ (m : (ℓ : Loc Cert.StepKeys.nD Cert.StepKeys.τ Cert.StepKeys.sig) → Buf (Elt Bits) ℓ) (g : Dev Cert.StepKeys.nD → PrngReg), Pre_StepKeys m →
    θ_run (Cert.StepKeys.defs (F := Bits)) (onTc (τ := Cert.StepKeys.τ) (Cert.StepKeys.main (F := Bits))) ⟨m, fun _ => 0, g⟩ (fun r => (∀ c : Dev Cert.StepKeys.nD,
      r.2.mem ((c.tc : Thread Cert.StepKeys.nD Cert.StepKeys.τ).loc Cert.StepKeys.main_arg0) = m ((c.tc : Thread Cert.StepKeys.nD Cert.StepKeys.τ).loc Cert.StepKeys.main_arg0)
      ∧ r.2.mem ((c.tc : Thread Cert.StepKeys.nD Cert.StepKeys.τ).loc Cert.StepKeys.main_arg1) = m ((c.tc : Thread Cert.StepKeys.nD Cert.StepKeys.τ).loc Cert.StepKeys.main_arg1)
      ∧ r.2.mem ((c.tc : Thread Cert.StepKeys.nD Cert.StepKeys.τ).loc Cert.StepKeys.main_arg2) = m ((c.tc : Thread Cert.StepKeys.nD Cert.StepKeys.τ).loc Cert.StepKeys.main_arg2)
      ∧ r.2.mem ((c.tc : Thread Cert.StepKeys.nD Cert.StepKeys.τ).loc Cert.StepKeys.main_arg3) = m ((c.tc : Thread Cert.StepKeys.nD Cert.StepKeys.τ).loc Cert.StepKeys.main_arg3)
      ∧ r.2.mem ((c.tc : Thread Cert.StepKeys.nD Cert.StepKeys.τ).loc Cert.StepKeys.main_arg4) = m ((c.tc : Thread Cert.StepKeys.nD Cert.StepKeys.τ).loc Cert.StepKeys.main_arg4)
      ∧ r.2.mem ((c.tc : Thread Cert.StepKeys.nD Cert.StepKeys.τ).loc Cert.StepKeys.main_arg5) = m ((c.tc : Thread Cert.StepKeys.nD Cert.StepKeys.τ).loc Cert.StepKeys.main_arg5)
      ∧ r.2.mem ((c.tc : Thread Cert.StepKeys.nD Cert.StepKeys.τ).loc Cert.StepKeys.main_arg6) = m ((c.tc : Thread Cert.StepKeys.nD Cert.StepKeys.τ).loc Cert.StepKeys.main_arg6))
      ∧ r.2.sem = fun _ => 0)

def quiescent_StepKeysIdeal [hStepKeysIdeal : Cert.StepKeysIdeal.Facts] : Prop :=
  ∀ (m : (ℓ : Loc Cert.StepKeysIdeal.nD Cert.StepKeysIdeal.τ Cert.StepKeysIdeal.sig) → Buf (Elt Ideal) ℓ) (g : Dev Cert.StepKeysIdeal.nD → PrngReg), Pre_StepKeysIdeal m →
    θ_run (Cert.StepKeysIdeal.defs (F := Ideal)) (onTc (τ := Cert.StepKeysIdeal.τ) (Cert.StepKeysIdeal.main (F := Ideal))) ⟨m, fun _ => 0, g⟩ (fun r => (∀ c : Dev Cert.StepKeysIdeal.nD,
      r.2.mem ((c.tc : Thread Cert.StepKeysIdeal.nD Cert.StepKeysIdeal.τ).loc Cert.StepKeysIdeal.main_arg0) = m ((c.tc : Thread Cert.StepKeysIdeal.nD Cert.StepKeysIdeal.τ).loc Cert.StepKeysIdeal.main_arg0)
      ∧ r.2.mem ((c.tc : Thread Cert.StepKeysIdeal.nD Cert.StepKeysIdeal.τ).loc Cert.StepKeysIdeal.main_arg1) = m ((c.tc : Thread Cert.StepKeysIdeal.nD Cert.StepKeysIdeal.τ).loc Cert.StepKeysIdeal.main_arg1)
      ∧ r.2.mem ((c.tc : Thread Cert.StepKeysIdeal.nD Cert.StepKeysIdeal.τ).loc Cert.StepKeysIdeal.main_arg2) = m ((c.tc : Thread Cert.StepKeysIdeal.nD Cert.StepKeysIdeal.τ).loc Cert.StepKeysIdeal.main_arg2)
      ∧ r.2.mem ((c.tc : Thread Cert.StepKeysIdeal.nD Cert.StepKeysIdeal.τ).loc Cert.StepKeysIdeal.main_arg3) = m ((c.tc : Thread Cert.StepKeysIdeal.nD Cert.StepKeysIdeal.τ).loc Cert.StepKeysIdeal.main_arg3)
      ∧ r.2.mem ((c.tc : Thread Cert.StepKeysIdeal.nD Cert.StepKeysIdeal.τ).loc Cert.StepKeysIdeal.main_arg4) = m ((c.tc : Thread Cert.StepKeysIdeal.nD Cert.StepKeysIdeal.τ).loc Cert.StepKeysIdeal.main_arg4)
      ∧ r.2.mem ((c.tc : Thread Cert.StepKeysIdeal.nD Cert.StepKeysIdeal.τ).loc Cert.StepKeysIdeal.main_arg5) = m ((c.tc : Thread Cert.StepKeysIdeal.nD Cert.StepKeysIdeal.τ).loc Cert.StepKeysIdeal.main_arg5)
      ∧ r.2.mem ((c.tc : Thread Cert.StepKeysIdeal.nD Cert.StepKeysIdeal.τ).loc Cert.StepKeysIdeal.main_arg6) = m ((c.tc : Thread Cert.StepKeysIdeal.nD Cert.StepKeysIdeal.τ).loc Cert.StepKeysIdeal.main_arg6))
      ∧ r.2.sem = fun _ => 0)

def quiescent_StepKeysRefIdeal [hStepKeysRefIdeal : Cert.StepKeysRefIdeal.Facts] : Prop :=
  ∀ (m : (ℓ : Loc Cert.StepKeysRefIdeal.nD Cert.StepKeysRefIdeal.τ Cert.StepKeysRefIdeal.sig) → Buf (Elt Ideal) ℓ) (g : Dev Cert.StepKeysRefIdeal.nD → PrngReg), Pre_StepKeysRefIdeal m →
    θ_run (Cert.StepKeysRefIdeal.defs (F := Ideal)) (onTc (τ := Cert.StepKeysRefIdeal.τ) (Cert.StepKeysRefIdeal.main (F := Ideal))) ⟨m, fun _ => 0, g⟩ (fun r => (∀ c : Dev Cert.StepKeysRefIdeal.nD,
      r.2.mem ((c.tc : Thread Cert.StepKeysRefIdeal.nD Cert.StepKeysRefIdeal.τ).loc Cert.StepKeysRefIdeal.main_arg0) = m ((c.tc : Thread Cert.StepKeysRefIdeal.nD Cert.StepKeysRefIdeal.τ).loc Cert.StepKeysRefIdeal.main_arg0)
      ∧ r.2.mem ((c.tc : Thread Cert.StepKeysRefIdeal.nD Cert.StepKeysRefIdeal.τ).loc Cert.StepKeysRefIdeal.main_arg1) = m ((c.tc : Thread Cert.StepKeysRefIdeal.nD Cert.StepKeysRefIdeal.τ).loc Cert.StepKeysRefIdeal.main_arg1)
      ∧ r.2.mem ((c.tc : Thread Cert.StepKeysRefIdeal.nD Cert.StepKeysRefIdeal.τ).loc Cert.StepKeysRefIdeal.main_arg2) = m ((c.tc : Thread Cert.StepKeysRefIdeal.nD Cert.StepKeysRefIdeal.τ).loc Cert.StepKeysRefIdeal.main_arg2)
      ∧ r.2.mem ((c.tc : Thread Cert.StepKeysRefIdeal.nD Cert.StepKeysRefIdeal.τ).loc Cert.StepKeysRefIdeal.main_arg3) = m ((c.tc : Thread Cert.StepKeysRefIdeal.nD Cert.StepKeysRefIdeal.τ).loc Cert.StepKeysRefIdeal.main_arg3)
      ∧ r.2.mem ((c.tc : Thread Cert.StepKeysRefIdeal.nD Cert.StepKeysRefIdeal.τ).loc Cert.StepKeysRefIdeal.main_arg4) = m ((c.tc : Thread Cert.StepKeysRefIdeal.nD Cert.StepKeysRefIdeal.τ).loc Cert.StepKeysRefIdeal.main_arg4)
      ∧ r.2.mem ((c.tc : Thread Cert.StepKeysRefIdeal.nD Cert.StepKeysRefIdeal.τ).loc Cert.StepKeysRefIdeal.main_arg5) = m ((c.tc : Thread Cert.StepKeysRefIdeal.nD Cert.StepKeysRefIdeal.τ).loc Cert.StepKeysRefIdeal.main_arg5)
      ∧ r.2.mem ((c.tc : Thread Cert.StepKeysRefIdeal.nD Cert.StepKeysRefIdeal.τ).loc Cert.StepKeysRefIdeal.main_arg6) = m ((c.tc : Thread Cert.StepKeysRefIdeal.nD Cert.StepKeysRefIdeal.τ).loc Cert.StepKeysRefIdeal.main_arg6))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def preserves_Kernel_KernelIdeal : Prop :=
  IdealRules.named_const.Statement Cert.KernelIdeal.κ "ln2" .f32 0x3F317218#32 ((Real.log 2 : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OutLeft_OutLeftIdeal : Prop :=
  True

def algebraic_OutLeftIdeal_OutLeftRefIdeal [hOutLeftIdeal : Cert.OutLeftIdeal.Facts] [hOutLeftRefIdeal : Cert.OutLeftRefIdeal.Facts] : Prop :=
  ∀ (m : (ℓ : Loc Cert.OutLeftIdeal.nD Cert.OutLeftIdeal.τ Cert.OutLeftIdeal.sig) → Buf (Elt Ideal) ℓ) (g : Dev Cert.OutLeftIdeal.nD → PrngReg)
    (m' : (ℓ : Loc Cert.OutLeftRefIdeal.nD Cert.OutLeftRefIdeal.τ Cert.OutLeftRefIdeal.sig) → Buf (Elt Ideal) ℓ) (g' : Dev Cert.OutLeftRefIdeal.nD → PrngReg), Pre_OutLeftIdeal m →
    (∀ c : Dev Cert.OutLeftIdeal.nD,
      m' ((c.tc : Thread Cert.OutLeftRefIdeal.nD Cert.OutLeftRefIdeal.τ).loc Cert.OutLeftRefIdeal.main_arg0) = m ((c.tc : Thread Cert.OutLeftIdeal.nD Cert.OutLeftIdeal.τ).loc Cert.OutLeftIdeal.main_arg0)
      ∧ m' ((c.tc : Thread Cert.OutLeftRefIdeal.nD Cert.OutLeftRefIdeal.τ).loc Cert.OutLeftRefIdeal.main_arg1) = m ((c.tc : Thread Cert.OutLeftIdeal.nD Cert.OutLeftIdeal.τ).loc Cert.OutLeftIdeal.main_arg1)) →
    ∃ (v0 : (c : Dev Cert.OutLeftIdeal.nD) → Buf (Elt Ideal) ((c.tc : Thread Cert.OutLeftIdeal.nD Cert.OutLeftIdeal.τ).loc Cert.OutLeftIdeal.main_v2)),
      θ_run (Cert.OutLeftIdeal.defs (F := Ideal)) (onTc (τ := Cert.OutLeftIdeal.τ) (Cert.OutLeftIdeal.main (F := Ideal))) ⟨m, fun _ => 0, g⟩ (fun r => ∀ c : Dev Cert.OutLeftIdeal.nD,
          r.2.mem ((c.tc : Thread Cert.OutLeftIdeal.nD Cert.OutLeftIdeal.τ).loc Cert.OutLeftIdeal.main_v2) = v0 c
          ∧ r.2.mem ((c.tc : Thread Cert.OutLeftIdeal.nD Cert.OutLeftIdeal.τ).loc Cert.OutLeftIdeal.main_arg0) = m ((c.tc : Thread Cert.OutLeftIdeal.nD Cert.OutLeftIdeal.τ).loc Cert.OutLeftIdeal.main_arg0)
          ∧ r.2.mem ((c.tc : Thread Cert.OutLeftIdeal.nD Cert.OutLeftIdeal.τ).loc Cert.OutLeftIdeal.main_arg1) = m ((c.tc : Thread Cert.OutLeftIdeal.nD Cert.OutLeftIdeal.τ).loc Cert.OutLeftIdeal.main_arg1))
      ∧ θ_run (Cert.OutLeftRefIdeal.defs (F := Ideal)) (onTc (τ := Cert.OutLeftRefIdeal.τ) (Cert.OutLeftRefIdeal.main (F := Ideal))) ⟨m', fun _ => 0, g'⟩ (fun r => ∀ c : Dev Cert.OutLeftRefIdeal.nD,
          r.2.mem ((c.tc : Thread Cert.OutLeftRefIdeal.nD Cert.OutLeftRefIdeal.τ).loc Cert.OutLeftRefIdeal.main_v3) = v0 c
          ∧ r.2.mem ((c.tc : Thread Cert.OutLeftRefIdeal.nD Cert.OutLeftRefIdeal.τ).loc Cert.OutLeftRefIdeal.main_arg0) = m' ((c.tc : Thread Cert.OutLeftRefIdeal.nD Cert.OutLeftRefIdeal.τ).loc Cert.OutLeftRefIdeal.main_arg0)
          ∧ r.2.mem ((c.tc : Thread Cert.OutLeftRefIdeal.nD Cert.OutLeftRefIdeal.τ).loc Cert.OutLeftRefIdeal.main_arg1) = m' ((c.tc : Thread Cert.OutLeftRefIdeal.nD Cert.OutLeftRefIdeal.τ).loc Cert.OutLeftRefIdeal.main_arg1))

def preserves_OutRight_OutRightIdeal : Prop :=
  True

def algebraic_OutRightIdeal_OutRightRefIdeal [hOutRightIdeal : Cert.OutRightIdeal.Facts] [hOutRightRefIdeal : Cert.OutRightRefIdeal.Facts] : Prop :=
  ∀ (m : (ℓ : Loc Cert.OutRightIdeal.nD Cert.OutRightIdeal.τ Cert.OutRightIdeal.sig) → Buf (Elt Ideal) ℓ) (g : Dev Cert.OutRightIdeal.nD → PrngReg)
    (m' : (ℓ : Loc Cert.OutRightRefIdeal.nD Cert.OutRightRefIdeal.τ Cert.OutRightRefIdeal.sig) → Buf (Elt Ideal) ℓ) (g' : Dev Cert.OutRightRefIdeal.nD → PrngReg), Pre_OutRightIdeal m →
    (∀ c : Dev Cert.OutRightIdeal.nD,
      m' ((c.tc : Thread Cert.OutRightRefIdeal.nD Cert.OutRightRefIdeal.τ).loc Cert.OutRightRefIdeal.main_arg0) = m ((c.tc : Thread Cert.OutRightIdeal.nD Cert.OutRightIdeal.τ).loc Cert.OutRightIdeal.main_arg0)
      ∧ m' ((c.tc : Thread Cert.OutRightRefIdeal.nD Cert.OutRightRefIdeal.τ).loc Cert.OutRightRefIdeal.main_arg1) = m ((c.tc : Thread Cert.OutRightIdeal.nD Cert.OutRightIdeal.τ).loc Cert.OutRightIdeal.main_arg1)) →
    ∃ (v0 : (c : Dev Cert.OutRightIdeal.nD) → Buf (Elt Ideal) ((c.tc : Thread Cert.OutRightIdeal.nD Cert.OutRightIdeal.τ).loc Cert.OutRightIdeal.main_v2)),
      θ_run (Cert.OutRightIdeal.defs (F := Ideal)) (onTc (τ := Cert.OutRightIdeal.τ) (Cert.OutRightIdeal.main (F := Ideal))) ⟨m, fun _ => 0, g⟩ (fun r => ∀ c : Dev Cert.OutRightIdeal.nD,
          r.2.mem ((c.tc : Thread Cert.OutRightIdeal.nD Cert.OutRightIdeal.τ).loc Cert.OutRightIdeal.main_v2) = v0 c
          ∧ r.2.mem ((c.tc : Thread Cert.OutRightIdeal.nD Cert.OutRightIdeal.τ).loc Cert.OutRightIdeal.main_arg0) = m ((c.tc : Thread Cert.OutRightIdeal.nD Cert.OutRightIdeal.τ).loc Cert.OutRightIdeal.main_arg0)
          ∧ r.2.mem ((c.tc : Thread Cert.OutRightIdeal.nD Cert.OutRightIdeal.τ).loc Cert.OutRightIdeal.main_arg1) = m ((c.tc : Thread Cert.OutRightIdeal.nD Cert.OutRightIdeal.τ).loc Cert.OutRightIdeal.main_arg1))
      ∧ θ_run (Cert.OutRightRefIdeal.defs (F := Ideal)) (onTc (τ := Cert.OutRightRefIdeal.τ) (Cert.OutRightRefIdeal.main (F := Ideal))) ⟨m', fun _ => 0, g'⟩ (fun r => ∀ c : Dev Cert.OutRightRefIdeal.nD,
          r.2.mem ((c.tc : Thread Cert.OutRightRefIdeal.nD Cert.OutRightRefIdeal.τ).loc Cert.OutRightRefIdeal.main_v4) = v0 c
          ∧ r.2.mem ((c.tc : Thread Cert.OutRightRefIdeal.nD Cert.OutRightRefIdeal.τ).loc Cert.OutRightRefIdeal.main_arg0) = m' ((c.tc : Thread Cert.OutRightRefIdeal.nD Cert.OutRightRefIdeal.τ).loc Cert.OutRightRefIdeal.main_arg0)
          ∧ r.2.mem ((c.tc : Thread Cert.OutRightRefIdeal.nD Cert.OutRightRefIdeal.τ).loc Cert.OutRightRefIdeal.main_arg1) = m' ((c.tc : Thread Cert.OutRightRefIdeal.nD Cert.OutRightRefIdeal.τ).loc Cert.OutRightRefIdeal.main_arg1))

def preserves_OddLeft_OddLeftIdeal : Prop :=
  True

def algebraic_OddLeftIdeal_OddLeftRefIdeal [hOddLeftIdeal : Cert.OddLeftIdeal.Facts] [hOddLeftRefIdeal : Cert.OddLeftRefIdeal.Facts] : Prop :=
  ∀ (m : (ℓ : Loc Cert.OddLeftIdeal.nD Cert.OddLeftIdeal.τ Cert.OddLeftIdeal.sig) → Buf (Elt Ideal) ℓ) (g : Dev Cert.OddLeftIdeal.nD → PrngReg)
    (m' : (ℓ : Loc Cert.OddLeftRefIdeal.nD Cert.OddLeftRefIdeal.τ Cert.OddLeftRefIdeal.sig) → Buf (Elt Ideal) ℓ) (g' : Dev Cert.OddLeftRefIdeal.nD → PrngReg), Pre_OddLeftIdeal m →
    (∀ c : Dev Cert.OddLeftIdeal.nD,
      m' ((c.tc : Thread Cert.OddLeftRefIdeal.nD Cert.OddLeftRefIdeal.τ).loc Cert.OddLeftRefIdeal.main_arg0) = m ((c.tc : Thread Cert.OddLeftIdeal.nD Cert.OddLeftIdeal.τ).loc Cert.OddLeftIdeal.main_arg0)
      ∧ m' ((c.tc : Thread Cert.OddLeftRefIdeal.nD Cert.OddLeftRefIdeal.τ).loc Cert.OddLeftRefIdeal.main_arg1) = m ((c.tc : Thread Cert.OddLeftIdeal.nD Cert.OddLeftIdeal.τ).loc Cert.OddLeftIdeal.main_arg1)) →
    ∃ (v0 : (c : Dev Cert.OddLeftIdeal.nD) → Buf (Elt Ideal) ((c.tc : Thread Cert.OddLeftIdeal.nD Cert.OddLeftIdeal.τ).loc Cert.OddLeftIdeal.main_v2)),
      θ_run (Cert.OddLeftIdeal.defs (F := Ideal)) (onTc (τ := Cert.OddLeftIdeal.τ) (Cert.OddLeftIdeal.main (F := Ideal))) ⟨m, fun _ => 0, g⟩ (fun r => ∀ c : Dev Cert.OddLeftIdeal.nD,
          r.2.mem ((c.tc : Thread Cert.OddLeftIdeal.nD Cert.OddLeftIdeal.τ).loc Cert.OddLeftIdeal.main_v2) = v0 c
          ∧ r.2.mem ((c.tc : Thread Cert.OddLeftIdeal.nD Cert.OddLeftIdeal.τ).loc Cert.OddLeftIdeal.main_arg0) = m ((c.tc : Thread Cert.OddLeftIdeal.nD Cert.OddLeftIdeal.τ).loc Cert.OddLeftIdeal.main_arg0)
          ∧ r.2.mem ((c.tc : Thread Cert.OddLeftIdeal.nD Cert.OddLeftIdeal.τ).loc Cert.OddLeftIdeal.main_arg1) = m ((c.tc : Thread Cert.OddLeftIdeal.nD Cert.OddLeftIdeal.τ).loc Cert.OddLeftIdeal.main_arg1))
      ∧ θ_run (Cert.OddLeftRefIdeal.defs (F := Ideal)) (onTc (τ := Cert.OddLeftRefIdeal.τ) (Cert.OddLeftRefIdeal.main (F := Ideal))) ⟨m', fun _ => 0, g'⟩ (fun r => ∀ c : Dev Cert.OddLeftRefIdeal.nD,
          r.2.mem ((c.tc : Thread Cert.OddLeftRefIdeal.nD Cert.OddLeftRefIdeal.τ).loc Cert.OddLeftRefIdeal.main_v3) = v0 c
          ∧ r.2.mem ((c.tc : Thread Cert.OddLeftRefIdeal.nD Cert.OddLeftRefIdeal.τ).loc Cert.OddLeftRefIdeal.main_arg0) = m' ((c.tc : Thread Cert.OddLeftRefIdeal.nD Cert.OddLeftRefIdeal.τ).loc Cert.OddLeftRefIdeal.main_arg0)
          ∧ r.2.mem ((c.tc : Thread Cert.OddLeftRefIdeal.nD Cert.OddLeftRefIdeal.τ).loc Cert.OddLeftRefIdeal.main_arg1) = m' ((c.tc : Thread Cert.OddLeftRefIdeal.nD Cert.OddLeftRefIdeal.τ).loc Cert.OddLeftRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v2_0)) (v1 : (c : Dev Cert.OddInIdeal.nD) → Buf (Elt Ideal) ((c.tc : Thread Cert.OddInIdeal.nD Cert.OddInIdeal.τ).loc Cert.OddInIdeal.main_v2_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2_0) = v0 c
          ∧ r.2.mem ((c.tc : Thread Cert.OddInIdeal.nD Cert.OddInIdeal.τ).loc Cert.OddInIdeal.main_v2_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v4) = v0 c
          ∧ r.2.mem ((c.tc : Thread Cert.OddInRefIdeal.nD Cert.OddInRefIdeal.τ).loc Cert.OddInRefIdeal.main_v11) = v1 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OddRight_OddRightIdeal : Prop :=
  True

def algebraic_OddRightIdeal_OddRightRefIdeal [hOddRightIdeal : Cert.OddRightIdeal.Facts] [hOddRightRefIdeal : Cert.OddRightRefIdeal.Facts] : Prop :=
  ∀ (m : (ℓ : Loc Cert.OddRightIdeal.nD Cert.OddRightIdeal.τ Cert.OddRightIdeal.sig) → Buf (Elt Ideal) ℓ) (g : Dev Cert.OddRightIdeal.nD → PrngReg)
    (m' : (ℓ : Loc Cert.OddRightRefIdeal.nD Cert.OddRightRefIdeal.τ Cert.OddRightRefIdeal.sig) → Buf (Elt Ideal) ℓ) (g' : Dev Cert.OddRightRefIdeal.nD → PrngReg), Pre_OddRightIdeal m →
    (∀ c : Dev Cert.OddRightIdeal.nD,
      m' ((c.tc : Thread Cert.OddRightRefIdeal.nD Cert.OddRightRefIdeal.τ).loc Cert.OddRightRefIdeal.main_arg0) = m ((c.tc : Thread Cert.OddRightIdeal.nD Cert.OddRightIdeal.τ).loc Cert.OddRightIdeal.main_arg0)
      ∧ m' ((c.tc : Thread Cert.OddRightRefIdeal.nD Cert.OddRightRefIdeal.τ).loc Cert.OddRightRefIdeal.main_arg1) = m ((c.tc : Thread Cert.OddRightIdeal.nD Cert.OddRightIdeal.τ).loc Cert.OddRightIdeal.main_arg1)) →
    ∃ (v0 : (c : Dev Cert.OddRightIdeal.nD) → Buf (Elt Ideal) ((c.tc : Thread Cert.OddRightIdeal.nD Cert.OddRightIdeal.τ).loc Cert.OddRightIdeal.main_v2)),
      θ_run (Cert.OddRightIdeal.defs (F := Ideal)) (onTc (τ := Cert.OddRightIdeal.τ) (Cert.OddRightIdeal.main (F := Ideal))) ⟨m, fun _ => 0, g⟩ (fun r => ∀ c : Dev Cert.OddRightIdeal.nD,
          r.2.mem ((c.tc : Thread Cert.OddRightIdeal.nD Cert.OddRightIdeal.τ).loc Cert.OddRightIdeal.main_v2) = v0 c
          ∧ r.2.mem ((c.tc : Thread Cert.OddRightIdeal.nD Cert.OddRightIdeal.τ).loc Cert.OddRightIdeal.main_arg0) = m ((c.tc : Thread Cert.OddRightIdeal.nD Cert.OddRightIdeal.τ).loc Cert.OddRightIdeal.main_arg0)
          ∧ r.2.mem ((c.tc : Thread Cert.OddRightIdeal.nD Cert.OddRightIdeal.τ).loc Cert.OddRightIdeal.main_arg1) = m ((c.tc : Thread Cert.OddRightIdeal.nD Cert.OddRightIdeal.τ).loc Cert.OddRightIdeal.main_arg1))
      ∧ θ_run (Cert.OddRightRefIdeal.defs (F := Ideal)) (onTc (τ := Cert.OddRightRefIdeal.τ) (Cert.OddRightRefIdeal.main (F := Ideal))) ⟨m', fun _ => 0, g'⟩ (fun r => ∀ c : Dev Cert.OddRightRefIdeal.nD,
          r.2.mem ((c.tc : Thread Cert.OddRightRefIdeal.nD Cert.OddRightRefIdeal.τ).loc Cert.OddRightRefIdeal.main_v6) = v0 c
          ∧ r.2.mem ((c.tc : Thread Cert.OddRightRefIdeal.nD Cert.OddRightRefIdeal.τ).loc Cert.OddRightRefIdeal.main_arg0) = m' ((c.tc : Thread Cert.OddRightRefIdeal.nD Cert.OddRightRefIdeal.τ).loc Cert.OddRightRefIdeal.main_arg0)
          ∧ r.2.mem ((c.tc : Thread Cert.OddRightRefIdeal.nD Cert.OddRightRefIdeal.τ).loc Cert.OddRightRefIdeal.main_arg1) = m' ((c.tc : Thread Cert.OddRightRefIdeal.nD Cert.OddRightRefIdeal.τ).loc Cert.OddRightRefIdeal.main_arg1))

def preserves_EvenLeft_EvenLeftIdeal : Prop :=
  True

def algebraic_EvenLeftIdeal_EvenLeftRefIdeal [hEvenLeftIdeal : Cert.EvenLeftIdeal.Facts] [hEvenLeftRefIdeal : Cert.EvenLeftRefIdeal.Facts] : Prop :=
  ∀ (m : (ℓ : Loc Cert.EvenLeftIdeal.nD Cert.EvenLeftIdeal.τ Cert.EvenLeftIdeal.sig) → Buf (Elt Ideal) ℓ) (g : Dev Cert.EvenLeftIdeal.nD → PrngReg)
    (m' : (ℓ : Loc Cert.EvenLeftRefIdeal.nD Cert.EvenLeftRefIdeal.τ Cert.EvenLeftRefIdeal.sig) → Buf (Elt Ideal) ℓ) (g' : Dev Cert.EvenLeftRefIdeal.nD → PrngReg), Pre_EvenLeftIdeal m →
    (∀ c : Dev Cert.EvenLeftIdeal.nD,
      m' ((c.tc : Thread Cert.EvenLeftRefIdeal.nD Cert.EvenLeftRefIdeal.τ).loc Cert.EvenLeftRefIdeal.main_arg0) = m ((c.tc : Thread Cert.EvenLeftIdeal.nD Cert.EvenLeftIdeal.τ).loc Cert.EvenLeftIdeal.main_arg0)
      ∧ m' ((c.tc : Thread Cert.EvenLeftRefIdeal.nD Cert.EvenLeftRefIdeal.τ).loc Cert.EvenLeftRefIdeal.main_arg1) = m ((c.tc : Thread Cert.EvenLeftIdeal.nD Cert.EvenLeftIdeal.τ).loc Cert.EvenLeftIdeal.main_arg1)) →
    ∃ (v0 : (c : Dev Cert.EvenLeftIdeal.nD) → Buf (Elt Ideal) ((c.tc : Thread Cert.EvenLeftIdeal.nD Cert.EvenLeftIdeal.τ).loc Cert.EvenLeftIdeal.main_v21)),
      θ_run (Cert.EvenLeftIdeal.defs (F := Ideal)) (onTc (τ := Cert.EvenLeftIdeal.τ) (Cert.EvenLeftIdeal.main (F := Ideal))) ⟨m, fun _ => 0, g⟩ (fun r => ∀ c : Dev Cert.EvenLeftIdeal.nD,
          r.2.mem ((c.tc : Thread Cert.EvenLeftIdeal.nD Cert.EvenLeftIdeal.τ).loc Cert.EvenLeftIdeal.main_v21) = v0 c
          ∧ r.2.mem ((c.tc : Thread Cert.EvenLeftIdeal.nD Cert.EvenLeftIdeal.τ).loc Cert.EvenLeftIdeal.main_arg0) = m ((c.tc : Thread Cert.EvenLeftIdeal.nD Cert.EvenLeftIdeal.τ).loc Cert.EvenLeftIdeal.main_arg0)
          ∧ r.2.mem ((c.tc : Thread Cert.EvenLeftIdeal.nD Cert.EvenLeftIdeal.τ).loc Cert.EvenLeftIdeal.main_arg1) = m ((c.tc : Thread Cert.EvenLeftIdeal.nD Cert.EvenLeftIdeal.τ).loc Cert.EvenLeftIdeal.main_arg1))
      ∧ θ_run (Cert.EvenLeftRefIdeal.defs (F := Ideal)) (onTc (τ := Cert.EvenLeftRefIdeal.τ) (Cert.EvenLeftRefIdeal.main (F := Ideal))) ⟨m', fun _ => 0, g'⟩ (fun r => ∀ c : Dev Cert.EvenLeftRefIdeal.nD,
          r.2.mem ((c.tc : Thread Cert.EvenLeftRefIdeal.nD Cert.EvenLeftRefIdeal.τ).loc Cert.EvenLeftRefIdeal.main_v3) = v0 c
          ∧ r.2.mem ((c.tc : Thread Cert.EvenLeftRefIdeal.nD Cert.EvenLeftRefIdeal.τ).loc Cert.EvenLeftRefIdeal.main_arg0) = m' ((c.tc : Thread Cert.EvenLeftRefIdeal.nD Cert.EvenLeftRefIdeal.τ).loc Cert.EvenLeftRefIdeal.main_arg0)
          ∧ r.2.mem ((c.tc : Thread Cert.EvenLeftRefIdeal.nD Cert.EvenLeftRefIdeal.τ).loc Cert.EvenLeftRefIdeal.main_arg1) = m' ((c.tc : Thread Cert.EvenLeftRefIdeal.nD Cert.EvenLeftRefIdeal.τ).loc Cert.EvenLeftRefIdeal.main_arg1))

def preserves_EvenRight_EvenRightIdeal : Prop :=
  True

def algebraic_EvenRightIdeal_EvenRightRefIdeal [hEvenRightIdeal : Cert.EvenRightIdeal.Facts] [hEvenRightRefIdeal : Cert.EvenRightRefIdeal.Facts] : Prop :=
  ∀ (m : (ℓ : Loc Cert.EvenRightIdeal.nD Cert.EvenRightIdeal.τ Cert.EvenRightIdeal.sig) → Buf (Elt Ideal) ℓ) (g : Dev Cert.EvenRightIdeal.nD → PrngReg)
    (m' : (ℓ : Loc Cert.EvenRightRefIdeal.nD Cert.EvenRightRefIdeal.τ Cert.EvenRightRefIdeal.sig) → Buf (Elt Ideal) ℓ) (g' : Dev Cert.EvenRightRefIdeal.nD → PrngReg), Pre_EvenRightIdeal m →
    (∀ c : Dev Cert.EvenRightIdeal.nD,
      m' ((c.tc : Thread Cert.EvenRightRefIdeal.nD Cert.EvenRightRefIdeal.τ).loc Cert.EvenRightRefIdeal.main_arg0) = m ((c.tc : Thread Cert.EvenRightIdeal.nD Cert.EvenRightIdeal.τ).loc Cert.EvenRightIdeal.main_arg0)
      ∧ m' ((c.tc : Thread Cert.EvenRightRefIdeal.nD Cert.EvenRightRefIdeal.τ).loc Cert.EvenRightRefIdeal.main_arg1) = m ((c.tc : Thread Cert.EvenRightIdeal.nD Cert.EvenRightIdeal.τ).loc Cert.EvenRightIdeal.main_arg1)) →
    ∃ (v0 : (c : Dev Cert.EvenRightIdeal.nD) → Buf (Elt Ideal) ((c.tc : Thread Cert.EvenRightIdeal.nD Cert.EvenRightIdeal.τ).loc Cert.EvenRightIdeal.main_v13)),
      θ_run (Cert.EvenRightIdeal.defs (F := Ideal)) (onTc (τ := Cert.EvenRightIdeal.τ) (Cert.EvenRightIdeal.main (F := Ideal))) ⟨m, fun _ => 0, g⟩ (fun r => ∀ c : Dev Cert.EvenRightIdeal.nD,
          r.2.mem ((c.tc : Thread Cert.EvenRightIdeal.nD Cert.EvenRightIdeal.τ).loc Cert.EvenRightIdeal.main_v13) = v0 c
          ∧ r.2.mem ((c.tc : Thread Cert.EvenRightIdeal.nD Cert.EvenRightIdeal.τ).loc Cert.EvenRightIdeal.main_arg0) = m ((c.tc : Thread Cert.EvenRightIdeal.nD Cert.EvenRightIdeal.τ).loc Cert.EvenRightIdeal.main_arg0)
          ∧ r.2.mem ((c.tc : Thread Cert.EvenRightIdeal.nD Cert.EvenRightIdeal.τ).loc Cert.EvenRightIdeal.main_arg1) = m ((c.tc : Thread Cert.EvenRightIdeal.nD Cert.EvenRightIdeal.τ).loc Cert.EvenRightIdeal.main_arg1))
      ∧ θ_run (Cert.EvenRightRefIdeal.defs (F := Ideal)) (onTc (τ := Cert.EvenRightRefIdeal.τ) (Cert.EvenRightRefIdeal.main (F := Ideal))) ⟨m', fun _ => 0, g'⟩ (fun r => ∀ c : Dev Cert.EvenRightRefIdeal.nD,
          r.2.mem ((c.tc : Thread Cert.EvenRightRefIdeal.nD Cert.EvenRightRefIdeal.τ).loc Cert.EvenRightRefIdeal.main_v13) = v0 c
          ∧ r.2.mem ((c.tc : Thread Cert.EvenRightRefIdeal.nD Cert.EvenRightRefIdeal.τ).loc Cert.EvenRightRefIdeal.main_arg0) = m' ((c.tc : Thread Cert.EvenRightRefIdeal.nD Cert.EvenRightRefIdeal.τ).loc Cert.EvenRightRefIdeal.main_arg0)
          ∧ r.2.mem ((c.tc : Thread Cert.EvenRightRefIdeal.nD Cert.EvenRightRefIdeal.τ).loc Cert.EvenRightRefIdeal.main_arg1) = m' ((c.tc : Thread Cert.EvenRightRefIdeal.nD Cert.EvenRightRefIdeal.τ).loc Cert.EvenRightRefIdeal.main_arg1))

def preserves_OutProduct_OutProductIdeal : Prop :=
  True

def algebraic_OutProductIdeal_OutProductRefIdeal [hOutProductIdeal : Cert.OutProductIdeal.Facts] [hOutProductRefIdeal : Cert.OutProductRefIdeal.Facts] : Prop :=
  ∀ (m : (ℓ : Loc Cert.OutProductIdeal.nD Cert.OutProductIdeal.τ Cert.OutProductIdeal.sig) → Buf (Elt Ideal) ℓ) (g : Dev Cert.OutProductIdeal.nD → PrngReg)
    (m' : (ℓ : Loc Cert.OutProductRefIdeal.nD Cert.OutProductRefIdeal.τ Cert.OutProductRefIdeal.sig) → Buf (Elt Ideal) ℓ) (g' : Dev Cert.OutProductRefIdeal.nD → PrngReg), Pre_OutProductIdeal m →
    (∀ c : Dev Cert.OutProductIdeal.nD,
      m' ((c.tc : Thread Cert.OutProductRefIdeal.nD Cert.OutProductRefIdeal.τ).loc Cert.OutProductRefIdeal.main_arg0) = m ((c.tc : Thread Cert.OutProductIdeal.nD Cert.OutProductIdeal.τ).loc Cert.OutProductIdeal.main_arg0)
      ∧ m' ((c.tc : Thread Cert.OutProductRefIdeal.nD Cert.OutProductRefIdeal.τ).loc Cert.OutProductRefIdeal.main_arg1) = m ((c.tc : Thread Cert.OutProductIdeal.nD Cert.OutProductIdeal.τ).loc Cert.OutProductIdeal.main_arg1)) →
    ∃ (v0 : (c : Dev Cert.OutProductIdeal.nD) → Buf (Elt Ideal) ((c.tc : Thread Cert.OutProductIdeal.nD Cert.OutProductIdeal.τ).loc Cert.OutProductIdeal.main_v2)),
      θ_run (Cert.OutProductIdeal.defs (F := Ideal)) (onTc (τ := Cert.OutProductIdeal.τ) (Cert.OutProductIdeal.main (F := Ideal))) ⟨m, fun _ => 0, g⟩ (fun r => ∀ c : Dev Cert.OutProductIdeal.nD,
          r.2.mem ((c.tc : Thread Cert.OutProductIdeal.nD Cert.OutProductIdeal.τ).loc Cert.OutProductIdeal.main_v2) = v0 c
          ∧ r.2.mem ((c.tc : Thread Cert.OutProductIdeal.nD Cert.OutProductIdeal.τ).loc Cert.OutProductIdeal.main_arg0) = m ((c.tc : Thread Cert.OutProductIdeal.nD Cert.OutProductIdeal.τ).loc Cert.OutProductIdeal.main_arg0)
          ∧ r.2.mem ((c.tc : Thread Cert.OutProductIdeal.nD Cert.OutProductIdeal.τ).loc Cert.OutProductIdeal.main_arg1) = m ((c.tc : Thread Cert.OutProductIdeal.nD Cert.OutProductIdeal.τ).loc Cert.OutProductIdeal.main_arg1))
      ∧ θ_run (Cert.OutProductRefIdeal.defs (F := Ideal)) (onTc (τ := Cert.OutProductRefIdeal.τ) (Cert.OutProductRefIdeal.main (F := Ideal))) ⟨m', fun _ => 0, g'⟩ (fun r => ∀ c : Dev Cert.OutProductRefIdeal.nD,
          r.2.mem ((c.tc : Thread Cert.OutProductRefIdeal.nD Cert.OutProductRefIdeal.τ).loc Cert.OutProductRefIdeal.main_v1) = v0 c
          ∧ r.2.mem ((c.tc : Thread Cert.OutProductRefIdeal.nD Cert.OutProductRefIdeal.τ).loc Cert.OutProductRefIdeal.main_arg0) = m' ((c.tc : Thread Cert.OutProductRefIdeal.nD Cert.OutProductRefIdeal.τ).loc Cert.OutProductRefIdeal.main_arg0)
          ∧ r.2.mem ((c.tc : Thread Cert.OutProductRefIdeal.nD Cert.OutProductRefIdeal.τ).loc Cert.OutProductRefIdeal.main_arg1) = m' ((c.tc : Thread Cert.OutProductRefIdeal.nD Cert.OutProductRefIdeal.τ).loc Cert.OutProductRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)) →
    ∃ (v0 : (c : Dev Cert.EvenInIdeal.nD) → Buf (Elt Ideal) ((c.tc : Thread Cert.EvenInIdeal.nD Cert.EvenInIdeal.τ).loc Cert.EvenInIdeal.main_v12_0)) (v1 : (c : Dev Cert.EvenInIdeal.nD) → Buf (Elt Ideal) ((c.tc : Thread Cert.EvenInIdeal.nD Cert.EvenInIdeal.τ).loc Cert.EvenInIdeal.main_v12_1)) (v2 : (c : Dev Cert.EvenInIdeal.nD) → Buf (Elt Ideal) ((c.tc : Thread Cert.EvenInIdeal.nD Cert.EvenInIdeal.τ).loc Cert.EvenInIdeal.main_v12_2)) (v3 : (c : Dev Cert.EvenInIdeal.nD) → Buf (Elt Ideal) ((c.tc : Thread Cert.EvenInIdeal.nD Cert.EvenInIdeal.τ).loc Cert.EvenInIdeal.main_v12_3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v12_0) = v0 c
          ∧ r.2.mem ((c.tc : Thread Cert.EvenInIdeal.nD Cert.EvenInIdeal.τ).loc Cert.EvenInIdeal.main_v12_1) = v1 c
          ∧ r.2.mem ((c.tc : Thread Cert.EvenInIdeal.nD Cert.EvenInIdeal.τ).loc Cert.EvenInIdeal.main_v12_2) = v2 c
          ∧ r.2.mem ((c.tc : Thread Cert.EvenInIdeal.nD Cert.EvenInIdeal.τ).loc Cert.EvenInIdeal.main_v12_3) = v3 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v17) = v0 c
          ∧ r.2.mem ((c.tc : Thread Cert.EvenInRefIdeal.nD Cert.EvenInRefIdeal.τ).loc Cert.EvenInRefIdeal.main_v18) = v1 c
          ∧ r.2.mem ((c.tc : Thread Cert.EvenInRefIdeal.nD Cert.EvenInRefIdeal.τ).loc Cert.EvenInRefIdeal.main_v32) = v2 c
          ∧ r.2.mem ((c.tc : Thread Cert.EvenInRefIdeal.nD Cert.EvenInRefIdeal.τ).loc Cert.EvenInRefIdeal.main_v46) = v3 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3))

def preserves_Forward_ForwardIdeal : Prop :=
  IdealRules.named_const.Statement Cert.ForwardIdeal.κ "neg" .f32 0xF149F2CA#32 ⊥
  ∧ IdealRules.named_const.Statement Cert.ForwardIdeal.κ "log2e" .f32 0x3FB8AA3B#32 (((Real.log 2)⁻¹ : ℝ) : EReal)

def algebraic_ForwardIdeal_ForwardRefIdeal_pre_finite11 [hForwardIdeal : Cert.ForwardIdeal.Facts] [hForwardRefIdeal : Cert.ForwardRefIdeal.Facts] [hPre_finite11 : Cert.Pre_finite11.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal_finite11 m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v25_0)) (v1 : (c : Dev Cert.ForwardIdeal.nD) → Buf (Elt Ideal) ((c.tc : Thread Cert.ForwardIdeal.nD Cert.ForwardIdeal.τ).loc Cert.ForwardIdeal.main_v25_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v25_0) = v0 c
          ∧ r.2.mem ((c.tc : Thread Cert.ForwardIdeal.nD Cert.ForwardIdeal.τ).loc Cert.ForwardIdeal.main_v25_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v47) = v0 c
          ∧ r.2.mem ((c.tc : Thread Cert.ForwardRefIdeal.nD Cert.ForwardRefIdeal.τ).loc Cert.ForwardRefIdeal.main_v48) = v1 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2))

def preserves_StepShared_StepSharedIdeal : Prop :=
  True

def algebraic_StepSharedIdeal_StepSharedRefIdeal [hStepSharedIdeal : Cert.StepSharedIdeal.Facts] [hStepSharedRefIdeal : Cert.StepSharedRefIdeal.Facts] : Prop :=
  ∀ (m : (ℓ : Loc Cert.StepSharedIdeal.nD Cert.StepSharedIdeal.τ Cert.StepSharedIdeal.sig) → Buf (Elt Ideal) ℓ) (g : Dev Cert.StepSharedIdeal.nD → PrngReg)
    (m' : (ℓ : Loc Cert.StepSharedRefIdeal.nD Cert.StepSharedRefIdeal.τ Cert.StepSharedRefIdeal.sig) → Buf (Elt Ideal) ℓ) (g' : Dev Cert.StepSharedRefIdeal.nD → PrngReg), Pre_StepSharedIdeal m →
    (∀ c : Dev Cert.StepSharedIdeal.nD,
      m' ((c.tc : Thread Cert.StepSharedRefIdeal.nD Cert.StepSharedRefIdeal.τ).loc Cert.StepSharedRefIdeal.main_arg0) = m ((c.tc : Thread Cert.StepSharedIdeal.nD Cert.StepSharedIdeal.τ).loc Cert.StepSharedIdeal.main_arg0)
      ∧ m' ((c.tc : Thread Cert.StepSharedRefIdeal.nD Cert.StepSharedRefIdeal.τ).loc Cert.StepSharedRefIdeal.main_arg1) = m ((c.tc : Thread Cert.StepSharedIdeal.nD Cert.StepSharedIdeal.τ).loc Cert.StepSharedIdeal.main_arg1)
      ∧ m' ((c.tc : Thread Cert.StepSharedRefIdeal.nD Cert.StepSharedRefIdeal.τ).loc Cert.StepSharedRefIdeal.main_arg2) = m ((c.tc : Thread Cert.StepSharedIdeal.nD Cert.StepSharedIdeal.τ).loc Cert.StepSharedIdeal.main_arg2)
      ∧ m' ((c.tc : Thread Cert.StepSharedRefIdeal.nD Cert.StepSharedRefIdeal.τ).loc Cert.StepSharedRefIdeal.main_arg3) = m ((c.tc : Thread Cert.StepSharedIdeal.nD Cert.StepSharedIdeal.τ).loc Cert.StepSharedIdeal.main_arg3)) →
    ∃ (v0 : (c : Dev Cert.StepSharedIdeal.nD) → Buf (Elt Ideal) ((c.tc : Thread Cert.StepSharedIdeal.nD Cert.StepSharedIdeal.τ).loc Cert.StepSharedIdeal.main_v0_0)) (v1 : (c : Dev Cert.StepSharedIdeal.nD) → Buf (Elt Ideal) ((c.tc : Thread Cert.StepSharedIdeal.nD Cert.StepSharedIdeal.τ).loc Cert.StepSharedIdeal.main_v0_1)) (v2 : (c : Dev Cert.StepSharedIdeal.nD) → Buf (Elt Ideal) ((c.tc : Thread Cert.StepSharedIdeal.nD Cert.StepSharedIdeal.τ).loc Cert.StepSharedIdeal.main_v0_2)) (v3 : (c : Dev Cert.StepSharedIdeal.nD) → Buf (Elt Ideal) ((c.tc : Thread Cert.StepSharedIdeal.nD Cert.StepSharedIdeal.τ).loc Cert.StepSharedIdeal.main_v0_3)),
      θ_run (Cert.StepSharedIdeal.defs (F := Ideal)) (onTc (τ := Cert.StepSharedIdeal.τ) (Cert.StepSharedIdeal.main (F := Ideal))) ⟨m, fun _ => 0, g⟩ (fun r => ∀ c : Dev Cert.StepSharedIdeal.nD,
          r.2.mem ((c.tc : Thread Cert.StepSharedIdeal.nD Cert.StepSharedIdeal.τ).loc Cert.StepSharedIdeal.main_v0_0) = v0 c
          ∧ r.2.mem ((c.tc : Thread Cert.StepSharedIdeal.nD Cert.StepSharedIdeal.τ).loc Cert.StepSharedIdeal.main_v0_1) = v1 c
          ∧ r.2.mem ((c.tc : Thread Cert.StepSharedIdeal.nD Cert.StepSharedIdeal.τ).loc Cert.StepSharedIdeal.main_v0_2) = v2 c
          ∧ r.2.mem ((c.tc : Thread Cert.StepSharedIdeal.nD Cert.StepSharedIdeal.τ).loc Cert.StepSharedIdeal.main_v0_3) = v3 c
          ∧ r.2.mem ((c.tc : Thread Cert.StepSharedIdeal.nD Cert.StepSharedIdeal.τ).loc Cert.StepSharedIdeal.main_arg0) = m ((c.tc : Thread Cert.StepSharedIdeal.nD Cert.StepSharedIdeal.τ).loc Cert.StepSharedIdeal.main_arg0)
          ∧ r.2.mem ((c.tc : Thread Cert.StepSharedIdeal.nD Cert.StepSharedIdeal.τ).loc Cert.StepSharedIdeal.main_arg1) = m ((c.tc : Thread Cert.StepSharedIdeal.nD Cert.StepSharedIdeal.τ).loc Cert.StepSharedIdeal.main_arg1)
          ∧ r.2.mem ((c.tc : Thread Cert.StepSharedIdeal.nD Cert.StepSharedIdeal.τ).loc Cert.StepSharedIdeal.main_arg2) = m ((c.tc : Thread Cert.StepSharedIdeal.nD Cert.StepSharedIdeal.τ).loc Cert.StepSharedIdeal.main_arg2)
          ∧ r.2.mem ((c.tc : Thread Cert.StepSharedIdeal.nD Cert.StepSharedIdeal.τ).loc Cert.StepSharedIdeal.main_arg3) = m ((c.tc : Thread Cert.StepSharedIdeal.nD Cert.StepSharedIdeal.τ).loc Cert.StepSharedIdeal.main_arg3))
      ∧ θ_run (Cert.StepSharedRefIdeal.defs (F := Ideal)) (onTc (τ := Cert.StepSharedRefIdeal.τ) (Cert.StepSharedRefIdeal.main (F := Ideal))) ⟨m', fun _ => 0, g'⟩ (fun r => ∀ c : Dev Cert.StepSharedRefIdeal.nD,
          r.2.mem ((c.tc : Thread Cert.StepSharedRefIdeal.nD Cert.StepSharedRefIdeal.τ).loc Cert.StepSharedRefIdeal.main_v0) = v0 c
          ∧ r.2.mem ((c.tc : Thread Cert.StepSharedRefIdeal.nD Cert.StepSharedRefIdeal.τ).loc Cert.StepSharedRefIdeal.main_v24) = v1 c
          ∧ r.2.mem ((c.tc : Thread Cert.StepSharedRefIdeal.nD Cert.StepSharedRefIdeal.τ).loc Cert.StepSharedRefIdeal.main_v5) = v2 c
          ∧ r.2.mem ((c.tc : Thread Cert.StepSharedRefIdeal.nD Cert.StepSharedRefIdeal.τ).loc Cert.StepSharedRefIdeal.main_v11) = v3 c
          ∧ r.2.mem ((c.tc : Thread Cert.StepSharedRefIdeal.nD Cert.StepSharedRefIdeal.τ).loc Cert.StepSharedRefIdeal.main_arg0) = m' ((c.tc : Thread Cert.StepSharedRefIdeal.nD Cert.StepSharedRefIdeal.τ).loc Cert.StepSharedRefIdeal.main_arg0)
          ∧ r.2.mem ((c.tc : Thread Cert.StepSharedRefIdeal.nD Cert.StepSharedRefIdeal.τ).loc Cert.StepSharedRefIdeal.main_arg1) = m' ((c.tc : Thread Cert.StepSharedRefIdeal.nD Cert.StepSharedRefIdeal.τ).loc Cert.StepSharedRefIdeal.main_arg1)
          ∧ r.2.mem ((c.tc : Thread Cert.StepSharedRefIdeal.nD Cert.StepSharedRefIdeal.τ).loc Cert.StepSharedRefIdeal.main_arg2) = m' ((c.tc : Thread Cert.StepSharedRefIdeal.nD Cert.StepSharedRefIdeal.τ).loc Cert.StepSharedRefIdeal.main_arg2)
          ∧ r.2.mem ((c.tc : Thread Cert.StepSharedRefIdeal.nD Cert.StepSharedRefIdeal.τ).loc Cert.StepSharedRefIdeal.main_arg3) = m' ((c.tc : Thread Cert.StepSharedRefIdeal.nD Cert.StepSharedRefIdeal.τ).loc Cert.StepSharedRefIdeal.main_arg3))

def preserves_StepAda_StepAdaIdeal : Prop :=
  True

def algebraic_StepAdaIdeal_StepAdaRefIdeal [hStepAdaIdeal : Cert.StepAdaIdeal.Facts] [hStepAdaRefIdeal : Cert.StepAdaRefIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg)
    (m' : (ℓ : Loc Cert.StepAdaRefIdeal.nD Cert.StepAdaRefIdeal.τ Cert.StepAdaRefIdeal.sig) → Buf (Elt Ideal) ℓ) (g' : Dev Cert.StepAdaRefIdeal.nD → PrngReg), Pre_StepAdaIdeal m →
    (∀ c : Dev Cert.StepAdaIdeal.nD,
      m' ((c.tc : Thread Cert.StepAdaRefIdeal.nD Cert.StepAdaRefIdeal.τ).loc Cert.StepAdaRefIdeal.main_arg0) = m ((c.tc : Thread Cert.StepAdaIdeal.nD Cert.StepAdaIdeal.τ).loc Cert.StepAdaIdeal.main_arg0)
      ∧ m' ((c.tc : Thread Cert.StepAdaRefIdeal.nD Cert.StepAdaRefIdeal.τ).loc Cert.StepAdaRefIdeal.main_arg1) = m ((c.tc : Thread Cert.StepAdaIdeal.nD Cert.StepAdaIdeal.τ).loc Cert.StepAdaIdeal.main_arg1)
      ∧ m' ((c.tc : Thread Cert.StepAdaRefIdeal.nD Cert.StepAdaRefIdeal.τ).loc Cert.StepAdaRefIdeal.main_arg2) = m ((c.tc : Thread Cert.StepAdaIdeal.nD Cert.StepAdaIdeal.τ).loc Cert.StepAdaIdeal.main_arg2)
      ∧ m' ((c.tc : Thread Cert.StepAdaRefIdeal.nD Cert.StepAdaRefIdeal.τ).loc Cert.StepAdaRefIdeal.main_arg3) = m ((c.tc : Thread Cert.StepAdaIdeal.nD Cert.StepAdaIdeal.τ).loc Cert.StepAdaIdeal.main_arg3)) →
    ∃ (v0 : (c : Dev Cert.StepAdaIdeal.nD) → Buf (Elt Ideal) ((c.tc : Thread Cert.StepAdaIdeal.nD Cert.StepAdaIdeal.τ).loc Cert.StepAdaIdeal.main_v0_0)) (v1 : (c : Dev Cert.StepAdaIdeal.nD) → Buf (Elt Ideal) ((c.tc : Thread Cert.StepAdaIdeal.nD Cert.StepAdaIdeal.τ).loc Cert.StepAdaIdeal.main_v0_1)) (v2 : (c : Dev Cert.StepAdaIdeal.nD) → Buf (Elt Ideal) ((c.tc : Thread Cert.StepAdaIdeal.nD Cert.StepAdaIdeal.τ).loc Cert.StepAdaIdeal.main_v0_2)) (v3 : (c : Dev Cert.StepAdaIdeal.nD) → Buf (Elt Ideal) ((c.tc : Thread Cert.StepAdaIdeal.nD Cert.StepAdaIdeal.τ).loc Cert.StepAdaIdeal.main_v0_3)),
      θ_run (Cert.StepAdaIdeal.defs (F := Ideal)) (onTc (τ := Cert.StepAdaIdeal.τ) (Cert.StepAdaIdeal.main (F := Ideal))) ⟨m, fun _ => 0, g⟩ (fun r => ∀ c : Dev Cert.StepAdaIdeal.nD,
          r.2.mem ((c.tc : Thread Cert.StepAdaIdeal.nD Cert.StepAdaIdeal.τ).loc Cert.StepAdaIdeal.main_v0_0) = v0 c
          ∧ r.2.mem ((c.tc : Thread Cert.StepAdaIdeal.nD Cert.StepAdaIdeal.τ).loc Cert.StepAdaIdeal.main_v0_1) = v1 c
          ∧ r.2.mem ((c.tc : Thread Cert.StepAdaIdeal.nD Cert.StepAdaIdeal.τ).loc Cert.StepAdaIdeal.main_v0_2) = v2 c
          ∧ r.2.mem ((c.tc : Thread Cert.StepAdaIdeal.nD Cert.StepAdaIdeal.τ).loc Cert.StepAdaIdeal.main_v0_3) = v3 c
          ∧ r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
          ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
          ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
          ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ θ_run (Cert.StepAdaRefIdeal.defs (F := Ideal)) (onTc (τ := Cert.StepAdaRefIdeal.τ) (Cert.StepAdaRefIdeal.main (F := Ideal))) ⟨m', fun _ => 0, g'⟩ (fun r => ∀ c : Dev Cert.StepAdaRefIdeal.nD,
          r.2.mem ((c.tc : Thread Cert.StepAdaRefIdeal.nD Cert.StepAdaRefIdeal.τ).loc Cert.StepAdaRefIdeal.main_v0) = v0 c
          ∧ r.2.mem ((c.tc : Thread Cert.StepAdaRefIdeal.nD Cert.StepAdaRefIdeal.τ).loc Cert.StepAdaRefIdeal.main_v24) = v1 c
          ∧ r.2.mem ((c.tc : Thread Cert.StepAdaRefIdeal.nD Cert.StepAdaRefIdeal.τ).loc Cert.StepAdaRefIdeal.main_v5) = v2 c
          ∧ r.2.mem ((c.tc : Thread Cert.StepAdaRefIdeal.nD Cert.StepAdaRefIdeal.τ).loc Cert.StepAdaRefIdeal.main_v11) = v3 c
          ∧ r.2.mem ((c.tc : Thread Cert.StepAdaRefIdeal.nD Cert.StepAdaRefIdeal.τ).loc Cert.StepAdaRefIdeal.main_arg0) = m' ((c.tc : Thread Cert.StepAdaRefIdeal.nD Cert.StepAdaRefIdeal.τ).loc Cert.StepAdaRefIdeal.main_arg0)
          ∧ r.2.mem ((c.tc : Thread Cert.StepAdaRefIdeal.nD Cert.StepAdaRefIdeal.τ).loc Cert.StepAdaRefIdeal.main_arg1) = m' ((c.tc : Thread Cert.StepAdaRefIdeal.nD Cert.StepAdaRefIdeal.τ).loc Cert.StepAdaRefIdeal.main_arg1)
          ∧ r.2.mem ((c.tc : Thread Cert.StepAdaRefIdeal.nD Cert.StepAdaRefIdeal.τ).loc Cert.StepAdaRefIdeal.main_arg2) = m' ((c.tc : Thread Cert.StepAdaRefIdeal.nD Cert.StepAdaRefIdeal.τ).loc Cert.StepAdaRefIdeal.main_arg2)
          ∧ r.2.mem ((c.tc : Thread Cert.StepAdaRefIdeal.nD Cert.StepAdaRefIdeal.τ).loc Cert.StepAdaRefIdeal.main_arg3) = m' ((c.tc : Thread Cert.StepAdaRefIdeal.nD Cert.StepAdaRefIdeal.τ).loc Cert.StepAdaRefIdeal.main_arg3))

def preserves_StepSmall_StepSmallIdeal : Prop :=
  True

def algebraic_StepSmallIdeal_StepSmallRefIdeal [hStepSmallIdeal : Cert.StepSmallIdeal.Facts] [hStepSmallRefIdeal : Cert.StepSmallRefIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallRefIdeal.nD Cert.StepSmallRefIdeal.τ Cert.StepSmallRefIdeal.sig) → Buf (Elt Ideal) ℓ) (g' : Dev Cert.StepSmallRefIdeal.nD → PrngReg), Pre_StepSmallIdeal m →
    (∀ c : Dev Cert.StepSmallIdeal.nD,
      m' ((c.tc : Thread Cert.StepSmallRefIdeal.nD Cert.StepSmallRefIdeal.τ).loc Cert.StepSmallRefIdeal.main_arg0) = m ((c.tc : Thread Cert.StepSmallIdeal.nD Cert.StepSmallIdeal.τ).loc Cert.StepSmallIdeal.main_arg0)
      ∧ m' ((c.tc : Thread Cert.StepSmallRefIdeal.nD Cert.StepSmallRefIdeal.τ).loc Cert.StepSmallRefIdeal.main_arg1) = m ((c.tc : Thread Cert.StepSmallIdeal.nD Cert.StepSmallIdeal.τ).loc Cert.StepSmallIdeal.main_arg1)
      ∧ m' ((c.tc : Thread Cert.StepSmallRefIdeal.nD Cert.StepSmallRefIdeal.τ).loc Cert.StepSmallRefIdeal.main_arg2) = m ((c.tc : Thread Cert.StepSmallIdeal.nD Cert.StepSmallIdeal.τ).loc Cert.StepSmallIdeal.main_arg2)
      ∧ m' ((c.tc : Thread Cert.StepSmallRefIdeal.nD Cert.StepSmallRefIdeal.τ).loc Cert.StepSmallRefIdeal.main_arg3) = m ((c.tc : Thread Cert.StepSmallIdeal.nD Cert.StepSmallIdeal.τ).loc Cert.StepSmallIdeal.main_arg3)
      ∧ m' ((c.tc : Thread Cert.StepSmallRefIdeal.nD Cert.StepSmallRefIdeal.τ).loc Cert.StepSmallRefIdeal.main_arg4) = m ((c.tc : Thread Cert.StepSmallIdeal.nD Cert.StepSmallIdeal.τ).loc Cert.StepSmallIdeal.main_arg4)) →
    ∃ (v0 : (c : Dev Cert.StepSmallIdeal.nD) → Buf (Elt Ideal) ((c.tc : Thread Cert.StepSmallIdeal.nD Cert.StepSmallIdeal.τ).loc Cert.StepSmallIdeal.main_v0_0)) (v1 : (c : Dev Cert.StepSmallIdeal.nD) → Buf (Elt Ideal) ((c.tc : Thread Cert.StepSmallIdeal.nD Cert.StepSmallIdeal.τ).loc Cert.StepSmallIdeal.main_v0_1)) (v2 : (c : Dev Cert.StepSmallIdeal.nD) → Buf (Elt Ideal) ((c.tc : Thread Cert.StepSmallIdeal.nD Cert.StepSmallIdeal.τ).loc Cert.StepSmallIdeal.main_v0_2)) (v3 : (c : Dev Cert.StepSmallIdeal.nD) → Buf (Elt Ideal) ((c.tc : Thread Cert.StepSmallIdeal.nD Cert.StepSmallIdeal.τ).loc Cert.StepSmallIdeal.main_v0_3)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v0_0) = v0 c
          ∧ r.2.mem ((c.tc : Thread Cert.StepSmallIdeal.nD Cert.StepSmallIdeal.τ).loc Cert.StepSmallIdeal.main_v0_1) = v1 c
          ∧ r.2.mem ((c.tc : Thread Cert.StepSmallIdeal.nD Cert.StepSmallIdeal.τ).loc Cert.StepSmallIdeal.main_v0_2) = v2 c
          ∧ r.2.mem ((c.tc : Thread Cert.StepSmallIdeal.nD Cert.StepSmallIdeal.τ).loc Cert.StepSmallIdeal.main_v0_3) = v3 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
          ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4))
      ∧ θ_run (Cert.StepSmallRefIdeal.defs (F := Ideal)) (onTc (τ := Cert.StepSmallRefIdeal.τ) (Cert.StepSmallRefIdeal.main (F := Ideal))) ⟨m', fun _ => 0, g'⟩ (fun r => ∀ c : Dev Cert.StepSmallRefIdeal.nD,
          r.2.mem ((c.tc : Thread Cert.StepSmallRefIdeal.nD Cert.StepSmallRefIdeal.τ).loc Cert.StepSmallRefIdeal.main_v3) = v0 c
          ∧ r.2.mem ((c.tc : Thread Cert.StepSmallRefIdeal.nD Cert.StepSmallRefIdeal.τ).loc Cert.StepSmallRefIdeal.main_v27) = v1 c
          ∧ r.2.mem ((c.tc : Thread Cert.StepSmallRefIdeal.nD Cert.StepSmallRefIdeal.τ).loc Cert.StepSmallRefIdeal.main_v8) = v2 c
          ∧ r.2.mem ((c.tc : Thread Cert.StepSmallRefIdeal.nD Cert.StepSmallRefIdeal.τ).loc Cert.StepSmallRefIdeal.main_v14) = v3 c
          ∧ r.2.mem ((c.tc : Thread Cert.StepSmallRefIdeal.nD Cert.StepSmallRefIdeal.τ).loc Cert.StepSmallRefIdeal.main_arg0) = m' ((c.tc : Thread Cert.StepSmallRefIdeal.nD Cert.StepSmallRefIdeal.τ).loc Cert.StepSmallRefIdeal.main_arg0)
          ∧ r.2.mem ((c.tc : Thread Cert.StepSmallRefIdeal.nD Cert.StepSmallRefIdeal.τ).loc Cert.StepSmallRefIdeal.main_arg1) = m' ((c.tc : Thread Cert.StepSmallRefIdeal.nD Cert.StepSmallRefIdeal.τ).loc Cert.StepSmallRefIdeal.main_arg1)
          ∧ r.2.mem ((c.tc : Thread Cert.StepSmallRefIdeal.nD Cert.StepSmallRefIdeal.τ).loc Cert.StepSmallRefIdeal.main_arg2) = m' ((c.tc : Thread Cert.StepSmallRefIdeal.nD Cert.StepSmallRefIdeal.τ).loc Cert.StepSmallRefIdeal.main_arg2)
          ∧ r.2.mem ((c.tc : Thread Cert.StepSmallRefIdeal.nD Cert.StepSmallRefIdeal.τ).loc Cert.StepSmallRefIdeal.main_arg3) = m' ((c.tc : Thread Cert.StepSmallRefIdeal.nD Cert.StepSmallRefIdeal.τ).loc Cert.StepSmallRefIdeal.main_arg3)
          ∧ r.2.mem ((c.tc : Thread Cert.StepSmallRefIdeal.nD Cert.StepSmallRefIdeal.τ).loc Cert.StepSmallRefIdeal.main_arg4) = m' ((c.tc : Thread Cert.StepSmallRefIdeal.nD Cert.StepSmallRefIdeal.τ).loc Cert.StepSmallRefIdeal.main_arg4))

def preserves_StepOut_StepOutIdeal : Prop :=
  True

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)
      ∧ m' ((c.tc : Thread Cert.StepOutRefIdeal.nD Cert.StepOutRefIdeal.τ).loc Cert.StepOutRefIdeal.main_arg4) = m ((c.tc : Thread Cert.StepOutIdeal.nD Cert.StepOutIdeal.τ).loc Cert.StepOutIdeal.main_arg4)
      ∧ m' ((c.tc : Thread Cert.StepOutRefIdeal.nD Cert.StepOutRefIdeal.τ).loc Cert.StepOutRefIdeal.main_arg5) = m ((c.tc : Thread Cert.StepOutIdeal.nD Cert.StepOutIdeal.τ).loc Cert.StepOutIdeal.main_arg5)
      ∧ m' ((c.tc : Thread Cert.StepOutRefIdeal.nD Cert.StepOutRefIdeal.τ).loc Cert.StepOutRefIdeal.main_arg6) = m ((c.tc : Thread Cert.StepOutIdeal.nD Cert.StepOutIdeal.τ).loc Cert.StepOutIdeal.main_arg6)) →
    ∃ (v0 : (c : Dev Cert.StepOutIdeal.nD) → Buf (Elt Ideal) ((c.tc : Thread Cert.StepOutIdeal.nD Cert.StepOutIdeal.τ).loc Cert.StepOutIdeal.main_v1_0)) (v1 : (c : Dev Cert.StepOutIdeal.nD) → Buf (Elt Ideal) ((c.tc : Thread Cert.StepOutIdeal.nD Cert.StepOutIdeal.τ).loc Cert.StepOutIdeal.main_v1_1)) (v2 : (c : Dev Cert.StepOutIdeal.nD) → Buf (Elt Ideal) ((c.tc : Thread Cert.StepOutIdeal.nD Cert.StepOutIdeal.τ).loc Cert.StepOutIdeal.main_v1_2)) (v3 : (c : Dev Cert.StepOutIdeal.nD) → Buf (Elt Ideal) ((c.tc : Thread Cert.StepOutIdeal.nD Cert.StepOutIdeal.τ).loc Cert.StepOutIdeal.main_v1_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v1_0) = v0 c
          ∧ r.2.mem ((c.tc : Thread Cert.StepOutIdeal.nD Cert.StepOutIdeal.τ).loc Cert.StepOutIdeal.main_v1_1) = v1 c
          ∧ r.2.mem ((c.tc : Thread Cert.StepOutIdeal.nD Cert.StepOutIdeal.τ).loc Cert.StepOutIdeal.main_v1_2) = v2 c
          ∧ r.2.mem ((c.tc : Thread Cert.StepOutIdeal.nD Cert.StepOutIdeal.τ).loc Cert.StepOutIdeal.main_v1_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
          ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
          ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5)
          ∧ r.2.mem ((c.tc : Thread Cert.StepOutIdeal.nD Cert.StepOutIdeal.τ).loc Cert.StepOutIdeal.main_arg6) = m ((c.tc : Thread Cert.StepOutIdeal.nD Cert.StepOutIdeal.τ).loc Cert.StepOutIdeal.main_arg6))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v12) = v0 c
          ∧ r.2.mem ((c.tc : Thread Cert.StepOutRefIdeal.nD Cert.StepOutRefIdeal.τ).loc Cert.StepOutRefIdeal.main_v36) = v1 c
          ∧ r.2.mem ((c.tc : Thread Cert.StepOutRefIdeal.nD Cert.StepOutRefIdeal.τ).loc Cert.StepOutRefIdeal.main_v17) = v2 c
          ∧ r.2.mem ((c.tc : Thread Cert.StepOutRefIdeal.nD Cert.StepOutRefIdeal.τ).loc Cert.StepOutRefIdeal.main_v23) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3)
          ∧ r.2.mem ((c.tc : Thread Cert.StepOutRefIdeal.nD Cert.StepOutRefIdeal.τ).loc Cert.StepOutRefIdeal.main_arg4) = m' ((c.tc : Thread Cert.StepOutRefIdeal.nD Cert.StepOutRefIdeal.τ).loc Cert.StepOutRefIdeal.main_arg4)
          ∧ r.2.mem ((c.tc : Thread Cert.StepOutRefIdeal.nD Cert.StepOutRefIdeal.τ).loc Cert.StepOutRefIdeal.main_arg5) = m' ((c.tc : Thread Cert.StepOutRefIdeal.nD Cert.StepOutRefIdeal.τ).loc Cert.StepOutRefIdeal.main_arg5)
          ∧ r.2.mem ((c.tc : Thread Cert.StepOutRefIdeal.nD Cert.StepOutRefIdeal.τ).loc Cert.StepOutRefIdeal.main_arg6) = m' ((c.tc : Thread Cert.StepOutRefIdeal.nD Cert.StepOutRefIdeal.τ).loc Cert.StepOutRefIdeal.main_arg6))

def preserves_StepEvenIn_StepEvenInIdeal : Prop :=
  True

def algebraic_StepEvenInIdeal_StepEvenInRefIdeal [hStepEvenInIdeal : Cert.StepEvenInIdeal.Facts] [hStepEvenInRefIdeal : Cert.StepEvenInRefIdeal.Facts] : Prop :=
  ∀ (m : (ℓ : Loc Cert.StepEvenInIdeal.nD Cert.StepEvenInIdeal.τ Cert.StepEvenInIdeal.sig) → Buf (Elt Ideal) ℓ) (g : Dev Cert.StepEvenInIdeal.nD → PrngReg)
    (m' : (ℓ : Loc Cert.StepEvenInRefIdeal.nD Cert.StepEvenInRefIdeal.τ Cert.StepEvenInRefIdeal.sig) → Buf (Elt Ideal) ℓ) (g' : Dev Cert.StepEvenInRefIdeal.nD → PrngReg), Pre_StepEvenInIdeal m →
    (∀ c : Dev Cert.StepEvenInIdeal.nD,
      m' ((c.tc : Thread Cert.StepEvenInRefIdeal.nD Cert.StepEvenInRefIdeal.τ).loc Cert.StepEvenInRefIdeal.main_arg0) = m ((c.tc : Thread Cert.StepEvenInIdeal.nD Cert.StepEvenInIdeal.τ).loc Cert.StepEvenInIdeal.main_arg0)
      ∧ m' ((c.tc : Thread Cert.StepEvenInRefIdeal.nD Cert.StepEvenInRefIdeal.τ).loc Cert.StepEvenInRefIdeal.main_arg1) = m ((c.tc : Thread Cert.StepEvenInIdeal.nD Cert.StepEvenInIdeal.τ).loc Cert.StepEvenInIdeal.main_arg1)
      ∧ m' ((c.tc : Thread Cert.StepEvenInRefIdeal.nD Cert.StepEvenInRefIdeal.τ).loc Cert.StepEvenInRefIdeal.main_arg2) = m ((c.tc : Thread Cert.StepEvenInIdeal.nD Cert.StepEvenInIdeal.τ).loc Cert.StepEvenInIdeal.main_arg2)
      ∧ m' ((c.tc : Thread Cert.StepEvenInRefIdeal.nD Cert.StepEvenInRefIdeal.τ).loc Cert.StepEvenInRefIdeal.main_arg3) = m ((c.tc : Thread Cert.StepEvenInIdeal.nD Cert.StepEvenInIdeal.τ).loc Cert.StepEvenInIdeal.main_arg3)
      ∧ m' ((c.tc : Thread Cert.StepEvenInRefIdeal.nD Cert.StepEvenInRefIdeal.τ).loc Cert.StepEvenInRefIdeal.main_arg4) = m ((c.tc : Thread Cert.StepEvenInIdeal.nD Cert.StepEvenInIdeal.τ).loc Cert.StepEvenInIdeal.main_arg4)
      ∧ m' ((c.tc : Thread Cert.StepEvenInRefIdeal.nD Cert.StepEvenInRefIdeal.τ).loc Cert.StepEvenInRefIdeal.main_arg5) = m ((c.tc : Thread Cert.StepEvenInIdeal.nD Cert.StepEvenInIdeal.τ).loc Cert.StepEvenInIdeal.main_arg5)
      ∧ m' ((c.tc : Thread Cert.StepEvenInRefIdeal.nD Cert.StepEvenInRefIdeal.τ).loc Cert.StepEvenInRefIdeal.main_arg6) = m ((c.tc : Thread Cert.StepEvenInIdeal.nD Cert.StepEvenInIdeal.τ).loc Cert.StepEvenInIdeal.main_arg6)) →
    ∃ (v0 : (c : Dev Cert.StepEvenInIdeal.nD) → Buf (Elt Ideal) ((c.tc : Thread Cert.StepEvenInIdeal.nD Cert.StepEvenInIdeal.τ).loc Cert.StepEvenInIdeal.main_v1_0)) (v1 : (c : Dev Cert.StepEvenInIdeal.nD) → Buf (Elt Ideal) ((c.tc : Thread Cert.StepEvenInIdeal.nD Cert.StepEvenInIdeal.τ).loc Cert.StepEvenInIdeal.main_v1_1)) (v2 : (c : Dev Cert.StepEvenInIdeal.nD) → Buf (Elt Ideal) ((c.tc : Thread Cert.StepEvenInIdeal.nD Cert.StepEvenInIdeal.τ).loc Cert.StepEvenInIdeal.main_v1_2)) (v3 : (c : Dev Cert.StepEvenInIdeal.nD) → Buf (Elt Ideal) ((c.tc : Thread Cert.StepEvenInIdeal.nD Cert.StepEvenInIdeal.τ).loc Cert.StepEvenInIdeal.main_v1_3)),
      θ_run (Cert.StepEvenInIdeal.defs (F := Ideal)) (onTc (τ := Cert.StepEvenInIdeal.τ) (Cert.StepEvenInIdeal.main (F := Ideal))) ⟨m, fun _ => 0, g⟩ (fun r => ∀ c : Dev Cert.StepEvenInIdeal.nD,
          r.2.mem ((c.tc : Thread Cert.StepEvenInIdeal.nD Cert.StepEvenInIdeal.τ).loc Cert.StepEvenInIdeal.main_v1_0) = v0 c
          ∧ r.2.mem ((c.tc : Thread Cert.StepEvenInIdeal.nD Cert.StepEvenInIdeal.τ).loc Cert.StepEvenInIdeal.main_v1_1) = v1 c
          ∧ r.2.mem ((c.tc : Thread Cert.StepEvenInIdeal.nD Cert.StepEvenInIdeal.τ).loc Cert.StepEvenInIdeal.main_v1_2) = v2 c
          ∧ r.2.mem ((c.tc : Thread Cert.StepEvenInIdeal.nD Cert.StepEvenInIdeal.τ).loc Cert.StepEvenInIdeal.main_v1_3) = v3 c
          ∧ r.2.mem ((c.tc : Thread Cert.StepEvenInIdeal.nD Cert.StepEvenInIdeal.τ).loc Cert.StepEvenInIdeal.main_arg0) = m ((c.tc : Thread Cert.StepEvenInIdeal.nD Cert.StepEvenInIdeal.τ).loc Cert.StepEvenInIdeal.main_arg0)
          ∧ r.2.mem ((c.tc : Thread Cert.StepEvenInIdeal.nD Cert.StepEvenInIdeal.τ).loc Cert.StepEvenInIdeal.main_arg1) = m ((c.tc : Thread Cert.StepEvenInIdeal.nD Cert.StepEvenInIdeal.τ).loc Cert.StepEvenInIdeal.main_arg1)
          ∧ r.2.mem ((c.tc : Thread Cert.StepEvenInIdeal.nD Cert.StepEvenInIdeal.τ).loc Cert.StepEvenInIdeal.main_arg2) = m ((c.tc : Thread Cert.StepEvenInIdeal.nD Cert.StepEvenInIdeal.τ).loc Cert.StepEvenInIdeal.main_arg2)
          ∧ r.2.mem ((c.tc : Thread Cert.StepEvenInIdeal.nD Cert.StepEvenInIdeal.τ).loc Cert.StepEvenInIdeal.main_arg3) = m ((c.tc : Thread Cert.StepEvenInIdeal.nD Cert.StepEvenInIdeal.τ).loc Cert.StepEvenInIdeal.main_arg3)
          ∧ r.2.mem ((c.tc : Thread Cert.StepEvenInIdeal.nD Cert.StepEvenInIdeal.τ).loc Cert.StepEvenInIdeal.main_arg4) = m ((c.tc : Thread Cert.StepEvenInIdeal.nD Cert.StepEvenInIdeal.τ).loc Cert.StepEvenInIdeal.main_arg4)
          ∧ r.2.mem ((c.tc : Thread Cert.StepEvenInIdeal.nD Cert.StepEvenInIdeal.τ).loc Cert.StepEvenInIdeal.main_arg5) = m ((c.tc : Thread Cert.StepEvenInIdeal.nD Cert.StepEvenInIdeal.τ).loc Cert.StepEvenInIdeal.main_arg5)
          ∧ r.2.mem ((c.tc : Thread Cert.StepEvenInIdeal.nD Cert.StepEvenInIdeal.τ).loc Cert.StepEvenInIdeal.main_arg6) = m ((c.tc : Thread Cert.StepEvenInIdeal.nD Cert.StepEvenInIdeal.τ).loc Cert.StepEvenInIdeal.main_arg6))
      ∧ θ_run (Cert.StepEvenInRefIdeal.defs (F := Ideal)) (onTc (τ := Cert.StepEvenInRefIdeal.τ) (Cert.StepEvenInRefIdeal.main (F := Ideal))) ⟨m', fun _ => 0, g'⟩ (fun r => ∀ c : Dev Cert.StepEvenInRefIdeal.nD,
          r.2.mem ((c.tc : Thread Cert.StepEvenInRefIdeal.nD Cert.StepEvenInRefIdeal.τ).loc Cert.StepEvenInRefIdeal.main_v12) = v0 c
          ∧ r.2.mem ((c.tc : Thread Cert.StepEvenInRefIdeal.nD Cert.StepEvenInRefIdeal.τ).loc Cert.StepEvenInRefIdeal.main_v36) = v1 c
          ∧ r.2.mem ((c.tc : Thread Cert.StepEvenInRefIdeal.nD Cert.StepEvenInRefIdeal.τ).loc Cert.StepEvenInRefIdeal.main_v17) = v2 c
          ∧ r.2.mem ((c.tc : Thread Cert.StepEvenInRefIdeal.nD Cert.StepEvenInRefIdeal.τ).loc Cert.StepEvenInRefIdeal.main_v23) = v3 c
          ∧ r.2.mem ((c.tc : Thread Cert.StepEvenInRefIdeal.nD Cert.StepEvenInRefIdeal.τ).loc Cert.StepEvenInRefIdeal.main_arg0) = m' ((c.tc : Thread Cert.StepEvenInRefIdeal.nD Cert.StepEvenInRefIdeal.τ).loc Cert.StepEvenInRefIdeal.main_arg0)
          ∧ r.2.mem ((c.tc : Thread Cert.StepEvenInRefIdeal.nD Cert.StepEvenInRefIdeal.τ).loc Cert.StepEvenInRefIdeal.main_arg1) = m' ((c.tc : Thread Cert.StepEvenInRefIdeal.nD Cert.StepEvenInRefIdeal.τ).loc Cert.StepEvenInRefIdeal.main_arg1)
          ∧ r.2.mem ((c.tc : Thread Cert.StepEvenInRefIdeal.nD Cert.StepEvenInRefIdeal.τ).loc Cert.StepEvenInRefIdeal.main_arg2) = m' ((c.tc : Thread Cert.StepEvenInRefIdeal.nD Cert.StepEvenInRefIdeal.τ).loc Cert.StepEvenInRefIdeal.main_arg2)
          ∧ r.2.mem ((c.tc : Thread Cert.StepEvenInRefIdeal.nD Cert.StepEvenInRefIdeal.τ).loc Cert.StepEvenInRefIdeal.main_arg3) = m' ((c.tc : Thread Cert.StepEvenInRefIdeal.nD Cert.StepEvenInRefIdeal.τ).loc Cert.StepEvenInRefIdeal.main_arg3)
          ∧ r.2.mem ((c.tc : Thread Cert.StepEvenInRefIdeal.nD Cert.StepEvenInRefIdeal.τ).loc Cert.StepEvenInRefIdeal.main_arg4) = m' ((c.tc : Thread Cert.StepEvenInRefIdeal.nD Cert.StepEvenInRefIdeal.τ).loc Cert.StepEvenInRefIdeal.main_arg4)
          ∧ r.2.mem ((c.tc : Thread Cert.StepEvenInRefIdeal.nD Cert.StepEvenInRefIdeal.τ).loc Cert.StepEvenInRefIdeal.main_arg5) = m' ((c.tc : Thread Cert.StepEvenInRefIdeal.nD Cert.StepEvenInRefIdeal.τ).loc Cert.StepEvenInRefIdeal.main_arg5)
          ∧ r.2.mem ((c.tc : Thread Cert.StepEvenInRefIdeal.nD Cert.StepEvenInRefIdeal.τ).loc Cert.StepEvenInRefIdeal.main_arg6) = m' ((c.tc : Thread Cert.StepEvenInRefIdeal.nD Cert.StepEvenInRefIdeal.τ).loc Cert.StepEvenInRefIdeal.main_arg6))

def preserves_StepOddIn_StepOddInIdeal : Prop :=
  True

def algebraic_StepOddInIdeal_StepOddInRefIdeal [hStepOddInIdeal : Cert.StepOddInIdeal.Facts] [hStepOddInRefIdeal : Cert.StepOddInRefIdeal.Facts] : Prop :=
  ∀ (m : (ℓ : Loc Cert.StepOddInIdeal.nD Cert.StepOddInIdeal.τ Cert.StepOddInIdeal.sig) → Buf (Elt Ideal) ℓ) (g : Dev Cert.StepOddInIdeal.nD → PrngReg)
    (m' : (ℓ : Loc Cert.StepOddInRefIdeal.nD Cert.StepOddInRefIdeal.τ Cert.StepOddInRefIdeal.sig) → Buf (Elt Ideal) ℓ) (g' : Dev Cert.StepOddInRefIdeal.nD → PrngReg), Pre_StepOddInIdeal m →
    (∀ c : Dev Cert.StepOddInIdeal.nD,
      m' ((c.tc : Thread Cert.StepOddInRefIdeal.nD Cert.StepOddInRefIdeal.τ).loc Cert.StepOddInRefIdeal.main_arg0) = m ((c.tc : Thread Cert.StepOddInIdeal.nD Cert.StepOddInIdeal.τ).loc Cert.StepOddInIdeal.main_arg0)
      ∧ m' ((c.tc : Thread Cert.StepOddInRefIdeal.nD Cert.StepOddInRefIdeal.τ).loc Cert.StepOddInRefIdeal.main_arg1) = m ((c.tc : Thread Cert.StepOddInIdeal.nD Cert.StepOddInIdeal.τ).loc Cert.StepOddInIdeal.main_arg1)
      ∧ m' ((c.tc : Thread Cert.StepOddInRefIdeal.nD Cert.StepOddInRefIdeal.τ).loc Cert.StepOddInRefIdeal.main_arg2) = m ((c.tc : Thread Cert.StepOddInIdeal.nD Cert.StepOddInIdeal.τ).loc Cert.StepOddInIdeal.main_arg2)
      ∧ m' ((c.tc : Thread Cert.StepOddInRefIdeal.nD Cert.StepOddInRefIdeal.τ).loc Cert.StepOddInRefIdeal.main_arg3) = m ((c.tc : Thread Cert.StepOddInIdeal.nD Cert.StepOddInIdeal.τ).loc Cert.StepOddInIdeal.main_arg3)
      ∧ m' ((c.tc : Thread Cert.StepOddInRefIdeal.nD Cert.StepOddInRefIdeal.τ).loc Cert.StepOddInRefIdeal.main_arg4) = m ((c.tc : Thread Cert.StepOddInIdeal.nD Cert.StepOddInIdeal.τ).loc Cert.StepOddInIdeal.main_arg4)
      ∧ m' ((c.tc : Thread Cert.StepOddInRefIdeal.nD Cert.StepOddInRefIdeal.τ).loc Cert.StepOddInRefIdeal.main_arg5) = m ((c.tc : Thread Cert.StepOddInIdeal.nD Cert.StepOddInIdeal.τ).loc Cert.StepOddInIdeal.main_arg5)
      ∧ m' ((c.tc : Thread Cert.StepOddInRefIdeal.nD Cert.StepOddInRefIdeal.τ).loc Cert.StepOddInRefIdeal.main_arg6) = m ((c.tc : Thread Cert.StepOddInIdeal.nD Cert.StepOddInIdeal.τ).loc Cert.StepOddInIdeal.main_arg6)) →
    ∃ (v0 : (c : Dev Cert.StepOddInIdeal.nD) → Buf (Elt Ideal) ((c.tc : Thread Cert.StepOddInIdeal.nD Cert.StepOddInIdeal.τ).loc Cert.StepOddInIdeal.main_v1_0)) (v1 : (c : Dev Cert.StepOddInIdeal.nD) → Buf (Elt Ideal) ((c.tc : Thread Cert.StepOddInIdeal.nD Cert.StepOddInIdeal.τ).loc Cert.StepOddInIdeal.main_v1_1)) (v2 : (c : Dev Cert.StepOddInIdeal.nD) → Buf (Elt Ideal) ((c.tc : Thread Cert.StepOddInIdeal.nD Cert.StepOddInIdeal.τ).loc Cert.StepOddInIdeal.main_v1_2)) (v3 : (c : Dev Cert.StepOddInIdeal.nD) → Buf (Elt Ideal) ((c.tc : Thread Cert.StepOddInIdeal.nD Cert.StepOddInIdeal.τ).loc Cert.StepOddInIdeal.main_v1_3)),
      θ_run (Cert.StepOddInIdeal.defs (F := Ideal)) (onTc (τ := Cert.StepOddInIdeal.τ) (Cert.StepOddInIdeal.main (F := Ideal))) ⟨m, fun _ => 0, g⟩ (fun r => ∀ c : Dev Cert.StepOddInIdeal.nD,
          r.2.mem ((c.tc : Thread Cert.StepOddInIdeal.nD Cert.StepOddInIdeal.τ).loc Cert.StepOddInIdeal.main_v1_0) = v0 c
          ∧ r.2.mem ((c.tc : Thread Cert.StepOddInIdeal.nD Cert.StepOddInIdeal.τ).loc Cert.StepOddInIdeal.main_v1_1) = v1 c
          ∧ r.2.mem ((c.tc : Thread Cert.StepOddInIdeal.nD Cert.StepOddInIdeal.τ).loc Cert.StepOddInIdeal.main_v1_2) = v2 c
          ∧ r.2.mem ((c.tc : Thread Cert.StepOddInIdeal.nD Cert.StepOddInIdeal.τ).loc Cert.StepOddInIdeal.main_v1_3) = v3 c
          ∧ r.2.mem ((c.tc : Thread Cert.StepOddInIdeal.nD Cert.StepOddInIdeal.τ).loc Cert.StepOddInIdeal.main_arg0) = m ((c.tc : Thread Cert.StepOddInIdeal.nD Cert.StepOddInIdeal.τ).loc Cert.StepOddInIdeal.main_arg0)
          ∧ r.2.mem ((c.tc : Thread Cert.StepOddInIdeal.nD Cert.StepOddInIdeal.τ).loc Cert.StepOddInIdeal.main_arg1) = m ((c.tc : Thread Cert.StepOddInIdeal.nD Cert.StepOddInIdeal.τ).loc Cert.StepOddInIdeal.main_arg1)
          ∧ r.2.mem ((c.tc : Thread Cert.StepOddInIdeal.nD Cert.StepOddInIdeal.τ).loc Cert.StepOddInIdeal.main_arg2) = m ((c.tc : Thread Cert.StepOddInIdeal.nD Cert.StepOddInIdeal.τ).loc Cert.StepOddInIdeal.main_arg2)
          ∧ r.2.mem ((c.tc : Thread Cert.StepOddInIdeal.nD Cert.StepOddInIdeal.τ).loc Cert.StepOddInIdeal.main_arg3) = m ((c.tc : Thread Cert.StepOddInIdeal.nD Cert.StepOddInIdeal.τ).loc Cert.StepOddInIdeal.main_arg3)
          ∧ r.2.mem ((c.tc : Thread Cert.StepOddInIdeal.nD Cert.StepOddInIdeal.τ).loc Cert.StepOddInIdeal.main_arg4) = m ((c.tc : Thread Cert.StepOddInIdeal.nD Cert.StepOddInIdeal.τ).loc Cert.StepOddInIdeal.main_arg4)
          ∧ r.2.mem ((c.tc : Thread Cert.StepOddInIdeal.nD Cert.StepOddInIdeal.τ).loc Cert.StepOddInIdeal.main_arg5) = m ((c.tc : Thread Cert.StepOddInIdeal.nD Cert.StepOddInIdeal.τ).loc Cert.StepOddInIdeal.main_arg5)
          ∧ r.2.mem ((c.tc : Thread Cert.StepOddInIdeal.nD Cert.StepOddInIdeal.τ).loc Cert.StepOddInIdeal.main_arg6) = m ((c.tc : Thread Cert.StepOddInIdeal.nD Cert.StepOddInIdeal.τ).loc Cert.StepOddInIdeal.main_arg6))
      ∧ θ_run (Cert.StepOddInRefIdeal.defs (F := Ideal)) (onTc (τ := Cert.StepOddInRefIdeal.τ) (Cert.StepOddInRefIdeal.main (F := Ideal))) ⟨m', fun _ => 0, g'⟩ (fun r => ∀ c : Dev Cert.StepOddInRefIdeal.nD,
          r.2.mem ((c.tc : Thread Cert.StepOddInRefIdeal.nD Cert.StepOddInRefIdeal.τ).loc Cert.StepOddInRefIdeal.main_v12) = v0 c
          ∧ r.2.mem ((c.tc : Thread Cert.StepOddInRefIdeal.nD Cert.StepOddInRefIdeal.τ).loc Cert.StepOddInRefIdeal.main_v36) = v1 c
          ∧ r.2.mem ((c.tc : Thread Cert.StepOddInRefIdeal.nD Cert.StepOddInRefIdeal.τ).loc Cert.StepOddInRefIdeal.main_v17) = v2 c
          ∧ r.2.mem ((c.tc : Thread Cert.StepOddInRefIdeal.nD Cert.StepOddInRefIdeal.τ).loc Cert.StepOddInRefIdeal.main_v23) = v3 c
          ∧ r.2.mem ((c.tc : Thread Cert.StepOddInRefIdeal.nD Cert.StepOddInRefIdeal.τ).loc Cert.StepOddInRefIdeal.main_arg0) = m' ((c.tc : Thread Cert.StepOddInRefIdeal.nD Cert.StepOddInRefIdeal.τ).loc Cert.StepOddInRefIdeal.main_arg0)
          ∧ r.2.mem ((c.tc : Thread Cert.StepOddInRefIdeal.nD Cert.StepOddInRefIdeal.τ).loc Cert.StepOddInRefIdeal.main_arg1) = m' ((c.tc : Thread Cert.StepOddInRefIdeal.nD Cert.StepOddInRefIdeal.τ).loc Cert.StepOddInRefIdeal.main_arg1)
          ∧ r.2.mem ((c.tc : Thread Cert.StepOddInRefIdeal.nD Cert.StepOddInRefIdeal.τ).loc Cert.StepOddInRefIdeal.main_arg2) = m' ((c.tc : Thread Cert.StepOddInRefIdeal.nD Cert.StepOddInRefIdeal.τ).loc Cert.StepOddInRefIdeal.main_arg2)
          ∧ r.2.mem ((c.tc : Thread Cert.StepOddInRefIdeal.nD Cert.StepOddInRefIdeal.τ).loc Cert.StepOddInRefIdeal.main_arg3) = m' ((c.tc : Thread Cert.StepOddInRefIdeal.nD Cert.StepOddInRefIdeal.τ).loc Cert.StepOddInRefIdeal.main_arg3)
          ∧ r.2.mem ((c.tc : Thread Cert.StepOddInRefIdeal.nD Cert.StepOddInRefIdeal.τ).loc Cert.StepOddInRefIdeal.main_arg4) = m' ((c.tc : Thread Cert.StepOddInRefIdeal.nD Cert.StepOddInRefIdeal.τ).loc Cert.StepOddInRefIdeal.main_arg4)
          ∧ r.2.mem ((c.tc : Thread Cert.StepOddInRefIdeal.nD Cert.StepOddInRefIdeal.τ).loc Cert.StepOddInRefIdeal.main_arg5) = m' ((c.tc : Thread Cert.StepOddInRefIdeal.nD Cert.StepOddInRefIdeal.τ).loc Cert.StepOddInRefIdeal.main_arg5)
          ∧ r.2.mem ((c.tc : Thread Cert.StepOddInRefIdeal.nD Cert.StepOddInRefIdeal.τ).loc Cert.StepOddInRefIdeal.main_arg6) = m' ((c.tc : Thread Cert.StepOddInRefIdeal.nD Cert.StepOddInRefIdeal.τ).loc Cert.StepOddInRefIdeal.main_arg6))

def preserves_StepQueries_StepQueriesIdeal : Prop :=
  True

def algebraic_StepQueriesIdeal_StepQueriesRefIdeal [hStepQueriesIdeal : Cert.StepQueriesIdeal.Facts] [hStepQueriesRefIdeal : Cert.StepQueriesRefIdeal.Facts] : Prop :=
  ∀ (m : (ℓ : Loc Cert.StepQueriesIdeal.nD Cert.StepQueriesIdeal.τ Cert.StepQueriesIdeal.sig) → Buf (Elt Ideal) ℓ) (g : Dev Cert.StepQueriesIdeal.nD → PrngReg)
    (m' : (ℓ : Loc Cert.StepQueriesRefIdeal.nD Cert.StepQueriesRefIdeal.τ Cert.StepQueriesRefIdeal.sig) → Buf (Elt Ideal) ℓ) (g' : Dev Cert.StepQueriesRefIdeal.nD → PrngReg), Pre_StepQueriesIdeal m →
    (∀ c : Dev Cert.StepQueriesIdeal.nD,
      m' ((c.tc : Thread Cert.StepQueriesRefIdeal.nD Cert.StepQueriesRefIdeal.τ).loc Cert.StepQueriesRefIdeal.main_arg0) = m ((c.tc : Thread Cert.StepQueriesIdeal.nD Cert.StepQueriesIdeal.τ).loc Cert.StepQueriesIdeal.main_arg0)
      ∧ m' ((c.tc : Thread Cert.StepQueriesRefIdeal.nD Cert.StepQueriesRefIdeal.τ).loc Cert.StepQueriesRefIdeal.main_arg1) = m ((c.tc : Thread Cert.StepQueriesIdeal.nD Cert.StepQueriesIdeal.τ).loc Cert.StepQueriesIdeal.main_arg1)
      ∧ m' ((c.tc : Thread Cert.StepQueriesRefIdeal.nD Cert.StepQueriesRefIdeal.τ).loc Cert.StepQueriesRefIdeal.main_arg2) = m ((c.tc : Thread Cert.StepQueriesIdeal.nD Cert.StepQueriesIdeal.τ).loc Cert.StepQueriesIdeal.main_arg2)
      ∧ m' ((c.tc : Thread Cert.StepQueriesRefIdeal.nD Cert.StepQueriesRefIdeal.τ).loc Cert.StepQueriesRefIdeal.main_arg3) = m ((c.tc : Thread Cert.StepQueriesIdeal.nD Cert.StepQueriesIdeal.τ).loc Cert.StepQueriesIdeal.main_arg3)
      ∧ m' ((c.tc : Thread Cert.StepQueriesRefIdeal.nD Cert.StepQueriesRefIdeal.τ).loc Cert.StepQueriesRefIdeal.main_arg4) = m ((c.tc : Thread Cert.StepQueriesIdeal.nD Cert.StepQueriesIdeal.τ).loc Cert.StepQueriesIdeal.main_arg4)
      ∧ m' ((c.tc : Thread Cert.StepQueriesRefIdeal.nD Cert.StepQueriesRefIdeal.τ).loc Cert.StepQueriesRefIdeal.main_arg5) = m ((c.tc : Thread Cert.StepQueriesIdeal.nD Cert.StepQueriesIdeal.τ).loc Cert.StepQueriesIdeal.main_arg5)
      ∧ m' ((c.tc : Thread Cert.StepQueriesRefIdeal.nD Cert.StepQueriesRefIdeal.τ).loc Cert.StepQueriesRefIdeal.main_arg6) = m ((c.tc : Thread Cert.StepQueriesIdeal.nD Cert.StepQueriesIdeal.τ).loc Cert.StepQueriesIdeal.main_arg6)) →
    ∃ (v0 : (c : Dev Cert.StepQueriesIdeal.nD) → Buf (Elt Ideal) ((c.tc : Thread Cert.StepQueriesIdeal.nD Cert.StepQueriesIdeal.τ).loc Cert.StepQueriesIdeal.main_v1_0)) (v1 : (c : Dev Cert.StepQueriesIdeal.nD) → Buf (Elt Ideal) ((c.tc : Thread Cert.StepQueriesIdeal.nD Cert.StepQueriesIdeal.τ).loc Cert.StepQueriesIdeal.main_v1_1)) (v2 : (c : Dev Cert.StepQueriesIdeal.nD) → Buf (Elt Ideal) ((c.tc : Thread Cert.StepQueriesIdeal.nD Cert.StepQueriesIdeal.τ).loc Cert.StepQueriesIdeal.main_v1_2)) (v3 : (c : Dev Cert.StepQueriesIdeal.nD) → Buf (Elt Ideal) ((c.tc : Thread Cert.StepQueriesIdeal.nD Cert.StepQueriesIdeal.τ).loc Cert.StepQueriesIdeal.main_v1_3)),
      θ_run (Cert.StepQueriesIdeal.defs (F := Ideal)) (onTc (τ := Cert.StepQueriesIdeal.τ) (Cert.StepQueriesIdeal.main (F := Ideal))) ⟨m, fun _ => 0, g⟩ (fun r => ∀ c : Dev Cert.StepQueriesIdeal.nD,
          r.2.mem ((c.tc : Thread Cert.StepQueriesIdeal.nD Cert.StepQueriesIdeal.τ).loc Cert.StepQueriesIdeal.main_v1_0) = v0 c
          ∧ r.2.mem ((c.tc : Thread Cert.StepQueriesIdeal.nD Cert.StepQueriesIdeal.τ).loc Cert.StepQueriesIdeal.main_v1_1) = v1 c
          ∧ r.2.mem ((c.tc : Thread Cert.StepQueriesIdeal.nD Cert.StepQueriesIdeal.τ).loc Cert.StepQueriesIdeal.main_v1_2) = v2 c
          ∧ r.2.mem ((c.tc : Thread Cert.StepQueriesIdeal.nD Cert.StepQueriesIdeal.τ).loc Cert.StepQueriesIdeal.main_v1_3) = v3 c
          ∧ r.2.mem ((c.tc : Thread Cert.StepQueriesIdeal.nD Cert.StepQueriesIdeal.τ).loc Cert.StepQueriesIdeal.main_arg0) = m ((c.tc : Thread Cert.StepQueriesIdeal.nD Cert.StepQueriesIdeal.τ).loc Cert.StepQueriesIdeal.main_arg0)
          ∧ r.2.mem ((c.tc : Thread Cert.StepQueriesIdeal.nD Cert.StepQueriesIdeal.τ).loc Cert.StepQueriesIdeal.main_arg1) = m ((c.tc : Thread Cert.StepQueriesIdeal.nD Cert.StepQueriesIdeal.τ).loc Cert.StepQueriesIdeal.main_arg1)
          ∧ r.2.mem ((c.tc : Thread Cert.StepQueriesIdeal.nD Cert.StepQueriesIdeal.τ).loc Cert.StepQueriesIdeal.main_arg2) = m ((c.tc : Thread Cert.StepQueriesIdeal.nD Cert.StepQueriesIdeal.τ).loc Cert.StepQueriesIdeal.main_arg2)
          ∧ r.2.mem ((c.tc : Thread Cert.StepQueriesIdeal.nD Cert.StepQueriesIdeal.τ).loc Cert.StepQueriesIdeal.main_arg3) = m ((c.tc : Thread Cert.StepQueriesIdeal.nD Cert.StepQueriesIdeal.τ).loc Cert.StepQueriesIdeal.main_arg3)
          ∧ r.2.mem ((c.tc : Thread Cert.StepQueriesIdeal.nD Cert.StepQueriesIdeal.τ).loc Cert.StepQueriesIdeal.main_arg4) = m ((c.tc : Thread Cert.StepQueriesIdeal.nD Cert.StepQueriesIdeal.τ).loc Cert.StepQueriesIdeal.main_arg4)
          ∧ r.2.mem ((c.tc : Thread Cert.StepQueriesIdeal.nD Cert.StepQueriesIdeal.τ).loc Cert.StepQueriesIdeal.main_arg5) = m ((c.tc : Thread Cert.StepQueriesIdeal.nD Cert.StepQueriesIdeal.τ).loc Cert.StepQueriesIdeal.main_arg5)
          ∧ r.2.mem ((c.tc : Thread Cert.StepQueriesIdeal.nD Cert.StepQueriesIdeal.τ).loc Cert.StepQueriesIdeal.main_arg6) = m ((c.tc : Thread Cert.StepQueriesIdeal.nD Cert.StepQueriesIdeal.τ).loc Cert.StepQueriesIdeal.main_arg6))
      ∧ θ_run (Cert.StepQueriesRefIdeal.defs (F := Ideal)) (onTc (τ := Cert.StepQueriesRefIdeal.τ) (Cert.StepQueriesRefIdeal.main (F := Ideal))) ⟨m', fun _ => 0, g'⟩ (fun r => ∀ c : Dev Cert.StepQueriesRefIdeal.nD,
          r.2.mem ((c.tc : Thread Cert.StepQueriesRefIdeal.nD Cert.StepQueriesRefIdeal.τ).loc Cert.StepQueriesRefIdeal.main_v12) = v0 c
          ∧ r.2.mem ((c.tc : Thread Cert.StepQueriesRefIdeal.nD Cert.StepQueriesRefIdeal.τ).loc Cert.StepQueriesRefIdeal.main_v36) = v1 c
          ∧ r.2.mem ((c.tc : Thread Cert.StepQueriesRefIdeal.nD Cert.StepQueriesRefIdeal.τ).loc Cert.StepQueriesRefIdeal.main_v17) = v2 c
          ∧ r.2.mem ((c.tc : Thread Cert.StepQueriesRefIdeal.nD Cert.StepQueriesRefIdeal.τ).loc Cert.StepQueriesRefIdeal.main_v23) = v3 c
          ∧ r.2.mem ((c.tc : Thread Cert.StepQueriesRefIdeal.nD Cert.StepQueriesRefIdeal.τ).loc Cert.StepQueriesRefIdeal.main_arg0) = m' ((c.tc : Thread Cert.StepQueriesRefIdeal.nD Cert.StepQueriesRefIdeal.τ).loc Cert.StepQueriesRefIdeal.main_arg0)
          ∧ r.2.mem ((c.tc : Thread Cert.StepQueriesRefIdeal.nD Cert.StepQueriesRefIdeal.τ).loc Cert.StepQueriesRefIdeal.main_arg1) = m' ((c.tc : Thread Cert.StepQueriesRefIdeal.nD Cert.StepQueriesRefIdeal.τ).loc Cert.StepQueriesRefIdeal.main_arg1)
          ∧ r.2.mem ((c.tc : Thread Cert.StepQueriesRefIdeal.nD Cert.StepQueriesRefIdeal.τ).loc Cert.StepQueriesRefIdeal.main_arg2) = m' ((c.tc : Thread Cert.StepQueriesRefIdeal.nD Cert.StepQueriesRefIdeal.τ).loc Cert.StepQueriesRefIdeal.main_arg2)
          ∧ r.2.mem ((c.tc : Thread Cert.StepQueriesRefIdeal.nD Cert.StepQueriesRefIdeal.τ).loc Cert.StepQueriesRefIdeal.main_arg3) = m' ((c.tc : Thread Cert.StepQueriesRefIdeal.nD Cert.StepQueriesRefIdeal.τ).loc Cert.StepQueriesRefIdeal.main_arg3)
          ∧ r.2.mem ((c.tc : Thread Cert.StepQueriesRefIdeal.nD Cert.StepQueriesRefIdeal.τ).loc Cert.StepQueriesRefIdeal.main_arg4) = m' ((c.tc : Thread Cert.StepQueriesRefIdeal.nD Cert.StepQueriesRefIdeal.τ).loc Cert.StepQueriesRefIdeal.main_arg4)
          ∧ r.2.mem ((c.tc : Thread Cert.StepQueriesRefIdeal.nD Cert.StepQueriesRefIdeal.τ).loc Cert.StepQueriesRefIdeal.main_arg5) = m' ((c.tc : Thread Cert.StepQueriesRefIdeal.nD Cert.StepQueriesRefIdeal.τ).loc Cert.StepQueriesRefIdeal.main_arg5)
          ∧ r.2.mem ((c.tc : Thread Cert.StepQueriesRefIdeal.nD Cert.StepQueriesRefIdeal.τ).loc Cert.StepQueriesRefIdeal.main_arg6) = m' ((c.tc : Thread Cert.StepQueriesRefIdeal.nD Cert.StepQueriesRefIdeal.τ).loc Cert.StepQueriesRefIdeal.main_arg6))

def preserves_StepKeys_StepKeysIdeal : Prop :=
  True

def algebraic_StepKeysIdeal_StepKeysRefIdeal [hStepKeysIdeal : Cert.StepKeysIdeal.Facts] [hStepKeysRefIdeal : Cert.StepKeysRefIdeal.Facts] : Prop :=
  ∀ (m : (ℓ : Loc Cert.StepKeysIdeal.nD Cert.StepKeysIdeal.τ Cert.StepKeysIdeal.sig) → Buf (Elt Ideal) ℓ) (g : Dev Cert.StepKeysIdeal.nD → PrngReg)
    (m' : (ℓ : Loc Cert.StepKeysRefIdeal.nD Cert.StepKeysRefIdeal.τ Cert.StepKeysRefIdeal.sig) → Buf (Elt Ideal) ℓ) (g' : Dev Cert.StepKeysRefIdeal.nD → PrngReg), Pre_StepKeysIdeal m →
    (∀ c : Dev Cert.StepKeysIdeal.nD,
      m' ((c.tc : Thread Cert.StepKeysRefIdeal.nD Cert.StepKeysRefIdeal.τ).loc Cert.StepKeysRefIdeal.main_arg0) = m ((c.tc : Thread Cert.StepKeysIdeal.nD Cert.StepKeysIdeal.τ).loc Cert.StepKeysIdeal.main_arg0)
      ∧ m' ((c.tc : Thread Cert.StepKeysRefIdeal.nD Cert.StepKeysRefIdeal.τ).loc Cert.StepKeysRefIdeal.main_arg1) = m ((c.tc : Thread Cert.StepKeysIdeal.nD Cert.StepKeysIdeal.τ).loc Cert.StepKeysIdeal.main_arg1)
      ∧ m' ((c.tc : Thread Cert.StepKeysRefIdeal.nD Cert.StepKeysRefIdeal.τ).loc Cert.StepKeysRefIdeal.main_arg2) = m ((c.tc : Thread Cert.StepKeysIdeal.nD Cert.StepKeysIdeal.τ).loc Cert.StepKeysIdeal.main_arg2)
      ∧ m' ((c.tc : Thread Cert.StepKeysRefIdeal.nD Cert.StepKeysRefIdeal.τ).loc Cert.StepKeysRefIdeal.main_arg3) = m ((c.tc : Thread Cert.StepKeysIdeal.nD Cert.StepKeysIdeal.τ).loc Cert.StepKeysIdeal.main_arg3)
      ∧ m' ((c.tc : Thread Cert.StepKeysRefIdeal.nD Cert.StepKeysRefIdeal.τ).loc Cert.StepKeysRefIdeal.main_arg4) = m ((c.tc : Thread Cert.StepKeysIdeal.nD Cert.StepKeysIdeal.τ).loc Cert.StepKeysIdeal.main_arg4)
      ∧ m' ((c.tc : Thread Cert.StepKeysRefIdeal.nD Cert.StepKeysRefIdeal.τ).loc Cert.StepKeysRefIdeal.main_arg5) = m ((c.tc : Thread Cert.StepKeysIdeal.nD Cert.StepKeysIdeal.τ).loc Cert.StepKeysIdeal.main_arg5)
      ∧ m' ((c.tc : Thread Cert.StepKeysRefIdeal.nD Cert.StepKeysRefIdeal.τ).loc Cert.StepKeysRefIdeal.main_arg6) = m ((c.tc : Thread Cert.StepKeysIdeal.nD Cert.StepKeysIdeal.τ).loc Cert.StepKeysIdeal.main_arg6)) →
    ∃ (v0 : (c : Dev Cert.StepKeysIdeal.nD) → Buf (Elt Ideal) ((c.tc : Thread Cert.StepKeysIdeal.nD Cert.StepKeysIdeal.τ).loc Cert.StepKeysIdeal.main_v1_0)) (v1 : (c : Dev Cert.StepKeysIdeal.nD) → Buf (Elt Ideal) ((c.tc : Thread Cert.StepKeysIdeal.nD Cert.StepKeysIdeal.τ).loc Cert.StepKeysIdeal.main_v1_1)) (v2 : (c : Dev Cert.StepKeysIdeal.nD) → Buf (Elt Ideal) ((c.tc : Thread Cert.StepKeysIdeal.nD Cert.StepKeysIdeal.τ).loc Cert.StepKeysIdeal.main_v1_2)) (v3 : (c : Dev Cert.StepKeysIdeal.nD) → Buf (Elt Ideal) ((c.tc : Thread Cert.StepKeysIdeal.nD Cert.StepKeysIdeal.τ).loc Cert.StepKeysIdeal.main_v1_3)),
      θ_run (Cert.StepKeysIdeal.defs (F := Ideal)) (onTc (τ := Cert.StepKeysIdeal.τ) (Cert.StepKeysIdeal.main (F := Ideal))) ⟨m, fun _ => 0, g⟩ (fun r => ∀ c : Dev Cert.StepKeysIdeal.nD,
          r.2.mem ((c.tc : Thread Cert.StepKeysIdeal.nD Cert.StepKeysIdeal.τ).loc Cert.StepKeysIdeal.main_v1_0) = v0 c
          ∧ r.2.mem ((c.tc : Thread Cert.StepKeysIdeal.nD Cert.StepKeysIdeal.τ).loc Cert.StepKeysIdeal.main_v1_1) = v1 c
          ∧ r.2.mem ((c.tc : Thread Cert.StepKeysIdeal.nD Cert.StepKeysIdeal.τ).loc Cert.StepKeysIdeal.main_v1_2) = v2 c
          ∧ r.2.mem ((c.tc : Thread Cert.StepKeysIdeal.nD Cert.StepKeysIdeal.τ).loc Cert.StepKeysIdeal.main_v1_3) = v3 c
          ∧ r.2.mem ((c.tc : Thread Cert.StepKeysIdeal.nD Cert.StepKeysIdeal.τ).loc Cert.StepKeysIdeal.main_arg0) = m ((c.tc : Thread Cert.StepKeysIdeal.nD Cert.StepKeysIdeal.τ).loc Cert.StepKeysIdeal.main_arg0)
          ∧ r.2.mem ((c.tc : Thread Cert.StepKeysIdeal.nD Cert.StepKeysIdeal.τ).loc Cert.StepKeysIdeal.main_arg1) = m ((c.tc : Thread Cert.StepKeysIdeal.nD Cert.StepKeysIdeal.τ).loc Cert.StepKeysIdeal.main_arg1)
          ∧ r.2.mem ((c.tc : Thread Cert.StepKeysIdeal.nD Cert.StepKeysIdeal.τ).loc Cert.StepKeysIdeal.main_arg2) = m ((c.tc : Thread Cert.StepKeysIdeal.nD Cert.StepKeysIdeal.τ).loc Cert.StepKeysIdeal.main_arg2)
          ∧ r.2.mem ((c.tc : Thread Cert.StepKeysIdeal.nD Cert.StepKeysIdeal.τ).loc Cert.StepKeysIdeal.main_arg3) = m ((c.tc : Thread Cert.StepKeysIdeal.nD Cert.StepKeysIdeal.τ).loc Cert.StepKeysIdeal.main_arg3)
          ∧ r.2.mem ((c.tc : Thread Cert.StepKeysIdeal.nD Cert.StepKeysIdeal.τ).loc Cert.StepKeysIdeal.main_arg4) = m ((c.tc : Thread Cert.StepKeysIdeal.nD Cert.StepKeysIdeal.τ).loc Cert.StepKeysIdeal.main_arg4)
          ∧ r.2.mem ((c.tc : Thread Cert.StepKeysIdeal.nD Cert.StepKeysIdeal.τ).loc Cert.StepKeysIdeal.main_arg5) = m ((c.tc : Thread Cert.StepKeysIdeal.nD Cert.StepKeysIdeal.τ).loc Cert.StepKeysIdeal.main_arg5)
          ∧ r.2.mem ((c.tc : Thread Cert.StepKeysIdeal.nD Cert.StepKeysIdeal.τ).loc Cert.StepKeysIdeal.main_arg6) = m ((c.tc : Thread Cert.StepKeysIdeal.nD Cert.StepKeysIdeal.τ).loc Cert.StepKeysIdeal.main_arg6))
      ∧ θ_run (Cert.StepKeysRefIdeal.defs (F := Ideal)) (onTc (τ := Cert.StepKeysRefIdeal.τ) (Cert.StepKeysRefIdeal.main (F := Ideal))) ⟨m', fun _ => 0, g'⟩ (fun r => ∀ c : Dev Cert.StepKeysRefIdeal.nD,
          r.2.mem ((c.tc : Thread Cert.StepKeysRefIdeal.nD Cert.StepKeysRefIdeal.τ).loc Cert.StepKeysRefIdeal.main_v12) = v0 c
          ∧ r.2.mem ((c.tc : Thread Cert.StepKeysRefIdeal.nD Cert.StepKeysRefIdeal.τ).loc Cert.StepKeysRefIdeal.main_v36) = v1 c
          ∧ r.2.mem ((c.tc : Thread Cert.StepKeysRefIdeal.nD Cert.StepKeysRefIdeal.τ).loc Cert.StepKeysRefIdeal.main_v17) = v2 c
          ∧ r.2.mem ((c.tc : Thread Cert.StepKeysRefIdeal.nD Cert.StepKeysRefIdeal.τ).loc Cert.StepKeysRefIdeal.main_v23) = v3 c
          ∧ r.2.mem ((c.tc : Thread Cert.StepKeysRefIdeal.nD Cert.StepKeysRefIdeal.τ).loc Cert.StepKeysRefIdeal.main_arg0) = m' ((c.tc : Thread Cert.StepKeysRefIdeal.nD Cert.StepKeysRefIdeal.τ).loc Cert.StepKeysRefIdeal.main_arg0)
          ∧ r.2.mem ((c.tc : Thread Cert.StepKeysRefIdeal.nD Cert.StepKeysRefIdeal.τ).loc Cert.StepKeysRefIdeal.main_arg1) = m' ((c.tc : Thread Cert.StepKeysRefIdeal.nD Cert.StepKeysRefIdeal.τ).loc Cert.StepKeysRefIdeal.main_arg1)
          ∧ r.2.mem ((c.tc : Thread Cert.StepKeysRefIdeal.nD Cert.StepKeysRefIdeal.τ).loc Cert.StepKeysRefIdeal.main_arg2) = m' ((c.tc : Thread Cert.StepKeysRefIdeal.nD Cert.StepKeysRefIdeal.τ).loc Cert.StepKeysRefIdeal.main_arg2)
          ∧ r.2.mem ((c.tc : Thread Cert.StepKeysRefIdeal.nD Cert.StepKeysRefIdeal.τ).loc Cert.StepKeysRefIdeal.main_arg3) = m' ((c.tc : Thread Cert.StepKeysRefIdeal.nD Cert.StepKeysRefIdeal.τ).loc Cert.StepKeysRefIdeal.main_arg3)
          ∧ r.2.mem ((c.tc : Thread Cert.StepKeysRefIdeal.nD Cert.StepKeysRefIdeal.τ).loc Cert.StepKeysRefIdeal.main_arg4) = m' ((c.tc : Thread Cert.StepKeysRefIdeal.nD Cert.StepKeysRefIdeal.τ).loc Cert.StepKeysRefIdeal.main_arg4)
          ∧ r.2.mem ((c.tc : Thread Cert.StepKeysRefIdeal.nD Cert.StepKeysRefIdeal.τ).loc Cert.StepKeysRefIdeal.main_arg5) = m' ((c.tc : Thread Cert.StepKeysRefIdeal.nD Cert.StepKeysRefIdeal.τ).loc Cert.StepKeysRefIdeal.main_arg5)
          ∧ r.2.mem ((c.tc : Thread Cert.StepKeysRefIdeal.nD Cert.StepKeysRefIdeal.τ).loc Cert.StepKeysRefIdeal.main_arg6) = m' ((c.tc : Thread Cert.StepKeysRefIdeal.nD Cert.StepKeysRefIdeal.τ).loc Cert.StepKeysRefIdeal.main_arg6))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v1)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v1) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v12) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def Claim : Prop :=
  ∃ (hKernel : Cert.Kernel.Facts) (hKernelIdeal : Cert.KernelIdeal.Facts) (hReferenceIdeal : Cert.ReferenceIdeal.Facts) (hReference : Cert.Reference.Facts) (hOutLeft : Cert.OutLeft.Facts) (hOutLeftIdeal : Cert.OutLeftIdeal.Facts) (hOutLeftRefIdeal : Cert.OutLeftRefIdeal.Facts) (hOutRight : Cert.OutRight.Facts) (hOutRightIdeal : Cert.OutRightIdeal.Facts) (hOutRightRefIdeal : Cert.OutRightRefIdeal.Facts) (hOddLeft : Cert.OddLeft.Facts) (hOddLeftIdeal : Cert.OddLeftIdeal.Facts) (hOddLeftRefIdeal : Cert.OddLeftRefIdeal.Facts) (hOddIn : Cert.OddIn.Facts) (hOddInIdeal : Cert.OddInIdeal.Facts) (hOddInRefIdeal : Cert.OddInRefIdeal.Facts) (hOddRight : Cert.OddRight.Facts) (hOddRightIdeal : Cert.OddRightIdeal.Facts) (hOddRightRefIdeal : Cert.OddRightRefIdeal.Facts) (hEvenLeft : Cert.EvenLeft.Facts) (hEvenLeftIdeal : Cert.EvenLeftIdeal.Facts) (hEvenLeftRefIdeal : Cert.EvenLeftRefIdeal.Facts) (hEvenRight : Cert.EvenRight.Facts) (hEvenRightIdeal : Cert.EvenRightIdeal.Facts) (hEvenRightRefIdeal : Cert.EvenRightRefIdeal.Facts) (hOutProduct : Cert.OutProduct.Facts) (hOutProductIdeal : Cert.OutProductIdeal.Facts) (hOutProductRefIdeal : Cert.OutProductRefIdeal.Facts) (hEvenIn : Cert.EvenIn.Facts) (hEvenInIdeal : Cert.EvenInIdeal.Facts) (hEvenInRefIdeal : Cert.EvenInRefIdeal.Facts) (hForward : Cert.Forward.Facts) (hForwardIdeal : Cert.ForwardIdeal.Facts) (hForwardRefIdeal : Cert.ForwardRefIdeal.Facts) (hStepShared : Cert.StepShared.Facts) (hStepSharedIdeal : Cert.StepSharedIdeal.Facts) (hStepSharedRefIdeal : Cert.StepSharedRefIdeal.Facts) (hStepAda : Cert.StepAda.Facts) (hStepAdaIdeal : Cert.StepAdaIdeal.Facts) (hStepAdaRefIdeal : Cert.StepAdaRefIdeal.Facts) (hStepSmall : Cert.StepSmall.Facts) (hStepSmallIdeal : Cert.StepSmallIdeal.Facts) (hStepSmallRefIdeal : Cert.StepSmallRefIdeal.Facts) (hStepOut : Cert.StepOut.Facts) (hStepOutIdeal : Cert.StepOutIdeal.Facts) (hStepOutRefIdeal : Cert.StepOutRefIdeal.Facts) (hStepEvenIn : Cert.StepEvenIn.Facts) (hStepEvenInIdeal : Cert.StepEvenInIdeal.Facts) (hStepEvenInRefIdeal : Cert.StepEvenInRefIdeal.Facts) (hStepOddIn : Cert.StepOddIn.Facts) (hStepOddInIdeal : Cert.StepOddInIdeal.Facts) (hStepOddInRefIdeal : Cert.StepOddInRefIdeal.Facts) (hStepQueries : Cert.StepQueries.Facts) (hStepQueriesIdeal : Cert.StepQueriesIdeal.Facts) (hStepQueriesRefIdeal : Cert.StepQueriesRefIdeal.Facts) (hStepKeys : Cert.StepKeys.Facts) (hStepKeysIdeal : Cert.StepKeysIdeal.Facts) (hStepKeysRefIdeal : Cert.StepKeysRefIdeal.Facts) (hAdaGrad : Cert.AdaGrad.Facts) (hAdaGradIdeal : Cert.AdaGradIdeal.Facts) (hAdaGradRefIdeal : Cert.AdaGradRefIdeal.Facts) (hPre_finite : Cert.Pre_finite.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_OutLeft (hOutLeft := hOutLeft)
    ∧ quiescent_OutLeftIdeal (hOutLeftIdeal := hOutLeftIdeal)
    ∧ quiescent_OutLeftRefIdeal (hOutLeftRefIdeal := hOutLeftRefIdeal)
    ∧ quiescent_OutRight (hOutRight := hOutRight)
    ∧ quiescent_OutRightIdeal (hOutRightIdeal := hOutRightIdeal)
    ∧ quiescent_OutRightRefIdeal (hOutRightRefIdeal := hOutRightRefIdeal)
    ∧ quiescent_OddLeft (hOddLeft := hOddLeft)
    ∧ quiescent_OddLeftIdeal (hOddLeftIdeal := hOddLeftIdeal)
    ∧ quiescent_OddLeftRefIdeal (hOddLeftRefIdeal := hOddLeftRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddRight (hOddRight := hOddRight)
    ∧ quiescent_OddRightIdeal (hOddRightIdeal := hOddRightIdeal)
    ∧ quiescent_OddRightRefIdeal (hOddRightRefIdeal := hOddRightRefIdeal)
    ∧ quiescent_EvenLeft (hEvenLeft := hEvenLeft)
    ∧ quiescent_EvenLeftIdeal (hEvenLeftIdeal := hEvenLeftIdeal)
    ∧ quiescent_EvenLeftRefIdeal (hEvenLeftRefIdeal := hEvenLeftRefIdeal)
    ∧ quiescent_EvenRight (hEvenRight := hEvenRight)
    ∧ quiescent_EvenRightIdeal (hEvenRightIdeal := hEvenRightIdeal)
    ∧ quiescent_EvenRightRefIdeal (hEvenRightRefIdeal := hEvenRightRefIdeal)
    ∧ quiescent_OutProduct (hOutProduct := hOutProduct)
    ∧ quiescent_OutProductIdeal (hOutProductIdeal := hOutProductIdeal)
    ∧ quiescent_OutProductRefIdeal (hOutProductRefIdeal := hOutProductRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_Forward (hForward := hForward)
    ∧ quiescent_ForwardIdeal (hForwardIdeal := hForwardIdeal)
    ∧ quiescent_ForwardIdeal_pre_finite11 (hForwardIdeal := hForwardIdeal) (hPre_finite11 := hPre_finite11)
    ∧ quiescent_ForwardRefIdeal (hForwardRefIdeal := hForwardRefIdeal)
    ∧ quiescent_ForwardRefIdeal_pre_finite11 (hForwardRefIdeal := hForwardRefIdeal) (hPre_finite11 := hPre_finite11)
    ∧ quiescent_StepShared (hStepShared := hStepShared)
    ∧ quiescent_StepSharedIdeal (hStepSharedIdeal := hStepSharedIdeal)
    ∧ quiescent_StepSharedRefIdeal (hStepSharedRefIdeal := hStepSharedRefIdeal)
    ∧ quiescent_StepAda (hStepAda := hStepAda)
    ∧ quiescent_StepAdaIdeal (hStepAdaIdeal := hStepAdaIdeal)
    ∧ quiescent_StepAdaRefIdeal (hStepAdaRefIdeal := hStepAdaRefIdeal)
    ∧ quiescent_StepSmall (hStepSmall := hStepSmall)
    ∧ quiescent_StepSmallIdeal (hStepSmallIdeal := hStepSmallIdeal)
    ∧ quiescent_StepSmallRefIdeal (hStepSmallRefIdeal := hStepSmallRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepEvenIn (hStepEvenIn := hStepEvenIn)
    ∧ quiescent_StepEvenInIdeal (hStepEvenInIdeal := hStepEvenInIdeal)
    ∧ quiescent_StepEvenInRefIdeal (hStepEvenInRefIdeal := hStepEvenInRefIdeal)
    ∧ quiescent_StepOddIn (hStepOddIn := hStepOddIn)
    ∧ quiescent_StepOddInIdeal (hStepOddInIdeal := hStepOddInIdeal)
    ∧ quiescent_StepOddInRefIdeal (hStepOddInRefIdeal := hStepOddInRefIdeal)
    ∧ quiescent_StepQueries (hStepQueries := hStepQueries)
    ∧ quiescent_StepQueriesIdeal (hStepQueriesIdeal := hStepQueriesIdeal)
    ∧ quiescent_StepQueriesRefIdeal (hStepQueriesRefIdeal := hStepQueriesRefIdeal)
    ∧ quiescent_StepKeys (hStepKeys := hStepKeys)
    ∧ quiescent_StepKeysIdeal (hStepKeysIdeal := hStepKeysIdeal)
    ∧ quiescent_StepKeysRefIdeal (hStepKeysRefIdeal := hStepKeysRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_OutLeft_OutLeftIdeal
    ∧ algebraic_OutLeftIdeal_OutLeftRefIdeal (hOutLeftIdeal := hOutLeftIdeal) (hOutLeftRefIdeal := hOutLeftRefIdeal)
    ∧ preserves_OutRight_OutRightIdeal
    ∧ algebraic_OutRightIdeal_OutRightRefIdeal (hOutRightIdeal := hOutRightIdeal) (hOutRightRefIdeal := hOutRightRefIdeal)
    ∧ preserves_OddLeft_OddLeftIdeal
    ∧ algebraic_OddLeftIdeal_OddLeftRefIdeal (hOddLeftIdeal := hOddLeftIdeal) (hOddLeftRefIdeal := hOddLeftRefIdeal)
    ∧ preserves_OddIn_OddInIdeal
    ∧ algebraic_OddInIdeal_OddInRefIdeal (hOddInIdeal := hOddInIdeal) (hOddInRefIdeal := hOddInRefIdeal)
    ∧ preserves_OddRight_OddRightIdeal
    ∧ algebraic_OddRightIdeal_OddRightRefIdeal (hOddRightIdeal := hOddRightIdeal) (hOddRightRefIdeal := hOddRightRefIdeal)
    ∧ preserves_EvenLeft_EvenLeftIdeal
    ∧ algebraic_EvenLeftIdeal_EvenLeftRefIdeal (hEvenLeftIdeal := hEvenLeftIdeal) (hEvenLeftRefIdeal := hEvenLeftRefIdeal)
    ∧ preserves_EvenRight_EvenRightIdeal
    ∧ algebraic_EvenRightIdeal_EvenRightRefIdeal (hEvenRightIdeal := hEvenRightIdeal) (hEvenRightRefIdeal := hEvenRightRefIdeal)
    ∧ preserves_OutProduct_OutProductIdeal
    ∧ algebraic_OutProductIdeal_OutProductRefIdeal (hOutProductIdeal := hOutProductIdeal) (hOutProductRefIdeal := hOutProductRefIdeal)
    ∧ preserves_EvenIn_EvenInIdeal
    ∧ algebraic_EvenInIdeal_EvenInRefIdeal (hEvenInIdeal := hEvenInIdeal) (hEvenInRefIdeal := hEvenInRefIdeal)
    ∧ preserves_Forward_ForwardIdeal
    ∧ algebraic_ForwardIdeal_ForwardRefIdeal_pre_finite11 (hForwardIdeal := hForwardIdeal) (hForwardRefIdeal := hForwardRefIdeal) (hPre_finite11 := hPre_finite11)
    ∧ preserves_StepShared_StepSharedIdeal
    ∧ algebraic_StepSharedIdeal_StepSharedRefIdeal (hStepSharedIdeal := hStepSharedIdeal) (hStepSharedRefIdeal := hStepSharedRefIdeal)
    ∧ preserves_StepAda_StepAdaIdeal
    ∧ algebraic_StepAdaIdeal_StepAdaRefIdeal (hStepAdaIdeal := hStepAdaIdeal) (hStepAdaRefIdeal := hStepAdaRefIdeal)
    ∧ preserves_StepSmall_StepSmallIdeal
    ∧ algebraic_StepSmallIdeal_StepSmallRefIdeal (hStepSmallIdeal := hStepSmallIdeal) (hStepSmallRefIdeal := hStepSmallRefIdeal)
    ∧ preserves_StepOut_StepOutIdeal
    ∧ algebraic_StepOutIdeal_StepOutRefIdeal (hStepOutIdeal := hStepOutIdeal) (hStepOutRefIdeal := hStepOutRefIdeal)
    ∧ preserves_StepEvenIn_StepEvenInIdeal
    ∧ algebraic_StepEvenInIdeal_StepEvenInRefIdeal (hStepEvenInIdeal := hStepEvenInIdeal) (hStepEvenInRefIdeal := hStepEvenInRefIdeal)
    ∧ preserves_StepOddIn_StepOddInIdeal
    ∧ algebraic_StepOddInIdeal_StepOddInRefIdeal (hStepOddInIdeal := hStepOddInIdeal) (hStepOddInRefIdeal := hStepOddInRefIdeal)
    ∧ preserves_StepQueries_StepQueriesIdeal
    ∧ algebraic_StepQueriesIdeal_StepQueriesRefIdeal (hStepQueriesIdeal := hStepQueriesIdeal) (hStepQueriesRefIdeal := hStepQueriesRefIdeal)
    ∧ preserves_StepKeys_StepKeysIdeal
    ∧ algebraic_StepKeysIdeal_StepKeysRefIdeal (hStepKeysIdeal := hStepKeysIdeal) (hStepKeysRefIdeal := hStepKeysRefIdeal)
    ∧ preserves_AdaGrad_AdaGradIdeal
    ∧ algebraic_AdaGradIdeal_AdaGradRefIdeal (hAdaGradIdeal := hAdaGradIdeal) (hAdaGradRefIdeal := hAdaGradRefIdeal)
-- ==== Pre_finite.lean ====
abbrev S8x4096x96 : Shape := ⟨3, ![8, 4096, 96]⟩
abbrev S8x4096x64 : Shape := ⟨3, ![8, 4096, 64]⟩
abbrev S_ : Shape := ⟨0, ![]⟩

class Facts : Prop where
  bcast_S_S8x4096x96 : S_.BroadcastsInDim S8x4096x96 (![] : Fin 0 → Fin S8x4096x96.rank)
  reducesTo_S8x4096x96_S_d0_1_2 : S8x4096x96.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_

variable [Facts]

def fn_part1 {F : FTy → Type} [FloatOps F] (main_v13 : IVec S_ 1) (main_v16 : IVec S8x4096x64 1) : IVec S_ 1 :=
  let main_c_5 : IVec S_ 1 := constantI S_ 1 1#1
  let main_v17 : IVec S_ 1 := (fun x v => Host.reduce IntOp.andi x v reducesTo_S8x4096x64_S_d0_1_2 h_S_) main_v16 main_c_5
  let main_v18 : IVec S_ 1 := andi main_v13 main_v17
  main_v18

def fn {F : FTy → Type} [FloatOps F] (main_arg0 : FVec F S8x4096x96 .f32) (main_arg1 : FVec F S8x4096x96 .f32) (main_arg2 : FVec F S8x4096x64 .f32) (main_arg3 : FVec F S8x4096x64 .f32) : IVec S_ 1 :=
  let main_v0 : FVec F S8x4096x96 .f32 := Host.absf main_arg0
  let main_cst : FVec F S_ .f32 := constant S_ .f32 0x7F800000#32
  let main_v1 : FVec F S8x4096x96 .f32 := broadcastInDim S8x4096x96 ![] bcast_S_S8x4096x96 main_cst
  let main_v2 : IVec S8x4096x96 1 := cmpf .olt main_v0 main_v1
  let main_c : IVec S_ 1 := constantI S_ 1 1#1
  let main_v3 : IVec S_ 1 := (fun x v => Host.reduce IntOp.andi x v reducesTo_S8x4096x96_S_d0_1_2 h_S_) main_v2 main_c
  let main_v4 : FVec F S8x4096x96 .f32 := Host.absf main_arg1
  let main_cst_0 : FVec F S_ .f32 := constant S_ .f32 0x7F800000#32
  let main_v5 : FVec F S8x4096x96 .f32 := broadcastInDim S8x4096x96 ![] bcast_S_S8x4096x96 main_cst_0
  let main_v6 : IVec S8x4096x96 1 := cmpf .olt main_v4 main_v5
  let main_c_1 : IVec S_ 1 := constantI S_ 1 1#1
  let main_v7 : IVec S_ 1 := (fun x v => Host.reduce IntOp.andi x v reducesTo_S8x4096x96_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S8x4096x64 .f32 := Host.absf main_arg3
  let main_cst_4 : FVec F S_ .f32 := constant S_ .f32 0x7F800000#32
  let main_v15 : FVec F S8x4096x64 .f32 := broadcastInDim S8x4096x64 ![] bcast_S_S8x4096x64 main_cst_4
  let main_v16 : IVec S8x4096x64 1 := cmpf .olt main_v14 main_v15
  fn_part1 (F := F) main_v13 main_v16
-- ==== Pre_finite11.lean ====
abbrev S8x4096x96 : Shape := ⟨3, ![8, 4096, 96]⟩
abbrev S8x4096x64 : Shape := ⟨3, ![8, 4096, 64]⟩
abbrev S_ : Shape := ⟨0, ![]⟩

class Facts : Prop where
  bcast_S_S8x4096x96 : S_.BroadcastsInDim S8x4096x96 (![] : Fin 0 → Fin S8x4096x96.rank)
  reducesTo_S8x4096x96_S_d0_1_2 : S8x4096x96.ReducesTo [0, 1, 2] S_
  h_S_ : 0 < S_.numel

variable [Facts]

def fn {F : FTy → Type} [FloatOps F] (main_arg0 : FVec F S8x4096x96 .f32) (main_arg1 : FVec F S8x4096x96 .f32) (main_arg2 : FVec F S8x4096x64 .f32) : IVec S_ 1 :=
  let main_v0 : FVec F S8x4096x96 .f32 := Host.absf main_arg0
  let main_cst : FVec F S_ .f32 := constant S_ .f32 0x7F800000#32
  let main_v1 : FVec F S8x4096x96 .f32 := broadcastInDim S8x4096x96 ![] bcast_S_S8x4096x96 main_cst
  let main_v2 : IVec S8x4096x96 1 := cmpf .olt main_v0 main_v1
  let main_c : IVec S_ 1 := constantI S_ 1 1#1
  let main_v3 : IVec S_ 1 := (fun x v => Host.reduce IntOp.andi x v reducesTo_S8x4096x96_S_d0_1_2 h_S_) main_v2 main_c
  let main_v4 : FVec F S8x4096x96 .f32 := Host.absf main_arg1
  let main_cst_0 : FVec F S_ .f32 := constant S_ .f32 0x7F800000#32
  let main_v5 : FVec F S8x4096x96 .f32 := broadcastInDim S8x4096x96 ![] bcast_S_S8x4096x96 main_cst_0
  let main_v6 : IVec S8x4096x96 1 := cmpf .olt main_v4 main_v5
  let main_c_1 : IVec S_ 1 := constantI S_ 1 1#1
  let main_v7 : IVec S_ 1 := (fun x v => Host.reduce IntOp.andi x v reducesTo_S8x4096x96_S_d0_1_2 h_S_) main_v6 main_c_1
  let main_v8 : IVec S_ 1 := andi main_v3 main_v7
  main_v8
-- ==== Kernel.lean ====
abbrev S8x4096x96 : Shape := ⟨3, ![8, 4096, 96]⟩
abbrev S8x4096x64 : Shape := ⟨3, ![8, 4096, 64]⟩
abbrev S_ : Shape := ⟨0, ![]⟩
abbrev S8x4096x128 : Shape := ⟨3, ![8, 4096, 128]⟩
abbrev S4096x8x128 : Shape := ⟨3, ![4096, 8, 128]⟩
abbrev S4096x1024 : Shape := ⟨2, ![4096, 1024]⟩
abbrev S16x256x1024 : Shape := ⟨3, ![16, 256, 1024]⟩
abbrev S16x1024x256 : Shape := ⟨3, ![16, 1024, 256]⟩
abbrev S4096x8x64 : Shape := ⟨3, ![4096, 8, 64]⟩
abbrev S4096x512 : Shape := ⟨2, ![4096, 512]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x16x1x256 : Shape := ⟨4, ![8, 16, 1, 256]⟩
abbrev S16x8x1x256 : Shape := ⟨4, ![16, 8, 1, 256]⟩
abbrev S16x8x8x256 : Shape := ⟨4, ![16, 8, 8, 256]⟩
abbrev S16x64x256 : Shape := ⟨3, ![16, 64, 256]⟩
abbrev S256x512 : Shape := ⟨2, ![256, 512]⟩
abbrev S256x256 : Shape := ⟨2, ![256, 256]⟩
abbrev S1x512x256 : Shape := ⟨3, ![1, 512, 256]⟩
abbrev S4096x256 : Shape := ⟨2, ![4096, 256]⟩
abbrev S16x32x256 : Shape := ⟨3, ![16, 32, 256]⟩
abbrev S16x512x256 : Shape := ⟨3, ![16, 512, 256]⟩
abbrev S4x256x128 : Shape := ⟨3, ![4, 256, 128]⟩
abbrev S256x128 : Shape := ⟨2, ![256, 128]⟩
abbrev S512x256 : Shape := ⟨2, ![512, 256]⟩
abbrev S1x32x256 : Shape := ⟨3, ![1, 32, 256]⟩
abbrev S32x256 : Shape := ⟨2, ![32, 256]⟩
abbrev S1x256 : Shape := ⟨2, ![1, 256]⟩
abbrev S128x256 : Shape := ⟨2, ![128, 256]⟩
abbrev S1x256x128 : Shape := ⟨3, ![1, 256, 128]⟩
abbrev S1x128x256 : Shape := ⟨3, ![1, 128, 256]⟩

abbrev nBuf : Space → Nat
  | .hbm => 96
  | .vmem => 22
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S8x4096x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4096x96, .f32⟩
  | .hbm, ⟨8, _⟩ => ⟨S8x4096x96, .f32⟩
  | .hbm, ⟨9, _⟩ => ⟨S8x4096x96, .f32⟩
  | .hbm, ⟨10, _⟩ => ⟨S8x4096x96, .f32⟩
  | .hbm, ⟨11, _⟩ => ⟨S_, .i32⟩
  | .hbm, ⟨12, _⟩ => ⟨S_, .f32⟩
  | .hbm, ⟨13, _⟩ => ⟨S8x4096x128, .f32⟩
  | .hbm, ⟨14, _⟩ => ⟨S4096x8x128, .f32⟩
  | .hbm, ⟨15, _⟩ => ⟨S4096x1024, .f32⟩
  | .hbm, ⟨16, _⟩ => ⟨S4096x1024, .bf16⟩
  | .hbm, ⟨17, _⟩ => ⟨S_, .i32⟩
  | .hbm, ⟨18, _⟩ => ⟨S_, .f32⟩
  | .hbm, ⟨19, _⟩ => ⟨S8x4096x128, .f32⟩
  | .hbm, ⟨20, _⟩ => ⟨S4096x8x128, .f32⟩
  | .hbm, ⟨21, _⟩ => ⟨S4096x1024, .f32⟩
  | .hbm, ⟨22, _⟩ => ⟨S16x256x1024, .f32⟩
  | .hbm, ⟨23, _⟩ => ⟨S16x1024x256, .f32⟩
  | .hbm, ⟨24, _⟩ => ⟨S16x1024x256, .bf16⟩
  | .hbm, ⟨25, _⟩ => ⟨S4096x8x64, .f32⟩
  | .hbm, ⟨26, _⟩ => ⟨S4096x512, .f32⟩
  | .hbm, ⟨27, _⟩ => ⟨S4096x512, .bf16⟩
  | .hbm, ⟨28, _⟩ => ⟨S4096x8x64, .f32⟩
  | .hbm, ⟨29, _⟩ => ⟨S4096x512, .f32⟩
  | .hbm, ⟨30, _⟩ => ⟨S4096x512, .bf16⟩
  | .hbm, ⟨31, _⟩ => ⟨S8x4096x4096, .f32⟩
  | .hbm, ⟨32, _⟩ => ⟨S_, .f32⟩
  | .hbm, ⟨33, _⟩ => ⟨S8x4096x4096, .f32⟩
  | .hbm, ⟨34, _⟩ => ⟨S8x4096x4096, .f32⟩
  | .hbm, ⟨35, _⟩ => ⟨S4096, .i32⟩
  | .hbm, ⟨36, _⟩ => ⟨S_, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S1x4096, .i32⟩
  | .hbm, ⟨55, _⟩ => ⟨S4096x1, .i32⟩
  | .hbm, ⟨56, _⟩ => ⟨S4096x4096, .i32⟩
  | .hbm, ⟨57, _⟩ => ⟨S4096x4096, .i32⟩
  | .hbm, ⟨58, _⟩ => ⟨S4096x4096, .i1⟩
  | .hbm, ⟨59, _⟩ => ⟨S_, .f32⟩
  | .hbm, ⟨60, _⟩ => ⟨S_, .f32⟩
  | .hbm, ⟨61, _⟩ => ⟨S8x4096x4096, .i1⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S8x4096x4096, .f32⟩
  | .hbm, ⟨68, _⟩ => ⟨S8x4096x4096, .f32⟩
  | .hbm, ⟨69, _⟩ => ⟨S8x4096x4096, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S8x4096x4096, .f32⟩
  | .hbm, ⟨74, _⟩ => ⟨S8x4096x4096, .f32⟩
  | .hbm, ⟨75, _⟩ => ⟨S8x4096x64, .f32⟩
  | .hbm, ⟨76, _⟩ => ⟨S8x4096x1, .f32⟩
  | .hbm, ⟨77, _⟩ => ⟨S8x4096x1, .f32⟩
  | .hbm, ⟨78, _⟩ => ⟨S8x4096, .f32⟩
  | .hbm, ⟨79, _⟩ => ⟨S8x4096, .f32⟩
  | .hbm, ⟨80, _⟩ => ⟨S8x4096, .f32⟩
  | .hbm, ⟨81, _⟩ => ⟨S8x4096x64, .f32⟩
  | .hbm, ⟨82, _⟩ => ⟨S_, .f32⟩
  | .hbm, ⟨83, _⟩ => ⟨S8x4096, .f32⟩
  | .hbm, ⟨84, _⟩ => ⟨S4096x1024, .bf16⟩
  | .hbm, ⟨85, _⟩ => ⟨S8x16x1x256, .f32⟩
  | .hbm, ⟨86, _⟩ => ⟨S16x8x1x256, .f32⟩
  | .hbm, ⟨87, _⟩ => ⟨S16x8x8x256, .f32⟩
  | .hbm, ⟨88, _⟩ => ⟨S16x64x256, .f32⟩
  | .hbm, ⟨89, _⟩ => ⟨S8x16x1x256, .f32⟩
  | .hbm, ⟨90, _⟩ => ⟨S16x8x1x256, .f32⟩
  | .hbm, ⟨91, _⟩ => ⟨S16x8x8x256, .f32⟩
  | .hbm, ⟨92, _⟩ => ⟨S16x64x256, .f32⟩
  | .hbm, ⟨93, _⟩ => ⟨S16x1024x256, .f32⟩
  | .hbm, ⟨94, _⟩ => ⟨S4096x1024, .bf16⟩
  | .hbm, ⟨95, _⟩ => ⟨S4096x512, .bf16⟩
  | .local _ .vmem, ⟨0, _⟩ => ⟨S4096x512, .bf16⟩
  | .local _ .vmem, ⟨1, _⟩ => ⟨S4096x512, .bf16⟩
  | .local _ .vmem, ⟨2, _⟩ => ⟨S256x512, .bf16⟩
  | .local _ .vmem, ⟨3, _⟩ => ⟨S256x512, .bf16⟩
  | .local _ .vmem, ⟨4, _⟩ => ⟨S256x256, .bf16⟩
  | .local _ .vmem, ⟨5, _⟩ => ⟨S256x256, .bf16⟩
  | .local _ .vmem, ⟨6, _⟩ => ⟨S1x512x256, .bf16⟩
  | .local _ .vmem, ⟨7, _⟩ => ⟨S1x512x256, .bf16⟩
  | .local _ .vmem, ⟨8, _⟩ => ⟨S4096x256, .bf16⟩
  | .local _ .vmem, ⟨9, _⟩ => ⟨S4096x256, .bf16⟩
  | .local _ .vmem, ⟨10, _⟩ => ⟨S16x32x256, .f32⟩
  | .local _ .vmem, ⟨11, _⟩ => ⟨S16x32x256, .f32⟩
  | .local _ .vmem, ⟨12, _⟩ => ⟨S16x32x256, .f32⟩
  | .local _ .vmem, ⟨13, _⟩ => ⟨S16x32x256, .f32⟩
  | .local _ .vmem, ⟨14, _⟩ => ⟨S16x512x256, .f32⟩
  | .local _ .vmem, ⟨15, _⟩ => ⟨S16x512x256, .f32⟩
  | .local _ .vmem, ⟨16, _⟩ => ⟨S256x512, .bf16⟩
  | .local _ .vmem, ⟨17, _⟩ => ⟨S256x512, .bf16⟩
  | .local _ .vmem, ⟨18, _⟩ => ⟨S256x256, .bf16⟩
  | .local _ .vmem, ⟨19, _⟩ => ⟨S256x256, .bf16⟩
  | .local _ .vmem, ⟨20, _⟩ => ⟨S256x512, .f32⟩
  | .local _ .vmem, ⟨21, _⟩ => ⟨S4x256x128, .f32⟩
  | _, _ => ⟨S8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_c : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_0 : Ref sig .tc := ⟨.hbm, 50, rfl⟩
abbrev main_call2_v12 : Ref sig .tc := ⟨.hbm, 51, rfl⟩
abbrev main_call2_v13 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v31 : Ref sig .tc := ⟨.hbm, 63, rfl⟩
abbrev main_cst_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_6 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_7 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58_0 : Ref sig .tc := ⟨.hbm, 93, rfl⟩
abbrev main_v58_1 : Ref sig .tc := ⟨.hbm, 94, rfl⟩
abbrev main_v58_2 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v30 : BitVec 32 := Scalar.muli arg1 c256_i32
  v30
def k0_off1 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v32 : Index := Scalar.indexCast v31
  let c0_18 : Index := 0#32
  ![v32.toNat, 0]
def k0_off2 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v35 : Index := Scalar.indexCast v31
  let c0_19 : Index := 0#32
  ![v35.toNat, 0]
def k0_off3 (i : grid0.Coords) : Fin 3 → Nat :=
  let arg1 : BitVec 32 := BitVec.ofNat 32 (i 1).val
  let v38 : Index := Scalar.indexCast arg1
  let c0_20 : Index := 0#32
  let c0_21 : Index := 0#32
  ![v38.toNat, 0, 0]
def k0_off4 (i : grid0.Coords) : Fin 3 → Nat :=
  let arg1 : BitVec 32 := BitVec.ofNat 32 (i 1).val
  let v347 : Index := Scalar.indexCast arg1
  let c0_113 : Index := 0#32
  let c0_114 : Index := 0#32
  ![v347.toNat, 0, 0]
def k0_off5 (i : grid0.Coords) : Fin 3 → Nat :=
  let arg1 : BitVec 32 := BitVec.ofNat 32 (i 1).val
  let v366 : Index := Scalar.indexCast arg1
  let c128_126 : Index := 128#32
  let c0_127 : Index := 0#32
  ![v366.toNat, 128, 0]
def k0_off6 (i : grid0.Coords) : Fin 3 → Nat :=
  let arg1 : BitVec 32 := BitVec.ofNat 32 (i 1).val
  let v385 : Index := Scalar.indexCast arg1
  let c256_138 : Index := 256#32
  let c0_139 : Index := 0#32
  ![v385.toNat, 256, 0]
def k0_off7 (i : grid0.Coords) : Fin 3 → Nat :=
  let arg1 : BitVec 32 := BitVec.ofNat 32 (i 1).val
  let v404 : Index := Scalar.indexCast arg1
  let c384_150 : Index := 384#32
  let c0_151 : Index := 0#32
  ![v404.toNat, 384, 0]
@[reducible] def k0_t1_loop (i : grid0.Coords) : Scf.Loop 32 :=
  let arg1 : BitVec 32 := BitVec.ofNat 32 (i 1).val
  let c1_i32_154 : BitVec 32 := 1#32
  let v412 : BitVec 32 := Scalar.addi arg1 c1_i32_154
  let c16_i32 : BitVec 32 := 16#32
  let v413 : BitVec 32 := Scalar.subi c16_i32 v412
  let c1_i32_156 : BitVec 32 := 1#32
  let v415 : BitVec 32 := Scalar.divsi v413 c1_i32_156
  let v416 : BitVec 32 := Scalar.muli v415 c1_i32_156
  let v417 : BitVec 32 := Scalar.addi v412 v416
  let c1_i32_157 : BitVec 32 := 1#32
  ⟨v412, v417, c1_i32_157⟩
def k0_mult2 (i : grid0.Coords) (k0_t1 : Fin (k0_t1_loop i).trips) : BitVec 32 :=
  let arg1 : BitVec 32 := BitVec.ofNat 32 (i 1).val
  let c1_i32_154 : BitVec 32 := 1#32
  let v412 : BitVec 32 := Scalar.addi arg1 c1_i32_154
  let c1_i32_157 : BitVec 32 := 1#32
  let arg14 : BitVec 32 := Scf.iv v412 c1_i32_157 k0_t1
  let c256_i32_180 : BitVec 32 := 256#32
  let v437 : BitVec 32 := Scalar.muli arg14 c256_i32_180
  v437
def k0_off8 (i : grid0.Coords) (k0_t1 : Fin (k0_t1_loop i).trips) : Fin 2 → Nat :=
  let arg1 : BitVec 32 := BitVec.ofNat 32 (i 1).val
  let c1_i32_154 : BitVec 32 := 1#32
  let v412 : BitVec 32 := Scalar.addi arg1 c1_i32_154
  let c1_i32_157 : BitVec 32 := 1#32
  let arg14 : BitVec 32 := Scf.iv v412 c1_i32_157 k0_t1
  let c256_i32_180 : BitVec 32 := 256#32
  let v437 : BitVec 32 := Scalar.muli arg14 c256_i32_180
  let v438 : BitVec 32 := v437
  let v439 : Index := Scalar.indexCast v438
  let c0_181 : Index := 0#32
  ![v439.toNat, 0]
def k0_off9 (i : grid0.Coords) (k0_t1 : Fin (k0_t1_loop i).trips) : Fin 2 → Nat :=
  let arg1 : BitVec 32 := BitVec.ofNat 32 (i 1).val
  let c1_i32_154 : BitVec 32 := 1#32
  let v412 : BitVec 32 := Scalar.addi arg1 c1_i32_154
  let c1_i32_157 : BitVec 32 := 1#32
  let arg14 : BitVec 32 := Scf.iv v412 c1_i32_157 k0_t1
  let c256_i32_180 : BitVec 32 := 256#32
  let v437 : BitVec 32 := Scalar.muli arg14 c256_i32_180
  let v438 : BitVec 32 := v437
  let v442 : Index := Scalar.indexCast v438
  let c0_182 : Index := 0#32
  ![v442.toNat, 0]
def k0_off10 (i : grid0.Coords) (k0_t1 : Fin (k0_t1_loop i).trips) : Fin 3 → Nat :=
  let arg1 : BitVec 32 := BitVec.ofNat 32 (i 1).val
  let c1_i32_154 : BitVec 32 := 1#32
  let v412 : BitVec 32 := Scalar.addi arg1 c1_i32_154
  let c1_i32_157 : BitVec 32 := 1#32
  let arg14 : BitVec 32 := Scf.iv v412 c1_i32_157 k0_t1
  let v445 : Index := Scalar.indexCast arg14
  let c0_183 : Index := 0#32
  let c0_184 : Index := 0#32
  ![v445.toNat, 0, 0]
def k0_off11 (i : grid0.Coords) (k0_t1 : Fin (k0_t1_loop i).trips) : Fin 3 → Nat :=
  let arg1 : BitVec 32 := BitVec.ofNat 32 (i 1).val
  let c1_i32_154 : BitVec 32 := 1#32
  let v412 : BitVec 32 := Scalar.addi arg1 c1_i32_154
  let c1_i32_157 : BitVec 32 := 1#32
  let arg14 : BitVec 32 := Scf.iv v412 c1_i32_157 k0_t1
  let v542 : Index := Scalar.indexCast arg14
  let c0_217 : Index := 0#32
  let c0_218 : Index := 0#32
  ![v542.toNat, 0, 0]
def k0_off12 (i : grid0.Coords) (k0_t1 : Fin (k0_t1_loop i).trips) : Fin 3 → Nat :=
  let arg1 : BitVec 32 := BitVec.ofNat 32 (i 1).val
  let c1_i32_154 : BitVec 32 := 1#32
  let v412 : BitVec 32 := Scalar.addi arg1 c1_i32_154
  let c1_i32_157 : BitVec 32 := 1#32
  let arg14 : BitVec 32 := Scf.iv v412 c1_i32_157 k0_t1
  let v561 : Index := Scalar.indexCast arg14
  let c128_231 : Index := 128#32
  let c0_232 : Index := 0#32
  ![v561.toNat, 128, 0]
def k0_off13 (i : grid0.Coords) (k0_t1 : Fin (k0_t1_loop i).trips) : Fin 3 → Nat :=
  let arg1 : BitVec 32 := BitVec.ofNat 32 (i 1).val
  let c1_i32_154 : BitVec 32 := 1#32
  let v412 : BitVec 32 := Scalar.addi arg1 c1_i32_154
  let c1_i32_157 : BitVec 32 := 1#32
  let arg14 : BitVec 32 := Scf.iv v412 c1_i32_157 k0_t1
  let v580 : Index := Scalar.indexCast arg14
  let c256_245 : Index := 256#32
  let c0_246 : Index := 0#32
  ![v580.toNat, 256, 0]
def k0_off14 (i : grid0.Coords) (k0_t1 : Fin (k0_t1_loop i).trips) : Fin 3 → Nat :=
  let arg1 : BitVec 32 := BitVec.ofNat 32 (i 1).val
  let c1_i32_154 : BitVec 32 := 1#32
  let v412 : BitVec 32 := Scalar.addi arg1 c1_i32_154
  let c1_i32_157 : BitVec 32 := 1#32
  let arg14 : BitVec 32 := Scf.iv v412 c1_i32_157 k0_t1
  let v599 : Index := Scalar.indexCast arg14
  let c384_259 : Index := 384#32
  let c0_260 : Index := 0#32
  ![v599.toNat, 384, 0]
@[reducible] def k0_t2_loop (i : grid0.Coords) : Scf.Loop 32 :=
  let arg1 : BitVec 32 := BitVec.ofNat 32 (i 1).val
  let c1_i32_154 : BitVec 32 := 1#32
  let v412 : BitVec 32 := Scalar.addi arg1 c1_i32_154
  let c16_i32 : BitVec 32 := 16#32
  let v413 : BitVec 32 := Scalar.subi c16_i32 v412
  let c1_i32_156 : BitVec 32 := 1#32
  let v415 : BitVec 32 := Scalar.divsi v413 c1_i32_156
  let v416 : BitVec 32 := Scalar.muli v415 c1_i32_156
  let v417 : BitVec 32 := Scalar.addi v412 v416
  let v414 : BitVec 32 := Scalar.addi v412 v413
  let c1_i32_158 : BitVec 32 := 1#32
  ⟨v417, v414, c1_i32_158⟩
def k0_mult3 (i : grid0.Coords) (k0_t2 : Fin (k0_t2_loop i).trips) : BitVec 32 :=
  let arg1 : BitVec 32 := BitVec.ofNat 32 (i 1).val
  let c1_i32_154 : BitVec 32 := 1#32
  let v412 : BitVec 32 := Scalar.addi arg1 c1_i32_154
  let c16_i32 : BitVec 32 := 16#32
  let v413 : BitVec 32 := Scalar.subi c16_i32 v412
  let c1_i32_156 : BitVec 32 := 1#32
  let v415 : BitVec 32 := Scalar.divsi v413 c1_i32_156
  let v416 : BitVec 32 := Scalar.muli v415 c1_i32_156
  let v417 : BitVec 32 := Scalar.addi v412 v416
  let c1_i32_158 : BitVec 32 := 1#32
  let arg14 : BitVec 32 := Scf.iv v417 c1_i32_158 k0_t2
  let c256_i32_180 : BitVec 32 := 256#32
  let v437 : BitVec 32 := Scalar.muli arg14 c256_i32_180
  v437
def k0_off15 (i : grid0.Coords) (k0_t2 : Fin (k0_t2_loop i).trips) : Fin 2 → Nat :=
  let arg1 : BitVec 32 := BitVec.ofNat 32 (i 1).val
  let c1_i32_154 : BitVec 32 := 1#32
  let v412 : BitVec 32 := Scalar.addi arg1 c1_i32_154
  let c16_i32 : BitVec 32 := 16#32
  let v413 : BitVec 32 := Scalar.subi c16_i32 v412
  let c1_i32_156 : BitVec 32 := 1#32
  let v415 : BitVec 32 := Scalar.divsi v413 c1_i32_156
  let v416 : BitVec 32 := Scalar.muli v415 c1_i32_156
  let v417 : BitVec 32 := Scalar.addi v412 v416
  let c1_i32_158 : BitVec 32 := 1#32
  let arg14 : BitVec 32 := Scf.iv v417 c1_i32_158 k0_t2
  let c256_i32_180 : BitVec 32 := 256#32
  let v437 : BitVec 32 := Scalar.muli arg14 c256_i32_180
  let v438 : BitVec 32 := v437
  let v439 : Index := Scalar.indexCast v438
  let c0_181 : Index := 0#32
  ![v439.toNat, 0]
def k0_off16 (i : grid0.Coords) (k0_t2 : Fin (k0_t2_loop i).trips) : Fin 2 → Nat :=
  let arg1 : BitVec 32 := BitVec.ofNat 32 (i 1).val
  let c1_i32_154 : BitVec 32 := 1#32
  let v412 : BitVec 32 := Scalar.addi arg1 c1_i32_154
  let c16_i32 : BitVec 32 := 16#32
  let v413 : BitVec 32 := Scalar.subi c16_i32 v412
  let c1_i32_156 : BitVec 32 := 1#32
  let v415 : BitVec 32 := Scalar.divsi v413 c1_i32_156
  let v416 : BitVec 32 := Scalar.muli v415 c1_i32_156
  let v417 : BitVec 32 := Scalar.addi v412 v416
  let c1_i32_158 : BitVec 32 := 1#32
  let arg14 : BitVec 32 := Scf.iv v417 c1_i32_158 k0_t2
  let c256_i32_180 : BitVec 32 := 256#32
  let v437 : BitVec 32 := Scalar.muli arg14 c256_i32_180
  let v438 : BitVec 32 := v437
  let v442 : Index := Scalar.indexCast v438
  let c0_182 : Index := 0#32
  ![v442.toNat, 0]
def k0_off17 (i : grid0.Coords) (k0_t2 : Fin (k0_t2_loop i).trips) : Fin 3 → Nat :=
  let arg1 : BitVec 32 := BitVec.ofNat 32 (i 1).val
  let c1_i32_154 : BitVec 32 := 1#32
  let v412 : BitVec 32 := Scalar.addi arg1 c1_i32_154
  let c16_i32 : BitVec 32 := 16#32
  let v413 : BitVec 32 := Scalar.subi c16_i32 v412
  let c1_i32_156 : BitVec 32 := 1#32
  let v415 : BitVec 32 := Scalar.divsi v413 c1_i32_156
  let v416 : BitVec 32 := Scalar.muli v415 c1_i32_156
  let v417 : BitVec 32 := Scalar.addi v412 v416
  let c1_i32_158 : BitVec 32 := 1#32
  let arg14 : BitVec 32 := Scf.iv v417 c1_i32_158 k0_t2
  let v445 : Index := Scalar.indexCast arg14
  let c0_183 : Index := 0#32
  let c0_184 : Index := 0#32
  ![v445.toNat, 0, 0]
def k0_off18 (i : grid0.Coords) (k0_t2 : Fin (k0_t2_loop i).trips) : Fin 3 → Nat :=
  let arg1 : BitVec 32 := BitVec.ofNat 32 (i 1).val
  let c1_i32_154 : BitVec 32 := 1#32
  let v412 : BitVec 32 := Scalar.addi arg1 c1_i32_154
  let c16_i32 : BitVec 32 := 16#32
  let v413 : BitVec 32 := Scalar.subi c16_i32 v412
  let c1_i32_156 : BitVec 32 := 1#32
  let v415 : BitVec 32 := Scalar.divsi v413 c1_i32_156
  let v416 : BitVec 32 := Scalar.muli v415 c1_i32_156
  let v417 : BitVec 32 := Scalar.addi v412 v416
  let c1_i32_158 : BitVec 32 := 1#32
  let arg14 : BitVec 32 := Scf.iv v417 c1_i32_158 k0_t2
  let v542 : Index := Scalar.indexCast arg14
  let c0_217 : Index := 0#32
  let c0_218 : Index := 0#32
  ![v542.toNat, 0, 0]
def k0_off19 (i : grid0.Coords) (k0_t2 : Fin (k0_t2_loop i).trips) : Fin 3 → Nat :=
  let arg1 : BitVec 32 := BitVec.ofNat 32 (i 1).val
  let c1_i32_154 : BitVec 32 := 1#32
  let v412 : BitVec 32 := Scalar.addi arg1 c1_i32_154
  let c16_i32 : BitVec 32 := 16#32
  let v413 : BitVec 32 := Scalar.subi c16_i32 v412
  let c1_i32_156 : BitVec 32 := 1#32
  let v415 : BitVec 32 := Scalar.divsi v413 c1_i32_156
  let v416 : BitVec 32 := Scalar.muli v415 c1_i32_156
  let v417 : BitVec 32 := Scalar.addi v412 v416
  let c1_i32_158 : BitVec 32 := 1#32
  let arg14 : BitVec 32 := Scf.iv v417 c1_i32_158 k0_t2
  let v561 : Index := Scalar.indexCast arg14
  let c128_231 : Index := 128#32
  let c0_232 : Index := 0#32
  ![v561.toNat, 128, 0]
def k0_off20 (i : grid0.Coords) (k0_t2 : Fin (k0_t2_loop i).trips) : Fin 3 → Nat :=
  let arg1 : BitVec 32 := BitVec.ofNat 32 (i 1).val
  let c1_i32_154 : BitVec 32 := 1#32
  let v412 : BitVec 32 := Scalar.addi arg1 c1_i32_154
  let c16_i32 : BitVec 32 := 16#32
  let v413 : BitVec 32 := Scalar.subi c16_i32 v412
  let c1_i32_156 : BitVec 32 := 1#32
  let v415 : BitVec 32 := Scalar.divsi v413 c1_i32_156
  let v416 : BitVec 32 := Scalar.muli v415 c1_i32_156
  let v417 : BitVec 32 := Scalar.addi v412 v416
  let c1_i32_158 : BitVec 32 := 1#32
  let arg14 : BitVec 32 := Scf.iv v417 c1_i32_158 k0_t2
  let v580 : Index := Scalar.indexCast arg14
  let c256_245 : Index := 256#32
  let c0_246 : Index := 0#32
  ![v580.toNat, 256, 0]
def k0_off21 (i : grid0.Coords) (k0_t2 : Fin (k0_t2_loop i).trips) : Fin 3 → Nat :=
  let arg1 : BitVec 32 := BitVec.ofNat 32 (i 1).val
  let c1_i32_154 : BitVec 32 := 1#32
  let v412 : BitVec 32 := Scalar.addi arg1 c1_i32_154
  let c16_i32 : BitVec 32 := 16#32
  let v413 : BitVec 32 := Scalar.subi c16_i32 v412
  let c1_i32_156 : BitVec 32 := 1#32
  let v415 : BitVec 32 := Scalar.divsi v413 c1_i32_156
  let v416 : BitVec 32 := Scalar.muli v415 c1_i32_156
  let v417 : BitVec 32 := Scalar.addi v412 v416
  let c1_i32_158 : BitVec 32 := 1#32
  let arg14 : BitVec 32 := Scf.iv v417 c1_i32_158 k0_t2
  let v599 : Index := Scalar.indexCast arg14
  let c384_259 : Index := 384#32
  let c0_260 : Index := 0#32
  ![v599.toNat, 384, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln2" => some ((Real.log 2 : ℝ) : EReal)
  | _ => none
-- ==== Reference.lean ====
abbrev S8x4096x96 : Shape := ⟨3, ![8, 4096, 96]⟩
abbrev S8x4096x64 : Shape := ⟨3, ![8, 4096, 64]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x128 : Shape := ⟨3, ![8, 4096, 128]⟩
abbrev S8x128x4096 : Shape := ⟨3, ![8, 128, 4096]⟩
abbrev S1024x16x256 : Shape := ⟨3, ![1024, 16, 256]⟩
abbrev S16x1024x256 : Shape := ⟨3, ![16, 1024, 256]⟩
abbrev S4096x8x128 : Shape := ⟨3, ![4096, 8, 128]⟩
abbrev S4096x1024 : Shape := ⟨2, ![4096, 1024]⟩
abbrev S4096x8x64 : Shape := ⟨3, ![4096, 8, 64]⟩
abbrev S4096x512 : Shape := ⟨2, ![4096, 512]⟩

abbrev nBuf : Space → Nat
  | .hbm => 115
  | .vmem => 0
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S8x4096x64, .f32⟩
  | .hbm, ⟨4, _⟩ => ⟨S_, .f32⟩
  | .hbm, ⟨5, _⟩ => ⟨S8x4096x96, .f32⟩
  | .hbm, ⟨6, _⟩ => ⟨S8x4096x96, .f32⟩
  | .hbm, ⟨7, _⟩ => ⟨S8x4096x4096, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S8x4096x4096, .i1⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .i1⟩
  | .hbm, ⟨44, _⟩ => ⟨S8x4096x4096, .f32⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S8x4096, .i1⟩
  | .hbm, ⟨53, _⟩ => ⟨S_, .f32⟩
  | .hbm, ⟨54, _⟩ => ⟨S8x4096, .f32⟩
  | .hbm, ⟨55, _⟩ => ⟨S8x4096, .i1⟩
  | .hbm, ⟨56, _⟩ => ⟨S_, .f32⟩
  | .hbm, ⟨57, _⟩ => ⟨S8x4096, .f32⟩
  | .hbm, ⟨58, _⟩ => ⟨S_, .f32⟩
  | .hbm, ⟨59, _⟩ => ⟨S8x4096, .f32⟩
  | .hbm, ⟨60, _⟩ => ⟨S_, .f32⟩
  | .hbm, ⟨61, _⟩ => ⟨S8x4096, .f32⟩
  | .hbm, ⟨62, _⟩ => ⟨S8x4096, .f32⟩
  | .hbm, ⟨63, _⟩ => ⟨S8x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x4096, .f32⟩
  | .hbm, ⟨72, _⟩ => ⟨S8x4096x4096, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S8x4096x64, .f32⟩
  | .hbm, ⟨78, _⟩ => ⟨S8x64x4096, .f32⟩
  | .hbm, ⟨79, _⟩ => ⟨S8x4096x64, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096, .f32⟩
  | .hbm, ⟨86, _⟩ => ⟨S8x4096x1, .f32⟩
  | .hbm, ⟨87, _⟩ => ⟨S8x4096x1, .f32⟩
  | .hbm, ⟨88, _⟩ => ⟨S8x4096x4096, .f32⟩
  | .hbm, ⟨89, _⟩ => ⟨S8x4096x4096, .f32⟩
  | .hbm, ⟨90, _⟩ => ⟨S_, .f32⟩
  | .hbm, ⟨91, _⟩ => ⟨S8x4096, .f32⟩
  | .hbm, ⟨92, _⟩ => ⟨S8x4096x4096, .f32⟩
  | .hbm, ⟨93, _⟩ => ⟨S8x4096x4096, .f32⟩
  | .hbm, ⟨94, _⟩ => ⟨S8x4096x4096, .f32⟩
  | .hbm, ⟨95, _⟩ => ⟨S_, .f32⟩
  | .hbm, ⟨96, _⟩ => ⟨S8x4096x4096, .f32⟩
  | .hbm, ⟨97, _⟩ => ⟨S8x4096x4096, .f32⟩
  | .hbm, ⟨98, _⟩ => ⟨S8x4096x96, .f32⟩
  | .hbm, ⟨99, _⟩ => ⟨S8x4096x96, .f32⟩
  | .hbm, ⟨100, _⟩ => ⟨S_, .i32⟩
  | .hbm, ⟨101, _⟩ => ⟨S_, .f32⟩
  | .hbm, ⟨102, _⟩ => ⟨S8x4096x128, .f32⟩
  | .hbm, ⟨103, _⟩ => ⟨S8x128x4096, .f32⟩
  | .hbm, ⟨104, _⟩ => ⟨S1024x16x256, .f32⟩
  | .hbm, ⟨105, _⟩ => ⟨S16x1024x256, .f32⟩
  | .hbm, ⟨106, _⟩ => ⟨S_, .i32⟩
  | .hbm, ⟨107, _⟩ => ⟨S_, .f32⟩
  | .hbm, ⟨108, _⟩ => ⟨S8x4096x128, .f32⟩
  | .hbm, ⟨109, _⟩ => ⟨S4096x8x128, .f32⟩
  | .hbm, ⟨110, _⟩ => ⟨S4096x1024, .f32⟩
  | .hbm, ⟨111, _⟩ => ⟨S4096x1024, .bf16⟩
  | .hbm, ⟨112, _⟩ => ⟨S4096x8x64, .f32⟩
  | .hbm, ⟨113, _⟩ => ⟨S4096x512, .f32⟩
  | .hbm, ⟨114, _⟩ => ⟨S4096x512, .bf16⟩
  | _, _ => ⟨S8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_11 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_12 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_call2_cst : Ref sig .tc := ⟨.hbm, 95, rfl⟩
abbrev main_call2_v0 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_13 : Ref sig .tc := ⟨.hbm, 100, rfl⟩
abbrev main_call3_v0 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_14 : Ref sig .tc := ⟨.hbm, 106, rfl⟩
abbrev main_call4_v0 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩

abbrev nD : Nat := 1
abbrev τ : Topo := Topo.v7x

variable {F : FTy → Type} [FloatOps F]
-- ==== OutLeft.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutLeftRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutRight.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRightRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OddLeft.lean ====
abbrev S4096x3072 : Shape := ⟨2, ![4096, 3072]⟩
abbrev S1024x3072 : Shape := ⟨2, ![1024, 3072]⟩
abbrev S4096x1024 : Shape := ⟨2, ![4096, 1024]⟩
abbrev S512x3072 : Shape := ⟨2, ![512, 3072]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x3072, .bf16⟩
  | .hbm, ⟨3, _⟩ => ⟨S1024x3072, .bf16⟩
  | .hbm, ⟨4, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddLeftRefIdeal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S_, .f32⟩
  | .hbm, ⟨3, _⟩ => ⟨S4096x1024, .f32⟩
  | .hbm, ⟨4, _⟩ => ⟨S4096x3072, .f32⟩
  | .hbm, ⟨5, _⟩ => ⟨S4096x1024, .f32⟩
  | .hbm, ⟨6, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OddIn.lean ====
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S4096x3072, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddInRefIdeal.lean ====
abbrev S4096x1024 : Shape := ⟨2, ![4096, 1024]⟩
abbrev S1024x3072 : Shape := ⟨2, ![1024, 3072]⟩
abbrev S4096x3072 : Shape := ⟨2, ![4096, 3072]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x3072, .bf16⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== OddRight.lean ====
abbrev S4096x1024 : Shape := ⟨2, ![4096, 1024]⟩
abbrev S4096x3072 : Shape := ⟨2, ![4096, 3072]⟩
abbrev S8x1024x384 : Shape := ⟨3, ![8, 1024, 384]⟩
abbrev S4096x384 : Shape := ⟨2, ![4096, 384]⟩
abbrev S1x1024x384 : Shape := ⟨3, ![1, 1024, 384]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x3072, .bf16⟩
  | .hbm, ⟨4, _⟩ => ⟨S8x1024x384, .bf16⟩
  | .local _ .vmem, ⟨0, _⟩ => ⟨S4096x1024, .bf16⟩
  | .local _ .vmem, ⟨1, _⟩ => ⟨S4096x384, .bf16⟩
  | .local _ .vmem, ⟨2, _⟩ => ⟨S4096x384, .bf16⟩
  | .local _ .vmem, ⟨3, _⟩ => ⟨S1x1024x384, .bf16⟩
  | .local _ .vmem, ⟨4, _⟩ => ⟨S1x1024x384, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddRightRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | .hbm, ⟨8, _⟩ => ⟨S1024x8x384, .bf16⟩
  | .hbm, ⟨9, _⟩ => ⟨S8x1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenLeft.lean ====
abbrev S4096x2976 : Shape := ⟨2, ![4096, 2976]⟩
abbrev S1024x2976 : Shape := ⟨2, ![1024, 2976]⟩
abbrev S2976x1024 : Shape := ⟨2, ![2976, 1024]⟩
abbrev S2048x1024 : Shape := ⟨2, ![2048, 1024]⟩
abbrev S512x1024 : Shape := ⟨2, ![512, 1024]⟩
abbrev S384x1024 : Shape := ⟨2, ![384, 1024]⟩
abbrev S_ : Shape := ⟨0, ![]⟩
abbrev S64x1024 : Shape := ⟨2, ![64, 1024]⟩
abbrev S32x1024 : Shape := ⟨2, ![32, 1024]⟩
abbrev S3072x1024 : Shape := ⟨2, ![3072, 1024]⟩
abbrev S4096x512 : Shape := ⟨2, ![4096, 512]⟩
abbrev S4096x256 : Shape := ⟨2, ![4096, 256]⟩
abbrev S4096x128 : Shape := ⟨2, ![4096, 128]⟩
abbrev S4096x32 : Shape := ⟨2, ![4096, 32]⟩
abbrev S4096x64 : Shape := ⟨2, ![4096, 64]⟩
abbrev S4096x3072 : Shape := ⟨2, ![4096, 3072]⟩
abbrev S4096x1024 : Shape := ⟨2, ![4096, 1024]⟩
abbrev S512x3072 : Shape := ⟨2, ![512, 3072]⟩

abbrev nBuf : Space → Nat
  | .hbm => 28
  | .vmem => 5
  | .smem => 0
  | _ => 0

abbrev bufTy : (tb : Table) → Fin (tcTables nBuf tb) → BufTy
  | .hbm, ⟨0, _⟩ => ⟨S4096x2976, .f32⟩
  | .hbm, ⟨1, _⟩ => ⟨S1024x2976, .f32⟩
  | .hbm, ⟨2, _⟩ => ⟨S2976x1024, .f32⟩
  | .hbm, ⟨3, _⟩ => ⟨S2976x1024, .bf16⟩
  | .hbm, ⟨4, _⟩ => ⟨S2048x1024, .bf16⟩
  | .hbm, ⟨5, _⟩ => ⟨S512x1024, .bf16⟩
  | .hbm, ⟨6, _⟩ => ⟨S384x1024, .bf16⟩
  | .hbm, ⟨7, _⟩ => ⟨S_, .bf16⟩
  | .hbm, ⟨8, _⟩ => ⟨S64x1024, .bf16⟩
  | .hbm, ⟨9, _⟩ => ⟨S32x1024, .bf16⟩
  | .hbm, ⟨10, _⟩ => ⟨S_, .bf16⟩
  | .hbm, ⟨11, _⟩ => ⟨S32x1024, .bf16⟩
  | .hbm, ⟨12, _⟩ => ⟨S3072x1024, .bf16⟩
  | .hbm, ⟨13, _⟩ => ⟨S4096x2976, .bf16⟩
  | .hbm, ⟨14, _⟩ => ⟨S4096x512, .bf16⟩
  | .hbm, ⟨15, _⟩ => ⟨S4096x512, .bf16⟩
  | .hbm, ⟨16, _⟩ => ⟨S4096x512, .bf16⟩
  | .hbm, ⟨17, _⟩ => ⟨S4096x512, .bf16⟩
  | .hbm, ⟨18, _⟩ => ⟨S4096x256, .bf16⟩
  | .hbm, ⟨19, _⟩ => ⟨S4096x128, .bf16⟩
  | .hbm, ⟨20, _⟩ => ⟨S4096x32, .bf16⟩
  | .hbm, ⟨21, _⟩ => ⟨S4096x512, .bf16⟩
  | .hbm, ⟨22, _⟩ => ⟨S_, .bf16⟩
  | .hbm, ⟨23, _⟩ => ⟨S4096x64, .bf16⟩
  | .hbm, ⟨24, _⟩ => ⟨S_, .bf16⟩
  | .hbm, ⟨25, _⟩ => ⟨S4096x32, .bf16⟩
  | .hbm, ⟨26, _⟩ => ⟨S4096x3072, .bf16⟩
  | .hbm, ⟨27, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .bf16⟩
  | .local _ .vmem, ⟨4, _⟩ => ⟨S512x1024, .bf16⟩
  | _, _ => ⟨S4096x2976, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenLeftRefIdeal.lean ====
abbrev S4096x2976 : Shape := ⟨2, ![4096, 2976]⟩
abbrev S1024x2976 : Shape := ⟨2, ![1024, 2976]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2976, .f32⟩
  | .hbm, ⟨1, _⟩ => ⟨S1024x2976, .f32⟩
  | .hbm, ⟨2, _⟩ => ⟨S_, .f32⟩
  | .hbm, ⟨3, _⟩ => ⟨S4096x1024, .f32⟩
  | .hbm, ⟨4, _⟩ => ⟨S4096x2976, .f32⟩
  | .hbm, ⟨5, _⟩ => ⟨S4096x1024, .f32⟩
  | .hbm, ⟨6, _⟩ => ⟨S4096x1024, .bf16⟩
  | _, _ => ⟨S4096x2976, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvenRight.lean ====
abbrev S4096x1024 : Shape := ⟨2, ![4096, 1024]⟩
abbrev S4096x2976 : Shape := ⟨2, ![4096, 2976]⟩
abbrev S4096x512 : Shape := ⟨2, ![4096, 512]⟩
abbrev S4096x256 : Shape := ⟨2, ![4096, 256]⟩
abbrev S4096x128 : Shape := ⟨2, ![4096, 128]⟩
abbrev S4096x32 : Shape := ⟨2, ![4096, 32]⟩
abbrev S_ : Shape := ⟨0, ![]⟩
abbrev S4096x64 : Shape := ⟨2, ![4096, 64]⟩
abbrev S4096x3072 : Shape := ⟨2, ![4096, 3072]⟩
abbrev S3072x1024 : Shape := ⟨2, ![3072, 1024]⟩
abbrev S1024x1024 : Shape := ⟨2, ![1024, 1024]⟩

abbrev nBuf : Space → Nat
  | .hbm => 18
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2976, .f32⟩
  | .hbm, ⟨2, _⟩ => ⟨S4096x2976, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x256, .bf16⟩
  | .hbm, ⟨8, _⟩ => ⟨S4096x128, .bf16⟩
  | .hbm, ⟨9, _⟩ => ⟨S4096x32, .bf16⟩
  | .hbm, ⟨10, _⟩ => ⟨S4096x512, .bf16⟩
  | .hbm, ⟨11, _⟩ => ⟨S_, .bf16⟩
  | .hbm, ⟨12, _⟩ => ⟨S4096x64, .bf16⟩
  | .hbm, ⟨13, _⟩ => ⟨S_, .bf16⟩
  | .hbm, ⟨14, _⟩ => ⟨S4096x32, .bf16⟩
  | .hbm, ⟨15, _⟩ => ⟨S4096x3072, .bf16⟩
  | .hbm, ⟨16, _⟩ => ⟨S4096x1024, .bf16⟩
  | .hbm, ⟨17, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenRightRefIdeal.lean ====
abbrev S4096x1024 : Shape := ⟨2, ![4096, 1024]⟩
abbrev S4096x2976 : Shape := ⟨2, ![4096, 2976]⟩
abbrev S_ : Shape := ⟨0, ![]⟩
abbrev S1024x2976 : Shape := ⟨2, ![1024, 2976]⟩
abbrev S2976x1024 : Shape := ⟨2, ![2976, 1024]⟩
abbrev S1024x96 : Shape := ⟨2, ![1024, 96]⟩
abbrev S1024x2048 : Shape := ⟨2, ![1024, 2048]⟩
abbrev S1024x512 : Shape := ⟨2, ![1024, 512]⟩
abbrev S1024x384 : Shape := ⟨2, ![1024, 384]⟩
abbrev S1024x64 : Shape := ⟨2, ![1024, 64]⟩
abbrev S1024x32 : Shape := ⟨2, ![1024, 32]⟩
abbrev S1024x3072 : Shape := ⟨2, ![1024, 3072]⟩
abbrev S3072x1024 : Shape := ⟨2, ![3072, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2976, .f32⟩
  | .hbm, ⟨2, _⟩ => ⟨S_, .f32⟩
  | .hbm, ⟨3, _⟩ => ⟨S1024x2976, .f32⟩
  | .hbm, ⟨4, _⟩ => ⟨S4096x2976, .f32⟩
  | .hbm, ⟨5, _⟩ => ⟨S2976x1024, .f32⟩
  | .hbm, ⟨6, _⟩ => ⟨S1024x2976, .f32⟩
  | .hbm, ⟨7, _⟩ => ⟨S1024x2976, .bf16⟩
  | .hbm, ⟨8, _⟩ => ⟨S_, .bf16⟩
  | .hbm, ⟨9, _⟩ => ⟨S1024x96, .bf16⟩
  | .hbm, ⟨10, _⟩ => ⟨S1024x2048, .bf16⟩
  | .hbm, ⟨11, _⟩ => ⟨S1024x512, .bf16⟩
  | .hbm, ⟨12, _⟩ => ⟨S1024x384, .bf16⟩
  | .hbm, ⟨13, _⟩ => ⟨S1024x64, .bf16⟩
  | .hbm, ⟨14, _⟩ => ⟨S1024x32, .bf16⟩
  | .hbm, ⟨15, _⟩ => ⟨S1024x32, .bf16⟩
  | .hbm, ⟨16, _⟩ => ⟨S1024x3072, .bf16⟩
  | .hbm, ⟨17, _⟩ => ⟨S3072x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== OutProduct.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProductRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== EvenIn.lean ====
abbrev S4096x1024 : Shape := ⟨2, ![4096, 1024]⟩
abbrev S1024x2976 : Shape := ⟨2, ![1024, 2976]⟩
abbrev S256 : Shape := ⟨1, ![256]⟩
abbrev S128 : Shape := ⟨1, ![128]⟩
abbrev S2976x1024 : Shape := ⟨2, ![2976, 1024]⟩
abbrev S2048x1024 : Shape := ⟨2, ![2048, 1024]⟩
abbrev S512x1024 : Shape := ⟨2, ![512, 1024]⟩
abbrev S384x1024 : Shape := ⟨2, ![384, 1024]⟩
abbrev S_ : Shape := ⟨0, ![]⟩
abbrev S64x1024 : Shape := ⟨2, ![64, 1024]⟩
abbrev S32x1024 : Shape := ⟨2, ![32, 1024]⟩
abbrev S3072x1024 : Shape := ⟨2, ![3072, 1024]⟩
abbrev S1x256 : Shape := ⟨2, ![1, 256]⟩
abbrev S1x128 : Shape := ⟨2, ![1, 128]⟩
abbrev S4096x3072 : Shape := ⟨2, ![4096, 3072]⟩
abbrev S4096x512 : Shape := ⟨2, ![4096, 512]⟩
abbrev S4096x256 : Shape := ⟨2, ![4096, 256]⟩
abbrev S4096x128 : Shape := ⟨2, ![4096, 128]⟩
abbrev S512x3072 : Shape := ⟨2, ![512, 3072]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 22
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x2976, .f32⟩
  | .hbm, ⟨2, _⟩ => ⟨S256, .f32⟩
  | .hbm, ⟨3, _⟩ => ⟨S128, .f32⟩
  | .hbm, ⟨4, _⟩ => ⟨S4096x1024, .bf16⟩
  | .hbm, ⟨5, _⟩ => ⟨S2976x1024, .f32⟩
  | .hbm, ⟨6, _⟩ => ⟨S2976x1024, .bf16⟩
  | .hbm, ⟨7, _⟩ => ⟨S2048x1024, .bf16⟩
  | .hbm, ⟨8, _⟩ => ⟨S512x1024, .bf16⟩
  | .hbm, ⟨9, _⟩ => ⟨S384x1024, .bf16⟩
  | .hbm, ⟨10, _⟩ => ⟨S_, .bf16⟩
  | .hbm, ⟨11, _⟩ => ⟨S64x1024, .bf16⟩
  | .hbm, ⟨12, _⟩ => ⟨S32x1024, .bf16⟩
  | .hbm, ⟨13, _⟩ => ⟨S_, .bf16⟩
  | .hbm, ⟨14, _⟩ => ⟨S32x1024, .bf16⟩
  | .hbm, ⟨15, _⟩ => ⟨S3072x1024, .bf16⟩
  | .hbm, ⟨16, _⟩ => ⟨S1x256, .f32⟩
  | .hbm, ⟨17, _⟩ => ⟨S1x128, .f32⟩
  | .hbm, ⟨18, _⟩ => ⟨S4096x3072, .bf16⟩
  | .hbm, ⟨19, _⟩ => ⟨S4096x512, .f32⟩
  | .hbm, ⟨20, _⟩ => ⟨S4096x256, .bf16⟩
  | .hbm, ⟨21, _⟩ => ⟨S4096x128, .bf16⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S1x256, .f32⟩
  | .local _ .vmem, ⟨4, _⟩ => ⟨S1x128, .f32⟩
  | .local _ .vmem, ⟨5, _⟩ => ⟨S512x3072, .bf16⟩
  | .local _ .vmem, ⟨6, _⟩ => ⟨S512x3072, .bf16⟩
  | .local _ .vmem, ⟨7, _⟩ => ⟨S512x512, .f32⟩
  | .local _ .vmem, ⟨8, _⟩ => ⟨S512x512, .f32⟩
  | .local _ .vmem, ⟨9, _⟩ => ⟨S512x256, .bf16⟩
  | .local _ .vmem, ⟨10, _⟩ => ⟨S512x256, .bf16⟩
  | .local _ .vmem, ⟨11, _⟩ => ⟨S512x128, .bf16⟩
  | .local _ .vmem, ⟨12, _⟩ => ⟨S512x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenInRefIdeal.lean ====
abbrev S4096x1024 : Shape := ⟨2, ![4096, 1024]⟩
abbrev S1024x2976 : Shape := ⟨2, ![1024, 2976]⟩
abbrev S256 : Shape := ⟨1, ![256]⟩
abbrev S128 : Shape := ⟨1, ![128]⟩
abbrev S4096x2976 : Shape := ⟨2, ![4096, 2976]⟩
abbrev S4096x512 : Shape := ⟨2, ![4096, 512]⟩
abbrev S4096x256 : Shape := ⟨2, ![4096, 256]⟩
abbrev S4096x128 : Shape := ⟨2, ![4096, 128]⟩
abbrev S4096x32 : Shape := ⟨2, ![4096, 32]⟩
abbrev S_ : Shape := ⟨0, ![]⟩
abbrev S4096x96 : Shape := ⟨2, ![4096, 96]⟩
abbrev S4096x2048 : Shape := ⟨2, ![4096, 2048]⟩
abbrev S4096x384 : Shape := ⟨2, ![4096, 384]⟩
abbrev S4096x64 : Shape := ⟨2, ![4096, 64]⟩
abbrev S4096x3072 : Shape := ⟨2, ![4096, 3072]⟩
abbrev S4096 : Shape := ⟨1, ![4096]⟩
abbrev S4096x1 : Shape := ⟨2, ![4096, 1]⟩
abbrev S1x256 : Shape := ⟨2, ![1, 256]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2976, .f32⟩
  | .hbm, ⟨2, _⟩ => ⟨S256, .f32⟩
  | .hbm, ⟨3, _⟩ => ⟨S128, .f32⟩
  | .hbm, ⟨4, _⟩ => ⟨S4096x2976, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x256, .f32⟩
  | .hbm, ⟨10, _⟩ => ⟨S4096x128, .f32⟩
  | .hbm, ⟨11, _⟩ => ⟨S4096x32, .f32⟩
  | .hbm, ⟨12, _⟩ => ⟨S4096x512, .f32⟩
  | .hbm, ⟨13, _⟩ => ⟨S_, .f32⟩
  | .hbm, ⟨14, _⟩ => ⟨S4096x96, .f32⟩
  | .hbm, ⟨15, _⟩ => ⟨S4096x2048, .f32⟩
  | .hbm, ⟨16, _⟩ => ⟨S4096x512, .f32⟩
  | .hbm, ⟨17, _⟩ => ⟨S4096x384, .f32⟩
  | .hbm, ⟨18, _⟩ => ⟨S4096x64, .f32⟩
  | .hbm, ⟨19, _⟩ => ⟨S4096x32, .f32⟩
  | .hbm, ⟨20, _⟩ => ⟨S4096x32, .f32⟩
  | .hbm, ⟨21, _⟩ => ⟨S4096x3072, .f32⟩
  | .hbm, ⟨22, _⟩ => ⟨S4096x3072, .bf16⟩
  | .hbm, ⟨23, _⟩ => ⟨S4096x512, .f32⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x256, .f32⟩
  | .hbm, ⟨36, _⟩ => ⟨S4096x256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S4096x256, .bf16⟩
  | .hbm, ⟨41, _⟩ => ⟨S4096x128, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x128, .f32⟩
  | .hbm, ⟨53, _⟩ => ⟨S4096x128, .f32⟩
  | .hbm, ⟨54, _⟩ => ⟨S1x128, .f32⟩
  | .hbm, ⟨55, _⟩ => ⟨S4096x128, .f32⟩
  | .hbm, ⟨56, _⟩ => ⟨S4096x128, .f32⟩
  | .hbm, ⟨57, _⟩ => ⟨S4096x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Forward.lean ====
abbrev S8x4096x96 : Shape := ⟨3, ![8, 4096, 96]⟩
abbrev S8x4096x64 : Shape := ⟨3, ![8, 4096, 64]⟩
abbrev S_ : Shape := ⟨0, ![]⟩
abbrev S8x4096x128 : Shape := ⟨3, ![8, 4096, 128]⟩
abbrev S4096x8x128 : Shape := ⟨3, ![4096, 8, 128]⟩
abbrev S4096x1024 : Shape := ⟨2, ![4096, 1024]⟩
abbrev S128 : Shape := ⟨1, ![128]⟩
abbrev S1x1x128 : Shape := ⟨3, ![1, 1, 128]⟩
abbrev S16x256x1024 : Shape := ⟨3, ![16, 256, 1024]⟩
abbrev S16x1024x256 : Shape := ⟨3, ![16, 1024, 256]⟩
abbrev S4096x512 : Shape := ⟨2, ![4096, 512]⟩
abbrev S16x64x256 : Shape := ⟨3, ![16, 64, 256]⟩
abbrev S256x1024 : Shape := ⟨2, ![256, 1024]⟩
abbrev S256x512 : Shape := ⟨2, ![256, 512]⟩
abbrev S1x64x256 : Shape := ⟨3, ![1, 64, 256]⟩
abbrev S8x8x256 : Shape := ⟨3, ![8, 8, 256]⟩
abbrev S8x128x256 : Shape := ⟨3, ![8, 128, 256]⟩
abbrev S1x1024x256 : Shape := ⟨3, ![1, 1024, 256]⟩
abbrev S1024x256 : Shape := ⟨2, ![1024, 256]⟩
abbrev S256x128 : Shape := ⟨2, ![256, 128]⟩
abbrev S256x256 : Shape := ⟨2, ![256, 256]⟩
abbrev S1x8x256 : Shape := ⟨3, ![1, 8, 256]⟩
abbrev S8x256 : Shape := ⟨2, ![8, 256]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S64x256 : Shape := ⟨2, ![64, 256]⟩

abbrev nBuf : Space → Nat
  | .hbm => 39
  | .vmem => 10
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S_, .f32⟩
  | .hbm, ⟨4, _⟩ => ⟨S8x4096x96, .f32⟩
  | .hbm, ⟨5, _⟩ => ⟨S8x4096x96, .f32⟩
  | .hbm, ⟨6, _⟩ => ⟨S_, .f32⟩
  | .hbm, ⟨7, _⟩ => ⟨S_, .f32⟩
  | .hbm, ⟨8, _⟩ => ⟨S8x4096x96, .f32⟩
  | .hbm, ⟨9, _⟩ => ⟨S8x4096x96, .f32⟩
  | .hbm, ⟨10, _⟩ => ⟨S_, .i32⟩
  | .hbm, ⟨11, _⟩ => ⟨S_, .f32⟩
  | .hbm, ⟨12, _⟩ => ⟨S8x4096x128, .f32⟩
  | .hbm, ⟨13, _⟩ => ⟨S4096x8x128, .f32⟩
  | .hbm, ⟨14, _⟩ => ⟨S4096x1024, .f32⟩
  | .hbm, ⟨15, _⟩ => ⟨S4096x1024, .bf16⟩
  | .hbm, ⟨16, _⟩ => ⟨S_, .i32⟩
  | .hbm, ⟨17, _⟩ => ⟨S_, .f32⟩
  | .hbm, ⟨18, _⟩ => ⟨S8x4096x128, .f32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S128, .f32⟩
  | .hbm, ⟨24, _⟩ => ⟨S1x1x128, .f32⟩
  | .hbm, ⟨25, _⟩ => ⟨S8x4096x128, .f32⟩
  | .hbm, ⟨26, _⟩ => ⟨S8x4096x128, .f32⟩
  | .hbm, ⟨27, _⟩ => ⟨S4096x8x128, .f32⟩
  | .hbm, ⟨28, _⟩ => ⟨S16x256x1024, .f32⟩
  | .hbm, ⟨29, _⟩ => ⟨S16x1024x256, .f32⟩
  | .hbm, ⟨30, _⟩ => ⟨S16x1024x256, .bf16⟩
  | .hbm, ⟨31, _⟩ => ⟨S_, .i32⟩
  | .hbm, ⟨32, _⟩ => ⟨S_, .f32⟩
  | .hbm, ⟨33, _⟩ => ⟨S8x4096x128, .f32⟩
  | .hbm, ⟨34, _⟩ => ⟨S4096x8x128, .f32⟩
  | .hbm, ⟨35, _⟩ => ⟨S4096x1024, .f32⟩
  | .hbm, ⟨36, _⟩ => ⟨S4096x1024, .bf16⟩
  | .hbm, ⟨37, _⟩ => ⟨S4096x512, .f32⟩
  | .hbm, ⟨38, _⟩ => ⟨S16x64x256, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S16x1024x256, .bf16⟩
  | .local _ .vmem, ⟨4, _⟩ => ⟨S256x512, .f32⟩
  | .local _ .vmem, ⟨5, _⟩ => ⟨S256x512, .f32⟩
  | .local _ .vmem, ⟨6, _⟩ => ⟨S1x64x256, .f32⟩
  | .local _ .vmem, ⟨7, _⟩ => ⟨S1x64x256, .f32⟩
  | .local _ .vmem, ⟨8, _⟩ => ⟨S8x8x256, .f32⟩
  | .local _ .vmem, ⟨9, _⟩ => ⟨S8x128x256, .f32⟩
  | _, _ => ⟨S8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_call2_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

@[reducible] def k0_t1_loop (i : grid0.Coords) : Scf.Loop 32 :=
  let c0_i32_8 : BitVec 32 := 0#32
  let arg1 : BitVec 32 := BitVec.ofNat 32 (i 1).val
  let v10 : BitVec 32 := Scalar.subi arg1 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_9 : BitVec 32 := 1#32
  ⟨c0_i32_8, v14, c1_i32_9⟩
def k0_mult1 (i : grid0.Coords) (k0_t1 : Fin (k0_t1_loop i).trips) : BitVec 32 :=
  let c0_i32_8 : BitVec 32 := 0#32
  let c1_i32_9 : BitVec 32 := 1#32
  let arg9 : BitVec 32 := Scf.iv c0_i32_8 c1_i32_9 k0_t1
  let c256_i32_324 : BitVec 32 := 256#32
  let v835 : BitVec 32 := Scalar.muli arg9 c256_i32_324
  v835
def k0_off1 (i : grid0.Coords) (k0_t1 : Fin (k0_t1_loop i).trips) : Fin 2 → Nat :=
  let c0_i32_8 : BitVec 32 := 0#32
  let c1_i32_9 : BitVec 32 := 1#32
  let arg9 : BitVec 32 := Scf.iv c0_i32_8 c1_i32_9 k0_t1
  let c256_i32_324 : BitVec 32 := 256#32
  let v835 : BitVec 32 := Scalar.muli arg9 c256_i32_324
  let v836 : BitVec 32 := v835
  let v837 : Index := Scalar.indexCast v836
  let c0_325 : Index := 0#32
  ![v837.toNat, 0]
def k0_off2 (i : grid0.Coords) (k0_t1 : Fin (k0_t1_loop i).trips) : Fin 3 → Nat :=
  let c0_i32_8 : BitVec 32 := 0#32
  let c1_i32_9 : BitVec 32 := 1#32
  let arg9 : BitVec 32 := Scf.iv c0_i32_8 c1_i32_9 k0_t1
  let v840 : Index := Scalar.indexCast arg9
  let c0_326 : Index := 0#32
  let c0_327 : Index := 0#32
  ![v840.toNat, 0, 0]
@[reducible] def k0_t2_loop (i : grid0.Coords) : Scf.Loop 32 :=
  let c0_i32_8 : BitVec 32 := 0#32
  let arg1 : BitVec 32 := BitVec.ofNat 32 (i 1).val
  let v10 : BitVec 32 := Scalar.subi arg1 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let v11 : BitVec 32 := Scalar.addi c0_i32_8 v10
  let c1_i32_10 : BitVec 32 := 1#32
  ⟨v14, v11, c1_i32_10⟩
def k0_mult2 (i : grid0.Coords) (k0_t2 : Fin (k0_t2_loop i).trips) : BitVec 32 :=
  let c0_i32_8 : BitVec 32 := 0#32
  let arg1 : BitVec 32 := BitVec.ofNat 32 (i 1).val
  let v10 : BitVec 32 := Scalar.subi arg1 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg9 : BitVec 32 := Scf.iv v14 c1_i32_10 k0_t2
  let c256_i32_324 : BitVec 32 := 256#32
  let v835 : BitVec 32 := Scalar.muli arg9 c256_i32_324
  v835
def k0_off3 (i : grid0.Coords) (k0_t2 : Fin (k0_t2_loop i).trips) : Fin 2 → Nat :=
  let c0_i32_8 : BitVec 32 := 0#32
  let arg1 : BitVec 32 := BitVec.ofNat 32 (i 1).val
  let v10 : BitVec 32 := Scalar.subi arg1 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg9 : BitVec 32 := Scf.iv v14 c1_i32_10 k0_t2
  let c256_i32_324 : BitVec 32 := 256#32
  let v835 : BitVec 32 := Scalar.muli arg9 c256_i32_324
  let v836 : BitVec 32 := v835
  let v837 : Index := Scalar.indexCast v836
  let c0_325 : Index := 0#32
  ![v837.toNat, 0]
def k0_off4 (i : grid0.Coords) (k0_t2 : Fin (k0_t2_loop i).trips) : Fin 3 → Nat :=
  let c0_i32_8 : BitVec 32 := 0#32
  let arg1 : BitVec 32 := BitVec.ofNat 32 (i 1).val
  let v10 : BitVec 32 := Scalar.subi arg1 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg9 : BitVec 32 := Scf.iv v14 c1_i32_10 k0_t2
  let v840 : Index := Scalar.indexCast arg9
  let c0_326 : Index := 0#32
  let c0_327 : Index := 0#32
  ![v840.toNat, 0, 0]
def k0_mult3 (i : grid0.Coords) : BitVec 32 :=
  let arg1 : BitVec 32 := BitVec.ofNat 32 (i 1).val
  let c256_i32 : BitVec 32 := 256#32
  let v15 : BitVec 32 := Scalar.muli arg1 c256_i32
  v15
def k0_off5 (i : grid0.Coords) : Fin 2 → Nat :=
  let arg1 : BitVec 32 := BitVec.ofNat 32 (i 1).val
  let c256_i32 : BitVec 32 := 256#32
  let v15 : BitVec 32 := Scalar.muli arg1 c256_i32
  let v16 : BitVec 32 := v15
  let v17 : Index := Scalar.indexCast v16
  let c0_11 : Index := 0#32
  ![v17.toNat, 0]
def k0_off6 (i : grid0.Coords) : Fin 3 → Nat :=
  let arg1 : BitVec 32 := BitVec.ofNat 32 (i 1).val
  let v20 : Index := Scalar.indexCast arg1
  let c0_12 : Index := 0#32
  let c0_13 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ForwardIdeal.lean ====
variable {F : FTy → Type} [FloatOps F] [Named F]
def κ : String → Option EReal := fun
  | "log2e" => some (((Real.log 2)⁻¹ : ℝ) : EReal)
  | "neg" => some ⊥
  | _ => none
-- ==== ForwardRefIdeal.lean ====
abbrev S8x4096x96 : Shape := ⟨3, ![8, 4096, 96]⟩
abbrev S8x4096x64 : Shape := ⟨3, ![8, 4096, 64]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x16x1x256 : Shape := ⟨4, ![8, 16, 1, 256]⟩
abbrev S16x8x1x256 : Shape := ⟨4, ![16, 8, 1, 256]⟩
abbrev S16x8x8x256 : Shape := ⟨4, ![16, 8, 8, 256]⟩
abbrev S4096x8x64 : Shape := ⟨3, ![4096, 8, 64]⟩
abbrev S4096x512 : Shape := ⟨2, ![4096, 512]⟩
abbrev S16x64x256 : Shape := ⟨3, ![16, 64, 256]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S_, .f32⟩
  | .hbm, ⟨4, _⟩ => ⟨S8x4096x96, .f32⟩
  | .hbm, ⟨5, _⟩ => ⟨S8x4096x96, .f32⟩
  | .hbm, ⟨6, _⟩ => ⟨S8x4096x4096, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x64, .f32⟩
  | .hbm, ⟨51, _⟩ => ⟨S8x4096x4096, .f32⟩
  | .hbm, ⟨52, _⟩ => ⟨S4096, .i32⟩
  | .hbm, ⟨53, _⟩ => ⟨S_, .i32⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S4096, .i32⟩
  | .hbm, ⟨62, _⟩ => ⟨S4096, .i32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S1x4096, .i32⟩
  | .hbm, ⟨72, _⟩ => ⟨S4096x1, .i32⟩
  | .hbm, ⟨73, _⟩ => ⟨S4096x4096, .i32⟩
  | .hbm, ⟨74, _⟩ => ⟨S4096x4096, .i32⟩
  | .hbm, ⟨75, _⟩ => ⟨S4096x4096, .i1⟩
  | .hbm, ⟨76, _⟩ => ⟨S_, .f32⟩
  | .hbm, ⟨77, _⟩ => ⟨S_, .f32⟩
  | .hbm, ⟨78, _⟩ => ⟨S8x4096x4096, .i1⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S8x4096x1, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096, .f32⟩
  | .hbm, ⟨89, _⟩ => ⟨S8x4096, .f32⟩
  | .hbm, ⟨90, _⟩ => ⟨S8x4096, .f32⟩
  | .hbm, ⟨91, _⟩ => ⟨S_, .f32⟩
  | .hbm, ⟨92, _⟩ => ⟨S_, .f32⟩
  | .hbm, ⟨93, _⟩ => ⟨S8x4096, .f32⟩
  | .hbm, ⟨94, _⟩ => ⟨S8x4096, .f32⟩
  | .hbm, ⟨95, _⟩ => ⟨S8x16x1x256, .f32⟩
  | .hbm, ⟨96, _⟩ => ⟨S16x8x1x256, .f32⟩
  | .hbm, ⟨97, _⟩ => ⟨S16x8x8x256, .f32⟩
  | .hbm, ⟨98, _⟩ => ⟨S4096x8x64, .f32⟩
  | .hbm, ⟨99, _⟩ => ⟨S4096x512, .f32⟩
  | .hbm, ⟨100, _⟩ => ⟨S16x64x256, .f32⟩
  | _, _ => ⟨S8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_5 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v31 : Ref sig .tc := ⟨.hbm, 80, rfl⟩
abbrev main_cst_6 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_8 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩

abbrev nD : Nat := 1
abbrev τ : Topo := Topo.v7x

variable {F : FTy → Type} [FloatOps F]
-- ==== StepShared.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S8x24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepSharedRefIdeal.lean ====
abbrev S8x24x1024 : Shape := ⟨3, ![8, 24, 1024]⟩
abbrev S24x1024 : Shape := ⟨2, ![24, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S_, .f32⟩
  | .hbm, ⟨7, _⟩ => ⟨S24x1024, .f32⟩
  | .hbm, ⟨8, _⟩ => ⟨S24x1024, .f32⟩
  | .hbm, ⟨9, _⟩ => ⟨S_, .f32⟩
  | .hbm, ⟨10, _⟩ => ⟨S24x1024, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S_, .f32⟩
  | .hbm, ⟨18, _⟩ => ⟨S24x1024, .f32⟩
  | .hbm, ⟨19, _⟩ => ⟨S24x1024, .f32⟩
  | .hbm, ⟨20, _⟩ => ⟨S24x1024, .f32⟩
  | .hbm, ⟨21, _⟩ => ⟨S_, .f32⟩
  | .hbm, ⟨22, _⟩ => ⟨S24x1024, .f32⟩
  | .hbm, ⟨23, _⟩ => ⟨S24x1024, .f32⟩
  | .hbm, ⟨24, _⟩ => ⟨S_, .f32⟩
  | .hbm, ⟨25, _⟩ => ⟨S24x1024, .f32⟩
  | .hbm, ⟨26, _⟩ => ⟨S24x1024, .f32⟩
  | .hbm, ⟨27, _⟩ => ⟨S24x1024, .f32⟩
  | .hbm, ⟨28, _⟩ => ⟨S_, .f32⟩
  | .hbm, ⟨29, _⟩ => ⟨S24x1024, .f32⟩
  | .hbm, ⟨30, _⟩ => ⟨S24x1024, .f32⟩
  | .hbm, ⟨31, _⟩ => ⟨S24x1024, .f32⟩
  | .hbm, ⟨32, _⟩ => ⟨S_, .f32⟩
  | .hbm, ⟨33, _⟩ => ⟨S24x1024, .f32⟩
  | .hbm, ⟨34, _⟩ => ⟨S24x1024, .f32⟩
  | .hbm, ⟨35, _⟩ => ⟨S24x1024, .f32⟩
  | .hbm, ⟨36, _⟩ => ⟨S_, .f32⟩
  | .hbm, ⟨37, _⟩ => ⟨S24x1024, .f32⟩
  | .hbm, ⟨38, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== StepAda.lean ====
abbrev S1x4096x384 : Shape := ⟨3, ![1, 4096, 384]⟩
abbrev S4096x384 : Shape := ⟨2, ![4096, 384]⟩
abbrev S1x256x384 : Shape := ⟨3, ![1, 256, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S4096x384, .f32⟩
  | .local _ .vmem, ⟨0, _⟩ => ⟨S1x256x384, .f32⟩
  | .local _ .vmem, ⟨1, _⟩ => ⟨S1x256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepAdaRefIdeal.lean ====
abbrev S1x4096x384 : Shape := ⟨3, ![1, 4096, 384]⟩
abbrev S4096x384 : Shape := ⟨2, ![4096, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S_, .f32⟩
  | .hbm, ⟨5, _⟩ => ⟨S4096x384, .f32⟩
  | .hbm, ⟨6, _⟩ => ⟨S_, .f32⟩
  | .hbm, ⟨7, _⟩ => ⟨S4096x384, .f32⟩
  | .hbm, ⟨8, _⟩ => ⟨S4096x384, .f32⟩
  | .hbm, ⟨9, _⟩ => ⟨S_, .f32⟩
  | .hbm, ⟨10, _⟩ => ⟨S4096x384, .f32⟩
  | .hbm, ⟨11, _⟩ => ⟨S4096x384, .f32⟩
  | .hbm, ⟨12, _⟩ => ⟨S4096x384, .f32⟩
  | .hbm, ⟨13, _⟩ => ⟨S_, .f32⟩
  | .hbm, ⟨14, _⟩ => ⟨S4096x384, .f32⟩
  | .hbm, ⟨15, _⟩ => ⟨S4096x384, .f32⟩
  | .hbm, ⟨16, _⟩ => ⟨S4096x384, .f32⟩
  | .hbm, ⟨17, _⟩ => ⟨S_, .f32⟩
  | .hbm, ⟨18, _⟩ => ⟨S4096x384, .f32⟩
  | .hbm, ⟨19, _⟩ => ⟨S4096x384, .f32⟩
  | .hbm, ⟨20, _⟩ => ⟨S4096x384, .f32⟩
  | .hbm, ⟨21, _⟩ => ⟨S_, .f32⟩
  | .hbm, ⟨22, _⟩ => ⟨S4096x384, .f32⟩
  | .hbm, ⟨23, _⟩ => ⟨S4096x384, .f32⟩
  | .hbm, ⟨24, _⟩ => ⟨S_, .f32⟩
  | .hbm, ⟨25, _⟩ => ⟨S4096x384, .f32⟩
  | .hbm, ⟨26, _⟩ => ⟨S4096x384, .f32⟩
  | .hbm, ⟨27, _⟩ => ⟨S4096x384, .f32⟩
  | .hbm, ⟨28, _⟩ => ⟨S_, .f32⟩
  | .hbm, ⟨29, _⟩ => ⟨S4096x384, .f32⟩
  | .hbm, ⟨30, _⟩ => ⟨S4096x384, .f32⟩
  | .hbm, ⟨31, _⟩ => ⟨S4096x384, .f32⟩
  | .hbm, ⟨32, _⟩ => ⟨S_, .f32⟩
  | .hbm, ⟨33, _⟩ => ⟨S4096x384, .f32⟩
  | .hbm, ⟨34, _⟩ => ⟨S4096x384, .f32⟩
  | .hbm, ⟨35, _⟩ => ⟨S4096x384, .f32⟩
  | .hbm, ⟨36, _⟩ => ⟨S_, .f32⟩
  | .hbm, ⟨37, _⟩ => ⟨S4096x384, .f32⟩
  | .hbm, ⟨38, _⟩ => ⟨S4096x384, .f32⟩
  | _, _ => ⟨S1x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== StepSmall.lean ====
abbrev S1x16x1024 : Shape := ⟨3, ![1, 16, 1024]⟩
abbrev S7x16x1024 : Shape := ⟨3, ![7, 16, 1024]⟩
abbrev S16x1024 : Shape := ⟨2, ![16, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1x16x1024, .f32⟩
  | .hbm, ⟨1, _⟩ => ⟨S7x16x1024, .bf16⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .local _ .vmem, ⟨0, _⟩ => ⟨S1x16x1024, .f32⟩
  | .local _ .vmem, ⟨1, _⟩ => ⟨S7x16x1024, .bf16⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | _, _ => ⟨S1x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S7x16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== StepSmallRefIdeal.lean ====
abbrev S1x16x1024 : Shape := ⟨3, ![1, 16, 1024]⟩
abbrev S7x16x1024 : Shape := ⟨3, ![7, 16, 1024]⟩
abbrev S16x1024 : Shape := ⟨2, ![16, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x16x1024, .f32⟩
  | .hbm, ⟨1, _⟩ => ⟨S7x16x1024, .bf16⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S7x16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | .hbm, ⟨39, _⟩ => ⟨S16x1024, .f32⟩
  | .hbm, ⟨40, _⟩ => ⟨S_, .f32⟩
  | .hbm, ⟨41, _⟩ => ⟨S16x1024, .f32⟩
  | .hbm, ⟨42, _⟩ => ⟨S16x1024, .f32⟩
  | _, _ => ⟨S1x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== StepOut.lean ====
abbrev S1x128x1024 : Shape := ⟨3, ![1, 128, 1024]⟩
abbrev S7x128x1024 : Shape := ⟨3, ![7, 128, 1024]⟩
abbrev S2x128x1024 : Shape := ⟨3, ![2, 128, 1024]⟩
abbrev S128x1024 : Shape := ⟨2, ![128, 1024]⟩

abbrev nBuf : Space → Nat
  | .hbm => 15
  | .vmem => 18
  | .smem => 0
  | _ => 0

abbrev bufTy : (tb : Table) → Fin (tcTables nBuf tb) → BufTy
  | .hbm, ⟨0, _⟩ => ⟨S1x128x1024, .bf16⟩
  | .hbm, ⟨1, _⟩ => ⟨S7x128x1024, .bf16⟩
  | .hbm, ⟨2, _⟩ => ⟨S1x128x1024, .bf16⟩
  | .hbm, ⟨3, _⟩ => ⟨S7x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .local _ .vmem, ⟨0, _⟩ => ⟨S1x128x1024, .bf16⟩
  | .local _ .vmem, ⟨1, _⟩ => ⟨S7x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .bf16⟩
  | .local _ .vmem, ⟨10, _⟩ => ⟨S7x128x1024, .bf16⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 1 → Memref sig .tc .vmem S1x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S7x128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S1x128x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]
-- ==== StepOutIdeal.lean ====
abbrev S1x128x1024 : Shape := ⟨3, ![1, 128, 1024]⟩
abbrev S7x128x1024 : Shape := ⟨3, ![7, 128, 1024]⟩
abbrev S2x128x1024 : Shape := ⟨3, ![2, 128, 1024]⟩
abbrev S128x1024 : Shape := ⟨2, ![128, 1024]⟩

abbrev nBuf : Space → Nat
  | .hbm => 15
  | .vmem => 18
  | .smem => 0
  | _ => 0

abbrev bufTy : (tb : Table) → Fin (tcTables nBuf tb) → BufTy
  | .hbm, ⟨0, _⟩ => ⟨S1x128x1024, .bf16⟩
  | .hbm, ⟨1, _⟩ => ⟨S7x128x1024, .bf16⟩
  | .hbm, ⟨2, _⟩ => ⟨S1x128x1024, .bf16⟩
  | .hbm, ⟨3, _⟩ => ⟨S7x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .local _ .vmem, ⟨0, _⟩ => ⟨S1x128x1024, .bf16⟩
  | .local _ .vmem, ⟨1, _⟩ => ⟨S7x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .bf16⟩
  | .local _ .vmem, ⟨10, _⟩ => ⟨S7x128x1024, .bf16⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 1 → Memref sig .tc .vmem S1x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S7x128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S1x128x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]
-- ==== StepOutRefIdeal.lean ====
abbrev S1x128x1024 : Shape := ⟨3, ![1, 128, 1024]⟩
abbrev S7x128x1024 : Shape := ⟨3, ![7, 128, 1024]⟩
abbrev S2x128x1024 : Shape := ⟨3, ![2, 128, 1024]⟩
abbrev S128x1024 : Shape := ⟨2, ![128, 1024]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1x128x1024, .bf16⟩
  | .hbm, ⟨1, _⟩ => ⟨S7x128x1024, .bf16⟩
  | .hbm, ⟨2, _⟩ => ⟨S1x128x1024, .bf16⟩
  | .hbm, ⟨3, _⟩ => ⟨S7x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S128x1024, .bf16⟩
  | .hbm, ⟨8, _⟩ => ⟨S128x1024, .f32⟩
  | .hbm, ⟨9, _⟩ => ⟨S7x128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .bf16⟩
  | .hbm, ⟨14, _⟩ => ⟨S128x1024, .f32⟩
  | .hbm, ⟨15, _⟩ => ⟨S7x128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S1x128x1024, .f32⟩
  | .hbm, ⟨20, _⟩ => ⟨S1x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S2x128x1024, .f32⟩
  | .hbm, ⟨37, _⟩ => ⟨S_, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | .hbm, ⟨47, _⟩ => ⟨S2x128x1024, .f32⟩
  | .hbm, ⟨48, _⟩ => ⟨S_, .f32⟩
  | .hbm, ⟨49, _⟩ => ⟨S2x128x1024, .f32⟩
  | .hbm, ⟨50, _⟩ => ⟨S2x128x1024, .f32⟩
  | .hbm, ⟨51, _⟩ => ⟨S2x128x1024, .f32⟩
  | .hbm, ⟨52, _⟩ => ⟨S_, .f32⟩
  | .hbm, ⟨53, _⟩ => ⟨S2x128x1024, .f32⟩
  | .hbm, ⟨54, _⟩ => ⟨S2x128x1024, .f32⟩
  | _, _ => ⟨S1x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== StepEvenIn.lean ====
abbrev S1x372x1024 : Shape := ⟨3, ![1, 372, 1024]⟩
abbrev S7x372x1024 : Shape := ⟨3, ![7, 372, 1024]⟩
abbrev S2x372x1024 : Shape := ⟨3, ![2, 372, 1024]⟩
abbrev S1x372x256 : Shape := ⟨3, ![1, 372, 256]⟩
abbrev S7x372x256 : Shape := ⟨3, ![7, 372, 256]⟩
abbrev S372x256 : Shape := ⟨2, ![372, 256]⟩

abbrev nBuf : Space → Nat
  | .hbm => 15
  | .vmem => 36
  | .smem => 0
  | _ => 0

abbrev bufTy : (tb : Table) → Fin (tcTables nBuf tb) → BufTy
  | .hbm, ⟨0, _⟩ => ⟨S1x372x1024, .bf16⟩
  | .hbm, ⟨1, _⟩ => ⟨S7x372x1024, .bf16⟩
  | .hbm, ⟨2, _⟩ => ⟨S1x372x1024, .bf16⟩
  | .hbm, ⟨3, _⟩ => ⟨S7x372x1024, .bf16⟩
  | .hbm, ⟨4, _⟩ => ⟨S2x372x1024, .f32⟩
  | .hbm, ⟨5, _⟩ => ⟨S2x372x1024, .f32⟩
  | .hbm, ⟨6, _⟩ => ⟨S2x372x1024, .f32⟩
  | .hbm, ⟨7, _⟩ => ⟨S2x372x1024, .f32⟩
  | .hbm, ⟨8, _⟩ => ⟨S2x372x1024, .f32⟩
  | .hbm, ⟨9, _⟩ => ⟨S2x372x1024, .f32⟩
  | .hbm, ⟨10, _⟩ => ⟨S2x372x1024, .f32⟩
  | .hbm, ⟨11, _⟩ => ⟨S2x372x1024, .f32⟩
  | .hbm, ⟨12, _⟩ => ⟨S2x372x1024, .f32⟩
  | .hbm, ⟨13, _⟩ => ⟨S2x372x1024, .f32⟩
  | .hbm, ⟨14, _⟩ => ⟨S2x372x1024, .f32⟩
  | .local _ .vmem, ⟨0, _⟩ => ⟨S1x372x256, .bf16⟩
  | .local _ .vmem, ⟨1, _⟩ => ⟨S1x372x256, .bf16⟩
  | .local _ .vmem, ⟨2, _⟩ => ⟨S7x372x256, .bf16⟩
  | .local _ .vmem, ⟨3, _⟩ => ⟨S7x372x256, .bf16⟩
  | .local _ .vmem, ⟨4, _⟩ => ⟨S1x372x256, .f32⟩
  | .local _ .vmem, ⟨5, _⟩ => ⟨S1x372x256, .f32⟩
  | .local _ .vmem, ⟨6, _⟩ => ⟨S1x372x256, .f32⟩
  | .local _ .vmem, ⟨7, _⟩ => ⟨S1x372x256, .f32⟩
  | .local _ .vmem, ⟨8, _⟩ => ⟨S1x372x256, .f32⟩
  | .local _ .vmem, ⟨9, _⟩ => ⟨S1x372x256, .f32⟩
  | .local _ .vmem, ⟨10, _⟩ => ⟨S1x372x256, .f32⟩
  | .local _ .vmem, ⟨11, _⟩ => ⟨S1x372x256, .f32⟩
  | .local _ .vmem, ⟨12, _⟩ => ⟨S1x372x256, .f32⟩
  | .local _ .vmem, ⟨13, _⟩ => ⟨S1x372x256, .f32⟩
  | .local _ .vmem, ⟨14, _⟩ => ⟨S1x372x256, .f32⟩
  | .local _ .vmem, ⟨15, _⟩ => ⟨S1x372x256, .f32⟩
  | .local _ .vmem, ⟨16, _⟩ => ⟨S1x372x256, .f32⟩
  | .local _ .vmem, ⟨17, _⟩ => ⟨S1x372x256, .f32⟩
  | .local _ .vmem, ⟨18, _⟩ => ⟨S1x372x256, .bf16⟩
  | .local _ .vmem, ⟨19, _⟩ => ⟨S1x372x256, .bf16⟩
  | .local _ .vmem, ⟨20, _⟩ => ⟨S7x372x256, .bf16⟩
  | .local _ .vmem, ⟨21, _⟩ => ⟨S7x372x256, .bf16⟩
  | .local _ .vmem, ⟨22, _⟩ => ⟨S1x372x256, .f32⟩
  | .local _ .vmem, ⟨23, _⟩ => ⟨S1x372x256, .f32⟩
  | .local _ .vmem, ⟨24, _⟩ => ⟨S1x372x256, .f32⟩
  | .local _ .vmem, ⟨25, _⟩ => ⟨S1x372x256, .f32⟩
  | .local _ .vmem, ⟨26, _⟩ => ⟨S1x372x256, .f32⟩
  | .local _ .vmem, ⟨27, _⟩ => ⟨S1x372x256, .f32⟩
  | .local _ .vmem, ⟨28, _⟩ => ⟨S1x372x256, .f32⟩
  | .local _ .vmem, ⟨29, _⟩ => ⟨S1x372x256, .f32⟩
  | .local _ .vmem, ⟨30, _⟩ => ⟨S1x372x256, .f32⟩
  | .local _ .vmem, ⟨31, _⟩ => ⟨S1x372x256, .f32⟩
  | .local _ .vmem, ⟨32, _⟩ => ⟨S1x372x256, .f32⟩
  | .local _ .vmem, ⟨33, _⟩ => ⟨S1x372x256, .f32⟩
  | .local _ .vmem, ⟨34, _⟩ => ⟨S1x372x256, .f32⟩
  | .local _ .vmem, ⟨35, _⟩ => ⟨S1x372x256, .f32⟩
  | _, _ => ⟨S1x372x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S1x372x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x372x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x372x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x372x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x372x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x372x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x372x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x372x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x372x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![1, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S1x372x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S7x372x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x372x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x372x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x372x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x372x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x372x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x372x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x372x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== StepEvenInIdeal.lean ====
abbrev S1x372x1024 : Shape := ⟨3, ![1, 372, 1024]⟩
abbrev S7x372x1024 : Shape := ⟨3, ![7, 372, 1024]⟩
abbrev S2x372x1024 : Shape := ⟨3, ![2, 372, 1024]⟩
abbrev S1x372x256 : Shape := ⟨3, ![1, 372, 256]⟩
abbrev S7x372x256 : Shape := ⟨3, ![7, 372, 256]⟩
abbrev S372x256 : Shape := ⟨2, ![372, 256]⟩

abbrev nBuf : Space → Nat
  | .hbm => 15
  | .vmem => 36
  | .smem => 0
  | _ => 0

abbrev bufTy : (tb : Table) → Fin (tcTables nBuf tb) → BufTy
  | .hbm, ⟨0, _⟩ => ⟨S1x372x1024, .bf16⟩
  | .hbm, ⟨1, _⟩ => ⟨S7x372x1024, .bf16⟩
  | .hbm, ⟨2, _⟩ => ⟨S1x372x1024, .bf16⟩
  | .hbm, ⟨3, _⟩ => ⟨S7x372x1024, .bf16⟩
  | .hbm, ⟨4, _⟩ => ⟨S2x372x1024, .f32⟩
  | .hbm, ⟨5, _⟩ => ⟨S2x372x1024, .f32⟩
  | .hbm, ⟨6, _⟩ => ⟨S2x372x1024, .f32⟩
  | .hbm, ⟨7, _⟩ => ⟨S2x372x1024, .f32⟩
  | .hbm, ⟨8, _⟩ => ⟨S2x372x1024, .f32⟩
  | .hbm, ⟨9, _⟩ => ⟨S2x372x1024, .f32⟩
  | .hbm, ⟨10, _⟩ => ⟨S2x372x1024, .f32⟩
  | .hbm, ⟨11, _⟩ => ⟨S2x372x1024, .f32⟩
  | .hbm, ⟨12, _⟩ => ⟨S2x372x1024, .f32⟩
  | .hbm, ⟨13, _⟩ => ⟨S2x372x1024, .f32⟩
  | .hbm, ⟨14, _⟩ => ⟨S2x372x1024, .f32⟩
  | .local _ .vmem, ⟨0, _⟩ => ⟨S1x372x256, .bf16⟩
  | .local _ .vmem, ⟨1, _⟩ => ⟨S1x372x256, .bf16⟩
  | .local _ .vmem, ⟨2, _⟩ => ⟨S7x372x256, .bf16⟩
  | .local _ .vmem, ⟨3, _⟩ => ⟨S7x372x256, .bf16⟩
  | .local _ .vmem, ⟨4, _⟩ => ⟨S1x372x256, .f32⟩
  | .local _ .vmem, ⟨5, _⟩ => ⟨S1x372x256, .f32⟩
  | .local _ .vmem, ⟨6, _⟩ => ⟨S1x372x256, .f32⟩
  | .local _ .vmem, ⟨7, _⟩ => ⟨S1x372x256, .f32⟩
  | .local _ .vmem, ⟨8, _⟩ => ⟨S1x372x256, .f32⟩
  | .local _ .vmem, ⟨9, _⟩ => ⟨S1x372x256, .f32⟩
  | .local _ .vmem, ⟨10, _⟩ => ⟨S1x372x256, .f32⟩
  | .local _ .vmem, ⟨11, _⟩ => ⟨S1x372x256, .f32⟩
  | .local _ .vmem, ⟨12, _⟩ => ⟨S1x372x256, .f32⟩
  | .local _ .vmem, ⟨13, _⟩ => ⟨S1x372x256, .f32⟩
  | .local _ .vmem, ⟨14, _⟩ => ⟨S1x372x256, .f32⟩
  | .local _ .vmem, ⟨15, _⟩ => ⟨S1x372x256, .f32⟩
  | .local _ .vmem, ⟨16, _⟩ => ⟨S1x372x256, .f32⟩
  | .local _ .vmem, ⟨17, _⟩ => ⟨S1x372x256, .f32⟩
  | .local _ .vmem, ⟨18, _⟩ => ⟨S1x372x256, .bf16⟩
  | .local _ .vmem, ⟨19, _⟩ => ⟨S1x372x256, .bf16⟩
  | .local _ .vmem, ⟨20, _⟩ => ⟨S7x372x256, .bf16⟩
  | .local _ .vmem, ⟨21, _⟩ => ⟨S7x372x256, .bf16⟩
  | .local _ .vmem, ⟨22, _⟩ => ⟨S1x372x256, .f32⟩
  | .local _ .vmem, ⟨23, _⟩ => ⟨S1x372x256, .f32⟩
  | .local _ .vmem, ⟨24, _⟩ => ⟨S1x372x256, .f32⟩
  | .local _ .vmem, ⟨25, _⟩ => ⟨S1x372x256, .f32⟩
  | .local _ .vmem, ⟨26, _⟩ => ⟨S1x372x256, .f32⟩
  | .local _ .vmem, ⟨27, _⟩ => ⟨S1x372x256, .f32⟩
  | .local _ .vmem, ⟨28, _⟩ => ⟨S1x372x256, .f32⟩
  | .local _ .vmem, ⟨29, _⟩ => ⟨S1x372x256, .f32⟩
  | .local _ .vmem, ⟨30, _⟩ => ⟨S1x372x256, .f32⟩
  | .local _ .vmem, ⟨31, _⟩ => ⟨S1x372x256, .f32⟩
  | .local _ .vmem, ⟨32, _⟩ => ⟨S1x372x256, .f32⟩
  | .local _ .vmem, ⟨33, _⟩ => ⟨S1x372x256, .f32⟩
  | .local _ .vmem, ⟨34, _⟩ => ⟨S1x372x256, .f32⟩
  | .local _ .vmem, ⟨35, _⟩ => ⟨S1x372x256, .f32⟩
  | _, _ => ⟨S1x372x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S1x372x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x372x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x372x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x372x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x372x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x372x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x372x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x372x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x372x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![1, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S1x372x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S7x372x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x372x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x372x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x372x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x372x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x372x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x372x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x372x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== StepEvenInRefIdeal.lean ====
abbrev S1x372x1024 : Shape := ⟨3, ![1, 372, 1024]⟩
abbrev S7x372x1024 : Shape := ⟨3, ![7, 372, 1024]⟩
abbrev S2x372x1024 : Shape := ⟨3, ![2, 372, 1024]⟩
abbrev S372x1024 : Shape := ⟨2, ![372, 1024]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1x372x1024, .bf16⟩
  | .hbm, ⟨1, _⟩ => ⟨S7x372x1024, .bf16⟩
  | .hbm, ⟨2, _⟩ => ⟨S1x372x1024, .bf16⟩
  | .hbm, ⟨3, _⟩ => ⟨S7x372x1024, .bf16⟩
  | .hbm, ⟨4, _⟩ => ⟨S2x372x1024, .f32⟩
  | .hbm, ⟨5, _⟩ => ⟨S2x372x1024, .f32⟩
  | .hbm, ⟨6, _⟩ => ⟨S2x372x1024, .f32⟩
  | .hbm, ⟨7, _⟩ => ⟨S372x1024, .bf16⟩
  | .hbm, ⟨8, _⟩ => ⟨S372x1024, .f32⟩
  | .hbm, ⟨9, _⟩ => ⟨S7x372x1024, .f32⟩
  | .hbm, ⟨10, _⟩ => ⟨S_, .f32⟩
  | .hbm, ⟨11, _⟩ => ⟨S372x1024, .f32⟩
  | .hbm, ⟨12, _⟩ => ⟨S372x1024, .f32⟩
  | .hbm, ⟨13, _⟩ => ⟨S372x1024, .bf16⟩
  | .hbm, ⟨14, _⟩ => ⟨S372x1024, .f32⟩
  | .hbm, ⟨15, _⟩ => ⟨S7x372x1024, .f32⟩
  | .hbm, ⟨16, _⟩ => ⟨S_, .f32⟩
  | .hbm, ⟨17, _⟩ => ⟨S372x1024, .f32⟩
  | .hbm, ⟨18, _⟩ => ⟨S372x1024, .f32⟩
  | .hbm, ⟨19, _⟩ => ⟨S1x372x1024, .f32⟩
  | .hbm, ⟨20, _⟩ => ⟨S1x372x1024, .f32⟩
  | .hbm, ⟨21, _⟩ => ⟨S2x372x1024, .f32⟩
  | .hbm, ⟨22, _⟩ => ⟨S_, .f32⟩
  | .hbm, ⟨23, _⟩ => ⟨S2x372x1024, .f32⟩
  | .hbm, ⟨24, _⟩ => ⟨S2x372x1024, .f32⟩
  | .hbm, ⟨25, _⟩ => ⟨S_, .f32⟩
  | .hbm, ⟨26, _⟩ => ⟨S2x372x1024, .f32⟩
  | .hbm, ⟨27, _⟩ => ⟨S2x372x1024, .f32⟩
  | .hbm, ⟨28, _⟩ => ⟨S2x372x1024, .f32⟩
  | .hbm, ⟨29, _⟩ => ⟨S_, .f32⟩
  | .hbm, ⟨30, _⟩ => ⟨S2x372x1024, .f32⟩
  | .hbm, ⟨31, _⟩ => ⟨S2x372x1024, .f32⟩
  | .hbm, ⟨32, _⟩ => ⟨S2x372x1024, .f32⟩
  | .hbm, ⟨33, _⟩ => ⟨S_, .f32⟩
  | .hbm, ⟨34, _⟩ => ⟨S2x372x1024, .f32⟩
  | .hbm, ⟨35, _⟩ => ⟨S2x372x1024, .f32⟩
  | .hbm, ⟨36, _⟩ => ⟨S2x372x1024, .f32⟩
  | .hbm, ⟨37, _⟩ => ⟨S_, .f32⟩
  | .hbm, ⟨38, _⟩ => ⟨S2x372x1024, .f32⟩
  | .hbm, ⟨39, _⟩ => ⟨S2x372x1024, .f32⟩
  | .hbm, ⟨40, _⟩ => ⟨S_, .f32⟩
  | .hbm, ⟨41, _⟩ => ⟨S2x372x1024, .f32⟩
  | .hbm, ⟨42, _⟩ => ⟨S2x372x1024, .f32⟩
  | .hbm, ⟨43, _⟩ => ⟨S2x372x1024, .f32⟩
  | .hbm, ⟨44, _⟩ => ⟨S_, .f32⟩
  | .hbm, ⟨45, _⟩ => ⟨S2x372x1024, .f32⟩
  | .hbm, ⟨46, _⟩ => ⟨S2x372x1024, .f32⟩
  | .hbm, ⟨47, _⟩ => ⟨S2x372x1024, .f32⟩
  | .hbm, ⟨48, _⟩ => ⟨S_, .f32⟩
  | .hbm, ⟨49, _⟩ => ⟨S2x372x1024, .f32⟩
  | .hbm, ⟨50, _⟩ => ⟨S2x372x1024, .f32⟩
  | .hbm, ⟨51, _⟩ => ⟨S2x372x1024, .f32⟩
  | .hbm, ⟨52, _⟩ => ⟨S_, .f32⟩
  | .hbm, ⟨53, _⟩ => ⟨S2x372x1024, .f32⟩
  | .hbm, ⟨54, _⟩ => ⟨S2x372x1024, .f32⟩
  | _, _ => ⟨S1x372x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== StepOddIn.lean ====
abbrev S1x1024x384 : Shape := ⟨3, ![1, 1024, 384]⟩
abbrev S7x1024x384 : Shape := ⟨3, ![7, 1024, 384]⟩
abbrev S2x1024x384 : Shape := ⟨3, ![2, 1024, 384]⟩
abbrev S1x256x384 : Shape := ⟨3, ![1, 256, 384]⟩
abbrev S7x256x384 : Shape := ⟨3, ![7, 256, 384]⟩
abbrev S256x384 : Shape := ⟨2, ![256, 384]⟩

abbrev nBuf : Space → Nat
  | .hbm => 15
  | .vmem => 36
  | .smem => 0
  | _ => 0

abbrev bufTy : (tb : Table) → Fin (tcTables nBuf tb) → BufTy
  | .hbm, ⟨0, _⟩ => ⟨S1x1024x384, .bf16⟩
  | .hbm, ⟨1, _⟩ => ⟨S7x1024x384, .bf16⟩
  | .hbm, ⟨2, _⟩ => ⟨S1x1024x384, .bf16⟩
  | .hbm, ⟨3, _⟩ => ⟨S7x1024x384, .bf16⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S2x1024x384, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .local _ .vmem, ⟨0, _⟩ => ⟨S1x256x384, .bf16⟩
  | .local _ .vmem, ⟨1, _⟩ => ⟨S1x256x384, .bf16⟩
  | .local _ .vmem, ⟨2, _⟩ => ⟨S7x256x384, .bf16⟩
  | .local _ .vmem, ⟨3, _⟩ => ⟨S7x256x384, .bf16⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .vmem, ⟨18, _⟩ => ⟨S1x256x384, .bf16⟩
  | .local _ .vmem, ⟨19, _⟩ => ⟨S1x256x384, .bf16⟩
  | .local _ .vmem, ⟨20, _⟩ => ⟨S7x256x384, .bf16⟩
  | .local _ .vmem, ⟨21, _⟩ => ⟨S7x256x384, .bf16⟩
  | .local _ .vmem, ⟨22, _⟩ => ⟨S1x256x384, .f32⟩
  | .local _ .vmem, ⟨23, _⟩ => ⟨S1x256x384, .f32⟩
  | .local _ .vmem, ⟨24, _⟩ => ⟨S1x256x384, .f32⟩
  | .local _ .vmem, ⟨25, _⟩ => ⟨S1x256x384, .f32⟩
  | .local _ .vmem, ⟨26, _⟩ => ⟨S1x256x384, .f32⟩
  | .local _ .vmem, ⟨27, _⟩ => ⟨S1x256x384, .f32⟩
  | .local _ .vmem, ⟨28, _⟩ => ⟨S1x256x384, .f32⟩
  | .local _ .vmem, ⟨29, _⟩ => ⟨S1x256x384, .f32⟩
  | .local _ .vmem, ⟨30, _⟩ => ⟨S1x256x384, .f32⟩
  | .local _ .vmem, ⟨31, _⟩ => ⟨S1x256x384, .f32⟩
  | .local _ .vmem, ⟨32, _⟩ => ⟨S1x256x384, .f32⟩
  | .local _ .vmem, ⟨33, _⟩ => ⟨S1x256x384, .f32⟩
  | .local _ .vmem, ⟨34, _⟩ => ⟨S1x256x384, .f32⟩
  | .local _ .vmem, ⟨35, _⟩ => ⟨S1x256x384, .f32⟩
  | _, _ => ⟨S1x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S1x256x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S7x256x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== StepOddInIdeal.lean ====
abbrev S1x1024x384 : Shape := ⟨3, ![1, 1024, 384]⟩
abbrev S7x1024x384 : Shape := ⟨3, ![7, 1024, 384]⟩
abbrev S2x1024x384 : Shape := ⟨3, ![2, 1024, 384]⟩
abbrev S1x256x384 : Shape := ⟨3, ![1, 256, 384]⟩
abbrev S7x256x384 : Shape := ⟨3, ![7, 256, 384]⟩
abbrev S256x384 : Shape := ⟨2, ![256, 384]⟩

abbrev nBuf : Space → Nat
  | .hbm => 15
  | .vmem => 36
  | .smem => 0
  | _ => 0

abbrev bufTy : (tb : Table) → Fin (tcTables nBuf tb) → BufTy
  | .hbm, ⟨0, _⟩ => ⟨S1x1024x384, .bf16⟩
  | .hbm, ⟨1, _⟩ => ⟨S7x1024x384, .bf16⟩
  | .hbm, ⟨2, _⟩ => ⟨S1x1024x384, .bf16⟩
  | .hbm, ⟨3, _⟩ => ⟨S7x1024x384, .bf16⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S2x1024x384, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .local _ .vmem, ⟨0, _⟩ => ⟨S1x256x384, .bf16⟩
  | .local _ .vmem, ⟨1, _⟩ => ⟨S1x256x384, .bf16⟩
  | .local _ .vmem, ⟨2, _⟩ => ⟨S7x256x384, .bf16⟩
  | .local _ .vmem, ⟨3, _⟩ => ⟨S7x256x384, .bf16⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .vmem, ⟨18, _⟩ => ⟨S1x256x384, .bf16⟩
  | .local _ .vmem, ⟨19, _⟩ => ⟨S1x256x384, .bf16⟩
  | .local _ .vmem, ⟨20, _⟩ => ⟨S7x256x384, .bf16⟩
  | .local _ .vmem, ⟨21, _⟩ => ⟨S7x256x384, .bf16⟩
  | .local _ .vmem, ⟨22, _⟩ => ⟨S1x256x384, .f32⟩
  | .local _ .vmem, ⟨23, _⟩ => ⟨S1x256x384, .f32⟩
  | .local _ .vmem, ⟨24, _⟩ => ⟨S1x256x384, .f32⟩
  | .local _ .vmem, ⟨25, _⟩ => ⟨S1x256x384, .f32⟩
  | .local _ .vmem, ⟨26, _⟩ => ⟨S1x256x384, .f32⟩
  | .local _ .vmem, ⟨27, _⟩ => ⟨S1x256x384, .f32⟩
  | .local _ .vmem, ⟨28, _⟩ => ⟨S1x256x384, .f32⟩
  | .local _ .vmem, ⟨29, _⟩ => ⟨S1x256x384, .f32⟩
  | .local _ .vmem, ⟨30, _⟩ => ⟨S1x256x384, .f32⟩
  | .local _ .vmem, ⟨31, _⟩ => ⟨S1x256x384, .f32⟩
  | .local _ .vmem, ⟨32, _⟩ => ⟨S1x256x384, .f32⟩
  | .local _ .vmem, ⟨33, _⟩ => ⟨S1x256x384, .f32⟩
  | .local _ .vmem, ⟨34, _⟩ => ⟨S1x256x384, .f32⟩
  | .local _ .vmem, ⟨35, _⟩ => ⟨S1x256x384, .f32⟩
  | _, _ => ⟨S1x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S1x256x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S7x256x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== StepOddInRefIdeal.lean ====
abbrev S1x1024x384 : Shape := ⟨3, ![1, 1024, 384]⟩
abbrev S7x1024x384 : Shape := ⟨3, ![7, 1024, 384]⟩
abbrev S2x1024x384 : Shape := ⟨3, ![2, 1024, 384]⟩
abbrev S1024x384 : Shape := ⟨2, ![1024, 384]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1x1024x384, .bf16⟩
  | .hbm, ⟨1, _⟩ => ⟨S7x1024x384, .bf16⟩
  | .hbm, ⟨2, _⟩ => ⟨S1x1024x384, .bf16⟩
  | .hbm, ⟨3, _⟩ => ⟨S7x1024x384, .bf16⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S1024x384, .bf16⟩
  | .hbm, ⟨8, _⟩ => ⟨S1024x384, .f32⟩
  | .hbm, ⟨9, _⟩ => ⟨S7x1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .bf16⟩
  | .hbm, ⟨14, _⟩ => ⟨S1024x384, .f32⟩
  | .hbm, ⟨15, _⟩ => ⟨S7x1024x384, .f32⟩
  | .hbm, ⟨16, _⟩ => ⟨S_, .f32⟩
  | .hbm, ⟨17, _⟩ => ⟨S1024x384, .f32⟩
  | .hbm, ⟨18, _⟩ => ⟨S1024x384, .f32⟩
  | .hbm, ⟨19, _⟩ => ⟨S1x1024x384, .f32⟩
  | .hbm, ⟨20, _⟩ => ⟨S1x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S_, .f32⟩
  | .hbm, ⟨26, _⟩ => ⟨S2x1024x384, .f32⟩
  | .hbm, ⟨27, _⟩ => ⟨S2x1024x384, .f32⟩
  | .hbm, ⟨28, _⟩ => ⟨S2x1024x384, .f32⟩
  | .hbm, ⟨29, _⟩ => ⟨S_, .f32⟩
  | .hbm, ⟨30, _⟩ => ⟨S2x1024x384, .f32⟩
  | .hbm, ⟨31, _⟩ => ⟨S2x1024x384, .f32⟩
  | .hbm, ⟨32, _⟩ => ⟨S2x1024x384, .f32⟩
  | .hbm, ⟨33, _⟩ => ⟨S_, .f32⟩
  | .hbm, ⟨34, _⟩ => ⟨S2x1024x384, .f32⟩
  | .hbm, ⟨35, _⟩ => ⟨S2x1024x384, .f32⟩
  | .hbm, ⟨36, _⟩ => ⟨S2x1024x384, .f32⟩
  | .hbm, ⟨37, _⟩ => ⟨S_, .f32⟩
  | .hbm, ⟨38, _⟩ => ⟨S2x1024x384, .f32⟩
  | .hbm, ⟨39, _⟩ => ⟨S2x1024x384, .f32⟩
  | .hbm, ⟨40, _⟩ => ⟨S_, .f32⟩
  | .hbm, ⟨41, _⟩ => ⟨S2x1024x384, .f32⟩
  | .hbm, ⟨42, _⟩ => ⟨S2x1024x384, .f32⟩
  | .hbm, ⟨43, _⟩ => ⟨S2x1024x384, .f32⟩
  | .hbm, ⟨44, _⟩ => ⟨S_, .f32⟩
  | .hbm, ⟨45, _⟩ => ⟨S2x1024x384, .f32⟩
  | .hbm, ⟨46, _⟩ => ⟨S2x1024x384, .f32⟩
  | .hbm, ⟨47, _⟩ => ⟨S2x1024x384, .f32⟩
  | .hbm, ⟨48, _⟩ => ⟨S_, .f32⟩
  | .hbm, ⟨49, _⟩ => ⟨S2x1024x384, .f32⟩
  | .hbm, ⟨50, _⟩ => ⟨S2x1024x384, .f32⟩
  | .hbm, ⟨51, _⟩ => ⟨S2x1024x384, .f32⟩
  | .hbm, ⟨52, _⟩ => ⟨S_, .f32⟩
  | .hbm, ⟨53, _⟩ => ⟨S2x1024x384, .f32⟩
  | .hbm, ⟨54, _⟩ => ⟨S2x1024x384, .f32⟩
  | _, _ => ⟨S1x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== StepQueries.lean ====
abbrev S1x256x96 : Shape := ⟨3, ![1, 256, 96]⟩
abbrev S7x256x96 : Shape := ⟨3, ![7, 256, 96]⟩
abbrev S2x256x96 : Shape := ⟨3, ![2, 256, 96]⟩
abbrev S256x96 : Shape := ⟨2, ![256, 96]⟩

abbrev nBuf : Space → Nat
  | .hbm => 15
  | .vmem => 18
  | .smem => 0
  | _ => 0

abbrev bufTy : (tb : Table) → Fin (tcTables nBuf tb) → BufTy
  | .hbm, ⟨0, _⟩ => ⟨S1x256x96, .bf16⟩
  | .hbm, ⟨1, _⟩ => ⟨S7x256x96, .bf16⟩
  | .hbm, ⟨2, _⟩ => ⟨S1x256x96, .bf16⟩
  | .hbm, ⟨3, _⟩ => ⟨S7x256x96, .bf16⟩
  | .hbm, ⟨4, _⟩ => ⟨S2x256x96, .f32⟩
  | .hbm, ⟨5, _⟩ => ⟨S2x256x96, .f32⟩
  | .hbm, ⟨6, _⟩ => ⟨S2x256x96, .f32⟩
  | .hbm, ⟨7, _⟩ => ⟨S2x256x96, .f32⟩
  | .hbm, ⟨8, _⟩ => ⟨S2x256x96, .f32⟩
  | .hbm, ⟨9, _⟩ => ⟨S2x256x96, .f32⟩
  | .hbm, ⟨10, _⟩ => ⟨S2x256x96, .f32⟩
  | .hbm, ⟨11, _⟩ => ⟨S2x256x96, .f32⟩
  | .hbm, ⟨12, _⟩ => ⟨S2x256x96, .f32⟩
  | .hbm, ⟨13, _⟩ => ⟨S2x256x96, .f32⟩
  | .hbm, ⟨14, _⟩ => ⟨S2x256x96, .f32⟩
  | .local _ .vmem, ⟨0, _⟩ => ⟨S1x256x96, .bf16⟩
  | .local _ .vmem, ⟨1, _⟩ => ⟨S7x256x96, .bf16⟩
  | .local _ .vmem, ⟨2, _⟩ => ⟨S1x256x96, .f32⟩
  | .local _ .vmem, ⟨3, _⟩ => ⟨S1x256x96, .f32⟩
  | .local _ .vmem, ⟨4, _⟩ => ⟨S1x256x96, .f32⟩
  | .local _ .vmem, ⟨5, _⟩ => ⟨S1x256x96, .f32⟩
  | .local _ .vmem, ⟨6, _⟩ => ⟨S1x256x96, .f32⟩
  | .local _ .vmem, ⟨7, _⟩ => ⟨S1x256x96, .f32⟩
  | .local _ .vmem, ⟨8, _⟩ => ⟨S1x256x96, .f32⟩
  | .local _ .vmem, ⟨9, _⟩ => ⟨S1x256x96, .bf16⟩
  | .local _ .vmem, ⟨10, _⟩ => ⟨S7x256x96, .bf16⟩
  | .local _ .vmem, ⟨11, _⟩ => ⟨S1x256x96, .f32⟩
  | .local _ .vmem, ⟨12, _⟩ => ⟨S1x256x96, .f32⟩
  | .local _ .vmem, ⟨13, _⟩ => ⟨S1x256x96, .f32⟩
  | .local _ .vmem, ⟨14, _⟩ => ⟨S1x256x96, .f32⟩
  | .local _ .vmem, ⟨15, _⟩ => ⟨S1x256x96, .f32⟩
  | .local _ .vmem, ⟨16, _⟩ => ⟨S1x256x96, .f32⟩
  | .local _ .vmem, ⟨17, _⟩ => ⟨S1x256x96, .f32⟩
  | _, _ => ⟨S1x256x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 1 → Memref sig .tc .vmem S1x256x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S7x256x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 1 → Memref sig .tc .vmem S1x256x96 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S7x256x96 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x256x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x256x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x256x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x256x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x256x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x256x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S1x256x96 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]
-- ==== StepQueriesIdeal.lean ====
abbrev S1x256x96 : Shape := ⟨3, ![1, 256, 96]⟩
abbrev S7x256x96 : Shape := ⟨3, ![7, 256, 96]⟩
abbrev S2x256x96 : Shape := ⟨3, ![2, 256, 96]⟩
abbrev S256x96 : Shape := ⟨2, ![256, 96]⟩

abbrev nBuf : Space → Nat
  | .hbm => 15
  | .vmem => 18
  | .smem => 0
  | _ => 0

abbrev bufTy : (tb : Table) → Fin (tcTables nBuf tb) → BufTy
  | .hbm, ⟨0, _⟩ => ⟨S1x256x96, .bf16⟩
  | .hbm, ⟨1, _⟩ => ⟨S7x256x96, .bf16⟩
  | .hbm, ⟨2, _⟩ => ⟨S1x256x96, .bf16⟩
  | .hbm, ⟨3, _⟩ => ⟨S7x256x96, .bf16⟩
  | .hbm, ⟨4, _⟩ => ⟨S2x256x96, .f32⟩
  | .hbm, ⟨5, _⟩ => ⟨S2x256x96, .f32⟩
  | .hbm, ⟨6, _⟩ => ⟨S2x256x96, .f32⟩
  | .hbm, ⟨7, _⟩ => ⟨S2x256x96, .f32⟩
  | .hbm, ⟨8, _⟩ => ⟨S2x256x96, .f32⟩
  | .hbm, ⟨9, _⟩ => ⟨S2x256x96, .f32⟩
  | .hbm, ⟨10, _⟩ => ⟨S2x256x96, .f32⟩
  | .hbm, ⟨11, _⟩ => ⟨S2x256x96, .f32⟩
  | .hbm, ⟨12, _⟩ => ⟨S2x256x96, .f32⟩
  | .hbm, ⟨13, _⟩ => ⟨S2x256x96, .f32⟩
  | .hbm, ⟨14, _⟩ => ⟨S2x256x96, .f32⟩
  | .local _ .vmem, ⟨0, _⟩ => ⟨S1x256x96, .bf16⟩
  | .local _ .vmem, ⟨1, _⟩ => ⟨S7x256x96, .bf16⟩
  | .local _ .vmem, ⟨2, _⟩ => ⟨S1x256x96, .f32⟩
  | .local _ .vmem, ⟨3, _⟩ => ⟨S1x256x96, .f32⟩
  | .local _ .vmem, ⟨4, _⟩ => ⟨S1x256x96, .f32⟩
  | .local _ .vmem, ⟨5, _⟩ => ⟨S1x256x96, .f32⟩
  | .local _ .vmem, ⟨6, _⟩ => ⟨S1x256x96, .f32⟩
  | .local _ .vmem, ⟨7, _⟩ => ⟨S1x256x96, .f32⟩
  | .local _ .vmem, ⟨8, _⟩ => ⟨S1x256x96, .f32⟩
  | .local _ .vmem, ⟨9, _⟩ => ⟨S1x256x96, .bf16⟩
  | .local _ .vmem, ⟨10, _⟩ => ⟨S7x256x96, .bf16⟩
  | .local _ .vmem, ⟨11, _⟩ => ⟨S1x256x96, .f32⟩
  | .local _ .vmem, ⟨12, _⟩ => ⟨S1x256x96, .f32⟩
  | .local _ .vmem, ⟨13, _⟩ => ⟨S1x256x96, .f32⟩
  | .local _ .vmem, ⟨14, _⟩ => ⟨S1x256x96, .f32⟩
  | .local _ .vmem, ⟨15, _⟩ => ⟨S1x256x96, .f32⟩
  | .local _ .vmem, ⟨16, _⟩ => ⟨S1x256x96, .f32⟩
  | .local _ .vmem, ⟨17, _⟩ => ⟨S1x256x96, .f32⟩
  | _, _ => ⟨S1x256x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 1 → Memref sig .tc .vmem S1x256x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S7x256x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 1 → Memref sig .tc .vmem S1x256x96 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S7x256x96 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x256x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x256x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x256x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x256x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x256x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x256x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S1x256x96 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]
-- ==== StepQueriesRefIdeal.lean ====
abbrev S1x256x96 : Shape := ⟨3, ![1, 256, 96]⟩
abbrev S7x256x96 : Shape := ⟨3, ![7, 256, 96]⟩
abbrev S2x256x96 : Shape := ⟨3, ![2, 256, 96]⟩
abbrev S256x96 : Shape := ⟨2, ![256, 96]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1x256x96, .bf16⟩
  | .hbm, ⟨1, _⟩ => ⟨S7x256x96, .bf16⟩
  | .hbm, ⟨2, _⟩ => ⟨S1x256x96, .bf16⟩
  | .hbm, ⟨3, _⟩ => ⟨S7x256x96, .bf16⟩
  | .hbm, ⟨4, _⟩ => ⟨S2x256x96, .f32⟩
  | .hbm, ⟨5, _⟩ => ⟨S2x256x96, .f32⟩
  | .hbm, ⟨6, _⟩ => ⟨S2x256x96, .f32⟩
  | .hbm, ⟨7, _⟩ => ⟨S256x96, .bf16⟩
  | .hbm, ⟨8, _⟩ => ⟨S256x96, .f32⟩
  | .hbm, ⟨9, _⟩ => ⟨S7x256x96, .f32⟩
  | .hbm, ⟨10, _⟩ => ⟨S_, .f32⟩
  | .hbm, ⟨11, _⟩ => ⟨S256x96, .f32⟩
  | .hbm, ⟨12, _⟩ => ⟨S256x96, .f32⟩
  | .hbm, ⟨13, _⟩ => ⟨S256x96, .bf16⟩
  | .hbm, ⟨14, _⟩ => ⟨S256x96, .f32⟩
  | .hbm, ⟨15, _⟩ => ⟨S7x256x96, .f32⟩
  | .hbm, ⟨16, _⟩ => ⟨S_, .f32⟩
  | .hbm, ⟨17, _⟩ => ⟨S256x96, .f32⟩
  | .hbm, ⟨18, _⟩ => ⟨S256x96, .f32⟩
  | .hbm, ⟨19, _⟩ => ⟨S1x256x96, .f32⟩
  | .hbm, ⟨20, _⟩ => ⟨S1x256x96, .f32⟩
  | .hbm, ⟨21, _⟩ => ⟨S2x256x96, .f32⟩
  | .hbm, ⟨22, _⟩ => ⟨S_, .f32⟩
  | .hbm, ⟨23, _⟩ => ⟨S2x256x96, .f32⟩
  | .hbm, ⟨24, _⟩ => ⟨S2x256x96, .f32⟩
  | .hbm, ⟨25, _⟩ => ⟨S_, .f32⟩
  | .hbm, ⟨26, _⟩ => ⟨S2x256x96, .f32⟩
  | .hbm, ⟨27, _⟩ => ⟨S2x256x96, .f32⟩
  | .hbm, ⟨28, _⟩ => ⟨S2x256x96, .f32⟩
  | .hbm, ⟨29, _⟩ => ⟨S_, .f32⟩
  | .hbm, ⟨30, _⟩ => ⟨S2x256x96, .f32⟩
  | .hbm, ⟨31, _⟩ => ⟨S2x256x96, .f32⟩
  | .hbm, ⟨32, _⟩ => ⟨S2x256x96, .f32⟩
  | .hbm, ⟨33, _⟩ => ⟨S_, .f32⟩
  | .hbm, ⟨34, _⟩ => ⟨S2x256x96, .f32⟩
  | .hbm, ⟨35, _⟩ => ⟨S2x256x96, .f32⟩
  | .hbm, ⟨36, _⟩ => ⟨S2x256x96, .f32⟩
  | .hbm, ⟨37, _⟩ => ⟨S_, .f32⟩
  | .hbm, ⟨38, _⟩ => ⟨S2x256x96, .f32⟩
  | .hbm, ⟨39, _⟩ => ⟨S2x256x96, .f32⟩
  | .hbm, ⟨40, _⟩ => ⟨S_, .f32⟩
  | .hbm, ⟨41, _⟩ => ⟨S2x256x96, .f32⟩
  | .hbm, ⟨42, _⟩ => ⟨S2x256x96, .f32⟩
  | .hbm, ⟨43, _⟩ => ⟨S2x256x96, .f32⟩
  | .hbm, ⟨44, _⟩ => ⟨S_, .f32⟩
  | .hbm, ⟨45, _⟩ => ⟨S2x256x96, .f32⟩
  | .hbm, ⟨46, _⟩ => ⟨S2x256x96, .f32⟩
  | .hbm, ⟨47, _⟩ => ⟨S2x256x96, .f32⟩
  | .hbm, ⟨48, _⟩ => ⟨S_, .f32⟩
  | .hbm, ⟨49, _⟩ => ⟨S2x256x96, .f32⟩
  | .hbm, ⟨50, _⟩ => ⟨S2x256x96, .f32⟩
  | .hbm, ⟨51, _⟩ => ⟨S2x256x96, .f32⟩
  | .hbm, ⟨52, _⟩ => ⟨S_, .f32⟩
  | .hbm, ⟨53, _⟩ => ⟨S2x256x96, .f32⟩
  | .hbm, ⟨54, _⟩ => ⟨S2x256x96, .f32⟩
  | _, _ => ⟨S1x256x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== StepKeys.lean ====
abbrev S1x128x128 : Shape := ⟨3, ![1, 128, 128]⟩
abbrev S7x128x128 : Shape := ⟨3, ![7, 128, 128]⟩
abbrev S2x128x128 : Shape := ⟨3, ![2, 128, 128]⟩
abbrev S128x128 : Shape := ⟨2, ![128, 128]⟩

abbrev nBuf : Space → Nat
  | .hbm => 15
  | .vmem => 18
  | .smem => 0
  | _ => 0

abbrev bufTy : (tb : Table) → Fin (tcTables nBuf tb) → BufTy
  | .hbm, ⟨0, _⟩ => ⟨S1x128x128, .bf16⟩
  | .hbm, ⟨1, _⟩ => ⟨S7x128x128, .bf16⟩
  | .hbm, ⟨2, _⟩ => ⟨S1x128x128, .bf16⟩
  | .hbm, ⟨3, _⟩ => ⟨S7x128x128, .bf16⟩
  | .hbm, ⟨4, _⟩ => ⟨S2x128x128, .f32⟩
  | .hbm, ⟨5, _⟩ => ⟨S2x128x128, .f32⟩
  | .hbm, ⟨6, _⟩ => ⟨S2x128x128, .f32⟩
  | .hbm, ⟨7, _⟩ => ⟨S2x128x128, .f32⟩
  | .hbm, ⟨8, _⟩ => ⟨S2x128x128, .f32⟩
  | .hbm, ⟨9, _⟩ => ⟨S2x128x128, .f32⟩
  | .hbm, ⟨10, _⟩ => ⟨S2x128x128, .f32⟩
  | .hbm, ⟨11, _⟩ => ⟨S2x128x128, .f32⟩
  | .hbm, ⟨12, _⟩ => ⟨S2x128x128, .f32⟩
  | .hbm, ⟨13, _⟩ => ⟨S2x128x128, .f32⟩
  | .hbm, ⟨14, _⟩ => ⟨S2x128x128, .f32⟩
  | .local _ .vmem, ⟨0, _⟩ => ⟨S1x128x128, .bf16⟩
  | .local _ .vmem, ⟨1, _⟩ => ⟨S7x128x128, .bf16⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .bf16⟩
  | .local _ .vmem, ⟨10, _⟩ => ⟨S7x128x128, .bf16⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | _, _ => ⟨S1x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 1 → Memref sig .tc .vmem S1x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S7x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 1 → Memref sig .tc .vmem S1x128x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S7x128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S1x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]
-- ==== StepKeysRefIdeal.lean ====
abbrev S1x128x128 : Shape := ⟨3, ![1, 128, 128]⟩
abbrev S7x128x128 : Shape := ⟨3, ![7, 128, 128]⟩
abbrev S2x128x128 : Shape := ⟨3, ![2, 128, 128]⟩
abbrev S128x128 : Shape := ⟨2, ![128, 128]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1x128x128, .bf16⟩
  | .hbm, ⟨1, _⟩ => ⟨S7x128x128, .bf16⟩
  | .hbm, ⟨2, _⟩ => ⟨S1x128x128, .bf16⟩
  | .hbm, ⟨3, _⟩ => ⟨S7x128x128, .bf16⟩
  | .hbm, ⟨4, _⟩ => ⟨S2x128x128, .f32⟩
  | .hbm, ⟨5, _⟩ => ⟨S2x128x128, .f32⟩
  | .hbm, ⟨6, _⟩ => ⟨S2x128x128, .f32⟩
  | .hbm, ⟨7, _⟩ => ⟨S128x128, .bf16⟩
  | .hbm, ⟨8, _⟩ => ⟨S128x128, .f32⟩
  | .hbm, ⟨9, _⟩ => ⟨S7x128x128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S7x128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S1x128x128, .f32⟩
  | .hbm, ⟨20, _⟩ => ⟨S1x128x128, .f32⟩
  | .hbm, ⟨21, _⟩ => ⟨S2x128x128, .f32⟩
  | .hbm, ⟨22, _⟩ => ⟨S_, .f32⟩
  | .hbm, ⟨23, _⟩ => ⟨S2x128x128, .f32⟩
  | .hbm, ⟨24, _⟩ => ⟨S2x128x128, .f32⟩
  | .hbm, ⟨25, _⟩ => ⟨S_, .f32⟩
  | .hbm, ⟨26, _⟩ => ⟨S2x128x128, .f32⟩
  | .hbm, ⟨27, _⟩ => ⟨S2x128x128, .f32⟩
  | .hbm, ⟨28, _⟩ => ⟨S2x128x128, .f32⟩
  | .hbm, ⟨29, _⟩ => ⟨S_, .f32⟩
  | .hbm, ⟨30, _⟩ => ⟨S2x128x128, .f32⟩
  | .hbm, ⟨31, _⟩ => ⟨S2x128x128, .f32⟩
  | .hbm, ⟨32, _⟩ => ⟨S2x128x128, .f32⟩
  | .hbm, ⟨33, _⟩ => ⟨S_, .f32⟩
  | .hbm, ⟨34, _⟩ => ⟨S2x128x128, .f32⟩
  | .hbm, ⟨35, _⟩ => ⟨S2x128x128, .f32⟩
  | .hbm, ⟨36, _⟩ => ⟨S2x128x128, .f32⟩
  | .hbm, ⟨37, _⟩ => ⟨S_, .f32⟩
  | .hbm, ⟨38, _⟩ => ⟨S2x128x128, .f32⟩
  | .hbm, ⟨39, _⟩ => ⟨S2x128x128, .f32⟩
  | .hbm, ⟨40, _⟩ => ⟨S_, .f32⟩
  | .hbm, ⟨41, _⟩ => ⟨S2x128x128, .f32⟩
  | .hbm, ⟨42, _⟩ => ⟨S2x128x128, .f32⟩
  | .hbm, ⟨43, _⟩ => ⟨S2x128x128, .f32⟩
  | .hbm, ⟨44, _⟩ => ⟨S_, .f32⟩
  | .hbm, ⟨45, _⟩ => ⟨S2x128x128, .f32⟩
  | .hbm, ⟨46, _⟩ => ⟨S2x128x128, .f32⟩
  | .hbm, ⟨47, _⟩ => ⟨S2x128x128, .f32⟩
  | .hbm, ⟨48, _⟩ => ⟨S_, .f32⟩
  | .hbm, ⟨49, _⟩ => ⟨S2x128x128, .f32⟩
  | .hbm, ⟨50, _⟩ => ⟨S2x128x128, .f32⟩
  | .hbm, ⟨51, _⟩ => ⟨S2x128x128, .f32⟩
  | .hbm, ⟨52, _⟩ => ⟨S_, .f32⟩
  | .hbm, ⟨53, _⟩ => ⟨S2x128x128, .f32⟩
  | .hbm, ⟨54, _⟩ => ⟨S2x128x128, .f32⟩
  | _, _ => ⟨S1x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdaGrad.lean ====
abbrev S8x1024 : Shape := ⟨2, ![8, 1024]⟩
abbrev S4x8x384 : Shape := ⟨3, ![4, 8, 384]⟩
abbrev S1024x8 : Shape := ⟨2, ![1024, 8]⟩
abbrev S4x1024x384 : Shape := ⟨3, ![4, 1024, 384]⟩
abbrev S1x8x384 : Shape := ⟨3, ![1, 8, 384]⟩
abbrev S1x1024x384 : Shape := ⟨3, ![1, 1024, 384]⟩
abbrev S8x384 : Shape := ⟨2, ![8, 384]⟩
abbrev S1024x1 : Shape := ⟨2, ![1024, 1]⟩
abbrev S1x384 : Shape := ⟨2, ![1, 384]⟩
abbrev S1024x384 : Shape := ⟨2, ![1024, 384]⟩

abbrev nBuf : Space → Nat
  | .hbm => 4
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x384, .f32⟩
  | .hbm, ⟨2, _⟩ => ⟨S1024x8, .f32⟩
  | .hbm, ⟨3, _⟩ => ⟨S4x1024x384, .f32⟩
  | .local _ .vmem, ⟨0, _⟩ => ⟨S1024x8, .f32⟩
  | .local _ .vmem, ⟨1, _⟩ => ⟨S1x8x384, .f32⟩
  | .local _ .vmem, ⟨2, _⟩ => ⟨S1x8x384, .f32⟩
  | .local _ .vmem, ⟨3, _⟩ => ⟨S1x1024x384, .f32⟩
  | .local _ .vmem, ⟨4, _⟩ => ⟨S1x1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaGradRefIdeal.lean ====
abbrev S8x1024 : Shape := ⟨2, ![8, 1024]⟩
abbrev S4x8x384 : Shape := ⟨3, ![4, 8, 384]⟩
abbrev S_ : Shape := ⟨0, ![]⟩
abbrev S4x1024x384 : Shape := ⟨3, ![4, 1024, 384]⟩
abbrev S4x384x8 : Shape := ⟨3, ![4, 384, 8]⟩
abbrev S4x384x1024 : Shape := ⟨3, ![4, 384, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x384, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S4x1024x384, .f32⟩
  | .hbm, ⟨13, _⟩ => ⟨S4x384x8, .f32⟩
  | .hbm, ⟨14, _⟩ => ⟨S4x8x384, .f32⟩
  | .hbm, ⟨15, _⟩ => ⟨S4x384x8, .f32⟩
  | .hbm, ⟨16, _⟩ => ⟨S4x384x1024, .f32⟩
  | .hbm, ⟨17, _⟩ => ⟨S4x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.WordRuns.lean ====
/-
  THE FRAME OF THE KERNEL ON MACHINE WORDS. The body runs at every point from any contents of its results and its
  scratch, leaves its arguments' blocks as they were and its results at some contents; so the launch ends, with the
  arguments unchanged and every counter at zero. Nothing is said here of what the results hold.
-/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.AttnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The point is the first of its group of heads. -/
abbrev firstTile (i : grid0.Coords) : Prop :=
  (Scalar.cmpi .ne (Scalar.extui (Scalar.cmpi .eq (BitVec.ofNat 32 (i 1).val) 0#32)) 0#32) = 1#1

set_option maxHeartbeats 1000000 in
/-- At the first point of a group, where the query gradient is cleared, the body runs. -/
theorem runs_first (c : Dev nD) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole)
    (hc : firstTile i) (x0 : Vec F S4096x512 .bf16) (x1 : Vec F S256x512 .bf16) (x2 : Vec F S256x256 .bf16) (x3 : Vec F S1x512x256 .bf16) (x4 : Vec F S4096x256 .bf16) (x5 : Vec F S16x32x256 .f32) (x6 : Vec F S16x32x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
    simp only [cc0_attn_bwd_eq_skeleton]; unfold cc0_attn_bwd_skel
    simp only [k0_part19_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

set_option maxHeartbeats 1000000 in
/-- At the other points of a group, which add to the query gradient, the body runs. -/
theorem runs_later (c : Dev nD) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole)
    (hc : ¬firstTile i) (x0 : Vec F S4096x512 .bf16) (x1 : Vec F S256x512 .bf16) (x2 : Vec F S256x256 .bf16) (x3 : Vec F S1x512x256 .bf16) (x4 : Vec F S4096x256 .bf16) (x5 : Vec F S16x32x256 .f32) (x6 : Vec F S16x32x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
    simp only [cc0_attn_bwd_eq_skeleton]; unfold cc0_attn_bwd_skel
    simp only [k0_part19_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Kernel.AttnGrad

end
-- ==== Proof.WordFrame.lean ====
/-
  THE FRAME OF THE KERNEL ON MACHINE WORDS. The body runs at every point from any contents of its results and its
  scratch, leaves its arguments' blocks as they were and its results at some contents; so the launch ends, with the
  arguments unchanged and every counter at zero. Nothing is said here of what the results hold.
-/
module

public import proofs.«01_k».proof.Proof.WordRuns
public import Idealize.ShloMosaic.Lib.Claim

@[expose] public section

set_option maxRecDepth 16384

noncomputable section

namespace Cert.Kernel.AttnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three results, of which nothing is said. -/
def results : Fin 10 → Bool := fun w => w.val == 7 || w.val == 8 || w.val == 9

/-- The launch: the arrays as the host operations leave them, an argument's block in place after the body. -/
def words (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem array_eq (c : Dev nD) (w : Fin cfg0.W) : (words m 0 c).A w = V m c (Pipeline.arrRef spec0 w) := by
  dsimp only [words]

theorem after_0 (c : Dev nD) (t : Fin cfg0.N) : (words m 0 c).after 0 t = iblk m c 0 t := by dsimp only [words]
theorem after_1 (c : Dev nD) (t : Fin cfg0.N) : (words m 0 c).after 1 t = iblk m c 1 t := by dsimp only [words]
theorem after_2 (c : Dev nD) (t : Fin cfg0.N) : (words m 0 c).after 2 t = iblk m c 2 t := by dsimp only [words]
theorem after_3 (c : Dev nD) (t : Fin cfg0.N) : (words m 0 c).after 3 t = iblk m c 3 t := by dsimp only [words]
theorem after_4 (c : Dev nD) (t : Fin cfg0.N) : (words m 0 c).after 4 t = iblk m c 4 t := by dsimp only [words]
theorem after_5 (c : Dev nD) (t : Fin cfg0.N) : (words m 0 c).after 5 t = iblk m c 5 t := by dsimp only [words]
theorem after_6 (c : Dev nD) (t : Fin cfg0.N) : (words m 0 c).after 6 t = iblk m c 6 t := by dsimp only [words]

theorem before_0 (c : Dev nD) (t : Fin cfg0.N) (d) : (words m 0 c).before 0 t d = iblk m c 0 t :=
  before0_0_of m (words m 0 c) (array_eq m c 0) (after_0 m c) t d
theorem before_1 (c : Dev nD) (t : Fin cfg0.N) (d) : (words m 0 c).before 1 t d = iblk m c 1 t :=
  before0_1_of m (words m 0 c) (array_eq m c 1) (after_1 m c) t d
theorem before_2 (c : Dev nD) (t : Fin cfg0.N) (d) : (words m 0 c).before 2 t d = iblk m c 2 t :=
  before0_2_of m (words m 0 c) (array_eq m c 2) (after_2 m c) t d
theorem before_3 (c : Dev nD) (t : Fin cfg0.N) (d) : (words m 0 c).before 3 t d = iblk m c 3 t :=
  before0_3_of m (words m 0 c) (array_eq m c 3) (after_3 m c) t d
theorem before_4 (c : Dev nD) (t : Fin cfg0.N) (d) : (words m 0 c).before 4 t d = iblk m c 4 t :=
  before0_4_of m (words m 0 c) (array_eq m c 4) (after_4 m c) t d
theorem before_5 (c : Dev nD) (t : Fin cfg0.N) (d) : (words m 0 c).before 5 t d = iblk m c 5 t :=
  before0_5_of m (words m 0 c) (array_eq m c 5) (after_5 m c) t d
theorem before_6 (c : Dev nD) (t : Fin cfg0.N) (d) : (words m 0 c).before 6 t d = iblk m c 6 t :=
  before0_6_of m (words m 0 c) (array_eq m c 6) (after_6 m c) t d

/-- The two scratch buffers, whole, at some contents, beside the generator register. -/
theorem scratch_eq (c : Dev nD) :
    (Pipeline.ΦA spec0 c : sProp 𝕄)
      = iprop(iprop((∃ d, owns (c : Thread nD τ) (Memref.whole cc0_scratch0 : Memref sig .tc .vmem S256x512 .f32) fullShare d)
          ∗ (∃ d, owns (c : Thread nD τ) (Memref.whole cc0_scratch1 : Memref sig .tc .vmem S4x256x128 .f32) fullShare d)) ∗ (∃ r, prngReg c r)) := by
  unfold Pipeline.ΦA; rw [scopedRest0_eq]; simp only [owns_whole]; try rfl

/-- Before the body at a point. -/
def pointPre (c : Dev nD) (t : Fin cfg0.N) : sProp 𝕄 :=
  iprop((words m 0 c).Φ t.castSucc ∗ (words m 0 c).owesAt () t.castSucc
    ∗ (∃ d, owns (c : Thread nD τ) (win0_0.stage (cfg0.slots t 0) : Memref sig .tc .vmem S4096x512 .bf16) fullShare ((words m 0 c).before 0 t d))
    ∗ (∃ d, owns (c : Thread nD τ) (win0_1.stage (cfg0.slots t 1) : Memref sig .tc .vmem S256x512 .bf16) fullShare ((words m 0 c).before 1 t d))
    ∗ (∃ d, owns (c : Thread nD τ) (win0_2.stage (cfg0.slots t 2) : Memref sig .tc .vmem S256x256 .bf16) fullShare ((words m 0 c).before 2 t d))
    ∗ (∃ d, owns (c : Thread nD τ) (win0_3.stage (cfg0.slots t 3) : Memref sig .tc .vmem S1x512x256 .bf16) fullShare ((words m 0 c).before 3 t d))
    ∗ (∃ d, owns (c : Thread nD τ) (win0_4.stage (cfg0.slots t 4) : Memref sig .tc .vmem S4096x256 .bf16) fullShare ((words m 0 c).before 4 t d))
    ∗ (∃ d, owns (c : Thread nD τ) (win0_5.stage (cfg0.slots t 5) : Memref sig .tc .vmem S16x32x256 .f32) fullShare ((words m 0 c).before 5 t d))
    ∗ (∃ d, owns (c : Thread nD τ) (win0_6.stage (cfg0.slots t 6) : Memref sig .tc .vmem S16x32x256 .f32) fullShare ((words m 0 c).before 6 t d))
    ∗ (∃ d, owns (c : Thread nD τ) (win0_7.stage (cfg0.slots t 7) : Memref sig .tc .vmem S16x512x256 .f32) fullShare d)
    ∗ (∃ d, owns (c : Thread nD τ) (win0_8.stage (cfg0.slots t 8) : Memref sig .tc .vmem S256x512 .bf16) fullShare d)
    ∗ (∃ d, owns (c : Thread nD τ) (win0_9.stage (cfg0.slots t 9) : Memref sig .tc .vmem S256x256 .bf16) fullShare d))

/-- After it. -/
def pointPost (c : Dev nD) (t : Fin cfg0.N) : sProp 𝕄 :=
  iprop((words m 0 c).Φ t.succ ∗ (words m 0 c).owesAt () t.succ
    ∗ owns (c : Thread nD τ) (win0_0.stage (cfg0.slots t 0) : Memref sig .tc .vmem S4096x512 .bf16) fullShare ((words m 0 c).after 0 t)
    ∗ owns (c : Thread nD τ) (win0_1.stage (cfg0.slots t 1) : Memref sig .tc .vmem S256x512 .bf16) fullShare ((words m 0 c).after 1 t)
    ∗ owns (c : Thread nD τ) (win0_2.stage (cfg0.slots t 2) : Memref sig .tc .vmem S256x256 .bf16) fullShare ((words m 0 c).after 2 t)
    ∗ owns (c : Thread nD τ) (win0_3.stage (cfg0.slots t 3) : Memref sig .tc .vmem S1x512x256 .bf16) fullShare ((words m 0 c).after 3 t)
    ∗ owns (c : Thread nD τ) (win0_4.stage (cfg0.slots t 4) : Memref sig .tc .vmem S4096x256 .bf16) fullShare ((words m 0 c).after 4 t)
    ∗ owns (c : Thread nD τ) (win0_5.stage (cfg0.slots t 5) : Memref sig .tc .vmem S16x32x256 .f32) fullShare ((words m 0 c).after 5 t)
    ∗ owns (c : Thread nD τ) (win0_6.stage (cfg0.slots t 6) : Memref sig .tc .vmem S16x32x256 .f32) fullShare ((words m 0 c).after 6 t)
    ∗ (∃ d, owns (c : Thread nD τ) (win0_7.stage (cfg0.slots t 7) : Memref sig .tc .vmem S16x512x256 .f32) fullShare d)
    ∗ (∃ d, owns (c : Thread nD τ) (win0_8.stage (cfg0.slots t 8) : Memref sig .tc .vmem S256x512 .bf16) fullShare d)
    ∗ (∃ d, owns (c : Thread nD τ) (win0_9.stage (cfg0.slots t 9) : Memref sig .tc .vmem S256x256 .bf16) fullShare d))

set_option maxHeartbeats 2400000 in
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3, before_4, before_5, before_6]
  rw [show (words m 0 c).Φ t.succ = (words m 0 c).Φ t.castSucc from rfl,
    show (words m 0 c).owesAt () t.succ = (words m 0 c).owesAt () t.castSucc from rfl,
    after_0, after_1, after_2, after_3, after_4, after_5, after_6]
  rw [show (words m 0 c).Φ t.castSucc = Pipeline.ΦA spec0 c from rfl, scratch_eq]
  by_cases h0 : firstTile (grid0.coords t)
  · iintro ⟨⟨⟨H10, H11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runs_first c (grid0.coords t) _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [H11]; · iexact H11
    iintro ⟨H0, H1, H2, H3, H4, H5, H6, H7, H8, H9, H10, H11⟩
    isplitl [H10 H11 Hg]
    · isplitl [H10 H11]
      · isplitl [H10]
        · iexact H10
        iexact H11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨H10, H11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runs_later c (grid0.coords t) _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [H11]; · iexact H11
    iintro ⟨H0, H1, H2, H3, H4, H5, H6, H7, H8, H9, H10, H11⟩
    isplitl [H10 H11 Hg]
    · isplitl [H10 H11]
      · isplitl [H10]
        · iexact H10
        iexact H11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (words (F := F) m 0 c) (defs₀ (F := F)) Variants.none () Set.univ results := fun t => by
  rw [bigSep_W0, bigSep_W0, body_row]
  exact triple_restated (point_runs m c t) rfl .rfl fun _ => .rfl

set_option backward.isDefEq.respectTransparency.types false in
theorem launch_ends : θ_run defs (onTc (τ := τ) (main (F := F))) (s₀ m ρ)
    (fun r => (Pipeline.RDat.FramePost (cfgs 0) (fun c => (words m 0 c).toRForget results) (V m)) r ∧ r.2.sem = fun _ => 0) :=
  Pipeline.θ_run_frame_forget (Q' := _) cfgs (words m) (0 : Fin 1) launch0 defs₀ Variants.none results m ρ main
    (hbody := fun c => (obligation m c).loose) (hshare := fun c => (words m 0 c).share_full fun _ => rfl)
    (howed := fun _ _ => rfl) (V := V m) (hmain := hmain m Variants.none) (hA := array_eq m) (hΦ := fun _ _ => rfl)

/-- The launch ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (launch_ends m ρ)

end Cert.Kernel.AttnGrad

end
-- ==== Proof.Maths.lean ====
/-
  THE MATHEMATICS of the chunk-causal attention's gradient, over the reals: the scores, their softmax over the keys a
  query sees, and the gradients of the scaled queries, the keys and the values; with the two ways of writing a
  probability that a program uses (an exponential shifted by any number and divided by the shifted mass; a power of two
  of the score less the logarithm of the mass).
-/
module

public import Idealize.ShloMosaic.Lib.ValueIdx

@[expose] public section

noncomputable section

namespace Cert.AttnGrad

open Idealize.ShloMosaic

/-! ## Real numbers among the extended ones -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (x y : ℝ) : (if p then (x : EReal) else (y : EReal)) = ((if p then x else y : ℝ) : EReal) := by
  split <;> rfl

theorem div_real (x y : ℝ) (h : y ≠ 0) : Ideal.div (x : EReal) (y : EReal) = ((x / y : ℝ) : EReal) := by
  rw [Ideal.div_coe h, ← EReal.coe_mul, mul_one_div]

/-- The greatest of finitely many values, each a real or the bottom, one of them a real, is a real. -/
theorem fold_max_real {ι : Type} (s : Finset ι) (f : ι → EReal) (hf : ∀ i ∈ s, f i = ⊥ ∨ ∃ r : ℝ, f i = (r : EReal))
    (j : ι) (hj : j ∈ s) (x : ℝ) (hx : f j = (x : EReal)) : ∃ r : ℝ, s.fold max ⊥ f = (r : EReal) := by
  classical
  have h : ∀ u : Finset ι, u ⊆ s → u.fold max ⊥ f = ⊥ ∨ ∃ r : ℝ, u.fold max ⊥ f = (r : EReal) := by
    intro u
    induction u using Finset.induction_on with
    | empty => intro _; exact Or.inl rfl
    | insert a u ha ih =>
      intro hu
      rw [Finset.fold_insert ha]
      have h1 := hf a (hu (Finset.mem_insert_self a u))
      have h2 := ih (fun b hb => hu (Finset.mem_insert_of_mem hb))
      rcases max_choice (f a) (u.fold max ⊥ f) with e | e <;> rw [e]
      · exact h1
      · exact h2
  rcases h s (Finset.Subset.refl s) with e | e
  · have hle : f j ≤ s.fold max ⊥ f := Finset.le_fold_max (f j) |>.2 (Or.inr ⟨j, hj, le_refl _⟩)
    rw [e, hx] at hle
    exact absurd hle (by simp)
  · exact e

/-! ## The attention -/

/-- The query at `i` sees the key at `t`: the key's chunk of 64 is not after the query's. -/
def Seen (i t : Fin 4096) : Prop := t.val / 64 ≤ i.val / 64

instance (i t : Fin 4096) : Decidable (Seen i t) := inferInstanceAs (Decidable (t.val / 64 ≤ i.val / 64))

/-- The queries, the keys, the values and the cotangent of the attention's result, per head and position. -/
structure Inputs where
  q : Fin 8 → Fin 4096 → Fin 96 → ℝ
  k : Fin 8 → Fin 4096 → Fin 96 → ℝ
  v : Fin 8 → Fin 4096 → Fin 64 → ℝ
  g : Fin 8 → Fin 4096 → Fin 64 → ℝ

/-- The number the scores are scaled by: the single-precision word nearest to one over the root of 96. -/
def scale : ℝ := 13698540 / 134217728

namespace Inputs
variable (A : Inputs) (h : Fin 8) (i t : Fin 4096)

def score : ℝ := (∑ d, A.q h i d * A.k h t d) * scale
def mass : ℝ := ∑ t, if Seen i t then Real.exp (A.score h i t) else 0
def prob : ℝ := if Seen i t then Real.exp (A.score h i t) / A.mass h i else 0
def dprob : ℝ := ∑ d, A.g h i d * A.v h t d
def corr : ℝ := ∑ t, A.prob h i t * A.dprob h i t
def ds : ℝ := A.prob h i t * (A.dprob h i t - A.corr h i)
/-- The gradient of the scaled query. -/
def dq (d : Fin 96) : ℝ := ∑ t, A.ds h i t * A.k h t d
def dk (d : Fin 96) : ℝ := ∑ i, A.ds h i t * (A.q h i d * scale)
def dv (d : Fin 64) : ℝ := ∑ i, A.prob h i t * A.g h i d

theorem seen_self : Seen i i := Nat.le_refl _

theorem mass_pos : 0 < A.mass h i := by
  refine Finset.sum_pos' (fun t _ => ?_) ⟨i, Finset.mem_univ i, ?_⟩
  · split
    · exact (Real.exp_pos _).le
    · exact le_refl _
  · rw [if_pos (seen_self i)]; exact Real.exp_pos _

/-- The exponential of the score less `r` where the key is seen. -/
def shifted (r : ℝ) : ℝ := if Seen i t then Real.exp (A.score h i t - r) else 0

theorem shifted_eq (r : ℝ) : A.shifted h i t r = (if Seen i t then Real.exp (A.score h i t) else 0) * Real.exp (-r) := by
  unfold shifted
  split
  · rw [sub_eq_add_neg, Real.exp_add]
  · rw [zero_mul]

theorem shifted_sum (r : ℝ) : ∑ t, A.shifted h i t r = A.mass h i * Real.exp (-r) := by
  rw [mass, Finset.sum_mul]
  exact Finset.sum_congr rfl fun t _ => A.shifted_eq h i t r

theorem shifted_sum_pos (r : ℝ) : 0 < ∑ t, A.shifted h i t r := by
  rw [shifted_sum]; exact mul_pos (A.mass_pos h i) (Real.exp_pos _)

theorem shifted_div (r : ℝ) : A.shifted h i t r / ∑ t, A.shifted h i t r = A.prob h i t := by
  have h1 := (A.mass_pos h i).ne'
  have h2 := (Real.exp_pos (-r)).ne'
  rw [shifted_sum, shifted_eq, mul_div_mul_right _ _ h2, prob]
  split
  · rfl
  · rw [zero_div]

theorem log_shifted_sum (r : ℝ) : r + Real.log (∑ t, A.shifted h i t r) = Real.log (A.mass h i) := by
  rw [shifted_sum, Real.log_mul (A.mass_pos h i).ne' (Real.exp_pos _).ne', Real.log_exp]; ring

/-- A probability as a power of two. -/
theorem prob_pow (hs : Seen i t) :
    Real.rpow 2 (A.score h i t / Real.log 2 - Real.log (A.mass h i) / Real.log 2) = A.prob h i t := by
  have h2 : Real.log 2 ≠ 0 := (Real.log_pos (by norm_num)).ne'
  rw [Real.rpow_eq_pow, Real.rpow_def_of_pos (by norm_num), ← sub_div, mul_div_cancel₀ _ h2, Real.exp_sub, Real.exp_log (A.mass_pos h i), prob, if_pos hs]

/-- The correction row by row: the probability-weighted sum of the cotangents of the probabilities is the inner product of
    the attention's result with its cotangent. -/
theorem corr_eq : ∑ d, (∑ t, A.prob h i t * A.v h t d) * A.g h i d = A.corr h i := by
  unfold corr dprob
  simp only [Finset.sum_mul, Finset.mul_sum]
  rw [Finset.sum_comm]
  exact Finset.sum_congr rfl fun t _ => Finset.sum_congr rfl fun d _ => by ring

/-- The gradient of a score as the softmax's derivative writes it. -/
theorem ds_eq (r : ℝ) :
    (A.dprob h i t / (∑ t, A.shifted h i t r)
      + -(∑ t, A.dprob h i t * (1 / ((∑ t, A.shifted h i t r) * (∑ t, A.shifted h i t r))) * A.shifted h i t r)) * A.shifted h i t r
      = A.ds h i t := by
  have hp := (A.shifted_sum_pos h i r).ne'
  have hsum : ∑ t, A.dprob h i t * (1 / ((∑ t, A.shifted h i t r) * (∑ t, A.shifted h i t r))) * A.shifted h i t r
      = A.corr h i / ∑ t, A.shifted h i t r := by
    unfold corr
    rw [Finset.sum_div]
    refine Finset.sum_congr rfl fun t _ => ?_
    rw [← A.shifted_div h i t r]
    generalize (∑ t, A.shifted h i t r) = Z at *
    field_simp
  rw [hsum, ds, ← A.shifted_div h i t r]
  generalize (∑ t, A.shifted h i t r) = Z at *
  field_simp
  ring

end Inputs

/-- Four arrays hold the numbers of `A`. -/
structure Holds (A : Inputs) (x0 x1 : (⟨3, ![8, 4096, 96]⟩ : Shape).Idx → EReal)
    (x2 x3 : (⟨3, ![8, 4096, 64]⟩ : Shape).Idx → EReal) : Prop where
  q : ∀ h i d, x0 (ValueIdx.ix3 h i d) = (A.q h i d : EReal)
  k : ∀ h i d, x1 (ValueIdx.ix3 h i d) = (A.k h i d : EReal)
  v : ∀ h i d, x2 (ValueIdx.ix3 h i d) = (A.v h i d : EReal)
  g : ∀ h i d, x3 (ValueIdx.ix3 h i d) = (A.g h i d : EReal)

/-! ## The words a program spells these numbers with -/

theorem scale_word : Ideal.ofBits .f32 0x3DD105EC#32 = ((scale : ℝ) : EReal) := by
  unfold scale
  simp [Ideal.ofBits, Ideal.ieee, -EReal.coe_mul]; norm_num

theorem zero_word : Ideal.ofBits .f32 0x00000000#32 = (0 : EReal) := by
  simp [Ideal.ofBits, Ideal.ieee]

theorem one_word : Ideal.ofBits .f32 0x3F800000#32 = ((1 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem bot_word : Ideal.ofBits .f32 0xFF800000#32 = (⊥ : EReal) := by
  simp [Ideal.ofBits, Ideal.ieee]

end Cert.AttnGrad

end
-- ==== Proof.RefValue.lean ====
/-
  THE REFERENCE AT AN INDEX: on arrays holding real numbers, the three results of the reference are the gradients of the
  scaled queries, the keys and the values, laid out as the kernel lays them out.
-/
module

public import proofs.«01_k».proof.Proof.Gen.ReferenceIdeal.Read
public import proofs.«01_k».proof.Proof.Maths
public import Idealize.ShloMosaic.Lib.KernelVsHost
public import Idealize.ShloMosaic.Lib.Pointwise

@[expose] public section

noncomputable section

namespace Cert.AttnGrad

open Idealize.ShloMosaic hiding ix0 ix1 ix2 ix3
open Idealize.ShloMosaic.ValueIdx Idealize.ShloMosaic.TcCoe
open Cert.ReferenceIdeal Cert.ReferenceIdeal.Gen Cert.ReferenceIdeal.Read
open scoped BigOperators

/-! ## The chunk of a position, and the mask -/

/-- The sign of a word. -/
def signWord (x : BitVec 32) : BitVec 32 := if x = 0 then 0 else if x.msb then -1 else 1

/-- The floor of a word over 64, as the host spells it. -/
def hostChunk (x : BitVec 32) : BitVec 32 :=
  if IntOp.andi
      (IntOp.cmpi .ne (signWord x) (signWord 64#32))
      (IntOp.cmpi .ne (IntOp.remsi .host x 64#32) 0#32) = 1#1
  then IntOp.subi (IntOp.divsi .host x 64#32) 1#32 else IntOp.divsi .host x 64#32

theorem hostChunk_eq : ∀ t : Fin 4096, hostChunk (BitVec.ofNat 32 t.val) = BitVec.ofNat 32 (t.val / 64) := by decide +kernel

theorem chunks_le : ∀ a b : Fin 64,
    (IntOp.cmpi .sle (BitVec.ofNat 32 a.val) (BitVec.ofNat 32 b.val) = 1#1) ↔ a.val ≤ b.val := by decide +kernel

theorem chunk_at (t : Fin 4096) : val_main_v4 (F := Ideal) (ix1 t) = BitVec.ofNat 32 (t.val / 64) := by
  rw [← hostChunk_eq]
  rfl

theorem mask_at (i t : Fin 4096) : (val_main_v9 (F := Ideal) (ix2 i t) = 1#1) ↔ Seen i t := by
  rw [val_main_v9_apply, val_main_v7_apply, val_main_v8_apply, val_main_v5_apply, val_main_v6_apply]
  rw [show idx_main_v5 (idx_main_v7 (ix2 i t)) = ix1 t from funext fun a => match a with | ⟨0, _⟩ => rfl,
    show idx_main_v6 (idx_main_v8 (ix2 i t)) = ix1 i from funext fun a => match a with | ⟨0, _⟩ => rfl, chunk_at, chunk_at]
  exact chunks_le ⟨t.val / 64, by omega⟩ ⟨i.val / 64, by omega⟩

/-! ## A row of masked scores -/

/-- An array holds the scores where the key is seen, and the bottom elsewhere. -/
def Masked (A : Inputs) (X : S8x4096x4096.Idx → EReal) : Prop :=
  ∀ h i t, X (ix3 h i t) = if Seen i t then (A.score h i t : EReal) else ⊥

theorem lift_row (h : Fin 8) (i t : Fin 4096) (w : S8x4096x4096.Reduces [2] S8x4096) :
    w.lift (ix2 h i) t = ix3 h i t :=
  funext fun a => Fin.ext (by match a with | ⟨0, _⟩ => rfl | ⟨1, _⟩ => rfl | ⟨2, _⟩ => rfl)

theorem row_max (A : Inputs) (X : S8x4096x4096.Idx → EReal) (hX : Masked A X) (init : S_.Idx → EReal)
    (h0 : init (Shape.Idx.first h_S_) = ⊥) (h : Fin 8) (i : Fin 4096) :
    ∃ r : ℝ, Host.reduce (FloatOps.maximumf (F := Ideal) (φ := .f32)) X init reducesTo_S8x4096x4096_S8x4096_d2 h_S_ (ix2 h i) = (r : EReal) := by
  have w : S8x4096x4096.Reduces [2] S8x4096 := by decide
  rw [Host.reduce_eq_fold_single (FloatOps.maximumf (F := Ideal) (φ := .f32)) X init reducesTo_S8x4096x4096_S8x4096_d2 w h_S_ (ix2 h i), h0]
  refine fold_max_real (ι := Fin 4096) Finset.univ (X ∘ w.lift (ix2 h i)) (fun t _ => ?_) i (Finset.mem_univ i) (A.score h i i) ?_
  · show X (w.lift (ix2 h i) t) = ⊥ ∨ ∃ r : ℝ, X (w.lift (ix2 h i) t) = (r : EReal)
    rw [lift_row, hX]
    split
    · exact Or.inr ⟨_, rfl⟩
    · exact Or.inl rfl
  · show X (w.lift (ix2 h i) i) = _
    rw [lift_row, hX, if_pos (Inputs.seen_self i)]

theorem exp_masked (A : Inputs) (h : Fin 8) (i t : Fin 4096) (r : ℝ) :
    Ideal.exp ((if Seen i t then (A.score h i t : EReal) else ⊥) - (r : EReal)) = ((A.shifted h i t r : ℝ) : EReal) := by
  unfold Inputs.shifted
  split
  · rw [← EReal.coe_sub]; rfl
  · rw [show (⊥ : EReal) - (r : EReal) = ⊥ from EReal.bot_sub _]; rfl

/-- The gradients padded from 96 to 128 lanes a head. -/
theorem pad_at (X : S8x4096x96.Idx → EReal) (z : S_.Idx → EReal) (hz : z (Shape.Idx.first h_S_) = 0) (f : Fin 8 → Fin 4096 → Fin 96 → ℝ)
    (hX : ∀ h i d, X (ix3 h i d) = (f h i d : EReal)) (h : Fin 8) (i : Fin 4096) (d : Fin 128) :
    pad S8x4096x128 ![0, 0, 0] ![0, 0, 32] ![0, 0, 0] X z pads_S8x4096x96_S8x4096x128_000_000_0320 h_S_ (ix3 h i d)
      = if hd : d.val < 96 then ((f h i ⟨d.val, hd⟩ : ℝ) : EReal) else 0 := by
  split
  · next hd =>
    rw [pad_apply_of_inside _ _ _ X z _ h_S_ (ix3 h i d) (ix3 h i ⟨d.val, hd⟩) (fun a => by
      match a with
      | ⟨0, _⟩ => show h.val = 0 + h.val * (0 + 1); omega
      | ⟨1, _⟩ => show i.val = 0 + i.val * (0 + 1); omega
      | ⟨2, _⟩ => show d.val = 0 + d.val * (0 + 1); omega)]
    exact hX _ _ _
  · next hd =>
    rw [pad_apply_of_not_inside _ _ _ X z _ h_S_ (ix3 h i d) 2 (fun ha => hd (by
      have h3 : (d.val - 0) / (0 + 1) < 96 := ha.2.2
      omega))]
    exact hz

theorem int_zero : ((((0#32 : BitVec 32).toInt : ℝ) : EReal)) = 0 := by simp

/-! ## The reference's chain -/

section
variable {A : Inputs} {x0 x1 : (⟨S8x4096x96, .f32⟩ : BufTy).Contents (Elt Ideal)}
  {x2 x3 : (⟨S8x4096x64, .f32⟩ : BufTy).Contents (Elt Ideal)} (H : Holds A x0 x1 x2 x3)
include H

theorem ref_scaled (h : Fin 8) (i : Fin 4096) (d : Fin 96) :
    val_main_v1 (F := Ideal) x0 (ix3 h i d) = ((A.q h i d * scale : ℝ) : EReal) := by
  rw [val_main_v1_apply, val_main_v0_apply, H.q]
  show (A.q h i d : EReal) * Ideal.ofBits .f32 0x3DD105EC#32 = _
  rw [scale_word, ← EReal.coe_mul]

theorem ref_score (h : Fin 8) (i t : Fin 4096) :
    val_main_v2 (F := Ideal) x0 x1 (ix3 h i t) = ((A.score h i t : ℝ) : EReal) := by
  rw [val_main_v2_apply]
  have e : ∀ k : Fin 96, val_main_v1 (F := Ideal) x0 (lidx_main_v2 (ix3 h i t) k) * x1 (ridx_main_v2 (ix3 h i t) k)
      = ((A.q h i k * scale * A.k h t k : ℝ) : EReal) := fun k => by
    rw [show lidx_main_v2 (ix3 h i t) k = ix3 h i k from funext fun a => match a with | ⟨0, _⟩ => rfl | ⟨1, _⟩ => rfl | ⟨2, _⟩ => rfl,
      show ridx_main_v2 (ix3 h i t) k = ix3 h t k from funext fun a => match a with | ⟨0, _⟩ => rfl | ⟨1, _⟩ => rfl | ⟨2, _⟩ => rfl,
      ref_scaled H, H.k, ← EReal.coe_mul]
  rw [Finset.sum_congr rfl fun k _ => e k, ← coe_sum]
  congr 1
  rw [Inputs.score, Finset.sum_mul]
  exact Finset.sum_congr rfl fun k _ => by ring

theorem ref_masked : Masked A (val_main_v10_0 (F := Ideal) x0 x1) := fun h i t => by
  rw [val_main_v10_0_apply, ref_score H, val_main_v10_1_apply]
  rw [show idx_main_v10_1 (ix3 h i t) = ix2 i t from funext fun a => match a with | ⟨0, _⟩ => rfl | ⟨1, _⟩ => rfl]
  show (if val_main_v9 (F := Ideal) (ix2 i t) = 1#1 then _ else Ideal.ofBits .f32 0xFF800000#32) = _
  rw [bot_word]
  exact if_congr (mask_at i t) rfl rfl

/-- The greatest score of a row, a real. -/
theorem ref_max (h : Fin 8) (i : Fin 4096) : ∃ r : ℝ, val_main_v18 (F := Ideal) x0 x1 (ix2 h i) = (r : EReal) := by
  obtain ⟨r, hr⟩ := row_max A _ (ref_masked H) (val_main_cst_1 (F := Ideal)) bot_word h i
  refine ⟨r, ?_⟩
  rw [val_main_v18_apply]
  show max (Ideal.ofBits .f32 0xFF800000#32) (val_main_v11 (F := Ideal) x0 x1 (ix2 h i)) = _
  rw [bot_word, show val_main_v11 (F := Ideal) x0 x1 (ix2 h i) = (r : EReal) from hr]
  exact max_eq_right bot_le

theorem ref_exp {h : Fin 8} {i : Fin 4096} {r : ℝ} (hr : val_main_v18 (F := Ideal) x0 x1 (ix2 h i) = (r : EReal)) (t : Fin 4096) :
    val_main_v31 (F := Ideal) x0 x1 (ix3 h i t) = ((A.shifted h i t r : ℝ) : EReal) := by
  rw [val_main_v31_apply, val_main_v30_apply, val_main_v29_apply, val_main_v28_apply, ref_masked H]
  rw [show idx_main_v28 (idx_main_v29 (ix3 h i t)) = ix2 h i from funext fun a => match a with | ⟨0, _⟩ => rfl | ⟨1, _⟩ => rfl, hr]
  exact exp_masked A h i t r

theorem ref_mass {h : Fin 8} {i : Fin 4096} {r : ℝ} (hr : val_main_v18 (F := Ideal) x0 x1 (ix2 h i) = (r : EReal)) (z : Fin 1) :
    val_main_v33 (F := Ideal) x0 x1 (ix3 h i z) = ((∑ t, A.shifted h i t r : ℝ) : EReal) := by
  rw [val_main_v33_apply, show idx_main_v33 (ix3 h i z) = ix2 h i from funext fun a => match a with | ⟨0, _⟩ => rfl | ⟨1, _⟩ => rfl,
    val_main_v32_apply]
  have e : ∀ k : Fin 4096, val_main_v31 (F := Ideal) x0 x1 (idx_main_v32 (ix2 h i) k) = ((A.shifted h i k r : ℝ) : EReal) := fun k => by
    rw [show idx_main_v32 (ix2 h i) k = ix3 h i k from funext fun a => match a with | ⟨0, _⟩ => rfl | ⟨1, _⟩ => rfl | ⟨2, _⟩ => rfl]
    exact ref_exp H hr k
  rw [Finset.sum_congr rfl fun k _ => e k, ← coe_sum]
  show Ideal.ofBits .f32 0x00000000#32 + _ = _
  rw [zero_word, zero_add]

theorem ref_prob (h : Fin 8) (i t : Fin 4096) : val_main_v35 (F := Ideal) x0 x1 (ix3 h i t) = ((A.prob h i t : ℝ) : EReal) := by
  obtain ⟨r, hr⟩ := ref_max H h i
  rw [val_main_v35_apply, val_main_v34_apply, ref_exp H hr]
  rw [show idx_main_v34 (ix3 h i t) = ix3 h i 0 from funext fun a => match a with | ⟨0, _⟩ => rfl | ⟨1, _⟩ => rfl | ⟨2, _⟩ => rfl,
    ref_mass H hr]
  exact (div_real _ _ (A.shifted_sum_pos h i r).ne').trans (congrArg _ (A.shifted_div h i t r))

theorem ref_dv (h : Fin 8) (t : Fin 4096) (d : Fin 64) :
    val_main_v41 (F := Ideal) x0 x1 x3 (ix3 h t d) = ((A.dv h t d : ℝ) : EReal) := by
  rw [val_main_v41_apply, show idx_main_v41 (ix3 h t d) = ix3 h d t from funext fun a => match a with | ⟨0, _⟩ => rfl | ⟨1, _⟩ => rfl | ⟨2, _⟩ => rfl,
    val_main_v40_apply]
  have e : ∀ k : Fin 4096, x3 (lidx_main_v40 (ix3 h d t) k) * val_main_v35 (F := Ideal) x0 x1 (ridx_main_v40 (ix3 h d t) k)
      = ((A.prob h k t * A.g h k d : ℝ) : EReal) := fun k => by
    rw [show lidx_main_v40 (ix3 h d t) k = ix3 h k d from funext fun a => match a with | ⟨0, _⟩ => rfl | ⟨1, _⟩ => rfl | ⟨2, _⟩ => rfl,
      show ridx_main_v40 (ix3 h d t) k = ix3 h k t from funext fun a => match a with | ⟨0, _⟩ => rfl | ⟨1, _⟩ => rfl | ⟨2, _⟩ => rfl,
      ref_prob H, H.g, ← EReal.coe_mul, mul_comm]
  rw [Finset.sum_congr rfl fun k _ => e k, ← coe_sum]
  rfl

theorem ref_dprob (h : Fin 8) (i t : Fin 4096) :
    val_main_v42 (F := Ideal) x2 x3 (ix3 h i t) = ((A.dprob h i t : ℝ) : EReal) := by
  rw [val_main_v42_apply]
  have e : ∀ k : Fin 64, x3 (lidx_main_v42 (ix3 h i t) k) * x2 (ridx_main_v42 (ix3 h i t) k)
      = ((A.g h i k * A.v h t k : ℝ) : EReal) := fun k => by
    rw [show lidx_main_v42 (ix3 h i t) k = ix3 h i k from funext fun a => match a with | ⟨0, _⟩ => rfl | ⟨1, _⟩ => rfl | ⟨2, _⟩ => rfl,
      show ridx_main_v42 (ix3 h i t) k = ix3 h t k from funext fun a => match a with | ⟨0, _⟩ => rfl | ⟨1, _⟩ => rfl | ⟨2, _⟩ => rfl,
      H.g, H.v, ← EReal.coe_mul]
  rw [Finset.sum_congr rfl fun k _ => e k, ← coe_sum]
  rfl

theorem ref_ds (h : Fin 8) (i t : Fin 4096) :
    val_main_v55 (F := Ideal) x0 x1 x2 x3 (ix3 h i t) = ((A.ds h i t : ℝ) : EReal) := by
  obtain ⟨r, hr⟩ := ref_max H h i
  have hZ := (A.shifted_sum_pos h i r).ne'
  have e45 : ∀ k : Fin 4096, val_main_v45 (F := Ideal) x0 x1 x2 x3 (ix3 h i k)
      = ((A.dprob h i k * (1 / ((∑ t, A.shifted h i t r) * (∑ t, A.shifted h i t r))) * A.shifted h i k r : ℝ) : EReal) := fun k => by
    rw [val_main_v45_apply, val_main_v44_apply, val_main_v43_apply, val_main_v38_apply, val_main_v36_apply, ref_dprob H, ref_exp H hr]
    rw [show idx_main_v43 (ix3 h i k) = ix3 h i 0 from funext fun a => match a with | ⟨0, _⟩ => rfl | ⟨1, _⟩ => rfl | ⟨2, _⟩ => rfl,
      ref_mass H hr]
    show (_ * Ideal.div (Ideal.ofBits .f32 0x3F800000#32) (_ * _)) * _ = _
    rw [one_word, ← EReal.coe_mul, div_real _ _ (mul_ne_zero hZ hZ), ← EReal.coe_mul, ← EReal.coe_mul]
  have e51 : val_main_v51 (F := Ideal) x0 x1 x2 x3 (ix2 h i)
      = ((-(∑ t, A.dprob h i t * (1 / ((∑ t, A.shifted h i t r) * (∑ t, A.shifted h i t r))) * A.shifted h i t r) : ℝ) : EReal) := by
    rw [val_main_v51_apply, Fin.sum_univ_one, val_main_v48_apply, val_main_v47_apply]
    rw [show idx_main_v47 (idx_main_v51 (ix2 h i) 0) = ix2 h i from funext fun a => Fin.ext (by
      match a with
      | ⟨0, _⟩ => show ((h.val * 4096 + i.val) * 1 + 0) / 4096 = h.val; omega
      | ⟨1, _⟩ => show ((h.val * 4096 + i.val) * 1 + 0) % 4096 = i.val; omega), val_main_v46_apply]
    have e : ∀ k : Fin 4096, val_main_v45 (F := Ideal) x0 x1 x2 x3 (idx_main_v46 (ix2 h i) k)
        = ((A.dprob h i k * (1 / ((∑ t, A.shifted h i t r) * (∑ t, A.shifted h i t r))) * A.shifted h i k r : ℝ) : EReal) := fun k => by
      rw [show idx_main_v46 (ix2 h i) k = ix3 h i k from funext fun a => match a with | ⟨0, _⟩ => rfl | ⟨1, _⟩ => rfl | ⟨2, _⟩ => rfl]
      exact e45 k
    rw [Finset.sum_congr rfl fun k _ => e k, ← coe_sum]
    show Ideal.ofBits .f32 0x00000000#32 + -(Ideal.ofBits .f32 0x00000000#32 + _) = _
    rw [zero_word, zero_add, zero_add, ← EReal.coe_neg]
  rw [val_main_v55_apply, val_main_v10_1_apply,
    show idx_main_v10_1 (ix3 h i t) = ix2 i t from funext fun a => match a with | ⟨0, _⟩ => rfl | ⟨1, _⟩ => rfl]
  rw [val_main_v54_apply, val_main_v53_apply, val_main_v50_apply, val_main_v49_apply, val_main_v52_apply, ref_dprob H, ref_exp H hr]
  rw [show idx_main_v49 (ix3 h i t) = ix3 h i 0 from funext fun a => match a with | ⟨0, _⟩ => rfl | ⟨1, _⟩ => rfl | ⟨2, _⟩ => rfl,
    show idx_main_v52 (ix3 h i t) = ix2 h i from funext fun a => match a with | ⟨0, _⟩ => rfl | ⟨1, _⟩ => rfl, ref_mass H hr, e51]
  show (if val_main_v9 (F := Ideal) (ix2 i t) = 1#1 then (Ideal.div _ _ + _) * _ else Ideal.ofBits .f32 0x00000000#32) = _
  rw [div_real _ _ hZ, ← EReal.coe_add, ← EReal.coe_mul, A.ds_eq h i t r, zero_word]
  by_cases hs : Seen i t
  · rw [if_pos ((mask_at i t).2 hs)]
  · rw [if_neg (fun hm => hs ((mask_at i t).1 hm))]
    unfold Inputs.ds Inputs.prob
    rw [if_neg hs, zero_mul, EReal.coe_zero]

theorem ref_dk (h : Fin 8) (t : Fin 4096) (d : Fin 96) :
    val_main_v56 (F := Ideal) x0 x1 x2 x3 (ix3 h t d) = ((A.dk h t d : ℝ) : EReal) := by
  rw [val_main_v56_apply]
  have e : ∀ k : Fin 4096, val_main_v55 (F := Ideal) x0 x1 x2 x3 (lidx_main_v56 (ix3 h t d) k) * val_main_v1 (F := Ideal) x0 (ridx_main_v56 (ix3 h t d) k)
      = ((A.ds h k t * (A.q h k d * scale) : ℝ) : EReal) := fun k => by
    rw [show lidx_main_v56 (ix3 h t d) k = ix3 h k t from funext fun a => match a with | ⟨0, _⟩ => rfl | ⟨1, _⟩ => rfl | ⟨2, _⟩ => rfl,
      show ridx_main_v56 (ix3 h t d) k = ix3 h k d from funext fun a => match a with | ⟨0, _⟩ => rfl | ⟨1, _⟩ => rfl | ⟨2, _⟩ => rfl,
      ref_ds H, ref_scaled H, ← EReal.coe_mul]
  rw [Finset.sum_congr rfl fun k _ => e k, ← coe_sum]
  rfl

theorem ref_dq (h : Fin 8) (i : Fin 4096) (d : Fin 96) :
    val_main_v57 (F := Ideal) x0 x1 x2 x3 (ix3 h i d) = ((A.dq h i d : ℝ) : EReal) := by
  rw [val_main_v57_apply]
  have e : ∀ k : Fin 4096, val_main_v55 (F := Ideal) x0 x1 x2 x3 (lidx_main_v57 (ix3 h i d) k) * x1 (ridx_main_v57 (ix3 h i d) k)
      = ((A.ds h i k * A.k h k d : ℝ) : EReal) := fun k => by
    rw [show lidx_main_v57 (ix3 h i d) k = ix3 h i k from funext fun a => match a with | ⟨0, _⟩ => rfl | ⟨1, _⟩ => rfl | ⟨2, _⟩ => rfl,
      show ridx_main_v57 (ix3 h i d) k = ix3 h k d from funext fun a => match a with | ⟨0, _⟩ => rfl | ⟨1, _⟩ => rfl | ⟨2, _⟩ => rfl,
      ref_ds H, H.k, ← EReal.coe_mul]
  rw [Finset.sum_congr rfl fun k _ => e k, ← coe_sum]
  rfl

/-! ## The three results, laid out -/

theorem ref_v61 (i : Fin 16) (n : Fin 1024) (l : Fin 256) :
    val_main_v61 (F := Ideal) x0 x1 x2 x3 (ix3 i n l)
      = if hd : n.val % 128 < 96 then ((A.dq ⟨n.val / 128, by omega⟩ ⟨i.val * 256 + l.val, by omega⟩ ⟨n.val % 128, hd⟩ : ℝ) : EReal) else 0 := by
  rw [val_main_v61_apply, val_main_v60_apply, val_main_v59_apply]
  rw [show idx_main_v59 (idx_main_v60 (idx_main_v61 (ix3 i n l)))
      = ix3 (⟨n.val / 128, by omega⟩ : Fin 8) (⟨i.val * 256 + l.val, by omega⟩ : Fin 4096) (⟨n.val % 128, by omega⟩ : Fin 128) from
    funext fun a => Fin.ext (by
      match a with
      | ⟨0, _⟩ => show ((n.val * 16 + i.val) * 256 + l.val) / 524288 = n.val / 128; omega
      | ⟨1, _⟩ => show ((n.val * 16 + i.val) * 256 + l.val) % 4096 = i.val * 256 + l.val; omega
      | ⟨2, _⟩ => show ((n.val * 16 + i.val) * 256 + l.val) / 4096 % 128 = n.val % 128; omega)]
  exact pad_at _ _ int_zero A.dq (ref_dq H) _ _ _

theorem ref_v65 (t : Fin 4096) (n : Fin 1024) :
    val_main_v65 (F := Ideal) x0 x1 x2 x3 (ix2 t n)
      = if hd : n.val % 128 < 96 then ((A.dk ⟨n.val / 128, by omega⟩ t ⟨n.val % 128, hd⟩ : ℝ) : EReal) else 0 := by
  rw [val_main_v65_apply, val_main_v64_apply, val_main_v63_apply]
  rw [show idx_main_v63 (idx_main_v64 (ix2 t n))
      = ix3 (⟨n.val / 128, by omega⟩ : Fin 8) t (⟨n.val % 128, by omega⟩ : Fin 128) from
    funext fun a => Fin.ext (by
      match a with
      | ⟨0, _⟩ => show (t.val * 1024 + n.val) / 128 % 8 = n.val / 128; omega
      | ⟨1, _⟩ => show (t.val * 1024 + n.val) / 1024 = t.val; omega
      | ⟨2, _⟩ => show (t.val * 1024 + n.val) % 128 = n.val % 128; omega)]
  exact pad_at _ _ int_zero A.dk (ref_dk H) _ _ _

theorem ref_v68 (t : Fin 4096) (n : Fin 512) :
    val_main_v68 (F := Ideal) x0 x1 x3 (ix2 t n) = ((A.dv ⟨n.val / 64, by omega⟩ t ⟨n.val % 64, by omega⟩ : ℝ) : EReal) := by
  rw [val_main_v68_apply, val_main_v67_apply, val_main_v66_apply]
  rw [show idx_main_v66 (idx_main_v67 (ix2 t n))
      = ix3 (⟨n.val / 64, by omega⟩ : Fin 8) t (⟨n.val % 64, by omega⟩ : Fin 64) from
    funext fun a => Fin.ext (by
      match a with
      | ⟨0, _⟩ => show (t.val * 512 + n.val) / 64 % 8 = n.val / 64; omega
      | ⟨1, _⟩ => show (t.val * 512 + n.val) / 512 = t.val; omega
      | ⟨2, _⟩ => show (t.val * 512 + n.val) % 64 = n.val % 64; omega)]
  exact ref_dv H _ _ _

end

end Cert.AttnGrad

end
-- ==== Proof.Blocks.lean ====
/-
  WHAT ONE STEP OF THE ATTENTION GRADIENT COMPUTES, as sums over the coordinates of the blocks a grid point works on.

  A grid point (p, j) holds the heads 4p … 4p+3 and the keys 256j … 256j+255 (`k`, `kt`, `v`), and every query of these
  heads (`q`, `g`, `lse`, `dl`). A step takes the queries 256i … 256i+255: for each head it recomputes the probabilities
  `prob` (keys by queries) out of the stored log-sums, forms the gradient `ds` of the scores, and adds one product to each
  of the three accumulators: `dvTerm`, `dkTerm`, `dqTerm`. On the diagonal (i = j) the probabilities are masked by chunks
  of 64 positions.
-/
module

public import proofs.«01_k».proof.KernelIdeal
public import Idealize.ShloMosaic.Lib.ValueIdxCore
public import Idealize.ShloMosaic.PureOps.Ideal.Laws

@[expose] public section

noncomputable section

namespace Cert.KernelIdeal.AttnGrad

open Idealize.ShloMosaic Idealize.ShloMosaic.ValueIdx
open scoped BigOperators

/-! ## The coordinates -/

/-- Lane `c` of head `h` among the four heads' 512 columns. -/
def col (h : Fin 4) (c : Fin 128) : Fin 512 := ⟨128 * h.val + c.val, by omega⟩
/-- Row `r` of tile `i` among the 4096 positions. -/
def row (i : Fin 16) (r : Fin 256) : Fin 4096 := ⟨256 * i.val + r.val, by omega⟩
/-- Lane `c` of the pair of heads that head `h` belongs to, among the 256 columns of two pairs. -/
def lane (h : Fin 4) (c : Fin 128) : Fin 256 := ⟨128 * (h.val / 2) + c.val, by omega⟩
/-- The row that carries head `h`'s row statistics (eight equal rows a head). -/
def stat (h : Fin 4) : Fin 32 := ⟨8 * h.val, by omega⟩
/-- The tile of a number below sixteen. -/
def tile (n : ℕ) : Fin 16 := ⟨n % 16, Nat.mod_lt _ (by decide)⟩

theorem eq_col (k : Fin 512) : k = col ⟨k.val / 128, by omega⟩ ⟨k.val % 128, by omega⟩ :=
  Fin.ext (by simp only [col]; omega)

/-! ## The terms -/

/-- The blocks a grid point works on. `v h` is head `h`'s values with the other head's lanes at zero. -/
structure Blocks where
  q : S4096x512.Idx → EReal
  k : S256x512.Idx → EReal
  v : Fin 4 → S256x128.Idx → EReal
  kt : S512x256.Idx → EReal
  g : S4096x256.Idx → EReal
  lse : S16x32x256.Idx → EReal
  dl : S16x32x256.Idx → EReal

variable (B : Blocks)

/-- The probability of key `t` for query `r` of tile `i`; `m` says whether the chunk mask is applied. -/
def Blocks.prob (m : Bool) (h : Fin 4) (i : Fin 16) (t r : Fin 256) : EReal :=
  if m = true ∧ ¬(t.val / 64 ≤ r.val / 64) then 0
  else Ideal.exp2 ((∑ c : Fin 128, B.k (ix2 t (col h c)) * B.q (ix2 (row i r) (col h c))) - B.lse (ix3 i (stat h) r))

/-- The gradient of that probability. -/
def Blocks.dprob (h : Fin 4) (i : Fin 16) (t r : Fin 256) : EReal :=
  ∑ c : Fin 128, B.v h (ix2 t c) * B.g (ix2 (row i r) (lane h c))

/-- The gradient of the score. -/
def Blocks.ds (m : Bool) (h : Fin 4) (i : Fin 16) (t r : Fin 256) : EReal :=
  B.prob m h i t r * (B.dprob h i t r - B.dl (ix3 i (stat h) r))

/-- What tile `i` adds to the gradient of the values of head `h`'s pair. -/
def Blocks.dvTerm (m : Bool) (h : Fin 4) (i : Fin 16) (t : Fin 256) (c : Fin 128) : EReal :=
  ∑ r : Fin 256, B.prob m h i t r * B.g (ix2 (row i r) (lane h c))

/-- What tile `i` adds to the gradient of the keys. -/
def Blocks.dkTerm (m : Bool) (h : Fin 4) (i : Fin 16) (t : Fin 256) (c : Fin 128) : EReal :=
  ∑ r : Fin 256, B.ds m h i t r * B.q (ix2 (row i r) (col h c))

/-- What these keys add to the gradient of tile `i`'s queries. -/
def Blocks.dqTerm (m : Bool) (h : Fin 4) (i : Fin 16) (c : Fin 128) (r : Fin 256) : EReal :=
  ∑ t : Fin 256, B.kt (ix2 (col h c) t) * B.ds m h i t r

end Cert.KernelIdeal.AttnGrad

end
-- ==== Proof.Reads.lean ====
/-
  THE KERNEL'S VECTOR OPERATIONS READ AT AN ENTRY, at the shapes of its blocks: slices, casts, the broadcast of a row, the
  three matrix products (each onto a zero accumulator), and the stores of four slabs read back.
-/
module

public import proofs.«01_k».proof.Proof.Blocks
public import proofs.«01_k».proof.Proof.Gen.KernelIdeal
public import Idealize.ShloMosaic.Lib.Pipeline.Value
public import Idealize.ShloMosaic.Lib.Pipeline.Frame
public import Idealize.ShloMosaic.Lib.MatmulPlain
public import Idealize.ShloMosaic.Lib.ValueIdx
public import Idealize.ShloMosaic.Lib.WritesUnit
public import Idealize.ShloMosaic.Lib.Pipeline.ValueKit.Tiles

@[expose] public section

noncomputable section

namespace Cert.KernelIdeal.AttnGrad

open Idealize.ShloMosaic Idealize.ShloMosaic.ValueIdx Idealize.ShloMosaic.TcCoe
open scoped BigOperators

/-- The word of zero. -/
theorem zero_word : Ideal.ofBits .f32 0x00000000#32 = 0 := by simp [Ideal.ofBits, Ideal.ieee]

/-! ## The matrix products -/

section Products
variable {φ ψ : FTy}

theorem matmul_scores (a : FVec Ideal S256x128 φ) (b : FVec Ideal S256x128 ψ) (t r : Fin 256) :
    matmul dot_S256x128_S256x128_S256x256_1_1_0_0_n_n none a b (constant S256x256 .f32 0x00000000#32) (ix2 t r)
      = ∑ c : Fin 128, a (ix2 t c) * b (ix2 r c) := by
  refine (Ideal.matmul_transposedRhs_apply (M := 256) (K := 128) (N := 256) none a b _ t r).trans ?_
  rw [constant_apply, zero_word, zero_add]

theorem matmul_rows (a : FVec Ideal S256x256 φ) (b : FVec Ideal S256x128 ψ) (t : Fin 256) (c : Fin 128) :
    matmul dot_S256x256_S256x128_S256x128_1_0_0_1_n_n none a b (constant S256x128 .f32 0x00000000#32) (ix2 t c)
      = ∑ r : Fin 256, a (ix2 t r) * b (ix2 r c) := by
  refine (Ideal.matmul_plain_apply (M := 256) (K := 256) (N := 128) none a b _ t c).trans ?_
  rw [constant_apply, zero_word, zero_add]

theorem matmul_cols (a : FVec Ideal S128x256 φ) (b : FVec Ideal S256x256 ψ) (c : Fin 128) (r : Fin 256) :
    matmul dot_S128x256_S256x256_S128x256_1_0_0_1_n_n none a b (constant S128x256 .f32 0x00000000#32) (ix2 c r)
      = ∑ t : Fin 256, a (ix2 c t) * b (ix2 t r) := by
  refine (Ideal.matmul_plain_apply (M := 128) (K := 256) (N := 256) none a b _ c r).trans ?_
  rw [constant_apply, zero_word, zero_add]

end Products

/-! ## Layout -/

section Layout
variable {α : Type}

theorem slice_cols (n : ℕ) (o : ℕ) (x : (⟨2, ![256, n]⟩ : Shape).Idx → α)
    (hs : (⟨2, ![256, n]⟩ : Shape).Slices ![0, o] S256x128) (t : Fin 256) (c : Fin 128) (k : Fin n) (hk : k.val = o + c.val) :
    extractStridedSlice S256x128 ![0, o] x hs (ix2 t c) = x (ix2 t k) :=
  extractStridedSlice_apply _ _ _ _ _ fun a => match a with
    | ⟨0, _⟩ => (Nat.zero_add _).symm
    | ⟨1, _⟩ => hk

theorem slice_rows (o : ℕ) (x : S512x256.Idx → α) (hs : S512x256.Slices ![o, 0] S128x256) (c : Fin 128) (t : Fin 256)
    (k : Fin 512) (hk : k.val = o + c.val) :
    extractStridedSlice S128x256 ![o, 0] x hs (ix2 c t) = x (ix2 k t) :=
  extractStridedSlice_apply _ _ _ _ _ fun a => match a with
    | ⟨0, _⟩ => hk
    | ⟨1, _⟩ => (Nat.zero_add _).symm

/-- One row of the statistics, repeated down a block. -/
theorem stat_row (o : ℕ) (x : S32x256.Idx → α) (hs : S32x256.Slices ![o, 0] S1x256) (hb : S1x256.Broadcasts S256x256)
    (t r : Fin 256) (k : Fin 32) (hk : k.val = o) :
    broadcastTo S256x256 (extractStridedSlice S1x256 ![o, 0] x hs) hb (ix2 t r) = x (ix2 k r) := by
  rw [broadcastTo_apply _ hb (ix2 t r) (ix2 (0 : Fin 1) r) fun a => match a with
    | ⟨0, _⟩ => rfl
    | ⟨1, _⟩ => rfl]
  exact extractStridedSlice_apply _ _ _ _ _ fun a => match a with
    | ⟨0, _⟩ => by show k.val = o + 0; omega
    | ⟨1, _⟩ => (Nat.zero_add _).symm

theorem drop_unit (m n : ℕ) (x : (⟨3, ![1, m, n]⟩ : Shape).Idx → α)
    (h : (⟨3, ![1, m, n]⟩ : Shape).ShapeCasts ⟨2, ![m, n]⟩) (a : Fin m) (b : Fin n) :
    shapeCast ⟨2, ![m, n]⟩ x h (ix2 a b) = x (ix3 (0 : Fin 1) a b) :=
  shapeCast_apply _ _ _ _ (by
    rw [Shape.rowMajor_val_three, Shape.rowMajor_val_two]
    show (0 * m + a.val) * n + b.val = a.val * n + b.val
    rw [Nat.zero_mul, Nat.zero_add])

theorem add_unit (m n : ℕ) (x : (⟨2, ![m, n]⟩ : Shape).Idx → α)
    (h : (⟨2, ![m, n]⟩ : Shape).ShapeCasts ⟨3, ![1, m, n]⟩) (a : Fin m) (b : Fin n) :
    shapeCast ⟨3, ![1, m, n]⟩ x h (ix3 (0 : Fin 1) a b) = x (ix2 a b) :=
  shapeCast_apply _ _ _ _ (by
    rw [Shape.rowMajor_val_three, Shape.rowMajor_val_two]
    show a.val * n + b.val = (0 * m + a.val) * n + b.val
    rw [Nat.zero_mul, Nat.zero_add])

end Layout

/-! ## Loads and stores -/

section Stores
variable {sig : RefSig} {κ : Kind} {sp : Space} {e : EltTy} {Val : EltTy → Type}

/-- A load of rows `o …` of a block, at an entry. -/
theorem load_rows (m n : ℕ) (size : Fin 2 → ℕ) (v : View sig κ sp ⟨2, ![m, n]⟩ e) (f : v.ty.Contents Val) (off : Fin 2 → ℕ)
    (o p : ℕ) (inb) (ho : off = ![o, p]) (x : (Rect.unit (s := ⟨2, ![m, n]⟩) off size inb).shape.Idx) (k : Fin m) (l : Fin n)
    (hk : k.val = o + (x 0).val) (hl : l.val = p + (x 1).val) :
    v.readAt Val (Rect.unit (s := ⟨2, ![m, n]⟩) off size inb).toLoadRect f x = v.read Val f (ix2 k l) := by
  subst ho
  exact View.ld_unit_apply_of _ _ _ inb x (ix2 k l) fun a => match a with
    | ⟨0, _⟩ => hk
    | ⟨1, _⟩ => hl

/-- A load of part of a stack of blocks, at an entry. -/
theorem load_stack (m n q : ℕ) (size : Fin 3 → ℕ) (v : View sig κ sp ⟨3, ![m, n, q]⟩ e) (f : v.ty.Contents Val)
    (off : Fin 3 → ℕ) (o p : ℕ) (inb) (ho : off = ![o, p, 0])
    (x : (Rect.unit (s := ⟨3, ![m, n, q]⟩) off size inb).shape.Idx) (k : Fin m) (l : Fin n) (c : Fin q)
    (hk : k.val = o + (x 0).val) (hl : l.val = p + (x 1).val) (hc : c.val = (x 2).val) :
    v.readAt Val (Rect.unit (s := ⟨3, ![m, n, q]⟩) off size inb).toLoadRect f x = v.read Val f (ix3 k l c) := by
  subst ho
  exact View.ld_unit_apply_of _ _ _ inb x (ix3 k l c) fun a => match a with
    | ⟨0, _⟩ => hk
    | ⟨1, _⟩ => hl
    | ⟨2, _⟩ => by show c.val = 0 + (x 2).val; omega

/-- A block of rows loaded and cast to its own shape. -/
theorem load_rows_cast (m n k : ℕ) (v : View sig κ sp ⟨2, ![m, n]⟩ e) (f : v.ty.Contents Val) (off : Fin 2 → ℕ) (o : ℕ)
    (inb) (ho : off = ![o, 0]) (hs) (r : Fin k) (c : Fin n) (a : Fin m) (ha : a.val = o + r.val) :
    shapeCast ⟨2, ![k, n]⟩ (v.readAt Val (Rect.unit (s := ⟨2, ![m, n]⟩) off ![k, n] inb).toLoadRect f) hs (ix2 r c)
      = v.read Val f (ix2 a c) :=
  (congrFun (shapeCast_self _ _) _).trans (load_rows m n ![k, n] v f off o 0 inb ho (ix2 r c) a c ha (Nat.zero_add _).symm)

/-- One block of a stack loaded without its unit axis. -/
theorem load_slab_cast (m n q l : ℕ) (v : View sig κ sp ⟨3, ![m, n, q]⟩ e) (f : v.ty.Contents Val) (off : Fin 3 → ℕ) (o p : ℕ)
    (inb) (ho : off = ![o, p, 0]) (hs) (r : Fin l) (c : Fin q) (a : Fin m) (b : Fin n) (ha : a.val = o)
    (hb : b.val = p + r.val) :
    shapeCast ⟨2, ![l, q]⟩ (v.readAt Val (Rect.unit (s := ⟨3, ![m, n, q]⟩) off ![1, l, q] inb).toLoadRect f) hs (ix2 r c)
      = v.read Val f (ix3 a b c) :=
  (drop_unit l q _ _ r c).trans
    (load_stack m n q ![1, l, q] v f off o p inb ho (ix3 (0 : Fin 1) r c) a b c ha hb rfl)

/-- Four stores, one a head, into the stack of four blocks. -/
theorem read_heads (v : View sig κ sp S4x256x128 e) (f : v.ty.Contents Val) (i0 i1 i2 i3)
    (w0 w1 w2 w3 : S1x256x128.Idx → Val e) (h : Fin 4) (t : Fin 256) (c : Fin 128) (G : Fin 4 → Val e)
    (g0 : w0 (ix3 (0 : Fin 1) t c) = G 0) (g1 : w1 (ix3 (0 : Fin 1) t c) = G 1) (g2 : w2 (ix3 (0 : Fin 1) t c) = G 2)
    (g3 : w3 (ix3 (0 : Fin 1) t c) = G 3) :
    v.read Val (v.writes Val f [⟨Rect.unit (s := S4x256x128) ![3, 0, 0] S1x256x128.size i3, w3⟩,
        ⟨Rect.unit (s := S4x256x128) ![2, 0, 0] S1x256x128.size i2, w2⟩,
        ⟨Rect.unit (s := S4x256x128) ![1, 0, 0] S1x256x128.size i1, w1⟩,
        ⟨Rect.unit (s := S4x256x128) ![0, 0, 0] S1x256x128.size i0, w0⟩]) (ix3 h t c)
      = G h := by
  have hx : ∀ (n : ℕ), h.val = n → ∀ a : Fin 3, ((ix3 h t c : S4x256x128.Idx) a).val
      = (![n, 0, 0] : Fin 3 → ℕ) a + ((ix3 (0 : Fin 1) t c : S1x256x128.Idx) a).val := fun n hn a => match a with
    | ⟨0, _⟩ => hn
    | ⟨1, _⟩ => (Nat.zero_add _).symm
    | ⟨2, _⟩ => (Nat.zero_add _).symm
  match h, hx with
  | ⟨3, _⟩, hx => exact (View.read_writes_cons_unit_of_mem v f _ _ _ _ (ix3 (0 : Fin 1) t c) rfl (hx 3 rfl)).trans g3
  | ⟨2, _⟩, hx =>
    rw [View.read_writes_cons_unit_of_not_mem v f i3 _ _ _ rfl (0 : Fin 3) (Or.inl (Nat.le_of_ble_eq_true rfl))]
    exact (View.read_writes_cons_unit_of_mem v f _ _ _ _ (ix3 (0 : Fin 1) t c) rfl (hx 2 rfl)).trans g2
  | ⟨1, _⟩, hx =>
    rw [View.read_writes_cons_unit_of_not_mem v f i3 _ _ _ rfl (0 : Fin 3) (Or.inl (Nat.le_of_ble_eq_true rfl)),
      View.read_writes_cons_unit_of_not_mem v f i2 _ _ _ rfl (0 : Fin 3) (Or.inl (Nat.le_of_ble_eq_true rfl))]
    exact (View.read_writes_cons_unit_of_mem v f _ _ _ _ (ix3 (0 : Fin 1) t c) rfl (hx 1 rfl)).trans g1
  | ⟨0, _⟩, hx =>
    rw [View.read_writes_cons_unit_of_not_mem v f i3 _ _ _ rfl (0 : Fin 3) (Or.inl (Nat.le_of_ble_eq_true rfl)),
      View.read_writes_cons_unit_of_not_mem v f i2 _ _ _ rfl (0 : Fin 3) (Or.inl (Nat.le_of_ble_eq_true rfl)),
      View.read_writes_cons_unit_of_not_mem v f i1 _ _ _ rfl (0 : Fin 3) (Or.inl (Nat.le_of_ble_eq_true rfl))]
    exact (View.read_writes_cons_unit_of_mem v f _ _ _ _ (ix3 (0 : Fin 1) t c) rfl (hx 0 rfl)).trans g0

/-- Four stores, one a head, side by side. -/
theorem read_cols (v : View sig κ sp S256x512 e) (f : v.ty.Contents Val) (i0 i1 i2 i3)
    (w0 w1 w2 w3 : S256x128.Idx → Val e) (h : Fin 4) (t : Fin 256) (c : Fin 128) (G : Fin 4 → Val e)
    (g0 : w0 (ix2 t c) = G 0) (g1 : w1 (ix2 t c) = G 1) (g2 : w2 (ix2 t c) = G 2) (g3 : w3 (ix2 t c) = G 3) :
    v.read Val (v.writes Val f [⟨Rect.unit (s := S256x512) ![0, 384] S256x128.size i3, w3⟩,
        ⟨Rect.unit (s := S256x512) ![0, 256] S256x128.size i2, w2⟩,
        ⟨Rect.unit (s := S256x512) ![0, 128] S256x128.size i1, w1⟩,
        ⟨Rect.unit (s := S256x512) ![0, 0] S256x128.size i0, w0⟩]) (ix2 t (col h c))
      = G h := by
  have hx : ∀ (n : ℕ), 128 * h.val = n → ∀ a : Fin 2, ((ix2 t (col h c) : S256x512.Idx) a).val
      = (![0, n] : Fin 2 → ℕ) a + ((ix2 t c : S256x128.Idx) a).val := fun n hn a => match a with
    | ⟨0, _⟩ => (Nat.zero_add _).symm
    | ⟨1, _⟩ => by show 128 * h.val + c.val = n + c.val; omega
  have hlt : ∀ (n : ℕ), 128 * h.val + 128 ≤ n → ((ix2 t (col h c) : S256x512.Idx) (1 : Fin 2)).val < n := fun n hn => by
    show 128 * h.val + c.val < n
    omega
  match h, hx, hlt with
  | ⟨3, _⟩, hx, _ => exact (View.read_writes_cons_unit_of_mem v f _ _ _ _ (ix2 t c) rfl (hx 384 rfl)).trans g3
  | ⟨2, _⟩, hx, hlt =>
    rw [View.read_writes_cons_unit_of_not_mem v f i3 _ _ _ rfl (1 : Fin 2) (Or.inl (hlt 384 (Nat.le_of_ble_eq_true rfl)))]
    exact (View.read_writes_cons_unit_of_mem v f _ _ _ _ (ix2 t c) rfl (hx 256 rfl)).trans g2
  | ⟨1, _⟩, hx, hlt =>
    rw [View.read_writes_cons_unit_of_not_mem v f i3 _ _ _ rfl (1 : Fin 2) (Or.inl (hlt 384 (Nat.le_of_ble_eq_true rfl))),
      View.read_writes_cons_unit_of_not_mem v f i2 _ _ _ rfl (1 : Fin 2) (Or.inl (hlt 256 (Nat.le_of_ble_eq_true rfl)))]
    exact (View.read_writes_cons_unit_of_mem v f _ _ _ _ (ix2 t c) rfl (hx 128 rfl)).trans g1
  | ⟨0, _⟩, hx, hlt =>
    rw [View.read_writes_cons_unit_of_not_mem v f i3 _ _ _ rfl (1 : Fin 2) (Or.inl (hlt 384 (Nat.le_of_ble_eq_true rfl))),
      View.read_writes_cons_unit_of_not_mem v f i2 _ _ _ rfl (1 : Fin 2) (Or.inl (hlt 256 (Nat.le_of_ble_eq_true rfl))),
      View.read_writes_cons_unit_of_not_mem v f i1 _ _ _ rfl (1 : Fin 2) (Or.inl (hlt 128 (Nat.le_of_ble_eq_true rfl)))]
    exact (View.read_writes_cons_unit_of_mem v f _ _ _ _ (ix2 t c) rfl (hx 0 rfl)).trans g0

/-- Four stores, one a head, into slab `a` of the gradient of the queries. -/
theorem read_slab (v : View sig κ sp S16x512x256 e) (f : v.ty.Contents Val) (L : List (View.Piece Val S16x512x256 e))
    (o0 o1 o2 o3 : Fin 3 → ℕ) (i0 i1 i2 i3) (a : Fin 16)
    (h0 : o0 = ![a.val, 0, 0]) (h1 : o1 = ![a.val, 128, 0]) (h2 : o2 = ![a.val, 256, 0]) (h3 : o3 = ![a.val, 384, 0])
    (w0 w1 w2 w3 : S1x128x256.Idx → Val e) (b : Fin 16) (h : Fin 4) (c : Fin 128) (r : Fin 256) (G : Fin 4 → Val e)
    (g0 : w0 (ix3 (0 : Fin 1) c r) = G 0) (g1 : w1 (ix3 (0 : Fin 1) c r) = G 1) (g2 : w2 (ix3 (0 : Fin 1) c r) = G 2)
    (g3 : w3 (ix3 (0 : Fin 1) c r) = G 3) :
    v.read Val (v.writes Val f (⟨Rect.unit (s := S16x512x256) o3 S1x128x256.size i3, w3⟩
        :: ⟨Rect.unit (s := S16x512x256) o2 S1x128x256.size i2, w2⟩
        :: ⟨Rect.unit (s := S16x512x256) o1 S1x128x256.size i1, w1⟩
        :: ⟨Rect.unit (s := S16x512x256) o0 S1x128x256.size i0, w0⟩ :: L)) (ix3 b (col h c) r)
      = if b = a then G h else v.read Val (v.writes Val f L) (ix3 b (col h c) r) := by
  by_cases hb : b = a
  · subst hb
    rw [if_pos rfl]
    have hx : ∀ (n : ℕ), 128 * h.val = n → ∀ d : Fin 3, ((ix3 b (col h c) r : S16x512x256.Idx) d).val
        = (![b.val, n, 0] : Fin 3 → ℕ) d + ((ix3 (0 : Fin 1) c r : S1x128x256.Idx) d).val := fun n hn d => match d with
      | ⟨0, _⟩ => rfl
      | ⟨1, _⟩ => by show 128 * h.val + c.val = n + c.val; omega
      | ⟨2, _⟩ => (Nat.zero_add _).symm
    have hlt : ∀ (n : ℕ), 128 * h.val + 128 ≤ n → ((ix3 b (col h c) r : S16x512x256.Idx) (1 : Fin 3)).val < n := fun n hn => by
      show 128 * h.val + c.val < n
      omega
    match h, hx, hlt with
    | ⟨3, _⟩, hx, _ => exact (View.read_writes_cons_unit_of_mem v f _ _ _ _ (ix3 (0 : Fin 1) c r) h3 (hx 384 rfl)).trans g3
    | ⟨2, _⟩, hx, hlt =>
      rw [View.read_writes_cons_unit_of_not_mem v f i3 _ _ _ h3 (1 : Fin 3) (Or.inl (hlt 384 (Nat.le_of_ble_eq_true rfl)))]
      exact (View.read_writes_cons_unit_of_mem v f _ _ _ _ (ix3 (0 : Fin 1) c r) h2 (hx 256 rfl)).trans g2
    | ⟨1, _⟩, hx, hlt =>
      rw [View.read_writes_cons_unit_of_not_mem v f i3 _ _ _ h3 (1 : Fin 3) (Or.inl (hlt 384 (Nat.le_of_ble_eq_true rfl))),
        View.read_writes_cons_unit_of_not_mem v f i2 _ _ _ h2 (1 : Fin 3) (Or.inl (hlt 256 (Nat.le_of_ble_eq_true rfl)))]
      exact (View.read_writes_cons_unit_of_mem v f _ _ _ _ (ix3 (0 : Fin 1) c r) h1 (hx 128 rfl)).trans g1
    | ⟨0, _⟩, hx, hlt =>
      rw [View.read_writes_cons_unit_of_not_mem v f i3 _ _ _ h3 (1 : Fin 3) (Or.inl (hlt 384 (Nat.le_of_ble_eq_true rfl))),
        View.read_writes_cons_unit_of_not_mem v f i2 _ _ _ h2 (1 : Fin 3) (Or.inl (hlt 256 (Nat.le_of_ble_eq_true rfl))),
        View.read_writes_cons_unit_of_not_mem v f i1 _ _ _ h1 (1 : Fin 3) (Or.inl (hlt 128 (Nat.le_of_ble_eq_true rfl)))]
      exact (View.read_writes_cons_unit_of_mem v f _ _ _ _ (ix3 (0 : Fin 1) c r) h0 (hx 0 rfl)).trans g0
  · rw [if_neg hb]
    have hne : ∀ n : ℕ, ((ix3 b (col h c) r : S16x512x256.Idx) (0 : Fin 3)).val < (![a.val, n, 0] : Fin 3 → ℕ) (0 : Fin 3)
        ∨ (![a.val, n, 0] : Fin 3 → ℕ) (0 : Fin 3) + S1x128x256.size (0 : Fin 3)
          ≤ ((ix3 b (col h c) r : S16x512x256.Idx) (0 : Fin 3)).val := fun n => by
      have : b.val ≠ a.val := fun e => hb (Fin.ext e)
      show b.val < a.val ∨ a.val + 1 ≤ b.val
      omega
    rw [View.read_writes_cons_unit_of_not_mem v f i3 _ _ _ h3 (0 : Fin 3) (hne _),
      View.read_writes_cons_unit_of_not_mem v f i2 _ _ _ h2 (0 : Fin 3) (hne _),
      View.read_writes_cons_unit_of_not_mem v f i1 _ _ _ h1 (0 : Fin 3) (hne _),
      View.read_writes_cons_unit_of_not_mem v f i0 _ _ _ h0 (0 : Fin 3) (hne _)]

end Stores

/-! ## One head's step, as the kernel spells it -/

section Step
variable (B : Blocks)

/-- The probabilities, before any mask. -/
theorem prob_vec (h : Fin 4) (i : Fin 16) (o o8 : ℕ) (ho : o = 128 * h.val) (h8 : o8 = 8 * h.val)
    (kb qb : FVec Ideal S256x512 .bf16) (ls : FVec Ideal S32x256 .f32) (hk : ∀ t c, kb (ix2 t c) = B.k (ix2 t c))
    (hq : ∀ r c, qb (ix2 r c) = B.q (ix2 (row i r) c)) (hl : ∀ a r, ls (ix2 a r) = B.lse (ix3 i a r)) (s1 s2 s3 s4)
    (t r : Fin 256) :
    exp2 (subf (matmul dot_S256x128_S256x128_S256x256_1_1_0_0_n_n none (extractStridedSlice S256x128 ![0, o] kb s1)
        (extractStridedSlice S256x128 ![0, o] qb s2) (constant S256x256 .f32 0x00000000#32))
      (broadcastTo S256x256 (extractStridedSlice S1x256 ![o8, 0] ls s3) s4)) (ix2 t r)
      = Ideal.exp2 ((∑ c : Fin 128, B.k (ix2 t (col h c)) * B.q (ix2 (row i r) (col h c))) - B.lse (ix3 i (stat h) r)) := by
  show Ideal.exp2 (_ - _) = _
  rw [matmul_scores, stat_row o8 ls s3 s4 t r (stat h) h8.symm, hl]
  refine congrArg Ideal.exp2 (congrArg (· - _) (Finset.sum_congr rfl fun c _ => ?_))
  rw [slice_cols 512 o kb s1 t c (col h c) (by simp only [col]; omega), slice_cols 512 o qb s2 r c (col h c) (by simp only [col]; omega),
    hk, hq]

theorem Blocks.prob_false (h : Fin 4) (i : Fin 16) (t r : Fin 256) :
    B.prob false h i t r
      = Ideal.exp2 ((∑ c : Fin 128, B.k (ix2 t (col h c)) * B.q (ix2 (row i r) (col h c))) - B.lse (ix3 i (stat h) r)) :=
  if_neg fun hm => Bool.noConfusion hm.1

/-- The gradient of the scores. -/
theorem ds_vec (m : Bool) (h : Fin 4) (i : Fin 16) (o o8 : ℕ) (ho : o = 128 * (h.val / 2)) (h8 : o8 = 8 * h.val)
    (pv : FVec Ideal S256x256 .f32) (vm : FVec Ideal S256x128 .bf16) (gb : FVec Ideal S256x256 .bf16) (dl : FVec Ideal S32x256 .f32)
    (hp : ∀ t r, pv (ix2 t r) = B.prob m h i t r) (hv : ∀ t c, vm (ix2 t c) = B.v h (ix2 t c))
    (hg : ∀ r c, gb (ix2 r c) = B.g (ix2 (row i r) c)) (hl : ∀ a r, dl (ix2 a r) = B.dl (ix3 i a r)) (s2 s3 s4)
    (t r : Fin 256) :
    mulf pv (subf (matmul dot_S256x128_S256x128_S256x256_1_1_0_0_n_n none vm
        (extractStridedSlice S256x128 ![0, o] gb s2) (constant S256x256 .f32 0x00000000#32))
      (broadcastTo S256x256 (extractStridedSlice S1x256 ![o8, 0] dl s3) s4)) (ix2 t r)
      = B.ds m h i t r := by
  rw [mulf_apply, subf_apply, matmul_scores, stat_row o8 dl s3 s4 t r (stat h) h8.symm, hl, hp]
  refine congrArg (B.prob m h i t r * ·) (congrArg (· - _) (Finset.sum_congr rfl fun c _ => ?_))
  rw [slice_cols 256 o gb s2 r c (lane h c) (by simp only [lane]; omega), hv, hg]

theorem dv_vec (m : Bool) (h : Fin 4) (i : Fin 16) (o : ℕ) (ho : o = 128 * (h.val / 2)) (pv : FVec Ideal S256x256 .bf16)
    (gb : FVec Ideal S256x256 .bf16) (hp : ∀ t r, pv (ix2 t r) = B.prob m h i t r)
    (hg : ∀ r c, gb (ix2 r c) = B.g (ix2 (row i r) c)) (s2) (t : Fin 256) (c : Fin 128) :
    matmul dot_S256x256_S256x128_S256x128_1_0_0_1_n_n none pv (extractStridedSlice S256x128 ![0, o] gb s2)
      (constant S256x128 .f32 0x00000000#32) (ix2 t c) = B.dvTerm m h i t c := by
  rw [matmul_rows]
  refine Finset.sum_congr rfl fun r _ => ?_
  rw [slice_cols 256 o gb s2 r c (lane h c) (by simp only [lane]; omega), hp, hg]

theorem dk_vec (m : Bool) (h : Fin 4) (i : Fin 16) (o : ℕ) (ho : o = 128 * h.val) (sv : FVec Ideal S256x256 .bf16)
    (qb : FVec Ideal S256x512 .bf16) (hp : ∀ t r, sv (ix2 t r) = B.ds m h i t r)
    (hq : ∀ r c, qb (ix2 r c) = B.q (ix2 (row i r) c)) (s2) (t : Fin 256) (c : Fin 128) :
    matmul dot_S256x256_S256x128_S256x128_1_0_0_1_n_n none sv (extractStridedSlice S256x128 ![0, o] qb s2)
      (constant S256x128 .f32 0x00000000#32) (ix2 t c) = B.dkTerm m h i t c := by
  rw [matmul_rows]
  refine Finset.sum_congr rfl fun r _ => ?_
  rw [slice_cols 512 o qb s2 r c (col h c) (by simp only [col]; omega), hp, hq]

theorem dq_vec (m : Bool) (h : Fin 4) (i : Fin 16) (o : ℕ) (ho : o = 128 * h.val) (sv : FVec Ideal S256x256 .bf16)
    (kt : FVec Ideal S512x256 .bf16) (hp : ∀ t r, sv (ix2 t r) = B.ds m h i t r)
    (hk : ∀ c t, kt (ix2 c t) = B.kt (ix2 c t)) (s2) (c : Fin 128) (r : Fin 256) :
    matmul dot_S128x256_S256x256_S128x256_1_0_0_1_n_n none (extractStridedSlice S128x256 ![o, 0] kt s2) sv
      (constant S128x256 .f32 0x00000000#32) (ix2 c r) = B.dqTerm m h i c r := by
  rw [matmul_cols]
  refine Finset.sum_congr rfl fun t _ => ?_
  rw [slice_rows o kt s2 c t (col h c) (by simp only [col]; omega), hp, hk]

end Step

theorem add_block {s : Shape} (L : s.Idx → EReal) (M : FVec Ideal s .f32) (hs : s.ShapeCasts s) (i : s.Idx) (X Y : EReal)
    (hL : L i = X) (hM : M i = Y) : shapeCast s (addf (L : FVec Ideal s .f32) M) hs i = X + Y := by
  rw [shapeCast_self, addf_apply, hL, hM]

/-- An addition to a slab loaded under its unit axis and stored back under it. -/
theorem add_slab (m n : ℕ) (L : (⟨3, ![1, m, n]⟩ : Shape).Idx → EReal) (M : FVec Ideal ⟨2, ![m, n]⟩ .f32) (s1 s2)
    (a : Fin m) (b : Fin n) (X Y : EReal) (hL : L (ix3 (0 : Fin 1) a b) = X) (hM : M (ix2 a b) = Y) :
    shapeCast ⟨3, ![1, m, n]⟩ (addf (shapeCast ⟨2, ![m, n]⟩ L s1 : FVec Ideal ⟨2, ![m, n]⟩ .f32) M) s2 (ix3 (0 : Fin 1) a b) = X + Y := by
  rw [add_unit, addf_apply, drop_unit, hL, hM]

end Cert.KernelIdeal.AttnGrad

end
-- ==== Proof.Trip.lean ====
/-
  ONE TRIP OF THE LOOP OVER THE LATER QUERY TILES: what it leaves in the three accumulators, entry by entry.
-/
module

public import proofs.«01_k».proof.Proof.Reads
public import proofs.«01_k».proof.Proof.Gen.KernelIdeal.Loops
public import Idealize.ShloMosaic.Lib.Tactic

@[expose] public section

set_option maxRecDepth 16384

noncomputable section

namespace Cert.KernelIdeal.AttnGrad

open Idealize.ShloMosaic Idealize.ShloMosaic.ValueIdx Idealize.ShloMosaic.TcCoe Idealize.ShloMosaic.Tactic
open Cert.KernelIdeal Cert.KernelIdeal.Gen
open scoped BigOperators

/-- The loop at tile `j` makes `15 - j` trips. -/
theorem trips_eq (i : grid0.Coords) : (k0_t1_loop i).trips = 15 - (i 1).val := by
  have h : ∀ i : grid0.Coords, (k0_t1_loop i).trips = 15 - (i 1).val := by decide +kernel
  exact h i

theorem trip_lt (i : grid0.Coords) (k : Fin (k0_t1_loop i).trips) : (i 1).val + k.val + 1 < 16 := by
  have h := k.isLt
  have e := trips_eq i
  omega

set_option maxHeartbeats 1000000 in
theorem trip_dv (𝒱 : Variants) (d : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (v15 : FVec Ideal S256x512 .bf16) (v19 : FVec Ideal S256x128 .bf16) (v21 : FVec Ideal S256x128 .bf16) (v25 : FVec Ideal S256x128 .bf16) (v27 : FVec Ideal S256x128 .bf16) (v29 : FVec Ideal S512x256 .bf16) (v412 : BitVec 32) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty)
    (B : Blocks) (hq0 : arg2.view.read (Elt Ideal) X_arg2 = B.q) (hg0 : arg6.view.read (Elt Ideal) X_arg6 = B.g)
    (hl0 : arg7.view.read (Elt Ideal) X_arg7 = B.lse) (hd0 : arg8.view.read (Elt Ideal) X_arg8 = B.dl)
    (hk : ∀ t c, v15 (ix2 t c) = B.k (ix2 t c)) (hv0 : ∀ t c, v19 (ix2 t c) = B.v 0 (ix2 t c)) (hv1 : ∀ t c, v21 (ix2 t c) = B.v 1 (ix2 t c))
    (hv2 : ∀ t c, v25 (ix2 t c) = B.v 2 (ix2 t c)) (hv3 : ∀ t c, v27 (ix2 t c) = B.v 3 (ix2 t c)) (hkt : ∀ c t, v29 (ix2 c t) = B.kt (ix2 c t))
    (k : Fin (k0_t1_loop i).trips) (f_arg9 : BufTy.Contents (Elt Ideal) arg9.view.ty) (f_arg12 : BufTy.Contents (Elt Ideal) arg12.view.ty) (f_arg13 : BufTy.Contents (Elt Ideal) arg13.view.ty) (i' : Fin 16) (hi' : i' = tile ((i 1).val + k.val + 1)) (h : Fin 4) (t : Fin 256) (c : Fin 128) :
    arg13.view.read (Elt Ideal) (arg13.view.writes (Elt Ideal) f_arg13 (tripL_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 k f_arg9 f_arg12 f_arg13).2.2) (ix3 h t c)
      = arg13.view.read (Elt Ideal) f_arg13 (ix3 h t c) + B.dvTerm false h i' t c := by
  unfold tripL_k0_t1
  unfold trip_k0_t1
  dsimp only
  sl_unfold_run_names
  have hlt : (i 1).val + k.val + 1 < 16 := trip_lt i k
  have hi : i'.val = (i 1).val + k.val + 1 := (congrArg (fun n : Fin 16 => n.val) hi').trans (Nat.mod_eq_of_lt hlt)
  have hrow : ∀ r : Fin 256, (row i' r).val = (256 * (i 1).val + 256 * k.val + 256) + r.val := fun r => by
    show 256 * i'.val + r.val = _
    omega
  have hq := fun (r : Fin 256) (c : Fin 512) => (load_rows_cast 4096 512 256 arg2.view X_arg2 (k0_off8 i k) _ (k0_off8_inb i k) (k0_off8_eq i k) shapeCasts_S256x512_S256x512 r c (row i' r) (hrow r)).trans (congrFun hq0 _)
  have hg := fun (r : Fin 256) (c : Fin 256) => (load_rows_cast 4096 256 256 arg6.view X_arg6 (k0_off9 i k) _ (k0_off9_inb i k) (k0_off9_eq i k) shapeCasts_S256x256_S256x256 r c (row i' r) (hrow r)).trans (congrFun hg0 _)
  have hl := fun (a : Fin 32) (r : Fin 256) => (load_slab_cast 16 32 256 32 arg7.view X_arg7 (k0_off10 i k) _ 0 (k0_off10_inb i k) (k0_off10_eq i k) shapeCasts_S1x32x256_S32x256 a r i' a hi (Nat.zero_add _).symm).trans (congrFun hl0 _)
  have hd := fun (a : Fin 32) (r : Fin 256) => (load_slab_cast 16 32 256 32 arg8.view X_arg8 (k0_off10 i k) _ 0 (k0_off10_inb i k) (k0_off10_eq i k) shapeCasts_S1x32x256_S32x256 a r i' a hi (Nat.zero_add _).symm).trans (congrFun hd0 _)
  exact read_heads arg13.view f_arg13 _ _ _ _ _ _ _ _ h t c
    (fun h => arg13.view.read (Elt Ideal) f_arg13 (ix3 h t c) + B.dvTerm false h i' t c)
    (add_slab 256 128 _ _ _ _ t c _ _ (load_stack 4 256 128 ![1, 256, 128] _ _ _ 0 0 _ rfl _ 0 t c rfl (Nat.zero_add _).symm rfl)
      (dv_vec B false 0 i' 0 rfl _ _ (fun t r => (prob_vec B 0 i' 0 0 rfl rfl v15 _ _ hk hq hl _ _ _ _ t r).trans (B.prob_false _ _ t r).symm) hg _ t c))
    (add_slab 256 128 _ _ _ _ t c _ _ (load_stack 4 256 128 ![1, 256, 128] _ _ _ 1 0 _ rfl _ 1 t c rfl (Nat.zero_add _).symm rfl)
      (dv_vec B false 1 i' 0 rfl _ _ (fun t r => (prob_vec B 1 i' 128 8 rfl rfl v15 _ _ hk hq hl _ _ _ _ t r).trans (B.prob_false _ _ t r).symm) hg _ t c))
    (add_slab 256 128 _ _ _ _ t c _ _ (load_stack 4 256 128 ![1, 256, 128] _ _ _ 2 0 _ rfl _ 2 t c rfl (Nat.zero_add _).symm rfl)
      (dv_vec B false 2 i' 128 rfl _ _ (fun t r => (prob_vec B 2 i' 256 16 rfl rfl v15 _ _ hk hq hl _ _ _ _ t r).trans (B.prob_false _ _ t r).symm) hg _ t c))
    (add_slab 256 128 _ _ _ _ t c _ _ (load_stack 4 256 128 ![1, 256, 128] _ _ _ 3 0 _ rfl _ 3 t c rfl (Nat.zero_add _).symm rfl)
      (dv_vec B false 3 i' 128 rfl _ _ (fun t r => (prob_vec B 3 i' 384 24 rfl rfl v15 _ _ hk hq hl _ _ _ _ t r).trans (B.prob_false _ _ t r).symm) hg _ t c))

set_option maxHeartbeats 1000000 in
theorem trip_dk (𝒱 : Variants) (d : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (v15 : FVec Ideal S256x512 .bf16) (v19 : FVec Ideal S256x128 .bf16) (v21 : FVec Ideal S256x128 .bf16) (v25 : FVec Ideal S256x128 .bf16) (v27 : FVec Ideal S256x128 .bf16) (v29 : FVec Ideal S512x256 .bf16) (v412 : BitVec 32) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty)
    (B : Blocks) (hq0 : arg2.view.read (Elt Ideal) X_arg2 = B.q) (hg0 : arg6.view.read (Elt Ideal) X_arg6 = B.g)
    (hl0 : arg7.view.read (Elt Ideal) X_arg7 = B.lse) (hd0 : arg8.view.read (Elt Ideal) X_arg8 = B.dl)
    (hk : ∀ t c, v15 (ix2 t c) = B.k (ix2 t c)) (hv0 : ∀ t c, v19 (ix2 t c) = B.v 0 (ix2 t c)) (hv1 : ∀ t c, v21 (ix2 t c) = B.v 1 (ix2 t c))
    (hv2 : ∀ t c, v25 (ix2 t c) = B.v 2 (ix2 t c)) (hv3 : ∀ t c, v27 (ix2 t c) = B.v 3 (ix2 t c)) (hkt : ∀ c t, v29 (ix2 c t) = B.kt (ix2 c t))
    (k : Fin (k0_t1_loop i).trips) (f_arg9 : BufTy.Contents (Elt Ideal) arg9.view.ty) (f_arg12 : BufTy.Contents (Elt Ideal) arg12.view.ty) (f_arg13 : BufTy.Contents (Elt Ideal) arg13.view.ty) (i' : Fin 16) (hi' : i' = tile ((i 1).val + k.val + 1)) (h : Fin 4) (t : Fin 256) (c : Fin 128) :
    arg12.view.read (Elt Ideal) (arg12.view.writes (Elt Ideal) f_arg12 (tripL_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 k f_arg9 f_arg12 f_arg13).2.1) (ix2 t (col h c))
      = arg12.view.read (Elt Ideal) f_arg12 (ix2 t (col h c)) + B.dkTerm false h i' t c := by
  unfold tripL_k0_t1
  unfold trip_k0_t1
  dsimp only
  sl_unfold_run_names
  have hlt : (i 1).val + k.val + 1 < 16 := trip_lt i k
  have hi : i'.val = (i 1).val + k.val + 1 := (congrArg (fun n : Fin 16 => n.val) hi').trans (Nat.mod_eq_of_lt hlt)
  have hrow : ∀ r : Fin 256, (row i' r).val = (256 * (i 1).val + 256 * k.val + 256) + r.val := fun r => by
    show 256 * i'.val + r.val = _
    omega
  have hq := fun (r : Fin 256) (c : Fin 512) => (load_rows_cast 4096 512 256 arg2.view X_arg2 (k0_off8 i k) _ (k0_off8_inb i k) (k0_off8_eq i k) shapeCasts_S256x512_S256x512 r c (row i' r) (hrow r)).trans (congrFun hq0 _)
  have hg := fun (r : Fin 256) (c : Fin 256) => (load_rows_cast 4096 256 256 arg6.view X_arg6 (k0_off9 i k) _ (k0_off9_inb i k) (k0_off9_eq i k) shapeCasts_S256x256_S256x256 r c (row i' r) (hrow r)).trans (congrFun hg0 _)
  have hl := fun (a : Fin 32) (r : Fin 256) => (load_slab_cast 16 32 256 32 arg7.view X_arg7 (k0_off10 i k) _ 0 (k0_off10_inb i k) (k0_off10_eq i k) shapeCasts_S1x32x256_S32x256 a r i' a hi (Nat.zero_add _).symm).trans (congrFun hl0 _)
  have hd := fun (a : Fin 32) (r : Fin 256) => (load_slab_cast 16 32 256 32 arg8.view X_arg8 (k0_off10 i k) _ 0 (k0_off10_inb i k) (k0_off10_eq i k) shapeCasts_S1x32x256_S32x256 a r i' a hi (Nat.zero_add _).symm).trans (congrFun hd0 _)
  exact read_cols arg12.view f_arg12 _ _ _ _ _ _ _ _ h t c
    (fun h => arg12.view.read (Elt Ideal) f_arg12 (ix2 t (col h c)) + B.dkTerm false h i' t c)
    (add_block _ _ _ _ _ _ (load_rows 256 512 ![256, 128] _ _ _ 0 0 _ rfl _ t (col 0 c) (Nat.zero_add _).symm rfl)
      (dk_vec B false 0 i' 0 rfl _ _ (ds_vec B false 0 i' 0 0 rfl rfl _ v19 _ _ (fun t r => (prob_vec B 0 i' 0 0 rfl rfl v15 _ _ hk hq hl _ _ _ _ t r).trans (B.prob_false _ _ t r).symm) hv0 hg hd _ _ _) hq _ t c))
    (add_block _ _ _ _ _ _ (load_rows 256 512 ![256, 128] _ _ _ 0 128 _ rfl _ t (col 1 c) (Nat.zero_add _).symm rfl)
      (dk_vec B false 1 i' 128 rfl _ _ (ds_vec B false 1 i' 0 8 rfl rfl _ v21 _ _ (fun t r => (prob_vec B 1 i' 128 8 rfl rfl v15 _ _ hk hq hl _ _ _ _ t r).trans (B.prob_false _ _ t r).symm) hv1 hg hd _ _ _) hq _ t c))
    (add_block _ _ _ _ _ _ (load_rows 256 512 ![256, 128] _ _ _ 0 256 _ rfl _ t (col 2 c) (Nat.zero_add _).symm rfl)
      (dk_vec B false 2 i' 256 rfl _ _ (ds_vec B false 2 i' 128 16 rfl rfl _ v25 _ _ (fun t r => (prob_vec B 2 i' 256 16 rfl rfl v15 _ _ hk hq hl _ _ _ _ t r).trans (B.prob_false _ _ t r).symm) hv2 hg hd _ _ _) hq _ t c))
    (add_block _ _ _ _ _ _ (load_rows 256 512 ![256, 128] _ _ _ 0 384 _ rfl _ t (col 3 c) (Nat.zero_add _).symm rfl)
      (dk_vec B false 3 i' 384 rfl _ _ (ds_vec B false 3 i' 128 24 rfl rfl _ v27 _ _ (fun t r => (prob_vec B 3 i' 384 24 rfl rfl v15 _ _ hk hq hl _ _ _ _ t r).trans (B.prob_false _ _ t r).symm) hv3 hg hd _ _ _) hq _ t c))

set_option maxHeartbeats 1000000 in
theorem trip_dq (𝒱 : Variants) (d : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (v15 : FVec Ideal S256x512 .bf16) (v19 : FVec Ideal S256x128 .bf16) (v21 : FVec Ideal S256x128 .bf16) (v25 : FVec Ideal S256x128 .bf16) (v27 : FVec Ideal S256x128 .bf16) (v29 : FVec Ideal S512x256 .bf16) (v412 : BitVec 32) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty)
    (B : Blocks) (hq0 : arg2.view.read (Elt Ideal) X_arg2 = B.q) (hg0 : arg6.view.read (Elt Ideal) X_arg6 = B.g)
    (hl0 : arg7.view.read (Elt Ideal) X_arg7 = B.lse) (hd0 : arg8.view.read (Elt Ideal) X_arg8 = B.dl)
    (hk : ∀ t c, v15 (ix2 t c) = B.k (ix2 t c)) (hv0 : ∀ t c, v19 (ix2 t c) = B.v 0 (ix2 t c)) (hv1 : ∀ t c, v21 (ix2 t c) = B.v 1 (ix2 t c))
    (hv2 : ∀ t c, v25 (ix2 t c) = B.v 2 (ix2 t c)) (hv3 : ∀ t c, v27 (ix2 t c) = B.v 3 (ix2 t c)) (hkt : ∀ c t, v29 (ix2 c t) = B.kt (ix2 c t))
    (k : Fin (k0_t1_loop i).trips) (f_arg9 : BufTy.Contents (Elt Ideal) arg9.view.ty) (f_arg12 : BufTy.Contents (Elt Ideal) arg12.view.ty) (f_arg13 : BufTy.Contents (Elt Ideal) arg13.view.ty) (i' : Fin 16) (hi' : i' = tile ((i 1).val + k.val + 1)) (b : Fin 16) (h : Fin 4) (c : Fin 128) (r : Fin 256) :
    arg9.view.read (Elt Ideal) (arg9.view.writes (Elt Ideal) f_arg9 (tripL_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 k f_arg9 f_arg12 f_arg13).1) (ix3 b (col h c) r)
      = if b = i' then arg9.view.read (Elt Ideal) f_arg9 (ix3 i' (col h c) r) + B.dqTerm false h i' c r
        else arg9.view.read (Elt Ideal) f_arg9 (ix3 b (col h c) r) := by
  unfold tripL_k0_t1
  unfold trip_k0_t1
  dsimp only
  sl_unfold_run_names
  have hlt : (i 1).val + k.val + 1 < 16 := trip_lt i k
  have hi : i'.val = (i 1).val + k.val + 1 := (congrArg (fun n : Fin 16 => n.val) hi').trans (Nat.mod_eq_of_lt hlt)
  have hrow : ∀ r : Fin 256, (row i' r).val = (256 * (i 1).val + 256 * k.val + 256) + r.val := fun r => by
    show 256 * i'.val + r.val = _
    omega
  have hq := fun (r : Fin 256) (c : Fin 512) => (load_rows_cast 4096 512 256 arg2.view X_arg2 (k0_off8 i k) _ (k0_off8_inb i k) (k0_off8_eq i k) shapeCasts_S256x512_S256x512 r c (row i' r) (hrow r)).trans (congrFun hq0 _)
  have hg := fun (r : Fin 256) (c : Fin 256) => (load_rows_cast 4096 256 256 arg6.view X_arg6 (k0_off9 i k) _ (k0_off9_inb i k) (k0_off9_eq i k) shapeCasts_S256x256_S256x256 r c (row i' r) (hrow r)).trans (congrFun hg0 _)
  have hl := fun (a : Fin 32) (r : Fin 256) => (load_slab_cast 16 32 256 32 arg7.view X_arg7 (k0_off10 i k) _ 0 (k0_off10_inb i k) (k0_off10_eq i k) shapeCasts_S1x32x256_S32x256 a r i' a hi (Nat.zero_add _).symm).trans (congrFun hl0 _)
  have hd := fun (a : Fin 32) (r : Fin 256) => (load_slab_cast 16 32 256 32 arg8.view X_arg8 (k0_off10 i k) _ 0 (k0_off10_inb i k) (k0_off10_eq i k) shapeCasts_S1x32x256_S32x256 a r i' a hi (Nat.zero_add _).symm).trans (congrFun hd0 _)
  have hi11 := (k0_off11_eq i k).trans (congrArg (fun n => ![n, 0, 0]) hi.symm)
  have hi12 := (k0_off12_eq i k).trans (congrArg (fun n => ![n, 128, 0]) hi.symm)
  have hi13 := (k0_off13_eq i k).trans (congrArg (fun n => ![n, 256, 0]) hi.symm)
  have hi14 := (k0_off14_eq i k).trans (congrArg (fun n => ![n, 384, 0]) hi.symm)
  exact read_slab arg9.view f_arg9 [] _ _ _ _ _ _ _ _ i' hi11 hi12 hi13 hi14 _ _ _ _ b h c r
    (fun h => arg9.view.read (Elt Ideal) f_arg9 (ix3 i' (col h c) r) + B.dqTerm false h i' c r)
    (add_slab 128 256 _ _ _ _ c r _ _ (load_stack 16 512 256 ![1, 128, 256] _ _ _ i'.val 0 _ hi11 _ i' (col 0 c) r rfl rfl rfl)
      (dq_vec B false 0 i' 0 rfl _ _ (ds_vec B false 0 i' 0 0 rfl rfl _ v19 _ _ (fun t r => (prob_vec B 0 i' 0 0 rfl rfl v15 _ _ hk hq hl _ _ _ _ t r).trans (B.prob_false _ _ t r).symm) hv0 hg hd _ _ _) hkt _ c r))
    (add_slab 128 256 _ _ _ _ c r _ _ (load_stack 16 512 256 ![1, 128, 256] _ _ _ i'.val 128 _ hi12 _ i' (col 1 c) r rfl rfl rfl)
      (dq_vec B false 1 i' 128 rfl _ _ (ds_vec B false 1 i' 0 8 rfl rfl _ v21 _ _ (fun t r => (prob_vec B 1 i' 128 8 rfl rfl v15 _ _ hk hq hl _ _ _ _ t r).trans (B.prob_false _ _ t r).symm) hv1 hg hd _ _ _) hkt _ c r))
    (add_slab 128 256 _ _ _ _ c r _ _ (load_stack 16 512 256 ![1, 128, 256] _ _ _ i'.val 256 _ hi13 _ i' (col 2 c) r rfl rfl rfl)
      (dq_vec B false 2 i' 256 rfl _ _ (ds_vec B false 2 i' 128 16 rfl rfl _ v25 _ _ (fun t r => (prob_vec B 2 i' 256 16 rfl rfl v15 _ _ hk hq hl _ _ _ _ t r).trans (B.prob_false _ _ t r).symm) hv2 hg hd _ _ _) hkt _ c r))
    (add_slab 128 256 _ _ _ _ c r _ _ (load_stack 16 512 256 ![1, 128, 256] _ _ _ i'.val 384 _ hi14 _ i' (col 3 c) r rfl rfl rfl)
      (dq_vec B false 3 i' 384 rfl _ _ (ds_vec B false 3 i' 128 24 rfl rfl _ v27 _ _ (fun t r => (prob_vec B 3 i' 384 24 rfl rfl v15 _ _ hk hq hl _ _ _ _ t r).trans (B.prob_false _ _ t r).symm) hv3 hg hd _ _ _) hkt _ c r))

end Cert.KernelIdeal.AttnGrad

end
-- ==== Proof.Loop.lean ====
/-
  THE WHOLE LOOP OVER THE LATER QUERY TILES: after `n` trips each accumulator holds what it held plus the terms of the
  tiles `j + 1 … j + n`.
-/
module

public import proofs.«01_k».proof.Proof.Trip

@[expose] public section

set_option maxRecDepth 16384

noncomputable section

namespace Cert.KernelIdeal.AttnGrad

open Idealize.ShloMosaic Idealize.ShloMosaic.ValueIdx Idealize.ShloMosaic.TcCoe Idealize.ShloMosaic.Tactic
open Cert.KernelIdeal Cert.KernelIdeal.Gen
open scoped BigOperators

set_option maxHeartbeats 1000000 in
theorem loop_dv (𝒱 : Variants) (d : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (v15 : FVec Ideal S256x512 .bf16) (v19 : FVec Ideal S256x128 .bf16) (v21 : FVec Ideal S256x128 .bf16) (v25 : FVec Ideal S256x128 .bf16) (v27 : FVec Ideal S256x128 .bf16) (v29 : FVec Ideal S512x256 .bf16) (v412 : BitVec 32) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty)
    (B : Blocks) (hq0 : arg2.view.read (Elt Ideal) X_arg2 = B.q) (hg0 : arg6.view.read (Elt Ideal) X_arg6 = B.g)
    (hl0 : arg7.view.read (Elt Ideal) X_arg7 = B.lse) (hd0 : arg8.view.read (Elt Ideal) X_arg8 = B.dl)
    (hk : ∀ t c, v15 (ix2 t c) = B.k (ix2 t c)) (hv0 : ∀ t c, v19 (ix2 t c) = B.v 0 (ix2 t c)) (hv1 : ∀ t c, v21 (ix2 t c) = B.v 1 (ix2 t c))
    (hv2 : ∀ t c, v25 (ix2 t c) = B.v 2 (ix2 t c)) (hv3 : ∀ t c, v27 (ix2 t c) = B.v 3 (ix2 t c)) (hkt : ∀ c t, v29 (ix2 c t) = B.kt (ix2 c t))
    (G9 : BufTy.Contents (Elt Ideal) arg9.view.ty) (G12 : BufTy.Contents (Elt Ideal) arg12.view.ty) (G13 : BufTy.Contents (Elt Ideal) arg13.view.ty) (h : Fin 4) (t : Fin 256) (c : Fin 128) (n : ℕ) (hn : n ≤ (k0_t1_loop i).trips) :
    arg13.view.read (Elt Ideal) (arg13.view.writes (Elt Ideal) G13 (pb_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 G9 G12 G13 n).2.2) (ix3 h t c)
      = arg13.view.read (Elt Ideal) G13 (ix3 h t c) + ∑ k ∈ Finset.range n, B.dvTerm false h (tile ((i 1).val + k + 1)) t c := by
  induction n with
  | zero =>
    rw [Finset.range_zero, Finset.sum_empty, add_zero]
    rfl
  | succ n ih =>
    rw [pb_k0_t1_succ 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 G9 G12 G13 ⟨n, hn⟩, View.writes_append,
      trip_dv 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 B hq0 hg0 hl0 hd0 hk hv0 hv1 hv2 hv3 hkt ⟨n, hn⟩ _ _ _ (tile ((i 1).val + n + 1)) rfl h t c, ih (Nat.le_of_succ_le hn), Finset.sum_range_succ, add_assoc]

set_option maxHeartbeats 1000000 in
theorem loop_dk (𝒱 : Variants) (d : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (v15 : FVec Ideal S256x512 .bf16) (v19 : FVec Ideal S256x128 .bf16) (v21 : FVec Ideal S256x128 .bf16) (v25 : FVec Ideal S256x128 .bf16) (v27 : FVec Ideal S256x128 .bf16) (v29 : FVec Ideal S512x256 .bf16) (v412 : BitVec 32) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty)
    (B : Blocks) (hq0 : arg2.view.read (Elt Ideal) X_arg2 = B.q) (hg0 : arg6.view.read (Elt Ideal) X_arg6 = B.g)
    (hl0 : arg7.view.read (Elt Ideal) X_arg7 = B.lse) (hd0 : arg8.view.read (Elt Ideal) X_arg8 = B.dl)
    (hk : ∀ t c, v15 (ix2 t c) = B.k (ix2 t c)) (hv0 : ∀ t c, v19 (ix2 t c) = B.v 0 (ix2 t c)) (hv1 : ∀ t c, v21 (ix2 t c) = B.v 1 (ix2 t c))
    (hv2 : ∀ t c, v25 (ix2 t c) = B.v 2 (ix2 t c)) (hv3 : ∀ t c, v27 (ix2 t c) = B.v 3 (ix2 t c)) (hkt : ∀ c t, v29 (ix2 c t) = B.kt (ix2 c t))
    (G9 : BufTy.Contents (Elt Ideal) arg9.view.ty) (G12 : BufTy.Contents (Elt Ideal) arg12.view.ty) (G13 : BufTy.Contents (Elt Ideal) arg13.view.ty) (h : Fin 4) (t : Fin 256) (c : Fin 128) (n : ℕ) (hn : n ≤ (k0_t1_loop i).trips) :
    arg12.view.read (Elt Ideal) (arg12.view.writes (Elt Ideal) G12 (pb_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 G9 G12 G13 n).2.1) (ix2 t (col h c))
      = arg12.view.read (Elt Ideal) G12 (ix2 t (col h c)) + ∑ k ∈ Finset.range n, B.dkTerm false h (tile ((i 1).val + k + 1)) t c := by
  induction n with
  | zero =>
    rw [Finset.range_zero, Finset.sum_empty, add_zero]
    rfl
  | succ n ih =>
    rw [pb_k0_t1_succ 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 G9 G12 G13 ⟨n, hn⟩, View.writes_append,
      trip_dk 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 B hq0 hg0 hl0 hd0 hk hv0 hv1 hv2 hv3 hkt ⟨n, hn⟩ _ _ _ (tile ((i 1).val + n + 1)) rfl h t c, ih (Nat.le_of_succ_le hn), Finset.sum_range_succ, add_assoc]

set_option maxHeartbeats 1000000 in
theorem loop_dq (𝒱 : Variants) (d : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (v15 : FVec Ideal S256x512 .bf16) (v19 : FVec Ideal S256x128 .bf16) (v21 : FVec Ideal S256x128 .bf16) (v25 : FVec Ideal S256x128 .bf16) (v27 : FVec Ideal S256x128 .bf16) (v29 : FVec Ideal S512x256 .bf16) (v412 : BitVec 32) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty)
    (B : Blocks) (hq0 : arg2.view.read (Elt Ideal) X_arg2 = B.q) (hg0 : arg6.view.read (Elt Ideal) X_arg6 = B.g)
    (hl0 : arg7.view.read (Elt Ideal) X_arg7 = B.lse) (hd0 : arg8.view.read (Elt Ideal) X_arg8 = B.dl)
    (hk : ∀ t c, v15 (ix2 t c) = B.k (ix2 t c)) (hv0 : ∀ t c, v19 (ix2 t c) = B.v 0 (ix2 t c)) (hv1 : ∀ t c, v21 (ix2 t c) = B.v 1 (ix2 t c))
    (hv2 : ∀ t c, v25 (ix2 t c) = B.v 2 (ix2 t c)) (hv3 : ∀ t c, v27 (ix2 t c) = B.v 3 (ix2 t c)) (hkt : ∀ c t, v29 (ix2 c t) = B.kt (ix2 c t))
    (G9 : BufTy.Contents (Elt Ideal) arg9.view.ty) (G12 : BufTy.Contents (Elt Ideal) arg12.view.ty) (G13 : BufTy.Contents (Elt Ideal) arg13.view.ty) (b : Fin 16) (h : Fin 4) (c : Fin 128) (r : Fin 256) (n : ℕ) (hn : n ≤ (k0_t1_loop i).trips) :
    arg9.view.read (Elt Ideal) (arg9.view.writes (Elt Ideal) G9 (pb_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 G9 G12 G13 n).1) (ix3 b (col h c) r)
      = arg9.view.read (Elt Ideal) G9 (ix3 b (col h c) r) + if (i 1).val < b.val ∧ b.val ≤ (i 1).val + n then B.dqTerm false h b c r else 0 := by
  induction n with
  | zero =>
    rw [if_neg (by omega), add_zero]
    rfl
  | succ n ih =>
    rw [pb_k0_t1_succ 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 G9 G12 G13 ⟨n, hn⟩, View.writes_append,
      trip_dq 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 B hq0 hg0 hl0 hd0 hk hv0 hv1 hv2 hv3 hkt ⟨n, hn⟩ _ _ _ (tile ((i 1).val + n + 1)) rfl b h c r, ih (Nat.le_of_succ_le hn)]
    have hlt : (i 1).val + n + 1 < 16 := trip_lt i ⟨n, hn⟩
    have ht : (tile ((i 1).val + n + 1)).val = (i 1).val + n + 1 := Nat.mod_eq_of_lt hlt
    by_cases hb : b = tile ((i 1).val + n + 1)
    · have hbv : b.val = (i 1).val + n + 1 := (congrArg (fun x : Fin 16 => x.val) hb).trans ht
      rw [if_pos hb, ← hb, ih (Nat.le_of_succ_le hn), if_neg (by omega), add_zero, if_pos (by omega)]
    · have hbv : b.val ≠ (i 1).val + n + 1 := fun e => hb (Fin.ext (e.trans ht.symm))
      rw [if_neg hb]
      exact congrArg _ (if_congr (by omega) rfl rfl)

end Cert.KernelIdeal.AttnGrad

end
-- ==== Proof.Out.lean ====
/-
  WHAT ONE GRID POINT LEAVES in its three output blocks, as functions of the blocks it works on.
-/
module

public import proofs.«01_k».proof.Proof.Reads

@[expose] public section

noncomputable section

namespace Cert.KernelIdeal.AttnGrad

open Idealize.ShloMosaic Idealize.ShloMosaic.ValueIdx Idealize.ShloMosaic.TcCoe
open Cert.KernelIdeal
open scoped BigOperators

/-- The head a column of the four heads' 512 belongs to, and the lane in it. -/
def headOf (k : Fin 512) : Fin 4 := ⟨k.val / 128, by omega⟩
def laneOf (k : Fin 512) : Fin 128 := ⟨k.val % 128, by omega⟩

theorem col_head_lane (k : Fin 512) : col (headOf k) (laneOf k) = k := (eq_col k).symm

/-- Head `h`'s values with the other head of its pair blanked. -/
def half (x2 : S256x256.Idx → EReal) (h : Fin 4) : S256x128.Idx → EReal := fun x =>
  if (x 1).val / 64 = h.val % 2 then x2 (ix2 (x 0) (lane h (x 1))) else 0

/-- The blocks of a grid point, from its seven input blocks. -/
def blocks (x0 : S4096x512.Idx → EReal) (x1 : S256x512.Idx → EReal) (x2 : S256x256.Idx → EReal) (x3 : S1x512x256.Idx → EReal)
    (x4 : S4096x256.Idx → EReal) (x5 x6 : S16x32x256.Idx → EReal) : Blocks where
  q := x0
  k := x1
  v := half x2
  kt := fun x => x3 (ix3 (0 : Fin 1) (x 0) (x 1))
  g := x4
  lse := x5
  dl := x6

variable (B : Blocks)

/-- The gradient of head `h`'s pair of values at tile `j`, summed over the query tiles from `j` on. -/
def Blocks.dvSum (j : Fin 16) (h : Fin 4) (t : Fin 256) (c : Fin 128) : EReal :=
  B.dvTerm true h j t c + ∑ k ∈ Finset.range (15 - j.val), B.dvTerm false h (tile (j.val + k + 1)) t c

/-- The gradient of the keys at tile `j`, summed over the query tiles from `j` on. -/
def Blocks.dkSum (j : Fin 16) (h : Fin 4) (t : Fin 256) (c : Fin 128) : EReal :=
  B.dkTerm true h j t c + ∑ k ∈ Finset.range (15 - j.val), B.dkTerm false h (tile (j.val + k + 1)) t c

/-- What key tile `j` adds to the gradient of query tile `b`. -/
def Blocks.dqAdd (j b : Fin 16) (h : Fin 4) (c : Fin 128) (r : Fin 256) : EReal :=
  if b = j then B.dqTerm true h b c r else if j.val < b.val then B.dqTerm false h b c r else 0

/-- The block of the gradient of the queries after key tile `j`, from what it held. -/
def Blocks.dqOut (j : Fin 16) (x : S16x512x256.Idx → EReal) : S16x512x256.Idx → EReal := fun i =>
  x i + B.dqAdd j (i 0) (headOf (i 1)) (laneOf (i 1)) (i 2)

/-- The block of the gradient of the keys. -/
def Blocks.dkOut (j : Fin 16) : S256x512.Idx → EReal := fun i =>
  B.dkSum j (headOf (i 1)) (i 0) (laneOf (i 1)) * ((Real.log 2 : ℝ) : EReal)

/-- The head a column of two pairs' 256 values belongs to, and the lane in its pair. -/
def headOfV (l : Fin 256) : Fin 4 := ⟨2 * (l.val / 128) + l.val % 128 / 64, by omega⟩
def laneOfV (l : Fin 256) : Fin 128 := ⟨l.val % 128, by omega⟩

/-- The block of the gradient of the values. -/
def Blocks.dvOut (j : Fin 16) : S256x256.Idx → EReal := fun i =>
  B.dvSum j (headOfV (i 1)) (i 0) (laneOfV (i 1))

end Cert.KernelIdeal.AttnGrad

end
-- ==== Proof.Diag.lean ====
/-
  THE DIAGONAL STEP: the chunk mask as the kernel spells it, the blanked halves of the values, and the stores over
  accumulators that start at zero.
-/
module

public import proofs.«01_k».proof.Proof.Out

@[expose] public section

noncomputable section

namespace Cert.KernelIdeal.AttnGrad

open Idealize.ShloMosaic Idealize.ShloMosaic.ValueIdx Idealize.ShloMosaic.TcCoe
open Cert.KernelIdeal
open scoped BigOperators

/-! ## The chunk of a position -/

/-- The floor of a word over 64, as a truncating division corrected by one where the signs differ. -/
def chunkWord (x : BitVec 32) : BitVec 32 :=
  if IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 64#32 0#32)) (Scalar.extui (Scalar.cmpi .slt 64#32 0#32))))
    (IntOp.cmpi .ne (IntOp.remsi .vector x 64#32) 0#32) = 1#1
  then IntOp.subi (IntOp.divsi .vector x 64#32) 1#32 else IntOp.divsi .vector x 64#32

theorem chunkWord_eq : ∀ t : Fin 256, chunkWord (BitVec.ofNat 32 t.val) = BitVec.ofNat 32 (t.val / 64) := by decide +kernel

theorem chunk_le : ∀ a b : Fin 4,
    (IntOp.cmpi .sle (BitVec.ofNat 32 a.val) (BitVec.ofNat 32 b.val) = 1#1) ↔ a.val ≤ b.val := by decide +kernel

theorem low_half : ∀ c : Fin 128, (IntOp.cmpi .slt (BitVec.ofNat 32 c.val) 64#32 = 1#1) ↔ c.val / 64 = 0 := by decide +kernel

/-- The mask keeps the keys of the query's chunk and of the chunks before it. -/
theorem prob_masked (B : Blocks) (h : Fin 4) (i : Fin 16) (kc qc : IVec S256x256 32) (pv : FVec Ideal S256x256 .f32)
    (z : Ideal .f32) (t r : Fin 256) (hk : kc (ix2 t r) = chunkWord (BitVec.ofNat 32 t.val))
    (hq : qc (ix2 t r) = chunkWord (BitVec.ofNat 32 r.val)) (hz : z = (0 : EReal))
    (hp : pv (ix2 t r) = Ideal.exp2 ((∑ c : Fin 128, B.k (ix2 t (col h c)) * B.q (ix2 (row i r) (col h c))) - B.lse (ix3 i (stat h) r))) :
    select (cmpi .sle kc qc) pv (broadcast S256x256 z) (ix2 t r) = B.prob true h i t r := by
  show (if IntOp.cmpi .sle (kc (ix2 t r)) (qc (ix2 t r)) = 1#1 then pv (ix2 t r) else z) = _
  rw [hk, hq, chunkWord_eq, chunkWord_eq, hp, hz]
  have hle := chunk_le ⟨t.val / 64, by omega⟩ ⟨r.val / 64, by omega⟩
  unfold Blocks.prob
  by_cases hc : t.val / 64 ≤ r.val / 64
  · rw [if_pos (hle.2 hc), if_neg (fun hm => hm.2 hc)]
  · rw [if_neg (fun hm => hc (hle.1 hm)), if_pos ⟨rfl, hc⟩]

/-! ## The two halves of a pair of heads -/

theorem half_low (x2 : S256x256.Idx → EReal) (vb : FVec Ideal S256x128 .bf16) (it : IVec S256x128 32) (z : Ideal .bf16)
    (h : Fin 4) (hh : h.val % 2 = 0) (t : Fin 256) (c : Fin 128) (hit : it (ix2 t c) = BitVec.ofNat 32 c.val)
    (hz : z = (0 : EReal)) (hv : vb (ix2 t c) = x2 (ix2 t (lane h c))) :
    select (cmpi .slt it (broadcast S256x128 64#32)) vb (broadcast S256x128 z) (ix2 t c) = half x2 h (ix2 t c) := by
  show (if IntOp.cmpi .slt (it (ix2 t c)) 64#32 = 1#1 then vb (ix2 t c) else z) = _
  rw [hit, hv, hz]
  refine if_congr ?_ rfl rfl
  rw [hh]
  exact low_half c

theorem half_high (x2 : S256x256.Idx → EReal) (vb : FVec Ideal S256x128 .bf16) (it : IVec S256x128 32) (z : Ideal .bf16)
    (h : Fin 4) (hh : h.val % 2 = 1) (t : Fin 256) (c : Fin 128) (hit : it (ix2 t c) = BitVec.ofNat 32 c.val)
    (hz : z = (0 : EReal)) (hv : vb (ix2 t c) = x2 (ix2 t (lane h c))) :
    select (cmpi .slt it (broadcast S256x128 64#32)) (broadcast S256x128 z) vb (ix2 t c) = half x2 h (ix2 t c) := by
  show (if IntOp.cmpi .slt (it (ix2 t c)) 64#32 = 1#1 then z else vb (ix2 t c)) = if c.val / 64 = h.val % 2 then _ else _
  rw [hit, hv, hz, hh]
  have hl := low_half c
  by_cases hc : c.val / 64 = 0
  · rw [if_pos (hl.2 hc), if_neg (by omega)]
  · rw [if_neg (fun hm => hc (hl.1 hm)), if_pos (by omega)]

/-- Columns of the values' block. -/
theorem load_cols_cast {sig : RefSig} {κ : Kind} {sp : Space} {e : EltTy} {Val : EltTy → Type} (v : View sig κ sp S256x256 e)
    (f : v.ty.Contents Val) (o : ℕ) (inb) (hs) (t : Fin 256) (c : Fin 128) (k : Fin 256) (hk : k.val = o + c.val) :
    shapeCast S256x128 (v.readAt Val (Rect.unit (s := S256x256) ![0, o] S256x128.size inb).toLoadRect f) hs (ix2 t c)
      = v.read Val f (ix2 t k) :=
  (congrFun (shapeCast_self _ _) _).trans
    (load_rows 256 256 ![256, 128] v f ![0, o] 0 o inb rfl (ix2 t c) t k (Nat.zero_add _).symm hk)

/-! ## Stores over a zeroed accumulator -/

section Stores
variable {sig : RefSig} {κ : Kind} {sp : Space} {e : EltTy} {Val : EltTy → Type}

/-- A store to another head's block leaves this head's. -/
theorem skip_head (v : View sig κ sp S4x256x128 e) (f : v.ty.Contents Val) (L : List (View.Piece Val S4x256x128 e)) (n : ℕ) (inb)
    (w : S1x256x128.Idx → Val e) (h : Fin 4) (t : Fin 256) (c : Fin 128) (hn : n < h.val) (X : Val e)
    (hX : v.read Val (v.writes Val f L) (ix3 h t c) = X) :
    v.read Val (v.writes Val f (⟨Rect.unit (s := S4x256x128) ![n, 0, 0] S1x256x128.size inb, w⟩ :: L)) (ix3 h t c) = X := by
  have hd : n + 1 ≤ h.val := by omega
  rw [View.read_writes_cons_unit_of_not_mem v f inb w L (ix3 h t c) rfl (0 : Fin 3) (Or.inr hd)]
  exact hX

theorem skip_col (v : View sig κ sp S256x512 e) (f : v.ty.Contents Val) (L : List (View.Piece Val S256x512 e)) (n : ℕ) (inb)
    (w : S256x128.Idx → Val e) (h : Fin 4) (t : Fin 256) (c : Fin 128) (hn : n + 128 ≤ 128 * h.val) (X : Val e)
    (hX : v.read Val (v.writes Val f L) (ix2 t (col h c)) = X) :
    v.read Val (v.writes Val f (⟨Rect.unit (s := S256x512) ![0, n] S256x128.size inb, w⟩ :: L)) (ix2 t (col h c)) = X := by
  have hd : n + 128 ≤ 128 * h.val + c.val := by omega
  rw [View.read_writes_cons_unit_of_not_mem v f inb w L (ix2 t (col h c)) rfl (1 : Fin 2) (Or.inr hd)]
  exact hX

/-- Another head's store to the slab of a tile leaves this head's rows. -/
theorem skip_slab (v : View sig κ sp S16x512x256 e) (f : v.ty.Contents Val) (L : List (View.Piece Val S16x512x256 e)) (a n : ℕ)
    (off : Fin 3 → ℕ) (ho : off = ![a, n, 0]) (inb)
    (w : S1x128x256.Idx → Val e) (b : Fin 16) (h : Fin 4) (c : Fin 128) (r : Fin 256) (hn : n + 128 ≤ 128 * h.val) (X : Val e)
    (hX : v.read Val (v.writes Val f L) (ix3 b (col h c) r) = X) :
    v.read Val (v.writes Val f (⟨Rect.unit (s := S16x512x256) off S1x128x256.size inb, w⟩ :: L)) (ix3 b (col h c) r) = X := by
  have hd : n + 128 ≤ 128 * h.val + c.val := by omega
  rw [View.read_writes_cons_unit_of_not_mem v f inb w L (ix3 b (col h c) r) ho (1 : Fin 3) (Or.inr hd)]
  exact hX

/-- A store of the whole stack. -/
theorem whole_heads (v : View sig κ sp S4x256x128 e) (f : v.ty.Contents Val) (L : List (View.Piece Val S4x256x128 e)) (inb)
    (w : S4x256x128.Idx → Val e) (x : S4x256x128.Idx) :
    v.read Val (v.writes Val f (⟨Rect.unit (s := S4x256x128) ![0, 0, 0] S4x256x128.size inb, w⟩ :: L)) x = w x :=
  View.read_writes_cons_unit_of_mem v f inb w L x x rfl fun a => match a with
    | ⟨0, _⟩ => (Nat.zero_add _).symm
    | ⟨1, _⟩ => (Nat.zero_add _).symm
    | ⟨2, _⟩ => (Nat.zero_add _).symm

theorem whole_cols (v : View sig κ sp S256x512 e) (f : v.ty.Contents Val) (L : List (View.Piece Val S256x512 e)) (inb)
    (w : S256x512.Idx → Val e) (x : S256x512.Idx) :
    v.read Val (v.writes Val f (⟨Rect.unit (s := S256x512) ![0, 0] S256x512.size inb, w⟩ :: L)) x = w x :=
  View.read_writes_cons_unit_of_mem v f inb w L x x rfl fun a => match a with
    | ⟨0, _⟩ => (Nat.zero_add _).symm
    | ⟨1, _⟩ => (Nat.zero_add _).symm

theorem whole_slabs (v : View sig κ sp S16x512x256 e) (f : v.ty.Contents Val) (L : List (View.Piece Val S16x512x256 e)) (inb)
    (w : S16x512x256.Idx → Val e) (x : S16x512x256.Idx) :
    v.read Val (v.writes Val f (⟨Rect.unit (s := S16x512x256) ![0, 0, 0] S16x512x256.size inb, w⟩ :: L)) x = w x :=
  View.read_writes_cons_unit_of_mem v f inb w L x x rfl fun a => match a with
    | ⟨0, _⟩ => (Nat.zero_add _).symm
    | ⟨1, _⟩ => (Nat.zero_add _).symm
    | ⟨2, _⟩ => (Nat.zero_add _).symm

/-- The four heads' stores over earlier stores. -/
theorem read_heads_on (v : View sig κ sp S4x256x128 e) (f : v.ty.Contents Val) (L : List (View.Piece Val S4x256x128 e)) (i0 i1 i2 i3)
    (w0 w1 w2 w3 : S1x256x128.Idx → Val e) (h : Fin 4) (t : Fin 256) (c : Fin 128) (G : Fin 4 → Val e)
    (g0 : w0 (ix3 (0 : Fin 1) t c) = G 0) (g1 : w1 (ix3 (0 : Fin 1) t c) = G 1) (g2 : w2 (ix3 (0 : Fin 1) t c) = G 2)
    (g3 : w3 (ix3 (0 : Fin 1) t c) = G 3) :
    v.read Val (v.writes Val f (⟨Rect.unit (s := S4x256x128) ![3, 0, 0] S1x256x128.size i3, w3⟩
        :: ⟨Rect.unit (s := S4x256x128) ![2, 0, 0] S1x256x128.size i2, w2⟩
        :: ⟨Rect.unit (s := S4x256x128) ![1, 0, 0] S1x256x128.size i1, w1⟩
        :: ⟨Rect.unit (s := S4x256x128) ![0, 0, 0] S1x256x128.size i0, w0⟩ :: L)) (ix3 h t c)
      = G h :=
  read_heads v (v.writes Val f L) i0 i1 i2 i3 w0 w1 w2 w3 h t c G g0 g1 g2 g3

theorem read_cols_on (v : View sig κ sp S256x512 e) (f : v.ty.Contents Val) (L : List (View.Piece Val S256x512 e)) (i0 i1 i2 i3)
    (w0 w1 w2 w3 : S256x128.Idx → Val e) (h : Fin 4) (t : Fin 256) (c : Fin 128) (G : Fin 4 → Val e)
    (g0 : w0 (ix2 t c) = G 0) (g1 : w1 (ix2 t c) = G 1) (g2 : w2 (ix2 t c) = G 2) (g3 : w3 (ix2 t c) = G 3) :
    v.read Val (v.writes Val f (⟨Rect.unit (s := S256x512) ![0, 384] S256x128.size i3, w3⟩
        :: ⟨Rect.unit (s := S256x512) ![0, 256] S256x128.size i2, w2⟩
        :: ⟨Rect.unit (s := S256x512) ![0, 128] S256x128.size i1, w1⟩
        :: ⟨Rect.unit (s := S256x512) ![0, 0] S256x128.size i0, w0⟩ :: L)) (ix2 t (col h c))
      = G h :=
  read_cols v (v.writes Val f L) i0 i1 i2 i3 w0 w1 w2 w3 h t c G g0 g1 g2 g3

end Stores

/-- A slab's sum whose earlier content is zero. -/
theorem add_slab_zero (m n : ℕ) (L : (⟨3, ![1, m, n]⟩ : Shape).Idx → EReal) (M : FVec Ideal ⟨2, ![m, n]⟩ .f32) (s1 s2)
    (a : Fin m) (b : Fin n) (Y : EReal) (hL : L (ix3 (0 : Fin 1) a b) = 0) (hM : M (ix2 a b) = Y) :
    shapeCast ⟨3, ![1, m, n]⟩ (addf (shapeCast ⟨2, ![m, n]⟩ L s1 : FVec Ideal ⟨2, ![m, n]⟩ .f32) M) s2 (ix3 (0 : Fin 1) a b) = Y :=
  (add_slab m n L M s1 s2 a b 0 Y hL hM).trans (zero_add Y)

theorem add_block_zero {s : Shape} (L : s.Idx → EReal) (M : FVec Ideal s .f32) (hs : s.ShapeCasts s) (i : s.Idx) (Y : EReal)
    (hL : L i = 0) (hM : M i = Y) : shapeCast s (addf (L : FVec Ideal s .f32) M) hs i = Y :=
  (add_block L M hs i 0 Y hL hM).trans (zero_add Y)

/-! ## The three output blocks from their entries -/

section Outputs
variable (B : Blocks) (j : Fin 16)

theorem Blocks.dqOut_of (x F : S16x512x256.Idx → EReal)
    (hF : ∀ b h c r, F (ix3 b (col h c) r) = x (ix3 b (col h c) r) + B.dqAdd j b h c r) : F = B.dqOut j x := by
  funext i
  have hi : i = ix3 (i 0) (col (headOf (i 1)) (laneOf (i 1))) (i 2) :=
    (eq_ix3 i).trans (congrArg (fun k => ix3 (i 0) k (i 2)) (col_head_lane (i 1)).symm)
  have h := hF (i 0) (headOf (i 1)) (laneOf (i 1)) (i 2)
  exact (congrArg F hi).trans (h.trans
    (congrArg (fun y => x y + B.dqAdd j (i 0) (headOf (i 1)) (laneOf (i 1)) (i 2)) hi.symm))

theorem Blocks.dkOut_of (F : S256x512.Idx → EReal)
    (hF : ∀ t h c, F (ix2 t (col h c)) = B.dkSum j h t c * ((Real.log 2 : ℝ) : EReal)) : F = B.dkOut j := by
  funext i
  have hi : i = ix2 (i 0) (col (headOf (i 1)) (laneOf (i 1))) :=
    (eq_ix2 i).trans (congrArg (fun k => ix2 (i 0) k) (col_head_lane (i 1)).symm)
  exact (congrArg F hi).trans (hF (i 0) (headOf (i 1)) (laneOf (i 1)))

theorem Blocks.dvOut_of (F : S256x256.Idx → EReal) (hF : ∀ t l, F (ix2 t l) = B.dvSum j (headOfV l) t (laneOfV l)) :
    F = B.dvOut j :=
  funext fun i => (congrArg F (eq_ix2 i)).trans (hF (i 0) (i 1))

/-- Two stores side by side, one a pair of heads. -/
theorem read_pairs {sig : RefSig} {κ : Kind} {sp : Space} {e : EltTy} {Val : EltTy → Type} (v : View sig κ sp S256x256 e)
    (f : v.ty.Contents Val) (L : List (View.Piece Val S256x256 e)) (i0 i1) (w0 w1 : S256x128.Idx → Val e) (t l : Fin 256)
    (G : Fin 4 → Val e)
    (g0 : w0 (ix2 t (laneOfV l)) = G (if (laneOfV l).val / 64 = 0 then 0 else 1))
    (g1 : w1 (ix2 t (laneOfV l)) = G (if (laneOfV l).val / 64 = 0 then 2 else 3)) :
    v.read Val (v.writes Val f (⟨Rect.unit (s := S256x256) ![0, 128] S256x128.size i1, w1⟩
        :: ⟨Rect.unit (s := S256x256) ![0, 0] S256x128.size i0, w0⟩ :: L)) (ix2 t l) = G (headOfV l) := by
  have hl : (laneOfV l).val = l.val % 128 := rfl
  by_cases hc : l.val < 128
  · rw [View.read_writes_cons_unit_of_not_mem v f i1 w1 _ (ix2 t l) rfl (1 : Fin 2) (Or.inl hc),
      View.read_writes_cons_unit_of_mem v f i0 w0 L (ix2 t l) (ix2 t (laneOfV l)) rfl fun a => match a with
        | ⟨0, _⟩ => (Nat.zero_add _).symm
        | ⟨1, _⟩ => by show l.val = 0 + l.val % 128; omega, g0]
    refine congrArg G (Fin.ext ?_)
    show _ = 2 * (l.val / 128) + l.val % 128 / 64
    split
    · show 0 = _; omega
    · show 1 = _; omega
  · rw [View.read_writes_cons_unit_of_mem v f i1 w1 _ (ix2 t l) (ix2 t (laneOfV l)) rfl fun a => match a with
        | ⟨0, _⟩ => (Nat.zero_add _).symm
        | ⟨1, _⟩ => by show l.val = 128 + l.val % 128; omega, g1]
    refine congrArg G (Fin.ext ?_)
    show _ = 2 * (l.val / 128) + l.val % 128 / 64
    split
    · show 2 = _; omega
    · show 3 = _; omega

/-- The lower head's lanes from one block, the upper head's from another. -/
theorem pair_vec (it : IVec S256x128 32) (a b : FVec Ideal S1x256x128 .f32) (s1 s2 hw) (t : Fin 256) (c : Fin 128) (G : Fin 4 → EReal)
    (p q : Fin 4) (hit : it (ix2 t c) = BitVec.ofNat 32 c.val) (ha : a (ix3 (0 : Fin 1) t c) = G p) (hb : b (ix3 (0 : Fin 1) t c) = G q) :
    truncf .bf16 (select (cmpi .slt it (broadcast S256x128 64#32)) (shapeCast S256x128 a s1 : FVec Ideal S256x128 .f32)
      (shapeCast S256x128 b s2)) hw (ix2 t c) = G (if c.val / 64 = 0 then p else q) := by
  show (if IntOp.cmpi .slt (it (ix2 t c)) 64#32 = 1#1 then shapeCast S256x128 a s1 (ix2 t c) else shapeCast S256x128 b s2 (ix2 t c)) = _
  rw [hit, drop_unit 256 128 a s1, drop_unit 256 128 b s2, ha, hb]
  have hl := low_half c
  by_cases hc : c.val / 64 = 0
  · rw [if_pos (hl.2 hc), if_pos hc]
  · rw [if_neg (fun hm => hc (hl.1 hm)), if_neg hc]

end Outputs

/-- The row and column numbers of a block, as words. -/
theorem iota_rows (h) (t r : Fin 256) : iota .tc S256x256 32 [0] h (ix2 t r) = BitVec.ofNat 32 t.val := iota_single_apply _ _ _ _ h _
theorem iota_cols (h) (t r : Fin 256) : iota .tc S256x256 32 [1] h (ix2 t r) = BitVec.ofNat 32 r.val := iota_single_apply _ _ _ _ h _
theorem iota_lanes (h) (t : Fin 256) (c : Fin 128) : iota .tc S256x128 32 [1] h (ix2 t c) = BitVec.ofNat 32 c.val := iota_single_apply _ _ _ _ h _

end Cert.KernelIdeal.AttnGrad

end
-- ==== Proof.Finish.lean ====
/-
  THE ACCUMULATORS AT THE END OF A GRID POINT: the diagonal step's stores, then the loop over the later tiles. (The loop is
  printed in two pieces; the second one makes no trip.)
-/
module

public import proofs.«01_k».proof.Proof.Loop
public import proofs.«01_k».proof.Proof.Diag

@[expose] public section

set_option maxRecDepth 16384

noncomputable section

namespace Cert.KernelIdeal.AttnGrad

open Idealize.ShloMosaic Idealize.ShloMosaic.ValueIdx Idealize.ShloMosaic.TcCoe Idealize.ShloMosaic.Tactic
open Cert.KernelIdeal Cert.KernelIdeal.Gen
open scoped BigOperators

theorem no_more_trips (i : grid0.Coords) : Scf.trips (k0_t2_loop i).lb (k0_t2_loop i).ub (k0_t2_loop i).st = 0 :=
  Nat.le_zero.mp (k0_t2_abs i).2.1

set_option maxHeartbeats 1000000 in
theorem end_dv (𝒱 : Variants) (d : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (v15 : FVec Ideal S256x512 .bf16) (v19 : FVec Ideal S256x128 .bf16) (v21 : FVec Ideal S256x128 .bf16) (v25 : FVec Ideal S256x128 .bf16) (v27 : FVec Ideal S256x128 .bf16) (v29 : FVec Ideal S512x256 .bf16) (v412 : BitVec 32) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty)
    (B : Blocks) (hq0 : arg2.view.read (Elt Ideal) X_arg2 = B.q) (hg0 : arg6.view.read (Elt Ideal) X_arg6 = B.g)
    (hl0 : arg7.view.read (Elt Ideal) X_arg7 = B.lse) (hd0 : arg8.view.read (Elt Ideal) X_arg8 = B.dl)
    (hk : ∀ t c, v15 (ix2 t c) = B.k (ix2 t c)) (hv0 : ∀ t c, v19 (ix2 t c) = B.v 0 (ix2 t c)) (hv1 : ∀ t c, v21 (ix2 t c) = B.v 1 (ix2 t c))
    (hv2 : ∀ t c, v25 (ix2 t c) = B.v 2 (ix2 t c)) (hv3 : ∀ t c, v27 (ix2 t c) = B.v 3 (ix2 t c)) (hkt : ∀ c t, v29 (ix2 c t) = B.kt (ix2 c t))
    (v417 : BitVec 32) (G9 H9 : BufTy.Contents (Elt Ideal) arg9.view.ty) (G12 H12 : BufTy.Contents (Elt Ideal) arg12.view.ty) (H13 : BufTy.Contents (Elt Ideal) arg13.view.ty)
    (f : BufTy.Contents (Elt Ideal) arg13.view.ty) (D : List (View.Piece (Elt Ideal) S4x256x128 .f32)) (h : Fin 4) (t : Fin 256) (c : Fin 128) (j : Fin 16) (hj : (i 1).val = j.val)
    (hD : arg13.view.read (Elt Ideal) (arg13.view.writes (Elt Ideal) f D) (ix3 h t c) = B.dvTerm true h j t c) :
    arg13.view.read (Elt Ideal) (arg13.view.writes (Elt Ideal) f
        ((pb_k0_t2 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v417 X_arg2 X_arg6 X_arg7 X_arg8 H9 H12 H13 (Scf.trips (k0_t2_loop i).lb (k0_t2_loop i).ub (k0_t2_loop i).st)).2.2
          ++ ((pb_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 G9 G12 (arg13.view.writes (Elt Ideal) f D) (Scf.trips (k0_t1_loop i).lb (k0_t1_loop i).ub (k0_t1_loop i).st)).2.2 ++ D))) (ix3 h t c)
      = B.dvSum j h t c := by
  rw [no_more_trips]
  show arg13.view.read (Elt Ideal) (arg13.view.writes (Elt Ideal) f
    ((pb_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 G9 G12 (arg13.view.writes (Elt Ideal) f D) (Scf.trips (k0_t1_loop i).lb (k0_t1_loop i).ub (k0_t1_loop i).st)).2.2 ++ D)) (ix3 h t c) = _
  rw [View.writes_append]
  refine (loop_dv 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 B hq0 hg0 hl0 hd0 hk hv0 hv1 hv2 hv3 hkt G9 G12 (arg13.view.writes (Elt Ideal) f D) h t c _ le_rfl).trans ?_
  rw [hD, trips_eq, hj]
  rfl

set_option maxHeartbeats 1000000 in
theorem end_dk (𝒱 : Variants) (d : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (v15 : FVec Ideal S256x512 .bf16) (v19 : FVec Ideal S256x128 .bf16) (v21 : FVec Ideal S256x128 .bf16) (v25 : FVec Ideal S256x128 .bf16) (v27 : FVec Ideal S256x128 .bf16) (v29 : FVec Ideal S512x256 .bf16) (v412 : BitVec 32) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty)
    (B : Blocks) (hq0 : arg2.view.read (Elt Ideal) X_arg2 = B.q) (hg0 : arg6.view.read (Elt Ideal) X_arg6 = B.g)
    (hl0 : arg7.view.read (Elt Ideal) X_arg7 = B.lse) (hd0 : arg8.view.read (Elt Ideal) X_arg8 = B.dl)
    (hk : ∀ t c, v15 (ix2 t c) = B.k (ix2 t c)) (hv0 : ∀ t c, v19 (ix2 t c) = B.v 0 (ix2 t c)) (hv1 : ∀ t c, v21 (ix2 t c) = B.v 1 (ix2 t c))
    (hv2 : ∀ t c, v25 (ix2 t c) = B.v 2 (ix2 t c)) (hv3 : ∀ t c, v27 (ix2 t c) = B.v 3 (ix2 t c)) (hkt : ∀ c t, v29 (ix2 c t) = B.kt (ix2 c t))
    (v417 : BitVec 32) (G9 H9 : BufTy.Contents (Elt Ideal) arg9.view.ty) (H12 : BufTy.Contents (Elt Ideal) arg12.view.ty) (G13 H13 : BufTy.Contents (Elt Ideal) arg13.view.ty)
    (f : BufTy.Contents (Elt Ideal) arg12.view.ty) (D : List (View.Piece (Elt Ideal) S256x512 .f32)) (h : Fin 4) (t : Fin 256) (c : Fin 128) (j : Fin 16) (hj : (i 1).val = j.val)
    (hD : arg12.view.read (Elt Ideal) (arg12.view.writes (Elt Ideal) f D) (ix2 t (col h c)) = B.dkTerm true h j t c) :
    arg12.view.read (Elt Ideal) (arg12.view.writes (Elt Ideal) f
        ((pb_k0_t2 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v417 X_arg2 X_arg6 X_arg7 X_arg8 H9 H12 H13 (Scf.trips (k0_t2_loop i).lb (k0_t2_loop i).ub (k0_t2_loop i).st)).2.1
          ++ ((pb_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 G9 (arg12.view.writes (Elt Ideal) f D) G13 (Scf.trips (k0_t1_loop i).lb (k0_t1_loop i).ub (k0_t1_loop i).st)).2.1 ++ D))) (ix2 t (col h c))
      = B.dkSum j h t c := by
  rw [no_more_trips]
  show arg12.view.read (Elt Ideal) (arg12.view.writes (Elt Ideal) f
    ((pb_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 G9 (arg12.view.writes (Elt Ideal) f D) G13 (Scf.trips (k0_t1_loop i).lb (k0_t1_loop i).ub (k0_t1_loop i).st)).2.1 ++ D)) (ix2 t (col h c)) = _
  rw [View.writes_append]
  refine (loop_dk 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 B hq0 hg0 hl0 hd0 hk hv0 hv1 hv2 hv3 hkt G9 (arg12.view.writes (Elt Ideal) f D) G13 h t c _ le_rfl).trans ?_
  rw [hD, trips_eq, hj]
  rfl

set_option maxHeartbeats 1000000 in
theorem end_dq (𝒱 : Variants) (d : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (v15 : FVec Ideal S256x512 .bf16) (v19 : FVec Ideal S256x128 .bf16) (v21 : FVec Ideal S256x128 .bf16) (v25 : FVec Ideal S256x128 .bf16) (v27 : FVec Ideal S256x128 .bf16) (v29 : FVec Ideal S512x256 .bf16) (v412 : BitVec 32) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty)
    (B : Blocks) (hq0 : arg2.view.read (Elt Ideal) X_arg2 = B.q) (hg0 : arg6.view.read (Elt Ideal) X_arg6 = B.g)
    (hl0 : arg7.view.read (Elt Ideal) X_arg7 = B.lse) (hd0 : arg8.view.read (Elt Ideal) X_arg8 = B.dl)
    (hk : ∀ t c, v15 (ix2 t c) = B.k (ix2 t c)) (hv0 : ∀ t c, v19 (ix2 t c) = B.v 0 (ix2 t c)) (hv1 : ∀ t c, v21 (ix2 t c) = B.v 1 (ix2 t c))
    (hv2 : ∀ t c, v25 (ix2 t c) = B.v 2 (ix2 t c)) (hv3 : ∀ t c, v27 (ix2 t c) = B.v 3 (ix2 t c)) (hkt : ∀ c t, v29 (ix2 c t) = B.kt (ix2 c t))
    (v417 : BitVec 32) (H9 : BufTy.Contents (Elt Ideal) arg9.view.ty) (G12 H12 : BufTy.Contents (Elt Ideal) arg12.view.ty) (G13 H13 : BufTy.Contents (Elt Ideal) arg13.view.ty)
    (f : BufTy.Contents (Elt Ideal) arg9.view.ty) (D : List (View.Piece (Elt Ideal) S16x512x256 .f32)) (b : Fin 16) (h : Fin 4) (c : Fin 128) (r : Fin 256) (X : EReal) (j : Fin 16) (hj : (i 1).val = j.val)
    (hD : arg9.view.read (Elt Ideal) (arg9.view.writes (Elt Ideal) f D) (ix3 b (col h c) r) = X + if b = j then B.dqTerm true h b c r else 0) :
    arg9.view.read (Elt Ideal) (arg9.view.writes (Elt Ideal) f
        ((pb_k0_t2 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v417 X_arg2 X_arg6 X_arg7 X_arg8 H9 H12 H13 (Scf.trips (k0_t2_loop i).lb (k0_t2_loop i).ub (k0_t2_loop i).st)).1
          ++ ((pb_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 (arg9.view.writes (Elt Ideal) f D) G12 G13 (Scf.trips (k0_t1_loop i).lb (k0_t1_loop i).ub (k0_t1_loop i).st)).1 ++ D))) (ix3 b (col h c) r)
      = X + B.dqAdd j b h c r := by
  rw [no_more_trips]
  show arg9.view.read (Elt Ideal) (arg9.view.writes (Elt Ideal) f
    ((pb_k0_t1 (F := Ideal) 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 (arg9.view.writes (Elt Ideal) f D) G12 G13 (Scf.trips (k0_t1_loop i).lb (k0_t1_loop i).ub (k0_t1_loop i).st)).1 ++ D)) (ix3 b (col h c) r) = _
  rw [View.writes_append]
  refine (loop_dq 𝒱 d bd i arg2 harg2 arg3 harg3 arg4 harg4 arg5 harg5 arg6 harg6 arg7 harg7 arg8 harg8 arg9 harg9 arg10 harg10 arg11 harg11 arg12 harg12 arg13 harg13 v15 v19 v21 v25 v27 v29 v412 X_arg2 X_arg6 X_arg7 X_arg8 B hq0 hg0 hl0 hd0 hk hv0 hv1 hv2 hv3 hkt (arg9.view.writes (Elt Ideal) f D) G12 G13 b h c r _ le_rfl).trans ?_
  rw [hD, trips_eq, hj]
  have hi : j.val < 16 := j.isLt
  unfold Blocks.dqAdd
  rw [add_assoc]
  refine congrArg (X + ·) ?_
  by_cases hb : b = j
  · have hv : b.val = j.val := congrArg (fun x : Fin 16 => x.val) hb
    rw [if_pos hb, if_pos hb, if_neg (by omega), add_zero]
  · rw [if_neg hb, if_neg hb, zero_add]
    exact if_congr (by omega) rfl rfl

end Cert.KernelIdeal.AttnGrad

end
-- ==== Proof.RunConds.lean ====
/-
  THE CONDITION the body branches on: whether the point is the first of its group of heads.
-/
module

public import proofs.«01_k».proof.Proof.Gen.KernelIdeal
public import proofs.«01_k».proof.Proof.Diag

@[expose] public section

noncomputable section

namespace Cert.KernelIdeal.AttnGrad

open Idealize.ShloMosaic Idealize.ShloMosaic.TcCoe Idealize.ShloMosaic.ValueIdx
open Cert.KernelIdeal

/-- The first key tile. -/
abbrev cond0_0 (i : grid0.Coords) : Prop := (Scalar.cmpi .ne (Scalar.extui (Scalar.cmpi .eq (BitVec.ofNat 32 (i 1).val) 0#32)) 0#32) = 1#1

/-- The half-width word of zero. -/
theorem zero_half : Ideal.ofBits .bf16 0x0000#16 = 0 := by simp [Ideal.ofBits, Ideal.ieee]

end Cert.KernelIdeal.AttnGrad

end
-- ==== Proof.RunA.lean ====
/-
  THE WHOLE BODY at the first key tile of a group of heads, where the block of the gradient of the queries starts at zero:
  what it leaves in its three output blocks.
-/
module

public import proofs.«01_k».proof.Proof.Gen.KernelIdeal.Frame
public import proofs.«01_k».proof.Proof.Gen.KernelIdeal.Loops
public import proofs.«01_k».proof.Proof.Finish
public import proofs.«01_k».proof.Proof.RunConds

@[expose] public section

set_option maxRecDepth 16384

noncomputable section

namespace Cert.KernelIdeal.AttnGrad

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 4000000 in
theorem kernelRun0_A (c0 : Dev nD) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (hc0 : cond0_0 i)
    (x0 : Vec Ideal S4096x512 .bf16) (x1 : Vec Ideal S256x512 .bf16) (x2 : Vec Ideal S256x256 .bf16) (x3 : Vec Ideal S1x512x256 .bf16) (x4 : Vec Ideal S4096x256 .bf16) (x5 : Vec Ideal S16x32x256 .f32) (x6 : Vec Ideal S16x32x256 .f32) :
      ∀ (E : Set ℕ) (K : PUnit → sProp 𝕄),
        iprop(owns (c0 : Thread nD τ) arg2 fullShare x0 ∗ owns (c0 : Thread nD τ) arg3 fullShare x1 ∗ owns (c0 : Thread nD τ) arg4 fullShare x2 ∗ owns (c0 : Thread nD τ) arg5 fullShare x3 ∗ owns (c0 : Thread nD τ) arg6 fullShare x4 ∗ owns (c0 : Thread nD τ) arg7 fullShare x5 ∗ owns (c0 : Thread nD τ) arg8 fullShare x6 ∗ (∃ d, owns (c0 : Thread nD τ) arg9 fullShare d) ∗ (∃ d, owns (c0 : Thread nD τ) arg10 fullShare d) ∗ (∃ d, owns (c0 : Thread nD τ) arg11 fullShare d) ∗ (∃ d, owns (c0 : Thread nD τ) arg12 fullShare d) ∗ (∃ d, owns (c0 : Thread nD τ) arg13 fullShare d)
            ∗ (iprop(owns (c0 : Thread nD τ) arg2 fullShare x0 ∗ owns (c0 : Thread nD τ) arg3 fullShare x1 ∗ owns (c0 : Thread nD τ) arg4 fullShare x2 ∗ owns (c0 : Thread nD τ) arg5 fullShare x3 ∗ owns (c0 : Thread nD τ) arg6 fullShare x4 ∗ owns (c0 : Thread nD τ) arg7 fullShare x5 ∗ owns (c0 : Thread nD τ) arg8 fullShare x6 ∗ owns (c0 : Thread nD τ) arg9 fullShare ((blocks x0 x1 x2 x3 x4 x5 x6).dqOut (i 1) (fun _ => 0)) ∗ owns (c0 : Thread nD τ) arg10 fullShare ((blocks x0 x1 x2 x3 x4 x5 x6).dkOut (i 1)) ∗ owns (c0 : Thread nD τ) arg11 fullShare ((blocks x0 x1 x2 x3 x4 x5 x6).dvOut (i 1)) ∗ (∃ d, owns (c0 : Thread nD τ) arg12 fullShare d) ∗ (∃ d, owns (c0 : Thread nD τ) arg13 fullShare d)) -∗ K ⟨⟩))
          ⊢ wp frame (wpE (defs₀ (F := Ideal)) Variants.none c0 none) E (cc0_attn_bwd i arg2 harg2 arg3 harg3 arg4 harg4 arg5 harg5 arg6 harg6 arg7 harg7 arg8 harg8 arg9 harg9 arg10 harg10 arg11 harg11 arg12 harg12 arg13 harg13) K := by
    intro E K
    simp only [cc0_attn_bwd_eq_skeleton]; unfold cc0_attn_bwd_skel
    simp only [k0_part19_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    have hj : ∃ j : Fin 16, (i 1).val = j.val ∧ i 1 = j := ⟨i 1, rfl, rfl⟩
    obtain ⟨j, hj, hij⟩ := hj
    have hrow : ∀ r : Fin 256, (row j r).val = 256 * (i 1).val + r.val := fun r => by rw [hj]; rfl
    have h3 := (k0_off3_eq i).trans (congrArg (fun n => ![n, 0, 0]) hj)
    have hq := fun (r : Fin 256) (c : Fin 512) => (load_rows_cast 4096 512 256 arg2.view (harg2.unread x0) (k0_off1 i) _ (k0_off1_inb i) (k0_off1_eq i) shapeCasts_S256x512_S256x512 r c (row j r) (hrow r)).trans (congrFun (harg2.read_unread x0) _)
    have hg := fun (r : Fin 256) (c : Fin 256) => (load_rows_cast 4096 256 256 arg6.view (harg6.unread x4) (k0_off2 i) _ (k0_off2_inb i) (k0_off2_eq i) shapeCasts_S256x256_S256x256 r c (row j r) (hrow r)).trans (congrFun (harg6.read_unread x4) _)
    have hl := fun (a : Fin 32) (r : Fin 256) => (load_slab_cast 16 32 256 32 arg7.view (harg7.unread x5) (k0_off3 i) _ 0 (k0_off3_inb i) h3 shapeCasts_S1x32x256_S32x256 a r j a rfl (Nat.zero_add _).symm).trans (congrFun (harg7.read_unread x5) _)
    have hd := fun (a : Fin 32) (r : Fin 256) => (load_slab_cast 16 32 256 32 arg8.view (harg8.unread x6) (k0_off3 i) _ 0 (k0_off3_inb i) h3 shapeCasts_S1x32x256_S32x256 a r j a rfl (Nat.zero_add _).symm).trans (congrFun (harg8.read_unread x6) _)
    have hk := fun (t : Fin 256) (c : Fin 512) => (load_rows_cast 256 512 256 arg3.view (harg3.unread x1) ![0, 0] 0 inb_S256x512_S256x512_0_0 rfl shapeCasts_S256x512_S256x512 t c t (Nat.zero_add _).symm).trans (congrFun (harg3.read_unread x1) _)
    have hkt := fun (c : Fin 512) (t : Fin 256) => (load_slab_cast 1 512 256 512 arg5.view (harg5.unread x3) ![0, 0, 0] 0 0 inb_S1x512x256_S1x512x256_0_0_0 rfl shapeCasts_S1x512x256_S512x256 c t 0 c rfl (Nat.zero_add _).symm).trans (congrFun (harg5.read_unread x3) _)
    have hva := fun (t : Fin 256) (c : Fin 128) => (load_cols_cast arg4.view (harg4.unread x2) 0 inb_S256x256_S256x128_0_0 shapeCasts_S256x128_S256x128 t c (lane 0 c) rfl).trans (congrFun (harg4.read_unread x2) _)
    have hvb := fun (t : Fin 256) (c : Fin 128) => (load_cols_cast arg4.view (harg4.unread x2) 128 inb_S256x256_S256x128_0_128 shapeCasts_S256x128_S256x128 t c (lane 2 c) rfl).trans (congrFun (harg4.read_unread x2) _)
    have hv0 := fun (t : Fin 256) (c : Fin 128) => half_low x2 _ (iota .tc S256x128 32 [1] iota_S256x128_d1_w32) (FloatOps.ofBits .bf16 0x0000#16) 0 rfl t c (iota_lanes _ t c) zero_half (hva t c)
    have hv1 := fun (t : Fin 256) (c : Fin 128) => half_high x2 _ (iota .tc S256x128 32 [1] iota_S256x128_d1_w32) (FloatOps.ofBits .bf16 0x0000#16) 1 rfl t c (iota_lanes _ t c) zero_half (hva t c)
    have hv2 := fun (t : Fin 256) (c : Fin 128) => half_low x2 _ (iota .tc S256x128 32 [1] iota_S256x128_d1_w32) (FloatOps.ofBits .bf16 0x0000#16) 2 rfl t c (iota_lanes _ t c) zero_half (hvb t c)
    have hv3 := fun (t : Fin 256) (c : Fin 128) => half_high x2 _ (iota .tc S256x128 32 [1] iota_S256x128_d1_w32) (FloatOps.ofBits .bf16 0x0000#16) 3 rfl t c (iota_lanes _ t c) zero_half (hvb t c)
    have hkc := fun (t r : Fin 256) => congrArg chunkWord (iota_rows iota_S256x256_d0_w32 t r)
    have hqc := fun (t r : Fin 256) => congrArg chunkWord (iota_cols iota_S256x256_d1_w32 t r)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [hij]
      refine Blocks.dqOut_of _ j (fun _ => 0) _ fun b h c r => ?_
      refine end_dq _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ b h c r _ j hj ?_
      sl_unfold_run_names
      have h4 := (k0_off4_eq i).trans (congrArg (fun n => ![n, 0, 0]) hj)
      have h5 := (k0_off5_eq i).trans (congrArg (fun n => ![n, 128, 0]) hj)
      have h6 := (k0_off6_eq i).trans (congrArg (fun n => ![n, 256, 0]) hj)
      have h7 := (k0_off7_eq i).trans (congrArg (fun n => ![n, 384, 0]) hj)
      refine (read_slab (Val := Elt Ideal) arg9.view _ _ _ _ _ _ _ _ _ _ j h4 h5 h6 h7 _ _ _ _ b h c r
        (fun h => (fun _ => 0) (ix3 j (col h c) r) + (blocks x0 x1 x2 x3 x4 x5 x6).dqTerm true h j c r)
        (add_slab 128 256 _ _ _ _ c r 0 _ ((load_stack 16 512 256 ![1, 128, 256] _ _ _ j.val 0 _ h4 _ j (col 0 c) r rfl rfl rfl).trans ((whole_slabs _ _ _ _ _ _).trans zero_word))
        (dq_vec (blocks x0 x1 x2 x3 x4 x5 x6) true 0 j 0 rfl _ _ (ds_vec (blocks x0 x1 x2 x3 x4 x5 x6) true 0 j 0 0 rfl rfl _ _ _ _ (fun t r => prob_masked (blocks x0 x1 x2 x3 x4 x5 x6) 0 j _ _ _ _ t r (hkc t r) (hqc t r) zero_word (prob_vec (blocks x0 x1 x2 x3 x4 x5 x6) 0 j 0 0 rfl rfl _ _ _ hk hq hl _ _ _ _ t r)) hv0 hg hd _ _ _) hkt _ c r))
        (add_slab 128 256 _ _ _ _ c r 0 _ ((load_stack 16 512 256 ![1, 128, 256] _ _ _ j.val 128 _ h5 _ j (col 1 c) r rfl rfl rfl).trans (skip_slab _ _ _ j.val 0 _ h4 _ _ j 1 c r (by decide) _ ((whole_slabs _ _ _ _ _ _).trans zero_word)))
        (dq_vec (blocks x0 x1 x2 x3 x4 x5 x6) true 1 j 128 rfl _ _ (ds_vec (blocks x0 x1 x2 x3 x4 x5 x6) true 1 j 0 8 rfl rfl _ _ _ _ (fun t r => prob_masked (blocks x0 x1 x2 x3 x4 x5 x6) 1 j _ _ _ _ t r (hkc t r) (hqc t r) zero_word (prob_vec (blocks x0 x1 x2 x3 x4 x5 x6) 1 j 128 8 rfl rfl _ _ _ hk hq hl _ _ _ _ t r)) hv1 hg hd _ _ _) hkt _ c r))
        (add_slab 128 256 _ _ _ _ c r 0 _ ((load_stack 16 512 256 ![1, 128, 256] _ _ _ j.val 256 _ h6 _ j (col 2 c) r rfl rfl rfl).trans (skip_slab _ _ _ j.val 128 _ h5 _ _ j 2 c r (by decide) _ (skip_slab _ _ _ j.val 0 _ h4 _ _ j 2 c r (by decide) _ ((whole_slabs _ _ _ _ _ _).trans zero_word))))
        (dq_vec (blocks x0 x1 x2 x3 x4 x5 x6) true 2 j 256 rfl _ _ (ds_vec (blocks x0 x1 x2 x3 x4 x5 x6) true 2 j 128 16 rfl rfl _ _ _ _ (fun t r => prob_masked (blocks x0 x1 x2 x3 x4 x5 x6) 2 j _ _ _ _ t r (hkc t r) (hqc t r) zero_word (prob_vec (blocks x0 x1 x2 x3 x4 x5 x6) 2 j 256 16 rfl rfl _ _ _ hk hq hl _ _ _ _ t r)) hv2 hg hd _ _ _) hkt _ c r))
        (add_slab 128 256 _ _ _ _ c r 0 _ ((load_stack 16 512 256 ![1, 128, 256] _ _ _ j.val 384 _ h7 _ j (col 3 c) r rfl rfl rfl).trans (skip_slab _ _ _ j.val 256 _ h6 _ _ j 3 c r (by decide) _ (skip_slab _ _ _ j.val 128 _ h5 _ _ j 3 c r (by decide) _ (skip_slab _ _ _ j.val 0 _ h4 _ _ j 3 c r (by decide) _ ((whole_slabs _ _ _ _ _ _).trans zero_word)))))
        (dq_vec (blocks x0 x1 x2 x3 x4 x5 x6) true 3 j 384 rfl _ _ (ds_vec (blocks x0 x1 x2 x3 x4 x5 x6) true 3 j 128 24 rfl rfl _ _ _ _ (fun t r => prob_masked (blocks x0 x1 x2 x3 x4 x5 x6) 3 j _ _ _ _ t r (hkc t r) (hqc t r) zero_word (prob_vec (blocks x0 x1 x2 x3 x4 x5 x6) 3 j 384 24 rfl rfl _ _ _ hk hq hl _ _ _ _ t r)) hv3 hg hd _ _ _) hkt _ c r))).trans ?_
      by_cases hb : b = j
      · rw [if_pos hb, if_pos hb, hb]
      · rw [if_neg hb, if_neg hb, add_zero]
        exact (whole_slabs _ _ _ _ _ _).trans zero_word
    isplitl [H8]
    · iexists _; isplitr; swap; · iexact H8
      ipureintro
      rw [hij]
      refine Blocks.dkOut_of _ j _ fun t h c => (whole_cols _ _ _ _ _ _).trans ?_
      refine congrArg₂ (fun a b : EReal => a * b) ?_ (IdealRules.named_const.ideal_named_scalar _ _ _ _ rfl)
      refine (load_rows 256 512 ![256, 512] arg12.view _ ![0, 0] 0 0 _ rfl (ix2 t (col h c)) t (col h c) (Nat.zero_add _).symm (Nat.zero_add _).symm).trans ?_
      refine end_dk _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ h t c j hj ?_
      sl_unfold_run_names
      exact read_cols_on (Val := Elt Ideal) arg12.view _ _ _ _ _ _ _ _ _ _ h t c (fun h => (blocks x0 x1 x2 x3 x4 x5 x6).dkTerm true h j t c)
        (add_block_zero _ _ _ _ _ ((load_rows 256 512 ![256, 128] _ _ _ 0 0 _ rfl _ t (col 0 c) (Nat.zero_add _).symm rfl).trans ((whole_cols _ _ _ _ _ _).trans zero_word))
        (dk_vec (blocks x0 x1 x2 x3 x4 x5 x6) true 0 j 0 rfl _ _ (ds_vec (blocks x0 x1 x2 x3 x4 x5 x6) true 0 j 0 0 rfl rfl _ _ _ _ (fun t r => prob_masked (blocks x0 x1 x2 x3 x4 x5 x6) 0 j _ _ _ _ t r (hkc t r) (hqc t r) zero_word (prob_vec (blocks x0 x1 x2 x3 x4 x5 x6) 0 j 0 0 rfl rfl _ _ _ hk hq hl _ _ _ _ t r)) hv0 hg hd _ _ _) hq _ t c))
        (add_block_zero _ _ _ _ _ ((load_rows 256 512 ![256, 128] _ _ _ 0 128 _ rfl _ t (col 1 c) (Nat.zero_add _).symm rfl).trans (skip_col _ _ _ 0 _ _ 1 t c (by decide) _ ((whole_cols _ _ _ _ _ _).trans zero_word)))
        (dk_vec (blocks x0 x1 x2 x3 x4 x5 x6) true 1 j 128 rfl _ _ (ds_vec (blocks x0 x1 x2 x3 x4 x5 x6) true 1 j 0 8 rfl rfl _ _ _ _ (fun t r => prob_masked (blocks x0 x1 x2 x3 x4 x5 x6) 1 j _ _ _ _ t r (hkc t r) (hqc t r) zero_word (prob_vec (blocks x0 x1 x2 x3 x4 x5 x6) 1 j 128 8 rfl rfl _ _ _ hk hq hl _ _ _ _ t r)) hv1 hg hd _ _ _) hq _ t c))
        (add_block_zero _ _ _ _ _ ((load_rows 256 512 ![256, 128] _ _ _ 0 256 _ rfl _ t (col 2 c) (Nat.zero_add _).symm rfl).trans (skip_col _ _ _ 128 _ _ 2 t c (by decide) _ (skip_col _ _ _ 0 _ _ 2 t c (by decide) _ ((whole_cols _ _ _ _ _ _).trans zero_word))))
        (dk_vec (blocks x0 x1 x2 x3 x4 x5 x6) true 2 j 256 rfl _ _ (ds_vec (blocks x0 x1 x2 x3 x4 x5 x6) true 2 j 128 16 rfl rfl _ _ _ _ (fun t r => prob_masked (blocks x0 x1 x2 x3 x4 x5 x6) 2 j _ _ _ _ t r (hkc t r) (hqc t r) zero_word (prob_vec (blocks x0 x1 x2 x3 x4 x5 x6) 2 j 256 16 rfl rfl _ _ _ hk hq hl _ _ _ _ t r)) hv2 hg hd _ _ _) hq _ t c))
        (add_block_zero _ _ _ _ _ ((load_rows 256 512 ![256, 128] _ _ _ 0 384 _ rfl _ t (col 3 c) (Nat.zero_add _).symm rfl).trans (skip_col _ _ _ 256 _ _ 3 t c (by decide) _ (skip_col _ _ _ 128 _ _ 3 t c (by decide) _ (skip_col _ _ _ 0 _ _ 3 t c (by decide) _ ((whole_cols _ _ _ _ _ _).trans zero_word)))))
        (dk_vec (blocks x0 x1 x2 x3 x4 x5 x6) true 3 j 384 rfl _ _ (ds_vec (blocks x0 x1 x2 x3 x4 x5 x6) true 3 j 128 24 rfl rfl _ _ _ _ (fun t r => prob_masked (blocks x0 x1 x2 x3 x4 x5 x6) 3 j _ _ _ _ t r (hkc t r) (hqc t r) zero_word (prob_vec (blocks x0 x1 x2 x3 x4 x5 x6) 3 j 384 24 rfl rfl _ _ _ hk hq hl _ _ _ _ t r)) hv3 hg hd _ _ _) hq _ t c))
    isplitl [H9]
    · iexists _; isplitr; swap; · iexact H9
      ipureintro
      have dvD : ∀ (h : Fin 4) (t : Fin 256) (c : Fin 128), arg13.view.read (Elt Ideal) (arg13.view.writes (Elt Ideal) arg13.view.junk (kernelRun0_A.sl.HS1_5 c0 i arg2 harg2 arg3 harg3 arg6 harg6 arg7 harg7 arg13 x0 x1 x4 x5)) (ix3 h t c) = (blocks x0 x1 x2 x3 x4 x5 x6).dvTerm true h j t c := by
        intro h t c
        sl_unfold_run_names
        exact read_heads_on (Val := Elt Ideal) arg13.view _ _ _ _ _ _ _ _ _ _ h t c (fun h => (blocks x0 x1 x2 x3 x4 x5 x6).dvTerm true h j t c)
          (add_slab_zero 256 128 _ _ _ _ t c _ ((load_stack 4 256 128 ![1, 256, 128] _ _ _ 0 0 _ rfl _ 0 t c rfl (Nat.zero_add _).symm rfl).trans ((whole_heads _ _ _ _ _ _).trans zero_word))
        (dv_vec (blocks x0 x1 x2 x3 x4 x5 x6) true 0 j 0 rfl _ _ (fun t r => prob_masked (blocks x0 x1 x2 x3 x4 x5 x6) 0 j _ _ _ _ t r (hkc t r) (hqc t r) zero_word (prob_vec (blocks x0 x1 x2 x3 x4 x5 x6) 0 j 0 0 rfl rfl _ _ _ hk hq hl _ _ _ _ t r)) hg _ t c))
          (add_slab_zero 256 128 _ _ _ _ t c _ ((load_stack 4 256 128 ![1, 256, 128] _ _ _ 1 0 _ rfl _ 1 t c rfl (Nat.zero_add _).symm rfl).trans (skip_head _ _ _ 0 _ _ 1 t c (by decide) _ ((whole_heads _ _ _ _ _ _).trans zero_word)))
        (dv_vec (blocks x0 x1 x2 x3 x4 x5 x6) true 1 j 0 rfl _ _ (fun t r => prob_masked (blocks x0 x1 x2 x3 x4 x5 x6) 1 j _ _ _ _ t r (hkc t r) (hqc t r) zero_word (prob_vec (blocks x0 x1 x2 x3 x4 x5 x6) 1 j 128 8 rfl rfl _ _ _ hk hq hl _ _ _ _ t r)) hg _ t c))
          (add_slab_zero 256 128 _ _ _ _ t c _ ((load_stack 4 256 128 ![1, 256, 128] _ _ _ 2 0 _ rfl _ 2 t c rfl (Nat.zero_add _).symm rfl).trans (skip_head _ _ _ 1 _ _ 2 t c (by decide) _ (skip_head _ _ _ 0 _ _ 2 t c (by decide) _ ((whole_heads _ _ _ _ _ _).trans zero_word))))
        (dv_vec (blocks x0 x1 x2 x3 x4 x5 x6) true 2 j 128 rfl _ _ (fun t r => prob_masked (blocks x0 x1 x2 x3 x4 x5 x6) 2 j _ _ _ _ t r (hkc t r) (hqc t r) zero_word (prob_vec (blocks x0 x1 x2 x3 x4 x5 x6) 2 j 256 16 rfl rfl _ _ _ hk hq hl _ _ _ _ t r)) hg _ t c))
          (add_slab_zero 256 128 _ _ _ _ t c _ ((load_stack 4 256 128 ![1, 256, 128] _ _ _ 3 0 _ rfl _ 3 t c rfl (Nat.zero_add _).symm rfl).trans (skip_head _ _ _ 2 _ _ 3 t c (by decide) _ (skip_head _ _ _ 1 _ _ 3 t c (by decide) _ (skip_head _ _ _ 0 _ _ 3 t c (by decide) _ ((whole_heads _ _ _ _ _ _).trans zero_word)))))
        (dv_vec (blocks x0 x1 x2 x3 x4 x5 x6) true 3 j 128 rfl _ _ (fun t r => prob_masked (blocks x0 x1 x2 x3 x4 x5 x6) 3 j _ _ _ _ t r (hkc t r) (hqc t r) zero_word (prob_vec (blocks x0 x1 x2 x3 x4 x5 x6) 3 j 384 24 rfl rfl _ _ _ hk hq hl _ _ _ _ t r)) hg _ t c))
      rw [hij]
      refine Blocks.dvOut_of _ j _ fun t l => ?_
      refine read_pairs (Val := Elt Ideal) arg11.view _ [] _ _ _ _ t l (fun h => (blocks x0 x1 x2 x3 x4 x5 x6).dvSum j h t (laneOfV l))
        (pair_vec _ _ _ _ _ _ t (laneOfV l) (fun h => (blocks x0 x1 x2 x3 x4 x5 x6).dvSum j h t (laneOfV l)) 0 1 (iota_lanes iota_S256x128_d1_w32 t (laneOfV l)) ?_ ?_)
        (pair_vec _ _ _ _ _ _ t (laneOfV l) (fun h => (blocks x0 x1 x2 x3 x4 x5 x6).dvSum j h t (laneOfV l)) 2 3 (iota_lanes iota_S256x128_d1_w32 t (laneOfV l)) ?_ ?_)
      · refine (load_stack 4 256 128 ![1, 256, 128] arg13.view _ ![0, 0, 0] 0 0 _ rfl (ix3 (0 : Fin 1) t (laneOfV l)) 0 t (laneOfV l) rfl (Nat.zero_add _).symm rfl).trans ?_
        refine end_dv _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ 0 t (laneOfV l) j hj ?_
        exact dvD 0 t (laneOfV l)
      · refine (load_stack 4 256 128 ![1, 256, 128] arg13.view _ ![1, 0, 0] 1 0 _ rfl (ix3 (0 : Fin 1) t (laneOfV l)) 1 t (laneOfV l) rfl (Nat.zero_add _).symm rfl).trans ?_
        refine end_dv _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ 1 t (laneOfV l) j hj ?_
        exact dvD 1 t (laneOfV l)
      · refine (load_stack 4 256 128 ![1, 256, 128] arg13.view _ ![2, 0, 0] 2 0 _ rfl (ix3 (0 : Fin 1) t (laneOfV l)) 2 t (laneOfV l) rfl (Nat.zero_add _).symm rfl).trans ?_
        refine end_dv _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ 2 t (laneOfV l) j hj ?_
        exact dvD 2 t (laneOfV l)
      · refine (load_stack 4 256 128 ![1, 256, 128] arg13.view _ ![3, 0, 0] 3 0 _ rfl (ix3 (0 : Fin 1) t (laneOfV l)) 3 t (laneOfV l) rfl (Nat.zero_add _).symm rfl).trans ?_
        refine end_dv _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ 3 t (laneOfV l) j hj ?_
        exact dvD 3 t (laneOfV l)
    isplitl [HS0]
    · iexists _, _; isplitr; swap; · iexact HS0
      ipureintro; rfl
    iexists _, _; isplitr; swap; · iexact HS1
    ipureintro; rfl

end Cert.KernelIdeal.AttnGrad

end
-- ==== Proof.RunB.lean ====
/-
  THE WHOLE BODY at a later key tile of a group of heads, where the block of the gradient of the queries is added to: what
  it leaves in its three output blocks.
-/
module

public import proofs.«01_k».proof.Proof.Gen.KernelIdeal.Frame
public import proofs.«01_k».proof.Proof.Gen.KernelIdeal.Loops
public import proofs.«01_k».proof.Proof.Finish
public import proofs.«01_k».proof.Proof.RunConds

@[expose] public section

set_option maxRecDepth 16384

noncomputable section

namespace Cert.KernelIdeal.AttnGrad

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 4000000 in
theorem kernelRun0_B (c0 : Dev nD) (i : grid0.Coords) (arg2 : Memref sig .tc .vmem S4096x512 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S1x512x256 .bf16) (harg5 : arg5.IsWhole) (arg6 : Memref sig .tc .vmem S4096x256 .bf16) (harg6 : arg6.IsWhole) (arg7 : Memref sig .tc .vmem S16x32x256 .f32) (harg7 : arg7.IsWhole) (arg8 : Memref sig .tc .vmem S16x32x256 .f32) (harg8 : arg8.IsWhole) (arg9 : Memref sig .tc .vmem S16x512x256 .f32) (harg9 : arg9.IsWhole) (arg10 : Memref sig .tc .vmem S256x512 .bf16) (harg10 : arg10.IsWhole) (arg11 : Memref sig .tc .vmem S256x256 .bf16) (harg11 : arg11.IsWhole) (arg12 : Memref sig .tc .vmem S256x512 .f32) (harg12 : arg12.IsWhole) (arg13 : Memref sig .tc .vmem S4x256x128 .f32) (harg13 : arg13.IsWhole) (hc0 : ¬cond0_0 i)
    (x0 : Vec Ideal S4096x512 .bf16) (x1 : Vec Ideal S256x512 .bf16) (x2 : Vec Ideal S256x256 .bf16) (x3 : Vec Ideal S1x512x256 .bf16) (x4 : Vec Ideal S4096x256 .bf16) (x5 : Vec Ideal S16x32x256 .f32) (x6 : Vec Ideal S16x32x256 .f32) (x7 : Vec Ideal S16x512x256 .f32) :
      ∀ (E : Set ℕ) (K : PUnit → sProp 𝕄),
        iprop(owns (c0 : Thread nD τ) arg2 fullShare x0 ∗ owns (c0 : Thread nD τ) arg3 fullShare x1 ∗ owns (c0 : Thread nD τ) arg4 fullShare x2 ∗ owns (c0 : Thread nD τ) arg5 fullShare x3 ∗ owns (c0 : Thread nD τ) arg6 fullShare x4 ∗ owns (c0 : Thread nD τ) arg7 fullShare x5 ∗ owns (c0 : Thread nD τ) arg8 fullShare x6 ∗ owns (c0 : Thread nD τ) arg9 fullShare x7 ∗ (∃ d, owns (c0 : Thread nD τ) arg10 fullShare d) ∗ (∃ d, owns (c0 : Thread nD τ) arg11 fullShare d) ∗ (∃ d, owns (c0 : Thread nD τ) arg12 fullShare d) ∗ (∃ d, owns (c0 : Thread nD τ) arg13 fullShare d)
            ∗ (iprop(owns (c0 : Thread nD τ) arg2 fullShare x0 ∗ owns (c0 : Thread nD τ) arg3 fullShare x1 ∗ owns (c0 : Thread nD τ) arg4 fullShare x2 ∗ owns (c0 : Thread nD τ) arg5 fullShare x3 ∗ owns (c0 : Thread nD τ) arg6 fullShare x4 ∗ owns (c0 : Thread nD τ) arg7 fullShare x5 ∗ owns (c0 : Thread nD τ) arg8 fullShare x6 ∗ owns (c0 : Thread nD τ) arg9 fullShare ((blocks x0 x1 x2 x3 x4 x5 x6).dqOut (i 1) x7) ∗ owns (c0 : Thread nD τ) arg10 fullShare ((blocks x0 x1 x2 x3 x4 x5 x6).dkOut (i 1)) ∗ owns (c0 : Thread nD τ) arg11 fullShare ((blocks x0 x1 x2 x3 x4 x5 x6).dvOut (i 1)) ∗ (∃ d, owns (c0 : Thread nD τ) arg12 fullShare d) ∗ (∃ d, owns (c0 : Thread nD τ) arg13 fullShare d)) -∗ K ⟨⟩))
          ⊢ wp frame (wpE (defs₀ (F := Ideal)) Variants.none c0 none) E (cc0_attn_bwd i arg2 harg2 arg3 harg3 arg4 harg4 arg5 harg5 arg6 harg6 arg7 harg7 arg8 harg8 arg9 harg9 arg10 harg10 arg11 harg11 arg12 harg12 arg13 harg13) K := by
    intro E K
    simp only [cc0_attn_bwd_eq_skeleton]; unfold cc0_attn_bwd_skel
    simp only [k0_part19_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    have hj : ∃ j : Fin 16, (i 1).val = j.val ∧ i 1 = j := ⟨i 1, rfl, rfl⟩
    obtain ⟨j, hj, hij⟩ := hj
    have hrow : ∀ r : Fin 256, (row j r).val = 256 * (i 1).val + r.val := fun r => by rw [hj]; rfl
    have h3 := (k0_off3_eq i).trans (congrArg (fun n => ![n, 0, 0]) hj)
    have hq := fun (r : Fin 256) (c : Fin 512) => (load_rows_cast 4096 512 256 arg2.view (harg2.unread x0) (k0_off1 i) _ (k0_off1_inb i) (k0_off1_eq i) shapeCasts_S256x512_S256x512 r c (row j r) (hrow r)).trans (congrFun (harg2.read_unread x0) _)
    have hg := fun (r : Fin 256) (c : Fin 256) => (load_rows_cast 4096 256 256 arg6.view (harg6.unread x4) (k0_off2 i) _ (k0_off2_inb i) (k0_off2_eq i) shapeCasts_S256x256_S256x256 r c (row j r) (hrow r)).trans (congrFun (harg6.read_unread x4) _)
    have hl := fun (a : Fin 32) (r : Fin 256) => (load_slab_cast 16 32 256 32 arg7.view (harg7.unread x5) (k0_off3 i) _ 0 (k0_off3_inb i) h3 shapeCasts_S1x32x256_S32x256 a r j a rfl (Nat.zero_add _).symm).trans (congrFun (harg7.read_unread x5) _)
    have hd := fun (a : Fin 32) (r : Fin 256) => (load_slab_cast 16 32 256 32 arg8.view (harg8.unread x6) (k0_off3 i) _ 0 (k0_off3_inb i) h3 shapeCasts_S1x32x256_S32x256 a r j a rfl (Nat.zero_add _).symm).trans (congrFun (harg8.read_unread x6) _)
    have hk := fun (t : Fin 256) (c : Fin 512) => (load_rows_cast 256 512 256 arg3.view (harg3.unread x1) ![0, 0] 0 inb_S256x512_S256x512_0_0 rfl shapeCasts_S256x512_S256x512 t c t (Nat.zero_add _).symm).trans (congrFun (harg3.read_unread x1) _)
    have hkt := fun (c : Fin 512) (t : Fin 256) => (load_slab_cast 1 512 256 512 arg5.view (harg5.unread x3) ![0, 0, 0] 0 0 inb_S1x512x256_S1x512x256_0_0_0 rfl shapeCasts_S1x512x256_S512x256 c t 0 c rfl (Nat.zero_add _).symm).trans (congrFun (harg5.read_unread x3) _)
    have hva := fun (t : Fin 256) (c : Fin 128) => (load_cols_cast arg4.view (harg4.unread x2) 0 inb_S256x256_S256x128_0_0 shapeCasts_S256x128_S256x128 t c (lane 0 c) rfl).trans (congrFun (harg4.read_unread x2) _)
    have hvb := fun (t : Fin 256) (c : Fin 128) => (load_cols_cast arg4.view (harg4.unread x2) 128 inb_S256x256_S256x128_0_128 shapeCasts_S256x128_S256x128 t c (lane 2 c) rfl).trans (congrFun (harg4.read_unread x2) _)
    have hv0 := fun (t : Fin 256) (c : Fin 128) => half_low x2 _ (iota .tc S256x128 32 [1] iota_S256x128_d1_w32) (FloatOps.ofBits .bf16 0x0000#16) 0 rfl t c (iota_lanes _ t c) zero_half (hva t c)
    have hv1 := fun (t : Fin 256) (c : Fin 128) => half_high x2 _ (iota .tc S256x128 32 [1] iota_S256x128_d1_w32) (FloatOps.ofBits .bf16 0x0000#16) 1 rfl t c (iota_lanes _ t c) zero_half (hva t c)
    have hv2 := fun (t : Fin 256) (c : Fin 128) => half_low x2 _ (iota .tc S256x128 32 [1] iota_S256x128_d1_w32) (FloatOps.ofBits .bf16 0x0000#16) 2 rfl t c (iota_lanes _ t c) zero_half (hvb t c)
    have hv3 := fun (t : Fin 256) (c : Fin 128) => half_high x2 _ (iota .tc S256x128 32 [1] iota_S256x128_d1_w32) (FloatOps.ofBits .bf16 0x0000#16) 3 rfl t c (iota_lanes _ t c) zero_half (hvb t c)
    have hkc := fun (t r : Fin 256) => congrArg chunkWord (iota_rows iota_S256x256_d0_w32 t r)
    have hqc := fun (t r : Fin 256) => congrArg chunkWord (iota_cols iota_S256x256_d1_w32 t r)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [hij]
      refine Blocks.dqOut_of _ j x7 _ fun b h c r => ?_
      refine end_dq _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ b h c r _ j hj ?_
      sl_unfold_run_names
      have h4 := (k0_off4_eq i).trans (congrArg (fun n => ![n, 0, 0]) hj)
      have h5 := (k0_off5_eq i).trans (congrArg (fun n => ![n, 128, 0]) hj)
      have h6 := (k0_off6_eq i).trans (congrArg (fun n => ![n, 256, 0]) hj)
      have h7 := (k0_off7_eq i).trans (congrArg (fun n => ![n, 384, 0]) hj)
      refine (read_slab (Val := Elt Ideal) arg9.view _ _ _ _ _ _ _ _ _ _ j h4 h5 h6 h7 _ _ _ _ b h c r
        (fun h => x7 (ix3 j (col h c) r) + (blocks x0 x1 x2 x3 x4 x5 x6).dqTerm true h j c r)
        (add_slab 128 256 _ _ _ _ c r (x7 (ix3 j (col 0 c) r)) _ ((load_stack 16 512 256 ![1, 128, 256] _ _ _ j.val 0 _ h4 _ j (col 0 c) r rfl rfl rfl).trans (congrFun (harg9.read_unread x7) _))
        (dq_vec (blocks x0 x1 x2 x3 x4 x5 x6) true 0 j 0 rfl _ _ (ds_vec (blocks x0 x1 x2 x3 x4 x5 x6) true 0 j 0 0 rfl rfl _ _ _ _ (fun t r => prob_masked (blocks x0 x1 x2 x3 x4 x5 x6) 0 j _ _ _ _ t r (hkc t r) (hqc t r) zero_word (prob_vec (blocks x0 x1 x2 x3 x4 x5 x6) 0 j 0 0 rfl rfl _ _ _ hk hq hl _ _ _ _ t r)) hv0 hg hd _ _ _) hkt _ c r))
        (add_slab 128 256 _ _ _ _ c r (x7 (ix3 j (col 1 c) r)) _ ((load_stack 16 512 256 ![1, 128, 256] _ _ _ j.val 128 _ h5 _ j (col 1 c) r rfl rfl rfl).trans (congrFun (harg9.read_unread x7) _))
        (dq_vec (blocks x0 x1 x2 x3 x4 x5 x6) true 1 j 128 rfl _ _ (ds_vec (blocks x0 x1 x2 x3 x4 x5 x6) true 1 j 0 8 rfl rfl _ _ _ _ (fun t r => prob_masked (blocks x0 x1 x2 x3 x4 x5 x6) 1 j _ _ _ _ t r (hkc t r) (hqc t r) zero_word (prob_vec (blocks x0 x1 x2 x3 x4 x5 x6) 1 j 128 8 rfl rfl _ _ _ hk hq hl _ _ _ _ t r)) hv1 hg hd _ _ _) hkt _ c r))
        (add_slab 128 256 _ _ _ _ c r (x7 (ix3 j (col 2 c) r)) _ ((load_stack 16 512 256 ![1, 128, 256] _ _ _ j.val 256 _ h6 _ j (col 2 c) r rfl rfl rfl).trans (congrFun (harg9.read_unread x7) _))
        (dq_vec (blocks x0 x1 x2 x3 x4 x5 x6) true 2 j 256 rfl _ _ (ds_vec (blocks x0 x1 x2 x3 x4 x5 x6) true 2 j 128 16 rfl rfl _ _ _ _ (fun t r => prob_masked (blocks x0 x1 x2 x3 x4 x5 x6) 2 j _ _ _ _ t r (hkc t r) (hqc t r) zero_word (prob_vec (blocks x0 x1 x2 x3 x4 x5 x6) 2 j 256 16 rfl rfl _ _ _ hk hq hl _ _ _ _ t r)) hv2 hg hd _ _ _) hkt _ c r))
        (add_slab 128 256 _ _ _ _ c r (x7 (ix3 j (col 3 c) r)) _ ((load_stack 16 512 256 ![1, 128, 256] _ _ _ j.val 384 _ h7 _ j (col 3 c) r rfl rfl rfl).trans (congrFun (harg9.read_unread x7) _))
        (dq_vec (blocks x0 x1 x2 x3 x4 x5 x6) true 3 j 384 rfl _ _ (ds_vec (blocks x0 x1 x2 x3 x4 x5 x6) true 3 j 128 24 rfl rfl _ _ _ _ (fun t r => prob_masked (blocks x0 x1 x2 x3 x4 x5 x6) 3 j _ _ _ _ t r (hkc t r) (hqc t r) zero_word (prob_vec (blocks x0 x1 x2 x3 x4 x5 x6) 3 j 384 24 rfl rfl _ _ _ hk hq hl _ _ _ _ t r)) hv3 hg hd _ _ _) hkt _ c r))).trans ?_
      by_cases hb : b = j
      · rw [if_pos hb, if_pos hb, hb]
      · rw [if_neg hb, if_neg hb, add_zero]
        exact congrFun (harg9.read_unread x7) _
    isplitl [H8]
    · iexists _; isplitr; swap; · iexact H8
      ipureintro
      rw [hij]
      refine Blocks.dkOut_of _ j _ fun t h c => (whole_cols _ _ _ _ _ _).trans ?_
      refine congrArg₂ (fun a b : EReal => a * b) ?_ (IdealRules.named_const.ideal_named_scalar _ _ _ _ rfl)
      refine (load_rows 256 512 ![256, 512] arg12.view _ ![0, 0] 0 0 _ rfl (ix2 t (col h c)) t (col h c) (Nat.zero_add _).symm (Nat.zero_add _).symm).trans ?_
      refine end_dk _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ h t c j hj ?_
      sl_unfold_run_names
      exact read_cols_on (Val := Elt Ideal) arg12.view _ _ _ _ _ _ _ _ _ _ h t c (fun h => (blocks x0 x1 x2 x3 x4 x5 x6).dkTerm true h j t c)
        (add_block_zero _ _ _ _ _ ((load_rows 256 512 ![256, 128] _ _ _ 0 0 _ rfl _ t (col 0 c) (Nat.zero_add _).symm rfl).trans ((whole_cols _ _ _ _ _ _).trans zero_word))
        (dk_vec (blocks x0 x1 x2 x3 x4 x5 x6) true 0 j 0 rfl _ _ (ds_vec (blocks x0 x1 x2 x3 x4 x5 x6) true 0 j 0 0 rfl rfl _ _ _ _ (fun t r => prob_masked (blocks x0 x1 x2 x3 x4 x5 x6) 0 j _ _ _ _ t r (hkc t r) (hqc t r) zero_word (prob_vec (blocks x0 x1 x2 x3 x4 x5 x6) 0 j 0 0 rfl rfl _ _ _ hk hq hl _ _ _ _ t r)) hv0 hg hd _ _ _) hq _ t c))
        (add_block_zero _ _ _ _ _ ((load_rows 256 512 ![256, 128] _ _ _ 0 128 _ rfl _ t (col 1 c) (Nat.zero_add _).symm rfl).trans (skip_col _ _ _ 0 _ _ 1 t c (by decide) _ ((whole_cols _ _ _ _ _ _).trans zero_word)))
        (dk_vec (blocks x0 x1 x2 x3 x4 x5 x6) true 1 j 128 rfl _ _ (ds_vec (blocks x0 x1 x2 x3 x4 x5 x6) true 1 j 0 8 rfl rfl _ _ _ _ (fun t r => prob_masked (blocks x0 x1 x2 x3 x4 x5 x6) 1 j _ _ _ _ t r (hkc t r) (hqc t r) zero_word (prob_vec (blocks x0 x1 x2 x3 x4 x5 x6) 1 j 128 8 rfl rfl _ _ _ hk hq hl _ _ _ _ t r)) hv1 hg hd _ _ _) hq _ t c))
        (add_block_zero _ _ _ _ _ ((load_rows 256 512 ![256, 128] _ _ _ 0 256 _ rfl _ t (col 2 c) (Nat.zero_add _).symm rfl).trans (skip_col _ _ _ 128 _ _ 2 t c (by decide) _ (skip_col _ _ _ 0 _ _ 2 t c (by decide) _ ((whole_cols _ _ _ _ _ _).trans zero_word))))
        (dk_vec (blocks x0 x1 x2 x3 x4 x5 x6) true 2 j 256 rfl _ _ (ds_vec (blocks x0 x1 x2 x3 x4 x5 x6) true 2 j 128 16 rfl rfl _ _ _ _ (fun t r => prob_masked (blocks x0 x1 x2 x3 x4 x5 x6) 2 j _ _ _ _ t r (hkc t r) (hqc t r) zero_word (prob_vec (blocks x0 x1 x2 x3 x4 x5 x6) 2 j 256 16 rfl rfl _ _ _ hk hq hl _ _ _ _ t r)) hv2 hg hd _ _ _) hq _ t c))
        (add_block_zero _ _ _ _ _ ((load_rows 256 512 ![256, 128] _ _ _ 0 384 _ rfl _ t (col 3 c) (Nat.zero_add _).symm rfl).trans (skip_col _ _ _ 256 _ _ 3 t c (by decide) _ (skip_col _ _ _ 128 _ _ 3 t c (by decide) _ (skip_col _ _ _ 0 _ _ 3 t c (by decide) _ ((whole_cols _ _ _ _ _ _).trans zero_word)))))
        (dk_vec (blocks x0 x1 x2 x3 x4 x5 x6) true 3 j 384 rfl _ _ (ds_vec (blocks x0 x1 x2 x3 x4 x5 x6) true 3 j 128 24 rfl rfl _ _ _ _ (fun t r => prob_masked (blocks x0 x1 x2 x3 x4 x5 x6) 3 j _ _ _ _ t r (hkc t r) (hqc t r) zero_word (prob_vec (blocks x0 x1 x2 x3 x4 x5 x6) 3 j 384 24 rfl rfl _ _ _ hk hq hl _ _ _ _ t r)) hv3 hg hd _ _ _) hq _ t c))
    isplitl [H9]
    · iexists _; isplitr; swap; · iexact H9
      ipureintro
      have dvD : ∀ (h : Fin 4) (t : Fin 256) (c : Fin 128), arg13.view.read (Elt Ideal) (arg13.view.writes (Elt Ideal) arg13.view.junk (kernelRun0_B.sl.HS1_5 c0 i arg2 harg2 arg3 harg3 arg6 harg6 arg7 harg7 arg13 x0 x1 x4 x5)) (ix3 h t c) = (blocks x0 x1 x2 x3 x4 x5 x6).dvTerm true h j t c := by
        intro h t c
        sl_unfold_run_names
        exact read_heads_on (Val := Elt Ideal) arg13.view _ _ _ _ _ _ _ _ _ _ h t c (fun h => (blocks x0 x1 x2 x3 x4 x5 x6).dvTerm true h j t c)
          (add_slab_zero 256 128 _ _ _ _ t c _ ((load_stack 4 256 128 ![1, 256, 128] _ _ _ 0 0 _ rfl _ 0 t c rfl (Nat.zero_add _).symm rfl).trans ((whole_heads _ _ _ _ _ _).trans zero_word))
        (dv_vec (blocks x0 x1 x2 x3 x4 x5 x6) true 0 j 0 rfl _ _ (fun t r => prob_masked (blocks x0 x1 x2 x3 x4 x5 x6) 0 j _ _ _ _ t r (hkc t r) (hqc t r) zero_word (prob_vec (blocks x0 x1 x2 x3 x4 x5 x6) 0 j 0 0 rfl rfl _ _ _ hk hq hl _ _ _ _ t r)) hg _ t c))
          (add_slab_zero 256 128 _ _ _ _ t c _ ((load_stack 4 256 128 ![1, 256, 128] _ _ _ 1 0 _ rfl _ 1 t c rfl (Nat.zero_add _).symm rfl).trans (skip_head _ _ _ 0 _ _ 1 t c (by decide) _ ((whole_heads _ _ _ _ _ _).trans zero_word)))
        (dv_vec (blocks x0 x1 x2 x3 x4 x5 x6) true 1 j 0 rfl _ _ (fun t r => prob_masked (blocks x0 x1 x2 x3 x4 x5 x6) 1 j _ _ _ _ t r (hkc t r) (hqc t r) zero_word (prob_vec (blocks x0 x1 x2 x3 x4 x5 x6) 1 j 128 8 rfl rfl _ _ _ hk hq hl _ _ _ _ t r)) hg _ t c))
          (add_slab_zero 256 128 _ _ _ _ t c _ ((load_stack 4 256 128 ![1, 256, 128] _ _ _ 2 0 _ rfl _ 2 t c rfl (Nat.zero_add _).symm rfl).trans (skip_head _ _ _ 1 _ _ 2 t c (by decide) _ (skip_head _ _ _ 0 _ _ 2 t c (by decide) _ ((whole_heads _ _ _ _ _ _).trans zero_word))))
        (dv_vec (blocks x0 x1 x2 x3 x4 x5 x6) true 2 j 128 rfl _ _ (fun t r => prob_masked (blocks x0 x1 x2 x3 x4 x5 x6) 2 j _ _ _ _ t r (hkc t r) (hqc t r) zero_word (prob_vec (blocks x0 x1 x2 x3 x4 x5 x6) 2 j 256 16 rfl rfl _ _ _ hk hq hl _ _ _ _ t r)) hg _ t c))
          (add_slab_zero 256 128 _ _ _ _ t c _ ((load_stack 4 256 128 ![1, 256, 128] _ _ _ 3 0 _ rfl _ 3 t c rfl (Nat.zero_add _).symm rfl).trans (skip_head _ _ _ 2 _ _ 3 t c (by decide) _ (skip_head _ _ _ 1 _ _ 3 t c (by decide) _ (skip_head _ _ _ 0 _ _ 3 t c (by decide) _ ((whole_heads _ _ _ _ _ _).trans zero_word)))))
        (dv_vec (blocks x0 x1 x2 x3 x4 x5 x6) true 3 j 128 rfl _ _ (fun t r => prob_masked (blocks x0 x1 x2 x3 x4 x5 x6) 3 j _ _ _ _ t r (hkc t r) (hqc t r) zero_word (prob_vec (blocks x0 x1 x2 x3 x4 x5 x6) 3 j 384 24 rfl rfl _ _ _ hk hq hl _ _ _ _ t r)) hg _ t c))
      rw [hij]
      refine Blocks.dvOut_of _ j _ fun t l => ?_
      refine read_pairs (Val := Elt Ideal) arg11.view _ [] _ _ _ _ t l (fun h => (blocks x0 x1 x2 x3 x4 x5 x6).dvSum j h t (laneOfV l))
        (pair_vec _ _ _ _ _ _ t (laneOfV l) (fun h => (blocks x0 x1 x2 x3 x4 x5 x6).dvSum j h t (laneOfV l)) 0 1 (iota_lanes iota_S256x128_d1_w32 t (laneOfV l)) ?_ ?_)
        (pair_vec _ _ _ _ _ _ t (laneOfV l) (fun h => (blocks x0 x1 x2 x3 x4 x5 x6).dvSum j h t (laneOfV l)) 2 3 (iota_lanes iota_S256x128_d1_w32 t (laneOfV l)) ?_ ?_)
      · refine (load_stack 4 256 128 ![1, 256, 128] arg13.view _ ![0, 0, 0] 0 0 _ rfl (ix3 (0 : Fin 1) t (laneOfV l)) 0 t (laneOfV l) rfl (Nat.zero_add _).symm rfl).trans ?_
        refine end_dv _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ 0 t (laneOfV l) j hj ?_
        exact dvD 0 t (laneOfV l)
      · refine (load_stack 4 256 128 ![1, 256, 128] arg13.view _ ![1, 0, 0] 1 0 _ rfl (ix3 (0 : Fin 1) t (laneOfV l)) 1 t (laneOfV l) rfl (Nat.zero_add _).symm rfl).trans ?_
        refine end_dv _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ 1 t (laneOfV l) j hj ?_
        exact dvD 1 t (laneOfV l)
      · refine (load_stack 4 256 128 ![1, 256, 128] arg13.view _ ![2, 0, 0] 2 0 _ rfl (ix3 (0 : Fin 1) t (laneOfV l)) 2 t (laneOfV l) rfl (Nat.zero_add _).symm rfl).trans ?_
        refine end_dv _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ 2 t (laneOfV l) j hj ?_
        exact dvD 2 t (laneOfV l)
      · refine (load_stack 4 256 128 ![1, 256, 128] arg13.view _ ![3, 0, 0] 3 0 _ rfl (ix3 (0 : Fin 1) t (laneOfV l)) 3 t (laneOfV l) rfl (Nat.zero_add _).symm rfl).trans ?_
        refine end_dv _ _ _ _ _ _ _ _ _ _ _ _ _ _ _ _ _ _ _ _ _ _ _ _ _ _ _ _ _ _ _ _ _ _ _ _ _ _ _ (blocks x0 x1 x2 x3 x4 x5 x6) (harg2.read_unread x0) (harg6.read_unread x4) (harg7.read_unread x5) (harg8.read_unread x6) hk hv0 hv1 hv2 hv3 hkt _ _ _ _ _ _ _ _ 3 t (laneOfV l) j hj ?_
        exact dvD 3 t (laneOfV l)
    isplitl [HS0]
    · iexists _, _; isplitr; swap; · iexact HS0
      ipureintro; rfl
    iexists _, _; isplitr; swap; · iexact HS1
    ipureintro; rfl

end Cert.KernelIdeal.AttnGrad

end
-- ==== Proof.Data.lean ====
/-
  THE LAUNCH: what every output block holds after each grid point, the body's obligation to the pipeline from the two
  whole-body runs, and the run of the program.
-/
module

public import proofs.«01_k».proof.Proof.RunA
public import proofs.«01_k».proof.Proof.RunB
public import Idealize.ShloMosaic.Lib.Claim

@[expose] public section

set_option maxRecDepth 16384

noncomputable section

namespace Cert.KernelIdeal.AttnGrad

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The point's key tile. -/
theorem coord_tile (t : Fin cfg0.N) : (grid0.coords t 1).val = t.val % 16 :=
  have h : (grid0.coords t 1).val = t.val / 1 % 16 := Pipeline.Grid.coords_val t 1 (by decide) rfl
  h.trans (by rw [Nat.div_one])

/-- The point's group of heads. -/
theorem coord_group (t : Fin cfg0.N) : (grid0.coords t 0).val = t.val / 16 % 2 :=
  Pipeline.Grid.coords_val t 0 (by decide) rfl

/-- The first key tile of a group is met at the points divisible by sixteen. -/
theorem first_tile (t : Fin cfg0.N) : cond0_0 (grid0.coords t) ↔ t.val % 16 = 0 := by
  have e := coord_tile t
  have h : t.val % 16 < 16 := Nat.mod_lt _ (by norm_num)
  simp only [cond0_0, e]
  word_cmp

/-- The input blocks of a grid point. -/
def ptBlocks (c : Dev nD) (t : Fin cfg0.N) : Blocks :=
  blocks (iblk m c 0 t) (iblk m c 1 t) (iblk m c 2 t) (iblk m c 3 t) (iblk m c 4 t) (iblk m c 5 t) (iblk m c 6 t)

/-- The block of the gradient of the queries after a point: added to along the key tiles of a group, begun at zero. -/
def dqAt (c : Dev nD) : (n : ℕ) → n < cfg0.N → Vec Ideal S16x512x256 .f32
  | 0, h => (ptBlocks m c ⟨0, h⟩).dqOut (grid0.coords ⟨0, h⟩ 1) (fun _ => 0)
  | n + 1, h => (ptBlocks m c ⟨n + 1, h⟩).dqOut (grid0.coords ⟨n + 1, h⟩ 1)
      (if (n + 1) % 16 = 0 then fun _ => 0 else dqAt c n (Nat.lt_of_succ_lt h))

theorem dqAt_first (c : Dev nD) (t : Fin cfg0.N) (h : t.val % 16 = 0) :
    dqAt m c t.val t.isLt = (ptBlocks m c t).dqOut (grid0.coords t 1) (fun _ => 0) := by
  obtain ⟨n, hn⟩ := t
  cases n with
  | zero => rfl
  | succ n => simp only [dqAt]; rw [if_pos h]

theorem dqAt_later (c : Dev nD) (t : Fin cfg0.N) (h : ¬ t.val % 16 = 0) :
    dqAt m c t.val t.isLt = (ptBlocks m c t).dqOut (grid0.coords t 1)
      (dqAt m c (t.val - 1) (Nat.lt_of_le_of_lt (Nat.sub_le _ _) t.isLt)) := by
  obtain ⟨n, hn⟩ := t
  cases n with
  | zero => exact absurd (Nat.zero_mod _) h
  | succ n => simp only [dqAt]; rw [if_neg h]; rfl

/-- The pipeline's data: the arrays as the launch finds them, the inputs left in place, the outputs at their values. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t.val t.isLt
    | ⟨8, _⟩ => (ptBlocks m c t).dkOut (grid0.coords t 1)
    | ⟨9, _⟩ => (ptBlocks m c t).dvOut (grid0.coords t 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_dq (c : Dev nD) (t : Fin cfg0.N) : (dats m 0 c).after 7 t = dqAt m c t.val t.isLt := by dsimp only [dats]
theorem after_dk (c : Dev nD) (t : Fin cfg0.N) : (dats m 0 c).after 8 t = (ptBlocks m c t).dkOut (grid0.coords t 1) := by dsimp only [dats]
theorem after_dv (c : Dev nD) (t : Fin cfg0.N) : (dats m 0 c).after 9 t = (ptBlocks m c t).dvOut (grid0.coords t 1) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a later key tile the block of the gradient of the queries is what the point before left. -/
theorem before_dq (c : Dev nD) (t : Fin cfg0.N) (h : ¬ t.val % 16 = 0) (d) :
    (dats m 0 c).before 7 t d = dqAt m c (t.val - 1) (Nat.lt_of_le_of_lt (Nat.sub_le _ _) t.isLt) := by
  have h0 : t.val ≠ 0 := fun e => h (by rw [e])
  refine ((dats m 0 c).before_out_kept 7 rfl t h0 ?_ (fun _ => rfl) (fun _ _ => rfl) d).trans (after_dq m c _)
  rw [← Bool.not_eq_true, flush0_7]
  show ¬ (t.val - 1) % 16 = 15
  omega

abbrev scrA : Memref sig .tc .vmem S256x512 .f32 := Memref.whole cc0_scratch0
abbrev scrB : Memref sig .tc .vmem S4x256x128 .f32 := Memref.whole cc0_scratch1

/-- What the launch keeps beside the windows: the two scratch buffers and the generator register. -/
theorem rest_eq (c : Dev nD) :
    (Pipeline.ΦA spec0 c : sProp 𝕄)
      = iprop(iprop((∃ d, owns (c : Thread nD τ) scrA fullShare d) ∗ (∃ d, owns (c : Thread nD τ) scrB fullShare d)) ∗ (∃ r, prngReg c r)) := by
  unfold Pipeline.ΦA; rw [scopedRest0_eq]; simp only [scrA, scrB, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at a point: the first key tile of a group and the later ones each by its run. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_dq, after_dk, after_dv]
  rw [show (dats m 0 c).Φ t.castSucc = Pipeline.ΦA spec0 c from rfl, rest_eq]
  by_cases h0 : t.val % 16 = 0
  · rw [dqAt_first m c t h0]; unfold ptBlocks
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernelRun0_A c (grid0.coords t) _ _ _ _ _ _ _ _ _ _ _ _ _ _ _ _ _ _ _ _ _ _ _ _ ((first_tile t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [dqAt_later m c t h0]; simp only [before_dq m c t h0]; unfold ptBlocks
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernelRun0_B c (grid0.coords t) _ _ _ _ _ _ _ _ _ _ _ _ _ _ _ _ _ _ _ _ _ _ _ _ (fun h => h0 ((first_tile t).mp h)) (iblk m c 0 t) (iblk m c 1 t) (iblk m c 2 t) (iblk m c 3 t) (iblk m c 4 t) (iblk m c 5 t) (iblk m c 6 t) (dqAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
/-- The launch, every semaphore counter back at zero. -/
theorem run_main_quiescent : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end as they were, and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_main_quiescent m ρ))

end Cert.KernelIdeal.AttnGrad

end
-- ==== Proof.Point.lean ====
/-
  ONE GRID POINT IN NUMBERS: where the blocks of a grid point hold the padded queries, keys, values and row statistics of
  an attention, the point's terms are the terms of the attention's gradients.
-/
module

public import proofs.«01_k».proof.Proof.Out
public import proofs.«01_k».proof.Proof.Maths

@[expose] public section

noncomputable section

namespace Cert.KernelIdeal.AttnGrad

open Idealize.ShloMosaic Idealize.ShloMosaic.ValueIdx
open Cert.KernelIdeal Cert.AttnGrad
open scoped BigOperators

/-! ## Sums by tiles, by lanes and by halves -/

theorem sum_rows {M : Type} [AddCommMonoid M] (f : Fin 4096 → M) : ∑ x, f x = ∑ i : Fin 16, ∑ r : Fin 256, f (row i r) := by
  rw [← Fintype.sum_prod_type', ← Equiv.sum_comp (finProdFinEquiv (m := 16) (n := 256)) f]
  refine Finset.sum_congr rfl fun x _ => congrArg f (Fin.ext ?_)
  show x.2.val + 256 * x.1.val = 256 * x.1.val + x.2.val
  omega

theorem tile_val (i : Fin 16) : tile i.val = i := Fin.ext (Nat.mod_eq_of_lt i.isLt)

/-- A sum over the tiles whose terms vanish before tile `j`, as the kernel's loop runs through it. -/
theorem sum_from (j : Fin 16) (F : Fin 16 → ℝ) (h : ∀ i, i < j → F i = 0) :
    ∑ i, F i = F j + ∑ k ∈ Finset.range (15 - j.val), F (tile (j.val + k + 1)) := by
  have h1 : ∑ i, F i = ∑ n ∈ Finset.range 16, F (tile n) := by
    rw [Finset.sum_range]
    exact Finset.sum_congr rfl fun i _ => by rw [tile_val]
  have h2 : Finset.range 16 = Finset.range (j.val + ((15 - j.val) + 1)) := congrArg Finset.range (by omega)
  rw [h1, h2, Finset.sum_range_add, Finset.sum_eq_zero (fun n hn => h _ (by
    have hn' := Finset.mem_range.1 hn
    rw [Fin.lt_def]
    show n % 16 < j.val
    omega)), zero_add, Finset.sum_range_succ', add_comm]
  congr 1
  rw [Nat.add_zero, tile_val]

/-- Ninety-six numbers padded with zeros to 128. -/
def padded (f : Fin 96 → ℝ) (c : Fin 128) : ℝ := if hc : c.val < 96 then f ⟨c.val, hc⟩ else 0

theorem sum_padded (f g : Fin 96 → ℝ) : ∑ c, padded f c * padded g c = ∑ d, f d * g d := by
  have h := Fin.sum_univ_add (M := ℝ) (a := 96) (b := 32) (fun c : Fin (96 + 32) => padded f c * padded g c)
  refine h.trans ?_
  rw [Finset.sum_eq_zero (s := Finset.univ) (f := fun c : Fin 32 => padded f (Fin.natAdd 96 c) * padded g (Fin.natAdd 96 c)), add_zero]
  · refine Finset.sum_congr rfl fun d _ => ?_
    unfold padded
    rw [dif_pos (show (Fin.castAdd 32 d).val < 96 from d.isLt), dif_pos (show (Fin.castAdd 32 d).val < 96 from d.isLt)]
    rfl
  · intro c _
    unfold padded
    rw [dif_neg (show ¬ (Fin.natAdd 96 c).val < 96 by simp), zero_mul]

/-- The number of a lane within its half of 64. -/
def inHalf (c : Fin 128) : Fin 64 := ⟨c.val % 64, Nat.mod_lt _ (by decide)⟩

theorem sum_half (b : Fin 2) (f : Fin 64 → ℝ) : (∑ c : Fin 128, if c.val / 64 = b.val then f (inHalf c) else 0) = ∑ d, f d := by
  rw [← Equiv.sum_comp (finProdFinEquiv (m := 2) (n := 64)) (fun c : Fin 128 => if c.val / 64 = b.val then f (inHalf c) else 0),
    Fintype.sum_prod_type, Finset.sum_eq_single b]
  · refine Finset.sum_congr rfl fun d _ => ?_
    have hv : (finProdFinEquiv (m := 2) (n := 64) (b, d)).val = d.val + 64 * b.val := rfl
    rw [if_pos (by rw [hv]; omega)]
    exact congrArg f (Fin.ext (by show (finProdFinEquiv (m := 2) (n := 64) (b, d)).val % 64 = d.val; rw [hv]; omega))
  · intro x _ hx
    refine Finset.sum_eq_zero fun d _ => if_neg ?_
    have hv : (finProdFinEquiv (m := 2) (n := 64) (x, d)).val = d.val + 64 * x.val := rfl
    have hne : x.val ≠ b.val := fun e => hx (Fin.ext e)
    rw [hv]; omega
  · intro hb; exact absurd (Finset.mem_univ b) hb

/-! ## The numbers of a grid point -/

/-- Head `h` of group `p`. -/
def head (p : Fin 2) (h : Fin 4) : Fin 8 := ⟨4 * p.val + h.val, by omega⟩
/-- The head of the lane `c` of `h`'s pair. -/
def pairHead (p : Fin 2) (h : Fin 4) (c : Fin 128) : Fin 8 := ⟨4 * p.val + 2 * (h.val / 2) + c.val / 64, by omega⟩

/-- The blocks of a grid point hold the numbers of group `p`, the keys those of tile `j`. -/
structure PointHolds (A : Inputs) (p : Fin 2) (j : Fin 16) (B : Blocks) : Prop where
  q : ∀ i h c, B.q (ix2 i (col h c)) = ((padded (fun d => A.q (head p h) i d * scale / Real.log 2) c : ℝ) : EReal)
  k : ∀ t h c, B.k (ix2 t (col h c)) = ((padded (A.k (head p h) (row j t)) c : ℝ) : EReal)
  kt : ∀ t h c, B.kt (ix2 (col h c) t) = ((padded (A.k (head p h) (row j t)) c : ℝ) : EReal)
  v : ∀ t h c, B.v h (ix2 t c) = if c.val / 64 = h.val % 2 then ((A.v (head p h) (row j t) (inHalf c) : ℝ) : EReal) else 0
  g : ∀ i h c, B.g (ix2 i (lane h c)) = ((A.g (pairHead p h c) i (inHalf c) : ℝ) : EReal)
  lse : ∀ i h r, B.lse (ix3 i (stat h) r) = ((Real.log (A.mass (head p h) (row i r)) / Real.log 2 : ℝ) : EReal)
  dl : ∀ i h r, B.dl (ix3 i (stat h) r) = ((A.corr (head p h) (row i r) : ℝ) : EReal)

/-- The mask is on at the diagonal tile, and off after it. -/
def StepOk (m : Bool) (j i : Fin 16) : Prop := (m = true ∧ i = j) ∨ (m = false ∧ j < i)

theorem not_seen_before (i j : Fin 16) (h : i < j) (r t : Fin 256) : ¬ Seen (row i r) (row j t) := by
  have h' : i.val < j.val := h
  show ¬ (256 * j.val + t.val) / 64 ≤ (256 * i.val + r.val) / 64
  omega

theorem log_two_ne : Real.log 2 ≠ 0 := (Real.log_pos (by norm_num)).ne'

section
variable {A : Inputs} {p : Fin 2} {j : Fin 16} {B : Blocks} (P : PointHolds A p j B)
include P

theorem prob_num (m : Bool) (i : Fin 16) (hm : StepOk m j i) (h : Fin 4) (t r : Fin 256) :
    B.prob m h i t r = ((A.prob (head p h) (row i r) (row j t) : ℝ) : EReal) := by
  have hs : (m = true ∧ ¬ t.val / 64 ≤ r.val / 64) ↔ ¬ Seen (row i r) (row j t) := by
    show _ ↔ ¬ (256 * j.val + t.val) / 64 ≤ (256 * i.val + r.val) / 64
    rcases hm with ⟨e, e'⟩ | ⟨e, e'⟩
    · subst e'
      constructor
      · rintro ⟨_, h⟩; omega
      · intro h; exact ⟨e, by omega⟩
    · have e'' : j.val < i.val := e'
      constructor
      · rintro ⟨h, _⟩; rw [e] at h; exact absurd h (by decide)
      · intro h; exact absurd h (by omega)
  unfold Blocks.prob
  by_cases hn : Seen (row i r) (row j t)
  · rw [if_neg (fun hh => hs.1 hh hn)]
    have e : ∀ c : Fin 128, B.k (ix2 t (col h c)) * B.q (ix2 (row i r) (col h c))
        = ((padded (A.k (head p h) (row j t)) c * padded (fun d => A.q (head p h) (row i r) d * scale / Real.log 2) c : ℝ) : EReal) :=
      fun c => by rw [P.k, P.q, ← EReal.coe_mul]
    rw [Finset.sum_congr rfl fun c _ => e c, ← coe_sum, sum_padded, P.lse, ← EReal.coe_sub]
    have e2 : (∑ d, A.k (head p h) (row j t) d * (A.q (head p h) (row i r) d * scale / Real.log 2))
        = A.score (head p h) (row i r) (row j t) / Real.log 2 := by
      rw [Inputs.score, Finset.sum_mul, Finset.sum_div]
      exact Finset.sum_congr rfl fun d _ => by ring
    rw [e2, Ideal.exp2_coe, A.prob_pow _ _ _ hn]
  · rw [if_pos (hs.2 hn), Inputs.prob, if_neg hn, EReal.coe_zero]

omit P in
theorem pair_head (h : Fin 4) (c : Fin 128) (hc : c.val / 64 = h.val % 2) : pairHead p h c = head p h :=
  Fin.ext (by show 4 * p.val + 2 * (h.val / 2) + c.val / 64 = 4 * p.val + h.val; omega)

theorem dprob_num (i : Fin 16) (h : Fin 4) (t r : Fin 256) :
    B.dprob h i t r = ((A.dprob (head p h) (row i r) (row j t) : ℝ) : EReal) := by
  unfold Blocks.dprob
  have e : ∀ c : Fin 128, B.v h (ix2 t c) * B.g (ix2 (row i r) (lane h c))
      = ((if c.val / 64 = h.val % 2 then A.g (head p h) (row i r) (inHalf c) * A.v (head p h) (row j t) (inHalf c) else 0 : ℝ) : EReal) := fun c => by
    rw [P.v, P.g]
    by_cases hc : c.val / 64 = h.val % 2
    · rw [if_pos hc, if_pos hc, pair_head h c hc, ← EReal.coe_mul, mul_comm]
    · rw [if_neg hc, if_neg hc, zero_mul, EReal.coe_zero]
  rw [Finset.sum_congr rfl fun c _ => e c, ← coe_sum]
  exact congrArg _ (sum_half ⟨h.val % 2, Nat.mod_lt _ (by decide)⟩
    (fun d => A.g (head p h) (row i r) d * A.v (head p h) (row j t) d))

theorem ds_num (m : Bool) (i : Fin 16) (hm : StepOk m j i) (h : Fin 4) (t r : Fin 256) :
    B.ds m h i t r = ((A.ds (head p h) (row i r) (row j t) : ℝ) : EReal) := by
  rw [Blocks.ds, prob_num P m i hm, dprob_num P, P.dl, ← EReal.coe_sub, ← EReal.coe_mul]
  rfl

theorem dvTerm_num (m : Bool) (i : Fin 16) (hm : StepOk m j i) (h : Fin 4) (t : Fin 256) (c : Fin 128) (hc : c.val / 64 = h.val % 2) :
    B.dvTerm m h i t c = ((∑ r, A.prob (head p h) (row i r) (row j t) * A.g (head p h) (row i r) (inHalf c) : ℝ) : EReal) := by
  rw [Blocks.dvTerm, coe_sum]
  exact Finset.sum_congr rfl fun r _ => by rw [prob_num P m i hm, P.g, pair_head h c hc, ← EReal.coe_mul]

theorem dkTerm_num (m : Bool) (i : Fin 16) (hm : StepOk m j i) (h : Fin 4) (t : Fin 256) (c : Fin 128) :
    B.dkTerm m h i t c = ((∑ r, A.ds (head p h) (row i r) (row j t)
      * padded (fun d => A.q (head p h) (row i r) d * scale / Real.log 2) c : ℝ) : EReal) := by
  rw [Blocks.dkTerm, coe_sum]
  exact Finset.sum_congr rfl fun r _ => by rw [ds_num P m i hm, P.q, ← EReal.coe_mul]

theorem dqTerm_num (m : Bool) (i : Fin 16) (hm : StepOk m j i) (h : Fin 4) (c : Fin 128) (r : Fin 256) :
    B.dqTerm m h i c r = ((∑ t, padded (A.k (head p h) (row j t)) c * A.ds (head p h) (row i r) (row j t) : ℝ) : EReal) := by
  rw [Blocks.dqTerm, coe_sum]
  exact Finset.sum_congr rfl fun t _ => by rw [ds_num P m i hm, P.kt, ← EReal.coe_mul]

omit P in
theorem step_later (k : ℕ) (hk : k ∈ Finset.range (15 - j.val)) : StepOk false j (tile (j.val + k + 1)) := by
  have hk' := Finset.mem_range.1 hk
  refine Or.inr ⟨rfl, ?_⟩
  show j.val < (j.val + k + 1) % 16
  omega

omit P in
/-- A number unseen from a tile has no probability there, and its score no gradient. -/
theorem prob_unseen (H : Fin 8) (i t : Fin 4096) (h : ¬ Seen i t) : A.prob H i t = 0 := by
  rw [Inputs.prob, if_neg h]

omit P in
theorem ds_unseen (H : Fin 8) (i t : Fin 4096) (h : ¬ Seen i t) : A.ds H i t = 0 := by
  rw [Inputs.ds, prob_unseen H i t h, zero_mul]

/-- The values' block of a point is the gradient of the values. -/
theorem dvSum_num (h : Fin 4) (t : Fin 256) (c : Fin 128) (hc : c.val / 64 = h.val % 2) :
    B.dvSum j h t c = ((A.dv (head p h) (row j t) (inHalf c) : ℝ) : EReal) := by
  rw [Blocks.dvSum, dvTerm_num P true j (Or.inl ⟨rfl, rfl⟩) h t c hc,
    Finset.sum_congr rfl fun k hk => dvTerm_num P false _ (step_later k hk) h t c hc, ← coe_sum, ← EReal.coe_add]
  refine congrArg _ ?_
  rw [Inputs.dv, sum_rows]
  refine (sum_from j (fun i => ∑ r, A.prob (head p h) (row i r) (row j t) * A.g (head p h) (row i r) (inHalf c)) fun i hi => ?_).symm
  exact Finset.sum_eq_zero fun r _ => by rw [prob_unseen _ _ _ (not_seen_before i j hi r t), zero_mul]

/-- The keys' block of a point is the padded gradient of the keys. -/
theorem dkSum_num (h : Fin 4) (t : Fin 256) (c : Fin 128) :
    B.dkSum j h t c * ((Real.log 2 : ℝ) : EReal) = ((padded (A.dk (head p h) (row j t)) c : ℝ) : EReal) := by
  rw [Blocks.dkSum, dkTerm_num P true j (Or.inl ⟨rfl, rfl⟩) h t c,
    Finset.sum_congr rfl fun k hk => dkTerm_num P false _ (step_later k hk) h t c, ← coe_sum, ← EReal.coe_add, ← EReal.coe_mul]
  refine congrArg _ ?_
  rw [← sum_from j (fun i => ∑ r, A.ds (head p h) (row i r) (row j t)
      * padded (fun d => A.q (head p h) (row i r) d * scale / Real.log 2) c) fun i hi =>
    Finset.sum_eq_zero fun r _ => by rw [ds_unseen _ _ _ (not_seen_before i j hi r t), zero_mul]]
  rw [← sum_rows (fun x => A.ds (head p h) x (row j t) * padded (fun d => A.q (head p h) x d * scale / Real.log 2) c), Finset.sum_mul]
  unfold padded
  by_cases hc : c.val < 96
  · rw [dif_pos hc, Inputs.dk]
    refine Finset.sum_congr rfl fun x _ => ?_
    rw [dif_pos hc, mul_assoc, div_mul_cancel₀ _ log_two_ne]
  · rw [dif_neg hc]
    exact Finset.sum_eq_zero fun x _ => by rw [dif_neg hc, mul_zero, zero_mul]

/-- What a point adds to the gradient of the queries: the terms of its keys. -/
theorem dqAdd_num (b : Fin 16) (h : Fin 4) (c : Fin 128) (r : Fin 256) :
    B.dqAdd j b h c r = ((∑ t, padded (A.k (head p h) (row j t)) c * A.ds (head p h) (row b r) (row j t) : ℝ) : EReal) := by
  unfold Blocks.dqAdd
  by_cases hb : b = j
  · rw [if_pos hb, dqTerm_num P true b (Or.inl ⟨rfl, hb⟩)]
  · rw [if_neg hb]
    by_cases hlt : j.val < b.val
    · rw [if_pos hlt, dqTerm_num P false b (Or.inr ⟨rfl, hlt⟩)]
    · rw [if_neg hlt, Finset.sum_eq_zero fun t _ => by
        rw [ds_unseen _ _ _ (not_seen_before b j (Fin.lt_def.2 (by
          have hne : b.val ≠ j.val := fun e => hb (Fin.ext e)
          omega)) r t), mul_zero], EReal.coe_zero]

end

/-- The terms of all the keys make the padded gradient of the queries. -/
theorem dq_total (A : Inputs) (H : Fin 8) (i : Fin 4096) (c : Fin 128) :
    ∑ j : Fin 16, ∑ t : Fin 256, padded (A.k H (row j t)) c * A.ds H i (row j t) = padded (A.dq H i) c := by
  rw [← sum_rows (fun x => padded (A.k H x) c * A.ds H i x)]
  unfold padded
  by_cases hc : c.val < 96
  · rw [dif_pos hc, Inputs.dq]
    exact Finset.sum_congr rfl fun x _ => by rw [dif_pos hc, mul_comm]
  · rw [dif_neg hc]
    exact Finset.sum_eq_zero fun x _ => by rw [dif_neg hc, zero_mul]

end Cert.KernelIdeal.AttnGrad

end
-- ==== Proof.Stages.lean ====
/-
  WHAT THE HOST PREPARES for the launch, operation by operation, as functions of the four arguments, and what these
  functions hold at an index when the arguments hold real numbers: the padded, scaled and packed queries; the packed keys
  and their transposes by tiles; the packed values and cotangents; the logarithms of the rows' masses and the rows'
  corrections, each repeated over eight rows.
-/
module

public import proofs.«01_k».proof.Proof.RefValue
public import proofs.«01_k».proof.Proof.Point
public import proofs.«01_k».proof.Proof.Gen.KernelIdeal.Frame

@[expose] public section

noncomputable section

namespace Cert.KernelIdeal.AttnGrad

open Idealize.ShloMosaic hiding ix0 ix1 ix2 ix3 ix4
open Idealize.ShloMosaic.ValueIdx Idealize.ShloMosaic.TcCoe
open Cert.KernelIdeal Cert.KernelIdeal.Gen Cert.AttnGrad
open scoped BigOperators

/-! ## The packing of heads -/

/-- Eight heads of 96 lanes padded to 128 and put side by side. -/
def packed (X : FVec Ideal S8x4096x96 .f32) : FVec Ideal S4096x1024 .f32 :=
  shapeCast _ (transpose S4096x8x128 [1, 0, 2]
    (pad S8x4096x128 ![0, 0, 0] ![0, 0, 32] ![0, 0, 0] X (sitofp (F := Ideal) .f32 (constantI S_ 32 0#32)) pads_S8x4096x96_S8x4096x128_000_000_0320 h_S_)
    transposes_S8x4096x128_S4096x8x128_1_0_2) shapeCasts_S4096x8x128_S4096x1024

theorem packed_at (X : FVec Ideal S8x4096x96 .f32) (f : Fin 8 → Fin 4096 → Fin 96 → ℝ) (hX : ∀ h i d, X (ix3 h i d) = (f h i d : EReal))
    (t : Fin 4096) (n : Fin 1024) :
    packed X (ix2 t n) = ((padded (f ⟨n.val / 128, by omega⟩ t) ⟨n.val % 128, by omega⟩ : ℝ) : EReal) := by
  unfold packed
  refine (shapeCast_apply _ shapeCasts_S4096x8x128_S4096x1024 (ix2 t n)
    (ix3 t (⟨n.val / 128, by omega⟩ : Fin 8) (⟨n.val % 128, by omega⟩ : Fin 128)) (by
      rewrite [Shape.rowMajor_val_three, Shape.rowMajor_val_two]
      show (t.val * 8 + n.val / 128) * 128 + n.val % 128 = t.val * 1024 + n.val
      omega)).trans ?_
  refine (transpose_apply [1, 0, 2] _ transposes_S8x4096x128_S4096x8x128_1_0_2 _
    (ix3 (⟨n.val / 128, by omega⟩ : Fin 8) t (⟨n.val % 128, by omega⟩ : Fin 128)) (fun b => match b with
      | ⟨0, _⟩ => rfl
      | ⟨1, _⟩ => rfl
      | ⟨2, _⟩ => rfl)).trans ?_
  refine (pad_at X _ int_zero f hX _ t _).trans ?_
  unfold padded
  split <;> rfl

/-- The packed array's transpose, tile by tile. -/
def tilesT (X : FVec Ideal S4096x1024 .f32) : FVec Ideal S16x1024x256 .f32 :=
  transpose S16x1024x256 [0, 2, 1] (shapeCast S16x256x1024 X shapeCasts_S4096x1024_S16x256x1024) transposes_S16x256x1024_S16x1024x256_0_2_1

theorem tilesT_at (X : FVec Ideal S4096x1024 .f32) (j : Fin 16) (n : Fin 1024) (t : Fin 256) :
    tilesT X (ix3 j n t) = X (ix2 (row j t) n) := by
  unfold tilesT
  refine (transpose_apply [0, 2, 1] _ transposes_S16x256x1024_S16x1024x256_0_2_1 _ (ix3 j t n) (fun b => match b with
      | ⟨0, _⟩ => rfl
      | ⟨1, _⟩ => rfl
      | ⟨2, _⟩ => rfl)).trans ?_
  exact shapeCast_apply X shapeCasts_S4096x1024_S16x256x1024 (ix3 j t n) (ix2 (row j t) n) (by
    rewrite [Shape.rowMajor_val_three, Shape.rowMajor_val_two]
    show (256 * j.val + t.val) * 1024 + n.val = (j.val * 256 + t.val) * 1024 + n.val
    omega)

/-- Eight heads of 64 lanes put side by side. -/
def packedV (X : FVec Ideal S8x4096x64 .f32) : FVec Ideal S4096x512 .f32 :=
  shapeCast _ (transpose S4096x8x64 [1, 0, 2] X transposes_S8x4096x64_S4096x8x64_1_0_2) shapeCasts_S4096x8x64_S4096x512

theorem packedV_at (X : FVec Ideal S8x4096x64 .f32) (t : Fin 4096) (n : Fin 512) :
    packedV X (ix2 t n) = X (ix3 (⟨n.val / 64, by omega⟩ : Fin 8) t (⟨n.val % 64, by omega⟩ : Fin 64)) := by
  unfold packedV
  refine (shapeCast_apply _ shapeCasts_S4096x8x64_S4096x512 (ix2 t n)
    (ix3 t (⟨n.val / 64, by omega⟩ : Fin 8) (⟨n.val % 64, by omega⟩ : Fin 64)) (by
      rewrite [Shape.rowMajor_val_three, Shape.rowMajor_val_two]
      show (t.val * 8 + n.val / 64) * 64 + n.val % 64 = t.val * 512 + n.val
      omega)).trans ?_
  exact transpose_apply [1, 0, 2] X transposes_S8x4096x64_S4096x8x64_1_0_2 _ _ (fun b => match b with
      | ⟨0, _⟩ => rfl
      | ⟨1, _⟩ => rfl
      | ⟨2, _⟩ => rfl)

/-- A number per head and position, by tiles, repeated over eight rows. -/
def statRows (X : FVec Ideal S8x4096 .f32) : FVec Ideal S16x64x256 .f32 :=
  shapeCast _ (broadcastInDim S16x8x8x256 ![0, 1, 2, 3] bcast_S16x8x1x256_S16x8x8x256_0_1_2_3
    (transpose S16x8x1x256 [1, 0, 2, 3] (shapeCast S8x16x1x256 X shapeCasts_S8x4096_S8x16x1x256)
      transposes_S8x16x1x256_S16x8x1x256_1_0_2_3)) shapeCasts_S16x8x8x256_S16x64x256

theorem statRows_at (X : FVec Ideal S8x4096 .f32) (i : Fin 16) (s : Fin 64) (r : Fin 256) :
    statRows X (ix3 i s r) = X (ix2 (⟨s.val / 8, by omega⟩ : Fin 8) (row i r)) := by
  unfold statRows
  refine (shapeCast_apply _ shapeCasts_S16x8x8x256_S16x64x256 (ix3 i s r)
    (ix4 i (⟨s.val / 8, by omega⟩ : Fin 8) (⟨s.val % 8, by omega⟩ : Fin 8) r) (by
      rewrite [Shape.rowMajor_val_four, Shape.rowMajor_val_three]
      show ((i.val * 8 + s.val / 8) * 8 + s.val % 8) * 256 + r.val = (i.val * 64 + s.val) * 256 + r.val
      omega)).trans ?_
  refine (broadcastInDim_apply _ bcast_S16x8x1x256_S16x8x8x256_0_1_2_3 _ _ (ix4 i (⟨s.val / 8, by omega⟩ : Fin 8) (0 : Fin 1) r) (fun a => match a with
    | ⟨0, _⟩ => by show i.val = if (16 : Nat) = 1 then 0 else i.val; rw [if_neg (by decide)]
    | ⟨1, _⟩ => by show s.val / 8 = if (8 : Nat) = 1 then 0 else s.val / 8; rw [if_neg (by decide)]
    | ⟨2, _⟩ => by show 0 = if (1 : Nat) = 1 then 0 else s.val % 8; rw [if_pos rfl]
    | ⟨3, _⟩ => by show r.val = if (256 : Nat) = 1 then 0 else r.val; rw [if_neg (by decide)])).trans ?_
  refine (transpose_apply [1, 0, 2, 3] _ transposes_S8x16x1x256_S16x8x1x256_1_0_2_3 _ (ix4 (⟨s.val / 8, by omega⟩ : Fin 8) i (0 : Fin 1) r) (fun b => match b with
      | ⟨0, _⟩ => rfl
      | ⟨1, _⟩ => rfl
      | ⟨2, _⟩ => rfl
      | ⟨3, _⟩ => rfl)).trans ?_
  exact shapeCast_apply X shapeCasts_S8x4096_S8x16x1x256 _ (ix2 (⟨s.val / 8, by omega⟩ : Fin 8) (row i r)) (by
    rewrite [Shape.rowMajor_val_two, Shape.rowMajor_val_four]
    show s.val / 8 * 4096 + (256 * i.val + r.val) = ((s.val / 8 * 16 + i.val) * 1 + 0) * 256 + r.val
    omega)

/-! ## The queries and the row statistics -/

/-- The logarithm of two. -/
def ln2 : FVec Ideal S_ .f32 := Host.log (constant S_ .f32 0x40000000#32)

theorem ln2_at (i : S_.Idx) : ln2 i = ((Real.log 2 : ℝ) : EReal) := by
  show Ideal.log (Ideal.ofBits .f32 0x40000000#32) = _
  rw [two_word, Ideal.log_coe, if_neg (by norm_num)]

def scaledQ (x0 : FVec Ideal S8x4096x96 .f32) : FVec Ideal S8x4096x96 .f32 :=
  Host.divf (mulf x0 (broadcastInDim S8x4096x96 ![] bcast_S_S8x4096x96 (constant S_ .f32 0x3DD105EC#32)))
    (broadcastInDim S8x4096x96 ![] bcast_S_S8x4096x96 ln2)

/-- The scores, the bottom where the key is unseen. -/
def maskedScores (x0 x1 : FVec Ideal S8x4096x96 .f32) : FVec Ideal S8x4096x4096 .f32 :=
  select (broadcastInDim S8x4096x4096 ![1, 2] bcast_S4096x4096_S8x4096x4096_1_2 (Cert.ReferenceIdeal.Read.val_main_v9 (F := Ideal)))
    (mulf (Host.dotGeneral Cert.ReferenceIdeal.dot_S8x4096x96_S8x4096x96_S8x4096x4096_2_2_1_1_0_0 none x0 x1)
      (broadcastInDim S8x4096x4096 ![] bcast_S_S8x4096x4096 (constant S_ .f32 0x3DD105EC#32)))
    (broadcastInDim S8x4096x4096 ![] bcast_S_S8x4096x4096 (constant S_ .f32 0xFF800000#32))

/-- The greatest score of each row. -/
def rowMax (X : FVec Ideal S8x4096x4096 .f32) : FVec Ideal S8x4096x1 .f32 :=
  broadcastInDim S8x4096x1 ![0, 1] bcast_S8x4096_S8x4096x1_0_1
    (Host.reduce (FloatOps.maximumf (F := Ideal) (φ := .f32)) X (constant (F := Ideal) S_ .f32 0xFF800000#32) reducesTo_S8x4096x4096_S8x4096_d2 h_S_)

def rowExp (X : FVec Ideal S8x4096x4096 .f32) : FVec Ideal S8x4096x4096 .f32 :=
  Host.exp (subf X (broadcastInDim S8x4096x4096 ![0, 1, 2] bcast_S8x4096x1_S8x4096x4096_0_1_2 (rowMax X)))

/-- The sum of each row's exponentials. -/
def rowSum (X : FVec Ideal S8x4096x4096 .f32) : FVec Ideal S8x4096x1 .f32 :=
  broadcastInDim S8x4096x1 ![0, 1] bcast_S8x4096_S8x4096x1_0_1
    (Host.reduceAdd (rowExp X) (constant S_ .f32 0x00000000#32) reducesTo_S8x4096x4096_S8x4096_d2 h_S_)

def logMass (X : FVec Ideal S8x4096x4096 .f32) : FVec Ideal S8x4096 .f32 :=
  Host.divf (shapeCast _ (addf (rowMax X) (Host.log (rowSum X))) shapeCasts_S8x4096x1_S8x4096)
    (broadcastInDim S8x4096 ![] bcast_S_S8x4096 ln2)

def rowCorr (X : FVec Ideal S8x4096x4096 .f32) (x2 x3 : FVec Ideal S8x4096x64 .f32) : FVec Ideal S8x4096 .f32 :=
  Host.reduceAdd (mulf (Host.dotGeneral Cert.ReferenceIdeal.dot_S8x4096x4096_S8x4096x64_S8x4096x64_2_1_1_2_0_0 none
      (Host.divf (rowExp X) (broadcastInDim S8x4096x4096 ![0, 1, 2] bcast_S8x4096x1_S8x4096x4096_0_1_2 (rowSum X))) x2) x3)
    (constant S_ .f32 0x00000000#32) reducesTo_S8x4096x64_S8x4096_d2 h_S_

theorem dot_scores (y0 y1 : FVec Ideal S8x4096x96 .f32) (h : Fin 8) (i t : Fin 4096) :
    Host.dotGeneral (φ₁ := .f32) Cert.ReferenceIdeal.dot_S8x4096x96_S8x4096x96_S8x4096x4096_2_2_1_1_0_0 none y0 y1 (ix3 h i t)
      = ∑ k : Fin 96, y0 (ix3 h i k) * y1 (ix3 h t k) := by
  let D := Cert.ReferenceIdeal.dot_S8x4096x96_S8x4096x96_S8x4096x4096_2_2_1_1_0_0
  simp only [Host.dotGeneral]
  rw [Ideal.dotGeneral_apply, ← Equiv.sum_comp (contrEquiv1 D 96 rfl rfl).symm]
  refine Finset.sum_congr rfl fun k _ => ?_
  have hk := contrEquiv1_symm_val D 96 rfl rfl k
  refine congrArg₂ (· * ·) (congrArg y0 (funext fun a => Fin.ext ?_)) (congrArg y1 (funext fun a => Fin.ext ?_))
  · match a with
    | ⟨0, _⟩ => exact Cert.ReferenceIdeal.Read.lhs_main_v2_0 _ _
    | ⟨1, _⟩ => exact Cert.ReferenceIdeal.Read.lhs_main_v2_1 _ _
    | ⟨2, _⟩ => exact (Cert.ReferenceIdeal.Read.lhs_main_v2_2 _ _).trans hk
  · match a with
    | ⟨0, _⟩ => exact Cert.ReferenceIdeal.Read.rhs_main_v2_0 _ _
    | ⟨1, _⟩ => exact Cert.ReferenceIdeal.Read.rhs_main_v2_1 _ _
    | ⟨2, _⟩ => exact (Cert.ReferenceIdeal.Read.rhs_main_v2_2 _ _).trans hk

theorem dot_values (y0 : FVec Ideal S8x4096x4096 .f32) (y1 : FVec Ideal S8x4096x64 .f32) (h : Fin 8) (i : Fin 4096) (d : Fin 64) :
    Host.dotGeneral (φ₁ := .f32) Cert.ReferenceIdeal.dot_S8x4096x4096_S8x4096x64_S8x4096x64_2_1_1_2_0_0 none y0 y1 (ix3 h i d)
      = ∑ k : Fin 4096, y0 (ix3 h i k) * y1 (ix3 h k d) := by
  let D := Cert.ReferenceIdeal.dot_S8x4096x4096_S8x4096x64_S8x4096x64_2_1_1_2_0_0
  simp only [Host.dotGeneral]
  rw [Ideal.dotGeneral_apply, ← Equiv.sum_comp (contrEquiv1 D 4096 rfl rfl).symm]
  refine Finset.sum_congr rfl fun k _ => ?_
  have hk := contrEquiv1_symm_val D 4096 rfl rfl k
  refine congrArg₂ (· * ·) (congrArg y0 (funext fun a => Fin.ext ?_)) (congrArg y1 (funext fun a => Fin.ext ?_))
  · match a with
    | ⟨0, _⟩ => exact Cert.ReferenceIdeal.Read.lhs_main_v39_0 _ _
    | ⟨1, _⟩ => exact Cert.ReferenceIdeal.Read.lhs_main_v39_1 _ _
    | ⟨2, _⟩ => exact (Cert.ReferenceIdeal.Read.lhs_main_v39_2 _ _).trans hk
  · match a with
    | ⟨0, _⟩ => exact Cert.ReferenceIdeal.Read.rhs_main_v39_0 _ _
    | ⟨1, _⟩ => exact (Cert.ReferenceIdeal.Read.rhs_main_v39_1 _ _).trans hk
    | ⟨2, _⟩ => exact Cert.ReferenceIdeal.Read.rhs_main_v39_2 _ _

/-- A number per row, read over the row. -/
theorem along_row (X : FVec Ideal S8x4096x1 .f32) (h : Fin 8) (i t : Fin 4096) :
    broadcastInDim S8x4096x4096 ![0, 1, 2] bcast_S8x4096x1_S8x4096x4096_0_1_2 X (ix3 h i t) = X (ix3 h i (0 : Fin 1)) :=
  broadcastInDim_apply _ bcast_S8x4096x1_S8x4096x4096_0_1_2 X _ _ (fun a => match a with
    | ⟨0, _⟩ => by show h.val = if (8 : Nat) = 1 then 0 else h.val; rw [if_neg (by decide)]
    | ⟨1, _⟩ => by show i.val = if (4096 : Nat) = 1 then 0 else i.val; rw [if_neg (by decide)]
    | ⟨2, _⟩ => by show 0 = if (1 : Nat) = 1 then 0 else t.val; rw [if_pos rfl])

theorem as_column (X : FVec Ideal S8x4096 .f32) (h : Fin 8) (i : Fin 4096) (z : Fin 1) :
    broadcastInDim S8x4096x1 ![0, 1] bcast_S8x4096_S8x4096x1_0_1 X (ix3 h i z) = X (ix2 h i) :=
  broadcastInDim_apply _ bcast_S8x4096_S8x4096x1_0_1 X _ _ (fun a => match a with
    | ⟨0, _⟩ => by show h.val = if (8 : Nat) = 1 then 0 else h.val; rw [if_neg (by decide)]
    | ⟨1, _⟩ => by show i.val = if (4096 : Nat) = 1 then 0 else i.val; rw [if_neg (by decide)])

end Cert.KernelIdeal.AttnGrad

end
-- ==== Proof.Stats.lean ====
/-
  THE QUERIES AND THE ROW STATISTICS the host prepares, at an index, when the arguments hold real numbers.
-/
module

public import proofs.«01_k».proof.Proof.Stages

@[expose] public section

noncomputable section

namespace Cert.KernelIdeal.AttnGrad

open Idealize.ShloMosaic hiding ix0 ix1 ix2 ix3 ix4
open Idealize.ShloMosaic.ValueIdx Idealize.ShloMosaic.TcCoe
open Cert.KernelIdeal Cert.KernelIdeal.Gen Cert.AttnGrad
open scoped BigOperators

/-- An array plus a logarithm, at an index. -/
theorem add_log_at {s : Shape} (x y : FVec Ideal s .f32) (i : s.Idx) : addf x (Host.log y) i = x i + Ideal.log (y i) := rfl

section
variable {A : Inputs} {x0 x1 : FVec Ideal S8x4096x96 .f32} {x2 x3 : FVec Ideal S8x4096x64 .f32} (H : Holds A x0 x1 x2 x3)
include H

theorem scaledQ_at (h : Fin 8) (i : Fin 4096) (d : Fin 96) :
    scaledQ x0 (ix3 h i d) = ((A.q h i d * scale / Real.log 2 : ℝ) : EReal) := by
  show Ideal.div (x0 (ix3 h i d) * Ideal.ofBits .f32 0x3DD105EC#32) (ln2 _) = _
  rw [H.q, scale_word, ln2_at, ← EReal.coe_mul, div_real _ _ log_two_ne]

theorem masked_at : Masked A (maskedScores x0 x1) := fun h i t => by
  show (if broadcastInDim S8x4096x4096 ![1, 2] bcast_S4096x4096_S8x4096x4096_1_2 (Cert.ReferenceIdeal.Read.val_main_v9 (F := Ideal)) (ix3 h i t) = 1#1
    then Host.dotGeneral (φ₁ := .f32) Cert.ReferenceIdeal.dot_S8x4096x96_S8x4096x96_S8x4096x4096_2_2_1_1_0_0 none x0 x1 (ix3 h i t) * Ideal.ofBits .f32 0x3DD105EC#32
    else Ideal.ofBits .f32 0xFF800000#32) = _
  rw [broadcastInDim_apply _ bcast_S4096x4096_S8x4096x4096_1_2 _ (ix3 h i t) (ix2 i t) (fun a => match a with
    | ⟨0, _⟩ => by show i.val = if (4096 : Nat) = 1 then 0 else i.val; rw [if_neg (by decide)]
    | ⟨1, _⟩ => by show t.val = if (4096 : Nat) = 1 then 0 else t.val; rw [if_neg (by decide)])]
  rw [bot_word, scale_word, dot_scores]
  have e : ∀ k : Fin 96, x0 (ix3 h i k) * x1 (ix3 h t k) = ((A.q h i k * A.k h t k : ℝ) : EReal) := fun k => by
    rw [H.q, H.k, ← EReal.coe_mul]
  rw [Finset.sum_congr rfl fun k _ => e k, ← coe_sum, ← EReal.coe_mul]
  exact if_congr (mask_at i t) rfl rfl

end

section
variable {A : Inputs} {X : FVec Ideal S8x4096x4096 .f32} (hX : Masked A X)
include hX

theorem rowMax_at (h : Fin 8) (i : Fin 4096) : ∃ r : ℝ, ∀ z : Fin 1, rowMax X (ix3 h i z) = (r : EReal) := by
  obtain ⟨r, hr⟩ := row_max A X hX (constant (F := Ideal) S_ .f32 0xFF800000#32) bot_word h i
  exact ⟨r, fun z => (as_column _ h i z).trans hr⟩

theorem rowExp_at {h : Fin 8} {i : Fin 4096} {r : ℝ} (hr : ∀ z : Fin 1, rowMax X (ix3 h i z) = (r : EReal)) (t : Fin 4096) :
    rowExp X (ix3 h i t) = ((A.shifted h i t r : ℝ) : EReal) := by
  show Ideal.exp (X (ix3 h i t) - broadcastInDim S8x4096x4096 ![0, 1, 2] bcast_S8x4096x1_S8x4096x4096_0_1_2 (rowMax X) (ix3 h i t)) = _
  rw [along_row, hr, hX]
  exact exp_masked A h i t r

theorem rowSum_at {h : Fin 8} {i : Fin 4096} {r : ℝ} (hr : ∀ z : Fin 1, rowMax X (ix3 h i z) = (r : EReal)) (z : Fin 1) :
    rowSum X (ix3 h i z) = ((∑ t, A.shifted h i t r : ℝ) : EReal) := by
  unfold rowSum
  have w : S8x4096x4096.Reduces [2] S8x4096 := by decide
  rw [as_column]
  simp only [Host.reduceAdd, Ideal.hostReduceAdd_def]
  rw [Ideal.hostReduceAdd_single reducesTo_S8x4096x4096_S8x4096_d2 w]
  have e : ∀ t : Fin 4096, rowExp X (w.lift (ix2 h i) t) = ((A.shifted h i t r : ℝ) : EReal) := fun t => by
    rw [lift_row h i t w]; exact rowExp_at hX hr t
  refine (congrArg₂ (· + ·) zero_word (Finset.sum_congr rfl fun t _ => e t)).trans ?_
  show (0 : EReal) + ∑ t : Fin 4096, ((A.shifted h i t r : ℝ) : EReal) = _
  rw [zero_add, ← coe_sum]

theorem logMass_at (h : Fin 8) (i : Fin 4096) :
    logMass X (ix2 h i) = ((Real.log (A.mass h i) / Real.log 2 : ℝ) : EReal) := by
  obtain ⟨r, hr⟩ := rowMax_at hX h i
  have e := shapeCast_apply (addf (rowMax X) (Host.log (rowSum X))) shapeCasts_S8x4096x1_S8x4096 (ix2 h i) (ix3 h i (0 : Fin 1)) (by
    rewrite [Shape.rowMajor_val_three, Shape.rowMajor_val_two]
    show (h.val * 4096 + i.val) * 1 + 0 = h.val * 4096 + i.val
    omega)
  have e' : addf (rowMax X) (Host.log (rowSum X)) (ix3 h i (0 : Fin 1)) = ((Real.log (A.mass h i) : ℝ) : EReal) := by
    have el : Ideal.log ((∑ t, A.shifted h i t r : ℝ) : EReal) = ((Real.log (∑ t, A.shifted h i t r) : ℝ) : EReal) :=
      (Ideal.log_coe _).trans (if_neg (not_le.2 (A.shifted_sum_pos h i r)))
    refine (add_log_at _ _ _).trans ?_
    refine (congrArg₂ (· + ·) (hr 0) ((congrArg Ideal.log (rowSum_at hX hr 0)).trans el)).trans ?_
    exact (EReal.coe_add _ _).symm.trans (congrArg _ (A.log_shifted_sum h i r))
  refine (congrArg₂ Ideal.div (e.trans e') (ln2_at _)).trans ?_
  exact div_real _ _ log_two_ne

theorem rowCorr_at {x2 x3 : FVec Ideal S8x4096x64 .f32} (hv : ∀ h i d, x2 (ix3 h i d) = (A.v h i d : EReal))
    (hg : ∀ h i d, x3 (ix3 h i d) = (A.g h i d : EReal)) (h : Fin 8) (i : Fin 4096) :
    rowCorr X x2 x3 (ix2 h i) = ((A.corr h i : ℝ) : EReal) := by
  obtain ⟨r, hr⟩ := rowMax_at hX h i
  unfold rowCorr
  have w : S8x4096x64.Reduces [2] S8x4096 := by decide
  simp only [Host.reduceAdd, Ideal.hostReduceAdd_def]
  rw [Ideal.hostReduceAdd_single reducesTo_S8x4096x64_S8x4096_d2 w]
  refine (congrArg₂ (· + ·) zero_word (Finset.sum_congr (g := fun d : Fin 64 => (((∑ t, A.prob h i t * A.v h t d) * A.g h i d : ℝ) : EReal)) rfl fun d _ => ?_)).trans ?_
  · rw [show w.lift (ix2 h i) d = ix3 h i (d : Fin 64) from
      funext fun a => Fin.ext (by match a with | ⟨0, _⟩ => rfl | ⟨1, _⟩ => rfl | ⟨2, _⟩ => rfl)]
    show Host.dotGeneral (φ₁ := .f32) Cert.ReferenceIdeal.dot_S8x4096x4096_S8x4096x64_S8x4096x64_2_1_1_2_0_0 none
      (Host.divf (rowExp X) (broadcastInDim S8x4096x4096 ![0, 1, 2] bcast_S8x4096x1_S8x4096x4096_0_1_2 (rowSum X))) x2 (ix3 h i d) * x3 (ix3 h i d) = _
    rw [dot_values, hg, EReal.coe_mul, coe_sum]
    refine congrArg (· * _) (Finset.sum_congr rfl fun t _ => ?_)
    show Ideal.div (rowExp X (ix3 h i t)) (broadcastInDim S8x4096x4096 ![0, 1, 2] bcast_S8x4096x1_S8x4096x4096_0_1_2 (rowSum X) (ix3 h i t)) * _ = _
    rw [along_row, rowExp_at hX hr, rowSum_at hX hr, hv, div_real _ _ (A.shifted_sum_pos h i r).ne', A.shifted_div, ← EReal.coe_mul]
  · show (0 : EReal) + ∑ d : Fin 64, (((∑ t, A.prob h i t * A.v h t d) * A.g h i d : ℝ) : EReal) = _
    rw [zero_add, ← coe_sum, A.corr_eq]

end

end Cert.KernelIdeal.AttnGrad

end
-- ==== Proof.Prelude.lean ====
/-
  THE ARRAYS THE LAUNCH READS, as functions of the arguments: each of the seven is the host stage of the same meaning.
-/
module

public import proofs.«01_k».proof.Proof.Stats
public import Idealize.ShloMosaic.Lib.StableHlo.RunRead
public import Idealize.ShloMosaic.Lib.Claim

@[expose] public section

noncomputable section

namespace Cert.KernelIdeal.AttnGrad

open Idealize.ShloMosaic hiding ix0 ix1 ix2 ix3 ix4
open Idealize.ShloMosaic.ValueIdx Idealize.ShloMosaic.TcCoe Idealize.ShloMosaic.StableHlo
open Cert.KernelIdeal Cert.KernelIdeal.Gen Cert.AttnGrad

variable (m : (ℓ : Loc nD τ sig) → Buf (Elt Ideal) ℓ) (c : Dev nD)

/-- The four arguments, as the program finds them. -/
abbrev argQ : FVec Ideal S8x4096x96 .f32 := m ((c : Thread nD τ).loc main_arg0)
abbrev argK : FVec Ideal S8x4096x96 .f32 := m ((c : Thread nD τ).loc main_arg1)
abbrev argV : FVec Ideal S8x4096x64 .f32 := m ((c : Thread nD τ).loc main_arg2)
abbrev argG : FVec Ideal S8x4096x64 .f32 := m ((c : Thread nD τ).loc main_arg3)

set_option maxHeartbeats 2000000 in
theorem V_q : V m c main_v8 = packed (scaledQ (argQ m c)) := by
  simp only [V, List.flatten_cons, List.flatten_nil, List.append_nil]
  after_reads_simp
  rfl

set_option maxHeartbeats 2000000 in
theorem V_k : V m c main_v49 = packed (argK m c) := by
  simp only [V, List.flatten_cons, List.flatten_nil, List.append_nil]
  after_reads_simp
  rfl

set_option maxHeartbeats 2000000 in
theorem V_kT : V m c main_v14 = tilesT (packed (argK m c)) := by
  simp only [V, List.flatten_cons, List.flatten_nil, List.append_nil]
  after_reads_simp
  rfl

set_option maxHeartbeats 2000000 in
theorem V_v : V m c main_v17 = packedV (argV m c) := by
  simp only [V, List.flatten_cons, List.flatten_nil, List.append_nil]
  after_reads_simp
  rfl

set_option maxHeartbeats 2000000 in
theorem V_g : V m c main_v20 = packedV (argG m c) := by
  simp only [V, List.flatten_cons, List.flatten_nil, List.append_nil]
  after_reads_simp
  rfl

set_option maxHeartbeats 2000000 in
theorem V_lse : V m c main_v53 = statRows (logMass (maskedScores (argQ m c) (argK m c))) := by
  simp only [V, List.flatten_cons, List.flatten_nil, List.append_nil]
  after_reads_simp
  rfl

set_option maxHeartbeats 2000000 in
theorem V_dl : V m c main_v57 = statRows (rowCorr (maskedScores (argQ m c) (argK m c)) (argV m c) (argG m c)) := by
  simp only [V, List.flatten_cons, List.flatten_nil, List.append_nil]
  after_reads_simp
  rfl

end Cert.KernelIdeal.AttnGrad

end
-- ==== Proof.Windows.lean ====
/-
  THE BLOCKS OF A GRID POINT, at an index of the launch's arrays: point `t` works on the heads of group `t / 16` and the keys
  of tile `t % 16`. From the arrays' readings, the seven input blocks hold what the point's mathematics asks of them.
-/
module

public import proofs.«01_k».proof.Proof.Data
public import proofs.«01_k».proof.Proof.Prelude
public import Idealize.ShloMosaic.Lib.Pipeline.ValueKit.Geometry

@[expose] public section

noncomputable section

namespace Cert.KernelIdeal.AttnGrad

open Idealize.ShloMosaic hiding ix0 ix1 ix2 ix3 ix4
open Idealize.ShloMosaic.ValueIdx Idealize.ShloMosaic.TcCoe
open Idealize.ShloMosaic.Pipeline (Dat Cfg Window)
open Cert.KernelIdeal Cert.KernelIdeal.Gen Cert.AttnGrad
open scoped BigOperators

variable (m : (ℓ : Loc nD τ sig) → Buf (Elt Ideal) ℓ) (c : Dev nD)

/-- The group of heads and the key tile of a grid point. -/
def groupAt (t : Fin cfg0.N) : Fin 2 := ⟨t.val / 16 % 2, Nat.mod_lt _ (by decide)⟩
def tileAt (t : Fin cfg0.N) : Fin 16 := ⟨t.val % 16, Nat.mod_lt _ (by decide)⟩

theorem index_0 : ∀ t : Fin cfg0.N, win0_0.index t = ![0, t.val / 16 % 2] := (by decide +kernel : ∀ t : Fin grid0.N, _)
theorem index_1 : ∀ t : Fin cfg0.N, win0_1.index t = ![t.val % 16, t.val / 16 % 2] := (by decide +kernel : ∀ t : Fin grid0.N, _)
theorem index_2 : ∀ t : Fin cfg0.N, win0_2.index t = ![t.val % 16, t.val / 16 % 2] := (by decide +kernel : ∀ t : Fin grid0.N, _)
theorem index_3 : ∀ t : Fin cfg0.N, win0_3.index t = ![t.val % 16, t.val / 16 % 2, 0] := (by decide +kernel : ∀ t : Fin grid0.N, _)
theorem index_4 : ∀ t : Fin cfg0.N, win0_4.index t = ![0, t.val / 16 % 2] := (by decide +kernel : ∀ t : Fin grid0.N, _)
theorem index_5 : ∀ t : Fin cfg0.N, win0_5.index t = ![0, t.val / 16 % 2, 0] := (by decide +kernel : ∀ t : Fin grid0.N, _)
theorem index_6 : ∀ t : Fin cfg0.N, win0_6.index t = ![0, t.val / 16 % 2, 0] := (by decide +kernel : ∀ t : Fin grid0.N, _)
theorem index_7 : ∀ t : Fin cfg0.N, win0_7.index t = ![0, t.val / 16 % 2, 0] := (by decide +kernel : ∀ t : Fin grid0.N, _)
theorem index_8 : ∀ t : Fin cfg0.N, win0_8.index t = ![t.val % 16, t.val / 16 % 2] := (by decide +kernel : ∀ t : Fin grid0.N, _)
theorem index_9 : ∀ t : Fin cfg0.N, win0_9.index t = ![t.val % 16, t.val / 16 % 2] := (by decide +kernel : ∀ t : Fin grid0.N, _)

theorem at_0 (t : Fin cfg0.N) (i : Fin 4096) (n : Fin 512) :
    iblk m c 0 t (ix2 i n) = V m c main_v8 (ix2 i (⟨512 * (groupAt t).val + n.val, by omega⟩ : Fin 1024)) := by
  have e := index_0 t
  blk_simp [iblk]
  exact congrArg (V m c main_v8) (by blk_ext [e, groupAt] <;> first | (change _ * _ + i.val = _; omega) | (change _ * _ + n.val = _; omega))

theorem at_1 (t : Fin cfg0.N) (i : Fin 256) (n : Fin 512) :
    iblk m c 1 t (ix2 i n) = V m c main_v49 (ix2 (row (tileAt t) i) (⟨512 * (groupAt t).val + n.val, by omega⟩ : Fin 1024)) := by
  have e := index_1 t
  blk_simp [iblk]
  exact congrArg (V m c main_v49) (by blk_ext [e, groupAt, tileAt, row] <;> first | (change _ * _ + i.val = _; omega) | (change _ * _ + n.val = _; omega))

theorem at_2 (t : Fin cfg0.N) (i : Fin 256) (n : Fin 256) :
    iblk m c 2 t (ix2 i n) = V m c main_v17 (ix2 (row (tileAt t) i) (⟨256 * (groupAt t).val + n.val, by omega⟩ : Fin 512)) := by
  have e := index_2 t
  blk_simp [iblk]
  exact congrArg (V m c main_v17) (by blk_ext [e, groupAt, tileAt, row] <;> first | (change _ * _ + i.val = _; omega) | (change _ * _ + n.val = _; omega))

theorem at_3 (t : Fin cfg0.N) (n : Fin 512) (i : Fin 256) :
    iblk m c 3 t (ix3 (0 : Fin 1) n i) = V m c main_v14 (ix3 (tileAt t) (⟨512 * (groupAt t).val + n.val, by omega⟩ : Fin 1024) i) := by
  have e := index_3 t
  blk_simp [iblk]
  exact congrArg (V m c main_v14) (by blk_ext [e, groupAt, tileAt] <;> first | (change _ * _ + n.val = _; omega) | (change _ * _ + i.val = _; omega))

theorem at_4 (t : Fin cfg0.N) (i : Fin 4096) (n : Fin 256) :
    iblk m c 4 t (ix2 i n) = V m c main_v20 (ix2 i (⟨256 * (groupAt t).val + n.val, by omega⟩ : Fin 512)) := by
  have e := index_4 t
  blk_simp [iblk]
  exact congrArg (V m c main_v20) (by blk_ext [e, groupAt] <;> first | (change _ * _ + i.val = _; omega) | (change _ * _ + n.val = _; omega))

theorem at_5 (t : Fin cfg0.N) (i : Fin 16) (s : Fin 32) (r : Fin 256) :
    iblk m c 5 t (ix3 i s r) = V m c main_v53 (ix3 i (⟨32 * (groupAt t).val + s.val, by omega⟩ : Fin 64) r) := by
  have e := index_5 t
  blk_simp [iblk]
  exact congrArg (V m c main_v53) (by blk_ext [e, groupAt] <;> first | (change _ * _ + i.val = _; omega) | (change _ * _ + s.val = _; omega) | (change _ * _ + r.val = _; omega))

theorem at_6 (t : Fin cfg0.N) (i : Fin 16) (s : Fin 32) (r : Fin 256) :
    iblk m c 6 t (ix3 i s r) = V m c main_v57 (ix3 i (⟨32 * (groupAt t).val + s.val, by omega⟩ : Fin 64) r) := by
  have e := index_6 t
  blk_simp [iblk]
  exact congrArg (V m c main_v57) (by blk_ext [e, groupAt] <;> first | (change _ * _ + i.val = _; omega) | (change _ * _ + s.val = _; omega) | (change _ * _ + r.val = _; omega))

/-- The head and lane of a packed column. -/
theorem packed_col (f : Fin 8 → Fin 128 → ℝ) (p : Fin 2) (h : Fin 4) (d : Fin 128) (n : ℕ) (hn : n = 512 * p.val + (col h d).val) (h1 h2) :
    f ⟨n / 128, h1⟩ ⟨n % 128, h2⟩ = f (head p h) d := by
  subst hn
  refine congrArg₂ f (Fin.ext ?_) (Fin.ext ?_)
  · show (512 * p.val + (128 * h.val + d.val)) / 128 = 4 * p.val + h.val
    omega
  · show (512 * p.val + (128 * h.val + d.val)) % 128 = d.val
    omega

/-- The head and lane of a column of the packed values. -/
theorem packed_lane (f : Fin 8 → Fin 64 → EReal) (p : Fin 2) (h : Fin 4) (d : Fin 128) (n : ℕ) (hn : n = 256 * p.val + (lane h d).val) (h1 h2) :
    f ⟨n / 64, h1⟩ ⟨n % 64, h2⟩ = f (pairHead p h d) (inHalf d) := by
  subst hn
  refine congrArg₂ f (Fin.ext ?_) (Fin.ext ?_)
  · show (256 * p.val + (128 * (h.val / 2) + d.val)) / 64 = 4 * p.val + 2 * (h.val / 2) + d.val / 64
    omega
  · show (256 * p.val + (128 * (h.val / 2) + d.val)) % 64 = d.val % 64
    omega

theorem stat_head (p : Fin 2) (h : Fin 4) (h1 : (32 * p.val + (stat h).val) / 8 < 8) :
    (⟨(32 * p.val + (stat h).val) / 8, h1⟩ : Fin 8) = head p h := Fin.ext (by
  show (32 * p.val + 8 * h.val) / 8 = 4 * p.val + h.val
  omega)

theorem pairHead_eq (p : Fin 2) (h : Fin 4) (d : Fin 128) (hd : d.val / 64 = h.val % 2) : pairHead p h d = head p h := Fin.ext (by
  show 4 * p.val + 2 * (h.val / 2) + d.val / 64 = 4 * p.val + h.val
  omega)

/-- Seven blocks that hold a point's numbers. -/
theorem blocks_hold {A : Inputs} {p : Fin 2} {j : Fin 16} {x0 : S4096x512.Idx → EReal} {x1 : S256x512.Idx → EReal} {x2 : S256x256.Idx → EReal}
    {x3 : S1x512x256.Idx → EReal} {x4 : S4096x256.Idx → EReal} {x5 x6 : S16x32x256.Idx → EReal}
    (hq : ∀ i h d, x0 (ix2 i (col h d)) = ((padded (fun d => A.q (head p h) i d * scale / Real.log 2) d : ℝ) : EReal))
    (hk : ∀ t h d, x1 (ix2 t (col h d)) = ((padded (A.k (head p h) (row j t)) d : ℝ) : EReal))
    (hkt : ∀ (t : Fin 256) h d, x3 (ix3 (0 : Fin 1) (col h d) t) = ((padded (A.k (head p h) (row j t)) d : ℝ) : EReal))
    (hv : ∀ t h d, d.val / 64 = h.val % 2 → x2 (ix2 t (lane h d)) = ((A.v (head p h) (row j t) (inHalf d) : ℝ) : EReal))
    (hg : ∀ i h d, x4 (ix2 i (lane h d)) = ((A.g (pairHead p h d) i (inHalf d) : ℝ) : EReal))
    (hlse : ∀ i h r, x5 (ix3 i (stat h) r) = ((Real.log (A.mass (head p h) (row i r)) / Real.log 2 : ℝ) : EReal))
    (hdl : ∀ i h r, x6 (ix3 i (stat h) r) = ((A.corr (head p h) (row i r) : ℝ) : EReal)) :
    PointHolds A p j (blocks x0 x1 x2 x3 x4 x5 x6) where
  q := hq
  k := hk
  kt := hkt
  v t h d := if_ctx_congr Iff.rfl (hv t h d) fun _ => rfl
  g := hg
  lse := hlse
  dl := hdl

variable {A : Inputs} (H : Holds A (argQ m c) (argK m c) (argV m c) (argG m c))
include H

theorem point_q (t : Fin cfg0.N) (i : Fin 4096) (h : Fin 4) (d : Fin 128) :
    iblk m c 0 t (ix2 i (col h d)) = ((padded (fun d => A.q (head (groupAt t) h) i d * scale / Real.log 2) d : ℝ) : EReal) :=
  (at_0 m c t i (col h d)).trans ((congrFun (V_q m c) _).trans ((packed_at _ _ (scaledQ_at H) _ _).trans
    (congrArg _ (packed_col (fun H' => padded fun d => A.q H' i d * scale / Real.log 2) (groupAt t) h d _ rfl _ _))))

theorem point_k (t : Fin cfg0.N) (i : Fin 256) (h : Fin 4) (d : Fin 128) :
    iblk m c 1 t (ix2 i (col h d)) = ((padded (A.k (head (groupAt t) h) (row (tileAt t) i)) d : ℝ) : EReal) :=
  (at_1 m c t i (col h d)).trans ((congrFun (V_k m c) _).trans ((packed_at _ _ H.k _ _).trans
    (congrArg _ (packed_col (fun H' => padded (A.k H' (row (tileAt t) i))) (groupAt t) h d _ rfl _ _))))

theorem point_kt (t : Fin cfg0.N) (i : Fin 256) (h : Fin 4) (d : Fin 128) :
    iblk m c 3 t (ix3 (0 : Fin 1) (col h d) i) = ((padded (A.k (head (groupAt t) h) (row (tileAt t) i)) d : ℝ) : EReal) :=
  (at_3 m c t (col h d) i).trans ((congrFun (V_kT m c) _).trans ((tilesT_at _ _ _ _).trans ((packed_at _ _ H.k _ _).trans
    (congrArg _ (packed_col (fun H' => padded (A.k H' (row (tileAt t) i))) (groupAt t) h d _ rfl _ _)))))

theorem point_v (t : Fin cfg0.N) (i : Fin 256) (h : Fin 4) (d : Fin 128) (hd : d.val / 64 = h.val % 2) :
    iblk m c 2 t (ix2 i (lane h d)) = ((A.v (head (groupAt t) h) (row (tileAt t) i) (inHalf d) : ℝ) : EReal) :=
  (at_2 m c t i (lane h d)).trans ((congrFun (V_v m c) _).trans ((packedV_at _ _ _).trans ((H.v _ _ _).trans
    ((packed_lane (fun H' d' => (A.v H' (row (tileAt t) i) d' : EReal)) (groupAt t) h d _ rfl _ _).trans
      (by rw [pairHead_eq _ _ _ hd])))))

theorem point_g (t : Fin cfg0.N) (i : Fin 4096) (h : Fin 4) (d : Fin 128) :
    iblk m c 4 t (ix2 i (lane h d)) = ((A.g (pairHead (groupAt t) h d) i (inHalf d) : ℝ) : EReal) :=
  (at_4 m c t i (lane h d)).trans ((congrFun (V_g m c) _).trans ((packedV_at _ _ _).trans ((H.g _ _ _).trans
    (packed_lane (fun H' d' => (A.g H' i d' : EReal)) (groupAt t) h d _ rfl _ _))))

theorem point_lse (t : Fin cfg0.N) (i : Fin 16) (h : Fin 4) (r : Fin 256) :
    iblk m c 5 t (ix3 i (stat h) r) = ((Real.log (A.mass (head (groupAt t) h) (row i r)) / Real.log 2 : ℝ) : EReal) :=
  (at_5 m c t i (stat h) r).trans ((congrFun (V_lse m c) _).trans ((statRows_at _ _ _ _).trans ((logMass_at (masked_at H) _ _).trans
    (by rw [stat_head]))))

theorem point_dl (t : Fin cfg0.N) (i : Fin 16) (h : Fin 4) (r : Fin 256) :
    iblk m c 6 t (ix3 i (stat h) r) = ((A.corr (head (groupAt t) h) (row i r) : ℝ) : EReal) :=
  (at_6 m c t i (stat h) r).trans ((congrFun (V_dl m c) _).trans ((statRows_at _ _ _ _).trans ((rowCorr_at (masked_at H) H.v H.g _ _).trans
    (congrArg (fun H' => ((A.corr H' (row i r) : ℝ) : EReal)) (stat_head _ _ _)))))

/-- The input blocks of a grid point hold its group's numbers and its tile's keys. -/
theorem point_holds (t : Fin cfg0.N) : PointHolds A (groupAt t) (tileAt t) (ptBlocks m c t) :=
  blocks_hold (point_q m c H t) (point_k m c H t) (point_kt m c H t) (point_v m c H t) (point_g m c H t) (point_lse m c H t) (point_dl m c H t)

end Cert.KernelIdeal.AttnGrad

end
-- ==== Proof.Final.lean ====
/-
  THE RESULTS OF THE LAUNCH: the three arrays it leaves are the gradients of attention over the arguments' reals, packed.
  The gradient of the queries is summed over the sixteen key tiles of a group and written back at the group's last point.
-/
module

public import proofs.«01_k».proof.Proof.Windows

@[expose] public section

noncomputable section

namespace Cert.KernelIdeal.AttnGrad

open Idealize.ShloMosaic hiding ix0 ix1 ix2 ix3 ix4
open Idealize.ShloMosaic.ValueIdx Idealize.ShloMosaic.TcCoe
open Idealize.ShloMosaic.Pipeline (Dat Cfg Window)
open Cert.KernelIdeal Cert.KernelIdeal.Gen Cert.AttnGrad
open scoped BigOperators

/-- The packed gradients, of the queries by tiles transposed, of the keys, of the values. -/
def dqPacked (A : Inputs) : S16x1024x256.Idx → EReal := fun y =>
  ((padded (A.dq (⟨(y 1).val / 128, by have h : (y 1).val < 1024 := (y 1).isLt; omega⟩ : Fin 8) (row (y 0) (y 2)))
    (⟨(y 1).val % 128, Nat.mod_lt _ (by decide)⟩ : Fin 128) : ℝ) : EReal)

def dkPacked (A : Inputs) : S4096x1024.Idx → EReal := fun y =>
  ((padded (A.dk (⟨(y 1).val / 128, by have h : (y 1).val < 1024 := (y 1).isLt; omega⟩ : Fin 8) (y 0))
    (⟨(y 1).val % 128, Nat.mod_lt _ (by decide)⟩ : Fin 128) : ℝ) : EReal)

def dvPacked (A : Inputs) : S4096x512.Idx → EReal := fun y =>
  ((A.dv (⟨(y 1).val / 64, by have h : (y 1).val < 512 := (y 1).isLt; omega⟩ : Fin 8) (y 0)
    (⟨(y 1).val % 64, Nat.mod_lt _ (by decide)⟩ : Fin 64) : ℝ) : EReal)

theorem dqPacked_at (A : Inputs) (p : Fin 2) (h : Fin 4) (d : Fin 128) (b : Fin 16) (r : Fin 256) (n : Fin 1024)
    (hn : n.val = 512 * p.val + (col h d).val) : dqPacked A (ix3 b n r) = ((padded (A.dq (head p h) (row b r)) d : ℝ) : EReal) := by
  have e := packed_col (fun H' => padded (A.dq H' (row b r))) p h d n.val hn (by omega) (by omega)
  exact congrArg Real.toEReal e

theorem dkPacked_at (A : Inputs) (p : Fin 2) (h : Fin 4) (d : Fin 128) (t : Fin 4096) (n : Fin 1024)
    (hn : n.val = 512 * p.val + (col h d).val) : dkPacked A (ix2 t n) = ((padded (A.dk (head p h) t) d : ℝ) : EReal) := by
  have e := packed_col (fun H' => padded (A.dk H' t)) p h d n.val hn (by omega) (by omega)
  exact congrArg Real.toEReal e

theorem dvPacked_at (A : Inputs) (p : Fin 2) (h : Fin 4) (d : Fin 128) (hd : d.val / 64 = h.val % 2) (t : Fin 4096) (n : Fin 512)
    (hn : n.val = 256 * p.val + (lane h d).val) : dvPacked A (ix2 t n) = ((A.dv (head p h) t (inHalf d) : ℝ) : EReal) := by
  have e := packed_lane (fun H' d' => (A.dv H' t d' : EReal)) p h d n.val hn (by omega) (by omega)
  rw [pairHead_eq _ _ _ hd] at e
  exact e

theorem headOf_col (h : Fin 4) (d : Fin 128) : headOf (col h d) = h := Fin.ext (by
  show (128 * h.val + d.val) / 128 = h.val
  omega)

theorem laneOf_col (h : Fin 4) (d : Fin 128) : laneOf (col h d) = d := Fin.ext (by
  show (128 * h.val + d.val) % 128 = d.val
  omega)

theorem dqOut_at (B : Blocks) (j : Fin 16) (x : S16x512x256.Idx → EReal) (b : Fin 16) (h : Fin 4) (d : Fin 128) (r : Fin 256) :
    B.dqOut j x (ix3 b (col h d) r) = x (ix3 b (col h d) r) + B.dqAdd j b h d r := by
  show x (ix3 b (col h d) r) + B.dqAdd j b (headOf (col h d)) (laneOf (col h d)) r = _
  rw [headOf_col, laneOf_col]

/-- The gradient of a query summed over the first `n` key tiles. -/
def dqUpto (A : Inputs) (p : Fin 2) (b : Fin 16) (h : Fin 4) (d : Fin 128) (r : Fin 256) (n : ℕ) : ℝ :=
  ∑ k ∈ Finset.range n, ∑ t, padded (A.k (head p h) (row (tile k) t)) d * A.ds (head p h) (row b r) (row (tile k) t)

theorem dqUpto_all (A : Inputs) (p : Fin 2) (b : Fin 16) (h : Fin 4) (d : Fin 128) (r : Fin 256) :
    dqUpto A p b h d r 16 = padded (A.dq (head p h) (row b r)) d := by
  rw [← dq_total, dqUpto, ← Fin.sum_univ_eq_sum_range (fun k => ∑ t, padded (A.k (head p h) (row (tile k) t)) d * A.ds (head p h) (row b r) (row (tile k) t)) 16]
  refine Finset.sum_congr rfl fun j _ => ?_
  rw [show tile j.val = j from Fin.ext (Nat.mod_eq_of_lt j.isLt)]

variable (m : (ℓ : Loc nD τ sig) → Buf (Elt Ideal) ℓ) (c : Dev nD)

theorem coord_eq (t : Fin cfg0.N) : (grid0.coords t 1 : Fin 16) = tileAt t := Fin.ext (coord_tile t)

variable {A : Inputs} (H : Holds A (argQ m c) (argK m c) (argV m c) (argG m c))
include H

/-- What a point adds to the gradient of a query. -/
theorem add_at (t : Fin cfg0.N) (b : Fin 16) (h : Fin 4) (d : Fin 128) (r : Fin 256) (p : Fin 2) (hp : groupAt t = p) (n : ℕ) (hn : t.val % 16 = n) :
    (ptBlocks m c t).dqAdd (grid0.coords t 1) b h d r
      = ((∑ s, padded (A.k (head p h) (row (tile n) s)) d * A.ds (head p h) (row b r) (row (tile n) s) : ℝ) : EReal) := by
  subst hp hn
  have e : tile (t.val % 16) = tileAt t := Fin.ext (Nat.mod_mod _ _)
  rw [e]
  have h1 : (ptBlocks m c t).dqAdd (grid0.coords t 1) b h d r = (ptBlocks m c t).dqAdd (tileAt t) b h d r :=
    congrArg (fun j : Fin 16 => (ptBlocks m c t).dqAdd j b h d r) (coord_eq t)
  exact h1.trans (dqAdd_num (point_holds m c H t) b h d r)

theorem dqAt_num (b : Fin 16) (h : Fin 4) (d : Fin 128) (r : Fin 256) : (n : ℕ) → (hn : n < cfg0.N) →
    dqAt m c n hn (ix3 b (col h d) r) = ((dqUpto A (groupAt ⟨n, hn⟩) b h d r (n % 16 + 1) : ℝ) : EReal) := by
  intro n
  induction n with
  | zero =>
    intro hn
    refine (congrFun (dqAt_first m c ⟨0, hn⟩ rfl) _).trans ((dqOut_at _ _ _ b h d r).trans ?_)
    rw [add_at m c H ⟨0, hn⟩ b h d r _ rfl 0 rfl, zero_add]
    exact congrArg _ (by rw [dqUpto, Finset.sum_range_one])
  | succ n ih =>
    intro hn
    by_cases h0 : (n + 1) % 16 = 0
    · refine (congrFun (dqAt_first m c ⟨n + 1, hn⟩ h0) _).trans ((dqOut_at _ _ _ b h d r).trans ?_)
      rw [add_at m c H ⟨n + 1, hn⟩ b h d r _ rfl 0 h0, zero_add, h0]
      exact congrArg _ (by rw [dqUpto, Finset.sum_range_one])
    · refine (congrFun (dqAt_later m c ⟨n + 1, hn⟩ h0) _).trans ((dqOut_at _ _ _ b h d r).trans ?_)
      have e : (n + 1) % 16 = n % 16 + 1 := by omega
      have g : groupAt ⟨n, Nat.lt_of_succ_lt hn⟩ = groupAt ⟨n + 1, hn⟩ := Fin.ext (by
        show n / 16 % 2 = (n + 1) / 16 % 2
        omega)
      refine (congrArg₂ (· + ·) (ih (Nat.lt_of_succ_lt hn)) (add_at m c H ⟨n + 1, hn⟩ b h d r _ rfl (n % 16 + 1) e)).trans ?_
      rw [g, ← EReal.coe_add, e]
      exact congrArg _ (by rw [dqUpto, dqUpto, Finset.sum_range_succ _ (n % 16 + 1)])

theorem dq_block (t : Fin cfg0.N) (hl : t.val % 16 = 15) (b : Fin 16) (k : Fin 512) (r : Fin 256) :
    dqAt m c t.val t.isLt (ix3 b k r) = dqPacked A (ix3 b (⟨512 * (groupAt t).val + k.val, by omega⟩ : Fin 1024) r) := by
  rw [dqPacked_at A (groupAt t) (headOf k) (laneOf k) b r _ (by rw [col_head_lane])]
  refine (congrArg (fun k' => dqAt m c t.val t.isLt (ix3 b k' r)) (col_head_lane k).symm).trans
    ((dqAt_num m c H b (headOf k) (laneOf k) r t.val t.isLt).trans ?_)
  rw [hl, dqUpto_all]

theorem dk_block (t : Fin cfg0.N) (i : Fin 256) (k : Fin 512) :
    (ptBlocks m c t).dkOut (grid0.coords t 1) (ix2 i k)
      = dkPacked A (ix2 (row (tileAt t) i) (⟨512 * (groupAt t).val + k.val, by omega⟩ : Fin 1024)) := by
  rw [dkPacked_at A (groupAt t) (headOf k) (laneOf k) _ _ (by rw [col_head_lane])]
  have h1 : (ptBlocks m c t).dkOut (grid0.coords t 1) (ix2 i k) = (ptBlocks m c t).dkOut (tileAt t) (ix2 i k) :=
    congrArg (fun j : Fin 16 => (ptBlocks m c t).dkOut j (ix2 i k)) (coord_eq t)
  exact h1.trans (dkSum_num (point_holds m c H t) (headOf k) i (laneOf k))

omit H in
theorem lane_of_v (l : Fin 256) : (laneOfV l).val / 64 = (headOfV l).val % 2 ∧ (lane (headOfV l) (laneOfV l)) = l := by
  refine ⟨?_, Fin.ext ?_⟩
  · show l.val % 128 / 64 = (2 * (l.val / 128) + l.val % 128 / 64) % 2
    omega
  · show 128 * ((2 * (l.val / 128) + l.val % 128 / 64) / 2) + l.val % 128 = l.val
    omega

theorem dv_block (t : Fin cfg0.N) (i : Fin 256) (k : Fin 256) :
    (ptBlocks m c t).dvOut (grid0.coords t 1) (ix2 i k)
      = dvPacked A (ix2 (row (tileAt t) i) (⟨256 * (groupAt t).val + k.val, by omega⟩ : Fin 512)) := by
  have hl := lane_of_v k
  rw [dvPacked_at A (groupAt t) (headOfV k) (laneOfV k) hl.1 _ _ (by rw [hl.2])]
  have h1 : (ptBlocks m c t).dvOut (grid0.coords t 1) (ix2 i k) = (ptBlocks m c t).dvOut (tileAt t) (ix2 i k) :=
    congrArg (fun j : Fin 16 => (ptBlocks m c t).dvOut j (ix2 i k)) (coord_eq t)
  exact h1.trans (dvSum_num (point_holds m c H t) (headOfV k) i (laneOfV k) hl.1)

/-- The gradient of the queries, whole. -/
theorem final_dq : (dats m 0 c).arrAt 7 cfg0.N = dqPacked A := by
  refine (dats m 0 c).arrAt_eq_of_covers 7 _ (by decide +kernel) fun t hf y => ?_
  have hl : t.val % 16 = 15 := (flush0_7 t).mp hf
  have e := index_7 t
  blk_simp
  rw [after_dq]
  obtain ⟨b, k, r, rfl⟩ : ∃ (b : Fin 16) (k : Fin 512) (r : Fin 256), y = ix3 b k r :=
    ⟨y 0, y 1, y 2, funext fun a => match a with | ⟨0, _⟩ => rfl | ⟨1, _⟩ => rfl | ⟨2, _⟩ => rfl⟩
  refine (dq_block m c H t hl b k r).trans (congrArg (dqPacked A) ?_)
  blk_ext [e, groupAt] <;> (change _ = _ * _ + k.val; omega)

/-- The gradient of the keys, whole. -/
theorem final_dk : (dats m 0 c).arrAt 8 cfg0.N = dkPacked A := by
  refine (dats m 0 c).arrAt_eq_of_covers 8 _ (by decide +kernel) fun t hf y => ?_
  have e := index_8 t
  blk_simp
  rw [after_dk]
  obtain ⟨i, k, rfl⟩ : ∃ (i : Fin 256) (k : Fin 512), y = ix2 i k :=
    ⟨y 0, y 1, funext fun a => match a with | ⟨0, _⟩ => rfl | ⟨1, _⟩ => rfl⟩
  refine (dk_block m c H t i k).trans (congrArg (dkPacked A) ?_)
  blk_ext [e, groupAt, tileAt, row] <;> first | (change _ = _ * _ + k.val; omega) | (change _ = _ * _ + i.val; omega)

/-- The gradient of the values, whole. -/
theorem final_dv : (dats m 0 c).arrAt 9 cfg0.N = dvPacked A := by
  refine (dats m 0 c).arrAt_eq_of_covers 9 _ (by decide +kernel) fun t hf y => ?_
  have e := index_9 t
  blk_simp
  rw [after_dv]
  obtain ⟨i, k, rfl⟩ : ∃ (i : Fin 256) (k : Fin 256), y = ix2 i k :=
    ⟨y 0, y 1, funext fun a => match a with | ⟨0, _⟩ => rfl | ⟨1, _⟩ => rfl⟩
  refine (dv_block m c H t i k).trans (congrArg (dvPacked A) ?_)
  blk_ext [e, groupAt, tileAt, row] <;> first | (change _ = _ * _ + k.val; omega) | (change _ = _ * _ + i.val; omega)

end Cert.KernelIdeal.AttnGrad

end
-- ==== Proof.Finite.lean ====
/-
  FINITE ARGUMENTS HOLD REALS: where the precondition answers true, every element of the four arguments is a real number;
  and on such arguments the reference's results are the packed gradients.
-/
module

public import proofs.«01_k».proof.Pre_finite
public import proofs.«01_k».proof.Proof.RefValue
public import proofs.«01_k».proof.Proof.Final
public import Idealize.ShloMosaic.Lib.ReduceAll
public import Idealize.ShloMosaic.Lib.WordCmp

@[expose] public section

noncomputable section

namespace Cert.AttnGrad

open Idealize.ShloMosaic hiding ix0 ix1 ix2 ix3 ix4
open Idealize.ShloMosaic.ValueIdx
open Cert.KernelIdeal.AttnGrad (dqPacked dkPacked dvPacked padded row)

/-- The side conditions of the precondition's operations. -/
theorem finite_facts : Cert.Pre_finite.Facts := ⟨by decide, by decide, by decide, by decide, by decide⟩

/-- A value whose magnitude lies below the top is a real. -/
theorem real_of_abs_lt (x : EReal) (h : Ideal.cmp .olt (max x (-x)) ⊤ = 1#1) : ((x.toReal : ℝ) : EReal) = x := by
  have h' : max x (-x) < ⊤ := by
    simpa only [Ideal.cmp, BitVec.ofBool_eq_iff_eq, decide_eq_true_eq] using (show BitVec.ofBool (decide (max x (-x) < ⊤)) = BitVec.ofBool true from h)
  obtain ⟨h1, h2⟩ := max_lt_iff.mp h'
  refine EReal.coe_toReal h1.ne ?_
  rintro rfl
  simp at h2

/-- Where every magnitude of an array lies below the top, the array holds reals. -/
theorem reals_of_all {s : Shape} {axes : List (Fin s.rank)} (x : FVec Ideal s .f32) (hb : (⟨0, ![]⟩ : Shape).BroadcastsInDim s ![])
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : (((x i).toReal : ℝ) : EReal) = x i := by
  have e := Host.reduce_andi_all _ _ hr hu j h i
  have t : Ideal.ofBits .f32 0x7F800000#32 = ⊤ := by decide +kernel
  refine real_of_abs_lt (x i) ?_
  rw [← t]
  exact e

/-- The real numbers of four arrays. -/
def realsOf (x0 x1 : Cert.Pre_finite.S8x4096x96.Idx → EReal) (x2 x3 : Cert.Pre_finite.S8x4096x64.Idx → EReal) : Inputs where
  q h i d := (x0 (ix3 h i d)).toReal
  k h i d := (x1 (ix3 h i d)).toReal
  v h i d := (x2 (ix3 h i d)).toReal
  g h i d := (x3 (ix3 h i d)).toReal

theorem and_split {s : Shape} (a b : IVec s 1) (i : s.Idx) (h : andi a b i = 1#1) : a i = 1#1 ∧ b i = 1#1 :=
  IntOp.andi_eq_one.1 h

/-- Arguments that the precondition accepts hold the reals of their elements. -/
theorem holds_of_finite [Cert.Pre_finite.Facts] (x0 x1 : FVec Ideal Cert.Pre_finite.S8x4096x96 .f32) (x2 x3 : FVec Ideal Cert.Pre_finite.S8x4096x64 .f32)
    (h : Cert.Pre_finite.fn (F := Ideal) x0 x1 x2 x3 = fun _ => 1#1) : Holds (realsOf x0 x1 x2 x3) x0 x1 x2 x3 := by
  have h0 := congrFun h (fun a => a.elim0)
  obtain ⟨h1, r3⟩ := and_split _ _ _ h0
  obtain ⟨h2, r2⟩ := and_split _ _ _ h1
  obtain ⟨r0, r1⟩ := and_split _ _ _ h2
  exact ⟨fun a b d => (reals_of_all x0 _ _ _ _ r0 _).symm, fun a b d => (reals_of_all x1 _ _ _ _ r1 _).symm,
    fun a b d => (reals_of_all x2 _ _ _ _ r2 _).symm, fun a b d => (reals_of_all x3 _ _ _ _ r3 _).symm⟩

/-! ## The reference's results, packed -/

section
open Cert.ReferenceIdeal Cert.ReferenceIdeal.Gen Cert.ReferenceIdeal.Read

variable {A : Inputs} {x0 x1 : S8x4096x96.Idx → EReal} {x2 x3 : S8x4096x64.Idx → EReal}

theorem padded_coe {n : Nat} (f : Fin 96 → ℝ) (hn : n < 128) :
    (if hd : n < 96 then ((f ⟨n, hd⟩ : ℝ) : EReal) else 0) = ((padded f ⟨n, hn⟩ : ℝ) : EReal) := by
  unfold padded
  split <;> rfl

theorem ref_packed_dq (H : Holds A x0 x1 x2 x3) : val_main_v61 (F := Ideal) x0 x1 x2 x3 = dqPacked A := by
  funext y
  obtain ⟨b, n, r, rfl⟩ : ∃ (b : Fin 16) (n : Fin 1024) (r : Fin 256), y = ix3 b n r := ⟨y 0, y 1, y 2, by
    funext a; match a with | ⟨0, _⟩ => rfl | ⟨1, _⟩ => rfl | ⟨2, _⟩ => rfl⟩
  have e : (⟨b.val * 256 + r.val, by omega⟩ : Fin 4096) = row b r := Fin.ext (by show b.val * 256 + r.val = 256 * b.val + r.val; omega)
  rw [ref_v61 H b n r, e]
  exact padded_coe (A.dq ⟨n.val / 128, by omega⟩ (row b r)) (Nat.mod_lt n.val (by decide))

theorem ref_packed_dk (H : Holds A x0 x1 x2 x3) : val_main_v65 (F := Ideal) x0 x1 x2 x3 = dkPacked A := by
  funext y
  obtain ⟨t, n, rfl⟩ : ∃ (t : Fin 4096) (n : Fin 1024), y = ix2 t n := ⟨y 0, y 1, by
    funext a; match a with | ⟨0, _⟩ => rfl | ⟨1, _⟩ => rfl⟩
  exact (ref_v65 H t n).trans (padded_coe (A.dk ⟨n.val / 128, by omega⟩ t) (Nat.mod_lt n.val (by decide)))

theorem ref_packed_dv (H : Holds A x0 x1 x2 x3) : val_main_v68 (F := Ideal) x0 x1 x3 = dvPacked A := by
  funext y
  obtain ⟨t, n, rfl⟩ : ∃ (t : Fin 4096) (n : Fin 512), y = ix2 t n := ⟨y 0, y 1, by
    funext a; match a with | ⟨0, _⟩ => rfl | ⟨1, _⟩ => rfl⟩
  rw [ref_v68 H t n]
  rfl

end

end Cert.AttnGrad

end
-- ==== Proof.Products.lean ====
/-
  THE STEP'S PRODUCTS: a kernel's product of a transposed left factor at an index, for any extents.
-/
module

public import Idealize.ShloMosaic.Lib.MatmulPlain

@[expose] public section

noncomputable section

namespace Cert.Products

open Idealize.ShloMosaic Idealize.ShloMosaic.ValueIdx
open scoped BigOperators

theorem offsets2 : (![0, 0] : Fin 2 → ℕ) = fun _ => 0 := funext fun a => by fin_cases a <;> rfl
theorem offsets3 : (![0, 0, 0] : Fin 3 → ℕ) = fun _ => 0 := funext fun a => by fin_cases a <;> rfl

theorem ext2 {m n : ℕ} (y : (⟨2, ![m, n]⟩ : Shape).Idx) : ∃ (r : Fin m) (c : Fin n), y = ix2 r c :=
  ⟨y 0, y 1, funext fun a => match a with | ⟨0, _⟩ => rfl | ⟨1, _⟩ => rfl⟩

section
variable {M K N : ℕ} {φ ψ : FTy}

/-- Rows times rows. -/
theorem rows_rows (a : FVec Ideal ⟨2, ![M, K]⟩ φ) (b : FVec Ideal ⟨2, ![N, K]⟩ ψ) (r : Fin M) (c : Fin N) :
    FloatOps.matmul (DotDims.transposedRhs M K N) none a b (constant ⟨2, ![M, N]⟩ .f32 0x00000000#32) (ix2 r c)
      = ∑ k : Fin K, a (ix2 r k) * b (ix2 c k) := by
  rw [Ideal.matmul_transposedRhs_apply]
  show Ideal.ofBits .f32 0x00000000#32 + _ = _
  rw [Ideal.ofBits_zero_f32, zero_add]

/-- Rows times columns. -/
theorem rows_cols (a : FVec Ideal ⟨2, ![M, K]⟩ φ) (b : FVec Ideal ⟨2, ![K, N]⟩ ψ) (r : Fin M) (c : Fin N) :
    FloatOps.matmul (DotDims.plain M K N) none a b (constant ⟨2, ![M, N]⟩ .f32 0x00000000#32) (ix2 r c)
      = ∑ k : Fin K, a (ix2 r k) * b (ix2 k c) := by
  rw [Ideal.matmul_plain_apply]
  show Ideal.ofBits .f32 0x00000000#32 + _ = _
  rw [Ideal.ofBits_zero_f32, zero_add]

/-- The dimension numbers of columns times columns. -/
abbrev colsDims (M K N : ℕ) (h : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := h

/-- Columns times columns. -/
theorem cols_cols (h) (a : FVec Ideal ⟨2, ![K, M]⟩ φ) (b : FVec Ideal ⟨2, ![K, N]⟩ ψ) (r : Fin M) (c : Fin N) :
    FloatOps.matmul (colsDims M K N h) none a b (constant ⟨2, ![M, N]⟩ .f32 0x00000000#32) (ix2 r c)
      = ∑ k : Fin K, a (ix2 k r) * b (ix2 k c) := by
  rw [Ideal.matmul_constant_zero_apply, ← Equiv.sum_comp (contrEquiv1 (colsDims M K N h) K rfl rfl).symm]
  refine Finset.sum_congr rfl fun k _ => ?_
  have hk := contrEquiv1_symm_val (colsDims M K N h) K rfl rfl k
  have el : (colsDims M K N h).lhsIdx (ix2 r c) ((contrEquiv1 (colsDims M K N h) K rfl rfl).symm k) = ix2 k r :=
    funext fun x => Fin.ext (match x with | ⟨0, _⟩ => hk | ⟨1, _⟩ => rfl)
  have er : (colsDims M K N h).rhsIdx (ix2 r c) ((contrEquiv1 (colsDims M K N h) K rfl rfl).symm k) = ix2 k c :=
    funext fun x => Fin.ext (match x with | ⟨0, _⟩ => hk | ⟨1, _⟩ => rfl)
  rw [el, er]

end

end Cert.Products

end
-- ==== Proof.OutLeft.lean ====
/-
  THE GRADIENT OF THE OUTPUT PRODUCT'S LEFT FACTOR: what the launch leaves is what the reference's sum says.
-/
module

public import proofs.«01_k».proof.Proof.Products
public import proofs.«01_k».proof.Proof.Gen.OutLeftIdeal.Value
public import proofs.«01_k».proof.Proof.Gen.OutLeftRefIdeal.Read
public import Idealize.ShloMosaic.Lib.StableHlo.RunRead
public import Idealize.ShloMosaic.Lib.Claim
public import Idealize.ShloMosaic.Lib.Pipeline.ValueKit.Geometry

@[expose] public section

noncomputable section

namespace Cert.OutLeftIdeal.Product

open Idealize.ShloMosaic
open Idealize.ShloMosaic.ValueIdx Idealize.ShloMosaic.TcCoe Idealize.ShloMosaic.StableHlo
open Idealize.ShloMosaic.Pipeline (Dat Cfg Window)
open Cert.OutLeftIdeal Cert.OutLeftIdeal.Gen Cert.Products
open scoped BigOperators

variable (m : (ℓ : Loc nD τ sig) → Buf (Elt Ideal) ℓ) (c : Dev nD)

/-- The two arguments, as the program finds them. -/
abbrev argA : FVec Ideal S4096x1024 .f32 := m ((c : Thread nD τ).loc main_arg0)
abbrev argB : FVec Ideal S1024x1024 .f32 := m ((c : Thread nD τ).loc main_arg1)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

theorem V_a : V m c main_v0 = argA m c := by
  simp only [V, List.flatten_cons, List.flatten_nil, List.append_nil]
  after_reads_simp
  rfl

theorem V_b : V m c main_v1 = argB m c := by
  simp only [V, List.flatten_cons, List.flatten_nil, List.append_nil]
  after_reads_simp
  rfl

/-- Row `512 t + r` of the tokens. -/
def pos (t : Fin cfg0.N) (r : Fin 512) : Fin 4096 := ⟨512 * t.val + r.val, by have h : t.val < 8 := t.isLt; omega⟩

theorem at_0 (t : Fin cfg0.N) (i : Fin 512) (j : Fin 1024) : iblk m c 0 t (ix2 i j) = argA m c (ix2 (pos t i) j) := by
  have e := index_0 t
  rw [← V_a]
  blk_simp [iblk]
  exact congrArg (V m c main_v0) (by blk_ext [e, pos] <;> first | (change _ * _ + i.val = _; omega) | (change _ * _ + j.val = _; omega))

theorem at_1 (t : Fin cfg0.N) (i : Fin 1024) (j : Fin 1024) : iblk m c 1 t (ix2 i j) = argB m c (ix2 i j) := by
  have e := index_1 t
  rw [← V_b]
  blk_simp [iblk]
  exact congrArg (V m c main_v1) (by blk_ext [e, pos] <;> first | (change _ * _ + i.val = _; omega) | (change _ * _ + j.val = _; omega))

/-- What a grid point stores, at an index. -/
theorem pay_at (a : Vec Ideal S512x1024 .bf16) (b : Vec Ideal S1024x1024 .bf16) (r : Fin 512) (n : Fin 1024) :
    out0_2 (F := Ideal) a b (ix2 r n) = ∑ k : Fin 1024, a (ix2 r k) * b (ix2 n k) := by
  unfold out0_2
  rw [View.canon_unit_zero offsets2, View.ld_unit_zero offsets2, View.ld_unit_zero offsets2]
  unfold k0_pay1
  rw [shapeCast_self, shapeCast_self]
  exact rows_rows (M := 512) (K := 1024) (N := 1024) (φ := .bf16) (ψ := .bf16) a b r n

/-- The reference's value. -/
abbrev want (x : FVec Ideal S4096x1024 .f32) (w : FVec Ideal S1024x1024 .f32) : FVec Ideal S4096x1024 .bf16 :=
  Cert.OutLeftRefIdeal.Read.val_main_v3 (F := Ideal) x w

theorem want_at (x : FVec Ideal S4096x1024 .f32) (w : FVec Ideal S1024x1024 .f32) (r : Fin 4096) (n : Fin 1024) :
    want x w (ix2 r n) = ∑ k : Fin 1024, x (ix2 r k) * w (ix2 n k) := by
  refine (Cert.OutLeftRefIdeal.Read.val_main_v2_apply x w (ix2 r n)).trans (Finset.sum_congr rfl fun k _ => ?_)
  refine congrArg₂ (fun i j => x i * w j) ?_ ?_
  · exact funext fun a => match a with | ⟨0, _⟩ => rfl | ⟨1, _⟩ => rfl
  · exact funext fun a => match a with | ⟨0, _⟩ => rfl | ⟨1, _⟩ => rfl

/-- The result, whole. -/
theorem final : (dats m 0 c).arrAt 2 cfg0.N = want (argA m c) (argB m c) := by
  refine (dats m 0 c).arrAt_eq_of_covers 2 _ (by decide +kernel) fun t hf y => ?_
  have e := index_2 t
  blk_simp
  rw [after0_2]
  obtain ⟨r, n, rfl⟩ : ∃ (r : Fin 512) (n : Fin 1024), y = ix2 r n := ext2 y
  refine (pay_at _ _ r n).trans (Eq.trans ?_ ((want_at (argA m c) (argB m c) (pos t r) n).symm.trans (congrArg (want (argA m c) (argB m c)) ?_)))
  · exact Finset.sum_congr rfl fun k _ => congrArg₂ (· * ·) (at_0 m c t r k) (at_1 m c t n k)
  · blk_ext [e, pos] <;> first | (change _ = _ * _ + r.val; omega) | (change _ = _ * _ + n.val; omega)

end Cert.OutLeftIdeal.Product

end
-- ==== Proof.OutRight.lean ====
/-
  THE GRADIENT OF THE OUTPUT WEIGHTS: what the launch leaves is what the reference's sum over the tokens says.
-/
module

public import proofs.«01_k».proof.Proof.Products
public import proofs.«01_k».proof.Proof.Gen.OutRightIdeal.Value
public import proofs.«01_k».proof.Proof.Gen.OutRightRefIdeal.Read
public import Idealize.ShloMosaic.Lib.StableHlo.RunRead
public import Idealize.ShloMosaic.Lib.Claim
public import Idealize.ShloMosaic.Lib.Pipeline.ValueKit.Geometry

@[expose] public section

noncomputable section

namespace Cert.OutRightIdeal.Product

open Idealize.ShloMosaic
open Idealize.ShloMosaic.ValueIdx Idealize.ShloMosaic.TcCoe Idealize.ShloMosaic.StableHlo
open Idealize.ShloMosaic.Pipeline (Dat Cfg Window)
open Cert.OutRightIdeal Cert.OutRightIdeal.Gen Cert.Products
open scoped BigOperators

variable (m : (ℓ : Loc nD τ sig) → Buf (Elt Ideal) ℓ) (c : Dev nD)

/-- The two arguments, as the program finds them. -/
abbrev argA : FVec Ideal S4096x1024 .f32 := m ((c : Thread nD τ).loc main_arg0)
abbrev argB : FVec Ideal S4096x1024 .f32 := m ((c : Thread nD τ).loc main_arg1)

theorem index_0 : ∀ t : Fin cfg0.N, win0_0.index t = ![0, t.val] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

theorem V_a : V m c main_v0 = argA m c := by
  simp only [V, List.flatten_cons, List.flatten_nil, List.append_nil]
  after_reads_simp
  rfl

theorem V_b : V m c main_v1 = argB m c := by
  simp only [V, List.flatten_cons, List.flatten_nil, List.append_nil]
  after_reads_simp
  rfl

/-- Row `512 t + r` of the gradient. -/
def pos (t : Fin cfg0.N) (r : Fin 512) : Fin 1024 := ⟨512 * t.val + r.val, by have h : t.val < 2 := t.isLt; omega⟩

theorem at_0 (t : Fin cfg0.N) (i : Fin 4096) (j : Fin 512) : iblk m c 0 t (ix2 i j) = argA m c (ix2 i (pos t j)) := by
  have e := index_0 t
  rw [← V_a]
  blk_simp [iblk]
  exact congrArg (V m c main_v0) (by blk_ext [e, pos] <;> first | (change _ * _ + i.val = _; omega) | (change _ * _ + j.val = _; omega))

theorem at_1 (t : Fin cfg0.N) (i : Fin 4096) (j : Fin 1024) : iblk m c 1 t (ix2 i j) = argB m c (ix2 i j) := by
  have e := index_1 t
  rw [← V_b]
  blk_simp [iblk]
  exact congrArg (V m c main_v1) (by blk_ext [e, pos] <;> first | (change _ * _ + i.val = _; omega) | (change _ * _ + j.val = _; omega))

/-- What a grid point stores, at an index. -/
theorem pay_at (a : Vec Ideal S4096x512 .bf16) (b : Vec Ideal S4096x1024 .bf16) (r : Fin 512) (n : Fin 1024) :
    out0_2 (F := Ideal) a b (ix2 r n) = ∑ k : Fin 4096, a (ix2 k r) * b (ix2 k n) := by
  unfold out0_2
  rw [View.canon_unit_zero offsets2, View.ld_unit_zero offsets2, View.ld_unit_zero offsets2]
  unfold k0_pay1
  rw [shapeCast_self, shapeCast_self]
  exact cols_cols (M := 512) (K := 4096) (N := 1024) (φ := .bf16) (ψ := .bf16) _ a b r n

/-- The reference's value. -/
abbrev want (x : FVec Ideal S4096x1024 .f32) (w : FVec Ideal S4096x1024 .f32) : FVec Ideal S1024x1024 .bf16 :=
  Cert.OutRightRefIdeal.Read.val_main_v4 (F := Ideal) x w

theorem want_at (x : FVec Ideal S4096x1024 .f32) (w : FVec Ideal S4096x1024 .f32) (r : Fin 1024) (n : Fin 1024) :
    want x w (ix2 r n) = ∑ k : Fin 4096, x (ix2 k r) * w (ix2 k n) := by
  refine (Cert.OutRightRefIdeal.Read.val_main_v3_apply (F := Ideal) x w (ix2 r n)).trans
    ((Cert.OutRightRefIdeal.Read.val_main_v2_apply x w _).trans (Finset.sum_congr rfl fun k _ => (mul_comm _ _).trans ?_))
  refine congrArg₂ (fun i j => x i * w j) ?_ ?_
  · exact funext fun a => match a with | ⟨0, _⟩ => rfl | ⟨1, _⟩ => rfl
  · exact funext fun a => match a with | ⟨0, _⟩ => rfl | ⟨1, _⟩ => rfl

/-- The result, whole. -/
theorem final : (dats m 0 c).arrAt 2 cfg0.N = want (argA m c) (argB m c) := by
  refine (dats m 0 c).arrAt_eq_of_covers 2 _ (by decide +kernel) fun t hf y => ?_
  have e := index_2 t
  blk_simp
  rw [after0_2]
  obtain ⟨r, n, rfl⟩ : ∃ (r : Fin 512) (n : Fin 1024), y = ix2 r n := ext2 y
  refine (pay_at _ _ r n).trans (Eq.trans ?_ ((want_at (argA m c) (argB m c) (pos t r) n).symm.trans (congrArg (want (argA m c) (argB m c)) ?_)))
  · exact Finset.sum_congr rfl fun k _ => congrArg₂ (· * ·) (at_0 m c t k r) (at_1 m c t k n)
  · blk_ext [e, pos] <;> first | (change _ = _ * _ + r.val; omega) | (change _ = _ * _ + n.val; omega)

end Cert.OutRightIdeal.Product

end
-- ==== Proof.OddLeft.lean ====
/-
  THE GRADIENT OF AN ODD LAYER'S INPUT PRODUCT'S LEFT FACTOR: what the launch leaves is what the reference's sum says.
-/
module

public import proofs.«01_k».proof.Proof.Products
public import proofs.«01_k».proof.Proof.Gen.OddLeftIdeal.Value
public import proofs.«01_k».proof.Proof.Gen.OddLeftRefIdeal.Read
public import Idealize.ShloMosaic.Lib.StableHlo.RunRead
public import Idealize.ShloMosaic.Lib.Claim
public import Idealize.ShloMosaic.Lib.Pipeline.ValueKit.Geometry

@[expose] public section

noncomputable section

namespace Cert.OddLeftIdeal.Product

open Idealize.ShloMosaic
open Idealize.ShloMosaic.ValueIdx Idealize.ShloMosaic.TcCoe Idealize.ShloMosaic.StableHlo
open Idealize.ShloMosaic.Pipeline (Dat Cfg Window)
open Cert.OddLeftIdeal Cert.OddLeftIdeal.Gen Cert.Products
open scoped BigOperators

variable (m : (ℓ : Loc nD τ sig) → Buf (Elt Ideal) ℓ) (c : Dev nD)

/-- The two arguments, as the program finds them. -/
abbrev argA : FVec Ideal S4096x3072 .f32 := m ((c : Thread nD τ).loc main_arg0)
abbrev argB : FVec Ideal S1024x3072 .f32 := m ((c : Thread nD τ).loc main_arg1)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

theorem V_a : V m c main_v0 = argA m c := by
  simp only [V, List.flatten_cons, List.flatten_nil, List.append_nil]
  after_reads_simp
  rfl

theorem V_b : V m c main_v1 = argB m c := by
  simp only [V, List.flatten_cons, List.flatten_nil, List.append_nil]
  after_reads_simp
  rfl

/-- Row `512 t + r` of the tokens. -/
def pos (t : Fin cfg0.N) (r : Fin 512) : Fin 4096 := ⟨512 * t.val + r.val, by have h : t.val < 8 := t.isLt; omega⟩

theorem at_0 (t : Fin cfg0.N) (i : Fin 512) (j : Fin 3072) : iblk m c 0 t (ix2 i j) = argA m c (ix2 (pos t i) j) := by
  have e := index_0 t
  rw [← V_a]
  blk_simp [iblk]
  exact congrArg (V m c main_v0) (by blk_ext [e, pos] <;> first | (change _ * _ + i.val = _; omega) | (change _ * _ + j.val = _; omega))

theorem at_1 (t : Fin cfg0.N) (i : Fin 1024) (j : Fin 3072) : iblk m c 1 t (ix2 i j) = argB m c (ix2 i j) := by
  have e := index_1 t
  rw [← V_b]
  blk_simp [iblk]
  exact congrArg (V m c main_v1) (by blk_ext [e, pos] <;> first | (change _ * _ + i.val = _; omega) | (change _ * _ + j.val = _; omega))

/-- What a grid point stores, at an index. -/
theorem pay_at (a : Vec Ideal S512x3072 .bf16) (b : Vec Ideal S1024x3072 .bf16) (r : Fin 512) (n : Fin 1024) :
    out0_2 (F := Ideal) a b (ix2 r n) = ∑ k : Fin 3072, a (ix2 r k) * b (ix2 n k) := by
  unfold out0_2
  rw [View.canon_unit_zero offsets2, View.ld_unit_zero offsets2, View.ld_unit_zero offsets2]
  unfold k0_pay1
  rw [shapeCast_self, shapeCast_self]
  exact rows_rows (M := 512) (K := 3072) (N := 1024) (φ := .bf16) (ψ := .bf16) a b r n

/-- The reference's value. -/
abbrev want (x : FVec Ideal S4096x3072 .f32) (w : FVec Ideal S1024x3072 .f32) : FVec Ideal S4096x1024 .bf16 :=
  Cert.OddLeftRefIdeal.Read.val_main_v3 (F := Ideal) x w

theorem want_at (x : FVec Ideal S4096x3072 .f32) (w : FVec Ideal S1024x3072 .f32) (r : Fin 4096) (n : Fin 1024) :
    want x w (ix2 r n) = ∑ k : Fin 3072, x (ix2 r k) * w (ix2 n k) := by
  refine (Cert.OddLeftRefIdeal.Read.val_main_v2_apply x w (ix2 r n)).trans (Finset.sum_congr rfl fun k _ => ?_)
  refine congrArg₂ (fun i j => x i * w j) ?_ ?_
  · exact funext fun a => match a with | ⟨0, _⟩ => rfl | ⟨1, _⟩ => rfl
  · exact funext fun a => match a with | ⟨0, _⟩ => rfl | ⟨1, _⟩ => rfl

/-- The result, whole. -/
theorem final : (dats m 0 c).arrAt 2 cfg0.N = want (argA m c) (argB m c) := by
  refine (dats m 0 c).arrAt_eq_of_covers 2 _ (by decide +kernel) fun t hf y => ?_
  have e := index_2 t
  blk_simp
  rw [after0_2]
  obtain ⟨r, n, rfl⟩ : ∃ (r : Fin 512) (n : Fin 1024), y = ix2 r n := ext2 y
  refine (pay_at _ _ r n).trans (Eq.trans ?_ ((want_at (argA m c) (argB m c) (pos t r) n).symm.trans (congrArg (want (argA m c) (argB m c)) ?_)))
  · exact Finset.sum_congr rfl fun k _ => congrArg₂ (· * ·) (at_0 m c t r k) (at_1 m c t n k)
  · blk_ext [e, pos] <;> first | (change _ = _ * _ + r.val; omega) | (change _ = _ * _ + n.val; omega)

end Cert.OddLeftIdeal.Product

end
-- ==== Proof.OddIn.lean ====
/-
  AN ODD LAYER'S INPUT PRODUCT AND ITS GATED HALF: what the launch leaves is what the reference says.
-/
module

public import proofs.«01_k».proof.Proof.Products
public import proofs.«01_k».proof.Proof.Gen.OddInIdeal.Value
public import proofs.«01_k».proof.Proof.Gen.OddInRefIdeal.Read
public import Idealize.ShloMosaic.Lib.StableHlo.RunRead
public import Idealize.ShloMosaic.Lib.Claim
public import Idealize.ShloMosaic.Lib.Pipeline.ValueKit.Geometry

@[expose] public section

noncomputable section

namespace Cert.OddInIdeal.Product

open Idealize.ShloMosaic
open Idealize.ShloMosaic.ValueIdx Idealize.ShloMosaic.TcCoe Idealize.ShloMosaic.StableHlo
open Idealize.ShloMosaic.Pipeline (Dat Cfg Window)
open Cert.OddInIdeal Cert.OddInIdeal.Gen Cert.Products
open scoped BigOperators

variable (m : (ℓ : Loc nD τ sig) → Buf (Elt Ideal) ℓ) (c : Dev nD)

/-- The two arguments, as the program finds them. -/
abbrev argA : FVec Ideal S4096x1024 .f32 := m ((c : Thread nD τ).loc main_arg0)
abbrev argB : FVec Ideal S1024x3072 .f32 := m ((c : Thread nD τ).loc main_arg1)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

theorem V_a : V m c main_v0 = argA m c := by
  simp only [V, List.flatten_cons, List.flatten_nil, List.append_nil]
  after_reads_simp
  rfl

theorem V_b : V m c main_v1 = argB m c := by
  simp only [V, List.flatten_cons, List.flatten_nil, List.append_nil]
  after_reads_simp
  rfl

/-- Row `512 t + r` of the tokens. -/
def pos (t : Fin cfg0.N) (r : Fin 512) : Fin 4096 := ⟨512 * t.val + r.val, by have h : t.val < 8 := t.isLt; omega⟩

theorem at_0 (t : Fin cfg0.N) (i : Fin 512) (j : Fin 1024) : iblk m c 0 t (ix2 i j) = argA m c (ix2 (pos t i) j) := by
  have e := index_0 t
  rw [← V_a]
  blk_simp [iblk]
  exact congrArg (V m c main_v0) (by blk_ext [e, pos] <;> first | (change _ * _ + i.val = _; omega) | (change _ * _ + j.val = _; omega))

theorem at_1 (t : Fin cfg0.N) (i : Fin 1024) (j : Fin 3072) : iblk m c 1 t (ix2 i j) = argB m c (ix2 i j) := by
  have e := index_1 t
  rw [← V_b]
  blk_simp [iblk]
  exact congrArg (V m c main_v1) (by blk_ext [e, pos] <;> first | (change _ * _ + i.val = _; omega) | (change _ * _ + j.val = _; omega))

theorem index_3 : ∀ t : Fin cfg0.N, win0_3.index t = ![t.val, 0] := (by decide +kernel : ∀ t : Fin grid0.N, _)

theorem product_at (a : Vec Ideal S512x1024 .bf16) (b : Vec Ideal S1024x3072 .bf16) (r : Fin 512) (n : Fin 3072) :
    k0_pay1 (F := Ideal) a b (ix2 r n) = ∑ k : Fin 1024, a (ix2 r k) * b (ix2 k n) := by
  unfold k0_pay1
  rw [shapeCast_self, shapeCast_self]
  exact rows_cols (M := 512) (K := 1024) (N := 3072) (φ := .bf16) (ψ := .bf16) a b r n

/-- The reference's two values. -/
abbrev wantZ (x : FVec Ideal S4096x1024 .f32) (w : FVec Ideal S1024x3072 .f32) : FVec Ideal S4096x3072 .bf16 :=
  Cert.OddInRefIdeal.Read.val_main_v4 (F := Ideal) x w
abbrev wantU (x : FVec Ideal S4096x1024 .f32) (w : FVec Ideal S1024x3072 .f32) : FVec Ideal S4096x1024 .f32 :=
  Cert.OddInRefIdeal.Read.val_main_v11 (F := Ideal) x w

theorem wantZ_at (x : FVec Ideal S4096x1024 .f32) (w : FVec Ideal S1024x3072 .f32) (r : Fin 4096) (n : Fin 3072) :
    wantZ x w (ix2 r n) = ∑ k : Fin 1024, x (ix2 r k) * w (ix2 k n) := by
  refine (Cert.OddInRefIdeal.Read.val_main_v0_apply x w (ix2 r n)).trans (Finset.sum_congr rfl fun k _ => ?_)
  refine congrArg₂ (fun i j => x i * w j) ?_ ?_
  · exact funext fun a => match a with | ⟨0, _⟩ => rfl | ⟨1, _⟩ => rfl
  · exact funext fun a => match a with | ⟨0, _⟩ => rfl | ⟨1, _⟩ => rfl

/-- A value times the logistic function of its gate. -/
def gated (v g : EReal) : EReal :=
  FloatOps.mulf (F := Ideal) (φ := .f32) v (FloatOps.divf (F := Ideal) (φ := .f32) (Scalar.ofBits .f32 0x3F800000#32)
    (FloatOps.addf (F := Ideal) (φ := .f32) (Scalar.ofBits .f32 0x3F800000#32) (FloatOps.exp (F := Ideal) (φ := .f32) (-g))))

theorem wantU_at (x : FVec Ideal S4096x1024 .f32) (w : FVec Ideal S1024x3072 .f32) (r : Fin 4096) (n : Fin 1024) :
    wantU x w (ix2 r n) = gated (wantZ x w (ix2 r (⟨n.val, by omega⟩ : Fin 3072))) (wantZ x w (ix2 r (⟨1024 + n.val, by omega⟩ : Fin 3072))) := by
  rw [wantU, Cert.OddInRefIdeal.Read.val_main_v11_apply, Cert.OddInRefIdeal.Read.val_main_v1_apply,
    Cert.OddInRefIdeal.Read.val_main_v10_apply, Cert.OddInRefIdeal.Read.val_main_v8_apply, Cert.OddInRefIdeal.Read.val_main_v6_apply,
    Cert.OddInRefIdeal.Read.val_main_v5_apply, Cert.OddInRefIdeal.Read.val_main_v2_apply,
    Cert.OddInRefIdeal.Read.val_main_v9_apply, Cert.OddInRefIdeal.Read.val_main_v7_apply]
  have h0 : Cert.OddInRefIdeal.Read.idx_main_v1 (ix2 r n) = ix2 r (⟨n.val, by omega⟩ : Fin 3072) :=
    funext fun a => match a with | ⟨0, _⟩ => rfl | ⟨1, _⟩ => rfl
  have h1 : Cert.OddInRefIdeal.Read.idx_main_v2 (ix2 r n) = ix2 r (⟨1024 + n.val, by omega⟩ : Fin 3072) :=
    funext fun a => match a with | ⟨0, _⟩ => rfl | ⟨1, _⟩ => rfl
  rw [h0, h1]
  rfl

theorem at_z (t : Fin cfg0.N) (r : Fin 512) (n : Fin 3072) :
    k0_pay1 (F := Ideal) (iblk m c 0 t) (iblk m c 1 t) (ix2 r n) = wantZ (argA m c) (argB m c) (ix2 (pos t r) n) :=
  (product_at _ _ r n).trans ((Finset.sum_congr rfl fun k _ => congrArg₂ (fun p q : EReal => p * q) (at_0 m c t r k) (at_1 m c t k n)).trans
    (wantZ_at (argA m c) (argB m c) (pos t r) n).symm)

theorem out_z (a : Vec Ideal S512x1024 .bf16) (b : Vec Ideal S1024x3072 .bf16) (y : S512x3072.Idx) :
    out0_2 (F := Ideal) a b y = k0_pay1 (F := Ideal) a b y := by
  unfold out0_2
  rw [View.canon_unit_zero offsets2, View.ld_unit_zero offsets2, View.ld_unit_zero offsets2]
  rfl

theorem out_u (a : Vec Ideal S512x1024 .bf16) (b : Vec Ideal S1024x3072 .bf16) (r : Fin 512) (n : Fin 1024) :
    out0_3 (F := Ideal) a b (ix2 r n)
      = gated (k0_pay1 (F := Ideal) a b (ix2 r (⟨n.val, by omega⟩ : Fin 3072))) (k0_pay1 (F := Ideal) a b (ix2 r (⟨1024 + n.val, by omega⟩ : Fin 3072))) := by
  unfold out0_3
  rw [View.ld_unit_zero offsets2, View.ld_unit_zero offsets2, Cert.OddInIdeal.Value.canon3_eq]
  generalize hp : k0_pay1 (F := Ideal) a b = p
  have h0 : Cert.OddInIdeal.Value.ix3_0 (ix2 r n) = ix2 r (⟨n.val, by omega⟩ : Fin 3072) :=
    funext fun a => match a with | ⟨0, _⟩ => rfl | ⟨1, _⟩ => rfl
  have h1 : Cert.OddInIdeal.Value.ix3_1 (ix2 r n) = ix2 r (⟨1024 + n.val, by omega⟩ : Fin 3072) :=
    funext fun a => match a with | ⟨0, _⟩ => rfl | ⟨1, _⟩ => Fin.ext (Nat.add_comm _ _)
  rw [Cert.OddInIdeal.Value.E3, hp, h0, h1]
  unfold gated
  have hs (g : EReal) : FloatOps.subf (F := Ideal) (φ := .f32) (Scalar.ofBits .f32 0x00000000#32) g = -g := by
    show Ideal.ofBits .f32 0x00000000#32 - g = -g
    rw [Ideal.ofBits_zero_f32, zero_sub]
  rw [hs]

/-- The product, whole. -/
theorem final_z : (dats m 0 c).arrAt 2 cfg0.N = wantZ (argA m c) (argB m c) := by
  refine (dats m 0 c).arrAt_eq_of_covers 2 _ (by decide +kernel) fun t hf y => ?_
  have e := index_2 t
  blk_simp
  rw [after0_2]
  obtain ⟨r, n, rfl⟩ : ∃ (r : Fin 512) (n : Fin 3072), y = ix2 r n := ext2 y
  refine (out_z _ _ _).trans ((at_z m c t r n).trans (congrArg (wantZ (argA m c) (argB m c)) ?_))
  blk_ext [e, pos] <;> first | (change _ = _ * _ + r.val; omega) | (change _ = _ * _ + n.val; omega)

/-- The gated half, whole. -/
theorem final_u : (dats m 0 c).arrAt 3 cfg0.N = wantU (argA m c) (argB m c) := by
  refine (dats m 0 c).arrAt_eq_of_covers 3 _ (by decide +kernel) fun t hf y => ?_
  have e := index_3 t
  blk_simp
  rw [after0_3]
  obtain ⟨r, n, rfl⟩ : ∃ (r : Fin 512) (n : Fin 1024), y = ix2 r n := ext2 y
  refine (out_u _ _ r n).trans ((congrArg₂ gated (at_z m c t r _) (at_z m c t r _)).trans
    ((wantU_at (argA m c) (argB m c) (pos t r) n).symm.trans (congrArg (wantU (argA m c) (argB m c)) ?_)))
  blk_ext [e, pos] <;> first | (change _ = _ * _ + r.val; omega) | (change _ = _ * _ + n.val; omega)

end Cert.OddInIdeal.Product

end
-- ==== Proof.OddRight.lean ====
/-
  THE GRADIENT OF AN ODD LAYER'S INPUT WEIGHTS, by devices: what the launch leaves is what the reference's sum over the tokens says.
-/
module

public import proofs.«01_k».proof.Proof.Products
public import proofs.«01_k».proof.Proof.Gen.OddRightIdeal.Value
public import proofs.«01_k».proof.Proof.Gen.OddRightRefIdeal.Read
public import Idealize.ShloMosaic.Lib.StableHlo.RunRead
public import Idealize.ShloMosaic.Lib.Claim
public import Idealize.ShloMosaic.Lib.Pipeline.ValueKit.Geometry

@[expose] public section

noncomputable section

namespace Cert.OddRightIdeal.Product

open Idealize.ShloMosaic
open Idealize.ShloMosaic.ValueIdx Idealize.ShloMosaic.TcCoe Idealize.ShloMosaic.StableHlo
open Idealize.ShloMosaic.Pipeline (Dat Cfg Window)
open Cert.OddRightIdeal Cert.OddRightIdeal.Gen Cert.Products
open scoped BigOperators

variable (m : (ℓ : Loc nD τ sig) → Buf (Elt Ideal) ℓ) (c : Dev nD)

/-- The two arguments, as the program finds them. -/
abbrev argA : FVec Ideal S4096x1024 .f32 := m ((c : Thread nD τ).loc main_arg0)
abbrev argB : FVec Ideal S4096x3072 .f32 := m ((c : Thread nD τ).loc main_arg1)

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![t.val, 0, 0] := (by decide +kernel : ∀ t : Fin grid0.N, _)

theorem V_a : V m c main_v0 = argA m c := by
  simp only [V, List.flatten_cons, List.flatten_nil, List.append_nil]
  after_reads_simp
  rfl

theorem V_b : V m c main_v1 = argB m c := by
  simp only [V, List.flatten_cons, List.flatten_nil, List.append_nil]
  after_reads_simp
  rfl

/-- Column `384 t + r` of the weights. -/
def pos (t : Fin cfg0.N) (r : Fin 384) : Fin 3072 := ⟨384 * t.val + r.val, by have h : t.val < 8 := t.isLt; omega⟩

theorem at_0 (t : Fin cfg0.N) (i : Fin 4096) (j : Fin 1024) : iblk m c 0 t (ix2 i j) = argA m c (ix2 i j) := by
  have e := index_0 t
  rw [← V_a]
  blk_simp [iblk]
  exact congrArg (V m c main_v0) (by blk_ext [e, pos] <;> first | (change _ * _ + i.val = _; omega) | (change _ * _ + j.val = _; omega))

theorem at_1 (t : Fin cfg0.N) (i : Fin 4096) (j : Fin 384) : iblk m c 1 t (ix2 i j) = argB m c (ix2 i (pos t j)) := by
  have e := index_1 t
  rw [← V_b]
  blk_simp [iblk]
  exact congrArg (V m c main_v1) (by blk_ext [e, pos] <;> first | (change _ * _ + i.val = _; omega) | (change _ * _ + j.val = _; omega))

/-- What a grid point stores, at an index. -/
theorem pay_at (a : Vec Ideal S4096x1024 .bf16) (b : Vec Ideal S4096x384 .bf16) (r : Fin 1024) (n : Fin 384) :
    out0_2 (F := Ideal) a b (ix3 (0 : Fin 1) r n) = ∑ k : Fin 4096, a (ix2 k r) * b (ix2 k n) := by
  unfold out0_2
  rw [View.canon_unit_zero offsets3, View.ld_unit_zero offsets2, View.ld_unit_zero offsets2]
  unfold k0_pay1
  rw [shapeCast_self, shapeCast_self]
  refine (shapeCast_addUnit_apply ![1024, 384] _ _ _).trans ?_
  refine (congrArg _ (?_ : _ = ix2 r n)).trans (cols_cols (M := 1024) (K := 4096) (N := 384) (φ := .bf16) (ψ := .bf16) _ a b r n)
  exact funext fun a => match a with | ⟨0, _⟩ => rfl | ⟨1, _⟩ => rfl

/-- The reference's value. -/
abbrev want (x : FVec Ideal S4096x1024 .f32) (w : FVec Ideal S4096x3072 .f32) : FVec Ideal S8x1024x384 .bf16 :=
  Cert.OddRightRefIdeal.Read.val_main_v6 (F := Ideal) x w

theorem want_at (x : FVec Ideal S4096x1024 .f32) (w : FVec Ideal S4096x3072 .f32) (t : Fin cfg0.N) (r : Fin 1024) (n : Fin 384) :
    want x w (ix3 (⟨t.val, t.isLt⟩ : Fin 8) r n) = ∑ k : Fin 4096, x (ix2 k r) * w (ix2 k (pos t n)) := by
  refine (Cert.OddRightRefIdeal.Read.val_main_v6_apply (F := Ideal) x w _).trans
    ((Cert.OddRightRefIdeal.Read.val_main_v5_apply (F := Ideal) x w _).trans
    ((Cert.OddRightRefIdeal.Read.val_main_v3_apply (F := Ideal) x w _).trans
    ((Cert.OddRightRefIdeal.Read.val_main_v2_apply x w _).trans (Finset.sum_congr rfl fun k _ => (mul_comm _ _).trans ?_))))
  have ht : t.val < 8 := t.isLt
  refine congrArg₂ (fun i j => x i * w j) ?_ ?_
  · refine funext fun a => match a with | ⟨0, _⟩ => rfl | ⟨1, _⟩ => Fin.ext ?_
    show ((r.val * 8 + t.val) * 384 + n.val) / 3072 = r.val
    omega
  · refine funext fun a => match a with | ⟨0, _⟩ => rfl | ⟨1, _⟩ => Fin.ext ?_
    show ((r.val * 8 + t.val) * 384 + n.val) % 3072 = 384 * t.val + n.val
    omega

/-- The result, whole. -/
theorem final : (dats m 0 c).arrAt 2 cfg0.N = want (argA m c) (argB m c) := by
  refine (dats m 0 c).arrAt_eq_of_covers 2 _ (by decide +kernel) fun t hf y => ?_
  have e := index_2 t
  blk_simp
  rw [after0_2]
  obtain ⟨z, r, n, rfl⟩ : ∃ (z : Fin 1) (r : Fin 1024) (n : Fin 384), y = ix3 z r n := ⟨y 0, y 1, y 2, eq_ix3 y⟩
  obtain rfl : z = 0 := Subsingleton.elim _ _
  refine (pay_at _ _ r n).trans (Eq.trans ?_ ((want_at (argA m c) (argB m c) t r n).symm.trans (congrArg (want (argA m c) (argB m c)) ?_)))
  · exact Finset.sum_congr rfl fun k _ => congrArg₂ (· * ·) (at_0 m c t k r) (at_1 m c t k n)
  · blk_ext [e, pos] <;> first | (change _ = _ * _ + r.val; omega) | (change _ = _ * _ + n.val; omega) | (change _ = _ * _ + 0; omega)

end Cert.OddRightIdeal.Product

end
-- ==== Proof.EvenColumns.lean ====
/-
  THE EVEN LAYERS' COLUMNS: the kernel keeps 2976 columns in an order of its own among 3072, the rest zero.
-/
module

public import proofs.«01_k».proof.Proof.Products
public import Idealize.ShloMosaic.Lib.Pipeline.Value
public import Mathlib.Algebra.BigOperators.Fin

@[expose] public section

noncomputable section

namespace Cert.Products

open Idealize.ShloMosaic Idealize.ShloMosaic.ValueIdx
open scoped BigOperators

/-- What stands at the kernel's column `j`: one of the 2976 values, or zero. -/
def spread (f : Fin 2976 → EReal) (j : Fin 3072) : EReal :=
  if h : j.val < 2048 then f ⟨j.val, by omega⟩
  else if h : j.val < 2560 then f ⟨j.val + 416, by omega⟩
  else if h : j.val < 2944 then f ⟨j.val - 512, by omega⟩
  else if h : j.val < 3008 then 0
  else if h : j.val < 3040 then f ⟨j.val - 576, by omega⟩
  else 0

/-- Where the kernel keeps column `k`. -/
def place (k : Fin 2976) : Fin 3072 :=
  if h : k.val < 2048 then ⟨k.val, by omega⟩
  else if h : k.val < 2432 then ⟨k.val + 512, by omega⟩
  else if h : k.val < 2464 then ⟨k.val + 576, by omega⟩
  else ⟨k.val - 416, by omega⟩

theorem place_val (k : Fin 2976) : (place k).val =
    if k.val < 2048 then k.val else if k.val < 2432 then k.val + 512 else if k.val < 2464 then k.val + 576 else k.val - 416 := by
  unfold place
  split_ifs <;> rfl

theorem spread_place (f : Fin 2976 → EReal) (k : Fin 2976) : spread f (place k) = f k := by
  have hk := k.isLt
  have e := place_val k
  unfold spread
  split_ifs at e ⊢ <;> first | omega | exact congrArg f (Fin.ext (by dsimp only; omega))

theorem spread_off (f : Fin 2976 → EReal) (j : Fin 3072) (h : ∀ k, place k ≠ j) : spread f j = 0 := by
  have hj := j.isLt
  have key (k : Fin 2976) (e : (place k).val = j.val) : False := h k (Fin.ext e)
  unfold spread
  split_ifs with h1 h2 h3 h4 h5
  · exact absurd ((place_val ⟨j.val, by omega⟩).trans (by dsimp only; split_ifs <;> omega)) (key _)
  · exact absurd ((place_val ⟨j.val + 416, by omega⟩).trans (by dsimp only; split_ifs <;> omega)) (key _)
  · exact absurd ((place_val ⟨j.val - 512, by omega⟩).trans (by dsimp only; split_ifs <;> omega)) (key _)
  · rfl
  · exact absurd ((place_val ⟨j.val - 576, by omega⟩).trans (by dsimp only; split_ifs <;> omega)) (key _)
  · rfl

theorem place_injective : Function.Injective place := by
  intro k l e
  have hk := place_val k
  have hl := place_val l
  have e' := congrArg Fin.val e
  refine Fin.ext ?_
  have := k.isLt
  have := l.isLt
  split_ifs at hk hl <;> omega

/-- A sum over the kernel's columns is the sum over the 2976. -/
theorem sum_spread (f g : Fin 2976 → EReal) : ∑ j, spread f j * spread g j = ∑ k, f k * g k := by
  refine (Finset.sum_of_injOn place place_injective.injOn (fun _ _ => Finset.mem_univ _) (fun j _ hj => ?_) (fun k _ => ?_)).symm
  · rw [spread_off f j fun k e => hj ⟨k, Finset.mem_coe.2 (Finset.mem_univ k), e⟩, zero_mul]
  · rw [spread_place, spread_place]

/-- Sums of products taken column by column. -/
theorem sum_mul_spread {K : ℕ} (g : Fin K → Fin 2976 → EReal) (a : Fin K → EReal) (j : Fin 3072) :
    ∑ k, spread (g k) j * a k = spread (fun q => ∑ k, a k * g k q) j := by
  have zero : ∑ k, (0 : EReal) * a k = 0 := Finset.sum_eq_zero fun k _ => zero_mul _
  unfold spread
  split_ifs <;> first | exact zero | exact Finset.sum_congr rfl fun k _ => mul_comm _ _

/-- Sums of products with a spread factor. -/
theorem sum_spread_right {K : ℕ} (a : Fin K → EReal) (g : Fin K → Fin 2976 → EReal) (j : Fin 3072) :
    ∑ k, a k * spread (g k) j = spread (fun q => ∑ k, a k * g k q) j :=
  (Finset.sum_congr rfl fun _ _ => mul_comm _ _).trans (sum_mul_spread g a j)

/-- A slice of columns, at an index. -/
theorem slice_cols {R C w o : ℕ} (x : (⟨2, ![R, C]⟩ : Shape).Idx → EReal) (h) (r : Fin R) (k : Fin w) (hk : o + k.val < C) :
    extractStridedSlice (⟨2, ![R, w]⟩ : Shape) ![0, o] x h (ix2 r k) = x (ix2 r ⟨o + k.val, hk⟩) := by
  refine extractStridedSlice_apply (t := ⟨2, ![R, w]⟩) (s := ⟨2, ![R, C]⟩) ![0, o] x h (ix2 r k) (ix2 r ⟨o + k.val, hk⟩) fun a => ?_
  match a with
  | ⟨0, _⟩ => exact (Nat.zero_add _).symm
  | ⟨1, _⟩ => rfl

/-- A slice of rows, at an index. -/
theorem slice_rows {R C w o : ℕ} (x : (⟨2, ![C, R]⟩ : Shape).Idx → EReal) (h) (r : Fin R) (k : Fin w) (hk : o + k.val < C) :
    extractStridedSlice (⟨2, ![w, R]⟩ : Shape) ![o, 0] x h (ix2 k r) = x (ix2 ⟨o + k.val, hk⟩ r) := by
  refine extractStridedSlice_apply (t := ⟨2, ![w, R]⟩) (s := ⟨2, ![C, R]⟩) ![o, 0] x h (ix2 k r) (ix2 ⟨o + k.val, hk⟩ r) fun a => ?_
  match a with
  | ⟨0, _⟩ => rfl
  | ⟨1, _⟩ => exact (Nat.zero_add _).symm

/-- The zero filled in, at an index. -/
theorem zeros_at {R C : ℕ} (h) (i : (⟨2, ![R, C]⟩ : Shape).Idx) :
    broadcastInDim (⟨2, ![R, C]⟩ : Shape) ![] h (constant (F := Ideal) (⟨0, ![]⟩ : Shape) .bf16 0x0000#16) i = (0 : EReal) := by
  show Ideal.ofBits .bf16 0x0000#16 = 0
  simp [Ideal.ofBits, Ideal.ieee]

/-- The ten pieces of columns, joined. -/
theorem joined_cols {R : ℕ} (f : Fin R → Fin 2976 → EReal)
    (p0 : (⟨2, ![R, 512]⟩ : Shape).Idx → EReal)
    (p1 : (⟨2, ![R, 512]⟩ : Shape).Idx → EReal)
    (p2 : (⟨2, ![R, 512]⟩ : Shape).Idx → EReal)
    (p3 : (⟨2, ![R, 512]⟩ : Shape).Idx → EReal)
    (p4 : (⟨2, ![R, 512]⟩ : Shape).Idx → EReal)
    (p5 : (⟨2, ![R, 256]⟩ : Shape).Idx → EReal)
    (p6 : (⟨2, ![R, 128]⟩ : Shape).Idx → EReal)
    (p7 : (⟨2, ![R, 64]⟩ : Shape).Idx → EReal)
    (p8 : (⟨2, ![R, 32]⟩ : Shape).Idx → EReal)
    (p9 : (⟨2, ![R, 32]⟩ : Shape).Idx → EReal)
    (hc : Shape.Concatenates [⟨2, ![R, 512]⟩, ⟨2, ![R, 512]⟩, ⟨2, ![R, 512]⟩, ⟨2, ![R, 512]⟩, ⟨2, ![R, 512]⟩, ⟨2, ![R, 256]⟩, ⟨2, ![R, 128]⟩, ⟨2, ![R, 64]⟩, ⟨2, ![R, 32]⟩, ⟨2, ![R, 32]⟩] ⟨2, ![R, 3072]⟩ 1)
    (h0 : ∀ (r : Fin R) (k : Fin 512), p0 (ix2 r k) = f r ⟨0 + k.val, by omega⟩)
    (h1 : ∀ (r : Fin R) (k : Fin 512), p1 (ix2 r k) = f r ⟨512 + k.val, by omega⟩)
    (h2 : ∀ (r : Fin R) (k : Fin 512), p2 (ix2 r k) = f r ⟨1024 + k.val, by omega⟩)
    (h3 : ∀ (r : Fin R) (k : Fin 512), p3 (ix2 r k) = f r ⟨1536 + k.val, by omega⟩)
    (h4 : ∀ (r : Fin R) (k : Fin 512), p4 (ix2 r k) = f r ⟨2464 + k.val, by omega⟩)
    (h5 : ∀ (r : Fin R) (k : Fin 256), p5 (ix2 r k) = f r ⟨2048 + k.val, by omega⟩)
    (h6 : ∀ (r : Fin R) (k : Fin 128), p6 (ix2 r k) = f r ⟨2304 + k.val, by omega⟩)
    (h7 : ∀ (r : Fin R) (k : Fin 64), p7 (ix2 r k) = 0)
    (h8 : ∀ (r : Fin R) (k : Fin 32), p8 (ix2 r k) = f r ⟨2432 + k.val, by omega⟩)
    (h9 : ∀ (r : Fin R) (k : Fin 32), p9 (ix2 r k) = 0)
    (r : Fin R) (j : Fin 3072) :
    concatenate (⟨2, ![R, 3072]⟩ : Shape) 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) = spread (f r) j := by
  have hj := j.isLt
  by_cases c0 : j.val < 512
  · refine (concatenate_apply_piece 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) 0 (by simp) _ p0 rfl rfl 0 (by simp) (ix2 r ⟨j.val - 0, by omega⟩)
      (fun b hb => match b, hb with | ⟨0, _⟩, _ => rfl | ⟨1, _⟩, hb => absurd rfl hb) (show 0 + (j.val - 0) = j.val by omega)).trans ((h0 _ _).trans ?_)
    unfold spread
    split_ifs <;> first | omega | exact congrArg (f r) (Fin.ext (by dsimp only; omega)) | with_reducible rfl
  by_cases c1 : j.val < 1024
  · refine (concatenate_apply_piece 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) 1 (by simp) _ p1 rfl rfl 512 (by simp) (ix2 r ⟨j.val - 512, by omega⟩)
      (fun b hb => match b, hb with | ⟨0, _⟩, _ => rfl | ⟨1, _⟩, hb => absurd rfl hb) (show 512 + (j.val - 512) = j.val by omega)).trans ((h1 _ _).trans ?_)
    unfold spread
    split_ifs <;> first | omega | exact congrArg (f r) (Fin.ext (by dsimp only; omega)) | with_reducible rfl
  by_cases c2 : j.val < 1536
  · refine (concatenate_apply_piece 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) 2 (by simp) _ p2 rfl rfl 1024 (by simp) (ix2 r ⟨j.val - 1024, by omega⟩)
      (fun b hb => match b, hb with | ⟨0, _⟩, _ => rfl | ⟨1, _⟩, hb => absurd rfl hb) (show 1024 + (j.val - 1024) = j.val by omega)).trans ((h2 _ _).trans ?_)
    unfold spread
    split_ifs <;> first | omega | exact congrArg (f r) (Fin.ext (by dsimp only; omega)) | with_reducible rfl
  by_cases c3 : j.val < 2048
  · refine (concatenate_apply_piece 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) 3 (by simp) _ p3 rfl rfl 1536 (by simp) (ix2 r ⟨j.val - 1536, by omega⟩)
      (fun b hb => match b, hb with | ⟨0, _⟩, _ => rfl | ⟨1, _⟩, hb => absurd rfl hb) (show 1536 + (j.val - 1536) = j.val by omega)).trans ((h3 _ _).trans ?_)
    unfold spread
    split_ifs <;> first | omega | exact congrArg (f r) (Fin.ext (by dsimp only; omega)) | with_reducible rfl
  by_cases c4 : j.val < 2560
  · refine (concatenate_apply_piece 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) 4 (by simp) _ p4 rfl rfl 2048 (by simp) (ix2 r ⟨j.val - 2048, by omega⟩)
      (fun b hb => match b, hb with | ⟨0, _⟩, _ => rfl | ⟨1, _⟩, hb => absurd rfl hb) (show 2048 + (j.val - 2048) = j.val by omega)).trans ((h4 _ _).trans ?_)
    unfold spread
    split_ifs <;> first | omega | exact congrArg (f r) (Fin.ext (by dsimp only; omega)) | with_reducible rfl
  by_cases c5 : j.val < 2816
  · refine (concatenate_apply_piece 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) 5 (by simp) _ p5 rfl rfl 2560 (by simp) (ix2 r ⟨j.val - 2560, by omega⟩)
      (fun b hb => match b, hb with | ⟨0, _⟩, _ => rfl | ⟨1, _⟩, hb => absurd rfl hb) (show 2560 + (j.val - 2560) = j.val by omega)).trans ((h5 _ _).trans ?_)
    unfold spread
    split_ifs <;> first | omega | exact congrArg (f r) (Fin.ext (by dsimp only; omega)) | with_reducible rfl
  by_cases c6 : j.val < 2944
  · refine (concatenate_apply_piece 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) 6 (by simp) _ p6 rfl rfl 2816 (by simp) (ix2 r ⟨j.val - 2816, by omega⟩)
      (fun b hb => match b, hb with | ⟨0, _⟩, _ => rfl | ⟨1, _⟩, hb => absurd rfl hb) (show 2816 + (j.val - 2816) = j.val by omega)).trans ((h6 _ _).trans ?_)
    unfold spread
    split_ifs <;> first | omega | exact congrArg (f r) (Fin.ext (by dsimp only; omega)) | with_reducible rfl
  by_cases c7 : j.val < 3008
  · refine (concatenate_apply_piece 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) 7 (by simp) _ p7 rfl rfl 2944 (by simp) (ix2 r ⟨j.val - 2944, by omega⟩)
      (fun b hb => match b, hb with | ⟨0, _⟩, _ => rfl | ⟨1, _⟩, hb => absurd rfl hb) (show 2944 + (j.val - 2944) = j.val by omega)).trans ((h7 _ _).trans ?_)
    unfold spread
    split_ifs <;> first | omega | exact congrArg (f r) (Fin.ext (by dsimp only; omega)) | with_reducible rfl
  by_cases c8 : j.val < 3040
  · refine (concatenate_apply_piece 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) 8 (by simp) _ p8 rfl rfl 3008 (by simp) (ix2 r ⟨j.val - 3008, by omega⟩)
      (fun b hb => match b, hb with | ⟨0, _⟩, _ => rfl | ⟨1, _⟩, hb => absurd rfl hb) (show 3008 + (j.val - 3008) = j.val by omega)).trans ((h8 _ _).trans ?_)
    unfold spread
    split_ifs <;> first | omega | exact congrArg (f r) (Fin.ext (by dsimp only; omega)) | with_reducible rfl
  refine (concatenate_apply_piece 1 [⟨⟨2, ![R, 512]⟩, p0⟩, ⟨⟨2, ![R, 512]⟩, p1⟩, ⟨⟨2, ![R, 512]⟩, p2⟩, ⟨⟨2, ![R, 512]⟩, p3⟩, ⟨⟨2, ![R, 512]⟩, p4⟩, ⟨⟨2, ![R, 256]⟩, p5⟩, ⟨⟨2, ![R, 128]⟩, p6⟩, ⟨⟨2, ![R, 64]⟩, p7⟩, ⟨⟨2, ![R, 32]⟩, p8⟩, ⟨⟨2, ![R, 32]⟩, p9⟩] hc (ix2 r j) 9 (by simp) _ p9 rfl rfl 3040 (by simp) (ix2 r ⟨j.val - 3040, by omega⟩)
    (fun b hb => match b, hb with | ⟨0, _⟩, _ => rfl | ⟨1, _⟩, hb => absurd rfl hb) (show 3040 + (j.val - 3040) = j.val by omega)).trans ((h9 _ _).trans ?_)
  unfold spread
  split_ifs <;> first | omega | exact congrArg (f r) (Fin.ext (by dsimp only; omega)) | with_reducible rfl

/-- The six pieces of rows, joined. -/
theorem joined_rows {R : ℕ} (f : Fin R → Fin 2976 → EReal)
    (p0 : (⟨2, ![2048, R]⟩ : Shape).Idx → EReal)
    (p1 : (⟨2, ![512, R]⟩ : Shape).Idx → EReal)
    (p2 : (⟨2, ![384, R]⟩ : Shape).Idx → EReal)
    (p3 : (⟨2, ![64, R]⟩ : Shape).Idx → EReal)
    (p4 : (⟨2, ![32, R]⟩ : Shape).Idx → EReal)
    (p5 : (⟨2, ![32, R]⟩ : Shape).Idx → EReal)
    (hc : Shape.Concatenates [⟨2, ![2048, R]⟩, ⟨2, ![512, R]⟩, ⟨2, ![384, R]⟩, ⟨2, ![64, R]⟩, ⟨2, ![32, R]⟩, ⟨2, ![32, R]⟩] ⟨2, ![3072, R]⟩ 0)
    (h0 : ∀ (r : Fin R) (k : Fin 2048), p0 (ix2 k r) = f r ⟨0 + k.val, by omega⟩)
    (h1 : ∀ (r : Fin R) (k : Fin 512), p1 (ix2 k r) = f r ⟨2464 + k.val, by omega⟩)
    (h2 : ∀ (r : Fin R) (k : Fin 384), p2 (ix2 k r) = f r ⟨2048 + k.val, by omega⟩)
    (h3 : ∀ (r : Fin R) (k : Fin 64), p3 (ix2 k r) = 0)
    (h4 : ∀ (r : Fin R) (k : Fin 32), p4 (ix2 k r) = f r ⟨2432 + k.val, by omega⟩)
    (h5 : ∀ (r : Fin R) (k : Fin 32), p5 (ix2 k r) = 0)
    (r : Fin R) (j : Fin 3072) :
    concatenate (⟨2, ![3072, R]⟩ : Shape) 0 [⟨⟨2, ![2048, R]⟩, p0⟩, ⟨⟨2, ![512, R]⟩, p1⟩, ⟨⟨2, ![384, R]⟩, p2⟩, ⟨⟨2, ![64, R]⟩, p3⟩, ⟨⟨2, ![32, R]⟩, p4⟩, ⟨⟨2, ![32, R]⟩, p5⟩] hc (ix2 j r) = spread (f r) j := by
  have hj := j.isLt
  by_cases c0 : j.val < 2048
  · refine (concatenate_apply_piece 0 [⟨⟨2, ![2048, R]⟩, p0⟩, ⟨⟨2, ![512, R]⟩, p1⟩, ⟨⟨2, ![384, R]⟩, p2⟩, ⟨⟨2, ![64, R]⟩, p3⟩, ⟨⟨2, ![32, R]⟩, p4⟩, ⟨⟨2, ![32, R]⟩, p5⟩] hc (ix2 j r) 0 (by simp) _ p0 rfl rfl 0 (by simp) (ix2 ⟨j.val - 0, by omega⟩ r)
      (fun b hb => match b, hb with | ⟨1, _⟩, _ => rfl | ⟨0, _⟩, hb => absurd rfl hb) (show 0 + (j.val - 0) = j.val by omega)).trans ((h0 _ _).trans ?_)
    unfold spread
    split_ifs <;> first | omega | exact congrArg (f r) (Fin.ext (by dsimp only; omega)) | with_reducible rfl
  by_cases c1 : j.val < 2560
  · refine (concatenate_apply_piece 0 [⟨⟨2, ![2048, R]⟩, p0⟩, ⟨⟨2, ![512, R]⟩, p1⟩, ⟨⟨2, ![384, R]⟩, p2⟩, ⟨⟨2, ![64, R]⟩, p3⟩, ⟨⟨2, ![32, R]⟩, p4⟩, ⟨⟨2, ![32, R]⟩, p5⟩] hc (ix2 j r) 1 (by simp) _ p1 rfl rfl 2048 (by simp) (ix2 ⟨j.val - 2048, by omega⟩ r)
      (fun b hb => match b, hb with | ⟨1, _⟩, _ => rfl | ⟨0, _⟩, hb => absurd rfl hb) (show 2048 + (j.val - 2048) = j.val by omega)).trans ((h1 _ _).trans ?_)
    unfold spread
    split_ifs <;> first | omega | exact congrArg (f r) (Fin.ext (by dsimp only; omega)) | with_reducible rfl
  by_cases c2 : j.val < 2944
  · refine (concatenate_apply_piece 0 [⟨⟨2, ![2048, R]⟩, p0⟩, ⟨⟨2, ![512, R]⟩, p1⟩, ⟨⟨2, ![384, R]⟩, p2⟩, ⟨⟨2, ![64, R]⟩, p3⟩, ⟨⟨2, ![32, R]⟩, p4⟩, ⟨⟨2, ![32, R]⟩, p5⟩] hc (ix2 j r) 2 (by simp) _ p2 rfl rfl 2560 (by simp) (ix2 ⟨j.val - 2560, by omega⟩ r)
      (fun b hb => match b, hb with | ⟨1, _⟩, _ => rfl | ⟨0, _⟩, hb => absurd rfl hb) (show 2560 + (j.val - 2560) = j.val by omega)).trans ((h2 _ _).trans ?_)
    unfold spread
    split_ifs <;> first | omega | exact congrArg (f r) (Fin.ext (by dsimp only; omega)) | with_reducible rfl
  by_cases c3 : j.val < 3008
  · refine (concatenate_apply_piece 0 [⟨⟨2, ![2048, R]⟩, p0⟩, ⟨⟨2, ![512, R]⟩, p1⟩, ⟨⟨2, ![384, R]⟩, p2⟩, ⟨⟨2, ![64, R]⟩, p3⟩, ⟨⟨2, ![32, R]⟩, p4⟩, ⟨⟨2, ![32, R]⟩, p5⟩] hc (ix2 j r) 3 (by simp) _ p3 rfl rfl 2944 (by simp) (ix2 ⟨j.val - 2944, by omega⟩ r)
      (fun b hb => match b, hb with | ⟨1, _⟩, _ => rfl | ⟨0, _⟩, hb => absurd rfl hb) (show 2944 + (j.val - 2944) = j.val by omega)).trans ((h3 _ _).trans ?_)
    unfold spread
    split_ifs <;> first | omega | exact congrArg (f r) (Fin.ext (by dsimp only; omega)) | with_reducible rfl
  by_cases c4 : j.val < 3040
  · refine (concatenate_apply_piece 0 [⟨⟨2, ![2048, R]⟩, p0⟩, ⟨⟨2, ![512, R]⟩, p1⟩, ⟨⟨2, ![384, R]⟩, p2⟩, ⟨⟨2, ![64, R]⟩, p3⟩, ⟨⟨2, ![32, R]⟩, p4⟩, ⟨⟨2, ![32, R]⟩, p5⟩] hc (ix2 j r) 4 (by simp) _ p4 rfl rfl 3008 (by simp) (ix2 ⟨j.val - 3008, by omega⟩ r)
      (fun b hb => match b, hb with | ⟨1, _⟩, _ => rfl | ⟨0, _⟩, hb => absurd rfl hb) (show 3008 + (j.val - 3008) = j.val by omega)).trans ((h4 _ _).trans ?_)
    unfold spread
    split_ifs <;> first | omega | exact congrArg (f r) (Fin.ext (by dsimp only; omega)) | with_reducible rfl
  refine (concatenate_apply_piece 0 [⟨⟨2, ![2048, R]⟩, p0⟩, ⟨⟨2, ![512, R]⟩, p1⟩, ⟨⟨2, ![384, R]⟩, p2⟩, ⟨⟨2, ![64, R]⟩, p3⟩, ⟨⟨2, ![32, R]⟩, p4⟩, ⟨⟨2, ![32, R]⟩, p5⟩] hc (ix2 j r) 5 (by simp) _ p5 rfl rfl 3040 (by simp) (ix2 ⟨j.val - 3040, by omega⟩ r)
    (fun b hb => match b, hb with | ⟨1, _⟩, _ => rfl | ⟨0, _⟩, hb => absurd rfl hb) (show 3040 + (j.val - 3040) = j.val by omega)).trans ((h5 _ _).trans ?_)
  unfold spread
  split_ifs <;> first | omega | exact congrArg (f r) (Fin.ext (by dsimp only; omega)) | with_reducible rfl

/-- Six pieces of columns, joined. -/
theorem joined_six {R : ℕ} (f : Fin R → Fin 2976 → EReal)
    (p0 : (⟨2, ![R, 2048]⟩ : Shape).Idx → EReal)
    (p1 : (⟨2, ![R, 512]⟩ : Shape).Idx → EReal)
    (p2 : (⟨2, ![R, 384]⟩ : Shape).Idx → EReal)
    (p3 : (⟨2, ![R, 64]⟩ : Shape).Idx → EReal)
    (p4 : (⟨2, ![R, 32]⟩ : Shape).Idx → EReal)
    (p5 : (⟨2, ![R, 32]⟩ : Shape).Idx → EReal)
    (hc : Shape.Concatenates [⟨2, ![R, 2048]⟩, ⟨2, ![R, 512]⟩, ⟨2, ![R, 384]⟩, ⟨2, ![R, 64]⟩, ⟨2, ![R, 32]⟩, ⟨2, ![R, 32]⟩] ⟨2, ![R, 3072]⟩ 1)
    (h0 : ∀ (r : Fin R) (k : Fin 2048), p0 (ix2 r k) = f r ⟨0 + k.val, by omega⟩)
    (h1 : ∀ (r : Fin R) (k : Fin 512), p1 (ix2 r k) = f r ⟨2464 + k.val, by omega⟩)
    (h2 : ∀ (r : Fin R) (k : Fin 384), p2 (ix2 r k) = f r ⟨2048 + k.val, by omega⟩)
    (h3 : ∀ (r : Fin R) (k : Fin 64), p3 (ix2 r k) = 0)
    (h4 : ∀ (r : Fin R) (k : Fin 32), p4 (ix2 r k) = f r ⟨2432 + k.val, by omega⟩)
    (h5 : ∀ (r : Fin R) (k : Fin 32), p5 (ix2 r k) = 0)
    (r : Fin R) (j : Fin 3072) :
    concatenate (⟨2, ![R, 3072]⟩ : Shape) 1 [⟨⟨2, ![R, 2048]⟩, p0⟩, ⟨⟨2, ![R, 512]⟩, p1⟩, ⟨⟨2, ![R, 384]⟩, p2⟩, ⟨⟨2, ![R, 64]⟩, p3⟩, ⟨⟨2, ![R, 32]⟩, p4⟩, ⟨⟨2, ![R, 32]⟩, p5⟩] hc (ix2 r j) = spread (f r) j := by
  have hj := j.isLt
  by_cases c0 : j.val < 2048
  · refine (concatenate_apply_piece 1 [⟨⟨2, ![R, 2048]⟩, p0⟩, ⟨⟨2, ![R, 512]⟩, p1⟩, ⟨⟨2, ![R, 384]⟩, p2⟩, ⟨⟨2, ![R, 64]⟩, p3⟩, ⟨⟨2, ![R, 32]⟩, p4⟩, ⟨⟨2, ![R, 32]⟩, p5⟩] hc (ix2 r j) 0 (by simp) _ p0 rfl rfl 0 (by simp) (ix2 r ⟨j.val - 0, by omega⟩)
      (fun b hb => match b, hb with | ⟨0, _⟩, _ => rfl | ⟨1, _⟩, hb => absurd rfl hb) (show 0 + (j.val - 0) = j.val by omega)).trans ((h0 _ _).trans ?_)
    unfold spread
    split_ifs <;> first | omega | exact congrArg (f r) (Fin.ext (by dsimp only; omega)) | with_reducible rfl
  by_cases c1 : j.val < 2560
  · refine (concatenate_apply_piece 1 [⟨⟨2, ![R, 2048]⟩, p0⟩, ⟨⟨2, ![R, 512]⟩, p1⟩, ⟨⟨2, ![R, 384]⟩, p2⟩, ⟨⟨2, ![R, 64]⟩, p3⟩, ⟨⟨2, ![R, 32]⟩, p4⟩, ⟨⟨2, ![R, 32]⟩, p5⟩] hc (ix2 r j) 1 (by simp) _ p1 rfl rfl 2048 (by simp) (ix2 r ⟨j.val - 2048, by omega⟩)
      (fun b hb => match b, hb with | ⟨0, _⟩, _ => rfl | ⟨1, _⟩, hb => absurd rfl hb) (show 2048 + (j.val - 2048) = j.val by omega)).trans ((h1 _ _).trans ?_)
    unfold spread
    split_ifs <;> first | omega | exact congrArg (f r) (Fin.ext (by dsimp only; omega)) | with_reducible rfl
  by_cases c2 : j.val < 2944
  · refine (concatenate_apply_piece 1 [⟨⟨2, ![R, 2048]⟩, p0⟩, ⟨⟨2, ![R, 512]⟩, p1⟩, ⟨⟨2, ![R, 384]⟩, p2⟩, ⟨⟨2, ![R, 64]⟩, p3⟩, ⟨⟨2, ![R, 32]⟩, p4⟩, ⟨⟨2, ![R, 32]⟩, p5⟩] hc (ix2 r j) 2 (by simp) _ p2 rfl rfl 2560 (by simp) (ix2 r ⟨j.val - 2560, by omega⟩)
      (fun b hb => match b, hb with | ⟨0, _⟩, _ => rfl | ⟨1, _⟩, hb => absurd rfl hb) (show 2560 + (j.val - 2560) = j.val by omega)).trans ((h2 _ _).trans ?_)
    unfold spread
    split_ifs <;> first | omega | exact congrArg (f r) (Fin.ext (by dsimp only; omega)) | with_reducible rfl
  by_cases c3 : j.val < 3008
  · refine (concatenate_apply_piece 1 [⟨⟨2, ![R, 2048]⟩, p0⟩, ⟨⟨2, ![R, 512]⟩, p1⟩, ⟨⟨2, ![R, 384]⟩, p2⟩, ⟨⟨2, ![R, 64]⟩, p3⟩, ⟨⟨2, ![R, 32]⟩, p4⟩, ⟨⟨2, ![R, 32]⟩, p5⟩] hc (ix2 r j) 3 (by simp) _ p3 rfl rfl 2944 (by simp) (ix2 r ⟨j.val - 2944, by omega⟩)
      (fun b hb => match b, hb with | ⟨0, _⟩, _ => rfl | ⟨1, _⟩, hb => absurd rfl hb) (show 2944 + (j.val - 2944) = j.val by omega)).trans ((h3 _ _).trans ?_)
    unfold spread
    split_ifs <;> first | omega | exact congrArg (f r) (Fin.ext (by dsimp only; omega)) | with_reducible rfl
  by_cases c4 : j.val < 3040
  · refine (concatenate_apply_piece 1 [⟨⟨2, ![R, 2048]⟩, p0⟩, ⟨⟨2, ![R, 512]⟩, p1⟩, ⟨⟨2, ![R, 384]⟩, p2⟩, ⟨⟨2, ![R, 64]⟩, p3⟩, ⟨⟨2, ![R, 32]⟩, p4⟩, ⟨⟨2, ![R, 32]⟩, p5⟩] hc (ix2 r j) 4 (by simp) _ p4 rfl rfl 3008 (by simp) (ix2 r ⟨j.val - 3008, by omega⟩)
      (fun b hb => match b, hb with | ⟨0, _⟩, _ => rfl | ⟨1, _⟩, hb => absurd rfl hb) (show 3008 + (j.val - 3008) = j.val by omega)).trans ((h4 _ _).trans ?_)
    unfold spread
    split_ifs <;> first | omega | exact congrArg (f r) (Fin.ext (by dsimp only; omega)) | with_reducible rfl
  refine (concatenate_apply_piece 1 [⟨⟨2, ![R, 2048]⟩, p0⟩, ⟨⟨2, ![R, 512]⟩, p1⟩, ⟨⟨2, ![R, 384]⟩, p2⟩, ⟨⟨2, ![R, 64]⟩, p3⟩, ⟨⟨2, ![R, 32]⟩, p4⟩, ⟨⟨2, ![R, 32]⟩, p5⟩] hc (ix2 r j) 5 (by simp) _ p5 rfl rfl 3040 (by simp) (ix2 r ⟨j.val - 3040, by omega⟩)
    (fun b hb => match b, hb with | ⟨0, _⟩, _ => rfl | ⟨1, _⟩, hb => absurd rfl hb) (show 3040 + (j.val - 3040) = j.val by omega)).trans ((h5 _ _).trans ?_)
  unfold spread
  split_ifs <;> first | omega | exact congrArg (f r) (Fin.ext (by dsimp only; omega)) | with_reducible rfl

end Cert.Products

end
-- ==== Proof.EvenLeft.lean ====
/-
  THE GRADIENT OF AN EVEN LAYER'S INPUT PRODUCT'S LEFT FACTOR: what the launch leaves is what the reference's sum says.
-/
module

public import proofs.«01_k».proof.Proof.EvenColumns
public import proofs.«01_k».proof.Proof.Gen.EvenLeftIdeal.Value
public import proofs.«01_k».proof.Proof.Gen.EvenLeftRefIdeal.Read
public import Idealize.ShloMosaic.Lib.StableHlo.RunRead
public import Idealize.ShloMosaic.Lib.Claim
public import Idealize.ShloMosaic.Lib.Pipeline.ValueKit.Geometry

@[expose] public section

noncomputable section

namespace Cert.EvenLeftIdeal.Product

open Idealize.ShloMosaic
open Idealize.ShloMosaic.ValueIdx Idealize.ShloMosaic.TcCoe Idealize.ShloMosaic.StableHlo
open Idealize.ShloMosaic.Pipeline (Dat Cfg Window)
open Cert.EvenLeftIdeal Cert.EvenLeftIdeal.Gen Cert.Products
open scoped BigOperators

variable (m : (ℓ : Loc nD τ sig) → Buf (Elt Ideal) ℓ) (c : Dev nD)

/-- The two arguments, as the program finds them. -/
abbrev argA : FVec Ideal S4096x2976 .f32 := m ((c : Thread nD τ).loc main_arg0)
abbrev argB : FVec Ideal S1024x2976 .f32 := m ((c : Thread nD τ).loc main_arg1)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

/-- The gradient in the kernel's columns. -/
theorem V_ct (r : Fin 4096) (j : Fin 3072) : V m c main_v20 (ix2 r j) = spread (fun k => argA m c (ix2 r k)) j := by
  simp only [V, List.flatten_cons, List.flatten_nil, List.append_nil]
  after_reads_simp
  dsimp only [Matrix.cons_val]
  after_reads_simp
  exact joined_cols (R := 4096) (fun r k => argA m c (ix2 r k)) _ _ _ _ _ _ _ _ _ _ _ (fun r k => slice_cols _ _ r k (by omega)) (fun r k => slice_cols _ _ r k (by omega)) (fun r k => slice_cols _ _ r k (by omega)) (fun r k => slice_cols _ _ r k (by omega)) (fun r k => slice_cols _ _ r k (by omega)) (fun r k => slice_cols _ _ r k (by omega)) (fun r k => slice_cols _ _ r k (by omega)) (fun _ _ => zeros_at _ _) (fun r k => slice_cols _ _ r k (by omega)) (fun _ _ => zeros_at _ _) r j

theorem transposed (n : Fin 1024) (k : Fin 2976) :
    transpose S2976x1024 [1, 0] (argB m c) transposes_S1024x2976_S2976x1024_1_0 (ix2 k n) = argB m c (ix2 n k) :=
  congrArg (argB m c) (funext fun a => match a with | ⟨0, _⟩ => rfl | ⟨1, _⟩ => rfl)

/-- The transposed weight in the kernel's rows. -/
theorem V_w (j : Fin 3072) (n : Fin 1024) : V m c main_v8 (ix2 j n) = spread (fun k => argB m c (ix2 n k)) j := by
  simp only [V, List.flatten_cons, List.flatten_nil, List.append_nil]
  after_reads_simp
  dsimp only [Matrix.cons_val]
  after_reads_simp
  exact joined_rows (R := 1024) (fun n k => argB m c (ix2 n k)) _ _ _ _ _ _ _ (fun n k => (slice_rows _ _ n k (by omega)).trans (transposed m c n _)) (fun n k => (slice_rows _ _ n k (by omega)).trans (transposed m c n _)) (fun n k => (slice_rows _ _ n k (by omega)).trans (transposed m c n _)) (fun _ _ => zeros_at _ _) (fun n k => (slice_rows _ _ n k (by omega)).trans (transposed m c n _)) (fun _ _ => zeros_at _ _) n j

/-- Row `512 t + r` of the tokens. -/
def pos (t : Fin cfg0.N) (r : Fin 512) : Fin 4096 := ⟨512 * t.val + r.val, by have h : t.val < 8 := t.isLt; omega⟩

theorem at_0 (t : Fin cfg0.N) (i : Fin 512) (j : Fin 3072) : iblk m c 0 t (ix2 i j) = spread (fun k => argA m c (ix2 (pos t i) k)) j := by
  have e := index_0 t
  rw [← V_ct]
  blk_simp [iblk]
  exact congrArg (V m c main_v20) (by blk_ext [e, pos] <;> first | (change _ * _ + i.val = _; omega) | (change _ * _ + j.val = _; omega))

theorem at_1 (t : Fin cfg0.N) (i : Fin 3072) (j : Fin 1024) : iblk m c 1 t (ix2 i j) = spread (fun k => argB m c (ix2 j k)) i := by
  have e := index_1 t
  rw [← V_w]
  blk_simp [iblk]
  exact congrArg (V m c main_v8) (by blk_ext [e, pos] <;> first | (change _ * _ + i.val = _; omega) | (change _ * _ + j.val = _; omega))

/-- What a grid point stores, at an index. -/
theorem pay_at (a : Vec Ideal S512x3072 .bf16) (b : Vec Ideal S3072x1024 .bf16) (r : Fin 512) (n : Fin 1024) :
    out0_2 (F := Ideal) a b (ix2 r n) = ∑ k : Fin 3072, a (ix2 r k) * b (ix2 k n) := by
  unfold out0_2
  rw [View.canon_unit_zero offsets2, View.ld_unit_zero offsets2, View.ld_unit_zero offsets2]
  unfold k0_pay1
  rw [shapeCast_self, shapeCast_self]
  exact rows_cols (M := 512) (K := 3072) (N := 1024) (φ := .bf16) (ψ := .bf16) a b r n

/-- The reference's value. -/
abbrev want (x : FVec Ideal S4096x2976 .f32) (w : FVec Ideal S1024x2976 .f32) : FVec Ideal S4096x1024 .bf16 :=
  Cert.EvenLeftRefIdeal.Read.val_main_v3 (F := Ideal) x w

theorem want_at (x : FVec Ideal S4096x2976 .f32) (w : FVec Ideal S1024x2976 .f32) (r : Fin 4096) (n : Fin 1024) :
    want x w (ix2 r n) = ∑ k : Fin 2976, x (ix2 r k) * w (ix2 n k) := by
  refine (Cert.EvenLeftRefIdeal.Read.val_main_v2_apply x w (ix2 r n)).trans (Finset.sum_congr rfl fun k _ => ?_)
  refine congrArg₂ (fun i j => x i * w j) ?_ ?_
  · exact funext fun a => match a with | ⟨0, _⟩ => rfl | ⟨1, _⟩ => rfl
  · exact funext fun a => match a with | ⟨0, _⟩ => rfl | ⟨1, _⟩ => rfl

/-- The result, whole. -/
theorem final : (dats m 0 c).arrAt 2 cfg0.N = want (argA m c) (argB m c) := by
  refine (dats m 0 c).arrAt_eq_of_covers 2 _ (by decide +kernel) fun t hf y => ?_
  have e := index_2 t
  blk_simp
  rw [after0_2]
  obtain ⟨r, n, rfl⟩ : ∃ (r : Fin 512) (n : Fin 1024), y = ix2 r n := ext2 y
  refine (pay_at _ _ r n).trans (Eq.trans ?_ ((want_at (argA m c) (argB m c) (pos t r) n).symm.trans (congrArg (want (argA m c) (argB m c)) ?_)))
  · exact (Finset.sum_congr rfl fun k _ => congrArg₂ (fun p q : EReal => p * q) (at_0 m c t r k) (at_1 m c t k n)).trans (sum_spread _ _)
  · blk_ext [e, pos] <;> first | (change _ = _ * _ + r.val; omega) | (change _ = _ * _ + n.val; omega)

end Cert.EvenLeftIdeal.Product

end
-- ==== Proof.EvenRight.lean ====
/-
  THE GRADIENT OF AN EVEN LAYER'S INPUT WEIGHTS, in the kernel's rows: what the launch leaves is what the reference's sum over the tokens says.
-/
module

public import proofs.«01_k».proof.Proof.EvenColumns
public import proofs.«01_k».proof.Proof.Gen.EvenRightIdeal.Value
public import proofs.«01_k».proof.Proof.Gen.EvenRightRefIdeal.Read
public import Idealize.ShloMosaic.Lib.StableHlo.RunRead
public import Idealize.ShloMosaic.Lib.Claim
public import Idealize.ShloMosaic.Lib.Pipeline.ValueKit.Geometry

@[expose] public section

noncomputable section

namespace Cert.EvenRightIdeal.Product

open Idealize.ShloMosaic
open Idealize.ShloMosaic.ValueIdx Idealize.ShloMosaic.TcCoe Idealize.ShloMosaic.StableHlo
open Idealize.ShloMosaic.Pipeline (Dat Cfg Window)
open Cert.EvenRightIdeal Cert.EvenRightIdeal.Gen Cert.Products
open scoped BigOperators

variable (m : (ℓ : Loc nD τ sig) → Buf (Elt Ideal) ℓ) (c : Dev nD)

/-- The two arguments, as the program finds them. -/
abbrev argA : FVec Ideal S4096x1024 .f32 := m ((c : Thread nD τ).loc main_arg0)
abbrev argB : FVec Ideal S4096x2976 .f32 := m ((c : Thread nD τ).loc main_arg1)

theorem index_0 : ∀ t : Fin cfg0.N, win0_0.index t = ![0, t.val] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

/-- The gradient in the kernel's columns. -/
theorem V_ct (r : Fin 4096) (j : Fin 3072) : V m c main_v11 (ix2 r j) = spread (fun k => argB m c (ix2 r k)) j := by
  simp only [V, List.flatten_cons, List.flatten_nil, List.append_nil]
  after_reads_simp
  dsimp only [Matrix.cons_val]
  after_reads_simp
  exact joined_cols (R := 4096) (fun r k => argB m c (ix2 r k)) _ _ _ _ _ _ _ _ _ _ _ (fun r k => slice_cols _ _ r k (by omega)) (fun r k => slice_cols _ _ r k (by omega)) (fun r k => slice_cols _ _ r k (by omega)) (fun r k => slice_cols _ _ r k (by omega)) (fun r k => slice_cols _ _ r k (by omega)) (fun r k => slice_cols _ _ r k (by omega)) (fun r k => slice_cols _ _ r k (by omega)) (fun _ _ => zeros_at _ _) (fun r k => slice_cols _ _ r k (by omega)) (fun _ _ => zeros_at _ _) r j

theorem V_b : V m c main_v12 = argA m c := by
  simp only [V, List.flatten_cons, List.flatten_nil, List.append_nil]
  after_reads_simp
  rfl

/-- Row `1024 t + r` of the gradient. -/
def pos (t : Fin cfg0.N) (r : Fin 1024) : Fin 3072 := ⟨1024 * t.val + r.val, by have h : t.val < 3 := t.isLt; omega⟩

theorem at_0 (t : Fin cfg0.N) (i : Fin 4096) (j : Fin 1024) : iblk m c 0 t (ix2 i j) = spread (fun k => argB m c (ix2 i k)) (pos t j) := by
  have e := index_0 t
  rw [← V_ct]
  blk_simp [iblk]
  exact congrArg (V m c main_v11) (by blk_ext [e, pos] <;> first | (change _ * _ + i.val = _; omega) | (change _ * _ + j.val = _; omega))

theorem at_1 (t : Fin cfg0.N) (i : Fin 4096) (j : Fin 1024) : iblk m c 1 t (ix2 i j) = argA m c (ix2 i j) := by
  have e := index_1 t
  rw [← V_b]
  blk_simp [iblk]
  exact congrArg (V m c main_v12) (by blk_ext [e, pos] <;> first | (change _ * _ + i.val = _; omega) | (change _ * _ + j.val = _; omega))

/-- What a grid point stores, at an index. -/
theorem pay_at (a : Vec Ideal S4096x1024 .bf16) (b : Vec Ideal S4096x1024 .bf16) (r : Fin 1024) (n : Fin 1024) :
    out0_2 (F := Ideal) a b (ix2 r n) = ∑ k : Fin 4096, a (ix2 k r) * b (ix2 k n) := by
  unfold out0_2
  rw [View.canon_unit_zero offsets2, View.ld_unit_zero offsets2, View.ld_unit_zero offsets2]
  unfold k0_pay1
  rw [shapeCast_self, shapeCast_self]
  exact cols_cols (M := 1024) (K := 4096) (N := 1024) (φ := .bf16) (ψ := .bf16) _ a b r n

section Reference
open Cert.EvenRightRefIdeal.Read
variable (x : FVec Ideal S4096x1024 .f32) (w : FVec Ideal S4096x2976 .f32)

theorem grad_at (n : Fin 1024) (q : Fin 2976) : val_main_v4 (F := Ideal) x w (ix2 n q) = ∑ k : Fin 4096, x (ix2 k n) * w (ix2 k q) := by
  refine (val_main_v3_apply (F := Ideal) x w _).trans ((val_main_v2_apply x w _).trans (Finset.sum_congr rfl fun k _ => (mul_comm _ _).trans ?_))
  refine congrArg₂ (fun i j => x i * w j) ?_ ?_
  · exact funext fun a => match a with | ⟨0, _⟩ => rfl | ⟨1, _⟩ => rfl
  · exact funext fun a => match a with | ⟨0, _⟩ => rfl | ⟨1, _⟩ => rfl

theorem zeros_apply (i : (⟨2, ![1024, 96]⟩ : Shape).Idx) : val_main_v5 (F := Ideal) i = (0 : EReal) := zeros_at (R := 1024) (C := 96) _ i

end Reference

/-- The reference's value. -/
abbrev want (x : FVec Ideal S4096x1024 .f32) (w : FVec Ideal S4096x2976 .f32) : FVec Ideal S3072x1024 .bf16 :=
  Cert.EvenRightRefIdeal.Read.val_main_v13 (F := Ideal) x w

theorem want_at (x : FVec Ideal S4096x1024 .f32) (w : FVec Ideal S4096x2976 .f32) (r : Fin 3072) (n : Fin 1024) :
    want x w (ix2 r n) = spread (fun q => ∑ k : Fin 4096, x (ix2 k n) * w (ix2 k q)) r := by
  refine (Cert.EvenRightRefIdeal.Read.val_main_v13_apply (F := Ideal) x w (ix2 r n)).trans
    ((congrArg (Cert.EvenRightRefIdeal.Read.val_main_v12 (F := Ideal) x w) (?_ : _ = ix2 n r)).trans ?_)
  · exact funext fun a => match a with | ⟨0, _⟩ => rfl | ⟨1, _⟩ => rfl
  · exact joined_six (R := 1024) (fun n q => ∑ k : Fin 4096, x (ix2 k n) * w (ix2 k q)) _ _ _ _ _ _ _ (fun r k => (slice_cols _ _ r k (by omega)).trans (grad_at x w r _)) (fun r k => (slice_cols _ _ r k (by omega)).trans (grad_at x w r _)) (fun r k => (slice_cols _ _ r k (by omega)).trans (grad_at x w r _)) (fun r k => (slice_cols (o := 0) (C := 96) _ _ r k (by omega)).trans (zeros_apply _)) (fun r k => (slice_cols _ _ r k (by omega)).trans (grad_at x w r _)) (fun r k => (slice_cols (o := 64) (C := 96) _ _ r k (by omega)).trans (zeros_apply _)) n r

/-- The result, whole. -/
theorem final : (dats m 0 c).arrAt 2 cfg0.N = want (argA m c) (argB m c) := by
  refine (dats m 0 c).arrAt_eq_of_covers 2 _ (by decide +kernel) fun t hf y => ?_
  have e := index_2 t
  blk_simp
  rw [after0_2]
  obtain ⟨r, n, rfl⟩ : ∃ (r : Fin 1024) (n : Fin 1024), y = ix2 r n := ext2 y
  refine (pay_at _ _ r n).trans (Eq.trans ?_ ((want_at (argA m c) (argB m c) (pos t r) n).symm.trans (congrArg (want (argA m c) (argB m c)) ?_)))
  · exact (Finset.sum_congr rfl fun k _ => congrArg₂ (fun p q : EReal => p * q) (at_0 m c t k r) (at_1 m c t k n)).trans (sum_mul_spread _ _ _)
  · blk_ext [e, pos] <;> first | (change _ = _ * _ + r.val; omega) | (change _ = _ * _ + n.val; omega)

end Cert.EvenRightIdeal.Product

end
-- ==== Proof.OutProduct.lean ====
/-
  THE OUTPUT PRODUCT: what the launch leaves is what the reference's sum says.
-/
module

public import proofs.«01_k».proof.Proof.Products
public import proofs.«01_k».proof.Proof.Gen.OutProductIdeal.Value
public import proofs.«01_k».proof.Proof.Gen.OutProductRefIdeal.Read
public import Idealize.ShloMosaic.Lib.StableHlo.RunRead
public import Idealize.ShloMosaic.Lib.Claim
public import Idealize.ShloMosaic.Lib.Pipeline.ValueKit.Geometry

@[expose] public section

noncomputable section

namespace Cert.OutProductIdeal.Product

open Idealize.ShloMosaic
open Idealize.ShloMosaic.ValueIdx Idealize.ShloMosaic.TcCoe Idealize.ShloMosaic.StableHlo
open Idealize.ShloMosaic.Pipeline (Dat Cfg Window)
open Cert.OutProductIdeal Cert.OutProductIdeal.Gen Cert.Products
open scoped BigOperators

variable (m : (ℓ : Loc nD τ sig) → Buf (Elt Ideal) ℓ) (c : Dev nD)

/-- The two arguments, as the program finds them. -/
abbrev argA : FVec Ideal S4096x1024 .f32 := m ((c : Thread nD τ).loc main_arg0)
abbrev argB : FVec Ideal S1024x1024 .f32 := m ((c : Thread nD τ).loc main_arg1)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

theorem V_a : V m c main_v0 = argA m c := by
  simp only [V, List.flatten_cons, List.flatten_nil, List.append_nil]
  after_reads_simp
  rfl

theorem V_b : V m c main_v1 = argB m c := by
  simp only [V, List.flatten_cons, List.flatten_nil, List.append_nil]
  after_reads_simp
  rfl

/-- Row `512 t + r` of the tokens. -/
def pos (t : Fin cfg0.N) (r : Fin 512) : Fin 4096 := ⟨512 * t.val + r.val, by have h : t.val < 8 := t.isLt; omega⟩

theorem at_0 (t : Fin cfg0.N) (i : Fin 512) (j : Fin 1024) : iblk m c 0 t (ix2 i j) = argA m c (ix2 (pos t i) j) := by
  have e := index_0 t
  rw [← V_a]
  blk_simp [iblk]
  exact congrArg (V m c main_v0) (by blk_ext [e, pos] <;> first | (change _ * _ + i.val = _; omega) | (change _ * _ + j.val = _; omega))

theorem at_1 (t : Fin cfg0.N) (i : Fin 1024) (j : Fin 1024) : iblk m c 1 t (ix2 i j) = argB m c (ix2 i j) := by
  have e := index_1 t
  rw [← V_b]
  blk_simp [iblk]
  exact congrArg (V m c main_v1) (by blk_ext [e, pos] <;> first | (change _ * _ + i.val = _; omega) | (change _ * _ + j.val = _; omega))

/-- What a grid point stores, at an index. -/
theorem pay_at (a : Vec Ideal S512x1024 .bf16) (b : Vec Ideal S1024x1024 .bf16) (r : Fin 512) (n : Fin 1024) :
    out0_2 (F := Ideal) a b (ix2 r n) = ∑ k : Fin 1024, a (ix2 r k) * b (ix2 k n) := by
  unfold out0_2
  rw [View.canon_unit_zero offsets2, View.ld_unit_zero offsets2, View.ld_unit_zero offsets2]
  unfold k0_pay1
  rw [shapeCast_self, shapeCast_self]
  exact rows_cols (M := 512) (K := 1024) (N := 1024) (φ := .bf16) (ψ := .bf16) a b r n

/-- The reference's value. -/
abbrev want (x : FVec Ideal S4096x1024 .f32) (w : FVec Ideal S1024x1024 .f32) : FVec Ideal S4096x1024 .bf16 :=
  Cert.OutProductRefIdeal.Read.val_main_v1 (F := Ideal) x w

theorem want_at (x : FVec Ideal S4096x1024 .f32) (w : FVec Ideal S1024x1024 .f32) (r : Fin 4096) (n : Fin 1024) :
    want x w (ix2 r n) = ∑ k : Fin 1024, x (ix2 r k) * w (ix2 k n) := by
  refine (Cert.OutProductRefIdeal.Read.val_main_v0_apply x w (ix2 r n)).trans (Finset.sum_congr rfl fun k _ => ?_)
  refine congrArg₂ (fun i j => x i * w j) ?_ ?_
  · exact funext fun a => match a with | ⟨0, _⟩ => rfl | ⟨1, _⟩ => rfl
  · exact funext fun a => match a with | ⟨0, _⟩ => rfl | ⟨1, _⟩ => rfl

/-- The result, whole. -/
theorem final : (dats m 0 c).arrAt 2 cfg0.N = want (argA m c) (argB m c) := by
  refine (dats m 0 c).arrAt_eq_of_covers 2 _ (by decide +kernel) fun t hf y => ?_
  have e := index_2 t
  blk_simp
  rw [after0_2]
  obtain ⟨r, n, rfl⟩ : ∃ (r : Fin 512) (n : Fin 1024), y = ix2 r n := ext2 y
  refine (pay_at _ _ r n).trans (Eq.trans ?_ ((want_at (argA m c) (argB m c) (pos t r) n).symm.trans (congrArg (want (argA m c) (argB m c)) ?_)))
  · exact Finset.sum_congr rfl fun k _ => congrArg₂ (· * ·) (at_0 m c t r k) (at_1 m c t k n)
  · blk_ext [e, pos] <;> first | (change _ = _ * _ + r.val; omega) | (change _ = _ * _ + n.val; omega)

end Cert.OutProductIdeal.Product

end
-- ==== Proof.EvenIn.lean ====
/-
  AN EVEN LAYER'S INPUT PRODUCT, its gated columns and its two normalised groups: what the launch leaves is what the reference says.
-/
module

public import proofs.«01_k».proof.Proof.EvenColumns
public import proofs.«01_k».proof.Proof.Gen.EvenInIdeal.Value
public import proofs.«01_k».proof.Proof.Gen.EvenInRefIdeal.Read
public import Idealize.ShloMosaic.Lib.StableHlo.RunRead
public import Idealize.ShloMosaic.Lib.Claim
public import Idealize.ShloMosaic.Lib.Pipeline.ValueKit.Geometry

@[expose] public section

noncomputable section

namespace Cert.EvenInIdeal.Product

open Idealize.ShloMosaic
open Idealize.ShloMosaic.ValueIdx Idealize.ShloMosaic.TcCoe Idealize.ShloMosaic.StableHlo
open Idealize.ShloMosaic.Pipeline (Dat Cfg Window)
open Cert.EvenInIdeal Cert.EvenInIdeal.Gen Cert.Products
open scoped BigOperators

variable (m : (ℓ : Loc nD τ sig) → Buf (Elt Ideal) ℓ) (c : Dev nD)

/-- The two arguments, as the program finds them. -/
abbrev argA : FVec Ideal S4096x1024 .f32 := m ((c : Thread nD τ).loc main_arg0)
abbrev argB : FVec Ideal S1024x2976 .f32 := m ((c : Thread nD τ).loc main_arg1)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_2 : ∀ t : Fin cfg0.N, win0_2.index t = ![0, 0] := (by decide +kernel : ∀ t : Fin grid0.N, _)

/-- The two gains. -/
abbrev argC : FVec Ideal S256 .f32 := m ((c : Thread nD τ).loc main_arg2)
abbrev argD : FVec Ideal S128 .f32 := m ((c : Thread nD τ).loc main_arg3)

theorem V_a : V m c main_v0 = argA m c := by
  simp only [V, List.flatten_cons, List.flatten_nil, List.append_nil]
  after_reads_simp
  rfl

theorem V_c (k : Fin 256) : V m c main_v10 (ix2 0 k) = argC m c (ix1 k) := by
  simp only [V, List.flatten_cons, List.flatten_nil, List.append_nil]
  after_reads_simp
  exact (shapeCast_addUnit_apply ![256] _ _ _).trans (congrArg (argC m c) (funext fun a => match a with | ⟨0, _⟩ => rfl))

theorem V_d (k : Fin 128) : V m c main_v11 (ix2 0 k) = argD m c (ix1 k) := by
  simp only [V, List.flatten_cons, List.flatten_nil, List.append_nil]
  after_reads_simp
  exact (shapeCast_addUnit_apply ![128] _ _ _).trans (congrArg (argD m c) (funext fun a => match a with | ⟨0, _⟩ => rfl))

theorem transposed (n : Fin 1024) (k : Fin 2976) :
    transpose S2976x1024 [1, 0] (argB m c) transposes_S1024x2976_S2976x1024_1_0 (ix2 k n) = argB m c (ix2 n k) :=
  congrArg (argB m c) (funext fun a => match a with | ⟨0, _⟩ => rfl | ⟨1, _⟩ => rfl)

/-- The transposed weight in the kernel's rows. -/
theorem V_w (j : Fin 3072) (n : Fin 1024) : V m c main_v9 (ix2 j n) = spread (fun k => argB m c (ix2 n k)) j := by
  simp only [V, List.flatten_cons, List.flatten_nil, List.append_nil]
  after_reads_simp
  dsimp only [Matrix.cons_val]
  after_reads_simp
  exact joined_rows (R := 1024) (fun n k => argB m c (ix2 n k)) _ _ _ _ _ _ _ (fun n k => (slice_rows _ _ n k (by omega)).trans (transposed m c n _)) (fun n k => (slice_rows _ _ n k (by omega)).trans (transposed m c n _)) (fun n k => (slice_rows _ _ n k (by omega)).trans (transposed m c n _)) (fun _ _ => zeros_at _ _) (fun n k => (slice_rows _ _ n k (by omega)).trans (transposed m c n _)) (fun _ _ => zeros_at _ _) n j

/-- Row `512 t + r` of the tokens. -/
def pos (t : Fin cfg0.N) (r : Fin 512) : Fin 4096 := ⟨512 * t.val + r.val, by have h : t.val < 8 := t.isLt; omega⟩

theorem at_0 (t : Fin cfg0.N) (i : Fin 512) (j : Fin 1024) : iblk m c 0 t (ix2 i j) = argA m c (ix2 (pos t i) j) := by
  have e := index_0 t
  rw [← V_a]
  blk_simp [iblk]
  exact congrArg (V m c main_v0) (by blk_ext [e, pos] <;> first | (change _ * _ + i.val = _; omega) | (change _ * _ + j.val = _; omega))

theorem at_1 (t : Fin cfg0.N) (i : Fin 3072) (j : Fin 1024) : iblk m c 1 t (ix2 i j) = spread (fun k => argB m c (ix2 j k)) i := by
  have e := index_1 t
  rw [← V_w]
  blk_simp [iblk]
  exact congrArg (V m c main_v9) (by blk_ext [e, pos] <;> first | (change _ * _ + i.val = _; omega) | (change _ * _ + j.val = _; omega))

theorem at_2 (t : Fin cfg0.N) (k : Fin 256) : iblk m c 2 t (ix2 (0 : Fin 1) k) = argC m c (ix1 k) := by
  have e := index_2 t
  rw [← V_c]
  blk_simp [iblk]
  exact congrArg (V m c main_v10) (by blk_ext [e] <;> (change _ * _ + k.val = _; omega))

theorem at_3 (t : Fin cfg0.N) (k : Fin 128) : iblk m c 3 t (ix2 (0 : Fin 1) k) = argD m c (ix1 k) := by
  have e := index_3 t
  rw [← V_d]
  blk_simp [iblk]
  exact congrArg (V m c main_v11) (by blk_ext [e] <;> (change _ * _ + k.val = _; omega))

/-- The product, in the problem's columns. -/
def prod (x : FVec Ideal S4096x1024 .f32) (w : FVec Ideal S1024x2976 .f32) (r : Fin 4096) (q : Fin 2976) : EReal :=
  ∑ k : Fin 1024, x (ix2 r k) * w (ix2 k q)

/-- The kernel's product at a grid point. -/
theorem product_at (t : Fin cfg0.N) (r : Fin 512) (j : Fin 3072) :
    k0_pay2 (F := Ideal) (iblk m c 0 t) (iblk m c 1 t) (ix2 r j) = spread (prod (argA m c) (argB m c) (pos t r)) j := by
  unfold k0_pay2
  rw [shapeCast_self, shapeCast_self]
  exact (rows_rows (M := 512) (K := 1024) (N := 3072) (φ := .bf16) (ψ := .bf16) _ _ r j).trans
    ((Finset.sum_congr rfl fun k _ => congrArg₂ (fun p q : EReal => p * q) (at_0 m c t r k) (at_1 m c t j k)).trans (sum_spread_right _ _ j))

theorem spread_c (f : Fin 2976 → EReal) (k : Fin 512) : spread f (⟨k.val + 512, by omega⟩ : Fin 3072) = f ⟨512 + k.val, by omega⟩ := by
  unfold spread
  split_ifs <;> first | (exfalso; dsimp only at *; omega) | exact congrArg f (Fin.ext (by dsimp only; omega))

theorem spread_x (f : Fin 2976 → EReal) (k : Fin 512) : spread f (⟨k.val + 1024, by omega⟩ : Fin 3072) = f ⟨1024 + k.val, by omega⟩ := by
  unfold spread
  split_ifs <;> first | (exfalso; dsimp only at *; omega) | exact congrArg f (Fin.ext (by dsimp only; omega))

theorem spread_q (f : Fin 2976 → EReal) (k : Fin 256) : spread f (⟨k.val + 2560, by omega⟩ : Fin 3072) = f ⟨2048 + k.val, by omega⟩ := by
  unfold spread
  split_ifs <;> first | (exfalso; dsimp only at *; omega) | exact congrArg f (Fin.ext (by dsimp only; omega))

theorem spread_kv (f : Fin 2976 → EReal) (k : Fin 128) : spread f (⟨k.val + 2816, by omega⟩ : Fin 3072) = f ⟨2304 + k.val, by omega⟩ := by
  unfold spread
  split_ifs <;> first | (exfalso; dsimp only at *; omega) | exact congrArg f (Fin.ext (by dsimp only; omega))

/-- An entry of a normalised row: `s` the sum of the row's squares, `n` their number, `g` the gain. -/
def scaled (x s n g : EReal) : EReal :=
  FloatOps.mulf (F := Ideal) (φ := .f32) (FloatOps.mulf (F := Ideal) (φ := .f32) x
    (FloatOps.rsqrt (F := Ideal) (φ := .f32) (FloatOps.addf (F := Ideal) (φ := .f32) (FloatOps.divf (F := Ideal) (φ := .f32) s n)
      (Scalar.ofBits .f32 0x358637BD#32)))) g

/-- The reference's four values. -/
abbrev wantZ (x : FVec Ideal S4096x1024 .f32) (w : FVec Ideal S1024x2976 .f32) : FVec Ideal S4096x3072 .bf16 :=
  Cert.EvenInRefIdeal.Read.val_main_v17 (F := Ideal) x w
abbrev wantU (x : FVec Ideal S4096x1024 .f32) (w : FVec Ideal S1024x2976 .f32) : FVec Ideal S4096x512 .f32 :=
  Cert.EvenInRefIdeal.Read.val_main_v18 (F := Ideal) x w
abbrev wantQ (x : FVec Ideal S4096x1024 .f32) (w : FVec Ideal S1024x2976 .f32) (g : FVec Ideal S256 .f32) : FVec Ideal S4096x256 .bf16 :=
  Cert.EvenInRefIdeal.Read.val_main_v32 (F := Ideal) x w g
abbrev wantK (x : FVec Ideal S4096x1024 .f32) (w : FVec Ideal S1024x2976 .f32) (g : FVec Ideal S128 .f32) : FVec Ideal S4096x128 .bf16 :=
  Cert.EvenInRefIdeal.Read.val_main_v46 (F := Ideal) x w g

section Reference
open Cert.EvenInRefIdeal.Read
variable (x : FVec Ideal S4096x1024 .f32) (w : FVec Ideal S1024x2976 .f32)

theorem ref_prod (r : Fin 4096) (q : Fin 2976) : val_main_v0 (F := Ideal) x w (ix2 r q) = prod x w r q := by
  refine (val_main_v0_apply x w _).trans (Finset.sum_congr rfl fun k _ => ?_)
  refine congrArg₂ (fun i j => x i * w j) ?_ ?_
  · exact funext fun a => match a with | ⟨0, _⟩ => rfl | ⟨1, _⟩ => rfl
  · exact funext fun a => match a with | ⟨0, _⟩ => rfl | ⟨1, _⟩ => rfl

theorem zeros_apply (i : (⟨2, ![4096, 96]⟩ : Shape).Idx) : val_main_v9 (F := Ideal) i = (0 : EReal) := by
  refine (val_main_v9_apply i).trans ((val_main_cst_apply _).trans ?_)
  show Ideal.ofBits .f32 0x00000000#32 = 0
  exact Ideal.ofBits_zero_f32

theorem wantZ_at (r : Fin 4096) (j : Fin 3072) : wantZ x w (ix2 r j) = spread (prod x w r) j := by
  show val_main_v16 (F := Ideal) x w (ix2 r j) = _
  unfold val_main_v16
  exact joined_six (R := 4096) (prod x w) _ _ _ _ _ _ _ (fun r k => (slice_cols _ _ r k (by omega)).trans (ref_prod x w r _)) (fun r k => (slice_cols _ _ r k (by omega)).trans (ref_prod x w r _)) (fun r k => (slice_cols _ _ r k (by omega)).trans (ref_prod x w r _)) (fun r k => (slice_cols (o := 0) (C := 96) _ _ r k (by omega)).trans (zeros_apply _)) (fun r k => (slice_cols _ _ r k (by omega)).trans (ref_prod x w r _)) (fun r k => (slice_cols (o := 64) (C := 96) _ _ r k (by omega)).trans (zeros_apply _)) r j

theorem wantU_at (r : Fin 4096) (k : Fin 512) :
    wantU x w (ix2 r k) = FloatOps.mulf (F := Ideal) (φ := .f32) (prod x w r ⟨512 + k.val, by omega⟩) (prod x w r ⟨1024 + k.val, by omega⟩) := by
  refine (val_main_v18_apply (F := Ideal) x w _).trans (congrArg₂ (FloatOps.mulf (F := Ideal) (φ := .f32)) ?_ ?_)
  · refine (val_main_v2_apply (F := Ideal) x w _).trans ((congrArg (val_main_v0 (F := Ideal) x w) (?_ : _ = ix2 r _)).trans (ref_prod x w r _))
    exact funext fun a => match a with | ⟨0, _⟩ => rfl | ⟨1, _⟩ => rfl
  · refine (val_main_v3_apply (F := Ideal) x w _).trans ((congrArg (val_main_v0 (F := Ideal) x w) (?_ : _ = ix2 r _)).trans (ref_prod x w r _))
    exact funext fun a => match a with | ⟨0, _⟩ => rfl | ⟨1, _⟩ => rfl

theorem partQ (r : Fin 4096) (k : Fin 256) : val_main_v5 (F := Ideal) x w (ix2 r k) = prod x w r ⟨2048 + k.val, by omega⟩ := by
  refine (val_main_v5_apply (F := Ideal) x w _).trans ((congrArg (val_main_v0 (F := Ideal) x w) (?_ : _ = ix2 r _)).trans (ref_prod x w r _))
  exact funext fun a => match a with | ⟨0, _⟩ => rfl | ⟨1, _⟩ => rfl

theorem squaresQ (r : Fin 4096) : val_main_v20 (F := Ideal) x w (ix1 r)
    = ∑ q : Fin 256, prod x w r ⟨2048 + q.val, by omega⟩ * prod x w r ⟨2048 + q.val, by omega⟩ := by
  refine (val_main_v20_apply x w _).trans ((congrArg (· + _) (?_ : _ = (0 : EReal))).trans ((zero_add _).trans (Finset.sum_congr rfl fun q _ => ?_)))
  · exact Ideal.ofBits_zero_f32
  · refine (congrArg (val_main_v19 (F := Ideal) x w) (?_ : _ = ix2 r q)).trans ((val_main_v19_apply (F := Ideal) x w _).trans
      (congrArg₂ (fun p q : EReal => p * q) (partQ x w r q) (partQ x w r q)))
    exact funext fun a => match a with | ⟨0, _⟩ => rfl | ⟨1, _⟩ => rfl

theorem wantQ_at (g : FVec Ideal S256 .f32) (r : Fin 4096) (k : Fin 256) :
    wantQ x w g (ix2 r k) = scaled (prod x w r ⟨2048 + k.val, by omega⟩)
      (∑ q : Fin 256, prod x w r ⟨2048 + q.val, by omega⟩ * prod x w r ⟨2048 + q.val, by omega⟩)
      (Scalar.ofBits (F := Ideal) .f32 0x43800000#32) (g (ix1 k)) := by
  rw [← partQ x w r k, ← squaresQ x w r]
  rw [wantQ, val_main_v32_apply, val_main_v31_apply, val_main_v28_apply, val_main_v27_apply, val_main_v26_apply, val_main_v25_apply,
    val_main_v23_apply, val_main_v21_apply, val_main_v22_apply, val_main_v24_apply, val_main_v30_apply, val_main_v29_apply]
  have h0 : idx_main_v21 (idx_main_v27 (ix2 r k)) = ix1 r := funext fun a => match a with | ⟨0, _⟩ => rfl
  have h1 : idx_main_v29 (idx_main_v30 (ix2 r k)) = ix1 k := funext fun a => match a with | ⟨0, _⟩ => rfl
  rw [h0, h1]
  rfl

theorem partK (r : Fin 4096) (k : Fin 128) : val_main_v6 (F := Ideal) x w (ix2 r k) = prod x w r ⟨2304 + k.val, by omega⟩ := by
  refine (val_main_v6_apply (F := Ideal) x w _).trans ((congrArg (val_main_v0 (F := Ideal) x w) (?_ : _ = ix2 r _)).trans (ref_prod x w r _))
  exact funext fun a => match a with | ⟨0, _⟩ => rfl | ⟨1, _⟩ => rfl

theorem squaresK (r : Fin 4096) : val_main_v34 (F := Ideal) x w (ix1 r)
    = ∑ q : Fin 128, prod x w r ⟨2304 + q.val, by omega⟩ * prod x w r ⟨2304 + q.val, by omega⟩ := by
  refine (val_main_v34_apply x w _).trans ((congrArg (· + _) (?_ : _ = (0 : EReal))).trans ((zero_add _).trans (Finset.sum_congr rfl fun q _ => ?_)))
  · exact Ideal.ofBits_zero_f32
  · refine (congrArg (val_main_v33 (F := Ideal) x w) (?_ : _ = ix2 r q)).trans ((val_main_v33_apply (F := Ideal) x w _).trans
      (congrArg₂ (fun p q : EReal => p * q) (partK x w r q) (partK x w r q)))
    exact funext fun a => match a with | ⟨0, _⟩ => rfl | ⟨1, _⟩ => rfl

theorem wantK_at (g : FVec Ideal S128 .f32) (r : Fin 4096) (k : Fin 128) :
    wantK x w g (ix2 r k) = scaled (prod x w r ⟨2304 + k.val, by omega⟩)
      (∑ q : Fin 128, prod x w r ⟨2304 + q.val, by omega⟩ * prod x w r ⟨2304 + q.val, by omega⟩)
      (Scalar.ofBits (F := Ideal) .f32 0x43000000#32) (g (ix1 k)) := by
  rw [← partK x w r k, ← squaresK x w r]
  rw [wantK, val_main_v46_apply, val_main_v45_apply, val_main_v42_apply, val_main_v41_apply, val_main_v40_apply, val_main_v39_apply,
    val_main_v37_apply, val_main_v35_apply, val_main_v36_apply, val_main_v38_apply, val_main_v44_apply, val_main_v43_apply]
  have h0 : idx_main_v35 (idx_main_v41 (ix2 r k)) = ix1 r := funext fun a => match a with | ⟨0, _⟩ => rfl
  have h1 : idx_main_v43 (idx_main_v44 (ix2 r k)) = ix1 k := funext fun a => match a with | ⟨0, _⟩ => rfl
  rw [h0, h1]
  rfl

end Reference

theorem out_z (a : Vec Ideal S512x1024 .bf16) (b : Vec Ideal S3072x1024 .bf16) (x2 : Vec Ideal S1x256 .f32) (x3 : Vec Ideal S1x128 .f32) (r : Fin 512) (j : Fin 3072) :
    out0_4 (F := Ideal) a b x2 x3 (ix2 r j) = k0_pay2 (F := Ideal) a b (ix2 r j) := by
  unfold out0_4
  rw [View.canon_unit_zero offsets2, View.ld_unit_zero offsets2, View.ld_unit_zero offsets2]
  rfl

theorem out_u (a : Vec Ideal S512x1024 .bf16) (b : Vec Ideal S3072x1024 .bf16) (x2 : Vec Ideal S1x256 .f32) (x3 : Vec Ideal S1x128 .f32) (r : Fin 512) (k : Fin 512) :
    out0_5 (F := Ideal) a b x2 x3 (ix2 r k)
      = FloatOps.mulf (F := Ideal) (φ := .f32) (k0_pay2 (F := Ideal) a b (ix2 r ⟨k.val + 512, by omega⟩)) (k0_pay2 (F := Ideal) a b (ix2 r ⟨k.val + 1024, by omega⟩)) := by
  unfold out0_5
  rw [Cert.EvenInIdeal.Value.canon5_eq, View.ld_unit_zero offsets2, View.ld_unit_zero offsets2]
  refine congrArg₂ (fun i j => FloatOps.mulf (F := Ideal) (φ := .f32) (k0_pay2 (F := Ideal) a b i) (k0_pay2 (F := Ideal) a b j)) ?_ ?_
  · exact funext fun a => match a with | ⟨0, _⟩ => rfl | ⟨1, _⟩ => rfl
  · exact funext fun a => match a with | ⟨0, _⟩ => rfl | ⟨1, _⟩ => rfl

theorem squares_q (z : FVec Ideal S512x3072 .f32) (hs) (hr) (h0) (h1) (r : Fin 512) :
    multiReduction .add [1] S512 (mulf (extractStridedSlice S512x256 ![0, 2560] z hs) (extractStridedSlice S512x256 ![0, 2560] z hs))
      0x00000000#32 hr h0 h1 (ix1 r) = ∑ q : Fin 256, z (ix2 r ⟨2560 + q.val, by omega⟩) * z (ix2 r ⟨2560 + q.val, by omega⟩) := by
  refine (Ideal.multiReduction_add_single _ _ hr h0 h1 (ix1 r)).trans (Finset.sum_congr rfl fun q _ => ?_)
  have e : extractStridedSlice S512x256 ![0, 2560] z hs (hr.lift (ix1 r) q) = z (ix2 r ⟨2560 + q.val, by have hq : q.val < 256 := q.isLt; omega⟩) := by
    rw [show hr.lift (ix1 r) q = ix2 r (⟨q.val, q.isLt⟩ : Fin 256) from funext fun a => match a with | ⟨0, _⟩ => rfl | ⟨1, _⟩ => rfl]
    exact slice_cols z hs r _ (by have hq : q.val < 256 := q.isLt; omega)
  exact congrArg₂ (fun p q : EReal => p * q) e e

theorem out_q (a : Vec Ideal S512x1024 .bf16) (b : Vec Ideal S3072x1024 .bf16) (x2 : Vec Ideal S1x256 .f32) (x3 : Vec Ideal S1x128 .f32) (r : Fin 512) (k : Fin 256) :
    out0_6 (F := Ideal) a b x2 x3 (ix2 r k)
      = scaled (k0_pay2 (F := Ideal) a b (ix2 r ⟨k.val + 2560, by omega⟩))
        (∑ q : Fin 256, k0_pay2 (F := Ideal) a b (ix2 r ⟨2560 + q.val, by omega⟩) * k0_pay2 (F := Ideal) a b (ix2 r ⟨2560 + q.val, by omega⟩))
        (Scalar.ofBits (F := Ideal) .f32 0x43800000#32) (x2 (ix2 (0 : Fin 1) k)) := by
  unfold out0_6
  rw [Cert.EvenInIdeal.Value.canon6_eq, View.ld_unit_zero offsets2, View.ld_unit_zero offsets2, View.ld_unit_zero offsets2]
  have h0 : Cert.EvenInIdeal.Value.ix6_0 (ix2 r k) = ix2 r ⟨k.val + 2560, by omega⟩ := funext fun a => match a with | ⟨0, _⟩ => rfl | ⟨1, _⟩ => rfl
  have h1 : Cert.EvenInIdeal.Value.ix6_1 (ix2 r k) = ix1 r := funext fun a => match a with | ⟨0, _⟩ => rfl
  have h2 : Cert.EvenInIdeal.Value.ix6_2 (ix2 r k) = ix2 (0 : Fin 1) k := funext fun a => match a with | ⟨0, _⟩ => rfl | ⟨1, _⟩ => rfl
  dsimp only [Cert.EvenInIdeal.Value.E6]
  rw [h0, h1, h2]
  exact congrArg (fun s => scaled (k0_pay2 (F := Ideal) a b (ix2 r ⟨k.val + 2560, by omega⟩)) s
    (Scalar.ofBits (F := Ideal) .f32 0x43800000#32) (x2 (ix2 (0 : Fin 1) k))) (squares_q (k0_pay2 (F := Ideal) a b) _ _ _ _ r)

theorem squares_k (z : FVec Ideal S512x3072 .f32) (hs) (hr) (h0) (h1) (r : Fin 512) :
    multiReduction .add [1] S512 (mulf (extractStridedSlice S512x128 ![0, 2816] z hs) (extractStridedSlice S512x128 ![0, 2816] z hs))
      0x00000000#32 hr h0 h1 (ix1 r) = ∑ q : Fin 128, z (ix2 r ⟨2816 + q.val, by omega⟩) * z (ix2 r ⟨2816 + q.val, by omega⟩) := by
  refine (Ideal.multiReduction_add_single _ _ hr h0 h1 (ix1 r)).trans (Finset.sum_congr rfl fun q _ => ?_)
  have e : extractStridedSlice S512x128 ![0, 2816] z hs (hr.lift (ix1 r) q) = z (ix2 r ⟨2816 + q.val, by have hq : q.val < 128 := q.isLt; omega⟩) := by
    rw [show hr.lift (ix1 r) q = ix2 r (⟨q.val, q.isLt⟩ : Fin 128) from funext fun a => match a with | ⟨0, _⟩ => rfl | ⟨1, _⟩ => rfl]
    exact slice_cols z hs r _ (by have hq : q.val < 128 := q.isLt; omega)
  exact congrArg₂ (fun p q : EReal => p * q) e e

theorem out_k (a : Vec Ideal S512x1024 .bf16) (b : Vec Ideal S3072x1024 .bf16) (x2 : Vec Ideal S1x256 .f32) (x3 : Vec Ideal S1x128 .f32) (r : Fin 512) (k : Fin 128) :
    out0_7 (F := Ideal) a b x2 x3 (ix2 r k)
      = scaled (k0_pay2 (F := Ideal) a b (ix2 r ⟨k.val + 2816, by omega⟩))
        (∑ q : Fin 128, k0_pay2 (F := Ideal) a b (ix2 r ⟨2816 + q.val, by omega⟩) * k0_pay2 (F := Ideal) a b (ix2 r ⟨2816 + q.val, by omega⟩))
        (Scalar.ofBits (F := Ideal) .f32 0x43000000#32) (x3 (ix2 (0 : Fin 1) k)) := by
  unfold out0_7
  rw [Cert.EvenInIdeal.Value.canon7_eq, View.ld_unit_zero offsets2, View.ld_unit_zero offsets2, View.ld_unit_zero offsets2]
  have h0 : Cert.EvenInIdeal.Value.ix7_0 (ix2 r k) = ix2 r ⟨k.val + 2816, by omega⟩ := funext fun a => match a with | ⟨0, _⟩ => rfl | ⟨1, _⟩ => rfl
  have h1 : Cert.EvenInIdeal.Value.ix7_1 (ix2 r k) = ix1 r := funext fun a => match a with | ⟨0, _⟩ => rfl
  have h2 : Cert.EvenInIdeal.Value.ix7_2 (ix2 r k) = ix2 (0 : Fin 1) k := funext fun a => match a with | ⟨0, _⟩ => rfl | ⟨1, _⟩ => rfl
  dsimp only [Cert.EvenInIdeal.Value.E7]
  rw [h0, h1, h2]
  exact congrArg (fun s => scaled (k0_pay2 (F := Ideal) a b (ix2 r ⟨k.val + 2816, by omega⟩)) s
    (Scalar.ofBits (F := Ideal) .f32 0x43000000#32) (x3 (ix2 (0 : Fin 1) k))) (squares_k (k0_pay2 (F := Ideal) a b) _ _ _ _ r)

theorem at_z (t : Fin cfg0.N) (r : Fin 512) (j : Fin 3072) : k0_pay2 (F := Ideal) (iblk m c 0 t) (iblk m c 1 t) (ix2 r j) = wantZ (argA m c) (argB m c) (ix2 (pos t r) j) :=
  (product_at m c t r j).trans (wantZ_at (argA m c) (argB m c) (pos t r) j).symm

theorem at_u (t : Fin cfg0.N) (r : Fin 512) (k : Fin 512) :
    FloatOps.mulf (F := Ideal) (φ := .f32) (k0_pay2 (F := Ideal) (iblk m c 0 t) (iblk m c 1 t) (ix2 r ⟨k.val + 512, by omega⟩)) (k0_pay2 (F := Ideal) (iblk m c 0 t) (iblk m c 1 t) (ix2 r ⟨k.val + 1024, by omega⟩))
      = wantU (argA m c) (argB m c) (ix2 (pos t r) k) := by
  rw [product_at, product_at, spread_c, spread_x]
  exact (wantU_at (argA m c) (argB m c) (pos t r) k).symm

theorem at_q (t : Fin cfg0.N) (r : Fin 512) (k : Fin 256) :
    scaled (k0_pay2 (F := Ideal) (iblk m c 0 t) (iblk m c 1 t) (ix2 r ⟨k.val + 2560, by omega⟩))
        (∑ q : Fin 256, k0_pay2 (F := Ideal) (iblk m c 0 t) (iblk m c 1 t) (ix2 r ⟨2560 + q.val, by omega⟩) * k0_pay2 (F := Ideal) (iblk m c 0 t) (iblk m c 1 t) (ix2 r ⟨2560 + q.val, by omega⟩))
        (Scalar.ofBits (F := Ideal) .f32 0x43800000#32) (iblk m c 2 t (ix2 (0 : Fin 1) k))
      = wantQ (argA m c) (argB m c) (argC m c) (ix2 (pos t r) k) := by
  have h (q : Fin 256) : k0_pay2 (F := Ideal) (iblk m c 0 t) (iblk m c 1 t) (ix2 r ⟨2560 + q.val, by omega⟩) = prod (argA m c) (argB m c) (pos t r) ⟨2048 + q.val, by omega⟩ :=
    (product_at m c t r _).trans ((congrArg (spread _) (Fin.ext (Nat.add_comm _ _))).trans (spread_q _ q))
  rw [product_at, spread_q, at_2, wantQ_at (argA m c) (argB m c) (argC m c) (pos t r) k]
  exact congrArg (fun s => scaled _ s _ _) (Finset.sum_congr rfl fun q _ => congrArg₂ (fun p q : EReal => p * q) (h q) (h q))

theorem at_k (t : Fin cfg0.N) (r : Fin 512) (k : Fin 128) :
    scaled (k0_pay2 (F := Ideal) (iblk m c 0 t) (iblk m c 1 t) (ix2 r ⟨k.val + 2816, by omega⟩))
        (∑ q : Fin 128, k0_pay2 (F := Ideal) (iblk m c 0 t) (iblk m c 1 t) (ix2 r ⟨2816 + q.val, by omega⟩) * k0_pay2 (F := Ideal) (iblk m c 0 t) (iblk m c 1 t) (ix2 r ⟨2816 + q.val, by omega⟩))
        (Scalar.ofBits (F := Ideal) .f32 0x43000000#32) (iblk m c 3 t (ix2 (0 : Fin 1) k))
      = wantK (argA m c) (argB m c) (argD m c) (ix2 (pos t r) k) := by
  have h (q : Fin 128) : k0_pay2 (F := Ideal) (iblk m c 0 t) (iblk m c 1 t) (ix2 r ⟨2816 + q.val, by omega⟩) = prod (argA m c) (argB m c) (pos t r) ⟨2304 + q.val, by omega⟩ :=
    (product_at m c t r _).trans ((congrArg (spread _) (Fin.ext (Nat.add_comm _ _))).trans (spread_kv _ q))
  rw [product_at, spread_kv, at_3, wantK_at (argA m c) (argB m c) (argD m c) (pos t r) k]
  exact congrArg (fun s => scaled _ s _ _) (Finset.sum_congr rfl fun q _ => congrArg₂ (fun p q : EReal => p * q) (h q) (h q))

/-- Result 0, whole. -/
theorem final_z : (dats m 0 c).arrAt 4 cfg0.N = wantZ (argA m c) (argB m c) := by
  refine (dats m 0 c).arrAt_eq_of_covers 4 _ (by decide +kernel) fun t hf y => ?_
  have e := index_4 t
  blk_simp
  rw [after0_4]
  obtain ⟨r, n, rfl⟩ : ∃ (r : Fin 512) (n : Fin 3072), y = ix2 r n := ext2 y
  refine ((out_z _ _ _ _ r n).trans (at_z m c t r n)).trans (congrArg (wantZ (argA m c) (argB m c)) ?_)
  blk_ext [e, pos] <;> first | (change _ = _ * _ + r.val; omega) | (change _ = _ * _ + n.val; omega)

/-- Result 1, whole. -/
theorem final_u : (dats m 0 c).arrAt 5 cfg0.N = wantU (argA m c) (argB m c) := by
  refine (dats m 0 c).arrAt_eq_of_covers 5 _ (by decide +kernel) fun t hf y => ?_
  have e := index_5 t
  blk_simp
  rw [after0_5]
  obtain ⟨r, n, rfl⟩ : ∃ (r : Fin 512) (n : Fin 512), y = ix2 r n := ext2 y
  refine ((out_u _ _ _ _ r n).trans (at_u m c t r n)).trans (congrArg (wantU (argA m c) (argB m c)) ?_)
  blk_ext [e, pos] <;> first | (change _ = _ * _ + r.val; omega) | (change _ = _ * _ + n.val; omega)

/-- Result 2, whole. -/
theorem final_q : (dats m 0 c).arrAt 6 cfg0.N = wantQ (argA m c) (argB m c) (argC m c) := by
  refine (dats m 0 c).arrAt_eq_of_covers 6 _ (by decide +kernel) fun t hf y => ?_
  have e := index_6 t
  blk_simp
  rw [after0_6]
  obtain ⟨r, n, rfl⟩ : ∃ (r : Fin 512) (n : Fin 256), y = ix2 r n := ext2 y
  refine ((out_q _ _ _ _ r n).trans (at_q m c t r n)).trans (congrArg (wantQ (argA m c) (argB m c) (argC m c)) ?_)
  blk_ext [e, pos] <;> first | (change _ = _ * _ + r.val; omega) | (change _ = _ * _ + n.val; omega)

/-- Result 3, whole. -/
theorem final_k : (dats m 0 c).arrAt 7 cfg0.N = wantK (argA m c) (argB m c) (argD m c) := by
  refine (dats m 0 c).arrAt_eq_of_covers 7 _ (by decide +kernel) fun t hf y => ?_
  have e := index_7 t
  blk_simp
  rw [after0_7]
  obtain ⟨r, n, rfl⟩ : ∃ (r : Fin 512) (n : Fin 128), y = ix2 r n := ext2 y
  refine ((out_k _ _ _ _ r n).trans (at_k m c t r n)).trans (congrArg (wantK (argA m c) (argB m c) (argD m c)) ?_)
  blk_ext [e, pos] <;> first | (change _ = _ * _ + r.val; omega) | (change _ = _ * _ + n.val; omega)

end Cert.EvenInIdeal.Product

end
-- ==== Proof.FwdSteps.lean ====
/-
  WHAT ONE STEP OF THE ATTENTION'S FORWARD CALL COMPUTES, head by head. A grid point holds 256 queries (`q`), every key
  (`k`) and every value (`vt`, transposed tile by tile). A step takes the keys 256j … 256j+255: it raises each query's
  greatest score so far to `top`, scales what was summed so far to the new greatest score, and adds these keys' weights
  times their values: `acc`. The diagonal step masks by chunks of 64 positions. `mAt` and `accAt` are the two buffers after
  the first `n` tiles.
-/
module

public import proofs.«01_k».proof.Proof.Reads
public import proofs.«01_k».proof.Proof.Diag
public import proofs.«01_k».proof.Proof.Maths
public import proofs.«01_k».proof.Proof.Gen.ForwardIdeal

@[expose] public section

noncomputable section

namespace Cert.ForwardIdeal.Attn

open Idealize.ShloMosaic Idealize.ShloMosaic.ValueIdx Idealize.ShloMosaic.TcCoe
open Cert.ForwardIdeal Cert.ForwardIdeal.Gen
open Cert.KernelIdeal.AttnGrad (row tile load_stack drop_unit add_unit slice_cols zero_word chunkWord chunkWord_eq chunk_le)
open scoped BigOperators

/-! ## The terms -/

/-- Lane `c` of head `h` among the eight heads' 1024 columns. -/
def hcol (h : Fin 8) (c : Fin 128) : Fin 1024 := ⟨128 * h.val + c.val, by omega⟩

/-- The blocks a grid point works on. -/
structure Blocks where
  q : S256x1024.Idx → EReal
  k : S4096x1024.Idx → EReal
  vt : S16x1024x256.Idx → EReal

variable (B : Blocks)

/-- The score of key `t` of tile `j` for query `r`; `m` says whether the chunk mask is applied. -/
def Blocks.score (m : Bool) (h : Fin 8) (j : Fin 16) (t r : Fin 256) : EReal :=
  if m = true ∧ ¬(t.val / 64 ≤ r.val / 64) then ⊥
  else ∑ c : Fin 128, B.k (ix2 (row j t) (hcol h c)) * B.q (ix2 r (hcol h c))

/-- The greatest score after tile `j`, `x` before it. -/
def Blocks.top (m : Bool) (h : Fin 8) (j : Fin 16) (x : EReal) (r : Fin 256) : EReal :=
  max x ((Finset.univ : Finset (Fin 256)).fold max ⊥ fun t => B.score m h j t r)

/-- The sums after tile `j`, `a` before it. -/
def Blocks.acc (m : Bool) (h : Fin 8) (j : Fin 16) (x a : EReal) (c : Fin 128) (r : Fin 256) : EReal :=
  a * Ideal.exp2 (x - B.top m h j x r)
    + ∑ t : Fin 256, B.vt (ix3 j (hcol h c) t) * Ideal.exp2 (B.score m h j t r - B.top m h j x r)

def Blocks.mAt (B : Blocks) (h : Fin 8) (r : Fin 256) : ℕ → EReal
  | 0 => ⊥
  | n + 1 => B.top false h (tile n) (Blocks.mAt B h r n) r

def Blocks.accAt (B : Blocks) (h : Fin 8) (c : Fin 128) (r : Fin 256) : ℕ → EReal
  | 0 => 0
  | n + 1 => B.acc false h (tile n) (Blocks.mAt B h r n) (Blocks.accAt B h c r n) c r

/-- The greatest score and the sums after the diagonal step of tile `j`. -/
def Blocks.mEnd (j : Fin 16) (h : Fin 8) (r : Fin 256) : EReal := B.top true h j (B.mAt h r j.val) r
def Blocks.accEnd (j : Fin 16) (h : Fin 8) (c : Fin 128) (r : Fin 256) : EReal :=
  B.acc true h j (B.mAt h r j.val) (B.accAt h c r j.val) c r

/-! ## The steps as the kernel spells them -/

/-- The new greatest scores, eight equal rows. -/
def headMax (st : FVec Ideal S256x256 .f32) (mp : S1x8x256.Idx → EReal) : FVec Ideal S8x256 .f32 :=
  maximumf (shapeCast S8x256 mp shapeCasts_S1x8x256_S8x256 : FVec Ideal S8x256 .f32)
    (broadcastTo S8x256 (shapeCast S1x256 (multiReduction .maximumf [0] S256 st 0xFF800000#32 reduces_S256x256_S256 (.inl rfl) rfl)
      shapeCasts_S256_S1x256) broadcasts_S1x256_S8x256)

/-- The factor the sums so far are scaled by. -/
def headScale (st : FVec Ideal S256x256 .f32) (mp : S1x8x256.Idx → EReal) : FVec Ideal S1x256 .f32 :=
  exp2 (subf (extractStridedSlice S1x256 ![0, 0] (shapeCast S8x256 mp shapeCasts_S1x8x256_S8x256 : FVec Ideal S8x256 .f32) slices_S8x256_o0_0_S1x256)
    (extractStridedSlice S1x256 ![0, 0] (headMax st mp) slices_S8x256_o0_0_S1x256))

/-- The weights times the values. -/
def headSum (o : ℕ) (hs : S1024x256.Slices ![o, 0] S128x256) (vt : FVec Ideal S1024x256 .bf16) (st : FVec Ideal S256x256 .f32)
    (mp : S1x8x256.Idx → EReal) : FVec Ideal S128x256 .f32 :=
  matmul dot_S128x256_S256x256_S128x256_1_0_0_1_n_n none (extractStridedSlice S128x256 ![o, 0] vt hs)
    (truncf .bf16 (exp2 (subf st (broadcastTo S256x256 (extractStridedSlice S1x256 ![0, 0] (headMax st mp) slices_S8x256_o0_0_S1x256)
      broadcasts_S1x256_S256x256))) bitsLt_bf16_f32) (constant S128x256 .f32 0x00000000#32)

/-- The new sums. -/
def headAcc (al : FVec Ideal S1x256 .f32) (pv : FVec Ideal S128x256 .f32) (ap : S1x128x256.Idx → EReal) : FVec Ideal S1x128x256 .f32 :=
  shapeCast S1x128x256 (addf (mulf (shapeCast S128x256 ap shapeCasts_S1x128x256_S128x256 : FVec Ideal S128x256 .f32)
    (broadcastTo S128x256 al broadcasts_S1x256_S128x256)) pv) shapeCasts_S128x256_S1x128x256

/-! ## Their entries -/

theorem bcast_row {α : Type} (m : ℕ) (x : S1x256.Idx → α) (hb : S1x256.Broadcasts ⟨2, ![m, 256]⟩) (t : Fin m) (r : Fin 256) :
    broadcastTo ⟨2, ![m, 256]⟩ x hb (ix2 t r) = x (ix2 (0 : Fin 1) r) :=
  broadcastTo_apply _ hb (ix2 t r) (ix2 (0 : Fin 1) r) fun a => match a with
    | ⟨0, _⟩ => rfl
    | ⟨1, _⟩ => rfl

theorem slice_row {α : Type} (m n o : ℕ) (x : (⟨2, ![m, 256]⟩ : Shape).Idx → α) (hs : (⟨2, ![m, 256]⟩ : Shape).Slices ![o, 0] ⟨2, ![n, 256]⟩)
    (c : Fin n) (r : Fin 256) (k : Fin m) (hk : k.val = o + c.val) :
    extractStridedSlice ⟨2, ![n, 256]⟩ ![o, 0] x hs (ix2 c r) = x (ix2 k r) :=
  extractStridedSlice_apply _ _ _ _ _ fun a => match a with
    | ⟨0, _⟩ => hk
    | ⟨1, _⟩ => (Nat.zero_add _).symm

theorem col_max (st : FVec Ideal S256x256 .f32) (r : Fin 256) :
    multiReduction .maximumf [0] S256 st 0xFF800000#32 reduces_S256x256_S256 (.inl rfl) rfl (ix1 r)
      = (Finset.univ : Finset (Fin 256)).fold max ⊥ fun t => st (ix2 t r) := by
  refine (Ideal.multiReduction_maximumf_single st 0xFF800000#32 reduces_S256x256_S256 (.inl rfl) rfl (ix1 r)).trans ?_
  have hb : (FloatOps.ofBits .f32 0xFF800000#32 : Ideal .f32) = (⊥ : EReal) := Cert.AttnGrad.bot_word
  rw [hb]
  refine congrArg (fun f => (Finset.univ : Finset (Fin 256)).fold max (⊥ : EReal) f) (funext fun t => congrArg st ?_)
  exact funext fun a => match a with
    | ⟨0, _⟩ => rfl
    | ⟨1, _⟩ => rfl

theorem headMax_apply (m : Bool) (h : Fin 8) (j : Fin 16) (st : FVec Ideal S256x256 .f32) (mp : S1x8x256.Idx → EReal) (x : EReal)
    (s : Fin 8) (r : Fin 256) (hst : ∀ t, st (ix2 t r) = B.score m h j t r) (hmp : mp (ix3 (0 : Fin 1) s r) = x) :
    headMax st mp (ix2 s r) = B.top m h j x r := by
  unfold headMax Blocks.top
  rw [maximumf_apply, drop_unit, hmp]
  refine congrArg (max x) ?_
  rw [bcast_row 8, shapeCast_apply _ _ (ix2 (0 : Fin 1) r) (ix1 r) (by
    rw [Shape.rowMajor_val_two, Shape.rowMajor_val_one]
    show r.val = 0 * 256 + r.val
    omega), col_max]
  exact congrArg (fun f => (Finset.univ : Finset (Fin 256)).fold max (⊥ : EReal) f) (funext hst)

theorem headMax_store (m : Bool) (h : Fin 8) (j : Fin 16) (st : FVec Ideal S256x256 .f32) (mp : S1x8x256.Idx → EReal) (x : EReal)
    (s : Fin 8) (r : Fin 256) (hst : ∀ t, st (ix2 t r) = B.score m h j t r) (hmp : mp (ix3 (0 : Fin 1) s r) = x) :
    shapeCast S1x8x256 (headMax st mp) shapeCasts_S8x256_S1x8x256 (ix3 (0 : Fin 1) s r) = B.top m h j x r :=
  (add_unit 8 256 _ _ s r).trans (headMax_apply B m h j st mp x s r hst hmp)

theorem headAcc_apply (m : Bool) (h : Fin 8) (j : Fin 16) (o : ℕ) (ho : o = 128 * h.val) (hs : S1024x256.Slices ![o, 0] S128x256)
    (st : FVec Ideal S256x256 .f32) (vt : FVec Ideal S1024x256 .bf16) (mp : S1x8x256.Idx → EReal) (ap : S1x128x256.Idx → EReal)
    (x a : EReal) (c : Fin 128) (r : Fin 256) (hst : ∀ t, st (ix2 t r) = B.score m h j t r)
    (hmp : mp (ix3 (0 : Fin 1) (0 : Fin 8) r) = x) (hap : ap (ix3 (0 : Fin 1) c r) = a)
    (hvt : ∀ b t, vt (ix2 b t) = B.vt (ix3 j b t)) :
    headAcc (headScale st mp) (headSum o hs vt st mp) ap (ix3 (0 : Fin 1) c r) = B.acc m h j x a c r := by
  have hm := headMax_apply B m h j st mp x (0 : Fin 8) r hst hmp
  unfold headAcc Blocks.acc
  rw [add_unit, addf_apply, mulf_apply, drop_unit, hap, bcast_row 128]
  have e1 : headScale st mp (ix2 (0 : Fin 1) r) = Ideal.exp2 (x - B.top m h j x r) := by
    show Ideal.exp2 (_ - _) = _
    rw [slice_row 8 1 0 _ _ (0 : Fin 1) r (0 : Fin 8) rfl, slice_row 8 1 0 _ _ (0 : Fin 1) r (0 : Fin 8) rfl, hm, drop_unit, hmp]
  have e2 : headSum o hs vt st mp (ix2 c r)
      = ∑ t : Fin 256, B.vt (ix3 j (hcol h c) t) * Ideal.exp2 (B.score m h j t r - B.top m h j x r) := by
    unfold headSum
    refine (Ideal.matmul_plain_apply (M := 128) (K := 256) (N := 256) none _ _ _ c r).trans ?_
    rw [constant_apply, zero_word, zero_add]
    refine Finset.sum_congr rfl fun t _ => ?_
    rw [slice_row 1024 128 o vt hs c t (hcol h c) (by simp only [hcol]; omega), hvt]
    refine congrArg (_ * ·) ?_
    show Ideal.exp2 (_ - _) = _
    rw [bcast_row 256, slice_row 8 1 0 _ _ (0 : Fin 1) r (0 : Fin 8) rfl, hm, hst]
  rw [e1, e2]

theorem Blocks.score_false (h : Fin 8) (j : Fin 16) (t r : Fin 256) :
    B.score false h j t r = ∑ c : Fin 128, B.k (ix2 (row j t) (hcol h c)) * B.q (ix2 r (hcol h c)) :=
  if_neg fun hm => Bool.noConfusion hm.1

/-- The scores before any mask. -/
theorem score_vec (h : Fin 8) (j : Fin 16) (o : ℕ) (ho : o = 128 * h.val) (kb qb : FVec Ideal S256x1024 .bf16)
    (hk : ∀ t c, kb (ix2 t c) = B.k (ix2 (row j t) c)) (hq : ∀ r c, qb (ix2 r c) = B.q (ix2 r c)) (s1 s2) (t r : Fin 256) :
    matmul dot_S256x128_S256x128_S256x256_1_1_0_0_n_n none (extractStridedSlice S256x128 ![0, o] kb s1)
        (extractStridedSlice S256x128 ![0, o] qb s2) (constant S256x256 .f32 0x00000000#32) (ix2 t r)
      = B.score false h j t r := by
  rw [B.score_false]
  refine (Ideal.matmul_transposedRhs_apply (M := 256) (K := 128) (N := 256) none _ _ _ t r).trans ?_
  rw [constant_apply, zero_word, zero_add]
  refine Finset.sum_congr rfl fun c _ => ?_
  rw [slice_cols 1024 o kb s1 t c (hcol h c) (by simp only [hcol]; omega), slice_cols 1024 o qb s2 r c (hcol h c) (by simp only [hcol]; omega),
    hk, hq]

/-- The mask keeps the keys of the query's chunk and of the chunks before it. -/
theorem score_masked (h : Fin 8) (j : Fin 16) (kc qc : IVec S256x256 32) (st : FVec Ideal S256x256 .f32)
    (z : Ideal .f32) (t r : Fin 256) (hk : kc (ix2 t r) = chunkWord (BitVec.ofNat 32 t.val))
    (hq : qc (ix2 t r) = chunkWord (BitVec.ofNat 32 r.val)) (hz : z = (⊥ : EReal))
    (hst : st (ix2 t r) = B.score false h j t r) :
    select (cmpi .sle kc qc) st (broadcast S256x256 z) (ix2 t r) = B.score true h j t r := by
  show (if IntOp.cmpi .sle (kc (ix2 t r)) (qc (ix2 t r)) = 1#1 then st (ix2 t r) else z) = _
  rw [hk, hq, chunkWord_eq, chunkWord_eq, hst, hz, B.score_false]
  have hle := chunk_le ⟨t.val / 64, by omega⟩ ⟨r.val / 64, by omega⟩
  unfold Blocks.score
  by_cases hc : t.val / 64 ≤ r.val / 64
  · rw [if_pos (hle.2 hc), if_neg (fun hm => hm.2 hc)]
  · rw [if_neg (fun hm => hc (hle.1 hm)), if_pos ⟨rfl, hc⟩]

/-! ## The stores of the heads' slabs -/

section Slabs
variable {sig : RefSig} {κ : Kind} {sp : Space} {e : EltTy} {Val : EltTy → Type}

/-- A store of slab `n`, and what was stored before it. -/
theorem slab_cons (m n : ℕ) (v : View sig κ sp ⟨3, ![8, m, 256]⟩ e) (f : v.ty.Contents Val) (L : List (View.Piece Val ⟨3, ![8, m, 256]⟩ e))
    (inb) (w : (⟨3, ![1, m, 256]⟩ : Shape).Idx → Val e) (h : Fin 8) (a : Fin m) (r : Fin 256) (G : Val e)
    (hw : h.val = n → w (ix3 (0 : Fin 1) a r) = G) (hL : h.val ≠ n → v.read Val (v.writes Val f L) (ix3 h a r) = G) :
    v.read Val (v.writes Val f (⟨Rect.unit (s := ⟨3, ![8, m, 256]⟩) ![n, 0, 0] ![1, m, 256] inb, w⟩ :: L)) (ix3 h a r) = G := by
  by_cases hn : h.val = n
  · exact (View.read_writes_cons_unit_of_mem v f _ _ _ _ (ix3 (0 : Fin 1) a r) rfl (fun d => match d with
      | ⟨0, _⟩ => hn
      | ⟨1, _⟩ => (Nat.zero_add _).symm
      | ⟨2, _⟩ => (Nat.zero_add _).symm)).trans (hw hn)
  · rw [View.read_writes_cons_unit_of_not_mem v f inb _ _ _ rfl (0 : Fin 3) (by
      show h.val < n ∨ n + 1 ≤ h.val
      omega)]
    exact hL hn

/-- Slab `n` loaded. -/
theorem slab_load (m n : ℕ) (v : View sig κ sp ⟨3, ![8, m, 256]⟩ e) (f : v.ty.Contents Val) (inb) (h : Fin 8) (hn : h.val = n)
    (a : Fin m) (r : Fin 256) :
    v.readAt Val (Rect.unit (s := ⟨3, ![8, m, 256]⟩) ![n, 0, 0] ![1, m, 256] inb).toLoadRect f (ix3 (0 : Fin 1) a r)
      = v.read Val f (ix3 h a r) :=
  load_stack 8 m 256 ![1, m, 256] v f _ n 0 inb rfl (ix3 (0 : Fin 1) a r) h a r hn (Nat.zero_add _).symm rfl

/-- A store over a whole stack. -/
theorem slabs_whole (m : ℕ) (v : View sig κ sp ⟨3, ![8, m, 256]⟩ e) (f : v.ty.Contents Val) (L : List (View.Piece Val ⟨3, ![8, m, 256]⟩ e))
    (inb) (w : (⟨3, ![8, m, 256]⟩ : Shape).Idx → Val e) (x : (⟨3, ![8, m, 256]⟩ : Shape).Idx) :
    v.read Val (v.writes Val f (⟨Rect.unit (s := ⟨3, ![8, m, 256]⟩) ![0, 0, 0] ![8, m, 256] inb, w⟩ :: L)) x = w x :=
  View.read_writes_cons_unit_of_mem v f _ _ _ _ x rfl (fun d => match d with
    | ⟨0, _⟩ => (Nat.zero_add _).symm
    | ⟨1, _⟩ => (Nat.zero_add _).symm
    | ⟨2, _⟩ => (Nat.zero_add _).symm)

end Slabs

end Cert.ForwardIdeal.Attn

end
-- ==== Proof.FwdTrip.lean ====
/-
  ONE TRIP OF THE LOOP OVER THE EARLIER KEY TILES: what it leaves in the buffers of the greatest scores and of the sums.
-/
module

public import proofs.«01_k».proof.Proof.FwdSteps
public import proofs.«01_k».proof.Proof.Gen.ForwardIdeal.Loops
public import Idealize.ShloMosaic.Lib.Tactic

@[expose] public section

set_option maxRecDepth 16384

noncomputable section

namespace Cert.ForwardIdeal.Attn

open Idealize.ShloMosaic Idealize.ShloMosaic.ValueIdx Idealize.ShloMosaic.TcCoe Idealize.ShloMosaic.Tactic
open Cert.ForwardIdeal Cert.ForwardIdeal.Gen
open Cert.KernelIdeal.AttnGrad (row tile drop_unit add_unit load_rows_cast load_slab_cast load_stack)
open scoped BigOperators

/-- The loop of tile `j` makes `j` trips. -/
theorem trips_eq (i : grid0.Coords) : (k0_t1_loop i).trips = (i 1).val := by
  have h : ∀ i : grid0.Coords, (k0_t1_loop i).trips = (i 1).val := by decide +kernel
  exact h i

theorem trip_lt (i : grid0.Coords) (k : Fin (k0_t1_loop i).trips) : k.val < 16 := by
  have h := k.isLt
  have e := trips_eq i
  have l : (i 1).val < 16 := (i 1).isLt
  omega

set_option maxHeartbeats 1000000 in
theorem trip_top (𝒱 : Variants) (d : Dev nD) (bd : Option 𝒱.V) (i : grid0.Coords) (arg2 : Memref sig .tc .vmem S256x1024 .bf16) (harg2 : arg2.IsWhole) (arg3 : Memref sig .tc .vmem S4096x1024 .bf16) (harg3 : arg3.IsWhole) (arg4 : Memref sig .tc .vmem S16x1024x256 .bf16) (harg4 : arg4.IsWhole) (arg5 : Memref sig .tc .vmem S256x512 .f32) (harg5 : arg5.IsWhole) (arg6 : Memref sig .tc .vmem S1x64x256 .f32) (harg6 : arg6.IsWhole) (arg7 : Memref sig .tc .vmem S8x8x256 .f32) (harg7 : arg7.IsWhole) (arg8 : Memref sig .tc .vmem S8x128x256 .f32) (harg8 : arg8.IsWhole) (v8 : Vec Ideal S256x1024 .bf16) (X_arg3 : BufTy.Contents (Elt Ideal) arg3.view.ty) (X_arg4 : BufTy.Contents (Elt Ideal) arg4.view.ty)
    (B : Blocks) (hq0 : ∀ r c, v8 (ix2 r c) = B.q (ix2 r c)) (hk0 : arg3.view.read (Elt Ideal) X_arg3 = B.k) (hv0 : arg4.view.read (Elt Ideal) X_arg4 = B.vt)
    (k : Fin (k0_t1_loop i).trips) (f_arg7 : BufTy.Contents (Elt Ideal) arg7.view.ty) (f_arg8 : BufTy.Contents (Elt Ideal) arg8.view.ty) (h : Fin 8) (s : Fin 8) (r : Fin 256) :
    arg7.view.read (Elt Ideal) (arg7.view.writes (Elt Ideal) f_arg7 (tripL_k0_t1 (F := Ideal) 𝒱 d bd i arg2 harg2 arg3 harg3 arg4 harg4 arg5 harg5 arg6 harg6 arg7 harg7 arg8 harg8 v8 X_arg3 X_arg4 k f_arg7 f_arg8).1) (ix3 h s r)
      = B.top false h (tile k.val) (arg7.view.read (Elt Ideal) f_arg7 (ix3 h s r)) r := by
  unfold tripL_k0_t1
  unfold trip_k0_t1
  dsimp only
  sl_unfold_run_names
  have hlt : k.val < 16 := trip_lt i k
  have hj : (tile k.val).val = k.val := Nat.mod_eq_of_lt hlt
  have hq := fun (r : Fin 256) (c : Fin 1024) => (congrFun (shapeCast_self v8 shapeCasts_S256x1024_S256x1024) (ix2 r c)).trans (hq0 r c)
  have hk := fun (t : Fin 256) (c : Fin 1024) => (load_rows_cast 4096 1024 256 arg3.view X_arg3 (k0_off1 i k) _ (k0_off1_inb i k) (k0_off1_eq i k) shapeCasts_S256x1024_S256x1024 t c (row (tile k.val) t) (by show 256 * (tile k.val).val + t.val = _; omega)).trans (congrFun hk0 _)
  refine slab_cons 8 7 arg7.view f_arg7 _ _ _ h s r _ (fun e => headMax_store B false h (tile k.val) _ _ _ s r (fun t => score_vec B h (tile k.val) 896 (by omega) _ _ hk hq _ _ t r) (slab_load 8 7 arg7.view f_arg7 _ h e s r)) (fun n7 => ?_)
  refine slab_cons 8 6 arg7.view f_arg7 _ _ _ h s r _ (fun e => headMax_store B false h (tile k.val) _ _ _ s r (fun t => score_vec B h (tile k.val) 768 (by omega) _ _ hk hq _ _ t r) (slab_load 8 6 arg7.view f_arg7 _ h e s r)) (fun n6 => ?_)
  refine slab_cons 8 5 arg7.view f_arg7 _ _ _ h s r _ (fun e => headMax_store B false h (tile k.val) _ _ _ s r (fun t => score_vec B h (tile k.val) 640 (by omega) _ _ hk hq _ _ t r) (slab_load 8 5 arg7.view f_arg7 _ h e s r)) (fun n5 => ?_)
  refine slab_cons 8 4 arg7.view f_arg7 _ _ _ h s r _ (fun e => headMax_store B false h (tile k.val) _ _ _ s r (fun t => score_vec B h (tile k.val) 512 (by omega) _ _ hk hq _ _ t r) (slab_load 8 4 arg7.view f_arg7 _ h e s r)) (fun n4 => ?_)
  refine slab_cons 8 3 arg7.view f_arg7 _ _ _ h s r _ (fun e => headMax_store B false h (tile k.val) _ _ _ s r (fun t => score_vec B h (tile k.val) 384 (by omega) _ _ hk hq _ _ t r) (slab_load 8 3 arg7.view f_arg7 _ h e s r)) (fun n3 => ?_)
  refine slab_cons 8 2 arg7.view f_arg7 _ _ _ h s r _ (fun e => headMax_store B false h (tile k.val) _ _ _ s r (fun t => score_vec B h (tile k.val) 256 (by omega) _ _ hk hq _ _ t r) (slab_load 8 2 arg7.view f_arg7 _ h e s r)) (fun n2 => ?_)
  refine slab_cons 8 1 arg7.view f_arg7 _ _ _ h s r _ (fun e => headMax_store B false h (tile k.val) _ _ _ s r (fun t => score_vec B h (tile k.val) 128 (by omega) _ _ hk hq _ _ t r) (slab_load 8 1 arg7.view f_arg7 _ h e s r)) (fun n1 => ?_)
  refine slab_cons 8 0 arg7.view f_arg7 _ _ _ h s r _ (fun e => headMax_store B false h (tile k.val) _ _ _ s r (fun t => score_vec B h (tile k.val) 0 (by omega) _ _ hk hq _ _ t r) (slab_load 8 0 arg7.view f_arg7 _ h e s r)) (fun n0 => ?_)
  exact absurd h.isLt (by omega)

set_option maxHeartbeats 1000000 in
theorem trip_acc (𝒱 : Variants) (d : Dev nD) (bd : Option 𝒱.V) (i : grid0.Coords) (arg2 : Memref sig .tc .vmem S256x1024 .bf16) (harg2 : arg2.IsWhole) (arg3 : Memref sig .tc .vmem S4096x1024 .bf16) (harg3 : arg3.IsWhole) (arg4 : Memref sig .tc .vmem S16x1024x256 .bf16) (harg4 : arg4.IsWhole) (arg5 : Memref sig .tc .vmem S256x512 .f32) (harg5 : arg5.IsWhole) (arg6 : Memref sig .tc .vmem S1x64x256 .f32) (harg6 : arg6.IsWhole) (arg7 : Memref sig .tc .vmem S8x8x256 .f32) (harg7 : arg7.IsWhole) (arg8 : Memref sig .tc .vmem S8x128x256 .f32) (harg8 : arg8.IsWhole) (v8 : Vec Ideal S256x1024 .bf16) (X_arg3 : BufTy.Contents (Elt Ideal) arg3.view.ty) (X_arg4 : BufTy.Contents (Elt Ideal) arg4.view.ty)
    (B : Blocks) (hq0 : ∀ r c, v8 (ix2 r c) = B.q (ix2 r c)) (hk0 : arg3.view.read (Elt Ideal) X_arg3 = B.k) (hv0 : arg4.view.read (Elt Ideal) X_arg4 = B.vt)
    (k : Fin (k0_t1_loop i).trips) (f_arg7 : BufTy.Contents (Elt Ideal) arg7.view.ty) (f_arg8 : BufTy.Contents (Elt Ideal) arg8.view.ty) (h : Fin 8) (c : Fin 128) (r : Fin 256) :
    arg8.view.read (Elt Ideal) (arg8.view.writes (Elt Ideal) f_arg8 (tripL_k0_t1 (F := Ideal) 𝒱 d bd i arg2 harg2 arg3 harg3 arg4 harg4 arg5 harg5 arg6 harg6 arg7 harg7 arg8 harg8 v8 X_arg3 X_arg4 k f_arg7 f_arg8).2) (ix3 h c r)
      = B.acc false h (tile k.val) (arg7.view.read (Elt Ideal) f_arg7 (ix3 h (0 : Fin 8) r)) (arg8.view.read (Elt Ideal) f_arg8 (ix3 h c r)) c r := by
  unfold tripL_k0_t1
  unfold trip_k0_t1
  dsimp only
  sl_unfold_run_names
  have hlt : k.val < 16 := trip_lt i k
  have hj : (tile k.val).val = k.val := Nat.mod_eq_of_lt hlt
  have hq := fun (r : Fin 256) (c : Fin 1024) => (congrFun (shapeCast_self v8 shapeCasts_S256x1024_S256x1024) (ix2 r c)).trans (hq0 r c)
  have hk := fun (t : Fin 256) (c : Fin 1024) => (load_rows_cast 4096 1024 256 arg3.view X_arg3 (k0_off1 i k) _ (k0_off1_inb i k) (k0_off1_eq i k) shapeCasts_S256x1024_S256x1024 t c (row (tile k.val) t) (by show 256 * (tile k.val).val + t.val = _; omega)).trans (congrFun hk0 _)
  have hv := fun (b : Fin 1024) (t : Fin 256) => (load_slab_cast 16 1024 256 1024 arg4.view X_arg4 (k0_off2 i k) _ 0 (k0_off2_inb i k) (k0_off2_eq i k) shapeCasts_S1x1024x256_S1024x256 b t (tile k.val) b hj (Nat.zero_add _).symm).trans (congrFun hv0 _)
  refine slab_cons 128 7 arg8.view f_arg8 _ _ _ h c r _ (fun e => headAcc_apply B false h (tile k.val) 896 (by omega) _ _ _ _ _ _ _ c r (fun t => score_vec B h (tile k.val) 896 (by omega) _ _ hk hq _ _ t r) (slab_load 8 7 arg7.view f_arg7 _ h e 0 r) (slab_load 128 7 arg8.view f_arg8 _ h e c r) hv) (fun n7 => ?_)
  refine slab_cons 128 6 arg8.view f_arg8 _ _ _ h c r _ (fun e => headAcc_apply B false h (tile k.val) 768 (by omega) _ _ _ _ _ _ _ c r (fun t => score_vec B h (tile k.val) 768 (by omega) _ _ hk hq _ _ t r) (slab_load 8 6 arg7.view f_arg7 _ h e 0 r) (slab_load 128 6 arg8.view f_arg8 _ h e c r) hv) (fun n6 => ?_)
  refine slab_cons 128 5 arg8.view f_arg8 _ _ _ h c r _ (fun e => headAcc_apply B false h (tile k.val) 640 (by omega) _ _ _ _ _ _ _ c r (fun t => score_vec B h (tile k.val) 640 (by omega) _ _ hk hq _ _ t r) (slab_load 8 5 arg7.view f_arg7 _ h e 0 r) (slab_load 128 5 arg8.view f_arg8 _ h e c r) hv) (fun n5 => ?_)
  refine slab_cons 128 4 arg8.view f_arg8 _ _ _ h c r _ (fun e => headAcc_apply B false h (tile k.val) 512 (by omega) _ _ _ _ _ _ _ c r (fun t => score_vec B h (tile k.val) 512 (by omega) _ _ hk hq _ _ t r) (slab_load 8 4 arg7.view f_arg7 _ h e 0 r) (slab_load 128 4 arg8.view f_arg8 _ h e c r) hv) (fun n4 => ?_)
  refine slab_cons 128 3 arg8.view f_arg8 _ _ _ h c r _ (fun e => headAcc_apply B false h (tile k.val) 384 (by omega) _ _ _ _ _ _ _ c r (fun t => score_vec B h (tile k.val) 384 (by omega) _ _ hk hq _ _ t r) (slab_load 8 3 arg7.view f_arg7 _ h e 0 r) (slab_load 128 3 arg8.view f_arg8 _ h e c r) hv) (fun n3 => ?_)
  refine slab_cons 128 2 arg8.view f_arg8 _ _ _ h c r _ (fun e => headAcc_apply B false h (tile k.val) 256 (by omega) _ _ _ _ _ _ _ c r (fun t => score_vec B h (tile k.val) 256 (by omega) _ _ hk hq _ _ t r) (slab_load 8 2 arg7.view f_arg7 _ h e 0 r) (slab_load 128 2 arg8.view f_arg8 _ h e c r) hv) (fun n2 => ?_)
  refine slab_cons 128 1 arg8.view f_arg8 _ _ _ h c r _ (fun e => headAcc_apply B false h (tile k.val) 128 (by omega) _ _ _ _ _ _ _ c r (fun t => score_vec B h (tile k.val) 128 (by omega) _ _ hk hq _ _ t r) (slab_load 8 1 arg7.view f_arg7 _ h e 0 r) (slab_load 128 1 arg8.view f_arg8 _ h e c r) hv) (fun n1 => ?_)
  refine slab_cons 128 0 arg8.view f_arg8 _ _ _ h c r _ (fun e => headAcc_apply B false h (tile k.val) 0 (by omega) _ _ _ _ _ _ _ c r (fun t => score_vec B h (tile k.val) 0 (by omega) _ _ hk hq _ _ t r) (slab_load 8 0 arg7.view f_arg7 _ h e 0 r) (slab_load 128 0 arg8.view f_arg8 _ h e c r) hv) (fun n0 => ?_)
  exact absurd h.isLt (by omega)

end Cert.ForwardIdeal.Attn

end
-- ==== Proof.FwdLoop.lean ====
/-
  THE LOOP OVER THE EARLIER KEY TILES: after `n` trips the buffers hold the greatest scores and the sums of `n` tiles.
-/
module

public import proofs.«01_k».proof.Proof.FwdTrip

@[expose] public section

set_option maxRecDepth 16384

noncomputable section

namespace Cert.ForwardIdeal.Attn

open Idealize.ShloMosaic Idealize.ShloMosaic.ValueIdx Idealize.ShloMosaic.TcCoe Idealize.ShloMosaic.Tactic
open Cert.ForwardIdeal Cert.ForwardIdeal.Gen
open Cert.KernelIdeal.AttnGrad (tile)
open scoped BigOperators

set_option maxHeartbeats 1000000 in
theorem loop_top (𝒱 : Variants) (d : Dev nD) (bd : Option 𝒱.V) (i : grid0.Coords) (arg2 : Memref sig .tc .vmem S256x1024 .bf16) (harg2 : arg2.IsWhole) (arg3 : Memref sig .tc .vmem S4096x1024 .bf16) (harg3 : arg3.IsWhole) (arg4 : Memref sig .tc .vmem S16x1024x256 .bf16) (harg4 : arg4.IsWhole) (arg5 : Memref sig .tc .vmem S256x512 .f32) (harg5 : arg5.IsWhole) (arg6 : Memref sig .tc .vmem S1x64x256 .f32) (harg6 : arg6.IsWhole) (arg7 : Memref sig .tc .vmem S8x8x256 .f32) (harg7 : arg7.IsWhole) (arg8 : Memref sig .tc .vmem S8x128x256 .f32) (harg8 : arg8.IsWhole) (v8 : Vec Ideal S256x1024 .bf16) (X_arg3 : BufTy.Contents (Elt Ideal) arg3.view.ty) (X_arg4 : BufTy.Contents (Elt Ideal) arg4.view.ty)
    (B : Blocks) (hq0 : ∀ r c, v8 (ix2 r c) = B.q (ix2 r c)) (hk0 : arg3.view.read (Elt Ideal) X_arg3 = B.k) (hv0 : arg4.view.read (Elt Ideal) X_arg4 = B.vt)
    (G7 : BufTy.Contents (Elt Ideal) arg7.view.ty) (G8 : BufTy.Contents (Elt Ideal) arg8.view.ty)
    (h7 : ∀ h s r, arg7.view.read (Elt Ideal) G7 (ix3 h s r) = (⊥ : EReal))
    (h s : Fin 8) (r : Fin 256) (n : ℕ) (hn : n ≤ (k0_t1_loop i).trips) :
    arg7.view.read (Elt Ideal) (arg7.view.writes (Elt Ideal) G7 (pb_k0_t1 (F := Ideal) 𝒱 d bd i arg2 harg2 arg3 harg3 arg4 harg4 arg5 harg5 arg6 harg6 arg7 harg7 arg8 harg8 v8 X_arg3 X_arg4 G7 G8 n).1) (ix3 h s r) = B.mAt h r n := by
  induction n with
  | zero => exact h7 h s r
  | succ n ih =>
    rw [pb_k0_t1_succ 𝒱 d bd i arg2 harg2 arg3 harg3 arg4 harg4 arg5 harg5 arg6 harg6 arg7 harg7 arg8 harg8 v8 X_arg3 X_arg4 G7 G8 ⟨n, hn⟩, View.writes_append,
      trip_top 𝒱 d bd i arg2 harg2 arg3 harg3 arg4 harg4 arg5 harg5 arg6 harg6 arg7 harg7 arg8 harg8 v8 X_arg3 X_arg4 B hq0 hk0 hv0 ⟨n, hn⟩ _ _ h s r, ih (Nat.le_of_succ_le hn)]
    rfl

set_option maxHeartbeats 1000000 in
theorem loop_acc (𝒱 : Variants) (d : Dev nD) (bd : Option 𝒱.V) (i : grid0.Coords) (arg2 : Memref sig .tc .vmem S256x1024 .bf16) (harg2 : arg2.IsWhole) (arg3 : Memref sig .tc .vmem S4096x1024 .bf16) (harg3 : arg3.IsWhole) (arg4 : Memref sig .tc .vmem S16x1024x256 .bf16) (harg4 : arg4.IsWhole) (arg5 : Memref sig .tc .vmem S256x512 .f32) (harg5 : arg5.IsWhole) (arg6 : Memref sig .tc .vmem S1x64x256 .f32) (harg6 : arg6.IsWhole) (arg7 : Memref sig .tc .vmem S8x8x256 .f32) (harg7 : arg7.IsWhole) (arg8 : Memref sig .tc .vmem S8x128x256 .f32) (harg8 : arg8.IsWhole) (v8 : Vec Ideal S256x1024 .bf16) (X_arg3 : BufTy.Contents (Elt Ideal) arg3.view.ty) (X_arg4 : BufTy.Contents (Elt Ideal) arg4.view.ty)
    (B : Blocks) (hq0 : ∀ r c, v8 (ix2 r c) = B.q (ix2 r c)) (hk0 : arg3.view.read (Elt Ideal) X_arg3 = B.k) (hv0 : arg4.view.read (Elt Ideal) X_arg4 = B.vt)
    (G7 : BufTy.Contents (Elt Ideal) arg7.view.ty) (G8 : BufTy.Contents (Elt Ideal) arg8.view.ty)
    (h7 : ∀ h s r, arg7.view.read (Elt Ideal) G7 (ix3 h s r) = (⊥ : EReal))
    (h8 : ∀ h c r, arg8.view.read (Elt Ideal) G8 (ix3 h c r) = (0 : EReal))
    (h : Fin 8) (c : Fin 128) (r : Fin 256) (n : ℕ) (hn : n ≤ (k0_t1_loop i).trips) :
    arg8.view.read (Elt Ideal) (arg8.view.writes (Elt Ideal) G8 (pb_k0_t1 (F := Ideal) 𝒱 d bd i arg2 harg2 arg3 harg3 arg4 harg4 arg5 harg5 arg6 harg6 arg7 harg7 arg8 harg8 v8 X_arg3 X_arg4 G7 G8 n).2) (ix3 h c r) = B.accAt h c r n := by
  induction n with
  | zero => exact h8 h c r
  | succ n ih =>
    rw [pb_k0_t1_succ 𝒱 d bd i arg2 harg2 arg3 harg3 arg4 harg4 arg5 harg5 arg6 harg6 arg7 harg7 arg8 harg8 v8 X_arg3 X_arg4 G7 G8 ⟨n, hn⟩, View.writes_append,
      trip_acc 𝒱 d bd i arg2 harg2 arg3 harg3 arg4 harg4 arg5 harg5 arg6 harg6 arg7 harg7 arg8 harg8 v8 X_arg3 X_arg4 B hq0 hk0 hv0 ⟨n, hn⟩ _ _ h c r, ih (Nat.le_of_succ_le hn),
      loop_top 𝒱 d bd i arg2 harg2 arg3 harg3 arg4 harg4 arg5 harg5 arg6 harg6 arg7 harg7 arg8 harg8 v8 X_arg3 X_arg4 B hq0 hk0 hv0 G7 G8 h7 h 0 r n (Nat.le_of_succ_le hn)]
    rfl

theorem no_more_trips (i : grid0.Coords) : Scf.trips (k0_t2_loop i).lb (k0_t2_loop i).ub (k0_t2_loop i).st = 0 :=
  Nat.le_zero.mp (k0_t2_abs i).2.1

end Cert.ForwardIdeal.Attn

end
-- ==== Proof.FwdDiag.lean ====
/-
  THE BUFFERS AT THE END OF A GRID POINT: filled, then the loop over the earlier key tiles, then the diagonal step, one
  head after the other. (The loop is printed in two pieces; the second one makes no trip.)
-/
module

public import proofs.«01_k».proof.Proof.FwdLoop
public import proofs.«01_k».proof.Proof.Gen.ForwardIdeal.Frame

@[expose] public section

set_option maxRecDepth 16384

noncomputable section

namespace Cert.ForwardIdeal.Attn

open Idealize.ShloMosaic Idealize.ShloMosaic.ValueIdx Idealize.ShloMosaic.TcCoe Idealize.ShloMosaic.Tactic
open Cert.ForwardIdeal Cert.ForwardIdeal.Gen
open Cert.KernelIdeal.AttnGrad (row iota_rows iota_cols chunkWord load_rows load_rows_cast load_slab_cast)
open scoped BigOperators

/-- The blocks of a grid point, from its three input blocks. -/
def blocks (x0 : S256x1024.Idx → EReal) (x1 : S4096x1024.Idx → EReal) (x2 : S16x1024x256.Idx → EReal) : Blocks := ⟨x0, x1, x2⟩

theorem neg_bot : (Named.named κ "neg" 0xF149F2CA#32 : Ideal .f32) = (⊥ : EReal) := rfl

/-- The stores `L` leave the greatest scores of the first `n` heads with the diagonal step done. -/
def TopAt (v : View sig .tc .vmem S8x8x256 .f32) (B : Blocks) (j : Fin 16) (L : List (View.Piece (Elt Ideal) S8x8x256 .f32)) (n : ℕ) : Prop :=
  ∀ (h s : Fin 8) (r : Fin 256), v.read (Elt Ideal) (v.writes (Elt Ideal) v.junk L) (ix3 h s r)
    = if h.val < n then B.mEnd j h r else B.mAt h r j.val

/-- The stores `L` leave the sums of the first `n` heads with the diagonal step done. -/
def AccAt (v : View sig .tc .vmem S8x128x256 .f32) (B : Blocks) (j : Fin 16) (L : List (View.Piece (Elt Ideal) S8x128x256 .f32)) (n : ℕ) : Prop :=
  ∀ (h : Fin 8) (a : Fin 128) (r : Fin 256), v.read (Elt Ideal) (v.writes (Elt Ideal) v.junk L) (ix3 h a r)
    = if h.val < n then B.accEnd j h a r else B.accAt h a r j.val

section Steps
variable (v7 : View sig .tc .vmem S8x8x256 .f32) (v8 : View sig .tc .vmem S8x128x256 .f32) (B : Blocks) (j : Fin 16)

theorem top_cons (L) (n : ℕ) (inb) (w : S1x8x256.Idx → EReal) (h : Fin 8) (hn : h.val = n) (hL : TopAt v7 B j L n)
    (hw : ∀ s r, w (ix3 (0 : Fin 1) s r) = B.mEnd j h r) :
    TopAt v7 B j (⟨Rect.unit (s := S8x8x256) ![n, 0, 0] ![1, 8, 256] inb, w⟩ :: L) (n + 1) := fun h' s r =>
  slab_cons 8 n v7 v7.junk L inb w h' s r _
    (fun e => by
      obtain rfl : h' = h := Fin.ext (e.trans hn.symm)
      rw [if_pos (by omega)]
      exact hw s r)
    (fun e => (hL h' s r).trans (if_congr (by omega) rfl rfl))

theorem acc_cons (L) (n : ℕ) (inb) (w : S1x128x256.Idx → EReal) (h : Fin 8) (hn : h.val = n) (hL : AccAt v8 B j L n)
    (hw : ∀ a r, w (ix3 (0 : Fin 1) a r) = B.accEnd j h a r) :
    AccAt v8 B j (⟨Rect.unit (s := S8x128x256) ![n, 0, 0] ![1, 128, 256] inb, w⟩ :: L) (n + 1) := fun h' a r =>
  slab_cons 128 n v8 v8.junk L inb w h' a r _
    (fun e => by
      obtain rfl : h' = h := Fin.ext (e.trans hn.symm)
      rw [if_pos (by omega)]
      exact hw a r)
    (fun e => (hL h' a r).trans (if_congr (by omega) rfl rfl))

theorem top_load (L) (n n' : ℕ) (inb) (h : Fin 8) (hn : h.val = n) (hL : TopAt v7 B j L n') (s : Fin 8) (r : Fin 256) :
    v7.readCov L (Rect.unit (s := S8x8x256) ![n, 0, 0] ![1, 8, 256] inb).toLoadRect (ix3 (0 : Fin 1) s r)
      = if h.val < n' then B.mEnd j h r else B.mAt h r j.val :=
  (slab_load 8 n v7 (v7.writes (Elt Ideal) v7.junk L) inb h hn s r).trans (hL h s r)

theorem acc_load (L) (n n' : ℕ) (inb) (h : Fin 8) (hn : h.val = n) (hL : AccAt v8 B j L n') (a : Fin 128) (r : Fin 256) :
    v8.readCov L (Rect.unit (s := S8x128x256) ![n, 0, 0] ![1, 128, 256] inb).toLoadRect (ix3 (0 : Fin 1) a r)
      = if h.val < n' then B.accEnd j h a r else B.accAt h a r j.val :=
  (slab_load 128 n v8 (v8.writes (Elt Ideal) v8.junk L) inb h hn a r).trans (hL h a r)

end Steps

set_option maxHeartbeats 4000000 in
theorem run_stacks (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S16x1024x256 .bf16) (harg4 : arg4.IsWhole) (arg5 : Memref sig .tc .vmem S256x512 .f32) (harg5 : arg5.IsWhole) (arg6 : Memref sig .tc .vmem S1x64x256 .f32) (harg6 : arg6.IsWhole) (arg7 : Memref sig .tc .vmem S8x8x256 .f32) (harg7 : arg7.IsWhole) (arg8 : Memref sig .tc .vmem S8x128x256 .f32) (harg8 : arg8.IsWhole)
    (x0 : Vec Ideal S256x1024 .bf16) (x1 : Vec Ideal S4096x1024 .bf16) (x2 : Vec Ideal S16x1024x256 .bf16)
    (j : Fin 16) (hj : (i 1).val = j.val) :
    TopAt arg7.view (blocks x0 x1 x2) j (kernelRun0_A.sl.HS0_8 (F := Ideal) c i arg2 harg2 arg3 harg3 arg4 harg4 arg5 harg5 arg6 harg6 arg7 harg7 arg8 harg8 x0 x1 x2) 8
      ∧ AccAt arg8.view (blocks x0 x1 x2) j (kernelRun0_A.sl.HS1_8 (F := Ideal) c i arg2 harg2 arg3 harg3 arg4 harg4 arg5 harg5 arg6 harg6 arg7 harg7 arg8 harg8 x0 x1 x2) 8 := by
  have hrow : ∀ r : Fin 256, (row j r).val = 256 * (i 1).val + r.val := fun r => by rw [hj]; rfl
  have h6 := (k0_off6_eq i).trans (congrArg (fun n => ![n, 0, 0]) hj)
  have hq0 := fun (r : Fin 256) (a : Fin 1024) => (load_rows 256 1024 ![256, 1024] arg2.view (harg2.unread x0) ![0, 0] 0 0 inb_S256x1024_S256x1024_0_0 rfl (ix2 r a) r a (Nat.zero_add _).symm (Nat.zero_add _).symm).trans (congrFun (harg2.read_unread x0) _)
  have hq := fun (r : Fin 256) (a : Fin 1024) => (load_rows_cast 256 1024 256 arg2.view (harg2.unread x0) ![0, 0] 0 inb_S256x1024_S256x1024_0_0 rfl shapeCasts_S256x1024_S256x1024 r a r (Nat.zero_add _).symm).trans (congrFun (harg2.read_unread x0) _)
  have hk := fun (t : Fin 256) (a : Fin 1024) => (load_rows_cast 4096 1024 256 arg3.view (harg3.unread x1) (k0_off5 i) _ (k0_off5_inb i) (k0_off5_eq i) shapeCasts_S256x1024_S256x1024 t a (row j t) (hrow t)).trans (congrFun (harg3.read_unread x1) _)
  have hv := fun (b : Fin 1024) (t : Fin 256) => (load_slab_cast 16 1024 256 1024 arg4.view (harg4.unread x2) (k0_off6 i) _ 0 (k0_off6_inb i) h6 shapeCasts_S1x1024x256_S1024x256 b t j b rfl (Nat.zero_add _).symm).trans (congrFun (harg4.read_unread x2) _)
  have hkc := fun (t r : Fin 256) => congrArg chunkWord (iota_rows iota_S256x256_d0_w32 t r)
  have hqc := fun (t r : Fin 256) => congrArg chunkWord (iota_cols iota_S256x256_d1_w32 t r)
  have fill7 : ∀ h s r, arg7.view.read (Elt Ideal) (arg7.view.writes (Elt Ideal) arg7.view.junk (kernelRun0_A.sl.HS0_1 (F := Ideal))) (ix3 h s r) = (⊥ : EReal) := fun h s r =>
    (slabs_whole 8 arg7.view arg7.view.junk [] _ _ (ix3 h s r)).trans (by
      unfold k0_pay125
      rw [shapeCast_self]
      exact neg_bot)
  have fill8 : ∀ h a r, arg8.view.read (Elt Ideal) (arg8.view.writes (Elt Ideal) arg8.view.junk (kernelRun0_A.sl.HS1_1 (F := Ideal))) (ix3 h a r) = (0 : EReal) := fun h a r =>
    (slabs_whole 128 arg8.view arg8.view.junk [] _ _ (ix3 h a r)).trans (by
      unfold k0_pay126
      rw [shapeCast_self]
      exact Cert.AttnGrad.zero_word)
  have base7 : ∀ (v14 : BitVec 32) (H7 : BufTy.Contents (Elt Ideal) arg7.view.ty) (H8 : BufTy.Contents (Elt Ideal) arg8.view.ty),
      TopAt arg7.view (blocks x0 x1 x2) j ((pb_k0_t2 (F := Ideal) Variants.none c none i arg2 harg2 arg3 harg3 arg4 harg4 arg5 harg5 arg6 harg6 arg7 harg7 arg8 harg8 (View.readAt (Elt Ideal) arg2.view (Rect.unit ![0, 0] S256x1024.size inb_S256x1024_S256x1024_0_0).toLoadRect (harg2.unread x0)) v14 (harg3.unread x1) (harg4.unread x2) H7 H8 (Scf.trips (k0_t2_loop i).lb (k0_t2_loop i).ub (k0_t2_loop i).st)).1 ++ ((pb_k0_t1 (F := Ideal) Variants.none c none i arg2 harg2 arg3 harg3 arg4 harg4 arg5 harg5 arg6 harg6 arg7 harg7 arg8 harg8 (View.readAt (Elt Ideal) arg2.view (Rect.unit ![0, 0] S256x1024.size inb_S256x1024_S256x1024_0_0).toLoadRect (harg2.unread x0)) (harg3.unread x1) (harg4.unread x2) (arg7.view.writes (Elt Ideal) arg7.view.junk (kernelRun0_A.sl.HS0_1 (F := Ideal))) (arg8.view.writes (Elt Ideal) arg8.view.junk (kernelRun0_A.sl.HS1_1 (F := Ideal))) (Scf.trips (k0_t1_loop i).lb (k0_t1_loop i).ub (k0_t1_loop i).st)).1 ++ (kernelRun0_A.sl.HS0_1 (F := Ideal)))) 0 := fun v14 H7 H8 h s r => by
    rw [no_more_trips]
    show arg7.view.read (Elt Ideal) (arg7.view.writes (Elt Ideal) arg7.view.junk ((pb_k0_t1 (F := Ideal) Variants.none c none i arg2 harg2 arg3 harg3 arg4 harg4 arg5 harg5 arg6 harg6 arg7 harg7 arg8 harg8 (View.readAt (Elt Ideal) arg2.view (Rect.unit ![0, 0] S256x1024.size inb_S256x1024_S256x1024_0_0).toLoadRect (harg2.unread x0)) (harg3.unread x1) (harg4.unread x2) (arg7.view.writes (Elt Ideal) arg7.view.junk (kernelRun0_A.sl.HS0_1 (F := Ideal))) (arg8.view.writes (Elt Ideal) arg8.view.junk (kernelRun0_A.sl.HS1_1 (F := Ideal))) (Scf.trips (k0_t1_loop i).lb (k0_t1_loop i).ub (k0_t1_loop i).st)).1 ++ (kernelRun0_A.sl.HS0_1 (F := Ideal)))) (ix3 h s r) = _
    rw [View.writes_append]
    refine (loop_top Variants.none c none i arg2 harg2 arg3 harg3 arg4 harg4 arg5 harg5 arg6 harg6 arg7 harg7 arg8 harg8 (View.readAt (Elt Ideal) arg2.view (Rect.unit ![0, 0] S256x1024.size inb_S256x1024_S256x1024_0_0).toLoadRect (harg2.unread x0)) (harg3.unread x1) (harg4.unread x2) (blocks x0 x1 x2) hq0 (harg3.read_unread x1) (harg4.read_unread x2) (arg7.view.writes (Elt Ideal) arg7.view.junk (kernelRun0_A.sl.HS0_1 (F := Ideal))) (arg8.view.writes (Elt Ideal) arg8.view.junk (kernelRun0_A.sl.HS1_1 (F := Ideal))) fill7 h s r _ le_rfl).trans ?_
    rw [trips_eq, hj]
    rfl
  have base8 : ∀ (v14 : BitVec 32) (H7 : BufTy.Contents (Elt Ideal) arg7.view.ty) (H8 : BufTy.Contents (Elt Ideal) arg8.view.ty),
      AccAt arg8.view (blocks x0 x1 x2) j ((pb_k0_t2 (F := Ideal) Variants.none c none i arg2 harg2 arg3 harg3 arg4 harg4 arg5 harg5 arg6 harg6 arg7 harg7 arg8 harg8 (View.readAt (Elt Ideal) arg2.view (Rect.unit ![0, 0] S256x1024.size inb_S256x1024_S256x1024_0_0).toLoadRect (harg2.unread x0)) v14 (harg3.unread x1) (harg4.unread x2) H7 H8 (Scf.trips (k0_t2_loop i).lb (k0_t2_loop i).ub (k0_t2_loop i).st)).2 ++ ((pb_k0_t1 (F := Ideal) Variants.none c none i arg2 harg2 arg3 harg3 arg4 harg4 arg5 harg5 arg6 harg6 arg7 harg7 arg8 harg8 (View.readAt (Elt Ideal) arg2.view (Rect.unit ![0, 0] S256x1024.size inb_S256x1024_S256x1024_0_0).toLoadRect (harg2.unread x0)) (harg3.unread x1) (harg4.unread x2) (arg7.view.writes (Elt Ideal) arg7.view.junk (kernelRun0_A.sl.HS0_1 (F := Ideal))) (arg8.view.writes (Elt Ideal) arg8.view.junk (kernelRun0_A.sl.HS1_1 (F := Ideal))) (Scf.trips (k0_t1_loop i).lb (k0_t1_loop i).ub (k0_t1_loop i).st)).2 ++ (kernelRun0_A.sl.HS1_1 (F := Ideal)))) 0 := fun v14 H7 H8 h a r => by
    rw [no_more_trips]
    show arg8.view.read (Elt Ideal) (arg8.view.writes (Elt Ideal) arg8.view.junk ((pb_k0_t1 (F := Ideal) Variants.none c none i arg2 harg2 arg3 harg3 arg4 harg4 arg5 harg5 arg6 harg6 arg7 harg7 arg8 harg8 (View.readAt (Elt Ideal) arg2.view (Rect.unit ![0, 0] S256x1024.size inb_S256x1024_S256x1024_0_0).toLoadRect (harg2.unread x0)) (harg3.unread x1) (harg4.unread x2) (arg7.view.writes (Elt Ideal) arg7.view.junk (kernelRun0_A.sl.HS0_1 (F := Ideal))) (arg8.view.writes (Elt Ideal) arg8.view.junk (kernelRun0_A.sl.HS1_1 (F := Ideal))) (Scf.trips (k0_t1_loop i).lb (k0_t1_loop i).ub (k0_t1_loop i).st)).2 ++ (kernelRun0_A.sl.HS1_1 (F := Ideal)))) (ix3 h a r) = _
    rw [View.writes_append]
    refine (loop_acc Variants.none c none i arg2 harg2 arg3 harg3 arg4 harg4 arg5 harg5 arg6 harg6 arg7 harg7 arg8 harg8 (View.readAt (Elt Ideal) arg2.view (Rect.unit ![0, 0] S256x1024.size inb_S256x1024_S256x1024_0_0).toLoadRect (harg2.unread x0)) (harg3.unread x1) (harg4.unread x2) (blocks x0 x1 x2) hq0 (harg3.read_unread x1) (harg4.read_unread x2) (arg7.view.writes (Elt Ideal) arg7.view.junk (kernelRun0_A.sl.HS0_1 (F := Ideal))) (arg8.view.writes (Elt Ideal) arg8.view.junk (kernelRun0_A.sl.HS1_1 (F := Ideal))) fill7 fill8 h a r _ le_rfl).trans ?_
    rw [trips_eq, hj]
    rfl
  have s0 : ∀ t r : Fin 256, (k0_pay147 (F := Ideal) (kernelRun0_A.sl.r_3 (F := Ideal) c i arg2 harg2 arg3 harg3 x0 x1) k0_pay144 (kernelRun0_A.sl.v72) 64#32 k0_pay145 k0_pay146) (ix2 t r) = (blocks x0 x1 x2).score true 0 j t r := fun t r =>
    score_masked (blocks x0 x1 x2) 0 j _ _ _ _ t r (hkc t r) (hqc t r) neg_bot (score_vec (blocks x0 x1 x2) 0 j 0 rfl _ _ hk hq _ _ t r)
  have m0 : ∀ (s : Fin 8) (r : Fin 256), (kernelRun0_A.sl.v100 (F := Ideal) c i arg2 harg2 arg3 harg3 arg4 harg4 arg5 harg5 arg6 harg6 arg7 harg7 arg8 harg8 x0 x1 x2) (ix3 (0 : Fin 1) s r) = (blocks x0 x1 x2).mAt 0 r j.val := fun s r =>
    top_load arg7.view (blocks x0 x1 x2) j _ 0 0 _ 0 rfl (base7 _ _ _) s r
  have t0 : TopAt arg7.view (blocks x0 x1 x2) j (kernelRun0_A.sl.HS0_1_1 (F := Ideal) c i arg2 harg2 arg3 harg3 arg4 harg4 arg5 harg5 arg6 harg6 arg7 harg7 arg8 harg8 x0 x1 x2) 1 :=
    top_cons arg7.view (blocks x0 x1 x2) j _ 0 _ _ 0 rfl (base7 _ _ _) (fun s r => headMax_store (blocks x0 x1 x2) true 0 j (k0_pay147 (F := Ideal) (kernelRun0_A.sl.r_3 (F := Ideal) c i arg2 harg2 arg3 harg3 x0 x1) k0_pay144 (kernelRun0_A.sl.v72) 64#32 k0_pay145 k0_pay146) (kernelRun0_A.sl.v100 (F := Ideal) c i arg2 harg2 arg3 harg3 arg4 harg4 arg5 harg5 arg6 harg6 arg7 harg7 arg8 harg8 x0 x1 x2) _ s r (fun t => s0 t r) (m0 s r))
  have s1 : ∀ t r : Fin 256, (k0_pay158 (F := Ideal) (kernelRun0_A.sl.r_4 (F := Ideal) c i arg2 harg2 arg3 harg3 x0 x1) (kernelRun0_A.sl.r_13) k0_pay155 k0_pay156 k0_pay157) (ix2 t r) = (blocks x0 x1 x2).score true 1 j t r := fun t r =>
    score_masked (blocks x0 x1 x2) 1 j _ _ _ _ t r (hkc t r) (hqc t r) neg_bot (score_vec (blocks x0 x1 x2) 1 j 128 rfl _ _ hk hq _ _ t r)
  have m1 : ∀ (s : Fin 8) (r : Fin 256), (kernelRun0_A.sl.v173 (F := Ideal) c i arg2 harg2 arg3 harg3 arg4 harg4 arg5 harg5 arg6 harg6 arg7 harg7 arg8 harg8 x0 x1 x2) (ix3 (0 : Fin 1) s r) = (blocks x0 x1 x2).mAt 1 r j.val := fun s r =>
    top_load arg7.view (blocks x0 x1 x2) j _ 1 1 _ 1 rfl t0 s r
  have t1 : TopAt arg7.view (blocks x0 x1 x2) j (kernelRun0_A.sl.HS0_2 (F := Ideal) c i arg2 harg2 arg3 harg3 arg4 harg4 arg5 harg5 arg6 harg6 arg7 harg7 arg8 harg8 x0 x1 x2) 2 :=
    top_cons arg7.view (blocks x0 x1 x2) j _ 1 _ _ 1 rfl t0 (fun s r => headMax_store (blocks x0 x1 x2) true 1 j (k0_pay158 (F := Ideal) (kernelRun0_A.sl.r_4 (F := Ideal) c i arg2 harg2 arg3 harg3 x0 x1) (kernelRun0_A.sl.r_13) k0_pay155 k0_pay156 k0_pay157) (kernelRun0_A.sl.v173 (F := Ideal) c i arg2 harg2 arg3 harg3 arg4 harg4 arg5 harg5 arg6 harg6 arg7 harg7 arg8 harg8 x0 x1 x2) _ s r (fun t => s1 t r) (m1 s r))
  have s2 : ∀ t r : Fin 256, (k0_pay168 (F := Ideal) (kernelRun0_A.sl.r_5 (F := Ideal) c i arg2 harg2 arg3 harg3 x0 x1) k0_pay164 k0_pay165 k0_pay166 k0_pay167) (ix2 t r) = (blocks x0 x1 x2).score true 2 j t r := fun t r =>
    score_masked (blocks x0 x1 x2) 2 j _ _ _ _ t r (hkc t r) (hqc t r) neg_bot (score_vec (blocks x0 x1 x2) 2 j 256 rfl _ _ hk hq _ _ t r)
  have m2 : ∀ (s : Fin 8) (r : Fin 256), (kernelRun0_A.sl.v246 (F := Ideal) c i arg2 harg2 arg3 harg3 arg4 harg4 arg5 harg5 arg6 harg6 arg7 harg7 arg8 harg8 x0 x1 x2) (ix3 (0 : Fin 1) s r) = (blocks x0 x1 x2).mAt 2 r j.val := fun s r =>
    top_load arg7.view (blocks x0 x1 x2) j _ 2 2 _ 2 rfl t1 s r
  have t2 : TopAt arg7.view (blocks x0 x1 x2) j (kernelRun0_A.sl.HS0_3 (F := Ideal) c i arg2 harg2 arg3 harg3 arg4 harg4 arg5 harg5 arg6 harg6 arg7 harg7 arg8 harg8 x0 x1 x2) 3 :=
    top_cons arg7.view (blocks x0 x1 x2) j _ 2 _ _ 2 rfl t1 (fun s r => headMax_store (blocks x0 x1 x2) true 2 j (k0_pay168 (F := Ideal) (kernelRun0_A.sl.r_5 (F := Ideal) c i arg2 harg2 arg3 harg3 x0 x1) k0_pay164 k0_pay165 k0_pay166 k0_pay167) (kernelRun0_A.sl.v246 (F := Ideal) c i arg2 harg2 arg3 harg3 arg4 harg4 arg5 harg5 arg6 harg6 arg7 harg7 arg8 harg8 x0 x1 x2) _ s r (fun t => s2 t r) (m2 s r))
  have s3 : ∀ t r : Fin 256, (k0_pay178 (F := Ideal) (kernelRun0_A.sl.r_6 (F := Ideal) c i arg2 harg2 arg3 harg3 x0 x1) k0_pay175 (kernelRun0_A.sl.v72) 64#32 k0_pay176 k0_pay177 1#32 0#32) (ix2 t r) = (blocks x0 x1 x2).score true 3 j t r := fun t r =>
    score_masked (blocks x0 x1 x2) 3 j _ _ _ _ t r (hkc t r) (hqc t r) neg_bot (score_vec (blocks x0 x1 x2) 3 j 384 rfl _ _ hk hq _ _ t r)
  have m3 : ∀ (s : Fin 8) (r : Fin 256), (kernelRun0_A.sl.v319 (F := Ideal) c i arg2 harg2 arg3 harg3 arg4 harg4 arg5 harg5 arg6 harg6 arg7 harg7 arg8 harg8 x0 x1 x2) (ix3 (0 : Fin 1) s r) = (blocks x0 x1 x2).mAt 3 r j.val := fun s r =>
    top_load arg7.view (blocks x0 x1 x2) j _ 3 3 _ 3 rfl t2 s r
  have t3 : TopAt arg7.view (blocks x0 x1 x2) j (kernelRun0_A.sl.HS0_4 (F := Ideal) c i arg2 harg2 arg3 harg3 arg4 harg4 arg5 harg5 arg6 harg6 arg7 harg7 arg8 harg8 x0 x1 x2) 4 :=
    top_cons arg7.view (blocks x0 x1 x2) j _ 3 _ _ 3 rfl t2 (fun s r => headMax_store (blocks x0 x1 x2) true 3 j (k0_pay178 (F := Ideal) (kernelRun0_A.sl.r_6 (F := Ideal) c i arg2 harg2 arg3 harg3 x0 x1) k0_pay175 (kernelRun0_A.sl.v72) 64#32 k0_pay176 k0_pay177 1#32 0#32) (kernelRun0_A.sl.v319 (F := Ideal) c i arg2 harg2 arg3 harg3 arg4 harg4 arg5 harg5 arg6 harg6 arg7 harg7 arg8 harg8 x0 x1 x2) _ s r (fun t => s3 t r) (m3 s r))
  have s4 : ∀ t r : Fin 256, (k0_pay187 (F := Ideal) (kernelRun0_A.sl.r_7 (F := Ideal) c i arg2 harg2 arg3 harg3 x0 x1) (kernelRun0_A.sl.v120) 64#32 k0_pay184 k0_pay185 k0_pay186) (ix2 t r) = (blocks x0 x1 x2).score true 4 j t r := fun t r =>
    score_masked (blocks x0 x1 x2) 4 j _ _ _ _ t r (hkc t r) (hqc t r) neg_bot (score_vec (blocks x0 x1 x2) 4 j 512 rfl _ _ hk hq _ _ t r)
  have m4 : ∀ (s : Fin 8) (r : Fin 256), (kernelRun0_A.sl.v392 (F := Ideal) c i arg2 harg2 arg3 harg3 arg4 harg4 arg5 harg5 arg6 harg6 arg7 harg7 arg8 harg8 x0 x1 x2) (ix3 (0 : Fin 1) s r) = (blocks x0 x1 x2).mAt 4 r j.val := fun s r =>
    top_load arg7.view (blocks x0 x1 x2) j _ 4 4 _ 4 rfl t3 s r
  have t4 : TopAt arg7.view (blocks x0 x1 x2) j (kernelRun0_A.sl.HS0_5 (F := Ideal) c i arg2 harg2 arg3 harg3 arg4 harg4 arg5 harg5 arg6 harg6 arg7 harg7 arg8 harg8 x0 x1 x2) 5 :=
    top_cons arg7.view (blocks x0 x1 x2) j _ 4 _ _ 4 rfl t3 (fun s r => headMax_store (blocks x0 x1 x2) true 4 j (k0_pay187 (F := Ideal) (kernelRun0_A.sl.r_7 (F := Ideal) c i arg2 harg2 arg3 harg3 x0 x1) (kernelRun0_A.sl.v120) 64#32 k0_pay184 k0_pay185 k0_pay186) (kernelRun0_A.sl.v392 (F := Ideal) c i arg2 harg2 arg3 harg3 arg4 harg4 arg5 harg5 arg6 harg6 arg7 harg7 arg8 harg8 x0 x1 x2) _ s r (fun t => s4 t r) (m4 s r))
  have s5 : ∀ t r : Fin 256, (k0_pay195 (F := Ideal) (kernelRun0_A.sl.r_8 (F := Ideal) c i arg2 harg2 arg3 harg3 x0 x1) k0_pay193 (kernelRun0_A.sl.v72) 64#32 k0_pay194) (ix2 t r) = (blocks x0 x1 x2).score true 5 j t r := fun t r =>
    score_masked (blocks x0 x1 x2) 5 j _ _ _ _ t r (hkc t r) (hqc t r) neg_bot (score_vec (blocks x0 x1 x2) 5 j 640 rfl _ _ hk hq _ _ t r)
  have m5 : ∀ (s : Fin 8) (r : Fin 256), (kernelRun0_A.sl.v465 (F := Ideal) c i arg2 harg2 arg3 harg3 arg4 harg4 arg5 harg5 arg6 harg6 arg7 harg7 arg8 harg8 x0 x1 x2) (ix3 (0 : Fin 1) s r) = (blocks x0 x1 x2).mAt 5 r j.val := fun s r =>
    top_load arg7.view (blocks x0 x1 x2) j _ 5 5 _ 5 rfl t4 s r
  have t5 : TopAt arg7.view (blocks x0 x1 x2) j (kernelRun0_A.sl.HS0_6 (F := Ideal) c i arg2 harg2 arg3 harg3 arg4 harg4 arg5 harg5 arg6 harg6 arg7 harg7 arg8 harg8 x0 x1 x2) 6 :=
    top_cons arg7.view (blocks x0 x1 x2) j _ 5 _ _ 5 rfl t4 (fun s r => headMax_store (blocks x0 x1 x2) true 5 j (k0_pay195 (F := Ideal) (kernelRun0_A.sl.r_8 (F := Ideal) c i arg2 harg2 arg3 harg3 x0 x1) k0_pay193 (kernelRun0_A.sl.v72) 64#32 k0_pay194) (kernelRun0_A.sl.v465 (F := Ideal) c i arg2 harg2 arg3 harg3 arg4 harg4 arg5 harg5 arg6 harg6 arg7 harg7 arg8 harg8 x0 x1 x2) _ s r (fun t => s5 t r) (m5 s r))
  have s6 : ∀ t r : Fin 256, (k0_pay208 (F := Ideal) (kernelRun0_A.sl.r_9 (F := Ideal) c i arg2 harg2 arg3 harg3 x0 x1) k0_pay203 k0_pay204 k0_pay205 k0_pay206 k0_pay207) (ix2 t r) = (blocks x0 x1 x2).score true 6 j t r := fun t r =>
    score_masked (blocks x0 x1 x2) 6 j _ _ _ _ t r (hkc t r) (hqc t r) neg_bot (score_vec (blocks x0 x1 x2) 6 j 768 rfl _ _ hk hq _ _ t r)
  have m6 : ∀ (s : Fin 8) (r : Fin 256), (kernelRun0_A.sl.v538 (F := Ideal) c i arg2 harg2 arg3 harg3 arg4 harg4 arg5 harg5 arg6 harg6 arg7 harg7 arg8 harg8 x0 x1 x2) (ix3 (0 : Fin 1) s r) = (blocks x0 x1 x2).mAt 6 r j.val := fun s r =>
    top_load arg7.view (blocks x0 x1 x2) j _ 6 6 _ 6 rfl t5 s r
  have t6 : TopAt arg7.view (blocks x0 x1 x2) j (kernelRun0_A.sl.HS0_7 (F := Ideal) c i arg2 harg2 arg3 harg3 arg4 harg4 arg5 harg5 arg6 harg6 arg7 harg7 arg8 harg8 x0 x1 x2) 7 :=
    top_cons arg7.view (blocks x0 x1 x2) j _ 6 _ _ 6 rfl t5 (fun s r => headMax_store (blocks x0 x1 x2) true 6 j (k0_pay208 (F := Ideal) (kernelRun0_A.sl.r_9 (F := Ideal) c i arg2 harg2 arg3 harg3 x0 x1) k0_pay203 k0_pay204 k0_pay205 k0_pay206 k0_pay207) (kernelRun0_A.sl.v538 (F := Ideal) c i arg2 harg2 arg3 harg3 arg4 harg4 arg5 harg5 arg6 harg6 arg7 harg7 arg8 harg8 x0 x1 x2) _ s r (fun t => s6 t r) (m6 s r))
  have s7 : ∀ t r : Fin 256, (k0_pay217 (F := Ideal) (kernelRun0_A.sl.r_10 (F := Ideal) c i arg2 harg2 arg3 harg3 x0 x1) (kernelRun0_A.sl.v120) 64#32 k0_pay214 k0_pay215 k0_pay216) (ix2 t r) = (blocks x0 x1 x2).score true 7 j t r := fun t r =>
    score_masked (blocks x0 x1 x2) 7 j _ _ _ _ t r (hkc t r) (hqc t r) neg_bot (score_vec (blocks x0 x1 x2) 7 j 896 rfl _ _ hk hq _ _ t r)
  have m7 : ∀ (s : Fin 8) (r : Fin 256), (kernelRun0_A.sl.v611 (F := Ideal) c i arg2 harg2 arg3 harg3 arg4 harg4 arg5 harg5 arg6 harg6 arg7 harg7 arg8 harg8 x0 x1 x2) (ix3 (0 : Fin 1) s r) = (blocks x0 x1 x2).mAt 7 r j.val := fun s r =>
    top_load arg7.view (blocks x0 x1 x2) j _ 7 7 _ 7 rfl t6 s r
  have t7 : TopAt arg7.view (blocks x0 x1 x2) j (kernelRun0_A.sl.HS0_8 (F := Ideal) c i arg2 harg2 arg3 harg3 arg4 harg4 arg5 harg5 arg6 harg6 arg7 harg7 arg8 harg8 x0 x1 x2) 8 :=
    top_cons arg7.view (blocks x0 x1 x2) j _ 7 _ _ 7 rfl t6 (fun s r => headMax_store (blocks x0 x1 x2) true 7 j (k0_pay217 (F := Ideal) (kernelRun0_A.sl.r_10 (F := Ideal) c i arg2 harg2 arg3 harg3 x0 x1) (kernelRun0_A.sl.v120) 64#32 k0_pay214 k0_pay215 k0_pay216) (kernelRun0_A.sl.v611 (F := Ideal) c i arg2 harg2 arg3 harg3 arg4 harg4 arg5 harg5 arg6 harg6 arg7 harg7 arg8 harg8 x0 x1 x2) _ s r (fun t => s7 t r) (m7 s r))
  have a0 : AccAt arg8.view (blocks x0 x1 x2) j (kernelRun0_A.sl.HS1_1_1 (F := Ideal) c i arg2 harg2 arg3 harg3 arg4 harg4 arg5 harg5 arg6 harg6 arg7 harg7 arg8 harg8 x0 x1 x2) 1 :=
    acc_cons arg8.view (blocks x0 x1 x2) j _ 0 _ _ 0 rfl (base8 _ _ _) (fun a r => headAcc_apply (blocks x0 x1 x2) true 0 j 0 rfl slices_S1024x256_o0_0_S128x256 (k0_pay147 (F := Ideal) (kernelRun0_A.sl.r_3 (F := Ideal) c i arg2 harg2 arg3 harg3 x0 x1) k0_pay144 (kernelRun0_A.sl.v72) 64#32 k0_pay145 k0_pay146) (kernelRun0_A.sl.r_2 (F := Ideal) i arg4 harg4 x2) (kernelRun0_A.sl.v100 (F := Ideal) c i arg2 harg2 arg3 harg3 arg4 harg4 arg5 harg5 arg6 harg6 arg7 harg7 arg8 harg8 x0 x1 x2) (kernelRun0_A.sl.v631 (F := Ideal) c i arg2 harg2 arg3 harg3 arg4 harg4 arg5 harg5 arg6 harg6 arg7 harg7 arg8 harg8 x0 x1 x2) _ _ a r (fun t => s0 t r) (m0 0 r) (acc_load arg8.view (blocks x0 x1 x2) j _ 0 0 _ 0 rfl (base8 _ _ _) a r) hv)
  have a1 : AccAt arg8.view (blocks x0 x1 x2) j (kernelRun0_A.sl.HS1_2 (F := Ideal) c i arg2 harg2 arg3 harg3 arg4 harg4 arg5 harg5 arg6 harg6 arg7 harg7 arg8 harg8 x0 x1 x2) 2 :=
    acc_cons arg8.view (blocks x0 x1 x2) j _ 1 _ _ 1 rfl a0 (fun a r => headAcc_apply (blocks x0 x1 x2) true 1 j 128 rfl slices_S1024x256_o128_0_S128x256 (k0_pay158 (F := Ideal) (kernelRun0_A.sl.r_4 (F := Ideal) c i arg2 harg2 arg3 harg3 x0 x1) (kernelRun0_A.sl.r_13) k0_pay155 k0_pay156 k0_pay157) (kernelRun0_A.sl.r_2 (F := Ideal) i arg4 harg4 x2) (kernelRun0_A.sl.v173 (F := Ideal) c i arg2 harg2 arg3 harg3 arg4 harg4 arg5 harg5 arg6 harg6 arg7 harg7 arg8 harg8 x0 x1 x2) (kernelRun0_A.sl.v639 (F := Ideal) c i arg2 harg2 arg3 harg3 arg4 harg4 arg5 harg5 arg6 harg6 arg7 harg7 arg8 harg8 x0 x1 x2) _ _ a r (fun t => s1 t r) (m1 0 r) (acc_load arg8.view (blocks x0 x1 x2) j _ 1 1 _ 1 rfl a0 a r) hv)
  have a2 : AccAt arg8.view (blocks x0 x1 x2) j (kernelRun0_A.sl.HS1_3 (F := Ideal) c i arg2 harg2 arg3 harg3 arg4 harg4 arg5 harg5 arg6 harg6 arg7 harg7 arg8 harg8 x0 x1 x2) 3 :=
    acc_cons arg8.view (blocks x0 x1 x2) j _ 2 _ _ 2 rfl a1 (fun a r => headAcc_apply (blocks x0 x1 x2) true 2 j 256 rfl slices_S1024x256_o256_0_S128x256 (k0_pay168 (F := Ideal) (kernelRun0_A.sl.r_5 (F := Ideal) c i arg2 harg2 arg3 harg3 x0 x1) k0_pay164 k0_pay165 k0_pay166 k0_pay167) (kernelRun0_A.sl.r_2 (F := Ideal) i arg4 harg4 x2) (kernelRun0_A.sl.v246 (F := Ideal) c i arg2 harg2 arg3 harg3 arg4 harg4 arg5 harg5 arg6 harg6 arg7 harg7 arg8 harg8 x0 x1 x2) (kernelRun0_A.sl.v647 (F := Ideal) c i arg2 harg2 arg3 harg3 arg4 harg4 arg5 harg5 arg6 harg6 arg7 harg7 arg8 harg8 x0 x1 x2) _ _ a r (fun t => s2 t r) (m2 0 r) (acc_load arg8.view (blocks x0 x1 x2) j _ 2 2 _ 2 rfl a1 a r) hv)
  have a3 : AccAt arg8.view (blocks x0 x1 x2) j (kernelRun0_A.sl.HS1_4 (F := Ideal) c i arg2 harg2 arg3 harg3 arg4 harg4 arg5 harg5 arg6 harg6 arg7 harg7 arg8 harg8 x0 x1 x2) 4 :=
    acc_cons arg8.view (blocks x0 x1 x2) j _ 3 _ _ 3 rfl a2 (fun a r => headAcc_apply (blocks x0 x1 x2) true 3 j 384 rfl slices_S1024x256_o384_0_S128x256 (k0_pay178 (F := Ideal) (kernelRun0_A.sl.r_6 (F := Ideal) c i arg2 harg2 arg3 harg3 x0 x1) k0_pay175 (kernelRun0_A.sl.v72) 64#32 k0_pay176 k0_pay177 1#32 0#32) (kernelRun0_A.sl.r_2 (F := Ideal) i arg4 harg4 x2) (kernelRun0_A.sl.v319 (F := Ideal) c i arg2 harg2 arg3 harg3 arg4 harg4 arg5 harg5 arg6 harg6 arg7 harg7 arg8 harg8 x0 x1 x2) (kernelRun0_A.sl.v655 (F := Ideal) c i arg2 harg2 arg3 harg3 arg4 harg4 arg5 harg5 arg6 harg6 arg7 harg7 arg8 harg8 x0 x1 x2) _ _ a r (fun t => s3 t r) (m3 0 r) (acc_load arg8.view (blocks x0 x1 x2) j _ 3 3 _ 3 rfl a2 a r) hv)
  have a4 : AccAt arg8.view (blocks x0 x1 x2) j (kernelRun0_A.sl.HS1_5 (F := Ideal) c i arg2 harg2 arg3 harg3 arg4 harg4 arg5 harg5 arg6 harg6 arg7 harg7 arg8 harg8 x0 x1 x2) 5 :=
    acc_cons arg8.view (blocks x0 x1 x2) j _ 4 _ _ 4 rfl a3 (fun a r => headAcc_apply (blocks x0 x1 x2) true 4 j 512 rfl slices_S1024x256_o512_0_S128x256 (k0_pay187 (F := Ideal) (kernelRun0_A.sl.r_7 (F := Ideal) c i arg2 harg2 arg3 harg3 x0 x1) (kernelRun0_A.sl.v120) 64#32 k0_pay184 k0_pay185 k0_pay186) (kernelRun0_A.sl.r_2 (F := Ideal) i arg4 harg4 x2) (kernelRun0_A.sl.v392 (F := Ideal) c i arg2 harg2 arg3 harg3 arg4 harg4 arg5 harg5 arg6 harg6 arg7 harg7 arg8 harg8 x0 x1 x2) (kernelRun0_A.sl.v663 (F := Ideal) c i arg2 harg2 arg3 harg3 arg4 harg4 arg5 harg5 arg6 harg6 arg7 harg7 arg8 harg8 x0 x1 x2) _ _ a r (fun t => s4 t r) (m4 0 r) (acc_load arg8.view (blocks x0 x1 x2) j _ 4 4 _ 4 rfl a3 a r) hv)
  have a5 : AccAt arg8.view (blocks x0 x1 x2) j (kernelRun0_A.sl.HS1_6 (F := Ideal) c i arg2 harg2 arg3 harg3 arg4 harg4 arg5 harg5 arg6 harg6 arg7 harg7 arg8 harg8 x0 x1 x2) 6 :=
    acc_cons arg8.view (blocks x0 x1 x2) j _ 5 _ _ 5 rfl a4 (fun a r => headAcc_apply (blocks x0 x1 x2) true 5 j 640 rfl slices_S1024x256_o640_0_S128x256 (k0_pay195 (F := Ideal) (kernelRun0_A.sl.r_8 (F := Ideal) c i arg2 harg2 arg3 harg3 x0 x1) k0_pay193 (kernelRun0_A.sl.v72) 64#32 k0_pay194) (kernelRun0_A.sl.r_2 (F := Ideal) i arg4 harg4 x2) (kernelRun0_A.sl.v465 (F := Ideal) c i arg2 harg2 arg3 harg3 arg4 harg4 arg5 harg5 arg6 harg6 arg7 harg7 arg8 harg8 x0 x1 x2) (kernelRun0_A.sl.v671 (F := Ideal) c i arg2 harg2 arg3 harg3 arg4 harg4 arg5 harg5 arg6 harg6 arg7 harg7 arg8 harg8 x0 x1 x2) _ _ a r (fun t => s5 t r) (m5 0 r) (acc_load arg8.view (blocks x0 x1 x2) j _ 5 5 _ 5 rfl a4 a r) hv)
  have a6 : AccAt arg8.view (blocks x0 x1 x2) j (kernelRun0_A.sl.HS1_7 (F := Ideal) c i arg2 harg2 arg3 harg3 arg4 harg4 arg5 harg5 arg6 harg6 arg7 harg7 arg8 harg8 x0 x1 x2) 7 :=
    acc_cons arg8.view (blocks x0 x1 x2) j _ 6 _ _ 6 rfl a5 (fun a r => headAcc_apply (blocks x0 x1 x2) true 6 j 768 rfl slices_S1024x256_o768_0_S128x256 (k0_pay208 (F := Ideal) (kernelRun0_A.sl.r_9 (F := Ideal) c i arg2 harg2 arg3 harg3 x0 x1) k0_pay203 k0_pay204 k0_pay205 k0_pay206 k0_pay207) (kernelRun0_A.sl.r_2 (F := Ideal) i arg4 harg4 x2) (kernelRun0_A.sl.v538 (F := Ideal) c i arg2 harg2 arg3 harg3 arg4 harg4 arg5 harg5 arg6 harg6 arg7 harg7 arg8 harg8 x0 x1 x2) (kernelRun0_A.sl.v679 (F := Ideal) c i arg2 harg2 arg3 harg3 arg4 harg4 arg5 harg5 arg6 harg6 arg7 harg7 arg8 harg8 x0 x1 x2) _ _ a r (fun t => s6 t r) (m6 0 r) (acc_load arg8.view (blocks x0 x1 x2) j _ 6 6 _ 6 rfl a5 a r) hv)
  have a7 : AccAt arg8.view (blocks x0 x1 x2) j (kernelRun0_A.sl.HS1_8 (F := Ideal) c i arg2 harg2 arg3 harg3 arg4 harg4 arg5 harg5 arg6 harg6 arg7 harg7 arg8 harg8 x0 x1 x2) 8 :=
    acc_cons arg8.view (blocks x0 x1 x2) j _ 7 _ _ 7 rfl a6 (fun a r => headAcc_apply (blocks x0 x1 x2) true 7 j 896 rfl slices_S1024x256_o896_0_S128x256 (k0_pay217 (F := Ideal) (kernelRun0_A.sl.r_10 (F := Ideal) c i arg2 harg2 arg3 harg3 x0 x1) (kernelRun0_A.sl.v120) 64#32 k0_pay214 k0_pay215 k0_pay216) (kernelRun0_A.sl.r_2 (F := Ideal) i arg4 harg4 x2) (kernelRun0_A.sl.v611 (F := Ideal) c i arg2 harg2 arg3 harg3 arg4 harg4 arg5 harg5 arg6 harg6 arg7 harg7 arg8 harg8 x0 x1 x2) (kernelRun0_A.sl.v687 (F := Ideal) c i arg2 harg2 arg3 harg3 arg4 harg4 arg5 harg5 arg6 harg6 arg7 harg7 arg8 harg8 x0 x1 x2) _ _ a r (fun t => s7 t r) (m7 0 r) (acc_load arg8.view (blocks x0 x1 x2) j _ 7 7 _ 7 rfl a6 a r) hv)
  exact ⟨t7, a7⟩

end Cert.ForwardIdeal.Attn

end
-- ==== Proof.FwdOut.lean ====
/-
  THE TWO BLOCKS A GRID POINT WRITES: each head's sums over its row of masses, the heads side by side; and each head's
  greatest scores plus the logarithms of the masses, in eight rows of the other block.
-/
module

public import proofs.«01_k».proof.Proof.FwdDiag
public import proofs.«01_k».proof.Proof.Gen.ForwardIdeal.Value

@[expose] public section

set_option maxRecDepth 16384

noncomputable section

namespace Cert.ForwardIdeal.Attn

open Idealize.ShloMosaic Idealize.ShloMosaic.ValueIdx Idealize.ShloMosaic.TcCoe Idealize.ShloMosaic.Tactic
open Cert.ForwardIdeal Cert.ForwardIdeal.Gen
open Cert.KernelIdeal.AttnGrad (add_unit drop_unit)

/-- The row of the masses among a head's sums, and the row of a value's lane. -/
def massRow : Fin 128 := ⟨64, by omega⟩
def valRow (d : Fin 64) : Fin 128 := ⟨d.val, by omega⟩

/-- A row of the output of head `h`, and its logarithm of the mass. -/
def Blocks.outEnd (B : Blocks) (j : Fin 16) (h : Fin 8) (d : Fin 64) (r : Fin 256) : EReal :=
  Ideal.div (B.accEnd j h (valRow d) r) (B.accEnd j h massRow r)

def Blocks.lseEnd (B : Blocks) (j : Fin 16) (h : Fin 8) (r : Fin 256) : EReal :=
  B.mEnd j h r + Ideal.log (B.accEnd j h massRow r) * (((Real.log 2)⁻¹ : ℝ) : EReal)

/-! ## One head -/

def massOf (a : S1x128x256.Idx → EReal) : FVec Ideal S1x256 .f32 :=
  extractStridedSlice S1x256 ![64, 0] (shapeCast S128x256 a shapeCasts_S1x128x256_S128x256 : FVec Ideal S128x256 .f32) slices_S128x256_o64_0_S1x256

def headOut (a : S1x128x256.Idx → EReal) : FVec Ideal S64x256 .f32 :=
  divf (extractStridedSlice S64x256 ![0, 0] (shapeCast S128x256 a shapeCasts_S1x128x256_S128x256 : FVec Ideal S128x256 .f32) slices_S128x256_o0_0_S64x256)
    (broadcastTo S64x256 (massOf a) broadcasts_S1x256_S64x256)

def headLse (a : S1x128x256.Idx → EReal) (mx : S1x8x256.Idx → EReal) : FVec Ideal S1x8x256 .f32 :=
  shapeCast S1x8x256 (addf (shapeCast S8x256 mx shapeCasts_S1x8x256_S8x256 : FVec Ideal S8x256 .f32)
    (broadcastTo S8x256 (mulf (log (massOf a)) (broadcast S1x256 (Named.named κ "log2e" 0x3FB8AA3B#32))) broadcasts_S1x256_S8x256))
    shapeCasts_S8x256_S1x8x256

def pairOut (o0 o1 : FVec Ideal S64x256 .f32) : FVec Ideal S256x128 .f32 :=
  transpose S256x128 [1, 0] (concatenate S128x256 0 [⟨S64x256, o0⟩, ⟨S64x256, o1⟩] concatenates_S64x256_S64x256_S128x256_d0)
    transposes_S128x256_p1_0_S256x128

theorem massOf_at (a : S1x128x256.Idx → EReal) (r : Fin 256) : massOf a (ix2 (0 : Fin 1) r) = a (ix3 (0 : Fin 1) massRow r) :=
  (slice_row 128 1 64 _ slices_S128x256_o64_0_S1x256 (0 : Fin 1) r massRow rfl).trans (drop_unit 128 256 _ _ massRow r)

theorem headOut_at (a : S1x128x256.Idx → EReal) (d : Fin 64) (r : Fin 256) :
    headOut a (ix2 d r) = Ideal.div (a (ix3 (0 : Fin 1) (valRow d) r)) (a (ix3 (0 : Fin 1) massRow r)) := by
  unfold headOut
  rw [divf_apply, bcast_row 64, massOf_at]
  refine congrArg (fun z => Ideal.div z _) ?_
  exact (slice_row 128 64 0 _ slices_S128x256_o0_0_S64x256 d r (valRow d) (Nat.zero_add _).symm).trans (drop_unit 128 256 _ _ (valRow d) r)

theorem headLse_at (a : S1x128x256.Idx → EReal) (mx : S1x8x256.Idx → EReal) (s : Fin 8) (r : Fin 256) :
    headLse a mx (ix3 (0 : Fin 1) s r)
      = mx (ix3 (0 : Fin 1) s r) + Ideal.log (a (ix3 (0 : Fin 1) massRow r)) * (((Real.log 2)⁻¹ : ℝ) : EReal) := by
  unfold headLse
  rw [add_unit, addf_apply, drop_unit, bcast_row 8, mulf_apply]
  refine congrArg (fun z => mx (ix3 (0 : Fin 1) s r) + z) ?_
  refine congrArg₂ (fun x y : EReal => x * y) ?_ rfl
  exact congrArg Ideal.log (massOf_at a r)

theorem pairOut_left (o0 o1 : FVec Ideal S64x256 .f32) (r : Fin 256) (d : Fin 64) (n : Fin 128) (hn : n.val = d.val) :
    pairOut o0 o1 (ix2 r n) = o0 (ix2 d r) :=
  (transpose_apply [1, 0] _ transposes_S128x256_p1_0_S256x128 _ (ix2 n r) (fun b => match b with
      | ⟨0, _⟩ => rfl
      | ⟨1, _⟩ => rfl)).trans
    (concatenate_pair_apply_left 0 o0 o1 concatenates_S64x256_S64x256_S128x256_d0 (ix2 n r) rfl (ix2 d r) (fun b => match b with
      | ⟨0, _⟩ => hn.symm
      | ⟨1, _⟩ => rfl))

theorem pairOut_right (o0 o1 : FVec Ideal S64x256 .f32) (r : Fin 256) (d : Fin 64) (n : Fin 128) (hn : n.val = 64 + d.val) :
    pairOut o0 o1 (ix2 r n) = o1 (ix2 d r) :=
  (transpose_apply [1, 0] _ transposes_S128x256_p1_0_S256x128 _ (ix2 n r) (fun b => match b with
      | ⟨0, _⟩ => rfl
      | ⟨1, _⟩ => rfl)).trans
    (concatenate_pair_apply_right 0 o0 o1 concatenates_S64x256_S64x256_S128x256_d0 (ix2 n r) rfl rfl (ix2 d r) (fun b hb => match b, hb with
      | ⟨0, _⟩, hb => absurd rfl hb
      | ⟨1, _⟩, _ => rfl) (by
      show d.val + 64 = n.val
      omega))

/-! ## The stores -/

def statRow (h s : Fin 8) : Fin 64 := ⟨8 * h.val + s.val, by omega⟩
def outCol (h : Fin 8) (d : Fin 64) : Fin 512 := ⟨64 * h.val + d.val, by omega⟩

section Stores
variable (v3 : View sig .tc .vmem S256x512 .f32) (v4 : View sig .tc .vmem S1x64x256 .f32) (B : Blocks) (j : Fin 16)

/-- The stores `L` hold the first `n` heads' logarithms of the masses. -/
def LseAt (L : List (View.Piece (Elt Ideal) S1x64x256 .f32)) (n : ℕ) : Prop :=
  ∀ (h s : Fin 8) (r : Fin 256), h.val < n → v4.read (Elt Ideal) (v4.writes (Elt Ideal) v4.junk L) (ix3 (0 : Fin 1) (statRow h s) r) = B.lseEnd j h r

/-- The stores `L` hold the first `n` pairs of heads' outputs. -/
def OutAt (L : List (View.Piece (Elt Ideal) S256x512 .f32)) (n : ℕ) : Prop :=
  ∀ (h : Fin 8) (d : Fin 64) (r : Fin 256), h.val / 2 < n → v3.read (Elt Ideal) (v3.writes (Elt Ideal) v3.junk L) (ix2 r (outCol h d)) = B.outEnd j h d r

theorem lse_cons (L) (n o : ℕ) (inb) (w : S1x8x256.Idx → EReal) (h : Fin 8) (hn : h.val = n) (ho : o = 8 * n) (hL : LseAt v4 B j L n)
    (hw : ∀ s r, w (ix3 (0 : Fin 1) s r) = B.lseEnd j h r) :
    LseAt v4 B j (⟨Rect.unit (s := S1x64x256) ![0, o, 0] ![1, 8, 256] inb, w⟩ :: L) (n + 1) := fun h' s r hlt => by
  by_cases e : h'.val = n
  · obtain rfl : h' = h := Fin.ext (e.trans hn.symm)
    exact (View.read_writes_cons_unit_of_mem v4 v4.junk _ _ _ _ (ix3 (0 : Fin 1) s r) rfl (fun d => match d with
      | ⟨0, _⟩ => rfl
      | ⟨1, _⟩ => (by
          show 8 * h'.val + s.val = o + s.val
          omega)
      | ⟨2, _⟩ => (Nat.zero_add _).symm)).trans (hw s r)
  · rw [View.read_writes_cons_unit_of_not_mem v4 v4.junk inb _ _ _ rfl (1 : Fin 3) (by
      show 8 * h'.val + s.val < o ∨ o + 8 ≤ 8 * h'.val + s.val
      omega)]
    exact hL h' s r (by omega)

theorem out_cons (L) (n o : ℕ) (inb) (w : S256x128.Idx → EReal) (ho : o = 128 * n) (hL : OutAt v3 B j L n)
    (hw : ∀ (h : Fin 8) (d : Fin 64) r (k : Fin 128), h.val / 2 = n → k.val = 64 * (h.val % 2) + d.val → w (ix2 r k) = B.outEnd j h d r) :
    OutAt v3 B j (⟨Rect.unit (s := S256x512) ![0, o] ![256, 128] inb, w⟩ :: L) (n + 1) := fun h' d r hlt => by
  by_cases e : h'.val / 2 = n
  · exact (View.read_writes_cons_unit_of_mem v3 v3.junk _ _ _ _ (ix2 r (⟨64 * (h'.val % 2) + d.val, by omega⟩ : Fin 128)) rfl (fun a => match a with
      | ⟨0, _⟩ => (Nat.zero_add _).symm
      | ⟨1, _⟩ => (by
          show 64 * h'.val + d.val = o + (64 * (h'.val % 2) + d.val)
          omega))).trans (hw h' d r _ e rfl)
  · rw [View.read_writes_cons_unit_of_not_mem v3 v3.junk inb _ _ _ rfl (1 : Fin 2) (by
      show 64 * h'.val + d.val < o ∨ o + 128 ≤ 64 * h'.val + d.val
      omega)]
    exact hL h' d r (by omega)

end Stores

theorem pair_out (B : Blocks) (j : Fin 16) (a0 a1 : S1x128x256.Idx → EReal) (n : ℕ) (h0 h1 : Fin 8) (e0 : h0.val = 2 * n) (e1 : h1.val = 2 * n + 1)
    (k0 : ∀ a r, a0 (ix3 (0 : Fin 1) a r) = B.accEnd j h0 a r) (k1 : ∀ a r, a1 (ix3 (0 : Fin 1) a r) = B.accEnd j h1 a r)
    (h : Fin 8) (d : Fin 64) (r : Fin 256) (k : Fin 128) (hn : h.val / 2 = n) (hk : k.val = 64 * (h.val % 2) + d.val) :
    pairOut (headOut a0) (headOut a1) (ix2 r k) = B.outEnd j h d r := by
  rcases Nat.mod_two_eq_zero_or_one h.val with e | e
  · obtain rfl : h = h0 := Fin.ext (by omega)
    rw [pairOut_left _ _ r d k (by omega), headOut_at, k0, k0]
    rfl
  · obtain rfl : h = h1 := Fin.ext (by omega)
    rw [pairOut_right _ _ r d k (by omega), headOut_at, k1, k1]
    rfl

theorem head_lse (B : Blocks) (j : Fin 16) (a : S1x128x256.Idx → EReal) (mx : S1x8x256.Idx → EReal) (h : Fin 8)
    (ka : ∀ a' r, a (ix3 (0 : Fin 1) a' r) = B.accEnd j h a' r) (km : ∀ s r, mx (ix3 (0 : Fin 1) s r) = B.mEnd j h r) (s : Fin 8) (r : Fin 256) :
    headLse a mx (ix3 (0 : Fin 1) s r) = B.lseEnd j h r := by
  rw [headLse_at, ka, km]
  rfl

set_option maxHeartbeats 4000000 in
theorem run_outs (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S16x1024x256 .bf16) (harg4 : arg4.IsWhole) (arg5 : Memref sig .tc .vmem S256x512 .f32) (harg5 : arg5.IsWhole) (arg6 : Memref sig .tc .vmem S1x64x256 .f32) (harg6 : arg6.IsWhole) (arg7 : Memref sig .tc .vmem S8x8x256 .f32) (harg7 : arg7.IsWhole) (arg8 : Memref sig .tc .vmem S8x128x256 .f32) (harg8 : arg8.IsWhole)
    (x0 : Vec Ideal S256x1024 .bf16) (x1 : Vec Ideal S4096x1024 .bf16) (x2 : Vec Ideal S16x1024x256 .bf16)
    (j : Fin 16) (hj : (i 1).val = j.val) :
    (∀ (h : Fin 8) (d : Fin 64) (r : Fin 256), out0_A_3 (F := Ideal) c i arg2 harg2 arg3 harg3 arg4 harg4 arg5 harg5 arg6 harg6 arg7 harg7 arg8 harg8 x0 x1 x2 (ix2 r (outCol h d)) = (blocks x0 x1 x2).outEnd j h d r)
      ∧ (∀ (h s : Fin 8) (r : Fin 256), out0_A_4 (F := Ideal) c i arg2 harg2 arg3 harg3 arg4 harg4 arg5 harg5 arg6 harg6 arg7 harg7 arg8 harg8 x0 x1 x2 (ix3 (0 : Fin 1) (statRow h s) r) = (blocks x0 x1 x2).lseEnd j h r) := by
  have hst := run_stacks c i arg2 harg2 arg3 harg3 arg4 harg4 arg5 harg5 arg6 harg6 arg7 harg7 arg8 harg8 x0 x1 x2 j hj
  have m0 : ∀ s r, (kernelRun0_A.sl.v701 (F := Ideal) c i arg2 harg2 arg3 harg3 arg4 harg4 arg5 harg5 arg6 harg6 arg7 harg7 arg8 harg8 x0 x1 x2) (ix3 (0 : Fin 1) s r) = (blocks x0 x1 x2).mEnd j 0 r := fun s r => (top_load arg7.view (blocks x0 x1 x2) j _ 0 8 _ 0 rfl hst.1 s r).trans (if_pos (by decide))
  have a0 : ∀ a r, (kernelRun0_A.sl.v695 (F := Ideal) c i arg2 harg2 arg3 harg3 arg4 harg4 arg5 harg5 arg6 harg6 arg7 harg7 arg8 harg8 x0 x1 x2) (ix3 (0 : Fin 1) a r) = (blocks x0 x1 x2).accEnd j 0 a r := fun a r => (acc_load arg8.view (blocks x0 x1 x2) j _ 0 8 _ 0 rfl hst.2 a r).trans (if_pos (by decide))
  have m1 : ∀ s r, (kernelRun0_A.sl.v717 (F := Ideal) c i arg2 harg2 arg3 harg3 arg4 harg4 arg5 harg5 arg6 harg6 arg7 harg7 arg8 harg8 x0 x1 x2) (ix3 (0 : Fin 1) s r) = (blocks x0 x1 x2).mEnd j 1 r := fun s r => (top_load arg7.view (blocks x0 x1 x2) j _ 1 8 _ 1 rfl hst.1 s r).trans (if_pos (by decide))
  have a1 : ∀ a r, (kernelRun0_A.sl.v711 (F := Ideal) c i arg2 harg2 arg3 harg3 arg4 harg4 arg5 harg5 arg6 harg6 arg7 harg7 arg8 harg8 x0 x1 x2) (ix3 (0 : Fin 1) a r) = (blocks x0 x1 x2).accEnd j 1 a r := fun a r => (acc_load arg8.view (blocks x0 x1 x2) j _ 1 8 _ 1 rfl hst.2 a r).trans (if_pos (by decide))
  have m2 : ∀ s r, (kernelRun0_A.sl.v736 (F := Ideal) c i arg2 harg2 arg3 harg3 arg4 harg4 arg5 harg5 arg6 harg6 arg7 harg7 arg8 harg8 x0 x1 x2) (ix3 (0 : Fin 1) s r) = (blocks x0 x1 x2).mEnd j 2 r := fun s r => (top_load arg7.view (blocks x0 x1 x2) j _ 2 8 _ 2 rfl hst.1 s r).trans (if_pos (by decide))
  have a2 : ∀ a r, (kernelRun0_A.sl.v730 (F := Ideal) c i arg2 harg2 arg3 harg3 arg4 harg4 arg5 harg5 arg6 harg6 arg7 harg7 arg8 harg8 x0 x1 x2) (ix3 (0 : Fin 1) a r) = (blocks x0 x1 x2).accEnd j 2 a r := fun a r => (acc_load arg8.view (blocks x0 x1 x2) j _ 2 8 _ 2 rfl hst.2 a r).trans (if_pos (by decide))
  have m3 : ∀ s r, (kernelRun0_A.sl.v752 (F := Ideal) c i arg2 harg2 arg3 harg3 arg4 harg4 arg5 harg5 arg6 harg6 arg7 harg7 arg8 harg8 x0 x1 x2) (ix3 (0 : Fin 1) s r) = (blocks x0 x1 x2).mEnd j 3 r := fun s r => (top_load arg7.view (blocks x0 x1 x2) j _ 3 8 _ 3 rfl hst.1 s r).trans (if_pos (by decide))
  have a3 : ∀ a r, (kernelRun0_A.sl.v746 (F := Ideal) c i arg2 harg2 arg3 harg3 arg4 harg4 arg5 harg5 arg6 harg6 arg7 harg7 arg8 harg8 x0 x1 x2) (ix3 (0 : Fin 1) a r) = (blocks x0 x1 x2).accEnd j 3 a r := fun a r => (acc_load arg8.view (blocks x0 x1 x2) j _ 3 8 _ 3 rfl hst.2 a r).trans (if_pos (by decide))
  have m4 : ∀ s r, (kernelRun0_A.sl.v771 (F := Ideal) c i arg2 harg2 arg3 harg3 arg4 harg4 arg5 harg5 arg6 harg6 arg7 harg7 arg8 harg8 x0 x1 x2) (ix3 (0 : Fin 1) s r) = (blocks x0 x1 x2).mEnd j 4 r := fun s r => (top_load arg7.view (blocks x0 x1 x2) j _ 4 8 _ 4 rfl hst.1 s r).trans (if_pos (by decide))
  have a4 : ∀ a r, (kernelRun0_A.sl.v765 (F := Ideal) c i arg2 harg2 arg3 harg3 arg4 harg4 arg5 harg5 arg6 harg6 arg7 harg7 arg8 harg8 x0 x1 x2) (ix3 (0 : Fin 1) a r) = (blocks x0 x1 x2).accEnd j 4 a r := fun a r => (acc_load arg8.view (blocks x0 x1 x2) j _ 4 8 _ 4 rfl hst.2 a r).trans (if_pos (by decide))
  have m5 : ∀ s r, (kernelRun0_A.sl.v787 (F := Ideal) c i arg2 harg2 arg3 harg3 arg4 harg4 arg5 harg5 arg6 harg6 arg7 harg7 arg8 harg8 x0 x1 x2) (ix3 (0 : Fin 1) s r) = (blocks x0 x1 x2).mEnd j 5 r := fun s r => (top_load arg7.view (blocks x0 x1 x2) j _ 5 8 _ 5 rfl hst.1 s r).trans (if_pos (by decide))
  have a5 : ∀ a r, (kernelRun0_A.sl.v781 (F := Ideal) c i arg2 harg2 arg3 harg3 arg4 harg4 arg5 harg5 arg6 harg6 arg7 harg7 arg8 harg8 x0 x1 x2) (ix3 (0 : Fin 1) a r) = (blocks x0 x1 x2).accEnd j 5 a r := fun a r => (acc_load arg8.view (blocks x0 x1 x2) j _ 5 8 _ 5 rfl hst.2 a r).trans (if_pos (by decide))
  have m6 : ∀ s r, (kernelRun0_A.sl.v806 (F := Ideal) c i arg2 harg2 arg3 harg3 arg4 harg4 arg5 harg5 arg6 harg6 arg7 harg7 arg8 harg8 x0 x1 x2) (ix3 (0 : Fin 1) s r) = (blocks x0 x1 x2).mEnd j 6 r := fun s r => (top_load arg7.view (blocks x0 x1 x2) j _ 6 8 _ 6 rfl hst.1 s r).trans (if_pos (by decide))
  have a6 : ∀ a r, (kernelRun0_A.sl.v800 (F := Ideal) c i arg2 harg2 arg3 harg3 arg4 harg4 arg5 harg5 arg6 harg6 arg7 harg7 arg8 harg8 x0 x1 x2) (ix3 (0 : Fin 1) a r) = (blocks x0 x1 x2).accEnd j 6 a r := fun a r => (acc_load arg8.view (blocks x0 x1 x2) j _ 6 8 _ 6 rfl hst.2 a r).trans (if_pos (by decide))
  have m7 : ∀ s r, (kernelRun0_A.sl.v822 (F := Ideal) c i arg2 harg2 arg3 harg3 arg4 harg4 arg5 harg5 arg6 harg6 arg7 harg7 arg8 harg8 x0 x1 x2) (ix3 (0 : Fin 1) s r) = (blocks x0 x1 x2).mEnd j 7 r := fun s r => (top_load arg7.view (blocks x0 x1 x2) j _ 7 8 _ 7 rfl hst.1 s r).trans (if_pos (by decide))
  have a7 : ∀ a r, (kernelRun0_A.sl.v816 (F := Ideal) c i arg2 harg2 arg3 harg3 arg4 harg4 arg5 harg5 arg6 harg6 arg7 harg7 arg8 harg8 x0 x1 x2) (ix3 (0 : Fin 1) a r) = (blocks x0 x1 x2).accEnd j 7 a r := fun a r => (acc_load arg8.view (blocks x0 x1 x2) j _ 7 8 _ 7 rfl hst.2 a r).trans (if_pos (by decide))
  constructor
  · intro h d r
    unfold out0_A_3 kernelRun0_A
    dsimp only
    exact (out_cons VO0_3 (blocks x0 x1 x2) j _ 3 384 _ _ rfl (out_cons VO0_3 (blocks x0 x1 x2) j _ 2 256 _ _ rfl (out_cons VO0_3 (blocks x0 x1 x2) j _ 1 128 _ _ rfl (out_cons VO0_3 (blocks x0 x1 x2) j _ 0 0 _ _ rfl (fun h d r hlt => absurd hlt (Nat.not_lt_zero _)) (fun h d r k e1 e2 => pair_out (blocks x0 x1 x2) j (kernelRun0_A.sl.v695 (F := Ideal) c i arg2 harg2 arg3 harg3 arg4 harg4 arg5 harg5 arg6 harg6 arg7 harg7 arg8 harg8 x0 x1 x2) (kernelRun0_A.sl.v711 (F := Ideal) c i arg2 harg2 arg3 harg3 arg4 harg4 arg5 harg5 arg6 harg6 arg7 harg7 arg8 harg8 x0 x1 x2) 0 0 1 rfl rfl a0 a1 h d r k e1 e2)) (fun h d r k e1 e2 => pair_out (blocks x0 x1 x2) j (kernelRun0_A.sl.v730 (F := Ideal) c i arg2 harg2 arg3 harg3 arg4 harg4 arg5 harg5 arg6 harg6 arg7 harg7 arg8 harg8 x0 x1 x2) (kernelRun0_A.sl.v746 (F := Ideal) c i arg2 harg2 arg3 harg3 arg4 harg4 arg5 harg5 arg6 harg6 arg7 harg7 arg8 harg8 x0 x1 x2) 1 2 3 rfl rfl a2 a3 h d r k e1 e2)) (fun h d r k e1 e2 => pair_out (blocks x0 x1 x2) j (kernelRun0_A.sl.v765 (F := Ideal) c i arg2 harg2 arg3 harg3 arg4 harg4 arg5 harg5 arg6 harg6 arg7 harg7 arg8 harg8 x0 x1 x2) (kernelRun0_A.sl.v781 (F := Ideal) c i arg2 harg2 arg3 harg3 arg4 harg4 arg5 harg5 arg6 harg6 arg7 harg7 arg8 harg8 x0 x1 x2) 2 4 5 rfl rfl a4 a5 h d r k e1 e2)) (fun h d r k e1 e2 => pair_out (blocks x0 x1 x2) j (kernelRun0_A.sl.v800 (F := Ideal) c i arg2 harg2 arg3 harg3 arg4 harg4 arg5 harg5 arg6 harg6 arg7 harg7 arg8 harg8 x0 x1 x2) (kernelRun0_A.sl.v816 (F := Ideal) c i arg2 harg2 arg3 harg3 arg4 harg4 arg5 harg5 arg6 harg6 arg7 harg7 arg8 harg8 x0 x1 x2) 3 6 7 rfl rfl a6 a7 h d r k e1 e2)) h d r (by omega)
  · intro h s r
    unfold out0_A_4 kernelRun0_A
    dsimp only
    exact (lse_cons VO0_4 (blocks x0 x1 x2) j _ 7 56 _ _ 7 rfl rfl (lse_cons VO0_4 (blocks x0 x1 x2) j _ 6 48 _ _ 6 rfl rfl (lse_cons VO0_4 (blocks x0 x1 x2) j _ 5 40 _ _ 5 rfl rfl (lse_cons VO0_4 (blocks x0 x1 x2) j _ 4 32 _ _ 4 rfl rfl (lse_cons VO0_4 (blocks x0 x1 x2) j _ 3 24 _ _ 3 rfl rfl (lse_cons VO0_4 (blocks x0 x1 x2) j _ 2 16 _ _ 2 rfl rfl (lse_cons VO0_4 (blocks x0 x1 x2) j _ 1 8 _ _ 1 rfl rfl (lse_cons VO0_4 (blocks x0 x1 x2) j _ 0 0 _ _ 0 rfl rfl (fun h s r hlt => absurd hlt (Nat.not_lt_zero _)) (fun s r => head_lse (blocks x0 x1 x2) j (kernelRun0_A.sl.v695 (F := Ideal) c i arg2 harg2 arg3 harg3 arg4 harg4 arg5 harg5 arg6 harg6 arg7 harg7 arg8 harg8 x0 x1 x2) (kernelRun0_A.sl.v701 (F := Ideal) c i arg2 harg2 arg3 harg3 arg4 harg4 arg5 harg5 arg6 harg6 arg7 harg7 arg8 harg8 x0 x1 x2) 0 a0 m0 s r)) (fun s r => head_lse (blocks x0 x1 x2) j (kernelRun0_A.sl.v711 (F := Ideal) c i arg2 harg2 arg3 harg3 arg4 harg4 arg5 harg5 arg6 harg6 arg7 harg7 arg8 harg8 x0 x1 x2) (kernelRun0_A.sl.v717 (F := Ideal) c i arg2 harg2 arg3 harg3 arg4 harg4 arg5 harg5 arg6 harg6 arg7 harg7 arg8 harg8 x0 x1 x2) 1 a1 m1 s r)) (fun s r => head_lse (blocks x0 x1 x2) j (kernelRun0_A.sl.v730 (F := Ideal) c i arg2 harg2 arg3 harg3 arg4 harg4 arg5 harg5 arg6 harg6 arg7 harg7 arg8 harg8 x0 x1 x2) (kernelRun0_A.sl.v736 (F := Ideal) c i arg2 harg2 arg3 harg3 arg4 harg4 arg5 harg5 arg6 harg6 arg7 harg7 arg8 harg8 x0 x1 x2) 2 a2 m2 s r)) (fun s r => head_lse (blocks x0 x1 x2) j (kernelRun0_A.sl.v746 (F := Ideal) c i arg2 harg2 arg3 harg3 arg4 harg4 arg5 harg5 arg6 harg6 arg7 harg7 arg8 harg8 x0 x1 x2) (kernelRun0_A.sl.v752 (F := Ideal) c i arg2 harg2 arg3 harg3 arg4 harg4 arg5 harg5 arg6 harg6 arg7 harg7 arg8 harg8 x0 x1 x2) 3 a3 m3 s r)) (fun s r => head_lse (blocks x0 x1 x2) j (kernelRun0_A.sl.v765 (F := Ideal) c i arg2 harg2 arg3 harg3 arg4 harg4 arg5 harg5 arg6 harg6 arg7 harg7 arg8 harg8 x0 x1 x2) (kernelRun0_A.sl.v771 (F := Ideal) c i arg2 harg2 arg3 harg3 arg4 harg4 arg5 harg5 arg6 harg6 arg7 harg7 arg8 harg8 x0 x1 x2) 4 a4 m4 s r)) (fun s r => head_lse (blocks x0 x1 x2) j (kernelRun0_A.sl.v781 (F := Ideal) c i arg2 harg2 arg3 harg3 arg4 harg4 arg5 harg5 arg6 harg6 arg7 harg7 arg8 harg8 x0 x1 x2) (kernelRun0_A.sl.v787 (F := Ideal) c i arg2 harg2 arg3 harg3 arg4 harg4 arg5 harg5 arg6 harg6 arg7 harg7 arg8 harg8 x0 x1 x2) 5 a5 m5 s r)) (fun s r => head_lse (blocks x0 x1 x2) j (kernelRun0_A.sl.v800 (F := Ideal) c i arg2 harg2 arg3 harg3 arg4 harg4 arg5 harg5 arg6 harg6 arg7 harg7 arg8 harg8 x0 x1 x2) (kernelRun0_A.sl.v806 (F := Ideal) c i arg2 harg2 arg3 harg3 arg4 harg4 arg5 harg5 arg6 harg6 arg7 harg7 arg8 harg8 x0 x1 x2) 6 a6 m6 s r)) (fun s r => head_lse (blocks x0 x1 x2) j (kernelRun0_A.sl.v816 (F := Ideal) c i arg2 harg2 arg3 harg3 arg4 harg4 arg5 harg5 arg6 harg6 arg7 harg7 arg8 harg8 x0 x1 x2) (kernelRun0_A.sl.v822 (F := Ideal) c i arg2 harg2 arg3 harg3 arg4 harg4 arg5 harg5 arg6 harg6 arg7 harg7 arg8 harg8 x0 x1 x2) 7 a7 m7 s r)) h s r h.isLt

end Cert.ForwardIdeal.Attn

end
-- ==== Proof.FwdPoint.lean ====
/-
  ONE GRID POINT OF THE FORWARD CALL IN NUMBERS: where the blocks hold an attention's padded queries and keys, and values of any
  kind with a row of ones below, the greatest scores stay real, the sums stay the shifted exponentials' sums, and the two results are the
  attention's rows and the logarithms of their masses in base two.
-/
module

public import proofs.«01_k».proof.Proof.FwdOut
public import proofs.«01_k».proof.Proof.Point

@[expose] public section

noncomputable section

namespace Cert.ForwardIdeal.Attn

open Idealize.ShloMosaic Idealize.ShloMosaic.ValueIdx
open Cert.ForwardIdeal Cert.AttnGrad
open Cert.KernelIdeal.AttnGrad (row tile padded sum_padded sum_rows tile_val log_two_ne not_seen_before)
open scoped BigOperators

/-- Sixty-four values, then a one, then zeros. -/
def withOne (f : Fin 64 → EReal) (c : Fin 128) : EReal := if hc : c.val < 64 then f ⟨c.val, hc⟩ else if c.val = 64 then 1 else 0

theorem withOne_mass (f : Fin 64 → EReal) : withOne f massRow = 1 := by
  unfold withOne
  rw [dif_neg (by decide)]
  exact if_pos rfl

theorem withOne_val (f : Fin 64 → EReal) (d : Fin 64) : withOne f (valRow d) = f d := by
  unfold withOne
  rw [dif_pos (show (valRow d).val < 64 from d.isLt)]
  rfl

/-- Values at every head, key and lane, infinities among them or not. -/
abbrev Values := Fin 8 → Fin 4096 → Fin 64 → EReal

/-- The values an array holds. -/
def valuesOf (x : (⟨3, ![8, 4096, 64]⟩ : Shape).Idx → EReal) : Values := fun h i d => x (ValueIdx.ix3 h i d)

/-- The row of the attention at a query. -/
def attnRow (A : Inputs) (W : Values) (h : Fin 8) (i : Fin 4096) (d : Fin 64) : EReal := ∑ t, (A.prob h i t : EReal) * W h t d

/-- A factor that is a nonnegative real goes into a sum. -/
theorem sum_mul_real {ι : Type} (s : Finset ι) (f : ι → EReal) (a : ℝ) (ha : 0 ≤ a) : (∑ x ∈ s, f x) * (a : EReal) = ∑ x ∈ s, f x * (a : EReal) := by
  classical
  induction s using Finset.induction_on with
  | empty => rw [Finset.sum_empty, Finset.sum_empty, zero_mul]
  | insert x s hx ih =>
    rw [Finset.sum_insert hx, Finset.sum_insert hx, EReal.right_distrib_of_nonneg_of_ne_top (EReal.coe_nonneg.2 ha) (EReal.coe_ne_top a), ih]

/-- The blocks of a grid point hold the numbers of query tile `j`. -/
structure FwdHolds (A : Inputs) (W : Values) (j : Fin 16) (B : Blocks) : Prop where
  q : ∀ r h c, B.q (ix2 r (hcol h c)) = ((padded (fun d => A.q h (row j r) d * scale / Real.log 2) c : ℝ) : EReal)
  k : ∀ t h c, B.k (ix2 t (hcol h c)) = ((padded (A.k h t) c : ℝ) : EReal)
  vt : ∀ b h c t, B.vt (ix3 b (hcol h c) t) = withOne (W h (row b t)) c

section
variable {A : Inputs} {W : Values} {j : Fin 16} {B : Blocks} (P : FwdHolds A W j B)
include P

/-- A score is the attention's, in base two, and the bottom where the key is unseen. -/
theorem score_num (m : Bool) (b : Fin 16) (hm : (m = false ∧ b < j) ∨ (m = true ∧ b = j)) (h : Fin 8) (t r : Fin 256) :
    B.score m h b t r = if Seen (row j r) (row b t) then ((A.score h (row j r) (row b t) / Real.log 2 : ℝ) : EReal) else ⊥ := by
  have hs : (m = true ∧ ¬ t.val / 64 ≤ r.val / 64) ↔ ¬ Seen (row j r) (row b t) := by
    show _ ↔ ¬ (256 * b.val + t.val) / 64 ≤ (256 * j.val + r.val) / 64
    rcases hm with ⟨e, e'⟩ | ⟨e, e'⟩
    · have e'' : b.val < j.val := e'
      constructor
      · rintro ⟨h, _⟩; rw [e] at h; exact absurd h (by decide)
      · intro h; exact absurd h (by omega)
    · subst e'
      constructor
      · rintro ⟨_, h⟩; omega
      · intro h; exact ⟨e, by omega⟩
  unfold Blocks.score
  by_cases hn : Seen (row j r) (row b t)
  · rw [if_neg (fun hh => hs.1 hh hn), if_pos hn]
    have e : ∀ c : Fin 128, B.k (ix2 (row b t) (hcol h c)) * B.q (ix2 r (hcol h c))
        = ((padded (A.k h (row b t)) c * padded (fun d => A.q h (row j r) d * scale / Real.log 2) c : ℝ) : EReal) :=
      fun c => by rw [P.k, P.q, ← EReal.coe_mul]
    rw [Finset.sum_congr rfl fun c _ => e c, ← coe_sum, sum_padded]
    refine congrArg _ ?_
    rw [Inputs.score, Finset.sum_mul, Finset.sum_div]
    exact Finset.sum_congr rfl fun d _ => by ring
  · rw [if_pos (hs.2 hn), if_neg hn]

end

/-- An exponential in base two of a score less a shift. -/
theorem pow_shifted (A : Inputs) (h : Fin 8) (i t : Fin 4096) (μ : ℝ) :
    Ideal.exp2 ((if Seen i t then ((A.score h i t / Real.log 2 : ℝ) : EReal) else ⊥) - (μ : EReal))
      = ((A.shifted h i t (μ * Real.log 2) : ℝ) : EReal) := by
  unfold Inputs.shifted
  split
  · rw [← EReal.coe_sub, Ideal.exp2_coe, Real.rpow_eq_pow, Real.rpow_def_of_pos (by norm_num)]
    refine congrArg _ (congrArg Real.exp ?_)
    rw [mul_sub, mul_div_cancel₀ _ log_two_ne, mul_comm]
  · rw [show (⊥ : EReal) - (μ : EReal) = ⊥ from EReal.bot_sub _]; rfl

/-- Changing the shift. -/
theorem shifted_shift (A : Inputs) (h : Fin 8) (i t : Fin 4096) (μ ν : ℝ) :
    A.shifted h i t (μ * Real.log 2) * Real.rpow 2 (μ - ν) = A.shifted h i t (ν * Real.log 2) := by
  unfold Inputs.shifted
  split
  · rw [Real.rpow_eq_pow, Real.rpow_def_of_pos (by norm_num), ← Real.exp_add]
    exact congrArg Real.exp (by ring)
  · rw [zero_mul]

/-- A value's sum over the keys of tile `b`, and over those of the first `n` tiles. -/
def tileSum (A : Inputs) (W : Values) (h : Fin 8) (i : Fin 4096) (c : Fin 128) (b : Fin 16) (μ : ℝ) : EReal :=
  ∑ t : Fin 256, withOne (W h (row b t)) c * ((A.shifted h i (row b t) (μ * Real.log 2) : ℝ) : EReal)

def tilesSum (A : Inputs) (W : Values) (h : Fin 8) (i : Fin 4096) (c : Fin 128) (n : ℕ) (μ : ℝ) : EReal :=
  ∑ k ∈ Finset.range n, tileSum A W h i c (tile k) μ

theorem tilesSum_shift (A : Inputs) (W : Values) (h : Fin 8) (i : Fin 4096) (c : Fin 128) (n : ℕ) (μ ν : ℝ) :
    tilesSum A W h i c n μ * ((Real.rpow 2 (μ - ν) : ℝ) : EReal) = tilesSum A W h i c n ν := by
  have h2 : 0 ≤ Real.rpow 2 (μ - ν) := Real.rpow_nonneg (by norm_num) _
  unfold tilesSum tileSum
  rw [sum_mul_real _ _ _ h2]
  refine Finset.sum_congr rfl fun k _ => ?_
  rw [sum_mul_real _ _ _ h2]
  exact Finset.sum_congr rfl fun t _ => by rw [mul_assoc, ← EReal.coe_mul, shifted_shift]

section
variable {A : Inputs} {W : Values} {j : Fin 16} {B : Blocks} (P : FwdHolds A W j B)
include P

/-- One tile: the greatest score becomes a real, and the sums, rescaled, take the tile's terms. -/
theorem step_num (m : Bool) (n : ℕ) (b : Fin 16) (hb : tile n = b) (hm : (m = false ∧ b < j) ∨ (m = true ∧ b = j)) (h : Fin 8) (r : Fin 256) (x : EReal)
    (hx : x = ⊥ ∨ ∃ μ : ℝ, x = (μ : EReal)) :
    ∃ μ : ℝ, B.top m h b x r = (μ : EReal) ∧ ∀ (c : Fin 128) (a : EReal),
      (∀ ν : ℝ, a * Ideal.exp2 (x - (ν : EReal)) = tilesSum A W h (row j r) c n ν) →
      B.acc m h b x a c r = tilesSum A W h (row j r) c (n + 1) μ := by
  have hsc := fun t : Fin 256 => score_num P m b hm h t r
  have hseen : Seen (row j r) (row b r) := by
    show (256 * b.val + r.val) / 64 ≤ (256 * j.val + r.val) / 64
    have hle : b.val ≤ j.val := by
      rcases hm with ⟨_, e⟩ | ⟨_, e⟩
      · exact Nat.le_of_lt e
      · exact le_of_eq (congrArg Fin.val e)
    omega
  obtain ⟨y, hy⟩ := fold_max_real Finset.univ (fun t => B.score m h b t r) (fun t _ => by
      show B.score m h b t r = ⊥ ∨ ∃ z : ℝ, B.score m h b t r = (z : EReal)
      rw [hsc]
      split
      · exact Or.inr ⟨_, rfl⟩
      · exact Or.inl rfl) r (Finset.mem_univ r) _ ((hsc r).trans (if_pos hseen))
  have htop : ∃ μ : ℝ, B.top m h b x r = (μ : EReal) := by
    unfold Blocks.top
    rw [hy]
    rcases hx with e | ⟨z, e⟩
    · exact ⟨y, by rw [e]; exact max_eq_right bot_le⟩
    · refine ⟨max z y, ?_⟩
      rw [e]
      exact (EReal.coe_strictMono.monotone.map_max).symm
  obtain ⟨μ, hμ⟩ := htop
  refine ⟨μ, hμ, fun c a ha => ?_⟩
  unfold Blocks.acc
  rw [hμ, ha μ]
  have e : ∀ t : Fin 256, B.vt (ix3 b (hcol h c) t) * Ideal.exp2 (B.score m h b t r - (μ : EReal))
      = withOne (W h (row b t)) c * ((A.shifted h (row j r) (row b t) (μ * Real.log 2) : ℝ) : EReal) := fun t => by
    rw [P.vt, hsc, pow_shifted]
  rw [Finset.sum_congr rfl fun t _ => e t, tilesSum, tilesSum, Finset.sum_range_succ, hb]
  rfl

/-- Before tile `n` of the loop. -/
theorem loop_num (h : Fin 8) (r : Fin 256) (n : ℕ) (hn : n ≤ j.val) :
    (B.mAt h r n = ⊥ ∨ ∃ μ : ℝ, B.mAt h r n = (μ : EReal)) ∧ ∀ (c : Fin 128) (ν : ℝ),
      B.accAt h c r n * Ideal.exp2 (B.mAt h r n - (ν : EReal)) = tilesSum A W h (row j r) c n ν := by
  induction n with
  | zero =>
    refine ⟨Or.inl rfl, fun c ν => ?_⟩
    show (0 : EReal) * _ = _
    rw [zero_mul, tilesSum, Finset.sum_range_zero]
  | succ n ih =>
    obtain ⟨hx, ha⟩ := ih (Nat.le_of_succ_le hn)
    have hlt : tile n < j := by
      show n % 16 < j.val
      have := j.isLt
      omega
    obtain ⟨μ, hμ, hacc⟩ := step_num P false n (tile n) rfl (Or.inl ⟨rfl, hlt⟩) h r _ hx
    refine ⟨Or.inr ⟨μ, hμ⟩, fun c ν => ?_⟩
    have e1 : B.accAt h c r (n + 1) = tilesSum A W h (row j r) c (n + 1) μ := hacc c _ (ha c)
    have e2 : B.mAt h r (n + 1) = (μ : EReal) := hμ
    rw [e1, e2, ← EReal.coe_sub, Ideal.exp2_coe, tilesSum_shift]

/-- All the tiles from the first to the diagonal one are all the seen keys. -/
theorem all_tiles (h : Fin 8) (r : Fin 256) (c : Fin 128) (μ : ℝ) :
    tilesSum A W h (row j r) c (j.val + 1) μ = ∑ t, withOne (W h t) c * ((A.shifted h (row j r) t (μ * Real.log 2) : ℝ) : EReal) := by
  rw [sum_rows]
  have h1 : ∑ b : Fin 16, tileSum A W h (row j r) c b μ = tilesSum A W h (row j r) c 16 μ := by
    rw [tilesSum, Finset.sum_range]
    exact Finset.sum_congr rfl fun i _ => by rw [tile_val]
  refine Eq.trans ?_ h1.symm
  have h2 : Finset.range 16 = Finset.range ((j.val + 1) + (15 - j.val)) := congrArg Finset.range (by omega)
  rw [tilesSum, tilesSum, h2, Finset.sum_range_add _ (j.val + 1), Finset.sum_eq_zero (s := Finset.range (15 - j.val)) (fun k hk => ?_), add_zero]
  have hk' := Finset.mem_range.1 hk
  refine Finset.sum_eq_zero fun t _ => ?_
  have hns := not_seen_before j (tile (j.val + 1 + k)) (by
    show j.val < (j.val + 1 + k) % 16
    omega) r t
  rw [Inputs.shifted, if_neg hns, EReal.coe_zero, mul_zero]

/-- After the diagonal step. -/
theorem end_num (h : Fin 8) (r : Fin 256) : ∃ μ : ℝ, B.mEnd j h r = (μ : EReal) ∧ ∀ c : Fin 128,
    B.accEnd j h c r = ∑ t, withOne (W h t) c * ((A.shifted h (row j r) t (μ * Real.log 2) : ℝ) : EReal) := by
  obtain ⟨hx, ha⟩ := loop_num P h r j.val le_rfl
  obtain ⟨μ, hμ, hacc⟩ := step_num P true j.val j (tile_val j) (Or.inr ⟨rfl, rfl⟩) h r _ hx
  refine ⟨μ, hμ, fun c => ?_⟩
  rw [← all_tiles P h r c μ]
  exact hacc c _ (ha c)

theorem mass_num (h : Fin 8) (r : Fin 256) (μ : ℝ)
    (ha : ∀ c : Fin 128, B.accEnd j h c r = ∑ t, withOne (W h t) c * ((A.shifted h (row j r) t (μ * Real.log 2) : ℝ) : EReal)) :
    B.accEnd j h massRow r = ((∑ t, A.shifted h (row j r) t (μ * Real.log 2) : ℝ) : EReal) := by
  rw [ha, coe_sum]
  exact Finset.sum_congr rfl fun t _ => by rw [withOne_mass, one_mul]

/-- The output's rows are the attention's. -/
theorem out_num (h : Fin 8) (d : Fin 64) (r : Fin 256) :
    B.outEnd j h d r = attnRow A W h (row j r) d := by
  obtain ⟨μ, _, ha⟩ := end_num P h r
  have hp := A.shifted_sum_pos h (row j r) (μ * Real.log 2)
  unfold Blocks.outEnd Ideal.div
  rw [mass_num P h r μ ha, ha, if_neg (fun e => hp.ne' (EReal.coe_eq_zero.1 e)), ← EReal.coe_inv, sum_mul_real _ _ _ (inv_nonneg.2 hp.le)]
  refine Finset.sum_congr rfl fun t _ => ?_
  rw [withOne_val, mul_assoc, ← EReal.coe_mul, ← div_eq_mul_inv, A.shifted_div, mul_comm]

/-- The other result is the logarithm of the mass, in base two. -/
theorem lse_num (h : Fin 8) (r : Fin 256) :
    B.lseEnd j h r = ((Real.log (A.mass h (row j r)) / Real.log 2 : ℝ) : EReal) := by
  obtain ⟨μ, hμ, ha⟩ := end_num P h r
  unfold Blocks.lseEnd
  have hp := A.shifted_sum_pos h (row j r) (μ * Real.log 2)
  rw [hμ, mass_num P h r μ ha, Ideal.log_coe, if_neg (not_le.2 hp), ← EReal.coe_mul, ← EReal.coe_add]
  refine congrArg _ ?_
  rw [← A.log_shifted_sum h (row j r) (μ * Real.log 2), add_div, mul_div_cancel_right₀ _ log_two_ne, div_eq_mul_inv]

end

end Cert.ForwardIdeal.Attn

end
-- ==== Proof.FwdHost.lean ====
/-
  WHAT THE FORWARD LAUNCH READS: the scaled queries and the keys, padded and packed, and the values by tiles, transposed, with
  a row of ones below each head's; and what a grid point's blocks of them hold when the queries and keys hold real numbers.
-/
module

public import proofs.«01_k».proof.Proof.FwdPoint
public import proofs.«01_k».proof.Proof.Stats
public import proofs.«01_k».proof.Proof.Gen.ForwardIdeal.Value
public import Idealize.ShloMosaic.Lib.StableHlo.RunRead
public import Idealize.ShloMosaic.Lib.Pipeline.ValueKit.Geometry

@[expose] public section

noncomputable section

namespace Cert.ForwardIdeal.Attn

open Idealize.ShloMosaic hiding ix0 ix1 ix2 ix3 ix4
open Idealize.ShloMosaic.ValueIdx Idealize.ShloMosaic.TcCoe Idealize.ShloMosaic.StableHlo
open Idealize.ShloMosaic.Pipeline (Dat Cfg Window)
open Cert.ForwardIdeal Cert.ForwardIdeal.Gen Cert.AttnGrad
open Cert.KernelIdeal.AttnGrad (packed packed_at scaledQ scaledQ_at padded row)
open scoped BigOperators

/-- A one in lane 64. -/
def massLane : FVec Ideal S8x4096x128 .f32 :=
  broadcastInDim S8x4096x128 ![0, 1, 2] bcast_S1x1x128_S8x4096x128_0_1_2 (broadcastInDim S1x1x128 ![2] bcast_S128_S1x1x128_2
    (uitofp (F := Ideal) .f32 (cmpi .eq (iotaInDim S128 32 0) (broadcastInDim S128 ![] bcast_S_S128 (constantI S_ 32 64#32)))))

theorem lane_word : ∀ c : Fin 128, IntOp.cmpi .eq (BitVec.ofNat 32 c.val) 64#32 = if c.val = 64 then 1#1 else 0#1 := by decide +kernel

theorem massLane_at (h : Fin 8) (i : Fin 4096) (c : Fin 128) :
    massLane (ix3 h i c) = (((if c.val = 64 then 1 else 0 : ℝ)) : EReal) := by
  unfold massLane
  refine (broadcastInDim_apply _ bcast_S1x1x128_S8x4096x128_0_1_2 _ _ (ix3 (0 : Fin 1) (0 : Fin 1) c) (fun a => match a with
    | ⟨0, _⟩ => by show 0 = if (1 : Nat) = 1 then 0 else h.val; rw [if_pos rfl]
    | ⟨1, _⟩ => by show 0 = if (1 : Nat) = 1 then 0 else i.val; rw [if_pos rfl]
    | ⟨2, _⟩ => by show c.val = if (128 : Nat) = 1 then 0 else c.val; rw [if_neg (by decide)])).trans ?_
  refine (broadcastInDim_apply _ bcast_S128_S1x1x128_2 _ _ (ix1 c) (fun a => match a with
    | ⟨0, _⟩ => by show c.val = if (128 : Nat) = 1 then 0 else c.val; rw [if_neg (by decide)])).trans ?_
  show (((IntOp.cmpi .eq (BitVec.ofNat 32 c.val) 64#32).toNat : ℝ) : EReal) = _
  rw [lane_word]
  split <;> simp

/-- The values with a one in lane 64 of every head, packed, by tiles transposed. -/
def valueTiles (X : FVec Ideal S8x4096x64 .f32) : FVec Ideal S16x1024x256 .f32 :=
  transpose S16x1024x256 [0, 2, 1] (shapeCast S16x256x1024 (transpose S4096x8x128 [1, 0, 2]
    (addf (pad S8x4096x128 ![0, 0, 0] ![0, 0, 64] ![0, 0, 0] X (sitofp (F := Ideal) .f32 (constantI S_ 32 0#32)) pads_S8x4096x64_S8x4096x128_000_000_0640 h_S_) massLane)
    transposes_S8x4096x128_S4096x8x128_1_0_2) shapeCasts_S4096x8x128_S16x256x1024) transposes_S16x256x1024_S16x1024x256_0_2_1

theorem pad_values (X : FVec Ideal S8x4096x64 .f32)
    (z : S_.Idx → EReal) (hz : z (Shape.Idx.first h_S_) = 0) (h : Fin 8) (i : Fin 4096) (c : Fin 128) :
    pad S8x4096x128 ![0, 0, 0] ![0, 0, 64] ![0, 0, 0] X z pads_S8x4096x64_S8x4096x128_000_000_0640 h_S_ (ix3 h i c)
      = if hc : c.val < 64 then valuesOf X h i ⟨c.val, hc⟩ else 0 := by
  split
  · next hc =>
    rw [pad_apply_of_inside _ _ _ X z _ h_S_ (ix3 h i c) (ix3 h i ⟨c.val, hc⟩) (fun a => by
      match a with
      | ⟨0, _⟩ => show h.val = 0 + h.val * (0 + 1); omega
      | ⟨1, _⟩ => show i.val = 0 + i.val * (0 + 1); omega
      | ⟨2, _⟩ => show c.val = 0 + c.val * (0 + 1); omega)]
    rfl
  · next hc =>
    rw [pad_apply_of_not_inside _ _ _ X z _ h_S_ (ix3 h i c) 2 (fun ha => hc (by
      have h3 : (c.val - 0) / (0 + 1) < 64 := ha.2.2
      omega))]
    exact hz

theorem valueTiles_at (X : FVec Ideal S8x4096x64 .f32)
    (b : Fin 16) (h : Fin 8) (c : Fin 128) (t : Fin 256) :
    valueTiles X (ix3 b (hcol h c) t) = withOne (valuesOf X h (row b t)) c := by
  unfold valueTiles
  refine (transpose_apply [0, 2, 1] _ transposes_S16x256x1024_S16x1024x256_0_2_1 _ (ix3 b t (hcol h c)) (fun a => match a with
      | ⟨0, _⟩ => rfl
      | ⟨1, _⟩ => rfl
      | ⟨2, _⟩ => rfl)).trans ?_
  refine (shapeCast_apply _ shapeCasts_S4096x8x128_S16x256x1024 (ix3 b t (hcol h c)) (ix3 (row b t) h c) (by
    rewrite [Shape.rowMajor_val_three, Shape.rowMajor_val_three]
    show ((256 * b.val + t.val) * 8 + h.val) * 128 + c.val = (b.val * 256 + t.val) * 1024 + (128 * h.val + c.val)
    omega)).trans ?_
  refine (transpose_apply [1, 0, 2] _ transposes_S8x4096x128_S4096x8x128_1_0_2 _ (ix3 h (row b t) c) (fun a => match a with
      | ⟨0, _⟩ => rfl
      | ⟨1, _⟩ => rfl
      | ⟨2, _⟩ => rfl)).trans ?_
  refine (congrArg₂ (fun u v : EReal => u + v) (pad_values X _ int_zero h (row b t) c) (massLane_at h (row b t) c)).trans ?_
  unfold withOne
  by_cases hc : c.val < 64
  · rw [dif_pos hc, dif_pos hc, if_neg (by omega), EReal.coe_zero, add_zero]
  · rw [dif_neg hc, dif_neg hc, zero_add]
    split
    · exact EReal.coe_one
    · exact EReal.coe_zero

theorem packed_hcol (X : FVec Ideal S8x4096x96 .f32) (f : Fin 8 → Fin 4096 → Fin 96 → ℝ) (hX : ∀ h i d, X (ix3 h i d) = (f h i d : EReal))
    (t : Fin 4096) (h : Fin 8) (c : Fin 128) : packed X (ix2 t (hcol h c)) = ((padded (f h t) c : ℝ) : EReal) := by
  refine (packed_at X f hX t (hcol h c)).trans ?_
  have e1 : (⟨(hcol h c).val / 128, by omega⟩ : Fin 8) = h := Fin.ext (by
    show (128 * h.val + c.val) / 128 = h.val
    omega)
  have e2 : (⟨(hcol h c).val % 128, by omega⟩ : Fin 128) = c := Fin.ext (by
    show (128 * h.val + c.val) % 128 = c.val
    omega)
  rw [e1, e2]

/-! ## The arrays at the launch -/

variable (m : (ℓ : Loc nD τ sig) → Buf (Elt Ideal) ℓ) (c : Dev nD)

/-- The three arguments, as the program finds them. -/
abbrev argQ : FVec Ideal S8x4096x96 .f32 := m ((c : Thread nD τ).loc main_arg0)
abbrev argK : FVec Ideal S8x4096x96 .f32 := m ((c : Thread nD τ).loc main_arg1)
abbrev argV : FVec Ideal S8x4096x64 .f32 := m ((c : Thread nD τ).loc main_arg2)

set_option maxHeartbeats 2000000 in
theorem V_q : V m c main_v8 = packed (scaledQ (argQ m c)) := by
  simp only [V, List.flatten_cons, List.flatten_nil, List.append_nil]
  after_reads_simp
  rfl

set_option maxHeartbeats 2000000 in
theorem V_k : V m c main_v24 = packed (argK m c) := by
  simp only [V, List.flatten_cons, List.flatten_nil, List.append_nil]
  after_reads_simp
  rfl

set_option maxHeartbeats 2000000 in
theorem V_v : V m c main_v20 = valueTiles (argV m c) := by
  simp only [V, List.flatten_cons, List.flatten_nil, List.append_nil]
  after_reads_simp
  rfl

/-! ## The blocks of a grid point -/

/-- The query tile of a grid point. -/
def tileAt (t : Fin cfg0.N) : Fin 16 := ⟨t.val % 16, Nat.mod_lt _ (by decide)⟩

theorem coord_tile (t : Fin cfg0.N) : (grid0.coords t 1).val = (tileAt t).val :=
  (Pipeline.Grid.coords_val t 1 (by decide) rfl : (grid0.coords t 1).val = t.val / 1 % 16).trans (by rw [Nat.div_one]; rfl)

theorem index_0 : ∀ t : Fin cfg0.N, win0_0.index t = ![t.val % 16, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![t.val % 16, 0] := (by decide +kernel : ∀ t : Fin grid0.N, _)
theorem index_4 : ∀ t : Fin cfg0.N, win0_4.index t = ![t.val % 16, 0, 0] := (by decide +kernel : ∀ t : Fin grid0.N, _)

theorem at_0 (t : Fin cfg0.N) (r : Fin 256) (n : Fin 1024) :
    iblk m c 0 t (ix2 r n) = V m c main_v8 (ix2 (row (tileAt t) r) n) := by
  have e := index_0 t
  blk_simp [iblk]
  exact congrArg (V m c main_v8) (by blk_ext [e, tileAt, row] <;> first | (change _ * _ + r.val = _; omega) | (change _ * _ + n.val = _; omega))

theorem at_1 (t : Fin cfg0.N) (i : Fin 4096) (n : Fin 1024) :
    iblk m c 1 t (ix2 i n) = V m c main_v24 (ix2 i n) := by
  have e := index_1 t
  blk_simp [iblk]
  exact congrArg (V m c main_v24) (by blk_ext [e] <;> first | (change _ * _ + i.val = _; omega) | (change _ * _ + n.val = _; omega))

theorem at_2 (t : Fin cfg0.N) (b : Fin 16) (n : Fin 1024) (s : Fin 256) :
    iblk m c 2 t (ix3 b n s) = V m c main_v20 (ix3 b n s) := by
  have e := index_2 t
  blk_simp [iblk]
  exact congrArg (V m c main_v20) (by blk_ext [e] <;> first | (change _ * _ + b.val = _; omega) | (change _ * _ + n.val = _; omega) | (change _ * _ + s.val = _; omega))

/-- A grid point's blocks hold its query tile's numbers. -/
theorem point_holds {A : Inputs} {x2 x3 : S8x4096x64.Idx → EReal} (H : Holds A (argQ m c) (argK m c) x2 x3) (t : Fin cfg0.N) :
    FwdHolds A (valuesOf (argV m c)) (tileAt t) (blocks (iblk m c 0 t) (iblk m c 1 t) (iblk m c 2 t)) where
  q r h d := (at_0 m c t r (hcol h d)).trans ((congrFun (V_q m c) _).trans
    (packed_hcol _ (fun h i d => A.q h i d * scale / Real.log 2) (fun h i d => scaledQ_at H h i d) (row (tileAt t) r) h d))
  k i h d := (at_1 m c t i (hcol h d)).trans ((congrFun (V_k m c) _).trans (packed_hcol _ A.k H.k i h d))
  vt b h d s := (at_2 m c t b (hcol h d) s).trans ((congrFun (V_v m c) _).trans (valueTiles_at _ b h d s))

end Cert.ForwardIdeal.Attn

end
-- ==== Proof.FwdRef.lean ====
/-
  THE FORWARD REFERENCE AT AN INDEX: on queries and keys holding real numbers, and any values, its two results are the attention's
  rows, packed, and the logarithms in base two of the rows' masses, each repeated over eight rows.
-/
module

public import proofs.«01_k».proof.Proof.Gen.ForwardRefIdeal.Read
public import proofs.«01_k».proof.Proof.FwdPoint
public import proofs.«01_k».proof.Proof.Stages

@[expose] public section

noncomputable section

namespace Cert.ForwardIdeal.Attn

open Idealize.ShloMosaic hiding ix0 ix1 ix2 ix3 ix4
open Idealize.ShloMosaic.ValueIdx Idealize.ShloMosaic.TcCoe
open Cert.ForwardRefIdeal Cert.ForwardRefIdeal.Gen Cert.ForwardRefIdeal.Read Cert.AttnGrad
open Cert.KernelIdeal.AttnGrad (packedV packedV_at statRows statRows_at row log_two_ne)
open scoped BigOperators

/-- The attention's rows, packed, and the masses' logarithms, as the kernel lays them out. -/
def attnPacked (A : Inputs) (W : Values) : S4096x512.Idx → EReal := fun y =>
  attnRow A W (⟨(y 1).val / 64, by have h : (y 1).val < 512 := (y 1).isLt; omega⟩ : Fin 8) (y 0)
    (⟨(y 1).val % 64, Nat.mod_lt _ (by decide)⟩ : Fin 64)

def massPacked (A : Inputs) : S16x64x256.Idx → EReal := fun y =>
  ((Real.log (A.mass (⟨(y 1).val / 8, by have h : (y 1).val < 64 := (y 1).isLt; omega⟩ : Fin 8) (row (y 0) (y 2))) / Real.log 2 : ℝ) : EReal)

/-- Both masks of the reference are the backward reference's. -/
theorem fwd_mask : val_main_v9 (F := Ideal) = Cert.ReferenceIdeal.Read.val_main_v9 (F := Ideal) := rfl

theorem fwd_mask' : val_main_v30 (F := Ideal) = Cert.ReferenceIdeal.Read.val_main_v9 (F := Ideal) := rfl

section
variable {A : Inputs} {x0 x1 : (⟨S8x4096x96, .f32⟩ : BufTy).Contents (Elt Ideal)}
  {x2 x3 : (⟨S8x4096x64, .f32⟩ : BufTy).Contents (Elt Ideal)} (H : Holds A x0 x1 x2 x3)
include H

theorem fwd_scaled (h : Fin 8) (i : Fin 4096) (d : Fin 96) :
    val_main_v1 (F := Ideal) x0 (ix3 h i d) = ((A.q h i d * scale : ℝ) : EReal) := ref_scaled H h i d

theorem fwd_score (h : Fin 8) (i t : Fin 4096) :
    val_main_v2 (F := Ideal) x0 x1 (ix3 h i t) = ((A.score h i t : ℝ) : EReal) := ref_score H h i t

theorem fwd_masked : Masked A (val_main_v10 (F := Ideal) x0 x1) := fun h i t => by
  rw [val_main_v10_apply, fwd_score H, val_main_call1_v1_apply, fwd_mask]
  rw [show idx_main_call1_v1 (ix3 h i t) = ix2 i t from funext fun a => match a with | ⟨0, _⟩ => rfl | ⟨1, _⟩ => rfl]
  show (if Cert.ReferenceIdeal.Read.val_main_v9 (F := Ideal) (ix2 i t) = 1#1 then _ else Ideal.ofBits .f32 0xFF800000#32) = _
  rw [bot_word]
  exact if_congr (mask_at i t) rfl rfl

theorem fwd_max (h : Fin 8) (i : Fin 4096) : ∃ r : ℝ, val_main_v13 (F := Ideal) x0 x1 (ix2 h i) = (r : EReal) := by
  obtain ⟨r, hr⟩ := row_max A _ (fwd_masked H) (val_main_cst_1 (F := Ideal)) bot_word h i
  refine ⟨r, ?_⟩
  rw [val_main_v13_apply]
  show max (Ideal.ofBits .f32 0xFF800000#32) (val_main_v11 (F := Ideal) x0 x1 (ix2 h i)) = _
  rw [bot_word, show val_main_v11 (F := Ideal) x0 x1 (ix2 h i) = (r : EReal) from hr]
  exact max_eq_right bot_le

theorem fwd_exp {h : Fin 8} {i : Fin 4096} {r : ℝ} (hr : val_main_v13 (F := Ideal) x0 x1 (ix2 h i) = (r : EReal)) (t : Fin 4096) :
    val_main_v17 (F := Ideal) x0 x1 (ix3 h i t) = ((A.shifted h i t r : ℝ) : EReal) := by
  rw [val_main_v17_apply, val_main_v16_apply, val_main_v15_apply, val_main_v14_apply, fwd_masked H]
  rw [show idx_main_v14 (idx_main_v15 (ix3 h i t)) = ix2 h i from funext fun a => match a with | ⟨0, _⟩ => rfl | ⟨1, _⟩ => rfl, hr]
  exact exp_masked A h i t r

theorem fwd_prob (h : Fin 8) (i t : Fin 4096) : val_main_v21 (F := Ideal) x0 x1 (ix3 h i t) = ((A.prob h i t : ℝ) : EReal) := by
  obtain ⟨r, hr⟩ := fwd_max H h i
  rw [val_main_v21_apply, val_main_v20_apply, val_main_v19_apply, fwd_exp H hr]
  rw [show idx_main_v19 (idx_main_v20 (ix3 h i t)) = ix2 h i from funext fun a => match a with | ⟨0, _⟩ => rfl | ⟨1, _⟩ => rfl, val_main_v18_apply]
  have e : ∀ k : Fin 4096, val_main_v17 (F := Ideal) x0 x1 (idx_main_v18 (ix2 h i) k) = ((A.shifted h i k r : ℝ) : EReal) := fun k => by
    rw [show idx_main_v18 (ix2 h i) k = ix3 h i k from funext fun a => match a with | ⟨0, _⟩ => rfl | ⟨1, _⟩ => rfl | ⟨2, _⟩ => rfl]
    exact fwd_exp H hr k
  rw [Finset.sum_congr rfl fun k _ => e k, ← coe_sum]
  show Ideal.div _ (Ideal.ofBits .f32 0x00000000#32 + _) = _
  rw [zero_word, zero_add]
  exact (div_real _ _ (A.shifted_sum_pos h i r).ne').trans (congrArg _ (A.shifted_div h i t r))

theorem fwd_row (x : (⟨S8x4096x64, .f32⟩ : BufTy).Contents (Elt Ideal)) (h : Fin 8) (i : Fin 4096) (d : Fin 64) :
    val_main_v22 (F := Ideal) x0 x1 x (ix3 h i d) = attnRow A (valuesOf x) h i d := by
  rw [val_main_v22_apply]
  refine Finset.sum_congr rfl fun k _ => ?_
  rw [show lidx_main_v22 (ix3 h i d) k = ix3 h i k from funext fun a => match a with | ⟨0, _⟩ => rfl | ⟨1, _⟩ => rfl | ⟨2, _⟩ => rfl,
    show ridx_main_v22 (ix3 h i d) k = ix3 h k d from funext fun a => match a with | ⟨0, _⟩ => rfl | ⟨1, _⟩ => rfl | ⟨2, _⟩ => rfl,
    fwd_prob H]
  rfl

/-! ## The masses' logarithms -/

theorem fwd_masked' : Masked A (val_main_v31 (F := Ideal) x0 x1) := fun h i t => by
  rw [val_main_v31_apply, show val_main_v23 (F := Ideal) x0 x1 (ix3 h i t) = ((A.score h i t : ℝ) : EReal) from ref_score H h i t,
    val_main_call3_v1_apply, fwd_mask']
  rw [show idx_main_call3_v1 (ix3 h i t) = ix2 i t from funext fun a => match a with | ⟨0, _⟩ => rfl | ⟨1, _⟩ => rfl]
  show (if Cert.ReferenceIdeal.Read.val_main_v9 (F := Ideal) (ix2 i t) = 1#1 then _ else Ideal.ofBits .f32 0xFF800000#32) = _
  rw [bot_word]
  exact if_congr (mask_at i t) rfl rfl

theorem fwd_lse (h : Fin 8) (i : Fin 4096) :
    val_main_v42 (F := Ideal) x0 x1 (ix2 h i) = ((Real.log (A.mass h i) / Real.log 2 : ℝ) : EReal) := by
  obtain ⟨r, hr⟩ := row_max A _ (fwd_masked' H) (val_main_cst_6 (F := Ideal)) bot_word h i
  have hr' : val_main_v32 (F := Ideal) x0 x1 (ix2 h i) = (r : EReal) := hr
  rw [val_main_v42_apply, val_main_v39_apply, hr', val_main_v38_apply, val_main_v37_apply, val_main_v41_apply]
  have e : ∀ k : Fin 4096, val_main_v36 (F := Ideal) x0 x1 (idx_main_v37 (ix2 h i) k) = ((A.shifted h i k r : ℝ) : EReal) := fun k => by
    rw [show idx_main_v37 (ix2 h i) k = ix3 h i k from funext fun a => match a with | ⟨0, _⟩ => rfl | ⟨1, _⟩ => rfl | ⟨2, _⟩ => rfl]
    rw [val_main_v36_apply, val_main_v35_apply, val_main_v34_apply, val_main_v33_apply, fwd_masked' H]
    rw [show idx_main_v33 (idx_main_v34 (ix3 h i k)) = ix2 h i from funext fun a => match a with | ⟨0, _⟩ => rfl | ⟨1, _⟩ => rfl, hr']
    exact exp_masked A h i k r
  rw [Finset.sum_congr rfl fun k _ => e k, ← coe_sum]
  show Ideal.div ((r : EReal) + Ideal.log (Ideal.ofBits .f32 0x00000000#32 + ((∑ t, A.shifted h i t r : ℝ) : EReal))) (Ideal.log (Ideal.ofBits .f32 0x40000000#32))
    = ((Real.log (A.mass h i) / Real.log 2 : ℝ) : EReal)
  rw [zero_word, zero_add, two_word, Ideal.log_coe, Ideal.log_coe, if_neg (not_le.2 (A.shifted_sum_pos h i r)), if_neg (by norm_num),
    ← EReal.coe_add, div_real _ _ log_two_ne, A.log_shifted_sum]

/-! ## The two results, laid out -/

theorem ref_attn (x : (⟨S8x4096x64, .f32⟩ : BufTy).Contents (Elt Ideal)) :
    val_main_v47 (F := Ideal) x0 x1 x = attnPacked A (valuesOf x) := by
  funext y
  obtain ⟨t, n, rfl⟩ : ∃ (t : Fin 4096) (n : Fin 512), y = ix2 t n := ⟨y 0, y 1, by
    funext a; match a with | ⟨0, _⟩ => rfl | ⟨1, _⟩ => rfl⟩
  exact (show val_main_v47 (F := Ideal) x0 x1 x (ix2 t n) = packedV (val_main_v22 (F := Ideal) x0 x1 x) (ix2 t n) from rfl).trans
    ((packedV_at _ t n).trans (fwd_row H x _ _ _))

theorem ref_masses : val_main_v48 (F := Ideal) x0 x1 = massPacked A := by
  funext y
  obtain ⟨b, s, r, rfl⟩ : ∃ (b : Fin 16) (s : Fin 64) (r : Fin 256), y = ix3 b s r := ⟨y 0, y 1, y 2, by
    funext a; match a with | ⟨0, _⟩ => rfl | ⟨1, _⟩ => rfl | ⟨2, _⟩ => rfl⟩
  exact (show val_main_v48 (F := Ideal) x0 x1 (ix3 b s r) = statRows (val_main_v42 (F := Ideal) x0 x1) (ix3 b s r) from rfl).trans
    ((statRows_at _ b s r).trans (fwd_lse H _ _))

end

end Cert.ForwardIdeal.Attn

end
-- ==== Proof.FwdFinal.lean ====
/-
  THE RESULTS OF THE FORWARD LAUNCH: the two arrays it leaves are the attention's rows, packed, and the logarithms in base two
  of the rows' masses; every grid point writes its own query tile. And queries and keys that the precondition accepts hold reals.
-/
module

public import proofs.«01_k».proof.Pre_finite11
public import proofs.«01_k».proof.Proof.FwdHost
public import proofs.«01_k».proof.Proof.FwdRef
public import proofs.«01_k».proof.Proof.Finite

@[expose] public section

noncomputable section

namespace Cert.ForwardIdeal.Attn

open Idealize.ShloMosaic hiding ix0 ix1 ix2 ix3 ix4
open Idealize.ShloMosaic.ValueIdx Idealize.ShloMosaic.TcCoe
open Idealize.ShloMosaic.Pipeline (Dat Cfg Window)
open Cert.ForwardIdeal Cert.ForwardIdeal.Gen Cert.AttnGrad
open Cert.KernelIdeal.AttnGrad (row)

/-- The side conditions of the precondition's operations. -/
theorem finite_facts : Cert.Pre_finite11.Facts := ⟨by decide, by decide, by decide⟩

/-- Zeros, where the backward call's facts speak of finite values and cotangents: the rows below use neither. -/
def absent : Cert.Pre_finite.S8x4096x64.Idx → EReal := fun _ => 0

/-- Queries and keys that the precondition accepts hold the reals of their elements. -/
theorem holds_of_finite [Cert.Pre_finite11.Facts] (x0 x1 : FVec Ideal Cert.Pre_finite11.S8x4096x96 .f32) (x2 : FVec Ideal Cert.Pre_finite11.S8x4096x64 .f32)
    (h : Cert.Pre_finite11.fn (F := Ideal) x0 x1 x2 = fun _ => 1#1) : Holds (realsOf x0 x1 absent absent) x0 x1 absent absent := by
  obtain ⟨r0, r1⟩ := and_split _ _ _ (congrFun h (fun a => a.elim0))
  have z : (0 : EReal) = (((0 : EReal).toReal : ℝ) : EReal) := by rw [EReal.toReal_zero, EReal.coe_zero]
  exact ⟨fun a b d => (reals_of_all x0 _ _ _ _ r0 _).symm, fun a b d => (reals_of_all x1 _ _ _ _ r1 _).symm, fun _ _ _ => z, fun _ _ _ => z⟩

variable (m : (ℓ : Loc nD τ sig) → Buf (Elt Ideal) ℓ) (c : Dev nD)
variable {A : Inputs} {x2 x3 : S8x4096x64.Idx → EReal} (H : Holds A (argQ m c) (argK m c) x2 x3)
include H

/-- What a grid point writes. -/
theorem out_block (t : Fin cfg0.N) (r : Fin 256) (n : Fin 512) :
    (outsAt0 m c t).1 (ix2 r n) = attnPacked A (valuesOf (argV m c)) (ix2 (row (tileAt t) r) n) := by
  obtain ⟨h, d, rfl⟩ : ∃ (h : Fin 8) (d : Fin 64), n = outCol h d := ⟨⟨n.val / 64, by omega⟩, ⟨n.val % 64, Nat.mod_lt _ (by decide)⟩, Fin.ext (by
    show n.val = 64 * (n.val / 64) + n.val % 64
    omega)⟩
  have e := (run_outs c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (iblk m c 0 t) (iblk m c 1 t) (iblk m c 2 t) (tileAt t) (coord_tile t)).1 h d r
  unfold outsAt0
  refine e.trans ((out_num (point_holds m c H t) h d r).trans ?_)
  have e1 : (⟨(outCol h d).val / 64, by omega⟩ : Fin 8) = h := Fin.ext (by
    show (64 * h.val + d.val) / 64 = h.val
    omega)
  have e2 : (⟨(outCol h d).val % 64, by omega⟩ : Fin 64) = d := Fin.ext (by
    show (64 * h.val + d.val) % 64 = d.val
    omega)
  show _ = attnRow A (valuesOf (argV m c)) (⟨(outCol h d).val / 64, _⟩ : Fin 8) (row (tileAt t) r) (⟨(outCol h d).val % 64, _⟩ : Fin 64)
  rw [e1, e2]

theorem lse_block (t : Fin cfg0.N) (s : Fin 64) (r : Fin 256) :
    (outsAt0 m c t).2 (ix3 (0 : Fin 1) s r) = massPacked A (ix3 (tileAt t) s r) := by
  obtain ⟨h, k, rfl⟩ : ∃ (h k : Fin 8), s = statRow h k := ⟨⟨s.val / 8, by omega⟩, ⟨s.val % 8, Nat.mod_lt _ (by decide)⟩, Fin.ext (by
    show s.val = 8 * (s.val / 8) + s.val % 8
    omega)⟩
  have e := (run_outs c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (iblk m c 0 t) (iblk m c 1 t) (iblk m c 2 t) (tileAt t) (coord_tile t)).2 h k r
  have e' := e.trans (lse_num (point_holds m c H t) h r)
  simp only [outsAt0]
  refine Eq.trans e' ?_
  have e1 : (⟨(statRow h k).val / 8, by omega⟩ : Fin 8) = h := Fin.ext (by
    show (8 * h.val + k.val) / 8 = h.val
    omega)
  show _ = ((Real.log (A.mass (⟨(statRow h k).val / 8, _⟩ : Fin 8) (row (tileAt t) r)) / Real.log 2 : ℝ) : EReal)
  rw [e1]

/-- The attention's output, whole. -/
theorem final_out : (dats m 0 c).arrAt 3 cfg0.N = attnPacked A (valuesOf (argV m c)) := by
  refine (dats m 0 c).arrAt_eq_of_covers 3 _ (by decide +kernel) fun t hf y => ?_
  have e := index_3 t
  blk_simp
  rw [after0_3]
  obtain ⟨r, n, rfl⟩ : ∃ (r : Fin 256) (n : Fin 512), y = ix2 r n :=
    ⟨y 0, y 1, funext fun a => match a with | ⟨0, _⟩ => rfl | ⟨1, _⟩ => rfl⟩
  refine (out_block m c H t r n).trans (congrArg (attnPacked A (valuesOf (argV m c))) ?_)
  blk_ext [e, tileAt, row] <;> first | (change _ = _ * _ + r.val; omega) | (change _ = _ * _ + n.val; omega)

/-- The masses' logarithms, whole. -/
theorem final_lse : (dats m 0 c).arrAt 4 cfg0.N = massPacked A := by
  refine (dats m 0 c).arrAt_eq_of_covers 4 _ (by decide +kernel) fun t hf y => ?_
  have e := index_4 t
  blk_simp
  rw [after0_4]
  obtain ⟨s, r, rfl⟩ : ∃ (s : Fin 64) (r : Fin 256), y = ix3 (0 : Fin 1) s r :=
    ⟨y 1, y 2, funext fun a => match a with | ⟨0, _⟩ => Fin.ext (by have h : (y 0).val < 1 := (y 0).isLt; show (y 0).val = 0; omega) | ⟨1, _⟩ => rfl | ⟨2, _⟩ => rfl⟩
  refine (lse_block m c H t s r).trans (congrArg (massPacked A) ?_)
  blk_ext [e, tileAt] <;> first | (change _ = _ * _ + s.val; omega) | (change _ = _ * _ + r.val; omega)

end Cert.ForwardIdeal.Attn

end
-- ==== Proof.Step.lean ====
/-
  THE OPTIMISER'S STEP, AT ONE WEIGHT: the moments' decayed means and the weight's change as functions of extended reals,
  with the constants the program carries; and a page of a slab, read at an index.
-/
module

public import proofs.«01_k».proof.Proof.Products
public import Idealize.ShloMosaic.Lib.StableHlo.RunRead
public import Idealize.ShloMosaic.Lib.Claim
public import Idealize.ShloMosaic.Lib.Pipeline.ValueKit.Geometry
public import Idealize.ShloMosaic.Lib.Pipeline.ValueKit.Tiles

@[expose] public section

noncomputable section

namespace Cert.Step

open Idealize.ShloMosaic
open Idealize.ShloMosaic.ValueIdx
open Cert.Products
open scoped BigOperators

/-- The first moment after a gradient `g`. -/
def first (m g : EReal) : EReal :=
  FloatOps.ofBits (F := Ideal) .f32 0x3F666666#32 * m + FloatOps.ofBits (F := Ideal) .f32 0x3DCCCCCD#32 * g

/-- The second moment after a gradient `g`. -/
def second (v g : EReal) : EReal :=
  FloatOps.ofBits (F := Ideal) .f32 0x3F7FBE77#32 * v + FloatOps.ofBits (F := Ideal) .f32 0x3A83126F#32 * (g * g)

/-- The weight's change: the corrected first moment over the root of the corrected second one, and the weight's decay. -/
def change (w m v : EReal) : EReal :=
  FloatOps.ofBits (F := Ideal) .f32 0xBA83126F#32 *
    (Ideal.div (Ideal.div m (FloatOps.ofBits (F := Ideal) .f32 0x3F26BD02#32))
        (Ideal.sqrt (Ideal.div v (FloatOps.ofBits (F := Ideal) .f32 0x3C231ACC#32)) + FloatOps.ofBits (F := Ideal) .f32 0x322BCC77#32)
      + FloatOps.ofBits (F := Ideal) .f32 0x3C23D70A#32 * w)

/-- Page `p` of a slab, with the page axis dropped, read at row `i` and column `j`. -/
theorem page_at {P R C : ℕ} {e : EltTy} (x : Vec Ideal ⟨3, ![P, R, C]⟩ e) (p : Fin P)
    (inb : ∀ a, (![p.val, 0, 0] : Fin 3 → ℕ) a + (![1, R, C] : Fin 3 → ℕ) a ≤ (![P, R, C] : Fin 3 → ℕ) a)
    (h : (⟨3, ![1, R, C]⟩ : Shape).ShapeCasts ⟨2, ![R, C]⟩) (i : Fin R) (j : Fin C) :
    shapeCast (s := ⟨3, ![1, R, C]⟩) ⟨2, ![R, C]⟩
        (View.ld x (Rect.unit (s := ⟨3, ![P, R, C]⟩) ![p.val, 0, 0] ![1, R, C] inb)) h (ix2 i j) = x (ix3 p i j) := by
  refine (shapeCast_dropUnit_apply ![R, C] _ h (ix2 i j)).trans (View.ld_unit_apply_of x _ _ inb _ _ fun a => ?_)
  match a with
  | ⟨0, _⟩ => rfl
  | ⟨1, _⟩ => exact (Nat.zero_add i.val).symm
  | ⟨2, _⟩ => exact (Nat.zero_add j.val).symm

end Cert.Step

end
-- ==== Proof.StepShared.lean ====
/-
  THE STEP OF THE SHARED SMALL WEIGHTS: the devices' eight gradients summed and the step taken; what the launch leaves is
  what the reference says, result by result.
-/
module

public import proofs.«01_k».proof.Proof.Step
public import proofs.«01_k».proof.Proof.Maths
public import proofs.«01_k».proof.Proof.Gen.StepSharedIdeal.Value
public import proofs.«01_k».proof.Proof.Gen.StepSharedRefIdeal.Read

@[expose] public section

noncomputable section

namespace Cert.StepSharedIdeal.Step

open Idealize.ShloMosaic
open Idealize.ShloMosaic.ValueIdx
open Cert.StepSharedIdeal Cert.StepSharedIdeal.Gen Cert.Products Cert.Step
open scoped BigOperators

variable (x : Vec Ideal S8x24x1024 .f32) (w m v : Vec Ideal S24x1024 .f32)

/-- The sum of the eight gradients, in the kernel's order. -/
theorem sum_at (i : Fin 24) (j : Fin 1024) :
    k0_pay5 (F := Ideal) x w m v (ix2 i j) = ∑ p : Fin 8, x (ix3 p i j) := by
  unfold k0_pay5 k0_pay3
  rw [Fin.sum_univ_eight]
  exact congrArg₂ (· + ·) (congrArg₂ (· + ·) (congrArg₂ (· + ·) (congrArg₂ (· + ·) (congrArg₂ (· + ·) (congrArg₂ (· + ·)
    (congrArg₂ (· + ·) (page_at x 0 _ _ i j) (page_at x 1 _ _ i j)) (page_at x 2 _ _ i j)) (page_at x 3 _ _ i j))
    (page_at x 4 _ _ i j)) (page_at x 5 _ _ i j)) (page_at x 6 _ _ i j)) (page_at x 7 _ _ i j)

/-- The reference's sum of the eight gradients. -/
theorem want_at (i : Fin 24) (j : Fin 1024) :
    Cert.StepSharedRefIdeal.Read.val_main_v0 (F := Ideal) x (ix2 i j) = ∑ p : Fin 8, x (ix3 p i j) := by
  refine (Cert.StepSharedRefIdeal.Read.val_main_v0_apply x (ix2 i j)).trans ?_
  refine (congrArg₂ (· + ·) Cert.AttnGrad.zero_word (Finset.sum_congr rfl fun p _ => congrArg x ?_)).trans (zero_add _)
  exact funext fun a => match a with | ⟨0, _⟩ => rfl | ⟨1, _⟩ => rfl | ⟨2, _⟩ => rfl

/-- The gradient. -/
theorem total_eq : k0_pay5 (F := Ideal) x w m v = Cert.StepSharedRefIdeal.Read.val_main_v0 (F := Ideal) x := by
  funext y
  obtain ⟨i, j, rfl⟩ : ∃ (i : Fin 24) (j : Fin 1024), y = ix2 i j := ext2 y
  exact (sum_at x w m v i j).trans (want_at x i j).symm

theorem grad : Value.G4 (F := Ideal) x w m v = Cert.StepSharedRefIdeal.Read.val_main_v0 (F := Ideal) x := total_eq x w m v

theorem m_at (y : S24x1024.Idx) : Value.G6 (F := Ideal) x w m v y = first (m y) (k0_pay5 (F := Ideal) x w m v y) := by
  unfold Value.G6 k0_pay6 k0_pay4
  rw [View.ld_unit_zero offsets2]
  rfl
theorem v_at (y : S24x1024.Idx) : Value.G7 (F := Ideal) x w m v y = second (v y) (k0_pay5 (F := Ideal) x w m v y) := rfl
theorem d_at (y : S24x1024.Idx) : Value.G5 (F := Ideal) x w m v y
    = change (w y) (Value.G6 (F := Ideal) x w m v y) (Value.G7 (F := Ideal) x w m v y) := rfl

theorem want_m_at (y : S24x1024.Idx) : Cert.StepSharedRefIdeal.Read.val_main_v5 (F := Ideal) x m y
    = first (m y) (Cert.StepSharedRefIdeal.Read.val_main_v0 (F := Ideal) x y) := rfl
theorem want_v_at (y : S24x1024.Idx) : Cert.StepSharedRefIdeal.Read.val_main_v11 (F := Ideal) x v y
    = second (v y) (Cert.StepSharedRefIdeal.Read.val_main_v0 (F := Ideal) x y) := rfl
theorem want_d_at (y : S24x1024.Idx) : Cert.StepSharedRefIdeal.Read.val_main_v24 (F := Ideal) x w m v y
    = change (w y) (Cert.StepSharedRefIdeal.Read.val_main_v5 (F := Ideal) x m y)
      (Cert.StepSharedRefIdeal.Read.val_main_v11 (F := Ideal) x v y) := rfl

theorem mean : Value.G6 (F := Ideal) x w m v = Cert.StepSharedRefIdeal.Read.val_main_v5 (F := Ideal) x m := by
  funext y
  rw [m_at, want_m_at, total_eq]

theorem square : Value.G7 (F := Ideal) x w m v = Cert.StepSharedRefIdeal.Read.val_main_v11 (F := Ideal) x v := by
  funext y
  rw [v_at, want_v_at, total_eq]

theorem delta : Value.G5 (F := Ideal) x w m v = Cert.StepSharedRefIdeal.Read.val_main_v24 (F := Ideal) x w m v := by
  funext y
  rw [d_at, want_d_at, mean, square]

end Cert.StepSharedIdeal.Step

end
-- ==== Proof.StepAda.lean ====
/-
  THE STEP OF THE MODULATION WEIGHT, BLOCK BY BLOCK: what the launch leaves is what the reference says, result by result.
-/
module

public import proofs.«01_k».proof.Proof.Step
public import proofs.«01_k».proof.Proof.Maths
public import proofs.«01_k».proof.Proof.Gen.StepAdaIdeal.Value
public import proofs.«01_k».proof.Proof.Gen.StepAdaRefIdeal.Read

@[expose] public section

noncomputable section

namespace Cert.StepAdaIdeal.Step

open Idealize.ShloMosaic
open Idealize.ShloMosaic.ValueIdx Idealize.ShloMosaic.TcCoe
open Idealize.ShloMosaic.Pipeline (Dat Cfg Window)
open Cert.StepAdaIdeal Cert.StepAdaIdeal.Gen Cert.Products Cert.Step
open scoped BigOperators

variable (m : (ℓ : Loc nD τ sig) → Buf (Elt Ideal) ℓ) (c : Dev nD)

/-- The gradient, the weight and the two moments, as the program finds them. -/
abbrev argG : FVec Ideal S1x4096x384 .f32 := m ((c : Thread nD τ).loc main_arg0)
abbrev argW : FVec Ideal S4096x384 .f32 := m ((c : Thread nD τ).loc main_arg1)
abbrev argM : FVec Ideal S4096x384 .f32 := m ((c : Thread nD τ).loc main_arg2)
abbrev argV : FVec Ideal S4096x384 .f32 := m ((c : Thread nD τ).loc main_arg3)

theorem index_0 : ∀ t : Fin cfg0.N, win0_0.index t = ![0, t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)

/-- Row `256 t + r` of the weight. -/
def row (t : Fin cfg0.N) (r : Fin 256) : Fin 4096 := ⟨256 * t.val + r.val, by have h : t.val < 16 := t.isLt; omega⟩

theorem at_0 (t : Fin cfg0.N) (i : Fin 256) (j : Fin 384) : iblk m c 0 t (ix3 0 i j) = argG m c (ix3 0 (row t i) j) := by
  have e := index_0 t
  blk_simp [iblk]
  exact congrArg (argG m c) (by blk_ext [e, row] <;> first | rfl | (change _ * _ + i.val = _; omega) | (change _ * _ + j.val = _; omega))

theorem at_1 (t : Fin cfg0.N) (i : Fin 256) (j : Fin 384) : iblk m c 1 t (ix2 i j) = argW m c (ix2 (row t i) j) := by
  have e := index_1 t
  blk_simp [iblk]
  exact congrArg (argW m c) (by blk_ext [e, row] <;> first | (change _ * _ + i.val = _; omega) | (change _ * _ + j.val = _; omega))

theorem at_2 (t : Fin cfg0.N) (i : Fin 256) (j : Fin 384) : iblk m c 2 t (ix2 i j) = argM m c (ix2 (row t i) j) := by
  have e := index_2 t
  blk_simp [iblk]
  exact congrArg (argM m c) (by blk_ext [e, row] <;> first | (change _ * _ + i.val = _; omega) | (change _ * _ + j.val = _; omega))

theorem at_3 (t : Fin cfg0.N) (i : Fin 256) (j : Fin 384) : iblk m c 3 t (ix2 i j) = argV m c (ix2 (row t i) j) := by
  have e := index_3 t
  blk_simp [iblk]
  exact congrArg (argV m c) (by blk_ext [e, row] <;> first | (change _ * _ + i.val = _; omega) | (change _ * _ + j.val = _; omega))

section Payloads

variable (g : Vec Ideal S1x256x384 .f32) (w p q : Vec Ideal S256x384 .f32) (i : Fin 256) (j : Fin 384)

theorem k_grad : k0_pay1 (F := Ideal) (View.ld g r0_0) (ix2 i j) = g (ix3 0 i j) := page_at g 0 _ _ i j

/-- What a grid point stores, at an index. -/
theorem pay_4 : out0_4 (F := Ideal) g w p q (ix2 i j) = g (ix3 0 i j) := by
  unfold out0_4
  rw [View.canon_unit_zero offsets2]
  exact k_grad g i j

theorem pay_6 : out0_6 (F := Ideal) g w p q (ix2 i j) = first (p (ix2 i j)) (g (ix3 0 i j)) := by
  unfold out0_6
  rw [View.canon_unit_zero offsets2, View.ld_unit_zero offsets2 _ p]
  exact congrArg (first _) (k_grad g i j)

theorem pay_7 : out0_7 (F := Ideal) g w p q (ix2 i j) = second (q (ix2 i j)) (g (ix3 0 i j)) := by
  unfold out0_7
  rw [View.canon_unit_zero offsets2, View.ld_unit_zero offsets2 _ q]
  exact congrArg (second _) (k_grad g i j)

theorem pay_5 : out0_5 (F := Ideal) g w p q (ix2 i j)
    = change (w (ix2 i j)) (first (p (ix2 i j)) (g (ix3 0 i j))) (second (q (ix2 i j)) (g (ix3 0 i j))) := by
  unfold out0_5
  rw [View.canon_unit_zero offsets2, View.ld_unit_zero offsets2 _ w, View.ld_unit_zero offsets2 _ p,
    View.ld_unit_zero offsets2 _ q]
  exact congrArg (fun a => change (w (ix2 i j)) (first (p (ix2 i j)) a) (second (q (ix2 i j)) a)) (k_grad g i j)

end Payloads

section Wanted

variable (g : Vec Ideal S1x4096x384 .f32) (w p q : Vec Ideal S4096x384 .f32) (i : Fin 4096) (j : Fin 384)

/-- The reference's values. -/
abbrev want4 := Cert.StepAdaRefIdeal.Read.val_main_v0 (F := Ideal) g
abbrev want5 := Cert.StepAdaRefIdeal.Read.val_main_v24 (F := Ideal) g w p q
abbrev want6 := Cert.StepAdaRefIdeal.Read.val_main_v5 (F := Ideal) g p
abbrev want7 := Cert.StepAdaRefIdeal.Read.val_main_v11 (F := Ideal) g q

theorem want4_at : want4 g (ix2 i j) = g (ix3 0 i j) := by
  refine (Cert.StepAdaRefIdeal.Read.val_main_v0_apply g (ix2 i j)).trans ?_
  rw [Fin.sum_univ_one]
  refine (congrArg₂ (· + ·) Cert.AttnGrad.zero_word (congrArg g ?_)).trans (zero_add _)
  exact funext fun a => match a with | ⟨0, _⟩ => rfl | ⟨1, _⟩ => rfl | ⟨2, _⟩ => rfl

theorem want6_at : want6 g p (ix2 i j) = first (p (ix2 i j)) (g (ix3 0 i j)) := by
  have h : want6 g p (ix2 i j) = first (p (ix2 i j)) (want4 g (ix2 i j)) := rfl
  rw [h, want4_at]

theorem want7_at : want7 g q (ix2 i j) = second (q (ix2 i j)) (g (ix3 0 i j)) := by
  have h : want7 g q (ix2 i j) = second (q (ix2 i j)) (want4 g (ix2 i j)) := rfl
  rw [h, want4_at]

theorem want5_at : want5 g w p q (ix2 i j)
    = change (w (ix2 i j)) (first (p (ix2 i j)) (g (ix3 0 i j))) (second (q (ix2 i j)) (g (ix3 0 i j))) := by
  have h : want5 g w p q (ix2 i j) = change (w (ix2 i j)) (want6 g p (ix2 i j)) (want7 g q (ix2 i j)) := rfl
  rw [h, want6_at, want7_at]

end Wanted

/-- The four results, whole. -/
theorem grad : (dats m 0 c).arrAt 4 cfg0.N = want4 (argG m c) := by
  refine (dats m 0 c).arrAt_eq_of_covers 4 _ (by decide +kernel) fun t hf y => ?_
  have e := index_4 t
  blk_simp
  rw [after0_4]
  obtain ⟨i, j, rfl⟩ : ∃ (i : Fin 256) (j : Fin 384), y = ix2 i j := ext2 y
  refine (pay_4 _ _ _ _ i j).trans ((at_0 m c t i j).trans ((want4_at (argG m c) (row t i) j).symm.trans (congrArg (want4 (argG m c)) ?_)))
  blk_ext [e, row] <;> first | (change _ = _ * _ + i.val; omega) | (change _ = _ * _ + j.val; omega)

theorem mean : (dats m 0 c).arrAt 6 cfg0.N = want6 (argG m c) (argM m c) := by
  refine (dats m 0 c).arrAt_eq_of_covers 6 _ (by decide +kernel) fun t hf y => ?_
  have e := index_6 t
  blk_simp
  rw [after0_6]
  obtain ⟨i, j, rfl⟩ : ∃ (i : Fin 256) (j : Fin 384), y = ix2 i j := ext2 y
  refine (pay_6 _ _ _ _ i j).trans ((congrArg₂ first (at_2 m c t i j) (at_0 m c t i j)).trans
    ((want6_at (argG m c) (argM m c) (row t i) j).symm.trans (congrArg (want6 (argG m c) (argM m c)) ?_)))
  blk_ext [e, row] <;> first | (change _ = _ * _ + i.val; omega) | (change _ = _ * _ + j.val; omega)

theorem square : (dats m 0 c).arrAt 7 cfg0.N = want7 (argG m c) (argV m c) := by
  refine (dats m 0 c).arrAt_eq_of_covers 7 _ (by decide +kernel) fun t hf y => ?_
  have e := index_7 t
  blk_simp
  rw [after0_7]
  obtain ⟨i, j, rfl⟩ : ∃ (i : Fin 256) (j : Fin 384), y = ix2 i j := ext2 y
  refine (pay_7 _ _ _ _ i j).trans ((congrArg₂ second (at_3 m c t i j) (at_0 m c t i j)).trans
    ((want7_at (argG m c) (argV m c) (row t i) j).symm.trans (congrArg (want7 (argG m c) (argV m c)) ?_)))
  blk_ext [e, row] <;> first | (change _ = _ * _ + i.val; omega) | (change _ = _ * _ + j.val; omega)

theorem delta : (dats m 0 c).arrAt 5 cfg0.N = want5 (argG m c) (argW m c) (argM m c) (argV m c) := by
  refine (dats m 0 c).arrAt_eq_of_covers 5 _ (by decide +kernel) fun t hf y => ?_
  have e := index_5 t
  blk_simp
  rw [after0_5]
  obtain ⟨i, j, rfl⟩ : ∃ (i : Fin 256) (j : Fin 384), y = ix2 i j := ext2 y
  refine (pay_5 _ _ _ _ i j).trans (Eq.trans ?_
    ((want5_at (argG m c) (argW m c) (argM m c) (argV m c) (row t i) j).symm.trans
      (congrArg (want5 (argG m c) (argW m c) (argM m c) (argV m c)) ?_)))
  · rw [at_0, at_1, at_2, at_3]
  · blk_ext [e, row] <;> first | (change _ = _ * _ + i.val; omega) | (change _ = _ * _ + j.val; omega)

end Cert.StepAdaIdeal.Step

end
-- ==== Proof.StepSmall.lean ====
/-
  THE STEP OF THE SMALL WEIGHTS KEPT IN PARTS: a device's own gradient and the seven received ones summed, and the step
  taken; what the launch leaves is what the reference says, result by result.
-/
module

public import proofs.«01_k».proof.Proof.Step
public import proofs.«01_k».proof.Proof.Maths
public import proofs.«01_k».proof.Proof.Gen.StepSmallIdeal.Value
public import proofs.«01_k».proof.Proof.Gen.StepSmallRefIdeal.Read

@[expose] public section

noncomputable section

namespace Cert.StepSmallIdeal.Step

open Idealize.ShloMosaic
open Idealize.ShloMosaic.ValueIdx
open Cert.StepSmallIdeal Cert.StepSmallIdeal.Gen Cert.Products Cert.Step
open scoped BigOperators

variable (o : Vec Ideal S1x16x1024 .f32) (x : Vec Ideal S7x16x1024 .bf16) (w m v : Vec Ideal S16x1024 .f32)

/-- The gradient as both sides have it: the own part and the sum of the received ones. -/
def whole (i : Fin 16) (j : Fin 1024) : EReal := o (ix3 0 i j) + ∑ p : Fin 7, x (ix3 p i j)

/-- The kernel adds the received parts one after the other. -/
theorem sum_at (i : Fin 16) (j : Fin 1024) : k0_pay5 (F := Ideal) o x w m v (ix2 i j) = whole o x i j := by
  unfold whole
  rw [Fin.sum_univ_seven]
  simp only [← add_assoc]
  unfold k0_pay5 k0_pay4
  exact congrArg₂ (· + ·) (congrArg₂ (· + ·) (congrArg₂ (· + ·) (congrArg₂ (· + ·) (congrArg₂ (· + ·) (congrArg₂ (· + ·)
    (congrArg₂ (· + ·) (page_at o 0 _ _ i j) (page_at x 0 _ _ i j)) (page_at x 1 _ _ i j)) (page_at x 2 _ _ i j))
    (page_at x 3 _ _ i j)) (page_at x 4 _ _ i j)) (page_at x 5 _ _ i j)) (page_at x 6 _ _ i j)

/-- The reference adds their sum. -/
theorem want_at (i : Fin 16) (j : Fin 1024) :
    Cert.StepSmallRefIdeal.Read.val_main_v3 (F := Ideal) o x (ix2 i j) = whole o x i j := by
  have own : Cert.StepSmallRefIdeal.Read.val_main_v0 (F := Ideal) o (ix2 i j) = o (ix3 0 i j) := by
    refine (Cert.StepSmallRefIdeal.Read.val_main_v0_apply o (ix2 i j)).trans (congrArg o (funext fun a => Fin.ext ?_))
    have hi := i.isLt
    have hj := j.isLt
    match a with
    | ⟨0, _⟩ => rfl
    | ⟨1, _⟩ => show (i.val * 1024 + j.val) / 1024 % 16 = i.val; omega
    | ⟨2, _⟩ => show (i.val * 1024 + j.val) % 1024 = j.val; omega
  have got : Cert.StepSmallRefIdeal.Read.val_main_v2 (F := Ideal) x (ix2 i j) = ∑ p : Fin 7, x (ix3 p i j) := by
    refine (Cert.StepSmallRefIdeal.Read.val_main_v2_apply x (ix2 i j)).trans ?_
    refine (congrArg₂ (· + ·) Cert.AttnGrad.zero_word (Finset.sum_congr rfl fun p _ => congrArg x ?_)).trans (zero_add _)
    exact funext fun a => match a with | ⟨0, _⟩ => rfl | ⟨1, _⟩ => rfl | ⟨2, _⟩ => rfl
  exact congrArg₂ (· + ·) own got

theorem grad : k0_pay5 (F := Ideal) o x w m v = Cert.StepSmallRefIdeal.Read.val_main_v3 (F := Ideal) o x := by
  funext y
  obtain ⟨i, j, rfl⟩ : ∃ (i : Fin 16) (j : Fin 1024), y = ix2 i j := ext2 y
  exact (sum_at o x w m v i j).trans (want_at o x i j).symm

theorem m_at (y : S16x1024.Idx) : Value.G7 (F := Ideal) o x w m v y = first (m y) (k0_pay5 (F := Ideal) o x w m v y) := rfl
theorem v_at (y : S16x1024.Idx) : Value.G8 (F := Ideal) o x w m v y = second (v y) (k0_pay5 (F := Ideal) o x w m v y) := rfl
theorem d_at (y : S16x1024.Idx) : Value.G6 (F := Ideal) o x w m v y
    = change (w y) (Value.G7 (F := Ideal) o x w m v y) (Value.G8 (F := Ideal) o x w m v y) := rfl

theorem want_m_at (y : S16x1024.Idx) : Cert.StepSmallRefIdeal.Read.val_main_v8 (F := Ideal) o x m y
    = first (m y) (Cert.StepSmallRefIdeal.Read.val_main_v3 (F := Ideal) o x y) := rfl
theorem want_v_at (y : S16x1024.Idx) : Cert.StepSmallRefIdeal.Read.val_main_v14 (F := Ideal) o x v y
    = second (v y) (Cert.StepSmallRefIdeal.Read.val_main_v3 (F := Ideal) o x y) := rfl
theorem want_d_at (y : S16x1024.Idx) : Cert.StepSmallRefIdeal.Read.val_main_v27 (F := Ideal) o x w m v y
    = change (w y) (Cert.StepSmallRefIdeal.Read.val_main_v8 (F := Ideal) o x m y)
      (Cert.StepSmallRefIdeal.Read.val_main_v14 (F := Ideal) o x v y) := rfl

theorem mean : Value.G7 (F := Ideal) o x w m v = Cert.StepSmallRefIdeal.Read.val_main_v8 (F := Ideal) o x m := by
  funext y
  rw [m_at, want_m_at, grad]

theorem square : Value.G8 (F := Ideal) o x w m v = Cert.StepSmallRefIdeal.Read.val_main_v14 (F := Ideal) o x v := by
  funext y
  rw [v_at, want_v_at, grad]

theorem delta : Value.G6 (F := Ideal) o x w m v = Cert.StepSmallRefIdeal.Read.val_main_v27 (F := Ideal) o x w m v := by
  funext y
  rw [d_at, want_d_at, mean, square]

end Cert.StepSmallIdeal.Step

end
-- ==== Proof.StepSlab.lean ====
/-
  A SLAB'S STEP, WHAT DOES NOT DEPEND ON THE SLAB'S SIZE: the gradient of one page, as its own part and the seven received
  ones, and a page put back under its page axis.
-/
module

public import proofs.«01_k».proof.Proof.Step

@[expose] public section

noncomputable section

namespace Cert.Step

open Idealize.ShloMosaic
open Idealize.ShloMosaic.ValueIdx
open scoped BigOperators

/-- A page's gradient: the device's own part and the sum of the received ones. -/
def part {R C : ℕ} (o : Vec Ideal ⟨3, ![1, R, C]⟩ .bf16) (x : Vec Ideal ⟨3, ![7, R, C]⟩ .bf16) (i : Fin R) (j : Fin C) : EReal :=
  o (ix3 0 i j) + ∑ p : Fin 7, x (ix3 p i j)

/-- The same, the received parts added one after the other. -/
theorem part_eq {R C : ℕ} (o : Vec Ideal ⟨3, ![1, R, C]⟩ .bf16) (x : Vec Ideal ⟨3, ![7, R, C]⟩ .bf16) (i : Fin R) (j : Fin C) :
    part o x i j = o (ix3 0 i j) + x (ix3 0 i j) + x (ix3 1 i j) + x (ix3 2 i j) + x (ix3 3 i j) + x (ix3 4 i j)
      + x (ix3 5 i j) + x (ix3 6 i j) := by
  unfold part
  rw [Fin.sum_univ_seven]
  simp only [← add_assoc]

/-- A matrix put under a page axis of one page. -/
theorem under_at {R C : ℕ} {e : EltTy} (x : Vec Ideal ⟨2, ![R, C]⟩ e)
    (h : (⟨2, ![R, C]⟩ : Shape).ShapeCasts ⟨3, ![1, R, C]⟩) (i : Fin R) (j : Fin C) :
    shapeCast (s := ⟨2, ![R, C]⟩) ⟨3, ![1, R, C]⟩ x h (ix3 0 i j) = x (ix2 i j) :=
  (shapeCast_addUnit_apply ![R, C] x h (ix3 0 i j)).trans
    (congrArg x (funext fun a => match a with | ⟨0, _⟩ => rfl | ⟨1, _⟩ => rfl))

/-- An index of one page is row and column of page 0. -/
theorem ext3 {R C : ℕ} (y : (⟨3, ![1, R, C]⟩ : Shape).Idx) : ∃ (i : Fin R) (j : Fin C), y = ix3 0 i j :=
  ⟨y 1, y 2, funext fun a => match a with
    | ⟨0, _⟩ => Fin.ext (by have h : (y 0).val < 1 := (y 0).isLt; change (y 0).val = 0; omega)
    | ⟨1, _⟩ => rfl
    | ⟨2, _⟩ => rfl⟩

/-- The matrix under a page axis of one page. -/
theorem bare_at {R C : ℕ} {e : EltTy} (o : Vec Ideal ⟨3, ![1, R, C]⟩ e) (h : (⟨3, ![1, R, C]⟩ : Shape).ShapeCasts ⟨2, ![R, C]⟩)
    (i : Fin R) (j : Fin C) : shapeCast (s := ⟨3, ![1, R, C]⟩) ⟨2, ![R, C]⟩ o h (ix2 i j) = o (ix3 0 i j) :=
  (shapeCast_dropUnit_apply ![R, C] o h (ix2 i j)).trans
    (congrArg o (funext fun a => match a with | ⟨0, _⟩ => rfl | ⟨1, _⟩ => rfl | ⟨2, _⟩ => rfl))

/-- Two pages stacked, read on either. -/
theorem stack_0 {R C : ℕ} {e : EltTy} (a b : Vec Ideal ⟨3, ![1, R, C]⟩ e)
    (h : Shape.Concatenates [⟨3, ![1, R, C]⟩, ⟨3, ![1, R, C]⟩] ⟨3, ![2, R, C]⟩ 0) (i : Fin R) (j : Fin C) :
    concatenate ⟨3, ![2, R, C]⟩ 0 [⟨⟨3, ![1, R, C]⟩, a⟩, ⟨⟨3, ![1, R, C]⟩, b⟩] h (ix3 0 i j) = a (ix3 0 i j) :=
  concatenate_pair_apply_left (t := ⟨3, ![2, R, C]⟩) (s₁ := ⟨3, ![1, R, C]⟩) (s₂ := ⟨3, ![1, R, C]⟩) 0 a b h (ix3 0 i j) rfl (ix3 0 i j)
    fun d => match d with
      | ⟨0, _⟩ => rfl
      | ⟨1, _⟩ => rfl
      | ⟨2, _⟩ => rfl

theorem stack_1 {R C : ℕ} {e : EltTy} (a b : Vec Ideal ⟨3, ![1, R, C]⟩ e)
    (h : Shape.Concatenates [⟨3, ![1, R, C]⟩, ⟨3, ![1, R, C]⟩] ⟨3, ![2, R, C]⟩ 0) (i : Fin R) (j : Fin C) :
    concatenate ⟨3, ![2, R, C]⟩ 0 [⟨⟨3, ![1, R, C]⟩, a⟩, ⟨⟨3, ![1, R, C]⟩, b⟩] h (ix3 1 i j) = b (ix3 0 i j) :=
  concatenate_pair_apply_right (t := ⟨3, ![2, R, C]⟩) (s₁ := ⟨3, ![1, R, C]⟩) (s₂ := ⟨3, ![1, R, C]⟩) 0 a b h (ix3 1 i j) rfl rfl (ix3 0 i j)
    (fun d hd => match d with
      | ⟨0, _⟩ => absurd rfl hd
      | ⟨1, _⟩ => rfl
      | ⟨2, _⟩ => rfl) rfl

/-- An index of two pages, not on page 0, is row and column of page 1. -/
theorem later {R C : ℕ} (y : (⟨3, ![2, R, C]⟩ : Shape).Idx) (h : ¬ (y 0).val = 0) : ∃ (i : Fin R) (j : Fin C), y = ix3 1 i j :=
  ⟨y 1, y 2, funext fun a => match a with
    | ⟨0, _⟩ => Fin.ext (by have h' : (y 0).val < 2 := (y 0).isLt; change (y 0).val = 1; omega)
    | ⟨1, _⟩ => rfl
    | ⟨2, _⟩ => rfl⟩

end Cert.Step

end
-- ==== Proof.StepOut.lean ====
/-
  THE STEP OF A SLAB OF TWO LAYERS, 128 BY 1024: the launch of layer 1 and, over its results, the launch of layer 0; the two leave the
  reference's results.
-/
module

public import proofs.«01_k».proof.Proof.StepSlab
public import proofs.«01_k».proof.Proof.Maths
public import Idealize.ShloMosaic.Lib.Pipeline.ValueKit.Partial
public import proofs.«01_k».proof.Proof.Gen.StepOutIdeal.Frame
public import proofs.«01_k».proof.Proof.Gen.StepOutRefIdeal.Read

@[expose] public section

noncomputable section

namespace Cert.StepOutIdeal.Step

open Idealize.ShloMosaic
open Idealize.ShloMosaic.ValueIdx Idealize.ShloMosaic.TcCoe
open Idealize.ShloMosaic.Pipeline (Dat Cfg Window)
open Cert.StepOutRefIdeal.Read Cert.StepOutIdeal Cert.StepOutIdeal.Gen Cert.Products Cert.Step
open scoped BigOperators

section Payloads

variable (o : Vec Ideal S1x128x1024 .bf16) (x : Vec Ideal S7x128x1024 .bf16) (w p q : Vec Ideal S1x128x1024 .f32)
variable (i : Fin 128) (j : Fin 1024)

/-- What a grid point's body computes, at an index. -/
theorem sum_at : k0_pay8 (F := Ideal) o x w p q (ix2 i j) = part o x i j := by
  rw [part_eq]
  unfold k0_pay8 k0_pay3
  exact congrArg₂ (· + ·) (congrArg₂ (· + ·) (congrArg₂ (· + ·) (congrArg₂ (· + ·) (congrArg₂ (· + ·) (congrArg₂ (· + ·)
    (congrArg₂ (· + ·) (page_at o 0 _ _ i j) (page_at x 0 _ _ i j)) (page_at x 1 _ _ i j)) (page_at x 2 _ _ i j))
    (page_at x 3 _ _ i j)) (page_at x 4 _ _ i j)) (page_at x 5 _ _ i j)) (page_at x 6 _ _ i j)

theorem mean_at (g : FVec Ideal S128x1024 .f32) :
    k0_pay4 (F := Ideal) g (View.ld p r0_0) (ix2 i j) = first (p (ix3 0 i j)) (g (ix2 i j)) :=
  congrArg (fun a => first a (g (ix2 i j))) (page_at p 0 _ _ i j)

theorem square_at (g : FVec Ideal S128x1024 .f32) :
    k0_pay5 (F := Ideal) g (View.ld q r0_0) (ix2 i j) = second (q (ix3 0 i j)) (g (ix2 i j)) :=
  congrArg (fun a => second a (g (ix2 i j))) (page_at q 0 _ _ i j)

theorem pay_5 : out0_5 (F := Ideal) o x w p q (ix3 0 i j) = part o x i j := by
  unfold out0_5
  rw [View.canon_unit_zero offsets3]
  exact (under_at (e := .f32) (k0_pay8 o x w p q) _ i j).trans (sum_at o x w p q i j)

theorem pay_7 : out0_7 (F := Ideal) o x w p q (ix3 0 i j) = first (p (ix3 0 i j)) (part o x i j) := by
  unfold out0_7
  rw [View.canon_unit_zero offsets3]
  exact (under_at (e := .f32) (k0_pay4 (k0_pay8 o x w p q) (View.ld p r0_0)) _ i j).trans ((mean_at p i j _).trans (congrArg (first _) (sum_at o x w p q i j)))

theorem pay_8 : out0_8 (F := Ideal) o x w p q (ix3 0 i j) = second (q (ix3 0 i j)) (part o x i j) := by
  unfold out0_8
  rw [View.canon_unit_zero offsets3]
  exact (under_at (e := .f32) (k0_pay5 (k0_pay8 o x w p q) (View.ld q r0_0)) _ i j).trans ((square_at q i j _).trans (congrArg (second _) (sum_at o x w p q i j)))

theorem pay_6 : out0_6 (F := Ideal) o x w p q (ix3 0 i j)
    = change (w (ix3 0 i j)) (first (p (ix3 0 i j)) (part o x i j)) (second (q (ix3 0 i j)) (part o x i j)) := by
  have h (g : FVec Ideal S128x1024 .f32) (u v t : Vec Ideal S1x128x1024 .f32) : k0_pay7 (F := Ideal) g u v t (ix3 0 i j)
      = change (shapeCast S128x1024 t shapeCasts_S1x128x1024_S128x1024 (ix2 i j)) (k0_pay4 (F := Ideal) g u (ix2 i j))
        (k0_pay5 (F := Ideal) g v (ix2 i j)) := by
    unfold k0_pay7
    exact under_at (e := .f32) _ _ i j
  unfold out0_6
  rw [View.canon_unit_zero offsets3, h, mean_at, square_at, sum_at]
  exact congrArg (fun a => change a _ _) (page_at w 0 _ _ i j)

end Payloads

variable (m : (ℓ : Loc nD τ sig) → Buf (Elt Ideal) ℓ) (ρ : Dev nD → PrngReg) (c : Dev nD)

/-- The arguments: each layer's own and received parts, the weight and the two moments. -/
abbrev own0 : FVec Ideal S1x128x1024 .bf16 := m ((c : Thread nD τ).loc main_arg0)
abbrev got0 : FVec Ideal S7x128x1024 .bf16 := m ((c : Thread nD τ).loc main_arg1)
abbrev own1 : FVec Ideal S1x128x1024 .bf16 := m ((c : Thread nD τ).loc main_arg2)
abbrev got1 : FVec Ideal S7x128x1024 .bf16 := m ((c : Thread nD τ).loc main_arg3)
abbrev argW : FVec Ideal S2x128x1024 .f32 := m ((c : Thread nD τ).loc main_arg4)
abbrev argM : FVec Ideal S2x128x1024 .f32 := m ((c : Thread nD τ).loc main_arg5)
abbrev argV : FVec Ideal S2x128x1024 .f32 := m ((c : Thread nD τ).loc main_arg6)

section Wanted

variable (i : Fin 128) (j : Fin 1024) (y : S2x128x1024.Idx)

/-- The reference's values. -/
abbrev want5 := val_main_v12 (F := Ideal) (own0 m c) (got0 m c) (own1 m c) (got1 m c)
abbrev want6 := val_main_v36 (F := Ideal) (own0 m c) (got0 m c) (own1 m c) (got1 m c) (argW m c) (argM m c) (argV m c)
abbrev want7 := val_main_v17 (F := Ideal) (own0 m c) (got0 m c) (own1 m c) (got1 m c) (argM m c)
abbrev want8 := val_main_v23 (F := Ideal) (own0 m c) (got0 m c) (own1 m c) (got1 m c) (argV m c)

/-- One layer's gradient, as the reference has it. -/
theorem layer_0 (o : Vec Ideal S1x128x1024 .bf16) (x : Vec Ideal S7x128x1024 .bf16) : val_main_v4 (F := Ideal) o x (ix2 i j) = part o x i j := by
  refine congrArg₂ (· + ·) (bare_at o _ i j) ((val_main_v3_apply x (ix2 i j)).trans ?_)
  refine (congrArg₂ (· + ·) Cert.AttnGrad.zero_word (Finset.sum_congr rfl fun p _ => congrArg x ?_)).trans (zero_add _)
  exact funext fun a => match a with | ⟨0, _⟩ => rfl | ⟨1, _⟩ => rfl | ⟨2, _⟩ => rfl

/-- The two layers stacked, read at either. -/
theorem want5_0 : want5 m c (ix3 0 i j) = part (own0 m c) (got0 m c) i j := by
  refine (stack_0 _ _ _ i j).trans ((val_main_v10_apply (own0 m c) (got0 m c) (ix3 0 i j)).trans (Eq.trans (congrArg _ ?_) (layer_0 i j _ _)))
  exact funext fun a => match a with | ⟨0, _⟩ => rfl | ⟨1, _⟩ => rfl

theorem want5_1 : want5 m c (ix3 1 i j) = part (own1 m c) (got1 m c) i j := by
  refine (stack_1 _ _ _ i j).trans ((val_main_v11_apply (own1 m c) (got1 m c) (ix3 0 i j)).trans (Eq.trans (congrArg _ ?_) (layer_0 i j _ _)))
  exact funext fun a => match a with | ⟨0, _⟩ => rfl | ⟨1, _⟩ => rfl

theorem want7_at : want7 m c y = first (argM m c y) (want5 m c y) := rfl
theorem want8_at : want8 m c y = second (argV m c y) (want5 m c y) := rfl
theorem want6_at : want6 m c y = change (argW m c y) (want7 m c y) (want8 m c y) := rfl

end Wanted

/-- A block's row and column in the slab. -/
def row (t : Fin cfg0.N) (i : Fin 128) : Fin 128 := ⟨128 * 0 + i.val, by have h : t.val < 1 := t.isLt; have := i.isLt; omega⟩
def col (t : Fin cfg0.N) (j : Fin 1024) : Fin 1024 := ⟨1024 * 0 + j.val, by have h : t.val < 1 := t.isLt; have := j.isLt; omega⟩

/-- The blocks of the launch of layer 1. -/
theorem index0 : ∀ t : Fin cfg0.N, win0_0.index t = ![0, 0, 0] ∧ win0_1.index t = ![0, 0, 0] ∧ win0_2.index t = ![1, 0, 0] ∧ win0_3.index t = ![1, 0, 0] ∧ win0_4.index t = ![1, 0, 0]
    ∧ win0_5.index t = ![1, 0, 0] ∧ win0_6.index t = ![1, 0, 0] ∧ win0_7.index t = ![1, 0, 0] ∧ win0_8.index t = ![1, 0, 0] := (by decide +kernel : ∀ t : Fin grid0.N, _)

/-- The blocks of the launch of layer 0. -/
theorem index1 : ∀ t : Fin cfg1.N, win1_0.index t = ![0, 0, 0] ∧ win1_1.index t = ![0, 0, 0] ∧ win1_2.index t = ![0, 0, 0] ∧ win1_3.index t = ![0, 0, 0] ∧ win1_4.index t = ![0, 0, 0]
    ∧ win1_5.index t = ![0, 0, 0] ∧ win1_6.index t = ![0, 0, 0] ∧ win1_7.index t = ![0, 0, 0] ∧ win1_8.index t = ![0, 0, 0] := (by decide +kernel : ∀ t : Fin grid1.N, _)

theorem at0 (t : Fin cfg0.N) (i : Fin 128) (j : Fin 1024) :
    iblk0 (V0 m ρ) c 0 t (ix3 0 i j) = own1 m c (ix3 0 (row t i) (col t j))
    ∧ (∀ p : Fin 7, iblk0 (V0 m ρ) c 1 t (ix3 p i j) = got1 m c (ix3 p (row t i) (col t j)))
    ∧ iblk0 (V0 m ρ) c 2 t (ix3 0 i j) = argW m c (ix3 1 (row t i) (col t j))
    ∧ iblk0 (V0 m ρ) c 3 t (ix3 0 i j) = argM m c (ix3 1 (row t i) (col t j))
    ∧ iblk0 (V0 m ρ) c 4 t (ix3 0 i j) = argV m c (ix3 1 (row t i) (col t j)) := by
  obtain ⟨e0, e1, e2, e3, e4, -⟩ := index0 t
  refine ⟨?_, fun p => ?_, ?_, ?_, ?_⟩ <;> blk_simp [iblk0]
  on_goal 1 => refine congrArg (own1 m c) ?_
  on_goal 2 => refine congrArg (got1 m c) ?_
  on_goal 3 => refine congrArg (argW m c) ?_
  on_goal 4 => refine congrArg (argM m c) ?_
  on_goal 5 => refine congrArg (argV m c) ?_
  all_goals
    blk_ext [e0, e1, e2, e3, e4, row, col] <;> first | rfl | (change i.val = _; omega) | (change j.val = _; omega) | (change _ * _ + i.val = _; omega) | (change _ * _ + j.val = _; omega)

theorem part0_at (t : Fin cfg0.N) (i : Fin 128) (j : Fin 1024) :
    part (iblk0 (V0 m ρ) c 0 t) (iblk0 (V0 m ρ) c 1 t) i j = part (own1 m c) (got1 m c) (row t i) (col t j) :=
  congrArg₂ (· + ·) (at0 m ρ c t i j).1 (Finset.sum_congr rfl fun p _ => (at0 m ρ c t i j).2.1 p)

theorem at1 (t : Fin cfg1.N) (i : Fin 128) (j : Fin 1024) :
    iblk1 (V2 m ρ) c 0 t (ix3 0 i j) = own0 m c (ix3 0 (row t i) (col t j))
    ∧ (∀ p : Fin 7, iblk1 (V2 m ρ) c 1 t (ix3 p i j) = got0 m c (ix3 p (row t i) (col t j)))
    ∧ iblk1 (V2 m ρ) c 2 t (ix3 0 i j) = argW m c (ix3 0 (row t i) (col t j))
    ∧ iblk1 (V2 m ρ) c 3 t (ix3 0 i j) = argM m c (ix3 0 (row t i) (col t j))
    ∧ iblk1 (V2 m ρ) c 4 t (ix3 0 i j) = argV m c (ix3 0 (row t i) (col t j)) := by
  obtain ⟨e0, e1, e2, e3, e4, -⟩ := index1 t
  refine ⟨?_, fun p => ?_, ?_, ?_, ?_⟩ <;> blk_simp [iblk1]
  on_goal 1 => refine (congrFun (W2_args m ρ c main_arg0 (by decide)) _).trans (congrArg (own0 m c) ?_)
  on_goal 2 => refine (congrFun (W2_args m ρ c main_arg1 (by decide)) _).trans (congrArg (got0 m c) ?_)
  on_goal 3 => refine (congrFun (W2_args m ρ c main_arg4 (by decide)) _).trans (congrArg (argW m c) ?_)
  on_goal 4 => refine (congrFun (W2_args m ρ c main_arg5 (by decide)) _).trans (congrArg (argM m c) ?_)
  on_goal 5 => refine (congrFun (W2_args m ρ c main_arg6 (by decide)) _).trans (congrArg (argV m c) ?_)
  all_goals
    blk_ext [e0, e1, e2, e3, e4, row, col] <;> first | rfl | (change i.val = _; omega) | (change j.val = _; omega) | (change _ * _ + i.val = _; omega) | (change _ * _ + j.val = _; omega)

theorem part1_at (t : Fin cfg1.N) (i : Fin 128) (j : Fin 1024) :
    part (iblk1 (V2 m ρ) c 0 t) (iblk1 (V2 m ρ) c 1 t) i j = part (own0 m c) (got0 m c) (row t i) (col t j) :=
  congrArg₂ (· + ·) (at1 m ρ c t i j).1 (Finset.sum_congr rfl fun p _ => (at1 m ρ c t i j).2.1 p)

/-- A grid point of the second launch leaves what one of the first would of the same blocks. -/
theorem left (V : (c : Dev nD) → (b : Ref sig .tc) → Buf (Elt Ideal) ((c : Thread nD τ).loc b)) (t : Fin cfg1.N) :
    (outsAt1 V c t).1 = out0_5 (iblk1 V c 0 t) (iblk1 V c 1 t) (iblk1 V c 2 t) (iblk1 V c 3 t) (iblk1 V c 4 t)
    ∧ (outsAt1 V c t).2.1 = out0_6 (iblk1 V c 0 t) (iblk1 V c 1 t) (iblk1 V c 2 t) (iblk1 V c 3 t) (iblk1 V c 4 t)
    ∧ (outsAt1 V c t).2.2.1 = out0_7 (iblk1 V c 0 t) (iblk1 V c 1 t) (iblk1 V c 2 t) (iblk1 V c 3 t) (iblk1 V c 4 t)
    ∧ (outsAt1 V c t).2.2.2 = out0_8 (iblk1 V c 0 t) (iblk1 V c 1 t) (iblk1 V c 2 t) (iblk1 V c 3 t) (iblk1 V c 4 t) := by
  refine ⟨?_, ?_, ?_, ?_⟩
  all_goals
    unfold outsAt1
    dsimp only
    first | unfold out1_A_5 | unfold out1_A_6 | unfold out1_A_7 | unfold out1_A_8
    unfold kernelRun1_A
    dsimp only
    rw [View.read_writes_junk_eq_canon]
    simp only [kernelRun1_A.sl.r, kernelRun1_A.sl.r_1, kernelRun1_A.sl.r_2, View.readAt_eq_ld, Memref.IsWhole.read_unread]
    rfl

set_option maxHeartbeats 1000000 in
/-- Layer 1 after the first launch. -/
theorem early (i : Fin 128) (j : Fin 1024) :
    (dat0 (V0 m ρ) c).arrAt 5 cfg0.N (ix3 1 i j) = want5 m c (ix3 1 i j)
    ∧ (dat0 (V0 m ρ) c).arrAt 6 cfg0.N (ix3 1 i j) = want6 m c (ix3 1 i j)
    ∧ (dat0 (V0 m ρ) c).arrAt 7 cfg0.N (ix3 1 i j) = want7 m c (ix3 1 i j)
    ∧ (dat0 (V0 m ρ) c).arrAt 8 cfg0.N (ix3 1 i j) = want8 m c (ix3 1 i j) := by
  refine ⟨((dat0 (V0 m ρ) c).arrAt_apply_of_coversWhere 5 (want5 m c) (P := fun y : S2x128x1024.Idx => (y 0).val = 1)
      (fun β => β (0 : Fin 3) = 1) (by decide +kernel) ?_ ?_ (ix3 1 i j)).trans (if_pos rfl),
    ((dat0 (V0 m ρ) c).arrAt_apply_of_coversWhere 6 (want6 m c) (P := fun y : S2x128x1024.Idx => (y 0).val = 1)
      (fun β => β (0 : Fin 3) = 1) (by decide +kernel) ?_ ?_ (ix3 1 i j)).trans (if_pos rfl),
    ((dat0 (V0 m ρ) c).arrAt_apply_of_coversWhere 7 (want7 m c) (P := fun y : S2x128x1024.Idx => (y 0).val = 1)
      (fun β => β (0 : Fin 3) = 1) (by decide +kernel) ?_ ?_ (ix3 1 i j)).trans (if_pos rfl),
    ((dat0 (V0 m ρ) c).arrAt_apply_of_coversWhere 8 (want8 m c) (P := fun y : S2x128x1024.Idx => (y 0).val = 1)
      (fun β => β (0 : Fin 3) = 1) (by decide +kernel) ?_ ?_ (ix3 1 i j)).trans (if_pos rfl)⟩
  all_goals first
    | (intro t hf y
       obtain ⟨-, -, -, -, -, e5, e6, e7, e8⟩ := index0 t
       blk_simp
       first | rw [after0_5] | rw [after0_6] | rw [after0_7] | rw [after0_8]
       obtain ⟨i, j, rfl⟩ : ∃ (i : Fin 128) (j : Fin 1024), y = ix3 0 i j := ext3 y
       obtain ⟨-, -, eW, eM, eV⟩ := at0 m ρ c t i j
       refine Eq.trans ?_ (congrArg _ (?_ : ix3 1 (row t i) (col t j) = _))
       · first
          | rw [pay_5, want5_1, part0_at]
          | rw [pay_6, want6_at, want7_at, want8_at, want5_1, part0_at, eW, eM, eV]
          | rw [pay_7, want7_at, want5_1, part0_at, eM]
          | rw [pay_8, want8_at, want5_1, part0_at, eV]
       · blk_ext [e5, e6, e7, e8, row, col] <;> first | rfl | (change _ = i.val; omega) | (change _ = j.val; omega) | (change _ = _ * _ + i.val; omega) | (change _ = _ * _ + j.val; omega))
    | (intro y
       blk_simp [Pipeline.Window.cell_apply]
       first | exact Iff.rfl | omega)

set_option maxHeartbeats 1000000 in
/-- Both layers after the second launch, result by result. -/
theorem arrays :
    W3 m ρ c (Proc.devRef .tc main_v1_0) = want5 m c
    ∧ W3 m ρ c (Proc.devRef .tc main_v1_1) = want6 m c
    ∧ W3 m ρ c (Proc.devRef .tc main_v1_2) = want7 m c
    ∧ W3 m ρ c (Proc.devRef .tc main_v1_3) = want8 m c := by
  have kept : V2 m ρ c main_v1_0 = (dat0 (V0 m ρ) c).arrAt 5 cfg0.N
      ∧ V2 m ρ c main_v1_1 = (dat0 (V0 m ρ) c).arrAt 6 cfg0.N
      ∧ V2 m ρ c main_v1_2 = (dat0 (V0 m ρ) c).arrAt 7 cfg0.N
      ∧ V2 m ρ c main_v1_3 = (dat0 (V0 m ρ) c).arrAt 8 cfg0.N := by
    refine ⟨Eq.trans ?_ (W1_arr m ρ c 5), Eq.trans ?_ (W1_arr m ρ c 6), Eq.trans ?_ (W1_arr m ρ c 7), Eq.trans ?_ (W1_arr m ρ c 8)⟩
    all_goals
      show StableHlo.after hostOps1 (W1 m ρ c) (Proc.devRef .tc _) = _
      after_results
      first | done | rfl
  refine ⟨(W3_arr m ρ c 5).trans ((dat1 (V2 m ρ) c).arrAt_eq_of_coversWhere_of_agree 5 _ (fun β => β (0 : Fin 3) = 0) (by decide +kernel) ?_ ?_),
    (W3_arr m ρ c 6).trans ((dat1 (V2 m ρ) c).arrAt_eq_of_coversWhere_of_agree 6 _ (fun β => β (0 : Fin 3) = 0) (by decide +kernel) ?_ ?_),
    (W3_arr m ρ c 7).trans ((dat1 (V2 m ρ) c).arrAt_eq_of_coversWhere_of_agree 7 _ (fun β => β (0 : Fin 3) = 0) (by decide +kernel) ?_ ?_),
    (W3_arr m ρ c 8).trans ((dat1 (V2 m ρ) c).arrAt_eq_of_coversWhere_of_agree 8 _ (fun β => β (0 : Fin 3) = 0) (by decide +kernel) ?_ ?_)⟩
  all_goals first
    | (intro t hf y
       obtain ⟨-, -, -, -, -, e5, e6, e7, e8⟩ := index1 t
       blk_simp
       first | rw [after1_5, (left c _ t).1] | rw [after1_6, (left c _ t).2.1] | rw [after1_7, (left c _ t).2.2.1] | rw [after1_8, (left c _ t).2.2.2]
       obtain ⟨i, j, rfl⟩ : ∃ (i : Fin 128) (j : Fin 1024), y = ix3 0 i j := ext3 y
       obtain ⟨-, -, eW, eM, eV⟩ := at1 m ρ c t i j
       refine Eq.trans ?_ (congrArg _ (?_ : ix3 0 (row t i) (col t j) = _))
       · first
          | rw [pay_5, want5_0, part1_at]
          | rw [pay_6, want6_at, want7_at, want8_at, want5_0, part1_at, eW, eM, eV]
          | rw [pay_7, want7_at, want5_0, part1_at, eM]
          | rw [pay_8, want8_at, want5_0, part1_at, eV]
       · blk_ext [e5, e6, e7, e8, row, col] <;> first | rfl | (change _ = i.val; omega) | (change _ = j.val; omega) | (change _ = _ * _ + i.val; omega) | (change _ = _ * _ + j.val; omega))
    | (intro y hy
       blk_simp [Pipeline.Window.cell_apply] at hy
       obtain ⟨i, j, rfl⟩ : ∃ (i : Fin 128) (j : Fin 1024), y = ix3 1 i j := later y (by simpa using hy)
       rw [A_eq1]
       first
       | exact (congrFun kept.1 (ix3 1 i j)).trans (early m ρ c i j).1
       | exact (congrFun kept.2.1 (ix3 1 i j)).trans (early m ρ c i j).2.1
       | exact (congrFun kept.2.2.1 (ix3 1 i j)).trans (early m ρ c i j).2.2.1
       | exact (congrFun kept.2.2.2 (ix3 1 i j)).trans (early m ρ c i j).2.2.2)

section Run

open Idealize.SL Idealize.SL.RA Idealize.SL.BI Idealize.SL.BI.BIBase Idealize.SL.BI.Laws Idealize.SL.ProofMode Idealize.SL.Sem
open Idealize.ShloMosaic.Rounds Idealize.ShloMosaic.Tactic
open scoped Idealize.SL.BI

local notation "𝕄" => MT nD τ sig Unit (Elt Ideal) ℕ (UR sig nD τ) ℕ

set_option backward.isDefEq.respectTransparency.types false in
set_option maxRecDepth 16384 in
/-- Both launches end, with the reference's four results, the arguments as launched. -/
theorem run : θ_run defs (onTc (τ := τ) (main (F := Ideal))) ⟨m, fun _ => 0, ρ⟩ (fun r => ∀ c : Dev nD,
      r.2.mem ((c.tc : Thread nD τ).loc main_v1_0) = want5 m c
      ∧ r.2.mem ((c.tc : Thread nD τ).loc main_v1_1) = want6 m c
      ∧ r.2.mem ((c.tc : Thread nD τ).loc main_v1_2) = want7 m c
      ∧ r.2.mem ((c.tc : Thread nD τ).loc main_v1_3) = want8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_sems (pcfgs (F := Ideal)) adm (pdats m ρ) () cellOf_inj emb₁ defs₀ 𝒱₀ L lv m ρ main (segs m ρ)
    (fun c _ => by rw [main_run m ρ c]) (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?_)
    (QY := fun c s => ∀ b ∈ Pipeline.ucRefs τ sig, s.mem (((c : Thread nD τ)).1, b) = W3 m ρ c b) (hfin := fun c s' => ?_)
    (hQ := fun s h _ c => have u := fun b hb => h c _ (mem_uc b hb)
     ⟨(u main_v1_0 (by decide)).trans (arrays m ρ c).1, (u main_v1_1 (by decide)).trans (arrays m ρ c).2.1,
      (u main_v1_2 (by decide)).trans (arrays m ρ c).2.2.1, (u main_v1_3 (by decide)).trans (arrays m ρ c).2.2.2,
      (u main_arg0 (by decide)).trans (W3_main_arg0 m ρ c), (u main_arg1 (by decide)).trans (W3_main_arg1 m ρ c), (u main_arg2 (by decide)).trans (W3_main_arg2 m ρ c), (u main_arg3 (by decide)).trans (W3_main_arg3 m ρ c), (u main_arg4 (by decide)).trans (W3_main_arg4 m ρ c), (u main_arg5 (by decide)).trans (W3_main_arg5 m ρ c), (u main_arg6 (by decide)).trans (W3_main_arg6 m ρ c)⟩)
  · have start : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    have none : (BI.emp : sProp 𝕄) ⊢ bigSep Finset.univ (fun _ : Dev nD => (BI.emp : sProp 𝕄)) := by rw [BI.bigSep_emp_const]
    iintro Hu
    imodintro
    isplitl [Hu]
    · iapply start
      iexact Hu
    iapply none
    iempintro
  · refine Pipeline.initEach L lv fun c => ?_
    have all : (unscopedBufs c (fun b => m ((c : Thread nD τ).loc b)) : sProp 𝕄) = StableHlo.held (c : Thread nD τ) (Pipeline.ucRefs τ sig) (W0 m ρ c) :=
      Pipeline.unscopedBufs_held c (W0 m ρ c)
    rw [all]
    iintro ⟨⟨Hh, -, HO, -, Hp, -⟩, -⟩
    imodintro
    isplitl [Hh]
    · iexact Hh
    isplitl [Hp]
    · iexists _
      iexact Hp
    iexists ∅
    iexact HO
  · iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption

end Run

end Cert.StepOutIdeal.Step

end
-- ==== Proof.StepEvenIn.lean ====
/-
  THE STEP OF A SLAB OF TWO LAYERS, 372 BY 1024, in four tiles of 256 columns: the launch of layer 1 and, over its results, the launch of layer 0; the two leave the
  reference's results.
-/
module

public import proofs.«01_k».proof.Proof.StepSlab
public import proofs.«01_k».proof.Proof.Maths
public import Idealize.ShloMosaic.Lib.Pipeline.ValueKit.Partial
public import proofs.«01_k».proof.Proof.Gen.StepEvenInIdeal.Frame
public import proofs.«01_k».proof.Proof.Gen.StepEvenInRefIdeal.Read

@[expose] public section

noncomputable section

namespace Cert.StepEvenInIdeal.Step

open Idealize.ShloMosaic
open Idealize.ShloMosaic.ValueIdx Idealize.ShloMosaic.TcCoe
open Idealize.ShloMosaic.Pipeline (Dat Cfg Window)
open Cert.StepEvenInRefIdeal.Read Cert.StepEvenInIdeal Cert.StepEvenInIdeal.Gen Cert.Products Cert.Step
open scoped BigOperators

section Payloads

variable (o : Vec Ideal S1x372x256 .bf16) (x : Vec Ideal S7x372x256 .bf16) (w p q : Vec Ideal S1x372x256 .f32)
variable (i : Fin 372) (j : Fin 256)

/-- What a grid point's body computes, at an index. -/
theorem sum_at : k0_pay8 (F := Ideal) o x w p q (ix2 i j) = part o x i j := by
  rw [part_eq]
  unfold k0_pay8 k0_pay3
  exact congrArg₂ (· + ·) (congrArg₂ (· + ·) (congrArg₂ (· + ·) (congrArg₂ (· + ·) (congrArg₂ (· + ·) (congrArg₂ (· + ·)
    (congrArg₂ (· + ·) (page_at o 0 _ _ i j) (page_at x 0 _ _ i j)) (page_at x 1 _ _ i j)) (page_at x 2 _ _ i j))
    (page_at x 3 _ _ i j)) (page_at x 4 _ _ i j)) (page_at x 5 _ _ i j)) (page_at x 6 _ _ i j)

theorem mean_at (g : FVec Ideal S372x256 .f32) :
    k0_pay4 (F := Ideal) g (View.ld p r0_0) (ix2 i j) = first (p (ix3 0 i j)) (g (ix2 i j)) :=
  congrArg (fun a => first a (g (ix2 i j))) (page_at p 0 _ _ i j)

theorem square_at (g : FVec Ideal S372x256 .f32) :
    k0_pay5 (F := Ideal) g (View.ld q r0_0) (ix2 i j) = second (q (ix3 0 i j)) (g (ix2 i j)) :=
  congrArg (fun a => second a (g (ix2 i j))) (page_at q 0 _ _ i j)

theorem pay_5 : out0_5 (F := Ideal) o x w p q (ix3 0 i j) = part o x i j := by
  unfold out0_5
  rw [View.canon_unit_zero offsets3]
  exact (under_at (e := .f32) (k0_pay8 o x w p q) _ i j).trans (sum_at o x w p q i j)

theorem pay_7 : out0_7 (F := Ideal) o x w p q (ix3 0 i j) = first (p (ix3 0 i j)) (part o x i j) := by
  unfold out0_7
  rw [View.canon_unit_zero offsets3]
  exact (under_at (e := .f32) (k0_pay4 (k0_pay8 o x w p q) (View.ld p r0_0)) _ i j).trans ((mean_at p i j _).trans (congrArg (first _) (sum_at o x w p q i j)))

theorem pay_8 : out0_8 (F := Ideal) o x w p q (ix3 0 i j) = second (q (ix3 0 i j)) (part o x i j) := by
  unfold out0_8
  rw [View.canon_unit_zero offsets3]
  exact (under_at (e := .f32) (k0_pay5 (k0_pay8 o x w p q) (View.ld q r0_0)) _ i j).trans ((square_at q i j _).trans (congrArg (second _) (sum_at o x w p q i j)))

theorem pay_6 : out0_6 (F := Ideal) o x w p q (ix3 0 i j)
    = change (w (ix3 0 i j)) (first (p (ix3 0 i j)) (part o x i j)) (second (q (ix3 0 i j)) (part o x i j)) := by
  have h (g : FVec Ideal S372x256 .f32) (u v t : Vec Ideal S1x372x256 .f32) : k0_pay7 (F := Ideal) g u v t (ix3 0 i j)
      = change (shapeCast S372x256 t shapeCasts_S1x372x256_S372x256 (ix2 i j)) (k0_pay4 (F := Ideal) g u (ix2 i j))
        (k0_pay5 (F := Ideal) g v (ix2 i j)) := by
    unfold k0_pay7
    exact under_at (e := .f32) _ _ i j
  unfold out0_6
  rw [View.canon_unit_zero offsets3, h, mean_at, square_at, sum_at]
  exact congrArg (fun a => change a _ _) (page_at w 0 _ _ i j)

end Payloads

variable (m : (ℓ : Loc nD τ sig) → Buf (Elt Ideal) ℓ) (ρ : Dev nD → PrngReg) (c : Dev nD)

/-- The arguments: each layer's own and received parts, the weight and the two moments. -/
abbrev own0 : FVec Ideal S1x372x1024 .bf16 := m ((c : Thread nD τ).loc main_arg0)
abbrev got0 : FVec Ideal S7x372x1024 .bf16 := m ((c : Thread nD τ).loc main_arg1)
abbrev own1 : FVec Ideal S1x372x1024 .bf16 := m ((c : Thread nD τ).loc main_arg2)
abbrev got1 : FVec Ideal S7x372x1024 .bf16 := m ((c : Thread nD τ).loc main_arg3)
abbrev argW : FVec Ideal S2x372x1024 .f32 := m ((c : Thread nD τ).loc main_arg4)
abbrev argM : FVec Ideal S2x372x1024 .f32 := m ((c : Thread nD τ).loc main_arg5)
abbrev argV : FVec Ideal S2x372x1024 .f32 := m ((c : Thread nD τ).loc main_arg6)

section Wanted

variable (i : Fin 372) (j : Fin 1024) (y : S2x372x1024.Idx)

/-- The reference's values. -/
abbrev want5 := val_main_v12 (F := Ideal) (own0 m c) (got0 m c) (own1 m c) (got1 m c)
abbrev want6 := val_main_v36 (F := Ideal) (own0 m c) (got0 m c) (own1 m c) (got1 m c) (argW m c) (argM m c) (argV m c)
abbrev want7 := val_main_v17 (F := Ideal) (own0 m c) (got0 m c) (own1 m c) (got1 m c) (argM m c)
abbrev want8 := val_main_v23 (F := Ideal) (own0 m c) (got0 m c) (own1 m c) (got1 m c) (argV m c)

/-- One layer's gradient, as the reference has it. -/
theorem layer_0 (o : Vec Ideal S1x372x1024 .bf16) (x : Vec Ideal S7x372x1024 .bf16) : val_main_v4 (F := Ideal) o x (ix2 i j) = part o x i j := by
  refine congrArg₂ (· + ·) (bare_at o _ i j) ((val_main_v3_apply x (ix2 i j)).trans ?_)
  refine (congrArg₂ (· + ·) Cert.AttnGrad.zero_word (Finset.sum_congr rfl fun p _ => congrArg x ?_)).trans (zero_add _)
  exact funext fun a => match a with | ⟨0, _⟩ => rfl | ⟨1, _⟩ => rfl | ⟨2, _⟩ => rfl

/-- The two layers stacked, read at either. -/
theorem want5_0 : want5 m c (ix3 0 i j) = part (own0 m c) (got0 m c) i j := by
  refine (stack_0 _ _ _ i j).trans ((val_main_v10_apply (own0 m c) (got0 m c) (ix3 0 i j)).trans (Eq.trans (congrArg _ ?_) (layer_0 i j _ _)))
  exact funext fun a => match a with | ⟨0, _⟩ => rfl | ⟨1, _⟩ => rfl

theorem want5_1 : want5 m c (ix3 1 i j) = part (own1 m c) (got1 m c) i j := by
  refine (stack_1 _ _ _ i j).trans ((val_main_v11_apply (own1 m c) (got1 m c) (ix3 0 i j)).trans (Eq.trans (congrArg _ ?_) (layer_0 i j _ _)))
  exact funext fun a => match a with | ⟨0, _⟩ => rfl | ⟨1, _⟩ => rfl

theorem want7_at : want7 m c y = first (argM m c y) (want5 m c y) := rfl
theorem want8_at : want8 m c y = second (argV m c y) (want5 m c y) := rfl
theorem want6_at : want6 m c y = change (argW m c y) (want7 m c y) (want8 m c y) := rfl

end Wanted

/-- A block's row and column in the slab. -/
def row (t : Fin cfg0.N) (i : Fin 372) : Fin 372 := ⟨372 * 0 + i.val, by have h : t.val < 4 := t.isLt; have := i.isLt; omega⟩
def col (t : Fin cfg0.N) (j : Fin 256) : Fin 1024 := ⟨256 * t.val + j.val, by have h : t.val < 4 := t.isLt; have := j.isLt; omega⟩

/-- The blocks of the launch of layer 1. -/
theorem index0 : ∀ t : Fin cfg0.N, win0_0.index t = ![0, 0, t.val] ∧ win0_1.index t = ![0, 0, t.val] ∧ win0_2.index t = ![1, 0, t.val] ∧ win0_3.index t = ![1, 0, t.val] ∧ win0_4.index t = ![1, 0, t.val]
    ∧ win0_5.index t = ![1, 0, t.val] ∧ win0_6.index t = ![1, 0, t.val] ∧ win0_7.index t = ![1, 0, t.val] ∧ win0_8.index t = ![1, 0, t.val] := (by decide +kernel : ∀ t : Fin grid0.N, _)

/-- The blocks of the launch of layer 0. -/
theorem index1 : ∀ t : Fin cfg1.N, win1_0.index t = ![0, 0, t.val] ∧ win1_1.index t = ![0, 0, t.val] ∧ win1_2.index t = ![0, 0, t.val] ∧ win1_3.index t = ![0, 0, t.val] ∧ win1_4.index t = ![0, 0, t.val]
    ∧ win1_5.index t = ![0, 0, t.val] ∧ win1_6.index t = ![0, 0, t.val] ∧ win1_7.index t = ![0, 0, t.val] ∧ win1_8.index t = ![0, 0, t.val] := (by decide +kernel : ∀ t : Fin grid1.N, _)

theorem at0 (t : Fin cfg0.N) (i : Fin 372) (j : Fin 256) :
    iblk0 (V0 m ρ) c 0 t (ix3 0 i j) = own1 m c (ix3 0 (row t i) (col t j))
    ∧ (∀ p : Fin 7, iblk0 (V0 m ρ) c 1 t (ix3 p i j) = got1 m c (ix3 p (row t i) (col t j)))
    ∧ iblk0 (V0 m ρ) c 2 t (ix3 0 i j) = argW m c (ix3 1 (row t i) (col t j))
    ∧ iblk0 (V0 m ρ) c 3 t (ix3 0 i j) = argM m c (ix3 1 (row t i) (col t j))
    ∧ iblk0 (V0 m ρ) c 4 t (ix3 0 i j) = argV m c (ix3 1 (row t i) (col t j)) := by
  obtain ⟨e0, e1, e2, e3, e4, -⟩ := index0 t
  refine ⟨?_, fun p => ?_, ?_, ?_, ?_⟩ <;> blk_simp [iblk0]
  on_goal 1 => refine congrArg (own1 m c) ?_
  on_goal 2 => refine congrArg (got1 m c) ?_
  on_goal 3 => refine congrArg (argW m c) ?_
  on_goal 4 => refine congrArg (argM m c) ?_
  on_goal 5 => refine congrArg (argV m c) ?_
  all_goals
    blk_ext [e0, e1, e2, e3, e4, row, col] <;> first | rfl | (change i.val = _; omega) | (change j.val = _; omega) | (change _ * _ + i.val = _; omega) | (change _ * _ + j.val = _; omega)

theorem part0_at (t : Fin cfg0.N) (i : Fin 372) (j : Fin 256) :
    part (iblk0 (V0 m ρ) c 0 t) (iblk0 (V0 m ρ) c 1 t) i j = part (own1 m c) (got1 m c) (row t i) (col t j) :=
  congrArg₂ (· + ·) (at0 m ρ c t i j).1 (Finset.sum_congr rfl fun p _ => (at0 m ρ c t i j).2.1 p)

theorem at1 (t : Fin cfg1.N) (i : Fin 372) (j : Fin 256) :
    iblk1 (V2 m ρ) c 0 t (ix3 0 i j) = own0 m c (ix3 0 (row t i) (col t j))
    ∧ (∀ p : Fin 7, iblk1 (V2 m ρ) c 1 t (ix3 p i j) = got0 m c (ix3 p (row t i) (col t j)))
    ∧ iblk1 (V2 m ρ) c 2 t (ix3 0 i j) = argW m c (ix3 0 (row t i) (col t j))
    ∧ iblk1 (V2 m ρ) c 3 t (ix3 0 i j) = argM m c (ix3 0 (row t i) (col t j))
    ∧ iblk1 (V2 m ρ) c 4 t (ix3 0 i j) = argV m c (ix3 0 (row t i) (col t j)) := by
  obtain ⟨e0, e1, e2, e3, e4, -⟩ := index1 t
  refine ⟨?_, fun p => ?_, ?_, ?_, ?_⟩ <;> blk_simp [iblk1]
  on_goal 1 => refine (congrFun (W2_args m ρ c main_arg0 (by decide)) _).trans (congrArg (own0 m c) ?_)
  on_goal 2 => refine (congrFun (W2_args m ρ c main_arg1 (by decide)) _).trans (congrArg (got0 m c) ?_)
  on_goal 3 => refine (congrFun (W2_args m ρ c main_arg4 (by decide)) _).trans (congrArg (argW m c) ?_)
  on_goal 4 => refine (congrFun (W2_args m ρ c main_arg5 (by decide)) _).trans (congrArg (argM m c) ?_)
  on_goal 5 => refine (congrFun (W2_args m ρ c main_arg6 (by decide)) _).trans (congrArg (argV m c) ?_)
  all_goals
    blk_ext [e0, e1, e2, e3, e4, row, col] <;> first | rfl | (change i.val = _; omega) | (change j.val = _; omega) | (change _ * _ + i.val = _; omega) | (change _ * _ + j.val = _; omega)

theorem part1_at (t : Fin cfg1.N) (i : Fin 372) (j : Fin 256) :
    part (iblk1 (V2 m ρ) c 0 t) (iblk1 (V2 m ρ) c 1 t) i j = part (own0 m c) (got0 m c) (row t i) (col t j) :=
  congrArg₂ (· + ·) (at1 m ρ c t i j).1 (Finset.sum_congr rfl fun p _ => (at1 m ρ c t i j).2.1 p)

/-- A grid point of the second launch leaves what one of the first would of the same blocks. -/
theorem left (V : (c : Dev nD) → (b : Ref sig .tc) → Buf (Elt Ideal) ((c : Thread nD τ).loc b)) (t : Fin cfg1.N) :
    (outsAt1 V c t).1 = out0_5 (iblk1 V c 0 t) (iblk1 V c 1 t) (iblk1 V c 2 t) (iblk1 V c 3 t) (iblk1 V c 4 t)
    ∧ (outsAt1 V c t).2.1 = out0_6 (iblk1 V c 0 t) (iblk1 V c 1 t) (iblk1 V c 2 t) (iblk1 V c 3 t) (iblk1 V c 4 t)
    ∧ (outsAt1 V c t).2.2.1 = out0_7 (iblk1 V c 0 t) (iblk1 V c 1 t) (iblk1 V c 2 t) (iblk1 V c 3 t) (iblk1 V c 4 t)
    ∧ (outsAt1 V c t).2.2.2 = out0_8 (iblk1 V c 0 t) (iblk1 V c 1 t) (iblk1 V c 2 t) (iblk1 V c 3 t) (iblk1 V c 4 t) := by
  refine ⟨?_, ?_, ?_, ?_⟩
  all_goals
    unfold outsAt1
    dsimp only
    first | unfold out1_A_5 | unfold out1_A_6 | unfold out1_A_7 | unfold out1_A_8
    unfold kernelRun1_A
    dsimp only
    rw [View.read_writes_junk_eq_canon]
    simp only [kernelRun1_A.sl.r, kernelRun1_A.sl.r_1, kernelRun1_A.sl.r_2, View.readAt_eq_ld, Memref.IsWhole.read_unread]
    rfl

set_option maxHeartbeats 1000000 in
/-- Layer 1 after the first launch. -/
theorem early (i : Fin 372) (j : Fin 1024) :
    (dat0 (V0 m ρ) c).arrAt 5 cfg0.N (ix3 1 i j) = want5 m c (ix3 1 i j)
    ∧ (dat0 (V0 m ρ) c).arrAt 6 cfg0.N (ix3 1 i j) = want6 m c (ix3 1 i j)
    ∧ (dat0 (V0 m ρ) c).arrAt 7 cfg0.N (ix3 1 i j) = want7 m c (ix3 1 i j)
    ∧ (dat0 (V0 m ρ) c).arrAt 8 cfg0.N (ix3 1 i j) = want8 m c (ix3 1 i j) := by
  refine ⟨((dat0 (V0 m ρ) c).arrAt_apply_of_coversWhere 5 (want5 m c) (P := fun y : S2x372x1024.Idx => (y 0).val = 1)
      (fun β => β (0 : Fin 3) = 1) (by decide +kernel) ?_ ?_ (ix3 1 i j)).trans (if_pos rfl),
    ((dat0 (V0 m ρ) c).arrAt_apply_of_coversWhere 6 (want6 m c) (P := fun y : S2x372x1024.Idx => (y 0).val = 1)
      (fun β => β (0 : Fin 3) = 1) (by decide +kernel) ?_ ?_ (ix3 1 i j)).trans (if_pos rfl),
    ((dat0 (V0 m ρ) c).arrAt_apply_of_coversWhere 7 (want7 m c) (P := fun y : S2x372x1024.Idx => (y 0).val = 1)
      (fun β => β (0 : Fin 3) = 1) (by decide +kernel) ?_ ?_ (ix3 1 i j)).trans (if_pos rfl),
    ((dat0 (V0 m ρ) c).arrAt_apply_of_coversWhere 8 (want8 m c) (P := fun y : S2x372x1024.Idx => (y 0).val = 1)
      (fun β => β (0 : Fin 3) = 1) (by decide +kernel) ?_ ?_ (ix3 1 i j)).trans (if_pos rfl)⟩
  all_goals first
    | (intro t hf y
       obtain ⟨-, -, -, -, -, e5, e6, e7, e8⟩ := index0 t
       blk_simp
       first | rw [after0_5] | rw [after0_6] | rw [after0_7] | rw [after0_8]
       obtain ⟨i, j, rfl⟩ : ∃ (i : Fin 372) (j : Fin 256), y = ix3 0 i j := ext3 y
       obtain ⟨-, -, eW, eM, eV⟩ := at0 m ρ c t i j
       refine Eq.trans ?_ (congrArg _ (?_ : ix3 1 (row t i) (col t j) = _))
       · first
          | rw [pay_5, want5_1, part0_at]
          | rw [pay_6, want6_at, want7_at, want8_at, want5_1, part0_at, eW, eM, eV]
          | rw [pay_7, want7_at, want5_1, part0_at, eM]
          | rw [pay_8, want8_at, want5_1, part0_at, eV]
       · blk_ext [e5, e6, e7, e8, row, col] <;> first | rfl | (change _ = i.val; omega) | (change _ = j.val; omega) | (change _ = _ * _ + i.val; omega) | (change _ = _ * _ + j.val; omega))
    | (intro y
       blk_simp [Pipeline.Window.cell_apply]
       first | exact Iff.rfl | omega)

set_option maxHeartbeats 1000000 in
/-- Both layers after the second launch, result by result. -/
theorem arrays :
    W3 m ρ c (Proc.devRef .tc main_v1_0) = want5 m c
    ∧ W3 m ρ c (Proc.devRef .tc main_v1_1) = want6 m c
    ∧ W3 m ρ c (Proc.devRef .tc main_v1_2) = want7 m c
    ∧ W3 m ρ c (Proc.devRef .tc main_v1_3) = want8 m c := by
  have kept : V2 m ρ c main_v1_0 = (dat0 (V0 m ρ) c).arrAt 5 cfg0.N
      ∧ V2 m ρ c main_v1_1 = (dat0 (V0 m ρ) c).arrAt 6 cfg0.N
      ∧ V2 m ρ c main_v1_2 = (dat0 (V0 m ρ) c).arrAt 7 cfg0.N
      ∧ V2 m ρ c main_v1_3 = (dat0 (V0 m ρ) c).arrAt 8 cfg0.N := by
    refine ⟨Eq.trans ?_ (W1_arr m ρ c 5), Eq.trans ?_ (W1_arr m ρ c 6), Eq.trans ?_ (W1_arr m ρ c 7), Eq.trans ?_ (W1_arr m ρ c 8)⟩
    all_goals
      show StableHlo.after hostOps1 (W1 m ρ c) (Proc.devRef .tc _) = _
      after_results
      first | done | rfl
  refine ⟨(W3_arr m ρ c 5).trans ((dat1 (V2 m ρ) c).arrAt_eq_of_coversWhere_of_agree 5 _ (fun β => β (0 : Fin 3) = 0) (by decide +kernel) ?_ ?_),
    (W3_arr m ρ c 6).trans ((dat1 (V2 m ρ) c).arrAt_eq_of_coversWhere_of_agree 6 _ (fun β => β (0 : Fin 3) = 0) (by decide +kernel) ?_ ?_),
    (W3_arr m ρ c 7).trans ((dat1 (V2 m ρ) c).arrAt_eq_of_coversWhere_of_agree 7 _ (fun β => β (0 : Fin 3) = 0) (by decide +kernel) ?_ ?_),
    (W3_arr m ρ c 8).trans ((dat1 (V2 m ρ) c).arrAt_eq_of_coversWhere_of_agree 8 _ (fun β => β (0 : Fin 3) = 0) (by decide +kernel) ?_ ?_)⟩
  all_goals first
    | (intro t hf y
       obtain ⟨-, -, -, -, -, e5, e6, e7, e8⟩ := index1 t
       blk_simp
       first | rw [after1_5, (left c _ t).1] | rw [after1_6, (left c _ t).2.1] | rw [after1_7, (left c _ t).2.2.1] | rw [after1_8, (left c _ t).2.2.2]
       obtain ⟨i, j, rfl⟩ : ∃ (i : Fin 372) (j : Fin 256), y = ix3 0 i j := ext3 y
       obtain ⟨-, -, eW, eM, eV⟩ := at1 m ρ c t i j
       refine Eq.trans ?_ (congrArg _ (?_ : ix3 0 (row t i) (col t j) = _))
       · first
          | rw [pay_5, want5_0, part1_at]
          | rw [pay_6, want6_at, want7_at, want8_at, want5_0, part1_at, eW, eM, eV]
          | rw [pay_7, want7_at, want5_0, part1_at, eM]
          | rw [pay_8, want8_at, want5_0, part1_at, eV]
       · blk_ext [e5, e6, e7, e8, row, col] <;> first | rfl | (change _ = i.val; omega) | (change _ = j.val; omega) | (change _ = _ * _ + i.val; omega) | (change _ = _ * _ + j.val; omega))
    | (intro y hy
       blk_simp [Pipeline.Window.cell_apply] at hy
       obtain ⟨i, j, rfl⟩ : ∃ (i : Fin 372) (j : Fin 1024), y = ix3 1 i j := later y (by simpa using hy)
       rw [A_eq1]
       first
       | exact (congrFun kept.1 (ix3 1 i j)).trans (early m ρ c i j).1
       | exact (congrFun kept.2.1 (ix3 1 i j)).trans (early m ρ c i j).2.1
       | exact (congrFun kept.2.2.1 (ix3 1 i j)).trans (early m ρ c i j).2.2.1
       | exact (congrFun kept.2.2.2 (ix3 1 i j)).trans (early m ρ c i j).2.2.2)

section Run

open Idealize.SL Idealize.SL.RA Idealize.SL.BI Idealize.SL.BI.BIBase Idealize.SL.BI.Laws Idealize.SL.ProofMode Idealize.SL.Sem
open Idealize.ShloMosaic.Rounds Idealize.ShloMosaic.Tactic
open scoped Idealize.SL.BI

local notation "𝕄" => MT nD τ sig Unit (Elt Ideal) ℕ (UR sig nD τ) ℕ

set_option backward.isDefEq.respectTransparency.types false in
set_option maxRecDepth 16384 in
/-- Both launches end, with the reference's four results, the arguments as launched. -/
theorem run : θ_run defs (onTc (τ := τ) (main (F := Ideal))) ⟨m, fun _ => 0, ρ⟩ (fun r => ∀ c : Dev nD,
      r.2.mem ((c.tc : Thread nD τ).loc main_v1_0) = want5 m c
      ∧ r.2.mem ((c.tc : Thread nD τ).loc main_v1_1) = want6 m c
      ∧ r.2.mem ((c.tc : Thread nD τ).loc main_v1_2) = want7 m c
      ∧ r.2.mem ((c.tc : Thread nD τ).loc main_v1_3) = want8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_sems (pcfgs (F := Ideal)) adm (pdats m ρ) () cellOf_inj emb₁ defs₀ 𝒱₀ L lv m ρ main (segs m ρ)
    (fun c _ => by rw [main_run m ρ c]) (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?_)
    (QY := fun c s => ∀ b ∈ Pipeline.ucRefs τ sig, s.mem (((c : Thread nD τ)).1, b) = W3 m ρ c b) (hfin := fun c s' => ?_)
    (hQ := fun s h _ c => have u := fun b hb => h c _ (mem_uc b hb)
     ⟨(u main_v1_0 (by decide)).trans (arrays m ρ c).1, (u main_v1_1 (by decide)).trans (arrays m ρ c).2.1,
      (u main_v1_2 (by decide)).trans (arrays m ρ c).2.2.1, (u main_v1_3 (by decide)).trans (arrays m ρ c).2.2.2,
      (u main_arg0 (by decide)).trans (W3_main_arg0 m ρ c), (u main_arg1 (by decide)).trans (W3_main_arg1 m ρ c), (u main_arg2 (by decide)).trans (W3_main_arg2 m ρ c), (u main_arg3 (by decide)).trans (W3_main_arg3 m ρ c), (u main_arg4 (by decide)).trans (W3_main_arg4 m ρ c), (u main_arg5 (by decide)).trans (W3_main_arg5 m ρ c), (u main_arg6 (by decide)).trans (W3_main_arg6 m ρ c)⟩)
  · have start : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    have none : (BI.emp : sProp 𝕄) ⊢ bigSep Finset.univ (fun _ : Dev nD => (BI.emp : sProp 𝕄)) := by rw [BI.bigSep_emp_const]
    iintro Hu
    imodintro
    isplitl [Hu]
    · iapply start
      iexact Hu
    iapply none
    iempintro
  · refine Pipeline.initEach L lv fun c => ?_
    have all : (unscopedBufs c (fun b => m ((c : Thread nD τ).loc b)) : sProp 𝕄) = StableHlo.held (c : Thread nD τ) (Pipeline.ucRefs τ sig) (W0 m ρ c) :=
      Pipeline.unscopedBufs_held c (W0 m ρ c)
    rw [all]
    iintro ⟨⟨Hh, -, HO, -, Hp, -⟩, -⟩
    imodintro
    isplitl [Hh]
    · iexact Hh
    isplitl [Hp]
    · iexists _
      iexact Hp
    iexists ∅
    iexact HO
  · iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption

end Run

end Cert.StepEvenInIdeal.Step

end
-- ==== Proof.StepOddIn.lean ====
/-
  THE STEP OF A SLAB OF TWO LAYERS, 1024 BY 384, in four tiles of 256 rows: the launch of layer 1 and, over its results, the launch of layer 0; the two leave the
  reference's results.
-/
module

public import proofs.«01_k».proof.Proof.StepSlab
public import proofs.«01_k».proof.Proof.Maths
public import Idealize.ShloMosaic.Lib.Pipeline.ValueKit.Partial
public import proofs.«01_k».proof.Proof.Gen.StepOddInIdeal.Frame
public import proofs.«01_k».proof.Proof.Gen.StepOddInRefIdeal.Read

@[expose] public section

noncomputable section

namespace Cert.StepOddInIdeal.Step

open Idealize.ShloMosaic
open Idealize.ShloMosaic.ValueIdx Idealize.ShloMosaic.TcCoe
open Idealize.ShloMosaic.Pipeline (Dat Cfg Window)
open Cert.StepOddInRefIdeal.Read Cert.StepOddInIdeal Cert.StepOddInIdeal.Gen Cert.Products Cert.Step
open scoped BigOperators

section Payloads

variable (o : Vec Ideal S1x256x384 .bf16) (x : Vec Ideal S7x256x384 .bf16) (w p q : Vec Ideal S1x256x384 .f32)
variable (i : Fin 256) (j : Fin 384)

/-- What a grid point's body computes, at an index. -/
theorem sum_at : k0_pay8 (F := Ideal) o x w p q (ix2 i j) = part o x i j := by
  rw [part_eq]
  unfold k0_pay8 k0_pay3
  exact congrArg₂ (· + ·) (congrArg₂ (· + ·) (congrArg₂ (· + ·) (congrArg₂ (· + ·) (congrArg₂ (· + ·) (congrArg₂ (· + ·)
    (congrArg₂ (· + ·) (page_at o 0 _ _ i j) (page_at x 0 _ _ i j)) (page_at x 1 _ _ i j)) (page_at x 2 _ _ i j))
    (page_at x 3 _ _ i j)) (page_at x 4 _ _ i j)) (page_at x 5 _ _ i j)) (page_at x 6 _ _ i j)

theorem mean_at (g : FVec Ideal S256x384 .f32) :
    k0_pay4 (F := Ideal) g (View.ld p r0_0) (ix2 i j) = first (p (ix3 0 i j)) (g (ix2 i j)) :=
  congrArg (fun a => first a (g (ix2 i j))) (page_at p 0 _ _ i j)

theorem square_at (g : FVec Ideal S256x384 .f32) :
    k0_pay5 (F := Ideal) g (View.ld q r0_0) (ix2 i j) = second (q (ix3 0 i j)) (g (ix2 i j)) :=
  congrArg (fun a => second a (g (ix2 i j))) (page_at q 0 _ _ i j)

theorem pay_5 : out0_5 (F := Ideal) o x w p q (ix3 0 i j) = part o x i j := by
  unfold out0_5
  rw [View.canon_unit_zero offsets3]
  exact (under_at (e := .f32) (k0_pay8 o x w p q) _ i j).trans (sum_at o x w p q i j)

theorem pay_7 : out0_7 (F := Ideal) o x w p q (ix3 0 i j) = first (p (ix3 0 i j)) (part o x i j) := by
  unfold out0_7
  rw [View.canon_unit_zero offsets3]
  exact (under_at (e := .f32) (k0_pay4 (k0_pay8 o x w p q) (View.ld p r0_0)) _ i j).trans ((mean_at p i j _).trans (congrArg (first _) (sum_at o x w p q i j)))

theorem pay_8 : out0_8 (F := Ideal) o x w p q (ix3 0 i j) = second (q (ix3 0 i j)) (part o x i j) := by
  unfold out0_8
  rw [View.canon_unit_zero offsets3]
  exact (under_at (e := .f32) (k0_pay5 (k0_pay8 o x w p q) (View.ld q r0_0)) _ i j).trans ((square_at q i j _).trans (congrArg (second _) (sum_at o x w p q i j)))

theorem pay_6 : out0_6 (F := Ideal) o x w p q (ix3 0 i j)
    = change (w (ix3 0 i j)) (first (p (ix3 0 i j)) (part o x i j)) (second (q (ix3 0 i j)) (part o x i j)) := by
  have h (g : FVec Ideal S256x384 .f32) (u v t : Vec Ideal S1x256x384 .f32) : k0_pay7 (F := Ideal) g u v t (ix3 0 i j)
      = change (shapeCast S256x384 t shapeCasts_S1x256x384_S256x384 (ix2 i j)) (k0_pay4 (F := Ideal) g u (ix2 i j))
        (k0_pay5 (F := Ideal) g v (ix2 i j)) := by
    unfold k0_pay7
    exact under_at (e := .f32) _ _ i j
  unfold out0_6
  rw [View.canon_unit_zero offsets3, h, mean_at, square_at, sum_at]
  exact congrArg (fun a => change a _ _) (page_at w 0 _ _ i j)

end Payloads

variable (m : (ℓ : Loc nD τ sig) → Buf (Elt Ideal) ℓ) (ρ : Dev nD → PrngReg) (c : Dev nD)

/-- The arguments: each layer's own and received parts, the weight and the two moments. -/
abbrev own0 : FVec Ideal S1x1024x384 .bf16 := m ((c : Thread nD τ).loc main_arg0)
abbrev got0 : FVec Ideal S7x1024x384 .bf16 := m ((c : Thread nD τ).loc main_arg1)
abbrev own1 : FVec Ideal S1x1024x384 .bf16 := m ((c : Thread nD τ).loc main_arg2)
abbrev got1 : FVec Ideal S7x1024x384 .bf16 := m ((c : Thread nD τ).loc main_arg3)
abbrev argW : FVec Ideal S2x1024x384 .f32 := m ((c : Thread nD τ).loc main_arg4)
abbrev argM : FVec Ideal S2x1024x384 .f32 := m ((c : Thread nD τ).loc main_arg5)
abbrev argV : FVec Ideal S2x1024x384 .f32 := m ((c : Thread nD τ).loc main_arg6)

section Wanted

variable (i : Fin 1024) (j : Fin 384) (y : S2x1024x384.Idx)

/-- The reference's values. -/
abbrev want5 := val_main_v12 (F := Ideal) (own0 m c) (got0 m c) (own1 m c) (got1 m c)
abbrev want6 := val_main_v36 (F := Ideal) (own0 m c) (got0 m c) (own1 m c) (got1 m c) (argW m c) (argM m c) (argV m c)
abbrev want7 := val_main_v17 (F := Ideal) (own0 m c) (got0 m c) (own1 m c) (got1 m c) (argM m c)
abbrev want8 := val_main_v23 (F := Ideal) (own0 m c) (got0 m c) (own1 m c) (got1 m c) (argV m c)

/-- One layer's gradient, as the reference has it. -/
theorem layer_0 (o : Vec Ideal S1x1024x384 .bf16) (x : Vec Ideal S7x1024x384 .bf16) : val_main_v4 (F := Ideal) o x (ix2 i j) = part o x i j := by
  refine congrArg₂ (· + ·) (bare_at o _ i j) ((val_main_v3_apply x (ix2 i j)).trans ?_)
  refine (congrArg₂ (· + ·) Cert.AttnGrad.zero_word (Finset.sum_congr rfl fun p _ => congrArg x ?_)).trans (zero_add _)
  exact funext fun a => match a with | ⟨0, _⟩ => rfl | ⟨1, _⟩ => rfl | ⟨2, _⟩ => rfl

/-- The two layers stacked, read at either. -/
theorem want5_0 : want5 m c (ix3 0 i j) = part (own0 m c) (got0 m c) i j := by
  refine (stack_0 _ _ _ i j).trans ((val_main_v10_apply (own0 m c) (got0 m c) (ix3 0 i j)).trans (Eq.trans (congrArg _ ?_) (layer_0 i j _ _)))
  exact funext fun a => match a with | ⟨0, _⟩ => rfl | ⟨1, _⟩ => rfl

theorem want5_1 : want5 m c (ix3 1 i j) = part (own1 m c) (got1 m c) i j := by
  refine (stack_1 _ _ _ i j).trans ((val_main_v11_apply (own1 m c) (got1 m c) (ix3 0 i j)).trans (Eq.trans (congrArg _ ?_) (layer_0 i j _ _)))
  exact funext fun a => match a with | ⟨0, _⟩ => rfl | ⟨1, _⟩ => rfl

theorem want7_at : want7 m c y = first (argM m c y) (want5 m c y) := rfl
theorem want8_at : want8 m c y = second (argV m c y) (want5 m c y) := rfl
theorem want6_at : want6 m c y = change (argW m c y) (want7 m c y) (want8 m c y) := rfl

end Wanted

/-- A block's row and column in the slab. -/
def row (t : Fin cfg0.N) (i : Fin 256) : Fin 1024 := ⟨256 * t.val + i.val, by have h : t.val < 4 := t.isLt; have := i.isLt; omega⟩
def col (t : Fin cfg0.N) (j : Fin 384) : Fin 384 := ⟨384 * 0 + j.val, by have h : t.val < 4 := t.isLt; have := j.isLt; omega⟩

/-- The blocks of the launch of layer 1. -/
theorem index0 : ∀ t : Fin cfg0.N, win0_0.index t = ![0, t.val, 0] ∧ win0_1.index t = ![0, t.val, 0] ∧ win0_2.index t = ![1, t.val, 0] ∧ win0_3.index t = ![1, t.val, 0] ∧ win0_4.index t = ![1, t.val, 0]
    ∧ win0_5.index t = ![1, t.val, 0] ∧ win0_6.index t = ![1, t.val, 0] ∧ win0_7.index t = ![1, t.val, 0] ∧ win0_8.index t = ![1, t.val, 0] := (by decide +kernel : ∀ t : Fin grid0.N, _)

/-- The blocks of the launch of layer 0. -/
theorem index1 : ∀ t : Fin cfg1.N, win1_0.index t = ![0, t.val, 0] ∧ win1_1.index t = ![0, t.val, 0] ∧ win1_2.index t = ![0, t.val, 0] ∧ win1_3.index t = ![0, t.val, 0] ∧ win1_4.index t = ![0, t.val, 0]
    ∧ win1_5.index t = ![0, t.val, 0] ∧ win1_6.index t = ![0, t.val, 0] ∧ win1_7.index t = ![0, t.val, 0] ∧ win1_8.index t = ![0, t.val, 0] := (by decide +kernel : ∀ t : Fin grid1.N, _)

theorem at0 (t : Fin cfg0.N) (i : Fin 256) (j : Fin 384) :
    iblk0 (V0 m ρ) c 0 t (ix3 0 i j) = own1 m c (ix3 0 (row t i) (col t j))
    ∧ (∀ p : Fin 7, iblk0 (V0 m ρ) c 1 t (ix3 p i j) = got1 m c (ix3 p (row t i) (col t j)))
    ∧ iblk0 (V0 m ρ) c 2 t (ix3 0 i j) = argW m c (ix3 1 (row t i) (col t j))
    ∧ iblk0 (V0 m ρ) c 3 t (ix3 0 i j) = argM m c (ix3 1 (row t i) (col t j))
    ∧ iblk0 (V0 m ρ) c 4 t (ix3 0 i j) = argV m c (ix3 1 (row t i) (col t j)) := by
  obtain ⟨e0, e1, e2, e3, e4, -⟩ := index0 t
  refine ⟨?_, fun p => ?_, ?_, ?_, ?_⟩ <;> blk_simp [iblk0]
  on_goal 1 => refine congrArg (own1 m c) ?_
  on_goal 2 => refine congrArg (got1 m c) ?_
  on_goal 3 => refine congrArg (argW m c) ?_
  on_goal 4 => refine congrArg (argM m c) ?_
  on_goal 5 => refine congrArg (argV m c) ?_
  all_goals
    blk_ext [e0, e1, e2, e3, e4, row, col] <;> first | rfl | (change i.val = _; omega) | (change j.val = _; omega) | (change _ * _ + i.val = _; omega) | (change _ * _ + j.val = _; omega)

theorem part0_at (t : Fin cfg0.N) (i : Fin 256) (j : Fin 384) :
    part (iblk0 (V0 m ρ) c 0 t) (iblk0 (V0 m ρ) c 1 t) i j = part (own1 m c) (got1 m c) (row t i) (col t j) :=
  congrArg₂ (· + ·) (at0 m ρ c t i j).1 (Finset.sum_congr rfl fun p _ => (at0 m ρ c t i j).2.1 p)

theorem at1 (t : Fin cfg1.N) (i : Fin 256) (j : Fin 384) :
    iblk1 (V2 m ρ) c 0 t (ix3 0 i j) = own0 m c (ix3 0 (row t i) (col t j))
    ∧ (∀ p : Fin 7, iblk1 (V2 m ρ) c 1 t (ix3 p i j) = got0 m c (ix3 p (row t i) (col t j)))
    ∧ iblk1 (V2 m ρ) c 2 t (ix3 0 i j) = argW m c (ix3 0 (row t i) (col t j))
    ∧ iblk1 (V2 m ρ) c 3 t (ix3 0 i j) = argM m c (ix3 0 (row t i) (col t j))
    ∧ iblk1 (V2 m ρ) c 4 t (ix3 0 i j) = argV m c (ix3 0 (row t i) (col t j)) := by
  obtain ⟨e0, e1, e2, e3, e4, -⟩ := index1 t
  refine ⟨?_, fun p => ?_, ?_, ?_, ?_⟩ <;> blk_simp [iblk1]
  on_goal 1 => refine (congrFun (W2_args m ρ c main_arg0 (by decide)) _).trans (congrArg (own0 m c) ?_)
  on_goal 2 => refine (congrFun (W2_args m ρ c main_arg1 (by decide)) _).trans (congrArg (got0 m c) ?_)
  on_goal 3 => refine (congrFun (W2_args m ρ c main_arg4 (by decide)) _).trans (congrArg (argW m c) ?_)
  on_goal 4 => refine (congrFun (W2_args m ρ c main_arg5 (by decide)) _).trans (congrArg (argM m c) ?_)
  on_goal 5 => refine (congrFun (W2_args m ρ c main_arg6 (by decide)) _).trans (congrArg (argV m c) ?_)
  all_goals
    blk_ext [e0, e1, e2, e3, e4, row, col] <;> first | rfl | (change i.val = _; omega) | (change j.val = _; omega) | (change _ * _ + i.val = _; omega) | (change _ * _ + j.val = _; omega)

theorem part1_at (t : Fin cfg1.N) (i : Fin 256) (j : Fin 384) :
    part (iblk1 (V2 m ρ) c 0 t) (iblk1 (V2 m ρ) c 1 t) i j = part (own0 m c) (got0 m c) (row t i) (col t j) :=
  congrArg₂ (· + ·) (at1 m ρ c t i j).1 (Finset.sum_congr rfl fun p _ => (at1 m ρ c t i j).2.1 p)

/-- A grid point of the second launch leaves what one of the first would of the same blocks. -/
theorem left (V : (c : Dev nD) → (b : Ref sig .tc) → Buf (Elt Ideal) ((c : Thread nD τ).loc b)) (t : Fin cfg1.N) :
    (outsAt1 V c t).1 = out0_5 (iblk1 V c 0 t) (iblk1 V c 1 t) (iblk1 V c 2 t) (iblk1 V c 3 t) (iblk1 V c 4 t)
    ∧ (outsAt1 V c t).2.1 = out0_6 (iblk1 V c 0 t) (iblk1 V c 1 t) (iblk1 V c 2 t) (iblk1 V c 3 t) (iblk1 V c 4 t)
    ∧ (outsAt1 V c t).2.2.1 = out0_7 (iblk1 V c 0 t) (iblk1 V c 1 t) (iblk1 V c 2 t) (iblk1 V c 3 t) (iblk1 V c 4 t)
    ∧ (outsAt1 V c t).2.2.2 = out0_8 (iblk1 V c 0 t) (iblk1 V c 1 t) (iblk1 V c 2 t) (iblk1 V c 3 t) (iblk1 V c 4 t) := by
  refine ⟨?_, ?_, ?_, ?_⟩
  all_goals
    unfold outsAt1
    dsimp only
    first | unfold out1_A_5 | unfold out1_A_6 | unfold out1_A_7 | unfold out1_A_8
    unfold kernelRun1_A
    dsimp only
    rw [View.read_writes_junk_eq_canon]
    simp only [kernelRun1_A.sl.r, kernelRun1_A.sl.r_1, kernelRun1_A.sl.r_2, View.readAt_eq_ld, Memref.IsWhole.read_unread]
    rfl

set_option maxHeartbeats 1000000 in
/-- Layer 1 after the first launch. -/
theorem early (i : Fin 1024) (j : Fin 384) :
    (dat0 (V0 m ρ) c).arrAt 5 cfg0.N (ix3 1 i j) = want5 m c (ix3 1 i j)
    ∧ (dat0 (V0 m ρ) c).arrAt 6 cfg0.N (ix3 1 i j) = want6 m c (ix3 1 i j)
    ∧ (dat0 (V0 m ρ) c).arrAt 7 cfg0.N (ix3 1 i j) = want7 m c (ix3 1 i j)
    ∧ (dat0 (V0 m ρ) c).arrAt 8 cfg0.N (ix3 1 i j) = want8 m c (ix3 1 i j) := by
  refine ⟨((dat0 (V0 m ρ) c).arrAt_apply_of_coversWhere 5 (want5 m c) (P := fun y : S2x1024x384.Idx => (y 0).val = 1)
      (fun β => β (0 : Fin 3) = 1) (by decide +kernel) ?_ ?_ (ix3 1 i j)).trans (if_pos rfl),
    ((dat0 (V0 m ρ) c).arrAt_apply_of_coversWhere 6 (want6 m c) (P := fun y : S2x1024x384.Idx => (y 0).val = 1)
      (fun β => β (0 : Fin 3) = 1) (by decide +kernel) ?_ ?_ (ix3 1 i j)).trans (if_pos rfl),
    ((dat0 (V0 m ρ) c).arrAt_apply_of_coversWhere 7 (want7 m c) (P := fun y : S2x1024x384.Idx => (y 0).val = 1)
      (fun β => β (0 : Fin 3) = 1) (by decide +kernel) ?_ ?_ (ix3 1 i j)).trans (if_pos rfl),
    ((dat0 (V0 m ρ) c).arrAt_apply_of_coversWhere 8 (want8 m c) (P := fun y : S2x1024x384.Idx => (y 0).val = 1)
      (fun β => β (0 : Fin 3) = 1) (by decide +kernel) ?_ ?_ (ix3 1 i j)).trans (if_pos rfl)⟩
  all_goals first
    | (intro t hf y
       obtain ⟨-, -, -, -, -, e5, e6, e7, e8⟩ := index0 t
       blk_simp
       first | rw [after0_5] | rw [after0_6] | rw [after0_7] | rw [after0_8]
       obtain ⟨i, j, rfl⟩ : ∃ (i : Fin 256) (j : Fin 384), y = ix3 0 i j := ext3 y
       obtain ⟨-, -, eW, eM, eV⟩ := at0 m ρ c t i j
       refine Eq.trans ?_ (congrArg _ (?_ : ix3 1 (row t i) (col t j) = _))
       · first
          | rw [pay_5, want5_1, part0_at]
          | rw [pay_6, want6_at, want7_at, want8_at, want5_1, part0_at, eW, eM, eV]
          | rw [pay_7, want7_at, want5_1, part0_at, eM]
          | rw [pay_8, want8_at, want5_1, part0_at, eV]
       · blk_ext [e5, e6, e7, e8, row, col] <;> first | rfl | (change _ = i.val; omega) | (change _ = j.val; omega) | (change _ = _ * _ + i.val; omega) | (change _ = _ * _ + j.val; omega))
    | (intro y
       blk_simp [Pipeline.Window.cell_apply]
       first | exact Iff.rfl | omega)

set_option maxHeartbeats 1000000 in
/-- Both layers after the second launch, result by result. -/
theorem arrays :
    W3 m ρ c (Proc.devRef .tc main_v1_0) = want5 m c
    ∧ W3 m ρ c (Proc.devRef .tc main_v1_1) = want6 m c
    ∧ W3 m ρ c (Proc.devRef .tc main_v1_2) = want7 m c
    ∧ W3 m ρ c (Proc.devRef .tc main_v1_3) = want8 m c := by
  have kept : V2 m ρ c main_v1_0 = (dat0 (V0 m ρ) c).arrAt 5 cfg0.N
      ∧ V2 m ρ c main_v1_1 = (dat0 (V0 m ρ) c).arrAt 6 cfg0.N
      ∧ V2 m ρ c main_v1_2 = (dat0 (V0 m ρ) c).arrAt 7 cfg0.N
      ∧ V2 m ρ c main_v1_3 = (dat0 (V0 m ρ) c).arrAt 8 cfg0.N := by
    refine ⟨Eq.trans ?_ (W1_arr m ρ c 5), Eq.trans ?_ (W1_arr m ρ c 6), Eq.trans ?_ (W1_arr m ρ c 7), Eq.trans ?_ (W1_arr m ρ c 8)⟩
    all_goals
      show StableHlo.after hostOps1 (W1 m ρ c) (Proc.devRef .tc _) = _
      after_results
      first | done | rfl
  refine ⟨(W3_arr m ρ c 5).trans ((dat1 (V2 m ρ) c).arrAt_eq_of_coversWhere_of_agree 5 _ (fun β => β (0 : Fin 3) = 0) (by decide +kernel) ?_ ?_),
    (W3_arr m ρ c 6).trans ((dat1 (V2 m ρ) c).arrAt_eq_of_coversWhere_of_agree 6 _ (fun β => β (0 : Fin 3) = 0) (by decide +kernel) ?_ ?_),
    (W3_arr m ρ c 7).trans ((dat1 (V2 m ρ) c).arrAt_eq_of_coversWhere_of_agree 7 _ (fun β => β (0 : Fin 3) = 0) (by decide +kernel) ?_ ?_),
    (W3_arr m ρ c 8).trans ((dat1 (V2 m ρ) c).arrAt_eq_of_coversWhere_of_agree 8 _ (fun β => β (0 : Fin 3) = 0) (by decide +kernel) ?_ ?_)⟩
  all_goals first
    | (intro t hf y
       obtain ⟨-, -, -, -, -, e5, e6, e7, e8⟩ := index1 t
       blk_simp
       first | rw [after1_5, (left c _ t).1] | rw [after1_6, (left c _ t).2.1] | rw [after1_7, (left c _ t).2.2.1] | rw [after1_8, (left c _ t).2.2.2]
       obtain ⟨i, j, rfl⟩ : ∃ (i : Fin 256) (j : Fin 384), y = ix3 0 i j := ext3 y
       obtain ⟨-, -, eW, eM, eV⟩ := at1 m ρ c t i j
       refine Eq.trans ?_ (congrArg _ (?_ : ix3 0 (row t i) (col t j) = _))
       · first
          | rw [pay_5, want5_0, part1_at]
          | rw [pay_6, want6_at, want7_at, want8_at, want5_0, part1_at, eW, eM, eV]
          | rw [pay_7, want7_at, want5_0, part1_at, eM]
          | rw [pay_8, want8_at, want5_0, part1_at, eV]
       · blk_ext [e5, e6, e7, e8, row, col] <;> first | rfl | (change _ = i.val; omega) | (change _ = j.val; omega) | (change _ = _ * _ + i.val; omega) | (change _ = _ * _ + j.val; omega))
    | (intro y hy
       blk_simp [Pipeline.Window.cell_apply] at hy
       obtain ⟨i, j, rfl⟩ : ∃ (i : Fin 1024) (j : Fin 384), y = ix3 1 i j := later y (by simpa using hy)
       rw [A_eq1]
       first
       | exact (congrFun kept.1 (ix3 1 i j)).trans (early m ρ c i j).1
       | exact (congrFun kept.2.1 (ix3 1 i j)).trans (early m ρ c i j).2.1
       | exact (congrFun kept.2.2.1 (ix3 1 i j)).trans (early m ρ c i j).2.2.1
       | exact (congrFun kept.2.2.2 (ix3 1 i j)).trans (early m ρ c i j).2.2.2)

section Run

open Idealize.SL Idealize.SL.RA Idealize.SL.BI Idealize.SL.BI.BIBase Idealize.SL.BI.Laws Idealize.SL.ProofMode Idealize.SL.Sem
open Idealize.ShloMosaic.Rounds Idealize.ShloMosaic.Tactic
open scoped Idealize.SL.BI

local notation "𝕄" => MT nD τ sig Unit (Elt Ideal) ℕ (UR sig nD τ) ℕ

set_option backward.isDefEq.respectTransparency.types false in
set_option maxRecDepth 16384 in
/-- Both launches end, with the reference's four results, the arguments as launched. -/
theorem run : θ_run defs (onTc (τ := τ) (main (F := Ideal))) ⟨m, fun _ => 0, ρ⟩ (fun r => ∀ c : Dev nD,
      r.2.mem ((c.tc : Thread nD τ).loc main_v1_0) = want5 m c
      ∧ r.2.mem ((c.tc : Thread nD τ).loc main_v1_1) = want6 m c
      ∧ r.2.mem ((c.tc : Thread nD τ).loc main_v1_2) = want7 m c
      ∧ r.2.mem ((c.tc : Thread nD τ).loc main_v1_3) = want8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_sems (pcfgs (F := Ideal)) adm (pdats m ρ) () cellOf_inj emb₁ defs₀ 𝒱₀ L lv m ρ main (segs m ρ)
    (fun c _ => by rw [main_run m ρ c]) (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?_)
    (QY := fun c s => ∀ b ∈ Pipeline.ucRefs τ sig, s.mem (((c : Thread nD τ)).1, b) = W3 m ρ c b) (hfin := fun c s' => ?_)
    (hQ := fun s h _ c => have u := fun b hb => h c _ (mem_uc b hb)
     ⟨(u main_v1_0 (by decide)).trans (arrays m ρ c).1, (u main_v1_1 (by decide)).trans (arrays m ρ c).2.1,
      (u main_v1_2 (by decide)).trans (arrays m ρ c).2.2.1, (u main_v1_3 (by decide)).trans (arrays m ρ c).2.2.2,
      (u main_arg0 (by decide)).trans (W3_main_arg0 m ρ c), (u main_arg1 (by decide)).trans (W3_main_arg1 m ρ c), (u main_arg2 (by decide)).trans (W3_main_arg2 m ρ c), (u main_arg3 (by decide)).trans (W3_main_arg3 m ρ c), (u main_arg4 (by decide)).trans (W3_main_arg4 m ρ c), (u main_arg5 (by decide)).trans (W3_main_arg5 m ρ c), (u main_arg6 (by decide)).trans (W3_main_arg6 m ρ c)⟩)
  · have start : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    have none : (BI.emp : sProp 𝕄) ⊢ bigSep Finset.univ (fun _ : Dev nD => (BI.emp : sProp 𝕄)) := by rw [BI.bigSep_emp_const]
    iintro Hu
    imodintro
    isplitl [Hu]
    · iapply start
      iexact Hu
    iapply none
    iempintro
  · refine Pipeline.initEach L lv fun c => ?_
    have all : (unscopedBufs c (fun b => m ((c : Thread nD τ).loc b)) : sProp 𝕄) = StableHlo.held (c : Thread nD τ) (Pipeline.ucRefs τ sig) (W0 m ρ c) :=
      Pipeline.unscopedBufs_held c (W0 m ρ c)
    rw [all]
    iintro ⟨⟨Hh, -, HO, -, Hp, -⟩, -⟩
    imodintro
    isplitl [Hh]
    · iexact Hh
    isplitl [Hp]
    · iexists _
      iexact Hp
    iexists ∅
    iexact HO
  · iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption

end Run

end Cert.StepOddInIdeal.Step

end
-- ==== Proof.StepQueries.lean ====
/-
  THE STEP OF A SLAB OF TWO LAYERS, 256 BY 96: the launch of layer 1 and, over its results, the launch of layer 0; the two leave the
  reference's results.
-/
module

public import proofs.«01_k».proof.Proof.StepSlab
public import proofs.«01_k».proof.Proof.Maths
public import Idealize.ShloMosaic.Lib.Pipeline.ValueKit.Partial
public import proofs.«01_k».proof.Proof.Gen.StepQueriesIdeal.Frame
public import proofs.«01_k».proof.Proof.Gen.StepQueriesRefIdeal.Read

@[expose] public section

noncomputable section

namespace Cert.StepQueriesIdeal.Step

open Idealize.ShloMosaic
open Idealize.ShloMosaic.ValueIdx Idealize.ShloMosaic.TcCoe
open Idealize.ShloMosaic.Pipeline (Dat Cfg Window)
open Cert.StepQueriesRefIdeal.Read Cert.StepQueriesIdeal Cert.StepQueriesIdeal.Gen Cert.Products Cert.Step
open scoped BigOperators

section Payloads

variable (o : Vec Ideal S1x256x96 .bf16) (x : Vec Ideal S7x256x96 .bf16) (w p q : Vec Ideal S1x256x96 .f32)
variable (i : Fin 256) (j : Fin 96)

/-- What a grid point's body computes, at an index. -/
theorem sum_at : k0_pay8 (F := Ideal) o x w p q (ix2 i j) = part o x i j := by
  rw [part_eq]
  unfold k0_pay8 k0_pay3
  exact congrArg₂ (· + ·) (congrArg₂ (· + ·) (congrArg₂ (· + ·) (congrArg₂ (· + ·) (congrArg₂ (· + ·) (congrArg₂ (· + ·)
    (congrArg₂ (· + ·) (page_at o 0 _ _ i j) (page_at x 0 _ _ i j)) (page_at x 1 _ _ i j)) (page_at x 2 _ _ i j))
    (page_at x 3 _ _ i j)) (page_at x 4 _ _ i j)) (page_at x 5 _ _ i j)) (page_at x 6 _ _ i j)

theorem mean_at (g : FVec Ideal S256x96 .f32) :
    k0_pay4 (F := Ideal) g (View.ld p r0_0) (ix2 i j) = first (p (ix3 0 i j)) (g (ix2 i j)) :=
  congrArg (fun a => first a (g (ix2 i j))) (page_at p 0 _ _ i j)

theorem square_at (g : FVec Ideal S256x96 .f32) :
    k0_pay5 (F := Ideal) g (View.ld q r0_0) (ix2 i j) = second (q (ix3 0 i j)) (g (ix2 i j)) :=
  congrArg (fun a => second a (g (ix2 i j))) (page_at q 0 _ _ i j)

theorem pay_5 : out0_5 (F := Ideal) o x w p q (ix3 0 i j) = part o x i j := by
  unfold out0_5
  rw [View.canon_unit_zero offsets3]
  exact (under_at (e := .f32) (k0_pay8 o x w p q) _ i j).trans (sum_at o x w p q i j)

theorem pay_7 : out0_7 (F := Ideal) o x w p q (ix3 0 i j) = first (p (ix3 0 i j)) (part o x i j) := by
  unfold out0_7
  rw [View.canon_unit_zero offsets3]
  exact (under_at (e := .f32) (k0_pay4 (k0_pay8 o x w p q) (View.ld p r0_0)) _ i j).trans ((mean_at p i j _).trans (congrArg (first _) (sum_at o x w p q i j)))

theorem pay_8 : out0_8 (F := Ideal) o x w p q (ix3 0 i j) = second (q (ix3 0 i j)) (part o x i j) := by
  unfold out0_8
  rw [View.canon_unit_zero offsets3]
  exact (under_at (e := .f32) (k0_pay5 (k0_pay8 o x w p q) (View.ld q r0_0)) _ i j).trans ((square_at q i j _).trans (congrArg (second _) (sum_at o x w p q i j)))

theorem pay_6 : out0_6 (F := Ideal) o x w p q (ix3 0 i j)
    = change (w (ix3 0 i j)) (first (p (ix3 0 i j)) (part o x i j)) (second (q (ix3 0 i j)) (part o x i j)) := by
  have h (g : FVec Ideal S256x96 .f32) (u v t : Vec Ideal S1x256x96 .f32) : k0_pay7 (F := Ideal) g u v t (ix3 0 i j)
      = change (shapeCast S256x96 t shapeCasts_S1x256x96_S256x96 (ix2 i j)) (k0_pay4 (F := Ideal) g u (ix2 i j))
        (k0_pay5 (F := Ideal) g v (ix2 i j)) := by
    unfold k0_pay7
    exact under_at (e := .f32) _ _ i j
  unfold out0_6
  rw [View.canon_unit_zero offsets3, h, mean_at, square_at, sum_at]
  exact congrArg (fun a => change a _ _) (page_at w 0 _ _ i j)

end Payloads

variable (m : (ℓ : Loc nD τ sig) → Buf (Elt Ideal) ℓ) (ρ : Dev nD → PrngReg) (c : Dev nD)

/-- The arguments: each layer's own and received parts, the weight and the two moments. -/
abbrev own0 : FVec Ideal S1x256x96 .bf16 := m ((c : Thread nD τ).loc main_arg0)
abbrev got0 : FVec Ideal S7x256x96 .bf16 := m ((c : Thread nD τ).loc main_arg1)
abbrev own1 : FVec Ideal S1x256x96 .bf16 := m ((c : Thread nD τ).loc main_arg2)
abbrev got1 : FVec Ideal S7x256x96 .bf16 := m ((c : Thread nD τ).loc main_arg3)
abbrev argW : FVec Ideal S2x256x96 .f32 := m ((c : Thread nD τ).loc main_arg4)
abbrev argM : FVec Ideal S2x256x96 .f32 := m ((c : Thread nD τ).loc main_arg5)
abbrev argV : FVec Ideal S2x256x96 .f32 := m ((c : Thread nD τ).loc main_arg6)

section Wanted

variable (i : Fin 256) (j : Fin 96) (y : S2x256x96.Idx)

/-- The reference's values. -/
abbrev want5 := val_main_v12 (F := Ideal) (own0 m c) (got0 m c) (own1 m c) (got1 m c)
abbrev want6 := val_main_v36 (F := Ideal) (own0 m c) (got0 m c) (own1 m c) (got1 m c) (argW m c) (argM m c) (argV m c)
abbrev want7 := val_main_v17 (F := Ideal) (own0 m c) (got0 m c) (own1 m c) (got1 m c) (argM m c)
abbrev want8 := val_main_v23 (F := Ideal) (own0 m c) (got0 m c) (own1 m c) (got1 m c) (argV m c)

/-- One layer's gradient, as the reference has it. -/
theorem layer_0 (o : Vec Ideal S1x256x96 .bf16) (x : Vec Ideal S7x256x96 .bf16) : val_main_v4 (F := Ideal) o x (ix2 i j) = part o x i j := by
  refine congrArg₂ (· + ·) (bare_at o _ i j) ((val_main_v3_apply x (ix2 i j)).trans ?_)
  refine (congrArg₂ (· + ·) Cert.AttnGrad.zero_word (Finset.sum_congr rfl fun p _ => congrArg x ?_)).trans (zero_add _)
  exact funext fun a => match a with | ⟨0, _⟩ => rfl | ⟨1, _⟩ => rfl | ⟨2, _⟩ => rfl

/-- The two layers stacked, read at either. -/
theorem want5_0 : want5 m c (ix3 0 i j) = part (own0 m c) (got0 m c) i j := by
  refine (stack_0 _ _ _ i j).trans ((val_main_v10_apply (own0 m c) (got0 m c) (ix3 0 i j)).trans (Eq.trans (congrArg _ ?_) (layer_0 i j _ _)))
  exact funext fun a => match a with | ⟨0, _⟩ => rfl | ⟨1, _⟩ => rfl

theorem want5_1 : want5 m c (ix3 1 i j) = part (own1 m c) (got1 m c) i j := by
  refine (stack_1 _ _ _ i j).trans ((val_main_v11_apply (own1 m c) (got1 m c) (ix3 0 i j)).trans (Eq.trans (congrArg _ ?_) (layer_0 i j _ _)))
  exact funext fun a => match a with | ⟨0, _⟩ => rfl | ⟨1, _⟩ => rfl

theorem want7_at : want7 m c y = first (argM m c y) (want5 m c y) := rfl
theorem want8_at : want8 m c y = second (argV m c y) (want5 m c y) := rfl
theorem want6_at : want6 m c y = change (argW m c y) (want7 m c y) (want8 m c y) := rfl

end Wanted

/-- A block's row and column in the slab. -/
def row (t : Fin cfg0.N) (i : Fin 256) : Fin 256 := ⟨256 * 0 + i.val, by have h : t.val < 1 := t.isLt; have := i.isLt; omega⟩
def col (t : Fin cfg0.N) (j : Fin 96) : Fin 96 := ⟨96 * 0 + j.val, by have h : t.val < 1 := t.isLt; have := j.isLt; omega⟩

/-- The blocks of the launch of layer 1. -/
theorem index0 : ∀ t : Fin cfg0.N, win0_0.index t = ![0, 0, 0] ∧ win0_1.index t = ![0, 0, 0] ∧ win0_2.index t = ![1, 0, 0] ∧ win0_3.index t = ![1, 0, 0] ∧ win0_4.index t = ![1, 0, 0]
    ∧ win0_5.index t = ![1, 0, 0] ∧ win0_6.index t = ![1, 0, 0] ∧ win0_7.index t = ![1, 0, 0] ∧ win0_8.index t = ![1, 0, 0] := (by decide +kernel : ∀ t : Fin grid0.N, _)

/-- The blocks of the launch of layer 0. -/
theorem index1 : ∀ t : Fin cfg1.N, win1_0.index t = ![0, 0, 0] ∧ win1_1.index t = ![0, 0, 0] ∧ win1_2.index t = ![0, 0, 0] ∧ win1_3.index t = ![0, 0, 0] ∧ win1_4.index t = ![0, 0, 0]
    ∧ win1_5.index t = ![0, 0, 0] ∧ win1_6.index t = ![0, 0, 0] ∧ win1_7.index t = ![0, 0, 0] ∧ win1_8.index t = ![0, 0, 0] := (by decide +kernel : ∀ t : Fin grid1.N, _)

theorem at0 (t : Fin cfg0.N) (i : Fin 256) (j : Fin 96) :
    iblk0 (V0 m ρ) c 0 t (ix3 0 i j) = own1 m c (ix3 0 (row t i) (col t j))
    ∧ (∀ p : Fin 7, iblk0 (V0 m ρ) c 1 t (ix3 p i j) = got1 m c (ix3 p (row t i) (col t j)))
    ∧ iblk0 (V0 m ρ) c 2 t (ix3 0 i j) = argW m c (ix3 1 (row t i) (col t j))
    ∧ iblk0 (V0 m ρ) c 3 t (ix3 0 i j) = argM m c (ix3 1 (row t i) (col t j))
    ∧ iblk0 (V0 m ρ) c 4 t (ix3 0 i j) = argV m c (ix3 1 (row t i) (col t j)) := by
  obtain ⟨e0, e1, e2, e3, e4, -⟩ := index0 t
  refine ⟨?_, fun p => ?_, ?_, ?_, ?_⟩ <;> blk_simp [iblk0]
  on_goal 1 => refine congrArg (own1 m c) ?_
  on_goal 2 => refine congrArg (got1 m c) ?_
  on_goal 3 => refine congrArg (argW m c) ?_
  on_goal 4 => refine congrArg (argM m c) ?_
  on_goal 5 => refine congrArg (argV m c) ?_
  all_goals
    blk_ext [e0, e1, e2, e3, e4, row, col] <;> first | rfl | (change i.val = _; omega) | (change j.val = _; omega) | (change _ * _ + i.val = _; omega) | (change _ * _ + j.val = _; omega)

theorem part0_at (t : Fin cfg0.N) (i : Fin 256) (j : Fin 96) :
    part (iblk0 (V0 m ρ) c 0 t) (iblk0 (V0 m ρ) c 1 t) i j = part (own1 m c) (got1 m c) (row t i) (col t j) :=
  congrArg₂ (· + ·) (at0 m ρ c t i j).1 (Finset.sum_congr rfl fun p _ => (at0 m ρ c t i j).2.1 p)

theorem at1 (t : Fin cfg1.N) (i : Fin 256) (j : Fin 96) :
    iblk1 (V2 m ρ) c 0 t (ix3 0 i j) = own0 m c (ix3 0 (row t i) (col t j))
    ∧ (∀ p : Fin 7, iblk1 (V2 m ρ) c 1 t (ix3 p i j) = got0 m c (ix3 p (row t i) (col t j)))
    ∧ iblk1 (V2 m ρ) c 2 t (ix3 0 i j) = argW m c (ix3 0 (row t i) (col t j))
    ∧ iblk1 (V2 m ρ) c 3 t (ix3 0 i j) = argM m c (ix3 0 (row t i) (col t j))
    ∧ iblk1 (V2 m ρ) c 4 t (ix3 0 i j) = argV m c (ix3 0 (row t i) (col t j)) := by
  obtain ⟨e0, e1, e2, e3, e4, -⟩ := index1 t
  refine ⟨?_, fun p => ?_, ?_, ?_, ?_⟩ <;> blk_simp [iblk1]
  on_goal 1 => refine (congrFun (W2_args m ρ c main_arg0 (by decide)) _).trans (congrArg (own0 m c) ?_)
  on_goal 2 => refine (congrFun (W2_args m ρ c main_arg1 (by decide)) _).trans (congrArg (got0 m c) ?_)
  on_goal 3 => refine (congrFun (W2_args m ρ c main_arg4 (by decide)) _).trans (congrArg (argW m c) ?_)
  on_goal 4 => refine (congrFun (W2_args m ρ c main_arg5 (by decide)) _).trans (congrArg (argM m c) ?_)
  on_goal 5 => refine (congrFun (W2_args m ρ c main_arg6 (by decide)) _).trans (congrArg (argV m c) ?_)
  all_goals
    blk_ext [e0, e1, e2, e3, e4, row, col] <;> first | rfl | (change i.val = _; omega) | (change j.val = _; omega) | (change _ * _ + i.val = _; omega) | (change _ * _ + j.val = _; omega)

theorem part1_at (t : Fin cfg1.N) (i : Fin 256) (j : Fin 96) :
    part (iblk1 (V2 m ρ) c 0 t) (iblk1 (V2 m ρ) c 1 t) i j = part (own0 m c) (got0 m c) (row t i) (col t j) :=
  congrArg₂ (· + ·) (at1 m ρ c t i j).1 (Finset.sum_congr rfl fun p _ => (at1 m ρ c t i j).2.1 p)

/-- A grid point of the second launch leaves what one of the first would of the same blocks. -/
theorem left (V : (c : Dev nD) → (b : Ref sig .tc) → Buf (Elt Ideal) ((c : Thread nD τ).loc b)) (t : Fin cfg1.N) :
    (outsAt1 V c t).1 = out0_5 (iblk1 V c 0 t) (iblk1 V c 1 t) (iblk1 V c 2 t) (iblk1 V c 3 t) (iblk1 V c 4 t)
    ∧ (outsAt1 V c t).2.1 = out0_6 (iblk1 V c 0 t) (iblk1 V c 1 t) (iblk1 V c 2 t) (iblk1 V c 3 t) (iblk1 V c 4 t)
    ∧ (outsAt1 V c t).2.2.1 = out0_7 (iblk1 V c 0 t) (iblk1 V c 1 t) (iblk1 V c 2 t) (iblk1 V c 3 t) (iblk1 V c 4 t)
    ∧ (outsAt1 V c t).2.2.2 = out0_8 (iblk1 V c 0 t) (iblk1 V c 1 t) (iblk1 V c 2 t) (iblk1 V c 3 t) (iblk1 V c 4 t) := by
  refine ⟨?_, ?_, ?_, ?_⟩
  all_goals
    unfold outsAt1
    dsimp only
    first | unfold out1_A_5 | unfold out1_A_6 | unfold out1_A_7 | unfold out1_A_8
    unfold kernelRun1_A
    dsimp only
    rw [View.read_writes_junk_eq_canon]
    simp only [kernelRun1_A.sl.r, kernelRun1_A.sl.r_1, kernelRun1_A.sl.r_2, View.readAt_eq_ld, Memref.IsWhole.read_unread]
    rfl

set_option maxHeartbeats 1000000 in
/-- Layer 1 after the first launch. -/
theorem early (i : Fin 256) (j : Fin 96) :
    (dat0 (V0 m ρ) c).arrAt 5 cfg0.N (ix3 1 i j) = want5 m c (ix3 1 i j)
    ∧ (dat0 (V0 m ρ) c).arrAt 6 cfg0.N (ix3 1 i j) = want6 m c (ix3 1 i j)
    ∧ (dat0 (V0 m ρ) c).arrAt 7 cfg0.N (ix3 1 i j) = want7 m c (ix3 1 i j)
    ∧ (dat0 (V0 m ρ) c).arrAt 8 cfg0.N (ix3 1 i j) = want8 m c (ix3 1 i j) := by
  refine ⟨((dat0 (V0 m ρ) c).arrAt_apply_of_coversWhere 5 (want5 m c) (P := fun y : S2x256x96.Idx => (y 0).val = 1)
      (fun β => β (0 : Fin 3) = 1) (by decide +kernel) ?_ ?_ (ix3 1 i j)).trans (if_pos rfl),
    ((dat0 (V0 m ρ) c).arrAt_apply_of_coversWhere 6 (want6 m c) (P := fun y : S2x256x96.Idx => (y 0).val = 1)
      (fun β => β (0 : Fin 3) = 1) (by decide +kernel) ?_ ?_ (ix3 1 i j)).trans (if_pos rfl),
    ((dat0 (V0 m ρ) c).arrAt_apply_of_coversWhere 7 (want7 m c) (P := fun y : S2x256x96.Idx => (y 0).val = 1)
      (fun β => β (0 : Fin 3) = 1) (by decide +kernel) ?_ ?_ (ix3 1 i j)).trans (if_pos rfl),
    ((dat0 (V0 m ρ) c).arrAt_apply_of_coversWhere 8 (want8 m c) (P := fun y : S2x256x96.Idx => (y 0).val = 1)
      (fun β => β (0 : Fin 3) = 1) (by decide +kernel) ?_ ?_ (ix3 1 i j)).trans (if_pos rfl)⟩
  all_goals first
    | (intro t hf y
       obtain ⟨-, -, -, -, -, e5, e6, e7, e8⟩ := index0 t
       blk_simp
       first | rw [after0_5] | rw [after0_6] | rw [after0_7] | rw [after0_8]
       obtain ⟨i, j, rfl⟩ : ∃ (i : Fin 256) (j : Fin 96), y = ix3 0 i j := ext3 y
       obtain ⟨-, -, eW, eM, eV⟩ := at0 m ρ c t i j
       refine Eq.trans ?_ (congrArg _ (?_ : ix3 1 (row t i) (col t j) = _))
       · first
          | rw [pay_5, want5_1, part0_at]
          | rw [pay_6, want6_at, want7_at, want8_at, want5_1, part0_at, eW, eM, eV]
          | rw [pay_7, want7_at, want5_1, part0_at, eM]
          | rw [pay_8, want8_at, want5_1, part0_at, eV]
       · blk_ext [e5, e6, e7, e8, row, col] <;> first | rfl | (change _ = i.val; omega) | (change _ = j.val; omega) | (change _ = _ * _ + i.val; omega) | (change _ = _ * _ + j.val; omega))
    | (intro y
       blk_simp [Pipeline.Window.cell_apply]
       first | exact Iff.rfl | omega)

set_option maxHeartbeats 1000000 in
/-- Both layers after the second launch, result by result. -/
theorem arrays :
    W3 m ρ c (Proc.devRef .tc main_v1_0) = want5 m c
    ∧ W3 m ρ c (Proc.devRef .tc main_v1_1) = want6 m c
    ∧ W3 m ρ c (Proc.devRef .tc main_v1_2) = want7 m c
    ∧ W3 m ρ c (Proc.devRef .tc main_v1_3) = want8 m c := by
  have kept : V2 m ρ c main_v1_0 = (dat0 (V0 m ρ) c).arrAt 5 cfg0.N
      ∧ V2 m ρ c main_v1_1 = (dat0 (V0 m ρ) c).arrAt 6 cfg0.N
      ∧ V2 m ρ c main_v1_2 = (dat0 (V0 m ρ) c).arrAt 7 cfg0.N
      ∧ V2 m ρ c main_v1_3 = (dat0 (V0 m ρ) c).arrAt 8 cfg0.N := by
    refine ⟨Eq.trans ?_ (W1_arr m ρ c 5), Eq.trans ?_ (W1_arr m ρ c 6), Eq.trans ?_ (W1_arr m ρ c 7), Eq.trans ?_ (W1_arr m ρ c 8)⟩
    all_goals
      show StableHlo.after hostOps1 (W1 m ρ c) (Proc.devRef .tc _) = _
      after_results
      first | done | rfl
  refine ⟨(W3_arr m ρ c 5).trans ((dat1 (V2 m ρ) c).arrAt_eq_of_coversWhere_of_agree 5 _ (fun β => β (0 : Fin 3) = 0) (by decide +kernel) ?_ ?_),
    (W3_arr m ρ c 6).trans ((dat1 (V2 m ρ) c).arrAt_eq_of_coversWhere_of_agree 6 _ (fun β => β (0 : Fin 3) = 0) (by decide +kernel) ?_ ?_),
    (W3_arr m ρ c 7).trans ((dat1 (V2 m ρ) c).arrAt_eq_of_coversWhere_of_agree 7 _ (fun β => β (0 : Fin 3) = 0) (by decide +kernel) ?_ ?_),
    (W3_arr m ρ c 8).trans ((dat1 (V2 m ρ) c).arrAt_eq_of_coversWhere_of_agree 8 _ (fun β => β (0 : Fin 3) = 0) (by decide +kernel) ?_ ?_)⟩
  all_goals first
    | (intro t hf y
       obtain ⟨-, -, -, -, -, e5, e6, e7, e8⟩ := index1 t
       blk_simp
       first | rw [after1_5, (left c _ t).1] | rw [after1_6, (left c _ t).2.1] | rw [after1_7, (left c _ t).2.2.1] | rw [after1_8, (left c _ t).2.2.2]
       obtain ⟨i, j, rfl⟩ : ∃ (i : Fin 256) (j : Fin 96), y = ix3 0 i j := ext3 y
       obtain ⟨-, -, eW, eM, eV⟩ := at1 m ρ c t i j
       refine Eq.trans ?_ (congrArg _ (?_ : ix3 0 (row t i) (col t j) = _))
       · first
          | rw [pay_5, want5_0, part1_at]
          | rw [pay_6, want6_at, want7_at, want8_at, want5_0, part1_at, eW, eM, eV]
          | rw [pay_7, want7_at, want5_0, part1_at, eM]
          | rw [pay_8, want8_at, want5_0, part1_at, eV]
       · blk_ext [e5, e6, e7, e8, row, col] <;> first | rfl | (change _ = i.val; omega) | (change _ = j.val; omega) | (change _ = _ * _ + i.val; omega) | (change _ = _ * _ + j.val; omega))
    | (intro y hy
       blk_simp [Pipeline.Window.cell_apply] at hy
       obtain ⟨i, j, rfl⟩ : ∃ (i : Fin 256) (j : Fin 96), y = ix3 1 i j := later y (by simpa using hy)
       rw [A_eq1]
       first
       | exact (congrFun kept.1 (ix3 1 i j)).trans (early m ρ c i j).1
       | exact (congrFun kept.2.1 (ix3 1 i j)).trans (early m ρ c i j).2.1
       | exact (congrFun kept.2.2.1 (ix3 1 i j)).trans (early m ρ c i j).2.2.1
       | exact (congrFun kept.2.2.2 (ix3 1 i j)).trans (early m ρ c i j).2.2.2)

section Run

open Idealize.SL Idealize.SL.RA Idealize.SL.BI Idealize.SL.BI.BIBase Idealize.SL.BI.Laws Idealize.SL.ProofMode Idealize.SL.Sem
open Idealize.ShloMosaic.Rounds Idealize.ShloMosaic.Tactic
open scoped Idealize.SL.BI

local notation "𝕄" => MT nD τ sig Unit (Elt Ideal) ℕ (UR sig nD τ) ℕ

set_option backward.isDefEq.respectTransparency.types false in
set_option maxRecDepth 16384 in
/-- Both launches end, with the reference's four results, the arguments as launched. -/
theorem run : θ_run defs (onTc (τ := τ) (main (F := Ideal))) ⟨m, fun _ => 0, ρ⟩ (fun r => ∀ c : Dev nD,
      r.2.mem ((c.tc : Thread nD τ).loc main_v1_0) = want5 m c
      ∧ r.2.mem ((c.tc : Thread nD τ).loc main_v1_1) = want6 m c
      ∧ r.2.mem ((c.tc : Thread nD τ).loc main_v1_2) = want7 m c
      ∧ r.2.mem ((c.tc : Thread nD τ).loc main_v1_3) = want8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_sems (pcfgs (F := Ideal)) adm (pdats m ρ) () cellOf_inj emb₁ defs₀ 𝒱₀ L lv m ρ main (segs m ρ)
    (fun c _ => by rw [main_run m ρ c]) (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?_)
    (QY := fun c s => ∀ b ∈ Pipeline.ucRefs τ sig, s.mem (((c : Thread nD τ)).1, b) = W3 m ρ c b) (hfin := fun c s' => ?_)
    (hQ := fun s h _ c => have u := fun b hb => h c _ (mem_uc b hb)
     ⟨(u main_v1_0 (by decide)).trans (arrays m ρ c).1, (u main_v1_1 (by decide)).trans (arrays m ρ c).2.1,
      (u main_v1_2 (by decide)).trans (arrays m ρ c).2.2.1, (u main_v1_3 (by decide)).trans (arrays m ρ c).2.2.2,
      (u main_arg0 (by decide)).trans (W3_main_arg0 m ρ c), (u main_arg1 (by decide)).trans (W3_main_arg1 m ρ c), (u main_arg2 (by decide)).trans (W3_main_arg2 m ρ c), (u main_arg3 (by decide)).trans (W3_main_arg3 m ρ c), (u main_arg4 (by decide)).trans (W3_main_arg4 m ρ c), (u main_arg5 (by decide)).trans (W3_main_arg5 m ρ c), (u main_arg6 (by decide)).trans (W3_main_arg6 m ρ c)⟩)
  · have start : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    have none : (BI.emp : sProp 𝕄) ⊢ bigSep Finset.univ (fun _ : Dev nD => (BI.emp : sProp 𝕄)) := by rw [BI.bigSep_emp_const]
    iintro Hu
    imodintro
    isplitl [Hu]
    · iapply start
      iexact Hu
    iapply none
    iempintro
  · refine Pipeline.initEach L lv fun c => ?_
    have all : (unscopedBufs c (fun b => m ((c : Thread nD τ).loc b)) : sProp 𝕄) = StableHlo.held (c : Thread nD τ) (Pipeline.ucRefs τ sig) (W0 m ρ c) :=
      Pipeline.unscopedBufs_held c (W0 m ρ c)
    rw [all]
    iintro ⟨⟨Hh, -, HO, -, Hp, -⟩, -⟩
    imodintro
    isplitl [Hh]
    · iexact Hh
    isplitl [Hp]
    · iexists _
      iexact Hp
    iexists ∅
    iexact HO
  · iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption

end Run

end Cert.StepQueriesIdeal.Step

end
-- ==== Proof.StepKeys.lean ====
/-
  THE STEP OF A SLAB OF TWO LAYERS, 128 BY 128: the launch of layer 1 and, over its results, the launch of layer 0; the two leave the
  reference's results.
-/
module

public import proofs.«01_k».proof.Proof.StepSlab
public import proofs.«01_k».proof.Proof.Maths
public import Idealize.ShloMosaic.Lib.Pipeline.ValueKit.Partial
public import proofs.«01_k».proof.Proof.Gen.StepKeysIdeal.Frame
public import proofs.«01_k».proof.Proof.Gen.StepKeysRefIdeal.Read

@[expose] public section

noncomputable section

namespace Cert.StepKeysIdeal.Step

open Idealize.ShloMosaic
open Idealize.ShloMosaic.ValueIdx Idealize.ShloMosaic.TcCoe
open Idealize.ShloMosaic.Pipeline (Dat Cfg Window)
open Cert.StepKeysRefIdeal.Read Cert.StepKeysIdeal Cert.StepKeysIdeal.Gen Cert.Products Cert.Step
open scoped BigOperators

section Payloads

variable (o : Vec Ideal S1x128x128 .bf16) (x : Vec Ideal S7x128x128 .bf16) (w p q : Vec Ideal S1x128x128 .f32)
variable (i : Fin 128) (j : Fin 128)

/-- What a grid point's body computes, at an index. -/
theorem sum_at : k0_pay8 (F := Ideal) o x w p q (ix2 i j) = part o x i j := by
  rw [part_eq]
  unfold k0_pay8 k0_pay3
  exact congrArg₂ (· + ·) (congrArg₂ (· + ·) (congrArg₂ (· + ·) (congrArg₂ (· + ·) (congrArg₂ (· + ·) (congrArg₂ (· + ·)
    (congrArg₂ (· + ·) (page_at o 0 _ _ i j) (page_at x 0 _ _ i j)) (page_at x 1 _ _ i j)) (page_at x 2 _ _ i j))
    (page_at x 3 _ _ i j)) (page_at x 4 _ _ i j)) (page_at x 5 _ _ i j)) (page_at x 6 _ _ i j)

theorem mean_at (g : FVec Ideal S128x128 .f32) :
    k0_pay4 (F := Ideal) g (View.ld p r0_0) (ix2 i j) = first (p (ix3 0 i j)) (g (ix2 i j)) :=
  congrArg (fun a => first a (g (ix2 i j))) (page_at p 0 _ _ i j)

theorem square_at (g : FVec Ideal S128x128 .f32) :
    k0_pay5 (F := Ideal) g (View.ld q r0_0) (ix2 i j) = second (q (ix3 0 i j)) (g (ix2 i j)) :=
  congrArg (fun a => second a (g (ix2 i j))) (page_at q 0 _ _ i j)

theorem pay_5 : out0_5 (F := Ideal) o x w p q (ix3 0 i j) = part o x i j := by
  unfold out0_5
  rw [View.canon_unit_zero offsets3]
  exact (under_at (e := .f32) (k0_pay8 o x w p q) _ i j).trans (sum_at o x w p q i j)

theorem pay_7 : out0_7 (F := Ideal) o x w p q (ix3 0 i j) = first (p (ix3 0 i j)) (part o x i j) := by
  unfold out0_7
  rw [View.canon_unit_zero offsets3]
  exact (under_at (e := .f32) (k0_pay4 (k0_pay8 o x w p q) (View.ld p r0_0)) _ i j).trans ((mean_at p i j _).trans (congrArg (first _) (sum_at o x w p q i j)))

theorem pay_8 : out0_8 (F := Ideal) o x w p q (ix3 0 i j) = second (q (ix3 0 i j)) (part o x i j) := by
  unfold out0_8
  rw [View.canon_unit_zero offsets3]
  exact (under_at (e := .f32) (k0_pay5 (k0_pay8 o x w p q) (View.ld q r0_0)) _ i j).trans ((square_at q i j _).trans (congrArg (second _) (sum_at o x w p q i j)))

theorem pay_6 : out0_6 (F := Ideal) o x w p q (ix3 0 i j)
    = change (w (ix3 0 i j)) (first (p (ix3 0 i j)) (part o x i j)) (second (q (ix3 0 i j)) (part o x i j)) := by
  have h (g : FVec Ideal S128x128 .f32) (u v t : Vec Ideal S1x128x128 .f32) : k0_pay7 (F := Ideal) g u v t (ix3 0 i j)
      = change (shapeCast S128x128 t shapeCasts_S1x128x128_S128x128 (ix2 i j)) (k0_pay4 (F := Ideal) g u (ix2 i j))
        (k0_pay5 (F := Ideal) g v (ix2 i j)) := by
    unfold k0_pay7
    exact under_at (e := .f32) _ _ i j
  unfold out0_6
  rw [View.canon_unit_zero offsets3, h, mean_at, square_at, sum_at]
  exact congrArg (fun a => change a _ _) (page_at w 0 _ _ i j)

end Payloads

variable (m : (ℓ : Loc nD τ sig) → Buf (Elt Ideal) ℓ) (ρ : Dev nD → PrngReg) (c : Dev nD)

/-- The arguments: each layer's own and received parts, the weight and the two moments. -/
abbrev own0 : FVec Ideal S1x128x128 .bf16 := m ((c : Thread nD τ).loc main_arg0)
abbrev got0 : FVec Ideal S7x128x128 .bf16 := m ((c : Thread nD τ).loc main_arg1)
abbrev own1 : FVec Ideal S1x128x128 .bf16 := m ((c : Thread nD τ).loc main_arg2)
abbrev got1 : FVec Ideal S7x128x128 .bf16 := m ((c : Thread nD τ).loc main_arg3)
abbrev argW : FVec Ideal S2x128x128 .f32 := m ((c : Thread nD τ).loc main_arg4)
abbrev argM : FVec Ideal S2x128x128 .f32 := m ((c : Thread nD τ).loc main_arg5)
abbrev argV : FVec Ideal S2x128x128 .f32 := m ((c : Thread nD τ).loc main_arg6)

section Wanted

variable (i : Fin 128) (j : Fin 128) (y : S2x128x128.Idx)

/-- The reference's values. -/
abbrev want5 := val_main_v12 (F := Ideal) (own0 m c) (got0 m c) (own1 m c) (got1 m c)
abbrev want6 := val_main_v36 (F := Ideal) (own0 m c) (got0 m c) (own1 m c) (got1 m c) (argW m c) (argM m c) (argV m c)
abbrev want7 := val_main_v17 (F := Ideal) (own0 m c) (got0 m c) (own1 m c) (got1 m c) (argM m c)
abbrev want8 := val_main_v23 (F := Ideal) (own0 m c) (got0 m c) (own1 m c) (got1 m c) (argV m c)

/-- One layer's gradient, as the reference has it. -/
theorem layer_0 (o : Vec Ideal S1x128x128 .bf16) (x : Vec Ideal S7x128x128 .bf16) : val_main_v4 (F := Ideal) o x (ix2 i j) = part o x i j := by
  refine congrArg₂ (· + ·) (bare_at o _ i j) ((val_main_v3_apply x (ix2 i j)).trans ?_)
  refine (congrArg₂ (· + ·) Cert.AttnGrad.zero_word (Finset.sum_congr rfl fun p _ => congrArg x ?_)).trans (zero_add _)
  exact funext fun a => match a with | ⟨0, _⟩ => rfl | ⟨1, _⟩ => rfl | ⟨2, _⟩ => rfl

/-- The two layers stacked, read at either. -/
theorem want5_0 : want5 m c (ix3 0 i j) = part (own0 m c) (got0 m c) i j := by
  refine (stack_0 _ _ _ i j).trans ((val_main_v10_apply (own0 m c) (got0 m c) (ix3 0 i j)).trans (Eq.trans (congrArg _ ?_) (layer_0 i j _ _)))
  exact funext fun a => match a with | ⟨0, _⟩ => rfl | ⟨1, _⟩ => rfl

theorem want5_1 : want5 m c (ix3 1 i j) = part (own1 m c) (got1 m c) i j := by
  refine (stack_1 _ _ _ i j).trans ((val_main_v11_apply (own1 m c) (got1 m c) (ix3 0 i j)).trans (Eq.trans (congrArg _ ?_) (layer_0 i j _ _)))
  exact funext fun a => match a with | ⟨0, _⟩ => rfl | ⟨1, _⟩ => rfl

theorem want7_at : want7 m c y = first (argM m c y) (want5 m c y) := rfl
theorem want8_at : want8 m c y = second (argV m c y) (want5 m c y) := rfl
theorem want6_at : want6 m c y = change (argW m c y) (want7 m c y) (want8 m c y) := rfl

end Wanted

/-- A block's row and column in the slab. -/
def row (t : Fin cfg0.N) (i : Fin 128) : Fin 128 := ⟨128 * 0 + i.val, by have h : t.val < 1 := t.isLt; have := i.isLt; omega⟩
def col (t : Fin cfg0.N) (j : Fin 128) : Fin 128 := ⟨128 * 0 + j.val, by have h : t.val < 1 := t.isLt; have := j.isLt; omega⟩

/-- The blocks of the launch of layer 1. -/
theorem index0 : ∀ t : Fin cfg0.N, win0_0.index t = ![0, 0, 0] ∧ win0_1.index t = ![0, 0, 0] ∧ win0_2.index t = ![1, 0, 0] ∧ win0_3.index t = ![1, 0, 0] ∧ win0_4.index t = ![1, 0, 0]
    ∧ win0_5.index t = ![1, 0, 0] ∧ win0_6.index t = ![1, 0, 0] ∧ win0_7.index t = ![1, 0, 0] ∧ win0_8.index t = ![1, 0, 0] := (by decide +kernel : ∀ t : Fin grid0.N, _)

/-- The blocks of the launch of layer 0. -/
theorem index1 : ∀ t : Fin cfg1.N, win1_0.index t = ![0, 0, 0] ∧ win1_1.index t = ![0, 0, 0] ∧ win1_2.index t = ![0, 0, 0] ∧ win1_3.index t = ![0, 0, 0] ∧ win1_4.index t = ![0, 0, 0]
    ∧ win1_5.index t = ![0, 0, 0] ∧ win1_6.index t = ![0, 0, 0] ∧ win1_7.index t = ![0, 0, 0] ∧ win1_8.index t = ![0, 0, 0] := (by decide +kernel : ∀ t : Fin grid1.N, _)

theorem at0 (t : Fin cfg0.N) (i : Fin 128) (j : Fin 128) :
    iblk0 (V0 m ρ) c 0 t (ix3 0 i j) = own1 m c (ix3 0 (row t i) (col t j))
    ∧ (∀ p : Fin 7, iblk0 (V0 m ρ) c 1 t (ix3 p i j) = got1 m c (ix3 p (row t i) (col t j)))
    ∧ iblk0 (V0 m ρ) c 2 t (ix3 0 i j) = argW m c (ix3 1 (row t i) (col t j))
    ∧ iblk0 (V0 m ρ) c 3 t (ix3 0 i j) = argM m c (ix3 1 (row t i) (col t j))
    ∧ iblk0 (V0 m ρ) c 4 t (ix3 0 i j) = argV m c (ix3 1 (row t i) (col t j)) := by
  obtain ⟨e0, e1, e2, e3, e4, -⟩ := index0 t
  refine ⟨?_, fun p => ?_, ?_, ?_, ?_⟩ <;> blk_simp [iblk0]
  on_goal 1 => refine congrArg (own1 m c) ?_
  on_goal 2 => refine congrArg (got1 m c) ?_
  on_goal 3 => refine congrArg (argW m c) ?_
  on_goal 4 => refine congrArg (argM m c) ?_
  on_goal 5 => refine congrArg (argV m c) ?_
  all_goals
    blk_ext [e0, e1, e2, e3, e4, row, col] <;> first | rfl | (change i.val = _; omega) | (change j.val = _; omega) | (change _ * _ + i.val = _; omega) | (change _ * _ + j.val = _; omega)

theorem part0_at (t : Fin cfg0.N) (i : Fin 128) (j : Fin 128) :
    part (iblk0 (V0 m ρ) c 0 t) (iblk0 (V0 m ρ) c 1 t) i j = part (own1 m c) (got1 m c) (row t i) (col t j) :=
  congrArg₂ (· + ·) (at0 m ρ c t i j).1 (Finset.sum_congr rfl fun p _ => (at0 m ρ c t i j).2.1 p)

theorem at1 (t : Fin cfg1.N) (i : Fin 128) (j : Fin 128) :
    iblk1 (V2 m ρ) c 0 t (ix3 0 i j) = own0 m c (ix3 0 (row t i) (col t j))
    ∧ (∀ p : Fin 7, iblk1 (V2 m ρ) c 1 t (ix3 p i j) = got0 m c (ix3 p (row t i) (col t j)))
    ∧ iblk1 (V2 m ρ) c 2 t (ix3 0 i j) = argW m c (ix3 0 (row t i) (col t j))
    ∧ iblk1 (V2 m ρ) c 3 t (ix3 0 i j) = argM m c (ix3 0 (row t i) (col t j))
    ∧ iblk1 (V2 m ρ) c 4 t (ix3 0 i j) = argV m c (ix3 0 (row t i) (col t j)) := by
  obtain ⟨e0, e1, e2, e3, e4, -⟩ := index1 t
  refine ⟨?_, fun p => ?_, ?_, ?_, ?_⟩ <;> blk_simp [iblk1]
  on_goal 1 => refine (congrFun (W2_args m ρ c main_arg0 (by decide)) _).trans (congrArg (own0 m c) ?_)
  on_goal 2 => refine (congrFun (W2_args m ρ c main_arg1 (by decide)) _).trans (congrArg (got0 m c) ?_)
  on_goal 3 => refine (congrFun (W2_args m ρ c main_arg4 (by decide)) _).trans (congrArg (argW m c) ?_)
  on_goal 4 => refine (congrFun (W2_args m ρ c main_arg5 (by decide)) _).trans (congrArg (argM m c) ?_)
  on_goal 5 => refine (congrFun (W2_args m ρ c main_arg6 (by decide)) _).trans (congrArg (argV m c) ?_)
  all_goals
    blk_ext [e0, e1, e2, e3, e4, row, col] <;> first | rfl | (change i.val = _; omega) | (change j.val = _; omega) | (change _ * _ + i.val = _; omega) | (change _ * _ + j.val = _; omega)

theorem part1_at (t : Fin cfg1.N) (i : Fin 128) (j : Fin 128) :
    part (iblk1 (V2 m ρ) c 0 t) (iblk1 (V2 m ρ) c 1 t) i j = part (own0 m c) (got0 m c) (row t i) (col t j) :=
  congrArg₂ (· + ·) (at1 m ρ c t i j).1 (Finset.sum_congr rfl fun p _ => (at1 m ρ c t i j).2.1 p)

/-- A grid point of the second launch leaves what one of the first would of the same blocks. -/
theorem left (V : (c : Dev nD) → (b : Ref sig .tc) → Buf (Elt Ideal) ((c : Thread nD τ).loc b)) (t : Fin cfg1.N) :
    (outsAt1 V c t).1 = out0_5 (iblk1 V c 0 t) (iblk1 V c 1 t) (iblk1 V c 2 t) (iblk1 V c 3 t) (iblk1 V c 4 t)
    ∧ (outsAt1 V c t).2.1 = out0_6 (iblk1 V c 0 t) (iblk1 V c 1 t) (iblk1 V c 2 t) (iblk1 V c 3 t) (iblk1 V c 4 t)
    ∧ (outsAt1 V c t).2.2.1 = out0_7 (iblk1 V c 0 t) (iblk1 V c 1 t) (iblk1 V c 2 t) (iblk1 V c 3 t) (iblk1 V c 4 t)
    ∧ (outsAt1 V c t).2.2.2 = out0_8 (iblk1 V c 0 t) (iblk1 V c 1 t) (iblk1 V c 2 t) (iblk1 V c 3 t) (iblk1 V c 4 t) := by
  refine ⟨?_, ?_, ?_, ?_⟩
  all_goals
    unfold outsAt1
    dsimp only
    first | unfold out1_A_5 | unfold out1_A_6 | unfold out1_A_7 | unfold out1_A_8
    unfold kernelRun1_A
    dsimp only
    rw [View.read_writes_junk_eq_canon]
    simp only [kernelRun1_A.sl.r, kernelRun1_A.sl.r_1, kernelRun1_A.sl.r_2, View.readAt_eq_ld, Memref.IsWhole.read_unread]
    rfl

set_option maxHeartbeats 1000000 in
/-- Layer 1 after the first launch. -/
theorem early (i : Fin 128) (j : Fin 128) :
    (dat0 (V0 m ρ) c).arrAt 5 cfg0.N (ix3 1 i j) = want5 m c (ix3 1 i j)
    ∧ (dat0 (V0 m ρ) c).arrAt 6 cfg0.N (ix3 1 i j) = want6 m c (ix3 1 i j)
    ∧ (dat0 (V0 m ρ) c).arrAt 7 cfg0.N (ix3 1 i j) = want7 m c (ix3 1 i j)
    ∧ (dat0 (V0 m ρ) c).arrAt 8 cfg0.N (ix3 1 i j) = want8 m c (ix3 1 i j) := by
  refine ⟨((dat0 (V0 m ρ) c).arrAt_apply_of_coversWhere 5 (want5 m c) (P := fun y : S2x128x128.Idx => (y 0).val = 1)
      (fun β => β (0 : Fin 3) = 1) (by decide +kernel) ?_ ?_ (ix3 1 i j)).trans (if_pos rfl),
    ((dat0 (V0 m ρ) c).arrAt_apply_of_coversWhere 6 (want6 m c) (P := fun y : S2x128x128.Idx => (y 0).val = 1)
      (fun β => β (0 : Fin 3) = 1) (by decide +kernel) ?_ ?_ (ix3 1 i j)).trans (if_pos rfl),
    ((dat0 (V0 m ρ) c).arrAt_apply_of_coversWhere 7 (want7 m c) (P := fun y : S2x128x128.Idx => (y 0).val = 1)
      (fun β => β (0 : Fin 3) = 1) (by decide +kernel) ?_ ?_ (ix3 1 i j)).trans (if_pos rfl),
    ((dat0 (V0 m ρ) c).arrAt_apply_of_coversWhere 8 (want8 m c) (P := fun y : S2x128x128.Idx => (y 0).val = 1)
      (fun β => β (0 : Fin 3) = 1) (by decide +kernel) ?_ ?_ (ix3 1 i j)).trans (if_pos rfl)⟩
  all_goals first
    | (intro t hf y
       obtain ⟨-, -, -, -, -, e5, e6, e7, e8⟩ := index0 t
       blk_simp
       first | rw [after0_5] | rw [after0_6] | rw [after0_7] | rw [after0_8]
       obtain ⟨i, j, rfl⟩ : ∃ (i : Fin 128) (j : Fin 128), y = ix3 0 i j := ext3 y
       obtain ⟨-, -, eW, eM, eV⟩ := at0 m ρ c t i j
       refine Eq.trans ?_ (congrArg _ (?_ : ix3 1 (row t i) (col t j) = _))
       · first
          | rw [pay_5, want5_1, part0_at]
          | rw [pay_6, want6_at, want7_at, want8_at, want5_1, part0_at, eW, eM, eV]
          | rw [pay_7, want7_at, want5_1, part0_at, eM]
          | rw [pay_8, want8_at, want5_1, part0_at, eV]
       · blk_ext [e5, e6, e7, e8, row, col] <;> first | rfl | (change _ = i.val; omega) | (change _ = j.val; omega) | (change _ = _ * _ + i.val; omega) | (change _ = _ * _ + j.val; omega))
    | (intro y
       blk_simp [Pipeline.Window.cell_apply]
       first | exact Iff.rfl | omega)

set_option maxHeartbeats 1000000 in
/-- Both layers after the second launch, result by result. -/
theorem arrays :
    W3 m ρ c (Proc.devRef .tc main_v1_0) = want5 m c
    ∧ W3 m ρ c (Proc.devRef .tc main_v1_1) = want6 m c
    ∧ W3 m ρ c (Proc.devRef .tc main_v1_2) = want7 m c
    ∧ W3 m ρ c (Proc.devRef .tc main_v1_3) = want8 m c := by
  have kept : V2 m ρ c main_v1_0 = (dat0 (V0 m ρ) c).arrAt 5 cfg0.N
      ∧ V2 m ρ c main_v1_1 = (dat0 (V0 m ρ) c).arrAt 6 cfg0.N
      ∧ V2 m ρ c main_v1_2 = (dat0 (V0 m ρ) c).arrAt 7 cfg0.N
      ∧ V2 m ρ c main_v1_3 = (dat0 (V0 m ρ) c).arrAt 8 cfg0.N := by
    refine ⟨Eq.trans ?_ (W1_arr m ρ c 5), Eq.trans ?_ (W1_arr m ρ c 6), Eq.trans ?_ (W1_arr m ρ c 7), Eq.trans ?_ (W1_arr m ρ c 8)⟩
    all_goals
      show StableHlo.after hostOps1 (W1 m ρ c) (Proc.devRef .tc _) = _
      after_results
      first | done | rfl
  refine ⟨(W3_arr m ρ c 5).trans ((dat1 (V2 m ρ) c).arrAt_eq_of_coversWhere_of_agree 5 _ (fun β => β (0 : Fin 3) = 0) (by decide +kernel) ?_ ?_),
    (W3_arr m ρ c 6).trans ((dat1 (V2 m ρ) c).arrAt_eq_of_coversWhere_of_agree 6 _ (fun β => β (0 : Fin 3) = 0) (by decide +kernel) ?_ ?_),
    (W3_arr m ρ c 7).trans ((dat1 (V2 m ρ) c).arrAt_eq_of_coversWhere_of_agree 7 _ (fun β => β (0 : Fin 3) = 0) (by decide +kernel) ?_ ?_),
    (W3_arr m ρ c 8).trans ((dat1 (V2 m ρ) c).arrAt_eq_of_coversWhere_of_agree 8 _ (fun β => β (0 : Fin 3) = 0) (by decide +kernel) ?_ ?_)⟩
  all_goals first
    | (intro t hf y
       obtain ⟨-, -, -, -, -, e5, e6, e7, e8⟩ := index1 t
       blk_simp
       first | rw [after1_5, (left c _ t).1] | rw [after1_6, (left c _ t).2.1] | rw [after1_7, (left c _ t).2.2.1] | rw [after1_8, (left c _ t).2.2.2]
       obtain ⟨i, j, rfl⟩ : ∃ (i : Fin 128) (j : Fin 128), y = ix3 0 i j := ext3 y
       obtain ⟨-, -, eW, eM, eV⟩ := at1 m ρ c t i j
       refine Eq.trans ?_ (congrArg _ (?_ : ix3 0 (row t i) (col t j) = _))
       · first
          | rw [pay_5, want5_0, part1_at]
          | rw [pay_6, want6_at, want7_at, want8_at, want5_0, part1_at, eW, eM, eV]
          | rw [pay_7, want7_at, want5_0, part1_at, eM]
          | rw [pay_8, want8_at, want5_0, part1_at, eV]
       · blk_ext [e5, e6, e7, e8, row, col] <;> first | rfl | (change _ = i.val; omega) | (change _ = j.val; omega) | (change _ = _ * _ + i.val; omega) | (change _ = _ * _ + j.val; omega))
    | (intro y hy
       blk_simp [Pipeline.Window.cell_apply] at hy
       obtain ⟨i, j, rfl⟩ : ∃ (i : Fin 128) (j : Fin 128), y = ix3 1 i j := later y (by simpa using hy)
       rw [A_eq1]
       first
       | exact (congrFun kept.1 (ix3 1 i j)).trans (early m ρ c i j).1
       | exact (congrFun kept.2.1 (ix3 1 i j)).trans (early m ρ c i j).2.1
       | exact (congrFun kept.2.2.1 (ix3 1 i j)).trans (early m ρ c i j).2.2.1
       | exact (congrFun kept.2.2.2 (ix3 1 i j)).trans (early m ρ c i j).2.2.2)

section Run

open Idealize.SL Idealize.SL.RA Idealize.SL.BI Idealize.SL.BI.BIBase Idealize.SL.BI.Laws Idealize.SL.ProofMode Idealize.SL.Sem
open Idealize.ShloMosaic.Rounds Idealize.ShloMosaic.Tactic
open scoped Idealize.SL.BI

local notation "𝕄" => MT nD τ sig Unit (Elt Ideal) ℕ (UR sig nD τ) ℕ

set_option backward.isDefEq.respectTransparency.types false in
set_option maxRecDepth 16384 in
/-- Both launches end, with the reference's four results, the arguments as launched. -/
theorem run : θ_run defs (onTc (τ := τ) (main (F := Ideal))) ⟨m, fun _ => 0, ρ⟩ (fun r => ∀ c : Dev nD,
      r.2.mem ((c.tc : Thread nD τ).loc main_v1_0) = want5 m c
      ∧ r.2.mem ((c.tc : Thread nD τ).loc main_v1_1) = want6 m c
      ∧ r.2.mem ((c.tc : Thread nD τ).loc main_v1_2) = want7 m c
      ∧ r.2.mem ((c.tc : Thread nD τ).loc main_v1_3) = want8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_sems (pcfgs (F := Ideal)) adm (pdats m ρ) () cellOf_inj emb₁ defs₀ 𝒱₀ L lv m ρ main (segs m ρ)
    (fun c _ => by rw [main_run m ρ c]) (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?_)
    (QY := fun c s => ∀ b ∈ Pipeline.ucRefs τ sig, s.mem (((c : Thread nD τ)).1, b) = W3 m ρ c b) (hfin := fun c s' => ?_)
    (hQ := fun s h _ c => have u := fun b hb => h c _ (mem_uc b hb)
     ⟨(u main_v1_0 (by decide)).trans (arrays m ρ c).1, (u main_v1_1 (by decide)).trans (arrays m ρ c).2.1,
      (u main_v1_2 (by decide)).trans (arrays m ρ c).2.2.1, (u main_v1_3 (by decide)).trans (arrays m ρ c).2.2.2,
      (u main_arg0 (by decide)).trans (W3_main_arg0 m ρ c), (u main_arg1 (by decide)).trans (W3_main_arg1 m ρ c), (u main_arg2 (by decide)).trans (W3_main_arg2 m ρ c), (u main_arg3 (by decide)).trans (W3_main_arg3 m ρ c), (u main_arg4 (by decide)).trans (W3_main_arg4 m ρ c), (u main_arg5 (by decide)).trans (W3_main_arg5 m ρ c), (u main_arg6 (by decide)).trans (W3_main_arg6 m ρ c)⟩)
  · have start : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    have none : (BI.emp : sProp 𝕄) ⊢ bigSep Finset.univ (fun _ : Dev nD => (BI.emp : sProp 𝕄)) := by rw [BI.bigSep_emp_const]
    iintro Hu
    imodintro
    isplitl [Hu]
    · iapply start
      iexact Hu
    iapply none
    iempintro
  · refine Pipeline.initEach L lv fun c => ?_
    have all : (unscopedBufs c (fun b => m ((c : Thread nD τ).loc b)) : sProp 𝕄) = StableHlo.held (c : Thread nD τ) (Pipeline.ucRefs τ sig) (W0 m ρ c) :=
      Pipeline.unscopedBufs_held c (W0 m ρ c)
    rw [all]
    iintro ⟨⟨Hh, -, HO, -, Hp, -⟩, -⟩
    imodintro
    isplitl [Hh]
    · iexact Hh
    isplitl [Hp]
    · iexists _
      iexact Hp
    iexists ∅
    iexact HO
  · iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption

end Run

end Cert.StepKeysIdeal.Step

end
-- ==== Proof.AdaGrad.lean ====
/-
  THE GRADIENT OF THE MODULATION'S WEIGHTS, by layers: what the launch leaves is what the reference's sum over the sequences says.
-/
module

public import proofs.«01_k».proof.Proof.StepSlab
public import proofs.«01_k».proof.Proof.Gen.AdaGradIdeal.Frame
public import proofs.«01_k».proof.Proof.Gen.AdaGradRefIdeal.Read
public import Idealize.ShloMosaic.Lib.Pipeline.ValueKit.Geometry

@[expose] public section

noncomputable section

namespace Cert.AdaGradIdeal.Product

open Idealize.ShloMosaic
open Idealize.ShloMosaic.ValueIdx Idealize.ShloMosaic.TcCoe Idealize.ShloMosaic.StableHlo
open Idealize.ShloMosaic.Pipeline (Dat Cfg Window)
open Cert.AdaGradIdeal Cert.AdaGradIdeal.Gen Cert.Products
open scoped BigOperators

variable (m : (ℓ : Loc nD τ sig) → Buf (Elt Ideal) ℓ) (c : Dev nD)

/-- The two arguments: every sequence's conditioning, and the cotangent of the modulation by layers. -/
abbrev argC : FVec Ideal S8x1024 .f32 := m ((c : Thread nD τ).loc main_arg0)
abbrev argD : FVec Ideal S4x8x384 .f32 := m ((c : Thread nD τ).loc main_arg1)

theorem index_0 : ∀ t : Fin cfg0.N, win0_0.index t = ![0, 0] := (by decide +kernel : ∀ t : Fin grid0.N, _)
theorem index_1 : ∀ t : Fin cfg0.N, win0_1.index t = ![t.val, 0, 0] := (by decide +kernel : ∀ t : Fin grid0.N, _)
theorem index_2 : ∀ t : Fin cfg0.N, win0_2.index t = ![t.val, 0, 0] := (by decide +kernel : ∀ t : Fin grid0.N, _)

theorem V_c : V m c main_v0 = transpose S1024x8 [1, 0] (argC m c) transposes_S8x1024_S1024x8_1_0 := by
  simp only [V, List.flatten_cons, List.flatten_nil, List.append_nil]
  after_reads_simp

theorem V_d : V m c main_arg1 = argD m c := by
  simp only [V, List.flatten_cons, List.flatten_nil, List.append_nil]
  after_reads_simp

/-- The layer of a grid point. -/
def layer (t : Fin cfg0.N) : Fin 4 := ⟨t.val, t.isLt⟩

theorem at_0 (t : Fin cfg0.N) (r : Fin 1024) (k : Fin 8) : iblk m c 0 t (ix2 r k) = argC m c (ix2 k r) := by
  have e := index_0 t
  have h : V m c main_v0 (ix2 r k) = argC m c (ix2 k r) := by
    rw [V_c]
    exact transpose_apply [1, 0] (argC m c) _ (ix2 r k) (ix2 k r) fun b => match b with | ⟨0, _⟩ => rfl | ⟨1, _⟩ => rfl
  refine Eq.trans ?_ h
  blk_simp [iblk]
  exact congrArg (V m c main_v0) (by blk_ext [e] <;> first | rfl | (change _ * _ + r.val = r.val; omega) | (change _ * _ + k.val = k.val; omega))

theorem at_1 (t : Fin cfg0.N) (k : Fin 8) (n : Fin 384) : iblk m c 1 t (ix3 0 k n) = argD m c (ix3 (layer t) k n) := by
  have e := index_1 t
  rw [← V_d]
  blk_simp [iblk]
  exact congrArg (V m c main_arg1) (by blk_ext [e, layer] <;> first | rfl | (change _ * _ + k.val = k.val; omega) | (change _ * _ + n.val = n.val; omega) | (change _ * _ + 0 = _; omega))

/-- A number times its logistic function. -/
def silu (v : EReal) : EReal :=
  FloatOps.mulf (F := Ideal) (φ := .f32) v (FloatOps.divf (F := Ideal) (φ := .f32) (Scalar.ofBits .f32 0x3F800000#32)
    (FloatOps.addf (F := Ideal) (φ := .f32) (Scalar.ofBits .f32 0x3F800000#32) (FloatOps.exp (F := Ideal) (φ := .f32) (-v))))

/-- A column of a matrix, repeated along the rows, and a row, repeated along the columns. -/
theorem col_at (x : FVec Ideal S1024x8 .f32) (k : Fin 8) (h : S1024x8.Slices ![0, k.val] S1024x1) (hb : S1024x1.Broadcasts S1024x384)
    (r : Fin 1024) (n : Fin 384) : broadcastTo S1024x384 (extractStridedSlice S1024x1 ![0, k.val] x h) hb (ix2 r n) = x (ix2 r k) :=
  (broadcastTo_apply _ hb (ix2 r n) (ix2 r (0 : Fin 1)) fun a => match a with | ⟨0, _⟩ => rfl | ⟨1, _⟩ => rfl).trans
    (extractStridedSlice_apply _ x h (ix2 r (0 : Fin 1)) (ix2 r k) fun a => match a with
      | ⟨0, _⟩ => (Nat.zero_add _).symm
      | ⟨1, _⟩ => rfl)

theorem row_at (x : FVec Ideal S8x384 .f32) (k : Fin 8) (h : S8x384.Slices ![k.val, 0] S1x384) (hb : S1x384.Broadcasts S1024x384)
    (r : Fin 1024) (n : Fin 384) : broadcastTo S1024x384 (extractStridedSlice S1x384 ![k.val, 0] x h) hb (ix2 r n) = x (ix2 k n) :=
  (broadcastTo_apply _ hb (ix2 r n) (ix2 (0 : Fin 1) n) fun a => match a with | ⟨0, _⟩ => rfl | ⟨1, _⟩ => rfl).trans
    (extractStridedSlice_apply _ x h (ix2 (0 : Fin 1) n) (ix2 k n) fun a => match a with
      | ⟨0, _⟩ => rfl
      | ⟨1, _⟩ => (Nat.zero_add _).symm)

theorem silu_at (a : Vec Ideal S1024x8 .f32) (y : S1024x8.Idx) : k0_pay2 (F := Ideal) a y = silu (a y) := by
  unfold k0_pay2
  rw [shapeCast_self]
  refine congrArg (fun z => FloatOps.mulf (F := Ideal) (φ := .f32) (a y) (FloatOps.divf (F := Ideal) (φ := .f32) (Scalar.ofBits .f32 0x3F800000#32)
    (FloatOps.addf (F := Ideal) (φ := .f32) (Scalar.ofBits .f32 0x3F800000#32) (FloatOps.exp (F := Ideal) (φ := .f32) z)))) ?_
  show Ideal.ofBits .f32 0x00000000#32 - a y = -a y
  rw [Ideal.ofBits_zero_f32, zero_sub]

theorem layer_at (d : Vec Ideal S1x8x384 .f32) (k : Fin 8) (n : Fin 384) : k0_pay3 (F := Ideal) d (ix2 k n) = d (ix3 0 k n) := by
  unfold k0_pay3
  exact Cert.Step.bare_at d _ k n

/-- What a grid point stores, at an index. -/
theorem pay_at (a : Vec Ideal S1024x8 .f32) (d : Vec Ideal S1x8x384 .f32) (r : Fin 1024) (n : Fin 384) :
    out0_2 (F := Ideal) a d (ix3 (0 : Fin 1) r n) = ∑ k : Fin 8, silu (a (ix2 r k)) * d (ix3 0 k n) := by
  unfold out0_2
  rw [View.canon_unit_zero offsets3, View.ld_unit_zero offsets2, View.ld_unit_zero offsets3]
  have e : ∀ k : Fin 8, silu (a (ix2 r k)) * d (ix3 0 k n) = k0_pay2 (F := Ideal) a (ix2 r k) * k0_pay3 (F := Ideal) d (ix2 k n) := fun k => by
    rw [silu_at, layer_at]
  rw [Finset.sum_congr rfl fun k _ => e k, Fin.sum_univ_eight]
  unfold k0_pay1 k0_pay4 k0_pay5 k0_pay6
  generalize k0_pay2 (F := Ideal) a = u
  generalize k0_pay3 (F := Ideal) d = v
  refine (Cert.Step.under_at (e := .f32) _ _ r n).trans ?_
  exact congrArg₂ (· + ·) (congrArg₂ (· + ·) (congrArg₂ (· + ·) (congrArg₂ (· + ·) (congrArg₂ (· + ·) (congrArg₂ (· + ·) (congrArg₂ (· + ·)
    (congrArg₂ (· * ·) (col_at u 0 _ _ r n) (row_at v 0 _ _ r n)) (congrArg₂ (· * ·) (col_at u 1 _ _ r n) (row_at v 1 _ _ r n)))
    (congrArg₂ (· * ·) (col_at u 2 _ _ r n) (row_at v 2 _ _ r n))) (congrArg₂ (· * ·) (col_at u 3 _ _ r n) (row_at v 3 _ _ r n)))
    (congrArg₂ (· * ·) (col_at u 4 _ _ r n) (row_at v 4 _ _ r n))) (congrArg₂ (· * ·) (col_at u 5 _ _ r n) (row_at v 5 _ _ r n)))
    (congrArg₂ (· * ·) (col_at u 6 _ _ r n) (row_at v 6 _ _ r n))) (congrArg₂ (· * ·) (col_at u 7 _ _ r n) (row_at v 7 _ _ r n))

/-- The reference's value. -/
abbrev want (x : FVec Ideal S8x1024 .f32) (d : FVec Ideal S4x8x384 .f32) : FVec Ideal S4x1024x384 .f32 :=
  Cert.AdaGradRefIdeal.Read.val_main_v12 (F := Ideal) x d

theorem act_at (x : FVec Ideal S8x1024 .f32) (y : S8x1024.Idx) : Cert.AdaGradRefIdeal.Read.val_main_v6 (F := Ideal) x y = silu (x y) := by
  rw [Cert.AdaGradRefIdeal.Read.val_main_v6_apply, Cert.AdaGradRefIdeal.Read.val_main_v5_apply, Cert.AdaGradRefIdeal.Read.val_main_v4_apply,
    Cert.AdaGradRefIdeal.Read.val_main_v3_apply, Cert.AdaGradRefIdeal.Read.val_main_v2_apply]
  rfl

theorem want_at (x : FVec Ideal S8x1024 .f32) (d : FVec Ideal S4x8x384 .f32) (l : Fin 4) (r : Fin 1024) (n : Fin 384) :
    want x d (ix3 l r n) = ∑ k : Fin 8, silu (x (ix2 k r)) * d (ix3 l k n) := by
  refine (Cert.AdaGradRefIdeal.Read.val_main_v12_apply (F := Ideal) x d (ix3 l r n)).trans
    ((Cert.AdaGradRefIdeal.Read.val_main_v11_apply x d (Cert.AdaGradRefIdeal.Read.idx_main_v12 (ix3 l r n))).trans (Finset.sum_congr rfl fun k _ => (mul_comm _ _).trans ?_))
  rw [act_at, Cert.AdaGradRefIdeal.Read.val_main_v10_apply]
  refine congrArg₂ (fun i j => silu (x i) * d j) ?_ ?_
  · exact funext fun a => match a with | ⟨0, _⟩ => rfl | ⟨1, _⟩ => rfl
  · exact funext fun a => match a with | ⟨0, _⟩ => rfl | ⟨1, _⟩ => rfl | ⟨2, _⟩ => rfl

/-- The result, whole. -/
theorem final : (dats m 0 c).arrAt 2 cfg0.N = want (argC m c) (argD m c) := by
  refine (dats m 0 c).arrAt_eq_of_covers 2 _ (by decide +kernel) fun t hf y => ?_
  have e := index_2 t
  blk_simp
  rw [after0_2]
  obtain ⟨z, r, n, rfl⟩ : ∃ (z : Fin 1) (r : Fin 1024) (n : Fin 384), y = ix3 z r n := ⟨y 0, y 1, y 2, eq_ix3 y⟩
  obtain rfl : z = 0 := Subsingleton.elim _ _
  refine (pay_at _ _ r n).trans (Eq.trans ?_ ((want_at (argC m c) (argD m c) (layer t) r n).symm.trans (congrArg (want (argC m c) (argD m c)) ?_)))
  · exact Finset.sum_congr rfl fun k _ => congrArg₂ (fun p q => silu p * q) (at_0 m c t r k) (at_1 m c t k n)
  · blk_ext [e, layer] <;> first | rfl | (change _ = _ * _ + r.val; omega) | (change _ = _ * _ + n.val; omega) | (change _ = _ * _ + 0; omega)

open Idealize.SL.Sem

/-- The run, with the array it leaves. -/
theorem run (ρ : Dev nD → PrngReg) : θ_run defs (onTc (τ := τ) (main (F := Ideal))) ⟨m, fun _ => 0, ρ⟩ fun r => ∀ c : Dev nD,
      r.2.mem ((c.tc : Thread nD τ).loc main_v1) = want (argC m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.AdaGradIdeal.Product

end
-- ==== Proof.lean ====
/-
  The gradient of the chunk-causal attention, the chunk-causal attention itself, the step's products and the optimiser's steps: the claims, assembled.
-/
module

public import proofs.«01_k».proof.Defs
public import proofs.«01_k».proof.Proof.WordFrame
public import proofs.«01_k».proof.Proof.Gen.Reference.Run
public import proofs.«01_k».proof.Proof.Gen.ReferenceIdeal.Run
public import proofs.«01_k».proof.Proof.Gen.ReferenceIdeal.Read
public import proofs.«01_k».proof.Proof.Finite
public import proofs.«01_k».proof.Proof.Gen.OutLeft.Frame
public import proofs.«01_k».proof.Proof.Gen.OutLeftIdeal.Frame
public import proofs.«01_k».proof.Proof.Gen.OutLeftIdeal.Value
public import proofs.«01_k».proof.Proof.Gen.OutLeftRefIdeal.Run
public import proofs.«01_k».proof.Proof.Gen.OutLeftRefIdeal.Read
public import proofs.«01_k».proof.Proof.Gen.OutRight.Frame
public import proofs.«01_k».proof.Proof.Gen.OutRightIdeal.Frame
public import proofs.«01_k».proof.Proof.Gen.OutRightIdeal.Value
public import proofs.«01_k».proof.Proof.Gen.OutRightRefIdeal.Run
public import proofs.«01_k».proof.Proof.Gen.OutRightRefIdeal.Read
public import proofs.«01_k».proof.Proof.Gen.OddLeft.Frame
public import proofs.«01_k».proof.Proof.Gen.OddLeftIdeal.Frame
public import proofs.«01_k».proof.Proof.Gen.OddLeftIdeal.Value
public import proofs.«01_k».proof.Proof.Gen.OddLeftRefIdeal.Run
public import proofs.«01_k».proof.Proof.Gen.OddLeftRefIdeal.Read
public import proofs.«01_k».proof.Proof.Gen.OddIn.Frame
public import proofs.«01_k».proof.Proof.Gen.OddInIdeal.Frame
public import proofs.«01_k».proof.Proof.Gen.OddInIdeal.Value
public import proofs.«01_k».proof.Proof.Gen.OddInRefIdeal.Run
public import proofs.«01_k».proof.Proof.Gen.OddInRefIdeal.Read
public import proofs.«01_k».proof.Proof.Gen.OddRight.Frame
public import proofs.«01_k».proof.Proof.Gen.OddRightIdeal.Frame
public import proofs.«01_k».proof.Proof.Gen.OddRightIdeal.Value
public import proofs.«01_k».proof.Proof.Gen.OddRightRefIdeal.Run
public import proofs.«01_k».proof.Proof.Gen.OddRightRefIdeal.Read
public import proofs.«01_k».proof.Proof.Gen.EvenLeft.Frame
public import proofs.«01_k».proof.Proof.Gen.EvenLeftIdeal.Frame
public import proofs.«01_k».proof.Proof.Gen.EvenLeftIdeal.Value
public import proofs.«01_k».proof.Proof.Gen.EvenLeftRefIdeal.Run
public import proofs.«01_k».proof.Proof.Gen.EvenLeftRefIdeal.Read
public import proofs.«01_k».proof.Proof.Gen.EvenRight.Frame
public import proofs.«01_k».proof.Proof.Gen.EvenRightIdeal.Frame
public import proofs.«01_k».proof.Proof.Gen.EvenRightIdeal.Value
public import proofs.«01_k».proof.Proof.Gen.EvenRightRefIdeal.Run
public import proofs.«01_k».proof.Proof.Gen.EvenRightRefIdeal.Read
public import proofs.«01_k».proof.Proof.Gen.OutProduct.Frame
public import proofs.«01_k».proof.Proof.Gen.OutProductIdeal.Frame
public import proofs.«01_k».proof.Proof.Gen.OutProductIdeal.Value
public import proofs.«01_k».proof.Proof.Gen.OutProductRefIdeal.Run
public import proofs.«01_k».proof.Proof.Gen.OutProductRefIdeal.Read
public import proofs.«01_k».proof.Proof.Gen.EvenIn.Frame
public import proofs.«01_k».proof.Proof.Gen.EvenInIdeal.Frame
public import proofs.«01_k».proof.Proof.Gen.EvenInIdeal.Value
public import proofs.«01_k».proof.Proof.Gen.EvenInRefIdeal.Run
public import proofs.«01_k».proof.Proof.Gen.EvenInRefIdeal.Read
public import proofs.«01_k».proof.Proof.Gen.Forward.Frame
public import proofs.«01_k».proof.Proof.Gen.ForwardIdeal.Frame
public import proofs.«01_k».proof.Proof.Gen.ForwardIdeal.Value
public import proofs.«01_k».proof.Proof.Gen.ForwardRefIdeal.Run
public import proofs.«01_k».proof.Proof.Gen.ForwardRefIdeal.Read
public import proofs.«01_k».proof.Proof.OutLeft
public import proofs.«01_k».proof.Proof.OutRight
public import proofs.«01_k».proof.Proof.OddLeft
public import proofs.«01_k».proof.Proof.OddIn
public import proofs.«01_k».proof.Proof.OddRight
public import proofs.«01_k».proof.Proof.EvenLeft
public import proofs.«01_k».proof.Proof.EvenRight
public import proofs.«01_k».proof.Proof.OutProduct
public import proofs.«01_k».proof.Proof.EvenIn
public import proofs.«01_k».proof.Proof.FwdFinal
public import proofs.«01_k».proof.Proof.Gen.StepShared.Frame
public import proofs.«01_k».proof.Proof.Gen.StepSharedIdeal.Frame
public import proofs.«01_k».proof.Proof.Gen.StepSharedIdeal.Value
public import proofs.«01_k».proof.Proof.Gen.StepSharedRefIdeal.Run
public import proofs.«01_k».proof.Proof.Gen.StepSharedRefIdeal.Read
public import proofs.«01_k».proof.Proof.StepShared
public import proofs.«01_k».proof.Proof.Gen.StepAda.Frame
public import proofs.«01_k».proof.Proof.Gen.StepAdaIdeal.Frame
public import proofs.«01_k».proof.Proof.Gen.StepAdaIdeal.Value
public import proofs.«01_k».proof.Proof.Gen.StepAdaRefIdeal.Run
public import proofs.«01_k».proof.Proof.Gen.StepAdaRefIdeal.Read
public import proofs.«01_k».proof.Proof.StepAda
public import proofs.«01_k».proof.Proof.Gen.StepSmall.Frame
public import proofs.«01_k».proof.Proof.Gen.StepSmallIdeal.Frame
public import proofs.«01_k».proof.Proof.Gen.StepSmallIdeal.Value
public import proofs.«01_k».proof.Proof.Gen.StepSmallRefIdeal.Run
public import proofs.«01_k».proof.Proof.Gen.StepSmallRefIdeal.Read
public import proofs.«01_k».proof.Proof.StepSmall
public import proofs.«01_k».proof.Proof.Gen.StepOut.Frame
public import proofs.«01_k».proof.Proof.Gen.StepOutIdeal.Frame
public import proofs.«01_k».proof.Proof.Gen.StepOutRefIdeal.Run
public import proofs.«01_k».proof.Proof.Gen.StepOutRefIdeal.Read
public import proofs.«01_k».proof.Proof.StepOut
public import proofs.«01_k».proof.Proof.Gen.StepEvenIn.Frame
public import proofs.«01_k».proof.Proof.Gen.StepEvenInIdeal.Frame
public import proofs.«01_k».proof.Proof.Gen.StepEvenInRefIdeal.Run
public import proofs.«01_k».proof.Proof.Gen.StepEvenInRefIdeal.Read
public import proofs.«01_k».proof.Proof.StepEvenIn
public import proofs.«01_k».proof.Proof.Gen.StepOddIn.Frame
public import proofs.«01_k».proof.Proof.Gen.StepOddInIdeal.Frame
public import proofs.«01_k».proof.Proof.Gen.StepOddInRefIdeal.Run
public import proofs.«01_k».proof.Proof.Gen.StepOddInRefIdeal.Read
public import proofs.«01_k».proof.Proof.StepOddIn
public import proofs.«01_k».proof.Proof.Gen.StepQueries.Frame
public import proofs.«01_k».proof.Proof.Gen.StepQueriesIdeal.Frame
public import proofs.«01_k».proof.Proof.Gen.StepQueriesRefIdeal.Run
public import proofs.«01_k».proof.Proof.Gen.StepQueriesRefIdeal.Read
public import proofs.«01_k».proof.Proof.StepQueries
public import proofs.«01_k».proof.Proof.Gen.StepKeys.Frame
public import proofs.«01_k».proof.Proof.Gen.StepKeysIdeal.Frame
public import proofs.«01_k».proof.Proof.Gen.StepKeysRefIdeal.Run
public import proofs.«01_k».proof.Proof.Gen.StepKeysRefIdeal.Read
public import proofs.«01_k».proof.Proof.Gen.AdaGrad.Frame
public import proofs.«01_k».proof.Proof.Gen.AdaGradIdeal.Frame
public import proofs.«01_k».proof.Proof.Gen.AdaGradRefIdeal.Run
public import proofs.«01_k».proof.Proof.Gen.AdaGradRefIdeal.Read
public import proofs.«01_k».proof.Proof.StepKeys
public import proofs.«01_k».proof.Proof.AdaGrad

@[expose] public section

noncomputable section

namespace Cert.Proof

open Idealize.ShloMosaic Idealize.SL.Sem

theorem frame_p : Cert.quiescent_Kernel := fun m ρ _ => Cert.Kernel.AttnGrad.frame m ρ

theorem frame_pi : Cert.quiescent_KernelIdeal := fun m ρ _ => Cert.KernelIdeal.AttnGrad.frame m ρ

theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_r : Cert.quiescent_Reference := fun m ρ _ =>
  (θ_run Cert.Reference.defs _ _).mono (fun r h => ⟨fun c => (h c).2.2.2, sem_eq_zero_of_no_sems (by decide) r.2⟩)
    (Cert.Reference.Value.run (F := Bits) m ρ)

theorem preserves : Cert.preserves_Kernel_KernelIdeal :=
  IdealRules.named_const.statement Cert.KernelIdeal.κ "ln2" .f32 0x3F317218#32 ((Real.log 2 : ℝ) : EReal) rfl

theorem frame_pi_finite : Cert.quiescent_KernelIdeal_pre_finite (hPre_finite := Cert.AttnGrad.finite_facts) := fun m ρ _ =>
  Cert.KernelIdeal.AttnGrad.frame m ρ

theorem frame_ri_finite : Cert.quiescent_ReferenceIdeal_pre_finite (hPre_finite := Cert.AttnGrad.finite_facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

section
open Cert.AttnGrad Cert.KernelIdeal.AttnGrad

/-- The reals a device's arguments hold. -/
def inputs (m : (ℓ : Loc Cert.KernelIdeal.nD Cert.KernelIdeal.τ Cert.KernelIdeal.sig) → Buf (Elt Ideal) ℓ)
    (c : Dev Cert.KernelIdeal.nD) : Inputs := realsOf (argQ m c) (argK m c) (argV m c) (argG m c)

/-- On finite arguments the kernel and the reference both leave the packed gradients of attention. -/
theorem algebraic : Cert.algebraic_KernelIdeal_ReferenceIdeal_pre_finite (hPre_finite := finite_facts) := by
  intro m g m' g' pre same
  have H (c : Dev Cert.KernelIdeal.nD) : Holds (inputs m c) (argQ m c) (argK m c) (argV m c) (argG m c) :=
    letI := finite_facts
    holds_of_finite _ _ _ _ (pre c)
  refine ⟨fun c => dqPacked (inputs m c), fun c => dkPacked (inputs m c), fun c => dvPacked (inputs m c), ?_, ?_⟩
  · refine (θ_run Cert.KernelIdeal.defs _ _).mono (fun r h c => ?_) (θ_run_and (run_main m g) (Cert.KernelIdeal.AttnGrad.frame m g))
    exact ⟨(h.1.out_eq c 7).trans (final_dq m c (H c)), (h.1.out_eq c 8).trans (final_dk m c (H c)),
      (h.1.out_eq c 9).trans (final_dv m c (H c)), h.2.1 c⟩
  · refine (θ_run Cert.ReferenceIdeal.defs _ _).mono (fun r h c => ?_) (Cert.ReferenceIdeal.Value.run (F := Ideal) m' g')
    obtain ⟨e0, e1, e2, e3⟩ := same c
    obtain ⟨h0, h1, h2, h3⟩ := h c
    refine ⟨h0.trans ?_, h1.trans ?_, h2.trans ?_, h3⟩
    · rw [Cert.ReferenceIdeal.Read.val_main_v61_eq, e0, e1, e2, e3]
      exact ref_packed_dq (H c)
    · rw [Cert.ReferenceIdeal.Read.val_main_v65_eq, e0, e1, e2, e3]
      exact ref_packed_dk (H c)
    · rw [Cert.ReferenceIdeal.Read.val_main_v68_eq, e0, e1, e3]
      exact ref_packed_dv (H c)

end

/-! ### OutLeft -/

theorem OutLeft.frame_p : Cert.quiescent_OutLeft := fun m ρ _ => Cert.OutLeft.Gen.frame m ρ

theorem OutLeft.frame_pi : Cert.quiescent_OutLeftIdeal := fun m ρ _ => Cert.OutLeftIdeal.Gen.frame m ρ

theorem OutLeft.frame_ri : Cert.quiescent_OutLeftRefIdeal := fun m ρ _ =>
  (θ_run Cert.OutLeftRefIdeal.defs _ _).mono (fun r h => ⟨fun c => (h c).2, sem_eq_zero_of_no_sems (by decide) r.2⟩)
    (Cert.OutLeftRefIdeal.Value.run (F := Ideal) m ρ)

section
open Cert.OutLeftIdeal.Product

theorem OutLeft.algebraic : Cert.algebraic_OutLeftIdeal_OutLeftRefIdeal := by
  intro m g m' g' _ same
  refine ⟨fun c => want (argA m c) (argB m c), ?_, ?_⟩
  · exact (θ_run Cert.OutLeftIdeal.defs _ _).mono (fun r h c => ⟨(h c).1.trans (final m c), (h c).2⟩)
      (Cert.OutLeftIdeal.Value.run_blocks m g)
  · refine (θ_run Cert.OutLeftRefIdeal.defs _ _).mono (fun r h c => ?_) (Cert.OutLeftRefIdeal.Value.run (F := Ideal) m' g')
    obtain ⟨e0, e1⟩ := same c
    exact ⟨(h c).1.trans (by rw [Cert.OutLeftRefIdeal.Read.val_main_v3_eq, e0, e1]), (h c).2⟩

end

/-! ### OutRight -/

theorem OutRight.frame_p : Cert.quiescent_OutRight := fun m ρ _ => Cert.OutRight.Gen.frame m ρ

theorem OutRight.frame_pi : Cert.quiescent_OutRightIdeal := fun m ρ _ => Cert.OutRightIdeal.Gen.frame m ρ

theorem OutRight.frame_ri : Cert.quiescent_OutRightRefIdeal := fun m ρ _ =>
  (θ_run Cert.OutRightRefIdeal.defs _ _).mono (fun r h => ⟨fun c => (h c).2, sem_eq_zero_of_no_sems (by decide) r.2⟩)
    (Cert.OutRightRefIdeal.Value.run (F := Ideal) m ρ)

section
open Cert.OutRightIdeal.Product

theorem OutRight.algebraic : Cert.algebraic_OutRightIdeal_OutRightRefIdeal := by
  intro m g m' g' _ same
  refine ⟨fun c => want (argA m c) (argB m c), ?_, ?_⟩
  · exact (θ_run Cert.OutRightIdeal.defs _ _).mono (fun r h c => ⟨(h c).1.trans (final m c), (h c).2⟩)
      (Cert.OutRightIdeal.Value.run_blocks m g)
  · refine (θ_run Cert.OutRightRefIdeal.defs _ _).mono (fun r h c => ?_) (Cert.OutRightRefIdeal.Value.run (F := Ideal) m' g')
    obtain ⟨e0, e1⟩ := same c
    exact ⟨(h c).1.trans (by rw [Cert.OutRightRefIdeal.Read.val_main_v4_eq, e0, e1]), (h c).2⟩

end

/-! ### OddLeft -/

theorem OddLeft.frame_p : Cert.quiescent_OddLeft := fun m ρ _ => Cert.OddLeft.Gen.frame m ρ

theorem OddLeft.frame_pi : Cert.quiescent_OddLeftIdeal := fun m ρ _ => Cert.OddLeftIdeal.Gen.frame m ρ

theorem OddLeft.frame_ri : Cert.quiescent_OddLeftRefIdeal := fun m ρ _ =>
  (θ_run Cert.OddLeftRefIdeal.defs _ _).mono (fun r h => ⟨fun c => (h c).2, sem_eq_zero_of_no_sems (by decide) r.2⟩)
    (Cert.OddLeftRefIdeal.Value.run (F := Ideal) m ρ)

section
open Cert.OddLeftIdeal.Product

theorem OddLeft.algebraic : Cert.algebraic_OddLeftIdeal_OddLeftRefIdeal := by
  intro m g m' g' _ same
  refine ⟨fun c => want (argA m c) (argB m c), ?_, ?_⟩
  · exact (θ_run Cert.OddLeftIdeal.defs _ _).mono (fun r h c => ⟨(h c).1.trans (final m c), (h c).2⟩)
      (Cert.OddLeftIdeal.Value.run_blocks m g)
  · refine (θ_run Cert.OddLeftRefIdeal.defs _ _).mono (fun r h c => ?_) (Cert.OddLeftRefIdeal.Value.run (F := Ideal) m' g')
    obtain ⟨e0, e1⟩ := same c
    exact ⟨(h c).1.trans (by rw [Cert.OddLeftRefIdeal.Read.val_main_v3_eq, e0, e1]), (h c).2⟩

end

/-! ### OddIn -/

theorem OddIn.frame_p : Cert.quiescent_OddIn := fun m ρ _ => Cert.OddIn.Gen.frame m ρ

theorem OddIn.frame_pi : Cert.quiescent_OddInIdeal := fun m ρ _ => Cert.OddInIdeal.Gen.frame m ρ

theorem OddIn.frame_ri : Cert.quiescent_OddInRefIdeal := fun m ρ _ =>
  (θ_run Cert.OddInRefIdeal.defs _ _).mono (fun r h => ⟨fun c => (h c).2.2, sem_eq_zero_of_no_sems (by decide) r.2⟩)
    (Cert.OddInRefIdeal.Value.run (F := Ideal) m ρ)

section
open Cert.OddInIdeal.Product

theorem OddIn.algebraic : Cert.algebraic_OddInIdeal_OddInRefIdeal := by
  intro m g m' g' _ same
  refine ⟨fun c => wantZ (argA m c) (argB m c), fun c => wantU (argA m c) (argB m c), ?_, ?_⟩
  · exact (θ_run Cert.OddInIdeal.defs _ _).mono (fun r h c => ⟨(h c).1.trans (final_z m c), (h c).2.1.trans (final_u m c), (h c).2.2⟩)
      (Cert.OddInIdeal.Value.run_blocks m g)
  · refine (θ_run Cert.OddInRefIdeal.defs _ _).mono (fun r h c => ?_) (Cert.OddInRefIdeal.Value.run (F := Ideal) m' g')
    obtain ⟨e0, e1⟩ := same c
    exact ⟨(h c).1.trans (by rw [Cert.OddInRefIdeal.Read.val_main_v4_eq, e0, e1]),
      (h c).2.1.trans (by rw [Cert.OddInRefIdeal.Read.val_main_v11_eq, e0, e1]), (h c).2.2⟩

end

/-! ### OddRight -/

theorem OddRight.frame_p : Cert.quiescent_OddRight := fun m ρ _ => Cert.OddRight.Gen.frame m ρ

theorem OddRight.frame_pi : Cert.quiescent_OddRightIdeal := fun m ρ _ => Cert.OddRightIdeal.Gen.frame m ρ

theorem OddRight.frame_ri : Cert.quiescent_OddRightRefIdeal := fun m ρ _ =>
  (θ_run Cert.OddRightRefIdeal.defs _ _).mono (fun r h => ⟨fun c => (h c).2, sem_eq_zero_of_no_sems (by decide) r.2⟩)
    (Cert.OddRightRefIdeal.Value.run (F := Ideal) m ρ)

section
open Cert.OddRightIdeal.Product

theorem OddRight.algebraic : Cert.algebraic_OddRightIdeal_OddRightRefIdeal := by
  intro m g m' g' _ same
  refine ⟨fun c => want (argA m c) (argB m c), ?_, ?_⟩
  · exact (θ_run Cert.OddRightIdeal.defs _ _).mono (fun r h c => ⟨(h c).1.trans (final m c), (h c).2⟩)
      (Cert.OddRightIdeal.Value.run_blocks m g)
  · refine (θ_run Cert.OddRightRefIdeal.defs _ _).mono (fun r h c => ?_) (Cert.OddRightRefIdeal.Value.run (F := Ideal) m' g')
    obtain ⟨e0, e1⟩ := same c
    exact ⟨(h c).1.trans (by rw [Cert.OddRightRefIdeal.Read.val_main_v6_eq, e0, e1]), (h c).2⟩

end

/-! ### EvenLeft -/

theorem EvenLeft.frame_p : Cert.quiescent_EvenLeft := fun m ρ _ => Cert.EvenLeft.Gen.frame m ρ

theorem EvenLeft.frame_pi : Cert.quiescent_EvenLeftIdeal := fun m ρ _ => Cert.EvenLeftIdeal.Gen.frame m ρ

theorem EvenLeft.frame_ri : Cert.quiescent_EvenLeftRefIdeal := fun m ρ _ =>
  (θ_run Cert.EvenLeftRefIdeal.defs _ _).mono (fun r h => ⟨fun c => (h c).2, sem_eq_zero_of_no_sems (by decide) r.2⟩)
    (Cert.EvenLeftRefIdeal.Value.run (F := Ideal) m ρ)

section
open Cert.EvenLeftIdeal.Product

theorem EvenLeft.algebraic : Cert.algebraic_EvenLeftIdeal_EvenLeftRefIdeal := by
  intro m g m' g' _ same
  refine ⟨fun c => want (argA m c) (argB m c), ?_, ?_⟩
  · exact (θ_run Cert.EvenLeftIdeal.defs _ _).mono (fun r h c => ⟨(h c).1.trans (final m c), (h c).2⟩)
      (Cert.EvenLeftIdeal.Value.run_blocks m g)
  · refine (θ_run Cert.EvenLeftRefIdeal.defs _ _).mono (fun r h c => ?_) (Cert.EvenLeftRefIdeal.Value.run (F := Ideal) m' g')
    obtain ⟨e0, e1⟩ := same c
    exact ⟨(h c).1.trans (by rw [Cert.EvenLeftRefIdeal.Read.val_main_v3_eq, e0, e1]), (h c).2⟩

end

/-! ### EvenRight -/

theorem EvenRight.frame_p : Cert.quiescent_EvenRight := fun m ρ _ => Cert.EvenRight.Gen.frame m ρ

theorem EvenRight.frame_pi : Cert.quiescent_EvenRightIdeal := fun m ρ _ => Cert.EvenRightIdeal.Gen.frame m ρ

theorem EvenRight.frame_ri : Cert.quiescent_EvenRightRefIdeal := fun m ρ _ =>
  (θ_run Cert.EvenRightRefIdeal.defs _ _).mono (fun r h => ⟨fun c => (h c).2, sem_eq_zero_of_no_sems (by decide) r.2⟩)
    (Cert.EvenRightRefIdeal.Value.run (F := Ideal) m ρ)

section
open Cert.EvenRightIdeal.Product

theorem EvenRight.algebraic : Cert.algebraic_EvenRightIdeal_EvenRightRefIdeal := by
  intro m g m' g' _ same
  refine ⟨fun c => want (argA m c) (argB m c), ?_, ?_⟩
  · exact (θ_run Cert.EvenRightIdeal.defs _ _).mono (fun r h c => ⟨(h c).1.trans (final m c), (h c).2⟩)
      (Cert.EvenRightIdeal.Value.run_blocks m g)
  · refine (θ_run Cert.EvenRightRefIdeal.defs _ _).mono (fun r h c => ?_) (Cert.EvenRightRefIdeal.Value.run (F := Ideal) m' g')
    obtain ⟨e0, e1⟩ := same c
    exact ⟨(h c).1.trans (by rw [Cert.EvenRightRefIdeal.Read.val_main_v13_eq, e0, e1]), (h c).2⟩

end

/-! ### OutProduct -/

theorem OutProduct.frame_p : Cert.quiescent_OutProduct := fun m ρ _ => Cert.OutProduct.Gen.frame m ρ

theorem OutProduct.frame_pi : Cert.quiescent_OutProductIdeal := fun m ρ _ => Cert.OutProductIdeal.Gen.frame m ρ

theorem OutProduct.frame_ri : Cert.quiescent_OutProductRefIdeal := fun m ρ _ =>
  (θ_run Cert.OutProductRefIdeal.defs _ _).mono (fun r h => ⟨fun c => (h c).2, sem_eq_zero_of_no_sems (by decide) r.2⟩)
    (Cert.OutProductRefIdeal.Value.run (F := Ideal) m ρ)

section
open Cert.OutProductIdeal.Product

theorem OutProduct.algebraic : Cert.algebraic_OutProductIdeal_OutProductRefIdeal := by
  intro m g m' g' _ same
  refine ⟨fun c => want (argA m c) (argB m c), ?_, ?_⟩
  · exact (θ_run Cert.OutProductIdeal.defs _ _).mono (fun r h c => ⟨(h c).1.trans (final m c), (h c).2⟩)
      (Cert.OutProductIdeal.Value.run_blocks m g)
  · refine (θ_run Cert.OutProductRefIdeal.defs _ _).mono (fun r h c => ?_) (Cert.OutProductRefIdeal.Value.run (F := Ideal) m' g')
    obtain ⟨e0, e1⟩ := same c
    exact ⟨(h c).1.trans (by rw [Cert.OutProductRefIdeal.Read.val_main_v1_eq, e0, e1]), (h c).2⟩

end

/-! ### EvenIn -/

theorem EvenIn.frame_p : Cert.quiescent_EvenIn := fun m ρ _ => Cert.EvenIn.Gen.frame m ρ

theorem EvenIn.frame_pi : Cert.quiescent_EvenInIdeal := fun m ρ _ => Cert.EvenInIdeal.Gen.frame m ρ

theorem EvenIn.frame_ri : Cert.quiescent_EvenInRefIdeal := fun m ρ _ =>
  (θ_run Cert.EvenInRefIdeal.defs _ _).mono (fun r h => ⟨fun c => (h c).2.2.2.2, sem_eq_zero_of_no_sems (by decide) r.2⟩)
    (Cert.EvenInRefIdeal.Value.run (F := Ideal) m ρ)

section
open Cert.EvenInIdeal.Product

theorem EvenIn.algebraic : Cert.algebraic_EvenInIdeal_EvenInRefIdeal := by
  intro m g m' g' _ same
  refine ⟨fun c => wantZ (argA m c) (argB m c), fun c => wantU (argA m c) (argB m c), fun c => wantQ (argA m c) (argB m c) (argC m c), fun c => wantK (argA m c) (argB m c) (argD m c), ?_, ?_⟩
  · exact (θ_run Cert.EvenInIdeal.defs _ _).mono (fun r h c => ⟨(h c).1.trans (final_z m c), (h c).2.1.trans (final_u m c), (h c).2.2.1.trans (final_q m c), (h c).2.2.2.1.trans (final_k m c), (h c).2.2.2.2⟩)
      (Cert.EvenInIdeal.Value.run_blocks m g)
  · refine (θ_run Cert.EvenInRefIdeal.defs _ _).mono (fun r h c => ?_) (Cert.EvenInRefIdeal.Value.run (F := Ideal) m' g')
    obtain ⟨e0, e1, e2, e3⟩ := same c
    exact ⟨(h c).1.trans (by rw [Cert.EvenInRefIdeal.Read.val_main_v17_eq, e0, e1]),
      (h c).2.1.trans (by rw [Cert.EvenInRefIdeal.Read.val_main_v18_eq, e0, e1]),
      (h c).2.2.1.trans (by rw [Cert.EvenInRefIdeal.Read.val_main_v32_eq, e0, e1, e2]),
      (h c).2.2.2.1.trans (by rw [Cert.EvenInRefIdeal.Read.val_main_v46_eq, e0, e1, e3]), (h c).2.2.2.2⟩

end

/-! ### Forward -/

theorem Forward.frame_p : Cert.quiescent_Forward := fun m ρ _ => Cert.Forward.Gen.frame m ρ

theorem Forward.frame_pi : Cert.quiescent_ForwardIdeal := fun m ρ _ => Cert.ForwardIdeal.Gen.frame m ρ

theorem Forward.frame_ri : Cert.quiescent_ForwardRefIdeal := fun m ρ _ =>
  (θ_run Cert.ForwardRefIdeal.defs _ _).mono (fun r h => ⟨fun c => (h c).2.2, sem_eq_zero_of_no_sems (by decide) r.2⟩)
    (Cert.ForwardRefIdeal.Value.run (F := Ideal) m ρ)

theorem Forward.preserves : Cert.preserves_Forward_ForwardIdeal :=
  ⟨IdealRules.named_const.statement Cert.ForwardIdeal.κ "neg" .f32 0xF149F2CA#32 ⊥ rfl,
    IdealRules.named_const.statement Cert.ForwardIdeal.κ "log2e" .f32 0x3FB8AA3B#32 (((Real.log 2)⁻¹ : ℝ) : EReal) rfl⟩

theorem Forward.frame_pi_finite : Cert.quiescent_ForwardIdeal_pre_finite11 (hPre_finite11 := Cert.ForwardIdeal.Attn.finite_facts) := fun m ρ _ =>
  Cert.ForwardIdeal.Gen.frame m ρ

theorem Forward.frame_ri_finite : Cert.quiescent_ForwardRefIdeal_pre_finite11 (hPre_finite11 := Cert.ForwardIdeal.Attn.finite_facts) := fun m ρ _ =>
  Forward.frame_ri m ρ trivial

section
open Cert.AttnGrad (Inputs Holds realsOf)
open Cert.ForwardIdeal.Attn (absent valuesOf attnPacked massPacked final_out final_lse ref_attn ref_masses)

/-- The reals a device's queries and keys hold. -/
def Forward.inputs (m : (ℓ : Loc Cert.ForwardIdeal.nD Cert.ForwardIdeal.τ Cert.ForwardIdeal.sig) → Buf (Elt Ideal) ℓ)
    (c : Dev Cert.ForwardIdeal.nD) : Inputs :=
  realsOf (Cert.ForwardIdeal.Attn.argQ m c) (Cert.ForwardIdeal.Attn.argK m c) absent absent

/-- On finite queries and keys, and any values, the forward call and its reference both leave the attention's rows and the masses' logarithms. -/
theorem Forward.algebraic : Cert.algebraic_ForwardIdeal_ForwardRefIdeal_pre_finite11 (hPre_finite11 := Cert.ForwardIdeal.Attn.finite_facts) := by
  intro m g m' g' pre same
  have H (c : Dev Cert.ForwardIdeal.nD) : Holds (Forward.inputs m c) (Cert.ForwardIdeal.Attn.argQ m c) (Cert.ForwardIdeal.Attn.argK m c)
      absent absent :=
    letI := Cert.ForwardIdeal.Attn.finite_facts
    Cert.ForwardIdeal.Attn.holds_of_finite _ _ _ (pre c)
  refine ⟨fun c => attnPacked (Forward.inputs m c) (valuesOf (Cert.ForwardIdeal.Attn.argV m c)), fun c => massPacked (Forward.inputs m c), ?_, ?_⟩
  · exact (θ_run Cert.ForwardIdeal.defs _ _).mono (fun r h c => ⟨(h c).1.trans (final_out m c (H c)), (h c).2.1.trans (final_lse m c (H c)), (h c).2.2⟩)
      (Cert.ForwardIdeal.Value.run_blocks m g)
  · refine (θ_run Cert.ForwardRefIdeal.defs _ _).mono (fun r h c => ?_) (Cert.ForwardRefIdeal.Value.run (F := Ideal) m' g')
    obtain ⟨e0, e1, e2⟩ := same c
    obtain ⟨h0, h1, h2⟩ := h c
    refine ⟨h0.trans ?_, h1.trans ?_, h2⟩
    · rw [Cert.ForwardRefIdeal.Read.val_main_v47_eq, e0, e1, e2]
      exact ref_attn (H c) _
    · rw [Cert.ForwardRefIdeal.Read.val_main_v48_eq, e0, e1]
      exact ref_masses (H c)

end

/-! ### StepShared -/

theorem StepShared.frame_p : Cert.quiescent_StepShared := fun m ρ _ => Cert.StepShared.Gen.frame m ρ

theorem StepShared.frame_pi : Cert.quiescent_StepSharedIdeal := fun m ρ _ => Cert.StepSharedIdeal.Gen.frame m ρ

theorem StepShared.frame_ri : Cert.quiescent_StepSharedRefIdeal := fun m ρ _ =>
  (θ_run Cert.StepSharedRefIdeal.defs _ _).mono (fun r h => ⟨fun c => (h c).2.2.2.2, sem_eq_zero_of_no_sems (by decide) r.2⟩)
    (Cert.StepSharedRefIdeal.Value.run (F := Ideal) m ρ)

section
open Cert.StepSharedIdeal.Step

/-- The shared small weights' step: the summed gradient, the change and the two moments, launched and as the reference says. -/
theorem StepShared.algebraic : Cert.algebraic_StepSharedIdeal_StepSharedRefIdeal := by
  intro m g m' g' _ same
  refine ⟨fun c => Cert.StepSharedRefIdeal.Read.val_main_v0 (F := Ideal) (m ((c.tc : Thread Cert.StepSharedIdeal.nD Cert.StepSharedIdeal.τ).loc Cert.StepSharedIdeal.main_arg0)),
      fun c => Cert.StepSharedRefIdeal.Read.val_main_v24 (F := Ideal) (m ((c.tc : Thread Cert.StepSharedIdeal.nD Cert.StepSharedIdeal.τ).loc Cert.StepSharedIdeal.main_arg0)) (m ((c.tc : Thread Cert.StepSharedIdeal.nD Cert.StepSharedIdeal.τ).loc Cert.StepSharedIdeal.main_arg1)) (m ((c.tc : Thread Cert.StepSharedIdeal.nD Cert.StepSharedIdeal.τ).loc Cert.StepSharedIdeal.main_arg2)) (m ((c.tc : Thread Cert.StepSharedIdeal.nD Cert.StepSharedIdeal.τ).loc Cert.StepSharedIdeal.main_arg3)),
      fun c => Cert.StepSharedRefIdeal.Read.val_main_v5 (F := Ideal) (m ((c.tc : Thread Cert.StepSharedIdeal.nD Cert.StepSharedIdeal.τ).loc Cert.StepSharedIdeal.main_arg0)) (m ((c.tc : Thread Cert.StepSharedIdeal.nD Cert.StepSharedIdeal.τ).loc Cert.StepSharedIdeal.main_arg2)),
      fun c => Cert.StepSharedRefIdeal.Read.val_main_v11 (F := Ideal) (m ((c.tc : Thread Cert.StepSharedIdeal.nD Cert.StepSharedIdeal.τ).loc Cert.StepSharedIdeal.main_arg0)) (m ((c.tc : Thread Cert.StepSharedIdeal.nD Cert.StepSharedIdeal.τ).loc Cert.StepSharedIdeal.main_arg3)), ?_, ?_⟩
  · exact (θ_run Cert.StepSharedIdeal.defs _ _).mono (fun r h c => ⟨(h c).1.trans (grad _ _ _ _), (h c).2.1.trans (delta _ _ _ _), (h c).2.2.1.trans (mean _ _ _ _), (h c).2.2.2.1.trans (square _ _ _ _), (h c).2.2.2.2⟩)
      (Cert.StepSharedIdeal.Value.run m g)
  · refine (θ_run Cert.StepSharedRefIdeal.defs _ _).mono (fun r h c => ?_) (Cert.StepSharedRefIdeal.Value.run (F := Ideal) m' g')
    obtain ⟨e0, e1, e2, e3⟩ := same c
    exact ⟨(h c).1.trans (by rw [Cert.StepSharedRefIdeal.Read.val_main_v0_eq, e0]),
      (h c).2.1.trans (by rw [Cert.StepSharedRefIdeal.Read.val_main_v24_eq, e0, e1, e2, e3]),
      (h c).2.2.1.trans (by rw [Cert.StepSharedRefIdeal.Read.val_main_v5_eq, e0, e2]),
      (h c).2.2.2.1.trans (by rw [Cert.StepSharedRefIdeal.Read.val_main_v11_eq, e0, e3]), (h c).2.2.2.2⟩

end

/-! ### StepAda -/

theorem StepAda.frame_p : Cert.quiescent_StepAda := fun m ρ _ => Cert.StepAda.Gen.frame m ρ

theorem StepAda.frame_pi : Cert.quiescent_StepAdaIdeal := fun m ρ _ => Cert.StepAdaIdeal.Gen.frame m ρ

theorem StepAda.frame_ri : Cert.quiescent_StepAdaRefIdeal := fun m ρ _ =>
  (θ_run Cert.StepAdaRefIdeal.defs _ _).mono (fun r h => ⟨fun c => (h c).2.2.2.2, sem_eq_zero_of_no_sems (by decide) r.2⟩)
    (Cert.StepAdaRefIdeal.Value.run (F := Ideal) m ρ)

section
open Cert.StepAdaIdeal.Step

/-- The modulation weight's step. -/
theorem StepAda.algebraic : Cert.algebraic_StepAdaIdeal_StepAdaRefIdeal := by
  intro m g m' g' _ same
  refine ⟨fun c => Cert.StepAdaRefIdeal.Read.val_main_v0 (F := Ideal) (m ((c.tc : Thread Cert.StepAdaIdeal.nD Cert.StepAdaIdeal.τ).loc Cert.StepAdaIdeal.main_arg0)),
      fun c => Cert.StepAdaRefIdeal.Read.val_main_v24 (F := Ideal) (m ((c.tc : Thread Cert.StepAdaIdeal.nD Cert.StepAdaIdeal.τ).loc Cert.StepAdaIdeal.main_arg0)) (m ((c.tc : Thread Cert.StepAdaIdeal.nD Cert.StepAdaIdeal.τ).loc Cert.StepAdaIdeal.main_arg1)) (m ((c.tc : Thread Cert.StepAdaIdeal.nD Cert.StepAdaIdeal.τ).loc Cert.StepAdaIdeal.main_arg2)) (m ((c.tc : Thread Cert.StepAdaIdeal.nD Cert.StepAdaIdeal.τ).loc Cert.StepAdaIdeal.main_arg3)),
      fun c => Cert.StepAdaRefIdeal.Read.val_main_v5 (F := Ideal) (m ((c.tc : Thread Cert.StepAdaIdeal.nD Cert.StepAdaIdeal.τ).loc Cert.StepAdaIdeal.main_arg0)) (m ((c.tc : Thread Cert.StepAdaIdeal.nD Cert.StepAdaIdeal.τ).loc Cert.StepAdaIdeal.main_arg2)),
      fun c => Cert.StepAdaRefIdeal.Read.val_main_v11 (F := Ideal) (m ((c.tc : Thread Cert.StepAdaIdeal.nD Cert.StepAdaIdeal.τ).loc Cert.StepAdaIdeal.main_arg0)) (m ((c.tc : Thread Cert.StepAdaIdeal.nD Cert.StepAdaIdeal.τ).loc Cert.StepAdaIdeal.main_arg3)), ?_, ?_⟩
  · exact (θ_run Cert.StepAdaIdeal.defs _ _).mono (fun r h c => ⟨(h c).1.trans (grad m c), (h c).2.1.trans (delta m c), (h c).2.2.1.trans (mean m c), (h c).2.2.2.1.trans (square m c), (h c).2.2.2.2⟩)
      (Cert.StepAdaIdeal.Value.run_blocks m g)
  · refine (θ_run Cert.StepAdaRefIdeal.defs _ _).mono (fun r h c => ?_) (Cert.StepAdaRefIdeal.Value.run (F := Ideal) m' g')
    obtain ⟨e0, e1, e2, e3⟩ := same c
    exact ⟨(h c).1.trans (by rw [Cert.StepAdaRefIdeal.Read.val_main_v0_eq, e0]),
      (h c).2.1.trans (by rw [Cert.StepAdaRefIdeal.Read.val_main_v24_eq, e0, e1, e2, e3]),
      (h c).2.2.1.trans (by rw [Cert.StepAdaRefIdeal.Read.val_main_v5_eq, e0, e2]),
      (h c).2.2.2.1.trans (by rw [Cert.StepAdaRefIdeal.Read.val_main_v11_eq, e0, e3]), (h c).2.2.2.2⟩

end

/-! ### StepSmall -/

theorem StepSmall.frame_p : Cert.quiescent_StepSmall := fun m ρ _ => Cert.StepSmall.Gen.frame m ρ

theorem StepSmall.frame_pi : Cert.quiescent_StepSmallIdeal := fun m ρ _ => Cert.StepSmallIdeal.Gen.frame m ρ

theorem StepSmall.frame_ri : Cert.quiescent_StepSmallRefIdeal := fun m ρ _ =>
  (θ_run Cert.StepSmallRefIdeal.defs _ _).mono (fun r h => ⟨fun c => (h c).2.2.2.2, sem_eq_zero_of_no_sems (by decide) r.2⟩)
    (Cert.StepSmallRefIdeal.Value.run (F := Ideal) m ρ)

section
open Cert.StepSmallIdeal.Step

/-- The step of the small weights kept in parts. -/
theorem StepSmall.algebraic : Cert.algebraic_StepSmallIdeal_StepSmallRefIdeal := by
  intro m g m' g' _ same
  refine ⟨fun c => Cert.StepSmallRefIdeal.Read.val_main_v3 (F := Ideal) (m ((c.tc : Thread Cert.StepSmallIdeal.nD Cert.StepSmallIdeal.τ).loc Cert.StepSmallIdeal.main_arg0)) (m ((c.tc : Thread Cert.StepSmallIdeal.nD Cert.StepSmallIdeal.τ).loc Cert.StepSmallIdeal.main_arg1)),
      fun c => Cert.StepSmallRefIdeal.Read.val_main_v27 (F := Ideal) (m ((c.tc : Thread Cert.StepSmallIdeal.nD Cert.StepSmallIdeal.τ).loc Cert.StepSmallIdeal.main_arg0)) (m ((c.tc : Thread Cert.StepSmallIdeal.nD Cert.StepSmallIdeal.τ).loc Cert.StepSmallIdeal.main_arg1)) (m ((c.tc : Thread Cert.StepSmallIdeal.nD Cert.StepSmallIdeal.τ).loc Cert.StepSmallIdeal.main_arg2)) (m ((c.tc : Thread Cert.StepSmallIdeal.nD Cert.StepSmallIdeal.τ).loc Cert.StepSmallIdeal.main_arg3)) (m ((c.tc : Thread Cert.StepSmallIdeal.nD Cert.StepSmallIdeal.τ).loc Cert.StepSmallIdeal.main_arg4)),
      fun c => Cert.StepSmallRefIdeal.Read.val_main_v8 (F := Ideal) (m ((c.tc : Thread Cert.StepSmallIdeal.nD Cert.StepSmallIdeal.τ).loc Cert.StepSmallIdeal.main_arg0)) (m ((c.tc : Thread Cert.StepSmallIdeal.nD Cert.StepSmallIdeal.τ).loc Cert.StepSmallIdeal.main_arg1)) (m ((c.tc : Thread Cert.StepSmallIdeal.nD Cert.StepSmallIdeal.τ).loc Cert.StepSmallIdeal.main_arg3)),
      fun c => Cert.StepSmallRefIdeal.Read.val_main_v14 (F := Ideal) (m ((c.tc : Thread Cert.StepSmallIdeal.nD Cert.StepSmallIdeal.τ).loc Cert.StepSmallIdeal.main_arg0)) (m ((c.tc : Thread Cert.StepSmallIdeal.nD Cert.StepSmallIdeal.τ).loc Cert.StepSmallIdeal.main_arg1)) (m ((c.tc : Thread Cert.StepSmallIdeal.nD Cert.StepSmallIdeal.τ).loc Cert.StepSmallIdeal.main_arg4)), ?_, ?_⟩
  · exact (θ_run Cert.StepSmallIdeal.defs _ _).mono (fun r h c => ⟨(h c).1.trans (grad _ _ _ _ _), (h c).2.1.trans (delta _ _ _ _ _), (h c).2.2.1.trans (mean _ _ _ _ _), (h c).2.2.2.1.trans (square _ _ _ _ _), (h c).2.2.2.2⟩)
      (Cert.StepSmallIdeal.Value.run m g)
  · refine (θ_run Cert.StepSmallRefIdeal.defs _ _).mono (fun r h c => ?_) (Cert.StepSmallRefIdeal.Value.run (F := Ideal) m' g')
    obtain ⟨e0, e1, e2, e3, e4⟩ := same c
    exact ⟨(h c).1.trans (by rw [Cert.StepSmallRefIdeal.Read.val_main_v3_eq, e0, e1]),
      (h c).2.1.trans (by rw [Cert.StepSmallRefIdeal.Read.val_main_v27_eq, e0, e1, e2, e3, e4]),
      (h c).2.2.1.trans (by rw [Cert.StepSmallRefIdeal.Read.val_main_v8_eq, e0, e1, e3]),
      (h c).2.2.2.1.trans (by rw [Cert.StepSmallRefIdeal.Read.val_main_v14_eq, e0, e1, e4]), (h c).2.2.2.2⟩

end

/-! ### StepOut -/

theorem StepOut.frame_p : Cert.quiescent_StepOut := fun m ρ _ => Cert.StepOut.Gen.frame m ρ

theorem StepOut.frame_pi : Cert.quiescent_StepOutIdeal := fun m ρ _ => Cert.StepOutIdeal.Gen.frame m ρ

theorem StepOut.frame_ri : Cert.quiescent_StepOutRefIdeal := fun m ρ _ =>
  (θ_run Cert.StepOutRefIdeal.defs _ _).mono (fun r h => ⟨fun c => (h c).2.2.2.2, sem_eq_zero_of_no_sems (by decide) r.2⟩)
    (Cert.StepOutRefIdeal.Value.run (F := Ideal) m ρ)

section
open Cert.StepOutIdeal.Step

/-- The step of an outgoing weight's two layers, one launch after the other over the same four results. -/
theorem StepOut.algebraic : Cert.algebraic_StepOutIdeal_StepOutRefIdeal := by
  intro m g m' g' _ same
  refine ⟨want5 m, want6 m, want7 m, want8 m, ?_, ?_⟩
  · exact run m g
  · refine (θ_run Cert.StepOutRefIdeal.defs _ _).mono (fun r h c => ?_) (Cert.StepOutRefIdeal.Value.run (F := Ideal) m' g')
    obtain ⟨e0, e1, e2, e3, e4, e5, e6⟩ := same c
    exact ⟨(h c).1.trans (by rw [Cert.StepOutRefIdeal.Read.val_main_v12_eq, e0, e1, e2, e3]),
      (h c).2.1.trans (by rw [Cert.StepOutRefIdeal.Read.val_main_v36_eq, e0, e1, e2, e3, e4, e5, e6]),
      (h c).2.2.1.trans (by rw [Cert.StepOutRefIdeal.Read.val_main_v17_eq, e0, e1, e2, e3, e5]),
      (h c).2.2.2.1.trans (by rw [Cert.StepOutRefIdeal.Read.val_main_v23_eq, e0, e1, e2, e3, e6]), (h c).2.2.2.2⟩

end

/-! ### StepEvenIn -/

theorem StepEvenIn.frame_p : Cert.quiescent_StepEvenIn := fun m ρ _ => Cert.StepEvenIn.Gen.frame m ρ

theorem StepEvenIn.frame_pi : Cert.quiescent_StepEvenInIdeal := fun m ρ _ => Cert.StepEvenInIdeal.Gen.frame m ρ

theorem StepEvenIn.frame_ri : Cert.quiescent_StepEvenInRefIdeal := fun m ρ _ =>
  (θ_run Cert.StepEvenInRefIdeal.defs _ _).mono (fun r h => ⟨fun c => (h c).2.2.2.2, sem_eq_zero_of_no_sems (by decide) r.2⟩)
    (Cert.StepEvenInRefIdeal.Value.run (F := Ideal) m ρ)

section
open Cert.StepEvenInIdeal.Step

/-- The step of the even layers' input weight, in the transposed slab. -/
theorem StepEvenIn.algebraic : Cert.algebraic_StepEvenInIdeal_StepEvenInRefIdeal := by
  intro m g m' g' _ same
  refine ⟨want5 m, want6 m, want7 m, want8 m, ?_, ?_⟩
  · exact run m g
  · refine (θ_run Cert.StepEvenInRefIdeal.defs _ _).mono (fun r h c => ?_) (Cert.StepEvenInRefIdeal.Value.run (F := Ideal) m' g')
    obtain ⟨e0, e1, e2, e3, e4, e5, e6⟩ := same c
    exact ⟨(h c).1.trans (by rw [Cert.StepEvenInRefIdeal.Read.val_main_v12_eq, e0, e1, e2, e3]),
      (h c).2.1.trans (by rw [Cert.StepEvenInRefIdeal.Read.val_main_v36_eq, e0, e1, e2, e3, e4, e5, e6]),
      (h c).2.2.1.trans (by rw [Cert.StepEvenInRefIdeal.Read.val_main_v17_eq, e0, e1, e2, e3, e5]),
      (h c).2.2.2.1.trans (by rw [Cert.StepEvenInRefIdeal.Read.val_main_v23_eq, e0, e1, e2, e3, e6]), (h c).2.2.2.2⟩

end

/-! ### StepOddIn -/

theorem StepOddIn.frame_p : Cert.quiescent_StepOddIn := fun m ρ _ => Cert.StepOddIn.Gen.frame m ρ

theorem StepOddIn.frame_pi : Cert.quiescent_StepOddInIdeal := fun m ρ _ => Cert.StepOddInIdeal.Gen.frame m ρ

theorem StepOddIn.frame_ri : Cert.quiescent_StepOddInRefIdeal := fun m ρ _ =>
  (θ_run Cert.StepOddInRefIdeal.defs _ _).mono (fun r h => ⟨fun c => (h c).2.2.2.2, sem_eq_zero_of_no_sems (by decide) r.2⟩)
    (Cert.StepOddInRefIdeal.Value.run (F := Ideal) m ρ)

section
open Cert.StepOddInIdeal.Step

/-- The step of the odd layers' input weight. -/
theorem StepOddIn.algebraic : Cert.algebraic_StepOddInIdeal_StepOddInRefIdeal := by
  intro m g m' g' _ same
  refine ⟨want5 m, want6 m, want7 m, want8 m, ?_, ?_⟩
  · exact run m g
  · refine (θ_run Cert.StepOddInRefIdeal.defs _ _).mono (fun r h c => ?_) (Cert.StepOddInRefIdeal.Value.run (F := Ideal) m' g')
    obtain ⟨e0, e1, e2, e3, e4, e5, e6⟩ := same c
    exact ⟨(h c).1.trans (by rw [Cert.StepOddInRefIdeal.Read.val_main_v12_eq, e0, e1, e2, e3]),
      (h c).2.1.trans (by rw [Cert.StepOddInRefIdeal.Read.val_main_v36_eq, e0, e1, e2, e3, e4, e5, e6]),
      (h c).2.2.1.trans (by rw [Cert.StepOddInRefIdeal.Read.val_main_v17_eq, e0, e1, e2, e3, e5]),
      (h c).2.2.2.1.trans (by rw [Cert.StepOddInRefIdeal.Read.val_main_v23_eq, e0, e1, e2, e3, e6]), (h c).2.2.2.2⟩

end

/-! ### StepQueries -/

theorem StepQueries.frame_p : Cert.quiescent_StepQueries := fun m ρ _ => Cert.StepQueries.Gen.frame m ρ

theorem StepQueries.frame_pi : Cert.quiescent_StepQueriesIdeal := fun m ρ _ => Cert.StepQueriesIdeal.Gen.frame m ρ

theorem StepQueries.frame_ri : Cert.quiescent_StepQueriesRefIdeal := fun m ρ _ =>
  (θ_run Cert.StepQueriesRefIdeal.defs _ _).mono (fun r h => ⟨fun c => (h c).2.2.2.2, sem_eq_zero_of_no_sems (by decide) r.2⟩)
    (Cert.StepQueriesRefIdeal.Value.run (F := Ideal) m ρ)

section
open Cert.StepQueriesIdeal.Step

/-- The step of the even layers' weight of the queries' low-rank group. -/
theorem StepQueries.algebraic : Cert.algebraic_StepQueriesIdeal_StepQueriesRefIdeal := by
  intro m g m' g' _ same
  refine ⟨want5 m, want6 m, want7 m, want8 m, ?_, ?_⟩
  · exact run m g
  · refine (θ_run Cert.StepQueriesRefIdeal.defs _ _).mono (fun r h c => ?_) (Cert.StepQueriesRefIdeal.Value.run (F := Ideal) m' g')
    obtain ⟨e0, e1, e2, e3, e4, e5, e6⟩ := same c
    exact ⟨(h c).1.trans (by rw [Cert.StepQueriesRefIdeal.Read.val_main_v12_eq, e0, e1, e2, e3]),
      (h c).2.1.trans (by rw [Cert.StepQueriesRefIdeal.Read.val_main_v36_eq, e0, e1, e2, e3, e4, e5, e6]),
      (h c).2.2.1.trans (by rw [Cert.StepQueriesRefIdeal.Read.val_main_v17_eq, e0, e1, e2, e3, e5]),
      (h c).2.2.2.1.trans (by rw [Cert.StepQueriesRefIdeal.Read.val_main_v23_eq, e0, e1, e2, e3, e6]), (h c).2.2.2.2⟩

end

/-! ### StepKeys -/

theorem StepKeys.frame_p : Cert.quiescent_StepKeys := fun m ρ _ => Cert.StepKeys.Gen.frame m ρ

theorem StepKeys.frame_pi : Cert.quiescent_StepKeysIdeal := fun m ρ _ => Cert.StepKeysIdeal.Gen.frame m ρ

theorem StepKeys.frame_ri : Cert.quiescent_StepKeysRefIdeal := fun m ρ _ =>
  (θ_run Cert.StepKeysRefIdeal.defs _ _).mono (fun r h => ⟨fun c => (h c).2.2.2.2, sem_eq_zero_of_no_sems (by decide) r.2⟩)
    (Cert.StepKeysRefIdeal.Value.run (F := Ideal) m ρ)

section
open Cert.StepKeysIdeal.Step

/-- The step of the even layers' weight of the keys' and values' low-rank group. -/
theorem StepKeys.algebraic : Cert.algebraic_StepKeysIdeal_StepKeysRefIdeal := by
  intro m g m' g' _ same
  refine ⟨want5 m, want6 m, want7 m, want8 m, ?_, ?_⟩
  · exact run m g
  · refine (θ_run Cert.StepKeysRefIdeal.defs _ _).mono (fun r h c => ?_) (Cert.StepKeysRefIdeal.Value.run (F := Ideal) m' g')
    obtain ⟨e0, e1, e2, e3, e4, e5, e6⟩ := same c
    exact ⟨(h c).1.trans (by rw [Cert.StepKeysRefIdeal.Read.val_main_v12_eq, e0, e1, e2, e3]),
      (h c).2.1.trans (by rw [Cert.StepKeysRefIdeal.Read.val_main_v36_eq, e0, e1, e2, e3, e4, e5, e6]),
      (h c).2.2.1.trans (by rw [Cert.StepKeysRefIdeal.Read.val_main_v17_eq, e0, e1, e2, e3, e5]),
      (h c).2.2.2.1.trans (by rw [Cert.StepKeysRefIdeal.Read.val_main_v23_eq, e0, e1, e2, e3, e6]), (h c).2.2.2.2⟩

end

/-! ### AdaGrad -/

theorem AdaGrad.frame_p : Cert.quiescent_AdaGrad := fun m ρ _ => Cert.AdaGrad.Gen.frame m ρ

theorem AdaGrad.frame_pi : Cert.quiescent_AdaGradIdeal := fun m ρ _ => Cert.AdaGradIdeal.Gen.frame m ρ

theorem AdaGrad.frame_ri : Cert.quiescent_AdaGradRefIdeal := fun m ρ _ =>
  (θ_run Cert.AdaGradRefIdeal.defs _ _).mono (fun r h => ⟨fun c => (h c).2, sem_eq_zero_of_no_sems (by decide) r.2⟩)
    (Cert.AdaGradRefIdeal.Value.run (F := Ideal) m ρ)

section
open Cert.AdaGradIdeal.Product

theorem AdaGrad.algebraic : Cert.algebraic_AdaGradIdeal_AdaGradRefIdeal := by
  intro m g m' g' _ same
  refine ⟨fun c => want (argC m c) (argD m c), ?_, ?_⟩
  · exact run m g
  · refine (θ_run Cert.AdaGradRefIdeal.defs _ _).mono (fun r h c => ?_) (Cert.AdaGradRefIdeal.Value.run (F := Ideal) m' g')
    obtain ⟨e0, e1⟩ := same c
    exact ⟨(h c).1.trans (by rw [Cert.AdaGradRefIdeal.Read.val_main_v12_eq, e0, e1]), (h c).2⟩

end

theorem claim : Cert.Claim := ⟨Cert.Kernel.Gen.facts, Cert.KernelIdeal.Gen.facts, Cert.ReferenceIdeal.Gen.facts,
  Cert.Reference.Gen.facts,
  Cert.OutLeft.Gen.facts, Cert.OutLeftIdeal.Gen.facts, Cert.OutLeftRefIdeal.Gen.facts,
  Cert.OutRight.Gen.facts, Cert.OutRightIdeal.Gen.facts, Cert.OutRightRefIdeal.Gen.facts,
  Cert.OddLeft.Gen.facts, Cert.OddLeftIdeal.Gen.facts, Cert.OddLeftRefIdeal.Gen.facts,
  Cert.OddIn.Gen.facts, Cert.OddInIdeal.Gen.facts, Cert.OddInRefIdeal.Gen.facts,
  Cert.OddRight.Gen.facts, Cert.OddRightIdeal.Gen.facts, Cert.OddRightRefIdeal.Gen.facts,
  Cert.EvenLeft.Gen.facts, Cert.EvenLeftIdeal.Gen.facts, Cert.EvenLeftRefIdeal.Gen.facts,
  Cert.EvenRight.Gen.facts, Cert.EvenRightIdeal.Gen.facts, Cert.EvenRightRefIdeal.Gen.facts,
  Cert.OutProduct.Gen.facts, Cert.OutProductIdeal.Gen.facts, Cert.OutProductRefIdeal.Gen.facts,
  Cert.EvenIn.Gen.facts, Cert.EvenInIdeal.Gen.facts, Cert.EvenInRefIdeal.Gen.facts,
  Cert.Forward.Gen.facts, Cert.ForwardIdeal.Gen.facts, Cert.ForwardRefIdeal.Gen.facts,
  Cert.StepShared.Gen.facts, Cert.StepSharedIdeal.Gen.facts, Cert.StepSharedRefIdeal.Gen.facts,
  Cert.StepAda.Gen.facts, Cert.StepAdaIdeal.Gen.facts, Cert.StepAdaRefIdeal.Gen.facts,
  Cert.StepSmall.Gen.facts, Cert.StepSmallIdeal.Gen.facts, Cert.StepSmallRefIdeal.Gen.facts,
  Cert.StepOut.Gen.facts, Cert.StepOutIdeal.Gen.facts, Cert.StepOutRefIdeal.Gen.facts,
  Cert.StepEvenIn.Gen.facts, Cert.StepEvenInIdeal.Gen.facts, Cert.StepEvenInRefIdeal.Gen.facts,
  Cert.StepOddIn.Gen.facts, Cert.StepOddInIdeal.Gen.facts, Cert.StepOddInRefIdeal.Gen.facts,
  Cert.StepQueries.Gen.facts, Cert.StepQueriesIdeal.Gen.facts, Cert.StepQueriesRefIdeal.Gen.facts,
  Cert.StepKeys.Gen.facts, Cert.StepKeysIdeal.Gen.facts, Cert.StepKeysRefIdeal.Gen.facts,
  Cert.AdaGrad.Gen.facts, Cert.AdaGradIdeal.Gen.facts, Cert.AdaGradRefIdeal.Gen.facts, Cert.AttnGrad.finite_facts, Cert.ForwardIdeal.Attn.finite_facts,
  frame_p, frame_pi, frame_pi_finite, frame_ri, frame_ri_finite, frame_r,
  OutLeft.frame_p, OutLeft.frame_pi, OutLeft.frame_ri,
  OutRight.frame_p, OutRight.frame_pi, OutRight.frame_ri,
  OddLeft.frame_p, OddLeft.frame_pi, OddLeft.frame_ri,
  OddIn.frame_p, OddIn.frame_pi, OddIn.frame_ri,
  OddRight.frame_p, OddRight.frame_pi, OddRight.frame_ri,
  EvenLeft.frame_p, EvenLeft.frame_pi, EvenLeft.frame_ri,
  EvenRight.frame_p, EvenRight.frame_pi, EvenRight.frame_ri,
  OutProduct.frame_p, OutProduct.frame_pi, OutProduct.frame_ri,
  EvenIn.frame_p, EvenIn.frame_pi, EvenIn.frame_ri,
  Forward.frame_p, Forward.frame_pi, Forward.frame_pi_finite, Forward.frame_ri, Forward.frame_ri_finite,
  StepShared.frame_p, StepShared.frame_pi, StepShared.frame_ri,
  StepAda.frame_p, StepAda.frame_pi, StepAda.frame_ri,
  StepSmall.frame_p, StepSmall.frame_pi, StepSmall.frame_ri,
  StepOut.frame_p, StepOut.frame_pi, StepOut.frame_ri,
  StepEvenIn.frame_p, StepEvenIn.frame_pi, StepEvenIn.frame_ri,
  StepOddIn.frame_p, StepOddIn.frame_pi, StepOddIn.frame_ri,
  StepQueries.frame_p, StepQueries.frame_pi, StepQueries.frame_ri,
  StepKeys.frame_p, StepKeys.frame_pi, StepKeys.frame_ri,
  AdaGrad.frame_p, AdaGrad.frame_pi, AdaGrad.frame_ri,
  preserves, trivial, algebraic,
  trivial, OutLeft.algebraic,
  trivial, OutRight.algebraic,
  trivial, OddLeft.algebraic,
  trivial, OddIn.algebraic,
  trivial, OddRight.algebraic,
  trivial, EvenLeft.algebraic,
  trivial, EvenRight.algebraic,
  trivial, OutProduct.algebraic,
  trivial, EvenIn.algebraic,
  Forward.preserves, Forward.algebraic,
  trivial, StepShared.algebraic,
  trivial, StepAda.algebraic,
  trivial, StepSmall.algebraic,
  trivial, StepOut.algebraic,
  trivial, StepEvenIn.algebraic,
  trivial, StepOddIn.algebraic,
  trivial, StepQueries.algebraic,
  trivial, StepKeys.algebraic,
  trivial, AdaGrad.algebraic⟩

end Cert.Proof

end
